-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_DownDxKernel (m : (ℓ : Loc Cert.DownDxKernel.nD Cert.DownDxKernel.τ Cert.DownDxKernel.sig) → Buf (Elt Bits) ℓ) : Prop :=
  True

def Pre_DownDxKernelIdeal (m : (ℓ : Loc Cert.DownDxKernelIdeal.nD Cert.DownDxKernelIdeal.τ Cert.DownDxKernelIdeal.sig) → Buf (Elt Ideal) ℓ) : Prop :=
  True

def Pre_DownDxReferenceIdeal (m : (ℓ : Loc Cert.DownDxReferenceIdeal.nD Cert.DownDxReferenceIdeal.τ Cert.DownDxReferenceIdeal.sig) → Buf (Elt Ideal) ℓ) : Prop :=
  True

def Pre_DownDwKernel (m : (ℓ : Loc Cert.DownDwKernel.nD Cert.DownDwKernel.τ Cert.DownDwKernel.sig) → Buf (Elt Bits) ℓ) : Prop :=
  True

def Pre_DownDwKernelIdeal (m : (ℓ : Loc Cert.DownDwKernelIdeal.nD Cert.DownDwKernelIdeal.τ Cert.DownDwKernelIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_UpDxKernel (m : (ℓ : Loc Cert.UpDxKernel.nD Cert.UpDxKernel.τ Cert.UpDxKernel.sig) → Buf (Elt Bits) ℓ) : Prop :=
  True

def Pre_UpDxKernelIdeal (m : (ℓ : Loc Cert.UpDxKernelIdeal.nD Cert.UpDxKernelIdeal.τ Cert.UpDxKernelIdeal.sig) → Buf (Elt Ideal) ℓ) : Prop :=
  True

def Pre_UpDxReferenceIdeal (m : (ℓ : Loc Cert.UpDxReferenceIdeal.nD Cert.UpDxReferenceIdeal.τ Cert.UpDxReferenceIdeal.sig) → Buf (Elt Ideal) ℓ) : Prop :=
  True

def Pre_UpDwKernel (m : (ℓ : Loc Cert.UpDwKernel.nD Cert.UpDwKernel.τ Cert.UpDwKernel.sig) → Buf (Elt Bits) ℓ) : Prop :=
  True

def Pre_UpDwKernelIdeal (m : (ℓ : Loc Cert.UpDwKernelIdeal.nD Cert.UpDwKernelIdeal.τ Cert.UpDwKernelIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_ProjDxKernel (m : (ℓ : Loc Cert.ProjDxKernel.nD Cert.ProjDxKernel.τ Cert.ProjDxKernel.sig) → Buf (Elt Bits) ℓ) : Prop :=
  True

def Pre_ProjDxKernelIdeal (m : (ℓ : Loc Cert.ProjDxKernelIdeal.nD Cert.ProjDxKernelIdeal.τ Cert.ProjDxKernelIdeal.sig) → Buf (Elt Ideal) ℓ) : Prop :=
  True

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_ProjDwKernel (m : (ℓ : Loc Cert.ProjDwKernel.nD Cert.ProjDwKernel.τ Cert.ProjDwKernel.sig) → Buf (Elt Bits) ℓ) : Prop :=
  True

def Pre_ProjDwKernelIdeal (m : (ℓ : Loc Cert.ProjDwKernelIdeal.nD Cert.ProjDwKernelIdeal.τ Cert.ProjDwKernelIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_Proj1Kernel (m : (ℓ : Loc Cert.Proj1Kernel.nD Cert.Proj1Kernel.τ Cert.Proj1Kernel.sig) → Buf (Elt Bits) ℓ) : Prop :=
  True

def Pre_Proj1KernelIdeal (m : (ℓ : Loc Cert.Proj1KernelIdeal.nD Cert.Proj1KernelIdeal.τ Cert.Proj1KernelIdeal.sig) → Buf (Elt Ideal) ℓ) : Prop :=
  True

def Pre_Proj1ReferenceIdeal (m : (ℓ : Loc Cert.Proj1ReferenceIdeal.nD Cert.Proj1ReferenceIdeal.τ Cert.Proj1ReferenceIdeal.sig) → Buf (Elt Ideal) ℓ) : Prop :=
  True

def Pre_Proj0Kernel (m : (ℓ : Loc Cert.Proj0Kernel.nD Cert.Proj0Kernel.τ Cert.Proj0Kernel.sig) → Buf (Elt Bits) ℓ) : Prop :=
  True

def Pre_Proj0KernelIdeal (m : (ℓ : Loc Cert.Proj0KernelIdeal.nD Cert.Proj0KernelIdeal.τ Cert.Proj0KernelIdeal.sig) → Buf (Elt Ideal) ℓ) : Prop :=
  True

def Pre_Proj0ReferenceIdeal (m : (ℓ : Loc Cert.Proj0ReferenceIdeal.nD Cert.Proj0ReferenceIdeal.τ Cert.Proj0ReferenceIdeal.sig) → Buf (Elt Ideal) ℓ) : Prop :=
  True

def Pre_Up1Kernel (m : (ℓ : Loc Cert.Up1Kernel.nD Cert.Up1Kernel.τ Cert.Up1Kernel.sig) → Buf (Elt Bits) ℓ) : Prop :=
  True

def Pre_Up1KernelIdeal (m : (ℓ : Loc Cert.Up1KernelIdeal.nD Cert.Up1KernelIdeal.τ Cert.Up1KernelIdeal.sig) → Buf (Elt Ideal) ℓ) : Prop :=
  True

def Pre_Up1ReferenceIdeal (m : (ℓ : Loc Cert.Up1ReferenceIdeal.nD Cert.Up1ReferenceIdeal.τ Cert.Up1ReferenceIdeal.sig) → Buf (Elt Ideal) ℓ) : Prop :=
  True

def Pre_Down1Kernel (m : (ℓ : Loc Cert.Down1Kernel.nD Cert.Down1Kernel.τ Cert.Down1Kernel.sig) → Buf (Elt Bits) ℓ) : Prop :=
  True

def Pre_Down1KernelIdeal (m : (ℓ : Loc Cert.Down1KernelIdeal.nD Cert.Down1KernelIdeal.τ Cert.Down1KernelIdeal.sig) → Buf (Elt Ideal) ℓ) : Prop :=
  True

def Pre_Down1ReferenceIdeal (m : (ℓ : Loc Cert.Down1ReferenceIdeal.nD Cert.Down1ReferenceIdeal.τ Cert.Down1ReferenceIdeal.sig) → Buf (Elt Ideal) ℓ) : Prop :=
  True

def Pre_Down0Kernel (m : (ℓ : Loc Cert.Down0Kernel.nD Cert.Down0Kernel.τ Cert.Down0Kernel.sig) → Buf (Elt Bits) ℓ) : Prop :=
  True

def Pre_Down0KernelIdeal (m : (ℓ : Loc Cert.Down0KernelIdeal.nD Cert.Down0KernelIdeal.τ Cert.Down0KernelIdeal.sig) → Buf (Elt Ideal) ℓ) : Prop :=
  True

def Pre_Down0ReferenceIdeal (m : (ℓ : Loc Cert.Down0ReferenceIdeal.nD Cert.Down0ReferenceIdeal.τ Cert.Down0ReferenceIdeal.sig) → Buf (Elt Ideal) ℓ) : Prop :=
  True

def Pre_Mix1Kernel (m : (ℓ : Loc Cert.Mix1Kernel.nD Cert.Mix1Kernel.τ Cert.Mix1Kernel.sig) → Buf (Elt Bits) ℓ) : Prop :=
  True

def Pre_Mix1KernelIdeal (m : (ℓ : Loc Cert.Mix1KernelIdeal.nD Cert.Mix1KernelIdeal.τ Cert.Mix1KernelIdeal.sig) → Buf (Elt Ideal) ℓ) : Prop :=
  True

def Pre_Mix1ReferenceIdeal (m : (ℓ : Loc Cert.Mix1ReferenceIdeal.nD Cert.Mix1ReferenceIdeal.τ Cert.Mix1ReferenceIdeal.sig) → Buf (Elt Ideal) ℓ) : Prop :=
  True

def Pre_Mix0Kernel (m : (ℓ : Loc Cert.Mix0Kernel.nD Cert.Mix0Kernel.τ Cert.Mix0Kernel.sig) → Buf (Elt Bits) ℓ) : Prop :=
  True

def Pre_Mix0KernelIdeal (m : (ℓ : Loc Cert.Mix0KernelIdeal.nD Cert.Mix0KernelIdeal.τ Cert.Mix0KernelIdeal.sig) → Buf (Elt Ideal) ℓ) : Prop :=
  True

def Pre_Mix0ReferenceIdeal (m : (ℓ : Loc Cert.Mix0ReferenceIdeal.nD Cert.Mix0ReferenceIdeal.τ Cert.Mix0ReferenceIdeal.sig) → Buf (Elt Ideal) ℓ) : Prop :=
  True

def Pre_MixDx1Kernel (m : (ℓ : Loc Cert.MixDx1Kernel.nD Cert.MixDx1Kernel.τ Cert.MixDx1Kernel.sig) → Buf (Elt Bits) ℓ) : Prop :=
  True

def Pre_MixDx1KernelIdeal (m : (ℓ : Loc Cert.MixDx1KernelIdeal.nD Cert.MixDx1KernelIdeal.τ Cert.MixDx1KernelIdeal.sig) → Buf (Elt Ideal) ℓ) : Prop :=
  True

def Pre_MixDx1ReferenceIdeal (m : (ℓ : Loc Cert.MixDx1ReferenceIdeal.nD Cert.MixDx1ReferenceIdeal.τ Cert.MixDx1ReferenceIdeal.sig) → Buf (Elt Ideal) ℓ) : Prop :=
  True

def Pre_MixDx0Kernel (m : (ℓ : Loc Cert.MixDx0Kernel.nD Cert.MixDx0Kernel.τ Cert.MixDx0Kernel.sig) → Buf (Elt Bits) ℓ) : Prop :=
  True

def Pre_MixDx0KernelIdeal (m : (ℓ : Loc Cert.MixDx0KernelIdeal.nD Cert.MixDx0KernelIdeal.τ Cert.MixDx0KernelIdeal.sig) → Buf (Elt Ideal) ℓ) : Prop :=
  True

def Pre_MixDx0ReferenceIdeal (m : (ℓ : Loc Cert.MixDx0ReferenceIdeal.nD Cert.MixDx0ReferenceIdeal.τ Cert.MixDx0ReferenceIdeal.sig) → Buf (Elt Ideal) ℓ) : Prop :=
  True

def Pre_MixDw1Kernel (m : (ℓ : Loc Cert.MixDw1Kernel.nD Cert.MixDw1Kernel.τ Cert.MixDw1Kernel.sig) → Buf (Elt Bits) ℓ) : Prop :=
  True

def Pre_MixDw1KernelIdeal (m : (ℓ : Loc Cert.MixDw1KernelIdeal.nD Cert.MixDw1KernelIdeal.τ Cert.MixDw1KernelIdeal.sig) → Buf (Elt Ideal) ℓ) : Prop :=
  True

def Pre_MixDw1ReferenceIdeal (m : (ℓ : Loc Cert.MixDw1ReferenceIdeal.nD Cert.MixDw1ReferenceIdeal.τ Cert.MixDw1ReferenceIdeal.sig) → Buf (Elt Ideal) ℓ) : Prop :=
  True

def Pre_MixDw0Kernel (m : (ℓ : Loc Cert.MixDw0Kernel.nD Cert.MixDw0Kernel.τ Cert.MixDw0Kernel.sig) → Buf (Elt Bits) ℓ) : Prop :=
  True

def Pre_MixDw0KernelIdeal (m : (ℓ : Loc Cert.MixDw0KernelIdeal.nD Cert.MixDw0KernelIdeal.τ Cert.MixDw0KernelIdeal.sig) → Buf (Elt Ideal) ℓ) : Prop :=
  True

def Pre_MixDw0ReferenceIdeal (m : (ℓ : Loc Cert.MixDw0ReferenceIdeal.nD Cert.MixDw0ReferenceIdeal.τ Cert.MixDw0ReferenceIdeal.sig) → Buf (Elt Ideal) ℓ) : Prop :=
  True

def Pre_DownDw1Kernel (m : (ℓ : Loc Cert.DownDw1Kernel.nD Cert.DownDw1Kernel.τ Cert.DownDw1Kernel.sig) → Buf (Elt Bits) ℓ) : Prop :=
  True

def Pre_DownDw1KernelIdeal (m : (ℓ : Loc Cert.DownDw1KernelIdeal.nD Cert.DownDw1KernelIdeal.τ Cert.DownDw1KernelIdeal.sig) → Buf (Elt Ideal) ℓ) : Prop :=
  True

def Pre_DownDw1ReferenceIdeal (m : (ℓ : Loc Cert.DownDw1ReferenceIdeal.nD Cert.DownDw1ReferenceIdeal.τ Cert.DownDw1ReferenceIdeal.sig) → Buf (Elt Ideal) ℓ) : Prop :=
  True

def Pre_UpDw1Kernel (m : (ℓ : Loc Cert.UpDw1Kernel.nD Cert.UpDw1Kernel.τ Cert.UpDw1Kernel.sig) → Buf (Elt Bits) ℓ) : Prop :=
  True

def Pre_UpDw1KernelIdeal (m : (ℓ : Loc Cert.UpDw1KernelIdeal.nD Cert.UpDw1KernelIdeal.τ Cert.UpDw1KernelIdeal.sig) → Buf (Elt Ideal) ℓ) : Prop :=
  True

def Pre_UpDw1ReferenceIdeal (m : (ℓ : Loc Cert.UpDw1ReferenceIdeal.nD Cert.UpDw1ReferenceIdeal.τ Cert.UpDw1ReferenceIdeal.sig) → Buf (Elt Ideal) ℓ) : Prop :=
  True

def Pre_ProjDw1Kernel (m : (ℓ : Loc Cert.ProjDw1Kernel.nD Cert.ProjDw1Kernel.τ Cert.ProjDw1Kernel.sig) → Buf (Elt Bits) ℓ) : Prop :=
  True

def Pre_ProjDw1KernelIdeal (m : (ℓ : Loc Cert.ProjDw1KernelIdeal.nD Cert.ProjDw1KernelIdeal.τ Cert.ProjDw1KernelIdeal.sig) → Buf (Elt Ideal) ℓ) : Prop :=
  True

def Pre_ProjDw1ReferenceIdeal (m : (ℓ : Loc Cert.ProjDw1ReferenceIdeal.nD Cert.ProjDw1ReferenceIdeal.τ Cert.ProjDw1ReferenceIdeal.sig) → Buf (Elt Ideal) ℓ) : Prop :=
  True

def Pre_AttnOut1Kernel (m : (ℓ : Loc Cert.AttnOut1Kernel.nD Cert.AttnOut1Kernel.τ Cert.AttnOut1Kernel.sig) → Buf (Elt Bits) ℓ) : Prop :=
  True

def Pre_AttnOut1KernelIdeal (m : (ℓ : Loc Cert.AttnOut1KernelIdeal.nD Cert.AttnOut1KernelIdeal.τ Cert.AttnOut1KernelIdeal.sig) → Buf (Elt Ideal) ℓ) : Prop :=
  True

def Pre_AttnOut1ReferenceIdeal (m : (ℓ : Loc Cert.AttnOut1ReferenceIdeal.nD Cert.AttnOut1ReferenceIdeal.τ Cert.AttnOut1ReferenceIdeal.sig) → Buf (Elt Ideal) ℓ) : Prop :=
  True

def Pre_AttnOut0Kernel (m : (ℓ : Loc Cert.AttnOut0Kernel.nD Cert.AttnOut0Kernel.τ Cert.AttnOut0Kernel.sig) → Buf (Elt Bits) ℓ) : Prop :=
  True

def Pre_AttnOut0KernelIdeal (m : (ℓ : Loc Cert.AttnOut0KernelIdeal.nD Cert.AttnOut0KernelIdeal.τ Cert.AttnOut0KernelIdeal.sig) → Buf (Elt Ideal) ℓ) : Prop :=
  True

def Pre_AttnOut0ReferenceIdeal (m : (ℓ : Loc Cert.AttnOut0ReferenceIdeal.nD Cert.AttnOut0ReferenceIdeal.τ Cert.AttnOut0ReferenceIdeal.sig) → Buf (Elt Ideal) ℓ) : Prop :=
  True

def Pre_AttnOutDx1Kernel (m : (ℓ : Loc Cert.AttnOutDx1Kernel.nD Cert.AttnOutDx1Kernel.τ Cert.AttnOutDx1Kernel.sig) → Buf (Elt Bits) ℓ) : Prop :=
  True

def Pre_AttnOutDx1KernelIdeal (m : (ℓ : Loc Cert.AttnOutDx1KernelIdeal.nD Cert.AttnOutDx1KernelIdeal.τ Cert.AttnOutDx1KernelIdeal.sig) → Buf (Elt Ideal) ℓ) : Prop :=
  True

def Pre_AttnOutDx1ReferenceIdeal (m : (ℓ : Loc Cert.AttnOutDx1ReferenceIdeal.nD Cert.AttnOutDx1ReferenceIdeal.τ Cert.AttnOutDx1ReferenceIdeal.sig) → Buf (Elt Ideal) ℓ) : Prop :=
  True

def Pre_AttnOutDx0Kernel (m : (ℓ : Loc Cert.AttnOutDx0Kernel.nD Cert.AttnOutDx0Kernel.τ Cert.AttnOutDx0Kernel.sig) → Buf (Elt Bits) ℓ) : Prop :=
  True

def Pre_AttnOutDx0KernelIdeal (m : (ℓ : Loc Cert.AttnOutDx0KernelIdeal.nD Cert.AttnOutDx0KernelIdeal.τ Cert.AttnOutDx0KernelIdeal.sig) → Buf (Elt Ideal) ℓ) : Prop :=
  True

def Pre_AttnOutDx0ReferenceIdeal (m : (ℓ : Loc Cert.AttnOutDx0ReferenceIdeal.nD Cert.AttnOutDx0ReferenceIdeal.τ Cert.AttnOutDx0ReferenceIdeal.sig) → Buf (Elt Ideal) ℓ) : Prop :=
  True

def Pre_AttnOutDw1Kernel (m : (ℓ : Loc Cert.AttnOutDw1Kernel.nD Cert.AttnOutDw1Kernel.τ Cert.AttnOutDw1Kernel.sig) → Buf (Elt Bits) ℓ) : Prop :=
  True

def Pre_AttnOutDw1KernelIdeal (m : (ℓ : Loc Cert.AttnOutDw1KernelIdeal.nD Cert.AttnOutDw1KernelIdeal.τ Cert.AttnOutDw1KernelIdeal.sig) → Buf (Elt Ideal) ℓ) : Prop :=
  True

def Pre_AttnOutDw1ReferenceIdeal (m : (ℓ : Loc Cert.AttnOutDw1ReferenceIdeal.nD Cert.AttnOutDw1ReferenceIdeal.τ Cert.AttnOutDw1ReferenceIdeal.sig) → Buf (Elt Ideal) ℓ) : Prop :=
  True

def Pre_AttnOutDw0Kernel (m : (ℓ : Loc Cert.AttnOutDw0Kernel.nD Cert.AttnOutDw0Kernel.τ Cert.AttnOutDw0Kernel.sig) → Buf (Elt Bits) ℓ) : Prop :=
  True

def Pre_AttnOutDw0KernelIdeal (m : (ℓ : Loc Cert.AttnOutDw0KernelIdeal.nD Cert.AttnOutDw0KernelIdeal.τ Cert.AttnOutDw0KernelIdeal.sig) → Buf (Elt Ideal) ℓ) : Prop :=
  True

def Pre_AttnOutDw0ReferenceIdeal (m : (ℓ : Loc Cert.AttnOutDw0ReferenceIdeal.nD Cert.AttnOutDw0ReferenceIdeal.τ Cert.AttnOutDw0ReferenceIdeal.sig) → Buf (Elt Ideal) ℓ) : Prop :=
  True

def Pre_PoolOut1Kernel (m : (ℓ : Loc Cert.PoolOut1Kernel.nD Cert.PoolOut1Kernel.τ Cert.PoolOut1Kernel.sig) → Buf (Elt Bits) ℓ) : Prop :=
  True

def Pre_PoolOut1KernelIdeal (m : (ℓ : Loc Cert.PoolOut1KernelIdeal.nD Cert.PoolOut1KernelIdeal.τ Cert.PoolOut1KernelIdeal.sig) → Buf (Elt Ideal) ℓ) : Prop :=
  True

def Pre_PoolOut1ReferenceIdeal (m : (ℓ : Loc Cert.PoolOut1ReferenceIdeal.nD Cert.PoolOut1ReferenceIdeal.τ Cert.PoolOut1ReferenceIdeal.sig) → Buf (Elt Ideal) ℓ) : Prop :=
  True

def Pre_PoolOut0Kernel (m : (ℓ : Loc Cert.PoolOut0Kernel.nD Cert.PoolOut0Kernel.τ Cert.PoolOut0Kernel.sig) → Buf (Elt Bits) ℓ) : Prop :=
  True

def Pre_PoolOut0KernelIdeal (m : (ℓ : Loc Cert.PoolOut0KernelIdeal.nD Cert.PoolOut0KernelIdeal.τ Cert.PoolOut0KernelIdeal.sig) → Buf (Elt Ideal) ℓ) : Prop :=
  True

def Pre_PoolOut0ReferenceIdeal (m : (ℓ : Loc Cert.PoolOut0ReferenceIdeal.nD Cert.PoolOut0ReferenceIdeal.τ Cert.PoolOut0ReferenceIdeal.sig) → Buf (Elt Ideal) ℓ) : Prop :=
  True

def Pre_PoolOutDx1Kernel (m : (ℓ : Loc Cert.PoolOutDx1Kernel.nD Cert.PoolOutDx1Kernel.τ Cert.PoolOutDx1Kernel.sig) → Buf (Elt Bits) ℓ) : Prop :=
  True

def Pre_PoolOutDx1KernelIdeal (m : (ℓ : Loc Cert.PoolOutDx1KernelIdeal.nD Cert.PoolOutDx1KernelIdeal.τ Cert.PoolOutDx1KernelIdeal.sig) → Buf (Elt Ideal) ℓ) : Prop :=
  True

def Pre_PoolOutDx1ReferenceIdeal (m : (ℓ : Loc Cert.PoolOutDx1ReferenceIdeal.nD Cert.PoolOutDx1ReferenceIdeal.τ Cert.PoolOutDx1ReferenceIdeal.sig) → Buf (Elt Ideal) ℓ) : Prop :=
  True

def Pre_PoolOutDx0Kernel (m : (ℓ : Loc Cert.PoolOutDx0Kernel.nD Cert.PoolOutDx0Kernel.τ Cert.PoolOutDx0Kernel.sig) → Buf (Elt Bits) ℓ) : Prop :=
  True

def Pre_PoolOutDx0KernelIdeal (m : (ℓ : Loc Cert.PoolOutDx0KernelIdeal.nD Cert.PoolOutDx0KernelIdeal.τ Cert.PoolOutDx0KernelIdeal.sig) → Buf (Elt Ideal) ℓ) : Prop :=
  True

def Pre_PoolOutDx0ReferenceIdeal (m : (ℓ : Loc Cert.PoolOutDx0ReferenceIdeal.nD Cert.PoolOutDx0ReferenceIdeal.τ Cert.PoolOutDx0ReferenceIdeal.sig) → Buf (Elt Ideal) ℓ) : Prop :=
  True

def Pre_PoolOutDw1Kernel (m : (ℓ : Loc Cert.PoolOutDw1Kernel.nD Cert.PoolOutDw1Kernel.τ Cert.PoolOutDw1Kernel.sig) → Buf (Elt Bits) ℓ) : Prop :=
  True

def Pre_PoolOutDw1KernelIdeal (m : (ℓ : Loc Cert.PoolOutDw1KernelIdeal.nD Cert.PoolOutDw1KernelIdeal.τ Cert.PoolOutDw1KernelIdeal.sig) → Buf (Elt Ideal) ℓ) : Prop :=
  True

def Pre_PoolOutDw1ReferenceIdeal (m : (ℓ : Loc Cert.PoolOutDw1ReferenceIdeal.nD Cert.PoolOutDw1ReferenceIdeal.τ Cert.PoolOutDw1ReferenceIdeal.sig) → Buf (Elt Ideal) ℓ) : Prop :=
  True

def Pre_PoolOutDw0Kernel (m : (ℓ : Loc Cert.PoolOutDw0Kernel.nD Cert.PoolOutDw0Kernel.τ Cert.PoolOutDw0Kernel.sig) → Buf (Elt Bits) ℓ) : Prop :=
  True

def Pre_PoolOutDw0KernelIdeal (m : (ℓ : Loc Cert.PoolOutDw0KernelIdeal.nD Cert.PoolOutDw0KernelIdeal.τ Cert.PoolOutDw0KernelIdeal.sig) → Buf (Elt Ideal) ℓ) : Prop :=
  True

def Pre_PoolOutDw0ReferenceIdeal (m : (ℓ : Loc Cert.PoolOutDw0ReferenceIdeal.nD Cert.PoolOutDw0ReferenceIdeal.τ Cert.PoolOutDw0ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1)
      ∧ r.2.mem ((c.tc : Thread Cert.PoolKernel.nD Cert.PoolKernel.τ).loc Cert.PoolKernel.main_arg2) = m ((c.tc : Thread Cert.PoolKernel.nD Cert.PoolKernel.τ).loc Cert.PoolKernel.main_arg2)
      ∧ r.2.mem ((c.tc : Thread Cert.PoolKernel.nD Cert.PoolKernel.τ).loc Cert.PoolKernel.main_arg3) = m ((c.tc : Thread Cert.PoolKernel.nD Cert.PoolKernel.τ).loc Cert.PoolKernel.main_arg3))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
      ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
      ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3))
      ∧ r.2.sem = fun _ => 0)

def quiescent_DownDxKernel [hDownDxKernel : Cert.DownDxKernel.Facts] : Prop :=
  ∀ (m : (ℓ : Loc Cert.DownDxKernel.nD Cert.DownDxKernel.τ Cert.DownDxKernel.sig) → Buf (Elt Bits) ℓ) (g : Dev Cert.DownDxKernel.nD → PrngReg), Pre_DownDxKernel m →
    θ_run (Cert.DownDxKernel.defs (F := Bits)) (onTc (τ := Cert.DownDxKernel.τ) (Cert.DownDxKernel.main (F := Bits))) ⟨m, fun _ => 0, g⟩ (fun r => (∀ c : Dev Cert.DownDxKernel.nD,
      r.2.mem ((c.tc : Thread Cert.DownDxKernel.nD Cert.DownDxKernel.τ).loc Cert.DownDxKernel.main_arg0) = m ((c.tc : Thread Cert.DownDxKernel.nD Cert.DownDxKernel.τ).loc Cert.DownDxKernel.main_arg0)
      ∧ r.2.mem ((c.tc : Thread Cert.DownDxKernel.nD Cert.DownDxKernel.τ).loc Cert.DownDxKernel.main_arg1) = m ((c.tc : Thread Cert.DownDxKernel.nD Cert.DownDxKernel.τ).loc Cert.DownDxKernel.main_arg1))
      ∧ r.2.sem = fun _ => 0)

def quiescent_DownDxKernelIdeal [hDownDxKernelIdeal : Cert.DownDxKernelIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg), Pre_DownDxKernelIdeal m →
    θ_run (Cert.DownDxKernelIdeal.defs (F := Ideal)) (onTc (τ := Cert.DownDxKernelIdeal.τ) (Cert.DownDxKernelIdeal.main (F := Ideal))) ⟨m, fun _ => 0, g⟩ (fun r => (∀ c : Dev Cert.DownDxKernelIdeal.nD,
      r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
      ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1))
      ∧ r.2.sem = fun _ => 0)

def quiescent_DownDwKernel [hDownDwKernel : Cert.DownDwKernel.Facts] : Prop :=
  ∀ (m : (ℓ : Loc Cert.DownDwKernel.nD Cert.DownDwKernel.τ Cert.DownDwKernel.sig) → Buf (Elt Bits) ℓ) (g : Dev Cert.DownDwKernel.nD → PrngReg), Pre_DownDwKernel m →
    θ_run (Cert.DownDwKernel.defs (F := Bits)) (onTc (τ := Cert.DownDwKernel.τ) (Cert.DownDwKernel.main (F := Bits))) ⟨m, fun _ => 0, g⟩ (fun r => (∀ c : Dev Cert.DownDwKernel.nD,
      r.2.mem ((c.tc : Thread Cert.DownDwKernel.nD Cert.DownDwKernel.τ).loc Cert.DownDwKernel.main_arg0) = m ((c.tc : Thread Cert.DownDwKernel.nD Cert.DownDwKernel.τ).loc Cert.DownDwKernel.main_arg0)
      ∧ r.2.mem ((c.tc : Thread Cert.DownDwKernel.nD Cert.DownDwKernel.τ).loc Cert.DownDwKernel.main_arg1) = m ((c.tc : Thread Cert.DownDwKernel.nD Cert.DownDwKernel.τ).loc Cert.DownDwKernel.main_arg1)
      ∧ r.2.mem ((c.tc : Thread Cert.DownDwKernel.nD Cert.DownDwKernel.τ).loc Cert.DownDwKernel.main_arg2) = m ((c.tc : Thread Cert.DownDwKernel.nD Cert.DownDwKernel.τ).loc Cert.DownDwKernel.main_arg2))
      ∧ r.2.sem = fun _ => 0)

def quiescent_DownDwKernelIdeal [hDownDwKernelIdeal : Cert.DownDwKernelIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg), Pre_DownDwKernelIdeal m →
    θ_run (Cert.DownDwKernelIdeal.defs (F := Ideal)) (onTc (τ := Cert.DownDwKernelIdeal.τ) (Cert.DownDwKernelIdeal.main (F := Ideal))) ⟨m, fun _ => 0, g⟩ (fun r => (∀ c : Dev Cert.DownDwKernelIdeal.nD,
      r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
      ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
      ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1)
      ∧ r.2.mem ((c.tc : Thread Cert.DownDwReferenceIdeal.nD Cert.DownDwReferenceIdeal.τ).loc Cert.DownDwReferenceIdeal.main_arg2) = m ((c.tc : Thread Cert.DownDwReferenceIdeal.nD Cert.DownDwReferenceIdeal.τ).loc Cert.DownDwReferenceIdeal.main_arg2))
      ∧ r.2.sem = fun _ => 0)

def quiescent_UpDxKernel [hUpDxKernel : Cert.UpDxKernel.Facts] : Prop :=
  ∀ (m : (ℓ : Loc Cert.UpDxKernel.nD Cert.UpDxKernel.τ Cert.UpDxKernel.sig) → Buf (Elt Bits) ℓ) (g : Dev Cert.UpDxKernel.nD → PrngReg), Pre_UpDxKernel m →
    θ_run (Cert.UpDxKernel.defs (F := Bits)) (onTc (τ := Cert.UpDxKernel.τ) (Cert.UpDxKernel.main (F := Bits))) ⟨m, fun _ => 0, g⟩ (fun r => (∀ c : Dev Cert.UpDxKernel.nD,
      r.2.mem ((c.tc : Thread Cert.UpDxKernel.nD Cert.UpDxKernel.τ).loc Cert.UpDxKernel.main_arg0) = m ((c.tc : Thread Cert.UpDxKernel.nD Cert.UpDxKernel.τ).loc Cert.UpDxKernel.main_arg0)
      ∧ r.2.mem ((c.tc : Thread Cert.UpDxKernel.nD Cert.UpDxKernel.τ).loc Cert.UpDxKernel.main_arg1) = m ((c.tc : Thread Cert.UpDxKernel.nD Cert.UpDxKernel.τ).loc Cert.UpDxKernel.main_arg1))
      ∧ r.2.sem = fun _ => 0)

def quiescent_UpDxKernelIdeal [hUpDxKernelIdeal : Cert.UpDxKernelIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg), Pre_UpDxKernelIdeal m →
    θ_run (Cert.UpDxKernelIdeal.defs (F := Ideal)) (onTc (τ := Cert.UpDxKernelIdeal.τ) (Cert.UpDxKernelIdeal.main (F := Ideal))) ⟨m, fun _ => 0, g⟩ (fun r => (∀ c : Dev Cert.UpDxKernelIdeal.nD,
      r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
      ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ r.2.sem = fun _ => 0)

def quiescent_UpDxReferenceIdeal [hUpDxReferenceIdeal : Cert.UpDxReferenceIdeal.Facts] : Prop :=
  ∀ (m : (ℓ : Loc Cert.UpDxReferenceIdeal.nD Cert.UpDxReferenceIdeal.τ Cert.UpDxReferenceIdeal.sig) → Buf (Elt Ideal) ℓ) (g : Dev Cert.UpDxReferenceIdeal.nD → PrngReg), Pre_UpDxReferenceIdeal m →
    θ_run (Cert.UpDxReferenceIdeal.defs (F := Ideal)) (onTc (τ := Cert.UpDxReferenceIdeal.τ) (Cert.UpDxReferenceIdeal.main (F := Ideal))) ⟨m, fun _ => 0, g⟩ (fun r => (∀ c : Dev Cert.UpDxReferenceIdeal.nD,
      r.2.mem ((c.tc : Thread Cert.UpDxReferenceIdeal.nD Cert.UpDxReferenceIdeal.τ).loc Cert.UpDxReferenceIdeal.main_arg0) = m ((c.tc : Thread Cert.UpDxReferenceIdeal.nD Cert.UpDxReferenceIdeal.τ).loc Cert.UpDxReferenceIdeal.main_arg0)
      ∧ r.2.mem ((c.tc : Thread Cert.UpDxReferenceIdeal.nD Cert.UpDxReferenceIdeal.τ).loc Cert.UpDxReferenceIdeal.main_arg1) = m ((c.tc : Thread Cert.UpDxReferenceIdeal.nD Cert.UpDxReferenceIdeal.τ).loc Cert.UpDxReferenceIdeal.main_arg1))
      ∧ r.2.sem = fun _ => 0)

def quiescent_UpDwKernel [hUpDwKernel : Cert.UpDwKernel.Facts] : Prop :=
  ∀ (m : (ℓ : Loc Cert.UpDwKernel.nD Cert.UpDwKernel.τ Cert.UpDwKernel.sig) → Buf (Elt Bits) ℓ) (g : Dev Cert.UpDwKernel.nD → PrngReg), Pre_UpDwKernel m →
    θ_run (Cert.UpDwKernel.defs (F := Bits)) (onTc (τ := Cert.UpDwKernel.τ) (Cert.UpDwKernel.main (F := Bits))) ⟨m, fun _ => 0, g⟩ (fun r => (∀ c : Dev Cert.UpDwKernel.nD,
      r.2.mem ((c.tc : Thread Cert.UpDwKernel.nD Cert.UpDwKernel.τ).loc Cert.UpDwKernel.main_arg0) = m ((c.tc : Thread Cert.UpDwKernel.nD Cert.UpDwKernel.τ).loc Cert.UpDwKernel.main_arg0)
      ∧ r.2.mem ((c.tc : Thread Cert.UpDwKernel.nD Cert.UpDwKernel.τ).loc Cert.UpDwKernel.main_arg1) = m ((c.tc : Thread Cert.UpDwKernel.nD Cert.UpDwKernel.τ).loc Cert.UpDwKernel.main_arg1)
      ∧ r.2.mem ((c.tc : Thread Cert.UpDwKernel.nD Cert.UpDwKernel.τ).loc Cert.UpDwKernel.main_arg2) = m ((c.tc : Thread Cert.UpDwKernel.nD Cert.UpDwKernel.τ).loc Cert.UpDwKernel.main_arg2))
      ∧ r.2.sem = fun _ => 0)

def quiescent_UpDwKernelIdeal [hUpDwKernelIdeal : Cert.UpDwKernelIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg), Pre_UpDwKernelIdeal m →
    θ_run (Cert.UpDwKernelIdeal.defs (F := Ideal)) (onTc (τ := Cert.UpDwKernelIdeal.τ) (Cert.UpDwKernelIdeal.main (F := Ideal))) ⟨m, fun _ => 0, g⟩ (fun r => (∀ c : Dev Cert.UpDwKernelIdeal.nD,
      r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
      ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
      ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1)
      ∧ r.2.mem ((c.tc : Thread Cert.UpDwReferenceIdeal.nD Cert.UpDwReferenceIdeal.τ).loc Cert.UpDwReferenceIdeal.main_arg2) = m ((c.tc : Thread Cert.UpDwReferenceIdeal.nD Cert.UpDwReferenceIdeal.τ).loc Cert.UpDwReferenceIdeal.main_arg2))
      ∧ r.2.sem = fun _ => 0)

def quiescent_ProjDxKernel [hProjDxKernel : Cert.ProjDxKernel.Facts] : Prop :=
  ∀ (m : (ℓ : Loc Cert.ProjDxKernel.nD Cert.ProjDxKernel.τ Cert.ProjDxKernel.sig) → Buf (Elt Bits) ℓ) (g : Dev Cert.ProjDxKernel.nD → PrngReg), Pre_ProjDxKernel m →
    θ_run (Cert.ProjDxKernel.defs (F := Bits)) (onTc (τ := Cert.ProjDxKernel.τ) (Cert.ProjDxKernel.main (F := Bits))) ⟨m, fun _ => 0, g⟩ (fun r => (∀ c : Dev Cert.ProjDxKernel.nD,
      r.2.mem ((c.tc : Thread Cert.ProjDxKernel.nD Cert.ProjDxKernel.τ).loc Cert.ProjDxKernel.main_arg0) = m ((c.tc : Thread Cert.ProjDxKernel.nD Cert.ProjDxKernel.τ).loc Cert.ProjDxKernel.main_arg0)
      ∧ r.2.mem ((c.tc : Thread Cert.ProjDxKernel.nD Cert.ProjDxKernel.τ).loc Cert.ProjDxKernel.main_arg1) = m ((c.tc : Thread Cert.ProjDxKernel.nD Cert.ProjDxKernel.τ).loc Cert.ProjDxKernel.main_arg1)
      ∧ r.2.mem ((c.tc : Thread Cert.ProjDxKernel.nD Cert.ProjDxKernel.τ).loc Cert.ProjDxKernel.main_arg2) = m ((c.tc : Thread Cert.ProjDxKernel.nD Cert.ProjDxKernel.τ).loc Cert.ProjDxKernel.main_arg2)
      ∧ r.2.mem ((c.tc : Thread Cert.ProjDxKernel.nD Cert.ProjDxKernel.τ).loc Cert.ProjDxKernel.main_arg3) = m ((c.tc : Thread Cert.ProjDxKernel.nD Cert.ProjDxKernel.τ).loc Cert.ProjDxKernel.main_arg3))
      ∧ r.2.sem = fun _ => 0)

def quiescent_ProjDxKernelIdeal [hProjDxKernelIdeal : Cert.ProjDxKernelIdeal.Facts] : Prop :=
  ∀ (m : (ℓ : Loc Cert.ProjDxKernelIdeal.nD Cert.ProjDxKernelIdeal.τ Cert.ProjDxKernelIdeal.sig) → Buf (Elt Ideal) ℓ) (g : Dev Cert.ProjDxKernelIdeal.nD → PrngReg), Pre_ProjDxKernelIdeal m →
    θ_run (Cert.ProjDxKernelIdeal.defs (F := Ideal)) (onTc (τ := Cert.ProjDxKernelIdeal.τ) (Cert.ProjDxKernelIdeal.main (F := Ideal))) ⟨m, fun _ => 0, g⟩ (fun r => (∀ c : Dev Cert.ProjDxKernelIdeal.nD,
      r.2.mem ((c.tc : Thread Cert.ProjDxKernelIdeal.nD Cert.ProjDxKernelIdeal.τ).loc Cert.ProjDxKernelIdeal.main_arg0) = m ((c.tc : Thread Cert.ProjDxKernelIdeal.nD Cert.ProjDxKernelIdeal.τ).loc Cert.ProjDxKernelIdeal.main_arg0)
      ∧ r.2.mem ((c.tc : Thread Cert.ProjDxKernelIdeal.nD Cert.ProjDxKernelIdeal.τ).loc Cert.ProjDxKernelIdeal.main_arg1) = m ((c.tc : Thread Cert.ProjDxKernelIdeal.nD Cert.ProjDxKernelIdeal.τ).loc Cert.ProjDxKernelIdeal.main_arg1)
      ∧ r.2.mem ((c.tc : Thread Cert.ProjDxKernelIdeal.nD Cert.ProjDxKernelIdeal.τ).loc Cert.ProjDxKernelIdeal.main_arg2) = m ((c.tc : Thread Cert.ProjDxKernelIdeal.nD Cert.ProjDxKernelIdeal.τ).loc Cert.ProjDxKernelIdeal.main_arg2)
      ∧ r.2.mem ((c.tc : Thread Cert.ProjDxKernelIdeal.nD Cert.ProjDxKernelIdeal.τ).loc Cert.ProjDxKernelIdeal.main_arg3) = m ((c.tc : Thread Cert.ProjDxKernelIdeal.nD Cert.ProjDxKernelIdeal.τ).loc Cert.ProjDxKernelIdeal.main_arg3))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2)
      ∧ r.2.mem ((c.tc : Thread Cert.ProjDxReferenceIdeal.nD Cert.ProjDxReferenceIdeal.τ).loc Cert.ProjDxReferenceIdeal.main_arg3) = m ((c.tc : Thread Cert.ProjDxReferenceIdeal.nD Cert.ProjDxReferenceIdeal.τ).loc Cert.ProjDxReferenceIdeal.main_arg3))
      ∧ r.2.sem = fun _ => 0)

def quiescent_ProjDwKernel [hProjDwKernel : Cert.ProjDwKernel.Facts] : Prop :=
  ∀ (m : (ℓ : Loc Cert.ProjDwKernel.nD Cert.ProjDwKernel.τ Cert.ProjDwKernel.sig) → Buf (Elt Bits) ℓ) (g : Dev Cert.ProjDwKernel.nD → PrngReg), Pre_ProjDwKernel m →
    θ_run (Cert.ProjDwKernel.defs (F := Bits)) (onTc (τ := Cert.ProjDwKernel.τ) (Cert.ProjDwKernel.main (F := Bits))) ⟨m, fun _ => 0, g⟩ (fun r => (∀ c : Dev Cert.ProjDwKernel.nD,
      r.2.mem ((c.tc : Thread Cert.ProjDwKernel.nD Cert.ProjDwKernel.τ).loc Cert.ProjDwKernel.main_arg0) = m ((c.tc : Thread Cert.ProjDwKernel.nD Cert.ProjDwKernel.τ).loc Cert.ProjDwKernel.main_arg0)
      ∧ r.2.mem ((c.tc : Thread Cert.ProjDwKernel.nD Cert.ProjDwKernel.τ).loc Cert.ProjDwKernel.main_arg1) = m ((c.tc : Thread Cert.ProjDwKernel.nD Cert.ProjDwKernel.τ).loc Cert.ProjDwKernel.main_arg1)
      ∧ r.2.mem ((c.tc : Thread Cert.ProjDwKernel.nD Cert.ProjDwKernel.τ).loc Cert.ProjDwKernel.main_arg2) = m ((c.tc : Thread Cert.ProjDwKernel.nD Cert.ProjDwKernel.τ).loc Cert.ProjDwKernel.main_arg2)
      ∧ r.2.mem ((c.tc : Thread Cert.ProjDwKernel.nD Cert.ProjDwKernel.τ).loc Cert.ProjDwKernel.main_arg3) = m ((c.tc : Thread Cert.ProjDwKernel.nD Cert.ProjDwKernel.τ).loc Cert.ProjDwKernel.main_arg3)
      ∧ r.2.mem ((c.tc : Thread Cert.ProjDwKernel.nD Cert.ProjDwKernel.τ).loc Cert.ProjDwKernel.main_arg4) = m ((c.tc : Thread Cert.ProjDwKernel.nD Cert.ProjDwKernel.τ).loc Cert.ProjDwKernel.main_arg4))
      ∧ r.2.sem = fun _ => 0)

def quiescent_ProjDwKernelIdeal [hProjDwKernelIdeal : Cert.ProjDwKernelIdeal.Facts] : Prop :=
  ∀ (m : (ℓ : Loc Cert.ProjDwKernelIdeal.nD Cert.ProjDwKernelIdeal.τ Cert.ProjDwKernelIdeal.sig) → Buf (Elt Ideal) ℓ) (g : Dev Cert.ProjDwKernelIdeal.nD → PrngReg), Pre_ProjDwKernelIdeal m →
    θ_run (Cert.ProjDwKernelIdeal.defs (F := Ideal)) (onTc (τ := Cert.ProjDwKernelIdeal.τ) (Cert.ProjDwKernelIdeal.main (F := Ideal))) ⟨m, fun _ => 0, g⟩ (fun r => (∀ c : Dev Cert.ProjDwKernelIdeal.nD,
      r.2.mem ((c.tc : Thread Cert.ProjDwKernelIdeal.nD Cert.ProjDwKernelIdeal.τ).loc Cert.ProjDwKernelIdeal.main_arg0) = m ((c.tc : Thread Cert.ProjDwKernelIdeal.nD Cert.ProjDwKernelIdeal.τ).loc Cert.ProjDwKernelIdeal.main_arg0)
      ∧ r.2.mem ((c.tc : Thread Cert.ProjDwKernelIdeal.nD Cert.ProjDwKernelIdeal.τ).loc Cert.ProjDwKernelIdeal.main_arg1) = m ((c.tc : Thread Cert.ProjDwKernelIdeal.nD Cert.ProjDwKernelIdeal.τ).loc Cert.ProjDwKernelIdeal.main_arg1)
      ∧ r.2.mem ((c.tc : Thread Cert.ProjDwKernelIdeal.nD Cert.ProjDwKernelIdeal.τ).loc Cert.ProjDwKernelIdeal.main_arg2) = m ((c.tc : Thread Cert.ProjDwKernelIdeal.nD Cert.ProjDwKernelIdeal.τ).loc Cert.ProjDwKernelIdeal.main_arg2)
      ∧ r.2.mem ((c.tc : Thread Cert.ProjDwKernelIdeal.nD Cert.ProjDwKernelIdeal.τ).loc Cert.ProjDwKernelIdeal.main_arg3) = m ((c.tc : Thread Cert.ProjDwKernelIdeal.nD Cert.ProjDwKernelIdeal.τ).loc Cert.ProjDwKernelIdeal.main_arg3)
      ∧ r.2.mem ((c.tc : Thread Cert.ProjDwKernelIdeal.nD Cert.ProjDwKernelIdeal.τ).loc Cert.ProjDwKernelIdeal.main_arg4) = m ((c.tc : Thread Cert.ProjDwKernelIdeal.nD Cert.ProjDwKernelIdeal.τ).loc Cert.ProjDwKernelIdeal.main_arg4))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1)
      ∧ r.2.mem ((c.tc : Thread Cert.ProjDwReferenceIdeal.nD Cert.ProjDwReferenceIdeal.τ).loc Cert.ProjDwReferenceIdeal.main_arg2) = m ((c.tc : Thread Cert.ProjDwReferenceIdeal.nD Cert.ProjDwReferenceIdeal.τ).loc Cert.ProjDwReferenceIdeal.main_arg2)
      ∧ r.2.mem ((c.tc : Thread Cert.ProjDwReferenceIdeal.nD Cert.ProjDwReferenceIdeal.τ).loc Cert.ProjDwReferenceIdeal.main_arg3) = m ((c.tc : Thread Cert.ProjDwReferenceIdeal.nD Cert.ProjDwReferenceIdeal.τ).loc Cert.ProjDwReferenceIdeal.main_arg3)
      ∧ r.2.mem ((c.tc : Thread Cert.ProjDwReferenceIdeal.nD Cert.ProjDwReferenceIdeal.τ).loc Cert.ProjDwReferenceIdeal.main_arg4) = m ((c.tc : Thread Cert.ProjDwReferenceIdeal.nD Cert.ProjDwReferenceIdeal.τ).loc Cert.ProjDwReferenceIdeal.main_arg4))
      ∧ r.2.sem = fun _ => 0)

def quiescent_Proj1Kernel [hProj1Kernel : Cert.Proj1Kernel.Facts] : Prop :=
  ∀ (m : (ℓ : Loc Cert.Proj1Kernel.nD Cert.Proj1Kernel.τ Cert.Proj1Kernel.sig) → Buf (Elt Bits) ℓ) (g : Dev Cert.Proj1Kernel.nD → PrngReg), Pre_Proj1Kernel m →
    θ_run (Cert.Proj1Kernel.defs (F := Bits)) (onTc (τ := Cert.Proj1Kernel.τ) (Cert.Proj1Kernel.main (F := Bits))) ⟨m, fun _ => 0, g⟩ (fun r => (∀ c : Dev Cert.Proj1Kernel.nD,
      r.2.mem ((c.tc : Thread Cert.Proj1Kernel.nD Cert.Proj1Kernel.τ).loc Cert.Proj1Kernel.main_arg0) = m ((c.tc : Thread Cert.Proj1Kernel.nD Cert.Proj1Kernel.τ).loc Cert.Proj1Kernel.main_arg0)
      ∧ r.2.mem ((c.tc : Thread Cert.Proj1Kernel.nD Cert.Proj1Kernel.τ).loc Cert.Proj1Kernel.main_arg1) = m ((c.tc : Thread Cert.Proj1Kernel.nD Cert.Proj1Kernel.τ).loc Cert.Proj1Kernel.main_arg1))
      ∧ r.2.sem = fun _ => 0)

def quiescent_Proj1KernelIdeal [hProj1KernelIdeal : Cert.Proj1KernelIdeal.Facts] : Prop :=
  ∀ (m : (ℓ : Loc Cert.Proj1KernelIdeal.nD Cert.Proj1KernelIdeal.τ Cert.Proj1KernelIdeal.sig) → Buf (Elt Ideal) ℓ) (g : Dev Cert.Proj1KernelIdeal.nD → PrngReg), Pre_Proj1KernelIdeal m →
    θ_run (Cert.Proj1KernelIdeal.defs (F := Ideal)) (onTc (τ := Cert.Proj1KernelIdeal.τ) (Cert.Proj1KernelIdeal.main (F := Ideal))) ⟨m, fun _ => 0, g⟩ (fun r => (∀ c : Dev Cert.Proj1KernelIdeal.nD,
      r.2.mem ((c.tc : Thread Cert.Proj1KernelIdeal.nD Cert.Proj1KernelIdeal.τ).loc Cert.Proj1KernelIdeal.main_arg0) = m ((c.tc : Thread Cert.Proj1KernelIdeal.nD Cert.Proj1KernelIdeal.τ).loc Cert.Proj1KernelIdeal.main_arg0)
      ∧ r.2.mem ((c.tc : Thread Cert.Proj1KernelIdeal.nD Cert.Proj1KernelIdeal.τ).loc Cert.Proj1KernelIdeal.main_arg1) = m ((c.tc : Thread Cert.Proj1KernelIdeal.nD Cert.Proj1KernelIdeal.τ).loc Cert.Proj1KernelIdeal.main_arg1))
      ∧ r.2.sem = fun _ => 0)

def quiescent_Proj1ReferenceIdeal [hProj1ReferenceIdeal : Cert.Proj1ReferenceIdeal.Facts] : Prop :=
  ∀ (m : (ℓ : Loc Cert.Proj1ReferenceIdeal.nD Cert.Proj1ReferenceIdeal.τ Cert.Proj1ReferenceIdeal.sig) → Buf (Elt Ideal) ℓ) (g : Dev Cert.Proj1ReferenceIdeal.nD → PrngReg), Pre_Proj1ReferenceIdeal m →
    θ_run (Cert.Proj1ReferenceIdeal.defs (F := Ideal)) (onTc (τ := Cert.Proj1ReferenceIdeal.τ) (Cert.Proj1ReferenceIdeal.main (F := Ideal))) ⟨m, fun _ => 0, g⟩ (fun r => (∀ c : Dev Cert.Proj1ReferenceIdeal.nD,
      r.2.mem ((c.tc : Thread Cert.Proj1ReferenceIdeal.nD Cert.Proj1ReferenceIdeal.τ).loc Cert.Proj1ReferenceIdeal.main_arg0) = m ((c.tc : Thread Cert.Proj1ReferenceIdeal.nD Cert.Proj1ReferenceIdeal.τ).loc Cert.Proj1ReferenceIdeal.main_arg0)
      ∧ r.2.mem ((c.tc : Thread Cert.Proj1ReferenceIdeal.nD Cert.Proj1ReferenceIdeal.τ).loc Cert.Proj1ReferenceIdeal.main_arg1) = m ((c.tc : Thread Cert.Proj1ReferenceIdeal.nD Cert.Proj1ReferenceIdeal.τ).loc Cert.Proj1ReferenceIdeal.main_arg1))
      ∧ r.2.sem = fun _ => 0)

def quiescent_Proj0Kernel [hProj0Kernel : Cert.Proj0Kernel.Facts] : Prop :=
  ∀ (m : (ℓ : Loc Cert.Proj0Kernel.nD Cert.Proj0Kernel.τ Cert.Proj0Kernel.sig) → Buf (Elt Bits) ℓ) (g : Dev Cert.Proj0Kernel.nD → PrngReg), Pre_Proj0Kernel m →
    θ_run (Cert.Proj0Kernel.defs (F := Bits)) (onTc (τ := Cert.Proj0Kernel.τ) (Cert.Proj0Kernel.main (F := Bits))) ⟨m, fun _ => 0, g⟩ (fun r => (∀ c : Dev Cert.Proj0Kernel.nD,
      r.2.mem ((c.tc : Thread Cert.Proj0Kernel.nD Cert.Proj0Kernel.τ).loc Cert.Proj0Kernel.main_arg0) = m ((c.tc : Thread Cert.Proj0Kernel.nD Cert.Proj0Kernel.τ).loc Cert.Proj0Kernel.main_arg0)
      ∧ r.2.mem ((c.tc : Thread Cert.Proj0Kernel.nD Cert.Proj0Kernel.τ).loc Cert.Proj0Kernel.main_arg1) = m ((c.tc : Thread Cert.Proj0Kernel.nD Cert.Proj0Kernel.τ).loc Cert.Proj0Kernel.main_arg1))
      ∧ r.2.sem = fun _ => 0)

def quiescent_Proj0KernelIdeal [hProj0KernelIdeal : Cert.Proj0KernelIdeal.Facts] : Prop :=
  ∀ (m : (ℓ : Loc Cert.Proj0KernelIdeal.nD Cert.Proj0KernelIdeal.τ Cert.Proj0KernelIdeal.sig) → Buf (Elt Ideal) ℓ) (g : Dev Cert.Proj0KernelIdeal.nD → PrngReg), Pre_Proj0KernelIdeal m →
    θ_run (Cert.Proj0KernelIdeal.defs (F := Ideal)) (onTc (τ := Cert.Proj0KernelIdeal.τ) (Cert.Proj0KernelIdeal.main (F := Ideal))) ⟨m, fun _ => 0, g⟩ (fun r => (∀ c : Dev Cert.Proj0KernelIdeal.nD,
      r.2.mem ((c.tc : Thread Cert.Proj0KernelIdeal.nD Cert.Proj0KernelIdeal.τ).loc Cert.Proj0KernelIdeal.main_arg0) = m ((c.tc : Thread Cert.Proj0KernelIdeal.nD Cert.Proj0KernelIdeal.τ).loc Cert.Proj0KernelIdeal.main_arg0)
      ∧ r.2.mem ((c.tc : Thread Cert.Proj0KernelIdeal.nD Cert.Proj0KernelIdeal.τ).loc Cert.Proj0KernelIdeal.main_arg1) = m ((c.tc : Thread Cert.Proj0KernelIdeal.nD Cert.Proj0KernelIdeal.τ).loc Cert.Proj0KernelIdeal.main_arg1))
      ∧ r.2.sem = fun _ => 0)

def quiescent_Proj0ReferenceIdeal [hProj0ReferenceIdeal : Cert.Proj0ReferenceIdeal.Facts] : Prop :=
  ∀ (m : (ℓ : Loc Cert.Proj0ReferenceIdeal.nD Cert.Proj0ReferenceIdeal.τ Cert.Proj0ReferenceIdeal.sig) → Buf (Elt Ideal) ℓ) (g : Dev Cert.Proj0ReferenceIdeal.nD → PrngReg), Pre_Proj0ReferenceIdeal m →
    θ_run (Cert.Proj0ReferenceIdeal.defs (F := Ideal)) (onTc (τ := Cert.Proj0ReferenceIdeal.τ) (Cert.Proj0ReferenceIdeal.main (F := Ideal))) ⟨m, fun _ => 0, g⟩ (fun r => (∀ c : Dev Cert.Proj0ReferenceIdeal.nD,
      r.2.mem ((c.tc : Thread Cert.Proj0ReferenceIdeal.nD Cert.Proj0ReferenceIdeal.τ).loc Cert.Proj0ReferenceIdeal.main_arg0) = m ((c.tc : Thread Cert.Proj0ReferenceIdeal.nD Cert.Proj0ReferenceIdeal.τ).loc Cert.Proj0ReferenceIdeal.main_arg0)
      ∧ r.2.mem ((c.tc : Thread Cert.Proj0ReferenceIdeal.nD Cert.Proj0ReferenceIdeal.τ).loc Cert.Proj0ReferenceIdeal.main_arg1) = m ((c.tc : Thread Cert.Proj0ReferenceIdeal.nD Cert.Proj0ReferenceIdeal.τ).loc Cert.Proj0ReferenceIdeal.main_arg1))
      ∧ r.2.sem = fun _ => 0)

def quiescent_Up1Kernel [hUp1Kernel : Cert.Up1Kernel.Facts] : Prop :=
  ∀ (m : (ℓ : Loc Cert.Up1Kernel.nD Cert.Up1Kernel.τ Cert.Up1Kernel.sig) → Buf (Elt Bits) ℓ) (g : Dev Cert.Up1Kernel.nD → PrngReg), Pre_Up1Kernel m →
    θ_run (Cert.Up1Kernel.defs (F := Bits)) (onTc (τ := Cert.Up1Kernel.τ) (Cert.Up1Kernel.main (F := Bits))) ⟨m, fun _ => 0, g⟩ (fun r => (∀ c : Dev Cert.Up1Kernel.nD,
      r.2.mem ((c.tc : Thread Cert.Up1Kernel.nD Cert.Up1Kernel.τ).loc Cert.Up1Kernel.main_arg0) = m ((c.tc : Thread Cert.Up1Kernel.nD Cert.Up1Kernel.τ).loc Cert.Up1Kernel.main_arg0)
      ∧ r.2.mem ((c.tc : Thread Cert.Up1Kernel.nD Cert.Up1Kernel.τ).loc Cert.Up1Kernel.main_arg1) = m ((c.tc : Thread Cert.Up1Kernel.nD Cert.Up1Kernel.τ).loc Cert.Up1Kernel.main_arg1))
      ∧ r.2.sem = fun _ => 0)

def quiescent_Up1KernelIdeal [hUp1KernelIdeal : Cert.Up1KernelIdeal.Facts] : Prop :=
  ∀ (m : (ℓ : Loc Cert.Up1KernelIdeal.nD Cert.Up1KernelIdeal.τ Cert.Up1KernelIdeal.sig) → Buf (Elt Ideal) ℓ) (g : Dev Cert.Up1KernelIdeal.nD → PrngReg), Pre_Up1KernelIdeal m →
    θ_run (Cert.Up1KernelIdeal.defs (F := Ideal)) (onTc (τ := Cert.Up1KernelIdeal.τ) (Cert.Up1KernelIdeal.main (F := Ideal))) ⟨m, fun _ => 0, g⟩ (fun r => (∀ c : Dev Cert.Up1KernelIdeal.nD,
      r.2.mem ((c.tc : Thread Cert.Up1KernelIdeal.nD Cert.Up1KernelIdeal.τ).loc Cert.Up1KernelIdeal.main_arg0) = m ((c.tc : Thread Cert.Up1KernelIdeal.nD Cert.Up1KernelIdeal.τ).loc Cert.Up1KernelIdeal.main_arg0)
      ∧ r.2.mem ((c.tc : Thread Cert.Up1KernelIdeal.nD Cert.Up1KernelIdeal.τ).loc Cert.Up1KernelIdeal.main_arg1) = m ((c.tc : Thread Cert.Up1KernelIdeal.nD Cert.Up1KernelIdeal.τ).loc Cert.Up1KernelIdeal.main_arg1))
      ∧ r.2.sem = fun _ => 0)

def quiescent_Up1ReferenceIdeal [hUp1ReferenceIdeal : Cert.Up1ReferenceIdeal.Facts] : Prop :=
  ∀ (m : (ℓ : Loc Cert.Up1ReferenceIdeal.nD Cert.Up1ReferenceIdeal.τ Cert.Up1ReferenceIdeal.sig) → Buf (Elt Ideal) ℓ) (g : Dev Cert.Up1ReferenceIdeal.nD → PrngReg), Pre_Up1ReferenceIdeal m →
    θ_run (Cert.Up1ReferenceIdeal.defs (F := Ideal)) (onTc (τ := Cert.Up1ReferenceIdeal.τ) (Cert.Up1ReferenceIdeal.main (F := Ideal))) ⟨m, fun _ => 0, g⟩ (fun r => (∀ c : Dev Cert.Up1ReferenceIdeal.nD,
      r.2.mem ((c.tc : Thread Cert.Up1ReferenceIdeal.nD Cert.Up1ReferenceIdeal.τ).loc Cert.Up1ReferenceIdeal.main_arg0) = m ((c.tc : Thread Cert.Up1ReferenceIdeal.nD Cert.Up1ReferenceIdeal.τ).loc Cert.Up1ReferenceIdeal.main_arg0)
      ∧ r.2.mem ((c.tc : Thread Cert.Up1ReferenceIdeal.nD Cert.Up1ReferenceIdeal.τ).loc Cert.Up1ReferenceIdeal.main_arg1) = m ((c.tc : Thread Cert.Up1ReferenceIdeal.nD Cert.Up1ReferenceIdeal.τ).loc Cert.Up1ReferenceIdeal.main_arg1))
      ∧ r.2.sem = fun _ => 0)

def quiescent_Down1Kernel [hDown1Kernel : Cert.Down1Kernel.Facts] : Prop :=
  ∀ (m : (ℓ : Loc Cert.Down1Kernel.nD Cert.Down1Kernel.τ Cert.Down1Kernel.sig) → Buf (Elt Bits) ℓ) (g : Dev Cert.Down1Kernel.nD → PrngReg), Pre_Down1Kernel m →
    θ_run (Cert.Down1Kernel.defs (F := Bits)) (onTc (τ := Cert.Down1Kernel.τ) (Cert.Down1Kernel.main (F := Bits))) ⟨m, fun _ => 0, g⟩ (fun r => (∀ c : Dev Cert.Down1Kernel.nD,
      r.2.mem ((c.tc : Thread Cert.Down1Kernel.nD Cert.Down1Kernel.τ).loc Cert.Down1Kernel.main_arg0) = m ((c.tc : Thread Cert.Down1Kernel.nD Cert.Down1Kernel.τ).loc Cert.Down1Kernel.main_arg0)
      ∧ r.2.mem ((c.tc : Thread Cert.Down1Kernel.nD Cert.Down1Kernel.τ).loc Cert.Down1Kernel.main_arg1) = m ((c.tc : Thread Cert.Down1Kernel.nD Cert.Down1Kernel.τ).loc Cert.Down1Kernel.main_arg1))
      ∧ r.2.sem = fun _ => 0)

def quiescent_Down1KernelIdeal [hDown1KernelIdeal : Cert.Down1KernelIdeal.Facts] : Prop :=
  ∀ (m : (ℓ : Loc Cert.Down1KernelIdeal.nD Cert.Down1KernelIdeal.τ Cert.Down1KernelIdeal.sig) → Buf (Elt Ideal) ℓ) (g : Dev Cert.Down1KernelIdeal.nD → PrngReg), Pre_Down1KernelIdeal m →
    θ_run (Cert.Down1KernelIdeal.defs (F := Ideal)) (onTc (τ := Cert.Down1KernelIdeal.τ) (Cert.Down1KernelIdeal.main (F := Ideal))) ⟨m, fun _ => 0, g⟩ (fun r => (∀ c : Dev Cert.Down1KernelIdeal.nD,
      r.2.mem ((c.tc : Thread Cert.Down1KernelIdeal.nD Cert.Down1KernelIdeal.τ).loc Cert.Down1KernelIdeal.main_arg0) = m ((c.tc : Thread Cert.Down1KernelIdeal.nD Cert.Down1KernelIdeal.τ).loc Cert.Down1KernelIdeal.main_arg0)
      ∧ r.2.mem ((c.tc : Thread Cert.Down1KernelIdeal.nD Cert.Down1KernelIdeal.τ).loc Cert.Down1KernelIdeal.main_arg1) = m ((c.tc : Thread Cert.Down1KernelIdeal.nD Cert.Down1KernelIdeal.τ).loc Cert.Down1KernelIdeal.main_arg1))
      ∧ r.2.sem = fun _ => 0)

def quiescent_Down1ReferenceIdeal [hDown1ReferenceIdeal : Cert.Down1ReferenceIdeal.Facts] : Prop :=
  ∀ (m : (ℓ : Loc Cert.Down1ReferenceIdeal.nD Cert.Down1ReferenceIdeal.τ Cert.Down1ReferenceIdeal.sig) → Buf (Elt Ideal) ℓ) (g : Dev Cert.Down1ReferenceIdeal.nD → PrngReg), Pre_Down1ReferenceIdeal m →
    θ_run (Cert.Down1ReferenceIdeal.defs (F := Ideal)) (onTc (τ := Cert.Down1ReferenceIdeal.τ) (Cert.Down1ReferenceIdeal.main (F := Ideal))) ⟨m, fun _ => 0, g⟩ (fun r => (∀ c : Dev Cert.Down1ReferenceIdeal.nD,
      r.2.mem ((c.tc : Thread Cert.Down1ReferenceIdeal.nD Cert.Down1ReferenceIdeal.τ).loc Cert.Down1ReferenceIdeal.main_arg0) = m ((c.tc : Thread Cert.Down1ReferenceIdeal.nD Cert.Down1ReferenceIdeal.τ).loc Cert.Down1ReferenceIdeal.main_arg0)
      ∧ r.2.mem ((c.tc : Thread Cert.Down1ReferenceIdeal.nD Cert.Down1ReferenceIdeal.τ).loc Cert.Down1ReferenceIdeal.main_arg1) = m ((c.tc : Thread Cert.Down1ReferenceIdeal.nD Cert.Down1ReferenceIdeal.τ).loc Cert.Down1ReferenceIdeal.main_arg1))
      ∧ r.2.sem = fun _ => 0)

def quiescent_Down0Kernel [hDown0Kernel : Cert.Down0Kernel.Facts] : Prop :=
  ∀ (m : (ℓ : Loc Cert.Down0Kernel.nD Cert.Down0Kernel.τ Cert.Down0Kernel.sig) → Buf (Elt Bits) ℓ) (g : Dev Cert.Down0Kernel.nD → PrngReg), Pre_Down0Kernel m →
    θ_run (Cert.Down0Kernel.defs (F := Bits)) (onTc (τ := Cert.Down0Kernel.τ) (Cert.Down0Kernel.main (F := Bits))) ⟨m, fun _ => 0, g⟩ (fun r => (∀ c : Dev Cert.Down0Kernel.nD,
      r.2.mem ((c.tc : Thread Cert.Down0Kernel.nD Cert.Down0Kernel.τ).loc Cert.Down0Kernel.main_arg0) = m ((c.tc : Thread Cert.Down0Kernel.nD Cert.Down0Kernel.τ).loc Cert.Down0Kernel.main_arg0)
      ∧ r.2.mem ((c.tc : Thread Cert.Down0Kernel.nD Cert.Down0Kernel.τ).loc Cert.Down0Kernel.main_arg1) = m ((c.tc : Thread Cert.Down0Kernel.nD Cert.Down0Kernel.τ).loc Cert.Down0Kernel.main_arg1))
      ∧ r.2.sem = fun _ => 0)

def quiescent_Down0KernelIdeal [hDown0KernelIdeal : Cert.Down0KernelIdeal.Facts] : Prop :=
  ∀ (m : (ℓ : Loc Cert.Down0KernelIdeal.nD Cert.Down0KernelIdeal.τ Cert.Down0KernelIdeal.sig) → Buf (Elt Ideal) ℓ) (g : Dev Cert.Down0KernelIdeal.nD → PrngReg), Pre_Down0KernelIdeal m →
    θ_run (Cert.Down0KernelIdeal.defs (F := Ideal)) (onTc (τ := Cert.Down0KernelIdeal.τ) (Cert.Down0KernelIdeal.main (F := Ideal))) ⟨m, fun _ => 0, g⟩ (fun r => (∀ c : Dev Cert.Down0KernelIdeal.nD,
      r.2.mem ((c.tc : Thread Cert.Down0KernelIdeal.nD Cert.Down0KernelIdeal.τ).loc Cert.Down0KernelIdeal.main_arg0) = m ((c.tc : Thread Cert.Down0KernelIdeal.nD Cert.Down0KernelIdeal.τ).loc Cert.Down0KernelIdeal.main_arg0)
      ∧ r.2.mem ((c.tc : Thread Cert.Down0KernelIdeal.nD Cert.Down0KernelIdeal.τ).loc Cert.Down0KernelIdeal.main_arg1) = m ((c.tc : Thread Cert.Down0KernelIdeal.nD Cert.Down0KernelIdeal.τ).loc Cert.Down0KernelIdeal.main_arg1))
      ∧ r.2.sem = fun _ => 0)

def quiescent_Down0ReferenceIdeal [hDown0ReferenceIdeal : Cert.Down0ReferenceIdeal.Facts] : Prop :=
  ∀ (m : (ℓ : Loc Cert.Down0ReferenceIdeal.nD Cert.Down0ReferenceIdeal.τ Cert.Down0ReferenceIdeal.sig) → Buf (Elt Ideal) ℓ) (g : Dev Cert.Down0ReferenceIdeal.nD → PrngReg), Pre_Down0ReferenceIdeal m →
    θ_run (Cert.Down0ReferenceIdeal.defs (F := Ideal)) (onTc (τ := Cert.Down0ReferenceIdeal.τ) (Cert.Down0ReferenceIdeal.main (F := Ideal))) ⟨m, fun _ => 0, g⟩ (fun r => (∀ c : Dev Cert.Down0ReferenceIdeal.nD,
      r.2.mem ((c.tc : Thread Cert.Down0ReferenceIdeal.nD Cert.Down0ReferenceIdeal.τ).loc Cert.Down0ReferenceIdeal.main_arg0) = m ((c.tc : Thread Cert.Down0ReferenceIdeal.nD Cert.Down0ReferenceIdeal.τ).loc Cert.Down0ReferenceIdeal.main_arg0)
      ∧ r.2.mem ((c.tc : Thread Cert.Down0ReferenceIdeal.nD Cert.Down0ReferenceIdeal.τ).loc Cert.Down0ReferenceIdeal.main_arg1) = m ((c.tc : Thread Cert.Down0ReferenceIdeal.nD Cert.Down0ReferenceIdeal.τ).loc Cert.Down0ReferenceIdeal.main_arg1))
      ∧ r.2.sem = fun _ => 0)

def quiescent_Mix1Kernel [hMix1Kernel : Cert.Mix1Kernel.Facts] : Prop :=
  ∀ (m : (ℓ : Loc Cert.Mix1Kernel.nD Cert.Mix1Kernel.τ Cert.Mix1Kernel.sig) → Buf (Elt Bits) ℓ) (g : Dev Cert.Mix1Kernel.nD → PrngReg), Pre_Mix1Kernel m →
    θ_run (Cert.Mix1Kernel.defs (F := Bits)) (onTc (τ := Cert.Mix1Kernel.τ) (Cert.Mix1Kernel.main (F := Bits))) ⟨m, fun _ => 0, g⟩ (fun r => (∀ c : Dev Cert.Mix1Kernel.nD,
      r.2.mem ((c.tc : Thread Cert.Mix1Kernel.nD Cert.Mix1Kernel.τ).loc Cert.Mix1Kernel.main_arg0) = m ((c.tc : Thread Cert.Mix1Kernel.nD Cert.Mix1Kernel.τ).loc Cert.Mix1Kernel.main_arg0)
      ∧ r.2.mem ((c.tc : Thread Cert.Mix1Kernel.nD Cert.Mix1Kernel.τ).loc Cert.Mix1Kernel.main_arg1) = m ((c.tc : Thread Cert.Mix1Kernel.nD Cert.Mix1Kernel.τ).loc Cert.Mix1Kernel.main_arg1))
      ∧ r.2.sem = fun _ => 0)

def quiescent_Mix1KernelIdeal [hMix1KernelIdeal : Cert.Mix1KernelIdeal.Facts] : Prop :=
  ∀ (m : (ℓ : Loc Cert.Mix1KernelIdeal.nD Cert.Mix1KernelIdeal.τ Cert.Mix1KernelIdeal.sig) → Buf (Elt Ideal) ℓ) (g : Dev Cert.Mix1KernelIdeal.nD → PrngReg), Pre_Mix1KernelIdeal m →
    θ_run (Cert.Mix1KernelIdeal.defs (F := Ideal)) (onTc (τ := Cert.Mix1KernelIdeal.τ) (Cert.Mix1KernelIdeal.main (F := Ideal))) ⟨m, fun _ => 0, g⟩ (fun r => (∀ c : Dev Cert.Mix1KernelIdeal.nD,
      r.2.mem ((c.tc : Thread Cert.Mix1KernelIdeal.nD Cert.Mix1KernelIdeal.τ).loc Cert.Mix1KernelIdeal.main_arg0) = m ((c.tc : Thread Cert.Mix1KernelIdeal.nD Cert.Mix1KernelIdeal.τ).loc Cert.Mix1KernelIdeal.main_arg0)
      ∧ r.2.mem ((c.tc : Thread Cert.Mix1KernelIdeal.nD Cert.Mix1KernelIdeal.τ).loc Cert.Mix1KernelIdeal.main_arg1) = m ((c.tc : Thread Cert.Mix1KernelIdeal.nD Cert.Mix1KernelIdeal.τ).loc Cert.Mix1KernelIdeal.main_arg1))
      ∧ r.2.sem = fun _ => 0)

def quiescent_Mix1ReferenceIdeal [hMix1ReferenceIdeal : Cert.Mix1ReferenceIdeal.Facts] : Prop :=
  ∀ (m : (ℓ : Loc Cert.Mix1ReferenceIdeal.nD Cert.Mix1ReferenceIdeal.τ Cert.Mix1ReferenceIdeal.sig) → Buf (Elt Ideal) ℓ) (g : Dev Cert.Mix1ReferenceIdeal.nD → PrngReg), Pre_Mix1ReferenceIdeal m →
    θ_run (Cert.Mix1ReferenceIdeal.defs (F := Ideal)) (onTc (τ := Cert.Mix1ReferenceIdeal.τ) (Cert.Mix1ReferenceIdeal.main (F := Ideal))) ⟨m, fun _ => 0, g⟩ (fun r => (∀ c : Dev Cert.Mix1ReferenceIdeal.nD,
      r.2.mem ((c.tc : Thread Cert.Mix1ReferenceIdeal.nD Cert.Mix1ReferenceIdeal.τ).loc Cert.Mix1ReferenceIdeal.main_arg0) = m ((c.tc : Thread Cert.Mix1ReferenceIdeal.nD Cert.Mix1ReferenceIdeal.τ).loc Cert.Mix1ReferenceIdeal.main_arg0)
      ∧ r.2.mem ((c.tc : Thread Cert.Mix1ReferenceIdeal.nD Cert.Mix1ReferenceIdeal.τ).loc Cert.Mix1ReferenceIdeal.main_arg1) = m ((c.tc : Thread Cert.Mix1ReferenceIdeal.nD Cert.Mix1ReferenceIdeal.τ).loc Cert.Mix1ReferenceIdeal.main_arg1))
      ∧ r.2.sem = fun _ => 0)

def quiescent_Mix0Kernel [hMix0Kernel : Cert.Mix0Kernel.Facts] : Prop :=
  ∀ (m : (ℓ : Loc Cert.Mix0Kernel.nD Cert.Mix0Kernel.τ Cert.Mix0Kernel.sig) → Buf (Elt Bits) ℓ) (g : Dev Cert.Mix0Kernel.nD → PrngReg), Pre_Mix0Kernel m →
    θ_run (Cert.Mix0Kernel.defs (F := Bits)) (onTc (τ := Cert.Mix0Kernel.τ) (Cert.Mix0Kernel.main (F := Bits))) ⟨m, fun _ => 0, g⟩ (fun r => (∀ c : Dev Cert.Mix0Kernel.nD,
      r.2.mem ((c.tc : Thread Cert.Mix0Kernel.nD Cert.Mix0Kernel.τ).loc Cert.Mix0Kernel.main_arg0) = m ((c.tc : Thread Cert.Mix0Kernel.nD Cert.Mix0Kernel.τ).loc Cert.Mix0Kernel.main_arg0)
      ∧ r.2.mem ((c.tc : Thread Cert.Mix0Kernel.nD Cert.Mix0Kernel.τ).loc Cert.Mix0Kernel.main_arg1) = m ((c.tc : Thread Cert.Mix0Kernel.nD Cert.Mix0Kernel.τ).loc Cert.Mix0Kernel.main_arg1))
      ∧ r.2.sem = fun _ => 0)

def quiescent_Mix0KernelIdeal [hMix0KernelIdeal : Cert.Mix0KernelIdeal.Facts] : Prop :=
  ∀ (m : (ℓ : Loc Cert.Mix0KernelIdeal.nD Cert.Mix0KernelIdeal.τ Cert.Mix0KernelIdeal.sig) → Buf (Elt Ideal) ℓ) (g : Dev Cert.Mix0KernelIdeal.nD → PrngReg), Pre_Mix0KernelIdeal m →
    θ_run (Cert.Mix0KernelIdeal.defs (F := Ideal)) (onTc (τ := Cert.Mix0KernelIdeal.τ) (Cert.Mix0KernelIdeal.main (F := Ideal))) ⟨m, fun _ => 0, g⟩ (fun r => (∀ c : Dev Cert.Mix0KernelIdeal.nD,
      r.2.mem ((c.tc : Thread Cert.Mix0KernelIdeal.nD Cert.Mix0KernelIdeal.τ).loc Cert.Mix0KernelIdeal.main_arg0) = m ((c.tc : Thread Cert.Mix0KernelIdeal.nD Cert.Mix0KernelIdeal.τ).loc Cert.Mix0KernelIdeal.main_arg0)
      ∧ r.2.mem ((c.tc : Thread Cert.Mix0KernelIdeal.nD Cert.Mix0KernelIdeal.τ).loc Cert.Mix0KernelIdeal.main_arg1) = m ((c.tc : Thread Cert.Mix0KernelIdeal.nD Cert.Mix0KernelIdeal.τ).loc Cert.Mix0KernelIdeal.main_arg1))
      ∧ r.2.sem = fun _ => 0)

def quiescent_Mix0ReferenceIdeal [hMix0ReferenceIdeal : Cert.Mix0ReferenceIdeal.Facts] : Prop :=
  ∀ (m : (ℓ : Loc Cert.Mix0ReferenceIdeal.nD Cert.Mix0ReferenceIdeal.τ Cert.Mix0ReferenceIdeal.sig) → Buf (Elt Ideal) ℓ) (g : Dev Cert.Mix0ReferenceIdeal.nD → PrngReg), Pre_Mix0ReferenceIdeal m →
    θ_run (Cert.Mix0ReferenceIdeal.defs (F := Ideal)) (onTc (τ := Cert.Mix0ReferenceIdeal.τ) (Cert.Mix0ReferenceIdeal.main (F := Ideal))) ⟨m, fun _ => 0, g⟩ (fun r => (∀ c : Dev Cert.Mix0ReferenceIdeal.nD,
      r.2.mem ((c.tc : Thread Cert.Mix0ReferenceIdeal.nD Cert.Mix0ReferenceIdeal.τ).loc Cert.Mix0ReferenceIdeal.main_arg0) = m ((c.tc : Thread Cert.Mix0ReferenceIdeal.nD Cert.Mix0ReferenceIdeal.τ).loc Cert.Mix0ReferenceIdeal.main_arg0)
      ∧ r.2.mem ((c.tc : Thread Cert.Mix0ReferenceIdeal.nD Cert.Mix0ReferenceIdeal.τ).loc Cert.Mix0ReferenceIdeal.main_arg1) = m ((c.tc : Thread Cert.Mix0ReferenceIdeal.nD Cert.Mix0ReferenceIdeal.τ).loc Cert.Mix0ReferenceIdeal.main_arg1))
      ∧ r.2.sem = fun _ => 0)

def quiescent_MixDx1Kernel [hMixDx1Kernel : Cert.MixDx1Kernel.Facts] : Prop :=
  ∀ (m : (ℓ : Loc Cert.MixDx1Kernel.nD Cert.MixDx1Kernel.τ Cert.MixDx1Kernel.sig) → Buf (Elt Bits) ℓ) (g : Dev Cert.MixDx1Kernel.nD → PrngReg), Pre_MixDx1Kernel m →
    θ_run (Cert.MixDx1Kernel.defs (F := Bits)) (onTc (τ := Cert.MixDx1Kernel.τ) (Cert.MixDx1Kernel.main (F := Bits))) ⟨m, fun _ => 0, g⟩ (fun r => (∀ c : Dev Cert.MixDx1Kernel.nD,
      r.2.mem ((c.tc : Thread Cert.MixDx1Kernel.nD Cert.MixDx1Kernel.τ).loc Cert.MixDx1Kernel.main_arg0) = m ((c.tc : Thread Cert.MixDx1Kernel.nD Cert.MixDx1Kernel.τ).loc Cert.MixDx1Kernel.main_arg0)
      ∧ r.2.mem ((c.tc : Thread Cert.MixDx1Kernel.nD Cert.MixDx1Kernel.τ).loc Cert.MixDx1Kernel.main_arg1) = m ((c.tc : Thread Cert.MixDx1Kernel.nD Cert.MixDx1Kernel.τ).loc Cert.MixDx1Kernel.main_arg1))
      ∧ r.2.sem = fun _ => 0)

def quiescent_MixDx1KernelIdeal [hMixDx1KernelIdeal : Cert.MixDx1KernelIdeal.Facts] : Prop :=
  ∀ (m : (ℓ : Loc Cert.MixDx1KernelIdeal.nD Cert.MixDx1KernelIdeal.τ Cert.MixDx1KernelIdeal.sig) → Buf (Elt Ideal) ℓ) (g : Dev Cert.MixDx1KernelIdeal.nD → PrngReg), Pre_MixDx1KernelIdeal m →
    θ_run (Cert.MixDx1KernelIdeal.defs (F := Ideal)) (onTc (τ := Cert.MixDx1KernelIdeal.τ) (Cert.MixDx1KernelIdeal.main (F := Ideal))) ⟨m, fun _ => 0, g⟩ (fun r => (∀ c : Dev Cert.MixDx1KernelIdeal.nD,
      r.2.mem ((c.tc : Thread Cert.MixDx1KernelIdeal.nD Cert.MixDx1KernelIdeal.τ).loc Cert.MixDx1KernelIdeal.main_arg0) = m ((c.tc : Thread Cert.MixDx1KernelIdeal.nD Cert.MixDx1KernelIdeal.τ).loc Cert.MixDx1KernelIdeal.main_arg0)
      ∧ r.2.mem ((c.tc : Thread Cert.MixDx1KernelIdeal.nD Cert.MixDx1KernelIdeal.τ).loc Cert.MixDx1KernelIdeal.main_arg1) = m ((c.tc : Thread Cert.MixDx1KernelIdeal.nD Cert.MixDx1KernelIdeal.τ).loc Cert.MixDx1KernelIdeal.main_arg1))
      ∧ r.2.sem = fun _ => 0)

def quiescent_MixDx1ReferenceIdeal [hMixDx1ReferenceIdeal : Cert.MixDx1ReferenceIdeal.Facts] : Prop :=
  ∀ (m : (ℓ : Loc Cert.MixDx1ReferenceIdeal.nD Cert.MixDx1ReferenceIdeal.τ Cert.MixDx1ReferenceIdeal.sig) → Buf (Elt Ideal) ℓ) (g : Dev Cert.MixDx1ReferenceIdeal.nD → PrngReg), Pre_MixDx1ReferenceIdeal m →
    θ_run (Cert.MixDx1ReferenceIdeal.defs (F := Ideal)) (onTc (τ := Cert.MixDx1ReferenceIdeal.τ) (Cert.MixDx1ReferenceIdeal.main (F := Ideal))) ⟨m, fun _ => 0, g⟩ (fun r => (∀ c : Dev Cert.MixDx1ReferenceIdeal.nD,
      r.2.mem ((c.tc : Thread Cert.MixDx1ReferenceIdeal.nD Cert.MixDx1ReferenceIdeal.τ).loc Cert.MixDx1ReferenceIdeal.main_arg0) = m ((c.tc : Thread Cert.MixDx1ReferenceIdeal.nD Cert.MixDx1ReferenceIdeal.τ).loc Cert.MixDx1ReferenceIdeal.main_arg0)
      ∧ r.2.mem ((c.tc : Thread Cert.MixDx1ReferenceIdeal.nD Cert.MixDx1ReferenceIdeal.τ).loc Cert.MixDx1ReferenceIdeal.main_arg1) = m ((c.tc : Thread Cert.MixDx1ReferenceIdeal.nD Cert.MixDx1ReferenceIdeal.τ).loc Cert.MixDx1ReferenceIdeal.main_arg1))
      ∧ r.2.sem = fun _ => 0)

def quiescent_MixDx0Kernel [hMixDx0Kernel : Cert.MixDx0Kernel.Facts] : Prop :=
  ∀ (m : (ℓ : Loc Cert.MixDx0Kernel.nD Cert.MixDx0Kernel.τ Cert.MixDx0Kernel.sig) → Buf (Elt Bits) ℓ) (g : Dev Cert.MixDx0Kernel.nD → PrngReg), Pre_MixDx0Kernel m →
    θ_run (Cert.MixDx0Kernel.defs (F := Bits)) (onTc (τ := Cert.MixDx0Kernel.τ) (Cert.MixDx0Kernel.main (F := Bits))) ⟨m, fun _ => 0, g⟩ (fun r => (∀ c : Dev Cert.MixDx0Kernel.nD,
      r.2.mem ((c.tc : Thread Cert.MixDx0Kernel.nD Cert.MixDx0Kernel.τ).loc Cert.MixDx0Kernel.main_arg0) = m ((c.tc : Thread Cert.MixDx0Kernel.nD Cert.MixDx0Kernel.τ).loc Cert.MixDx0Kernel.main_arg0)
      ∧ r.2.mem ((c.tc : Thread Cert.MixDx0Kernel.nD Cert.MixDx0Kernel.τ).loc Cert.MixDx0Kernel.main_arg1) = m ((c.tc : Thread Cert.MixDx0Kernel.nD Cert.MixDx0Kernel.τ).loc Cert.MixDx0Kernel.main_arg1))
      ∧ r.2.sem = fun _ => 0)

def quiescent_MixDx0KernelIdeal [hMixDx0KernelIdeal : Cert.MixDx0KernelIdeal.Facts] : Prop :=
  ∀ (m : (ℓ : Loc Cert.MixDx0KernelIdeal.nD Cert.MixDx0KernelIdeal.τ Cert.MixDx0KernelIdeal.sig) → Buf (Elt Ideal) ℓ) (g : Dev Cert.MixDx0KernelIdeal.nD → PrngReg), Pre_MixDx0KernelIdeal m →
    θ_run (Cert.MixDx0KernelIdeal.defs (F := Ideal)) (onTc (τ := Cert.MixDx0KernelIdeal.τ) (Cert.MixDx0KernelIdeal.main (F := Ideal))) ⟨m, fun _ => 0, g⟩ (fun r => (∀ c : Dev Cert.MixDx0KernelIdeal.nD,
      r.2.mem ((c.tc : Thread Cert.MixDx0KernelIdeal.nD Cert.MixDx0KernelIdeal.τ).loc Cert.MixDx0KernelIdeal.main_arg0) = m ((c.tc : Thread Cert.MixDx0KernelIdeal.nD Cert.MixDx0KernelIdeal.τ).loc Cert.MixDx0KernelIdeal.main_arg0)
      ∧ r.2.mem ((c.tc : Thread Cert.MixDx0KernelIdeal.nD Cert.MixDx0KernelIdeal.τ).loc Cert.MixDx0KernelIdeal.main_arg1) = m ((c.tc : Thread Cert.MixDx0KernelIdeal.nD Cert.MixDx0KernelIdeal.τ).loc Cert.MixDx0KernelIdeal.main_arg1))
      ∧ r.2.sem = fun _ => 0)

def quiescent_MixDx0ReferenceIdeal [hMixDx0ReferenceIdeal : Cert.MixDx0ReferenceIdeal.Facts] : Prop :=
  ∀ (m : (ℓ : Loc Cert.MixDx0ReferenceIdeal.nD Cert.MixDx0ReferenceIdeal.τ Cert.MixDx0ReferenceIdeal.sig) → Buf (Elt Ideal) ℓ) (g : Dev Cert.MixDx0ReferenceIdeal.nD → PrngReg), Pre_MixDx0ReferenceIdeal m →
    θ_run (Cert.MixDx0ReferenceIdeal.defs (F := Ideal)) (onTc (τ := Cert.MixDx0ReferenceIdeal.τ) (Cert.MixDx0ReferenceIdeal.main (F := Ideal))) ⟨m, fun _ => 0, g⟩ (fun r => (∀ c : Dev Cert.MixDx0ReferenceIdeal.nD,
      r.2.mem ((c.tc : Thread Cert.MixDx0ReferenceIdeal.nD Cert.MixDx0ReferenceIdeal.τ).loc Cert.MixDx0ReferenceIdeal.main_arg0) = m ((c.tc : Thread Cert.MixDx0ReferenceIdeal.nD Cert.MixDx0ReferenceIdeal.τ).loc Cert.MixDx0ReferenceIdeal.main_arg0)
      ∧ r.2.mem ((c.tc : Thread Cert.MixDx0ReferenceIdeal.nD Cert.MixDx0ReferenceIdeal.τ).loc Cert.MixDx0ReferenceIdeal.main_arg1) = m ((c.tc : Thread Cert.MixDx0ReferenceIdeal.nD Cert.MixDx0ReferenceIdeal.τ).loc Cert.MixDx0ReferenceIdeal.main_arg1))
      ∧ r.2.sem = fun _ => 0)

def quiescent_MixDw1Kernel [hMixDw1Kernel : Cert.MixDw1Kernel.Facts] : Prop :=
  ∀ (m : (ℓ : Loc Cert.MixDw1Kernel.nD Cert.MixDw1Kernel.τ Cert.MixDw1Kernel.sig) → Buf (Elt Bits) ℓ) (g : Dev Cert.MixDw1Kernel.nD → PrngReg), Pre_MixDw1Kernel m →
    θ_run (Cert.MixDw1Kernel.defs (F := Bits)) (onTc (τ := Cert.MixDw1Kernel.τ) (Cert.MixDw1Kernel.main (F := Bits))) ⟨m, fun _ => 0, g⟩ (fun r => (∀ c : Dev Cert.MixDw1Kernel.nD,
      r.2.mem ((c.tc : Thread Cert.MixDw1Kernel.nD Cert.MixDw1Kernel.τ).loc Cert.MixDw1Kernel.main_arg0) = m ((c.tc : Thread Cert.MixDw1Kernel.nD Cert.MixDw1Kernel.τ).loc Cert.MixDw1Kernel.main_arg0)
      ∧ r.2.mem ((c.tc : Thread Cert.MixDw1Kernel.nD Cert.MixDw1Kernel.τ).loc Cert.MixDw1Kernel.main_arg1) = m ((c.tc : Thread Cert.MixDw1Kernel.nD Cert.MixDw1Kernel.τ).loc Cert.MixDw1Kernel.main_arg1))
      ∧ r.2.sem = fun _ => 0)

def quiescent_MixDw1KernelIdeal [hMixDw1KernelIdeal : Cert.MixDw1KernelIdeal.Facts] : Prop :=
  ∀ (m : (ℓ : Loc Cert.MixDw1KernelIdeal.nD Cert.MixDw1KernelIdeal.τ Cert.MixDw1KernelIdeal.sig) → Buf (Elt Ideal) ℓ) (g : Dev Cert.MixDw1KernelIdeal.nD → PrngReg), Pre_MixDw1KernelIdeal m →
    θ_run (Cert.MixDw1KernelIdeal.defs (F := Ideal)) (onTc (τ := Cert.MixDw1KernelIdeal.τ) (Cert.MixDw1KernelIdeal.main (F := Ideal))) ⟨m, fun _ => 0, g⟩ (fun r => (∀ c : Dev Cert.MixDw1KernelIdeal.nD,
      r.2.mem ((c.tc : Thread Cert.MixDw1KernelIdeal.nD Cert.MixDw1KernelIdeal.τ).loc Cert.MixDw1KernelIdeal.main_arg0) = m ((c.tc : Thread Cert.MixDw1KernelIdeal.nD Cert.MixDw1KernelIdeal.τ).loc Cert.MixDw1KernelIdeal.main_arg0)
      ∧ r.2.mem ((c.tc : Thread Cert.MixDw1KernelIdeal.nD Cert.MixDw1KernelIdeal.τ).loc Cert.MixDw1KernelIdeal.main_arg1) = m ((c.tc : Thread Cert.MixDw1KernelIdeal.nD Cert.MixDw1KernelIdeal.τ).loc Cert.MixDw1KernelIdeal.main_arg1))
      ∧ r.2.sem = fun _ => 0)

def quiescent_MixDw1ReferenceIdeal [hMixDw1ReferenceIdeal : Cert.MixDw1ReferenceIdeal.Facts] : Prop :=
  ∀ (m : (ℓ : Loc Cert.MixDw1ReferenceIdeal.nD Cert.MixDw1ReferenceIdeal.τ Cert.MixDw1ReferenceIdeal.sig) → Buf (Elt Ideal) ℓ) (g : Dev Cert.MixDw1ReferenceIdeal.nD → PrngReg), Pre_MixDw1ReferenceIdeal m →
    θ_run (Cert.MixDw1ReferenceIdeal.defs (F := Ideal)) (onTc (τ := Cert.MixDw1ReferenceIdeal.τ) (Cert.MixDw1ReferenceIdeal.main (F := Ideal))) ⟨m, fun _ => 0, g⟩ (fun r => (∀ c : Dev Cert.MixDw1ReferenceIdeal.nD,
      r.2.mem ((c.tc : Thread Cert.MixDw1ReferenceIdeal.nD Cert.MixDw1ReferenceIdeal.τ).loc Cert.MixDw1ReferenceIdeal.main_arg0) = m ((c.tc : Thread Cert.MixDw1ReferenceIdeal.nD Cert.MixDw1ReferenceIdeal.τ).loc Cert.MixDw1ReferenceIdeal.main_arg0)
      ∧ r.2.mem ((c.tc : Thread Cert.MixDw1ReferenceIdeal.nD Cert.MixDw1ReferenceIdeal.τ).loc Cert.MixDw1ReferenceIdeal.main_arg1) = m ((c.tc : Thread Cert.MixDw1ReferenceIdeal.nD Cert.MixDw1ReferenceIdeal.τ).loc Cert.MixDw1ReferenceIdeal.main_arg1))
      ∧ r.2.sem = fun _ => 0)

def quiescent_MixDw0Kernel [hMixDw0Kernel : Cert.MixDw0Kernel.Facts] : Prop :=
  ∀ (m : (ℓ : Loc Cert.MixDw0Kernel.nD Cert.MixDw0Kernel.τ Cert.MixDw0Kernel.sig) → Buf (Elt Bits) ℓ) (g : Dev Cert.MixDw0Kernel.nD → PrngReg), Pre_MixDw0Kernel m →
    θ_run (Cert.MixDw0Kernel.defs (F := Bits)) (onTc (τ := Cert.MixDw0Kernel.τ) (Cert.MixDw0Kernel.main (F := Bits))) ⟨m, fun _ => 0, g⟩ (fun r => (∀ c : Dev Cert.MixDw0Kernel.nD,
      r.2.mem ((c.tc : Thread Cert.MixDw0Kernel.nD Cert.MixDw0Kernel.τ).loc Cert.MixDw0Kernel.main_arg0) = m ((c.tc : Thread Cert.MixDw0Kernel.nD Cert.MixDw0Kernel.τ).loc Cert.MixDw0Kernel.main_arg0)
      ∧ r.2.mem ((c.tc : Thread Cert.MixDw0Kernel.nD Cert.MixDw0Kernel.τ).loc Cert.MixDw0Kernel.main_arg1) = m ((c.tc : Thread Cert.MixDw0Kernel.nD Cert.MixDw0Kernel.τ).loc Cert.MixDw0Kernel.main_arg1)
      ∧ r.2.mem ((c.tc : Thread Cert.MixDw0Kernel.nD Cert.MixDw0Kernel.τ).loc Cert.MixDw0Kernel.main_arg2) = m ((c.tc : Thread Cert.MixDw0Kernel.nD Cert.MixDw0Kernel.τ).loc Cert.MixDw0Kernel.main_arg2))
      ∧ r.2.sem = fun _ => 0)

def quiescent_MixDw0KernelIdeal [hMixDw0KernelIdeal : Cert.MixDw0KernelIdeal.Facts] : Prop :=
  ∀ (m : (ℓ : Loc Cert.MixDw0KernelIdeal.nD Cert.MixDw0KernelIdeal.τ Cert.MixDw0KernelIdeal.sig) → Buf (Elt Ideal) ℓ) (g : Dev Cert.MixDw0KernelIdeal.nD → PrngReg), Pre_MixDw0KernelIdeal m →
    θ_run (Cert.MixDw0KernelIdeal.defs (F := Ideal)) (onTc (τ := Cert.MixDw0KernelIdeal.τ) (Cert.MixDw0KernelIdeal.main (F := Ideal))) ⟨m, fun _ => 0, g⟩ (fun r => (∀ c : Dev Cert.MixDw0KernelIdeal.nD,
      r.2.mem ((c.tc : Thread Cert.MixDw0KernelIdeal.nD Cert.MixDw0KernelIdeal.τ).loc Cert.MixDw0KernelIdeal.main_arg0) = m ((c.tc : Thread Cert.MixDw0KernelIdeal.nD Cert.MixDw0KernelIdeal.τ).loc Cert.MixDw0KernelIdeal.main_arg0)
      ∧ r.2.mem ((c.tc : Thread Cert.MixDw0KernelIdeal.nD Cert.MixDw0KernelIdeal.τ).loc Cert.MixDw0KernelIdeal.main_arg1) = m ((c.tc : Thread Cert.MixDw0KernelIdeal.nD Cert.MixDw0KernelIdeal.τ).loc Cert.MixDw0KernelIdeal.main_arg1)
      ∧ r.2.mem ((c.tc : Thread Cert.MixDw0KernelIdeal.nD Cert.MixDw0KernelIdeal.τ).loc Cert.MixDw0KernelIdeal.main_arg2) = m ((c.tc : Thread Cert.MixDw0KernelIdeal.nD Cert.MixDw0KernelIdeal.τ).loc Cert.MixDw0KernelIdeal.main_arg2))
      ∧ r.2.sem = fun _ => 0)

def quiescent_MixDw0ReferenceIdeal [hMixDw0ReferenceIdeal : Cert.MixDw0ReferenceIdeal.Facts] : Prop :=
  ∀ (m : (ℓ : Loc Cert.MixDw0ReferenceIdeal.nD Cert.MixDw0ReferenceIdeal.τ Cert.MixDw0ReferenceIdeal.sig) → Buf (Elt Ideal) ℓ) (g : Dev Cert.MixDw0ReferenceIdeal.nD → PrngReg), Pre_MixDw0ReferenceIdeal m →
    θ_run (Cert.MixDw0ReferenceIdeal.defs (F := Ideal)) (onTc (τ := Cert.MixDw0ReferenceIdeal.τ) (Cert.MixDw0ReferenceIdeal.main (F := Ideal))) ⟨m, fun _ => 0, g⟩ (fun r => (∀ c : Dev Cert.MixDw0ReferenceIdeal.nD,
      r.2.mem ((c.tc : Thread Cert.MixDw0ReferenceIdeal.nD Cert.MixDw0ReferenceIdeal.τ).loc Cert.MixDw0ReferenceIdeal.main_arg0) = m ((c.tc : Thread Cert.MixDw0ReferenceIdeal.nD Cert.MixDw0ReferenceIdeal.τ).loc Cert.MixDw0ReferenceIdeal.main_arg0)
      ∧ r.2.mem ((c.tc : Thread Cert.MixDw0ReferenceIdeal.nD Cert.MixDw0ReferenceIdeal.τ).loc Cert.MixDw0ReferenceIdeal.main_arg1) = m ((c.tc : Thread Cert.MixDw0ReferenceIdeal.nD Cert.MixDw0ReferenceIdeal.τ).loc Cert.MixDw0ReferenceIdeal.main_arg1)
      ∧ r.2.mem ((c.tc : Thread Cert.MixDw0ReferenceIdeal.nD Cert.MixDw0ReferenceIdeal.τ).loc Cert.MixDw0ReferenceIdeal.main_arg2) = m ((c.tc : Thread Cert.MixDw0ReferenceIdeal.nD Cert.MixDw0ReferenceIdeal.τ).loc Cert.MixDw0ReferenceIdeal.main_arg2))
      ∧ r.2.sem = fun _ => 0)

def quiescent_DownDw1Kernel [hDownDw1Kernel : Cert.DownDw1Kernel.Facts] : Prop :=
  ∀ (m : (ℓ : Loc Cert.DownDw1Kernel.nD Cert.DownDw1Kernel.τ Cert.DownDw1Kernel.sig) → Buf (Elt Bits) ℓ) (g : Dev Cert.DownDw1Kernel.nD → PrngReg), Pre_DownDw1Kernel m →
    θ_run (Cert.DownDw1Kernel.defs (F := Bits)) (onTc (τ := Cert.DownDw1Kernel.τ) (Cert.DownDw1Kernel.main (F := Bits))) ⟨m, fun _ => 0, g⟩ (fun r => (∀ c : Dev Cert.DownDw1Kernel.nD,
      r.2.mem ((c.tc : Thread Cert.DownDw1Kernel.nD Cert.DownDw1Kernel.τ).loc Cert.DownDw1Kernel.main_arg0) = m ((c.tc : Thread Cert.DownDw1Kernel.nD Cert.DownDw1Kernel.τ).loc Cert.DownDw1Kernel.main_arg0)
      ∧ r.2.mem ((c.tc : Thread Cert.DownDw1Kernel.nD Cert.DownDw1Kernel.τ).loc Cert.DownDw1Kernel.main_arg1) = m ((c.tc : Thread Cert.DownDw1Kernel.nD Cert.DownDw1Kernel.τ).loc Cert.DownDw1Kernel.main_arg1))
      ∧ r.2.sem = fun _ => 0)

def quiescent_DownDw1KernelIdeal [hDownDw1KernelIdeal : Cert.DownDw1KernelIdeal.Facts] : Prop :=
  ∀ (m : (ℓ : Loc Cert.DownDw1KernelIdeal.nD Cert.DownDw1KernelIdeal.τ Cert.DownDw1KernelIdeal.sig) → Buf (Elt Ideal) ℓ) (g : Dev Cert.DownDw1KernelIdeal.nD → PrngReg), Pre_DownDw1KernelIdeal m →
    θ_run (Cert.DownDw1KernelIdeal.defs (F := Ideal)) (onTc (τ := Cert.DownDw1KernelIdeal.τ) (Cert.DownDw1KernelIdeal.main (F := Ideal))) ⟨m, fun _ => 0, g⟩ (fun r => (∀ c : Dev Cert.DownDw1KernelIdeal.nD,
      r.2.mem ((c.tc : Thread Cert.DownDw1KernelIdeal.nD Cert.DownDw1KernelIdeal.τ).loc Cert.DownDw1KernelIdeal.main_arg0) = m ((c.tc : Thread Cert.DownDw1KernelIdeal.nD Cert.DownDw1KernelIdeal.τ).loc Cert.DownDw1KernelIdeal.main_arg0)
      ∧ r.2.mem ((c.tc : Thread Cert.DownDw1KernelIdeal.nD Cert.DownDw1KernelIdeal.τ).loc Cert.DownDw1KernelIdeal.main_arg1) = m ((c.tc : Thread Cert.DownDw1KernelIdeal.nD Cert.DownDw1KernelIdeal.τ).loc Cert.DownDw1KernelIdeal.main_arg1))
      ∧ r.2.sem = fun _ => 0)

def quiescent_DownDw1ReferenceIdeal [hDownDw1ReferenceIdeal : Cert.DownDw1ReferenceIdeal.Facts] : Prop :=
  ∀ (m : (ℓ : Loc Cert.DownDw1ReferenceIdeal.nD Cert.DownDw1ReferenceIdeal.τ Cert.DownDw1ReferenceIdeal.sig) → Buf (Elt Ideal) ℓ) (g : Dev Cert.DownDw1ReferenceIdeal.nD → PrngReg), Pre_DownDw1ReferenceIdeal m →
    θ_run (Cert.DownDw1ReferenceIdeal.defs (F := Ideal)) (onTc (τ := Cert.DownDw1ReferenceIdeal.τ) (Cert.DownDw1ReferenceIdeal.main (F := Ideal))) ⟨m, fun _ => 0, g⟩ (fun r => (∀ c : Dev Cert.DownDw1ReferenceIdeal.nD,
      r.2.mem ((c.tc : Thread Cert.DownDw1ReferenceIdeal.nD Cert.DownDw1ReferenceIdeal.τ).loc Cert.DownDw1ReferenceIdeal.main_arg0) = m ((c.tc : Thread Cert.DownDw1ReferenceIdeal.nD Cert.DownDw1ReferenceIdeal.τ).loc Cert.DownDw1ReferenceIdeal.main_arg0)
      ∧ r.2.mem ((c.tc : Thread Cert.DownDw1ReferenceIdeal.nD Cert.DownDw1ReferenceIdeal.τ).loc Cert.DownDw1ReferenceIdeal.main_arg1) = m ((c.tc : Thread Cert.DownDw1ReferenceIdeal.nD Cert.DownDw1ReferenceIdeal.τ).loc Cert.DownDw1ReferenceIdeal.main_arg1))
      ∧ r.2.sem = fun _ => 0)

def quiescent_UpDw1Kernel [hUpDw1Kernel : Cert.UpDw1Kernel.Facts] : Prop :=
  ∀ (m : (ℓ : Loc Cert.UpDw1Kernel.nD Cert.UpDw1Kernel.τ Cert.UpDw1Kernel.sig) → Buf (Elt Bits) ℓ) (g : Dev Cert.UpDw1Kernel.nD → PrngReg), Pre_UpDw1Kernel m →
    θ_run (Cert.UpDw1Kernel.defs (F := Bits)) (onTc (τ := Cert.UpDw1Kernel.τ) (Cert.UpDw1Kernel.main (F := Bits))) ⟨m, fun _ => 0, g⟩ (fun r => (∀ c : Dev Cert.UpDw1Kernel.nD,
      r.2.mem ((c.tc : Thread Cert.UpDw1Kernel.nD Cert.UpDw1Kernel.τ).loc Cert.UpDw1Kernel.main_arg0) = m ((c.tc : Thread Cert.UpDw1Kernel.nD Cert.UpDw1Kernel.τ).loc Cert.UpDw1Kernel.main_arg0)
      ∧ r.2.mem ((c.tc : Thread Cert.UpDw1Kernel.nD Cert.UpDw1Kernel.τ).loc Cert.UpDw1Kernel.main_arg1) = m ((c.tc : Thread Cert.UpDw1Kernel.nD Cert.UpDw1Kernel.τ).loc Cert.UpDw1Kernel.main_arg1))
      ∧ r.2.sem = fun _ => 0)

def quiescent_UpDw1KernelIdeal [hUpDw1KernelIdeal : Cert.UpDw1KernelIdeal.Facts] : Prop :=
  ∀ (m : (ℓ : Loc Cert.UpDw1KernelIdeal.nD Cert.UpDw1KernelIdeal.τ Cert.UpDw1KernelIdeal.sig) → Buf (Elt Ideal) ℓ) (g : Dev Cert.UpDw1KernelIdeal.nD → PrngReg), Pre_UpDw1KernelIdeal m →
    θ_run (Cert.UpDw1KernelIdeal.defs (F := Ideal)) (onTc (τ := Cert.UpDw1KernelIdeal.τ) (Cert.UpDw1KernelIdeal.main (F := Ideal))) ⟨m, fun _ => 0, g⟩ (fun r => (∀ c : Dev Cert.UpDw1KernelIdeal.nD,
      r.2.mem ((c.tc : Thread Cert.UpDw1KernelIdeal.nD Cert.UpDw1KernelIdeal.τ).loc Cert.UpDw1KernelIdeal.main_arg0) = m ((c.tc : Thread Cert.UpDw1KernelIdeal.nD Cert.UpDw1KernelIdeal.τ).loc Cert.UpDw1KernelIdeal.main_arg0)
      ∧ r.2.mem ((c.tc : Thread Cert.UpDw1KernelIdeal.nD Cert.UpDw1KernelIdeal.τ).loc Cert.UpDw1KernelIdeal.main_arg1) = m ((c.tc : Thread Cert.UpDw1KernelIdeal.nD Cert.UpDw1KernelIdeal.τ).loc Cert.UpDw1KernelIdeal.main_arg1))
      ∧ r.2.sem = fun _ => 0)

def quiescent_UpDw1ReferenceIdeal [hUpDw1ReferenceIdeal : Cert.UpDw1ReferenceIdeal.Facts] : Prop :=
  ∀ (m : (ℓ : Loc Cert.UpDw1ReferenceIdeal.nD Cert.UpDw1ReferenceIdeal.τ Cert.UpDw1ReferenceIdeal.sig) → Buf (Elt Ideal) ℓ) (g : Dev Cert.UpDw1ReferenceIdeal.nD → PrngReg), Pre_UpDw1ReferenceIdeal m →
    θ_run (Cert.UpDw1ReferenceIdeal.defs (F := Ideal)) (onTc (τ := Cert.UpDw1ReferenceIdeal.τ) (Cert.UpDw1ReferenceIdeal.main (F := Ideal))) ⟨m, fun _ => 0, g⟩ (fun r => (∀ c : Dev Cert.UpDw1ReferenceIdeal.nD,
      r.2.mem ((c.tc : Thread Cert.UpDw1ReferenceIdeal.nD Cert.UpDw1ReferenceIdeal.τ).loc Cert.UpDw1ReferenceIdeal.main_arg0) = m ((c.tc : Thread Cert.UpDw1ReferenceIdeal.nD Cert.UpDw1ReferenceIdeal.τ).loc Cert.UpDw1ReferenceIdeal.main_arg0)
      ∧ r.2.mem ((c.tc : Thread Cert.UpDw1ReferenceIdeal.nD Cert.UpDw1ReferenceIdeal.τ).loc Cert.UpDw1ReferenceIdeal.main_arg1) = m ((c.tc : Thread Cert.UpDw1ReferenceIdeal.nD Cert.UpDw1ReferenceIdeal.τ).loc Cert.UpDw1ReferenceIdeal.main_arg1))
      ∧ r.2.sem = fun _ => 0)

def quiescent_ProjDw1Kernel [hProjDw1Kernel : Cert.ProjDw1Kernel.Facts] : Prop :=
  ∀ (m : (ℓ : Loc Cert.ProjDw1Kernel.nD Cert.ProjDw1Kernel.τ Cert.ProjDw1Kernel.sig) → Buf (Elt Bits) ℓ) (g : Dev Cert.ProjDw1Kernel.nD → PrngReg), Pre_ProjDw1Kernel m →
    θ_run (Cert.ProjDw1Kernel.defs (F := Bits)) (onTc (τ := Cert.ProjDw1Kernel.τ) (Cert.ProjDw1Kernel.main (F := Bits))) ⟨m, fun _ => 0, g⟩ (fun r => (∀ c : Dev Cert.ProjDw1Kernel.nD,
      r.2.mem ((c.tc : Thread Cert.ProjDw1Kernel.nD Cert.ProjDw1Kernel.τ).loc Cert.ProjDw1Kernel.main_arg0) = m ((c.tc : Thread Cert.ProjDw1Kernel.nD Cert.ProjDw1Kernel.τ).loc Cert.ProjDw1Kernel.main_arg0)
      ∧ r.2.mem ((c.tc : Thread Cert.ProjDw1Kernel.nD Cert.ProjDw1Kernel.τ).loc Cert.ProjDw1Kernel.main_arg1) = m ((c.tc : Thread Cert.ProjDw1Kernel.nD Cert.ProjDw1Kernel.τ).loc Cert.ProjDw1Kernel.main_arg1)
      ∧ r.2.mem ((c.tc : Thread Cert.ProjDw1Kernel.nD Cert.ProjDw1Kernel.τ).loc Cert.ProjDw1Kernel.main_arg2) = m ((c.tc : Thread Cert.ProjDw1Kernel.nD Cert.ProjDw1Kernel.τ).loc Cert.ProjDw1Kernel.main_arg2)
      ∧ r.2.mem ((c.tc : Thread Cert.ProjDw1Kernel.nD Cert.ProjDw1Kernel.τ).loc Cert.ProjDw1Kernel.main_arg3) = m ((c.tc : Thread Cert.ProjDw1Kernel.nD Cert.ProjDw1Kernel.τ).loc Cert.ProjDw1Kernel.main_arg3))
      ∧ r.2.sem = fun _ => 0)

def quiescent_ProjDw1KernelIdeal [hProjDw1KernelIdeal : Cert.ProjDw1KernelIdeal.Facts] : Prop :=
  ∀ (m : (ℓ : Loc Cert.ProjDw1KernelIdeal.nD Cert.ProjDw1KernelIdeal.τ Cert.ProjDw1KernelIdeal.sig) → Buf (Elt Ideal) ℓ) (g : Dev Cert.ProjDw1KernelIdeal.nD → PrngReg), Pre_ProjDw1KernelIdeal m →
    θ_run (Cert.ProjDw1KernelIdeal.defs (F := Ideal)) (onTc (τ := Cert.ProjDw1KernelIdeal.τ) (Cert.ProjDw1KernelIdeal.main (F := Ideal))) ⟨m, fun _ => 0, g⟩ (fun r => (∀ c : Dev Cert.ProjDw1KernelIdeal.nD,
      r.2.mem ((c.tc : Thread Cert.ProjDw1KernelIdeal.nD Cert.ProjDw1KernelIdeal.τ).loc Cert.ProjDw1KernelIdeal.main_arg0) = m ((c.tc : Thread Cert.ProjDw1KernelIdeal.nD Cert.ProjDw1KernelIdeal.τ).loc Cert.ProjDw1KernelIdeal.main_arg0)
      ∧ r.2.mem ((c.tc : Thread Cert.ProjDw1KernelIdeal.nD Cert.ProjDw1KernelIdeal.τ).loc Cert.ProjDw1KernelIdeal.main_arg1) = m ((c.tc : Thread Cert.ProjDw1KernelIdeal.nD Cert.ProjDw1KernelIdeal.τ).loc Cert.ProjDw1KernelIdeal.main_arg1)
      ∧ r.2.mem ((c.tc : Thread Cert.ProjDw1KernelIdeal.nD Cert.ProjDw1KernelIdeal.τ).loc Cert.ProjDw1KernelIdeal.main_arg2) = m ((c.tc : Thread Cert.ProjDw1KernelIdeal.nD Cert.ProjDw1KernelIdeal.τ).loc Cert.ProjDw1KernelIdeal.main_arg2)
      ∧ r.2.mem ((c.tc : Thread Cert.ProjDw1KernelIdeal.nD Cert.ProjDw1KernelIdeal.τ).loc Cert.ProjDw1KernelIdeal.main_arg3) = m ((c.tc : Thread Cert.ProjDw1KernelIdeal.nD Cert.ProjDw1KernelIdeal.τ).loc Cert.ProjDw1KernelIdeal.main_arg3))
      ∧ r.2.sem = fun _ => 0)

def quiescent_ProjDw1ReferenceIdeal [hProjDw1ReferenceIdeal : Cert.ProjDw1ReferenceIdeal.Facts] : Prop :=
  ∀ (m : (ℓ : Loc Cert.ProjDw1ReferenceIdeal.nD Cert.ProjDw1ReferenceIdeal.τ Cert.ProjDw1ReferenceIdeal.sig) → Buf (Elt Ideal) ℓ) (g : Dev Cert.ProjDw1ReferenceIdeal.nD → PrngReg), Pre_ProjDw1ReferenceIdeal m →
    θ_run (Cert.ProjDw1ReferenceIdeal.defs (F := Ideal)) (onTc (τ := Cert.ProjDw1ReferenceIdeal.τ) (Cert.ProjDw1ReferenceIdeal.main (F := Ideal))) ⟨m, fun _ => 0, g⟩ (fun r => (∀ c : Dev Cert.ProjDw1ReferenceIdeal.nD,
      r.2.mem ((c.tc : Thread Cert.ProjDw1ReferenceIdeal.nD Cert.ProjDw1ReferenceIdeal.τ).loc Cert.ProjDw1ReferenceIdeal.main_arg0) = m ((c.tc : Thread Cert.ProjDw1ReferenceIdeal.nD Cert.ProjDw1ReferenceIdeal.τ).loc Cert.ProjDw1ReferenceIdeal.main_arg0)
      ∧ r.2.mem ((c.tc : Thread Cert.ProjDw1ReferenceIdeal.nD Cert.ProjDw1ReferenceIdeal.τ).loc Cert.ProjDw1ReferenceIdeal.main_arg1) = m ((c.tc : Thread Cert.ProjDw1ReferenceIdeal.nD Cert.ProjDw1ReferenceIdeal.τ).loc Cert.ProjDw1ReferenceIdeal.main_arg1)
      ∧ r.2.mem ((c.tc : Thread Cert.ProjDw1ReferenceIdeal.nD Cert.ProjDw1ReferenceIdeal.τ).loc Cert.ProjDw1ReferenceIdeal.main_arg2) = m ((c.tc : Thread Cert.ProjDw1ReferenceIdeal.nD Cert.ProjDw1ReferenceIdeal.τ).loc Cert.ProjDw1ReferenceIdeal.main_arg2)
      ∧ r.2.mem ((c.tc : Thread Cert.ProjDw1ReferenceIdeal.nD Cert.ProjDw1ReferenceIdeal.τ).loc Cert.ProjDw1ReferenceIdeal.main_arg3) = m ((c.tc : Thread Cert.ProjDw1ReferenceIdeal.nD Cert.ProjDw1ReferenceIdeal.τ).loc Cert.ProjDw1ReferenceIdeal.main_arg3))
      ∧ r.2.sem = fun _ => 0)

def quiescent_AttnOut1Kernel [hAttnOut1Kernel : Cert.AttnOut1Kernel.Facts] : Prop :=
  ∀ (m : (ℓ : Loc Cert.AttnOut1Kernel.nD Cert.AttnOut1Kernel.τ Cert.AttnOut1Kernel.sig) → Buf (Elt Bits) ℓ) (g : Dev Cert.AttnOut1Kernel.nD → PrngReg), Pre_AttnOut1Kernel m →
    θ_run (Cert.AttnOut1Kernel.defs (F := Bits)) (onTc (τ := Cert.AttnOut1Kernel.τ) (Cert.AttnOut1Kernel.main (F := Bits))) ⟨m, fun _ => 0, g⟩ (fun r => (∀ c : Dev Cert.AttnOut1Kernel.nD,
      r.2.mem ((c.tc : Thread Cert.AttnOut1Kernel.nD Cert.AttnOut1Kernel.τ).loc Cert.AttnOut1Kernel.main_arg0) = m ((c.tc : Thread Cert.AttnOut1Kernel.nD Cert.AttnOut1Kernel.τ).loc Cert.AttnOut1Kernel.main_arg0)
      ∧ r.2.mem ((c.tc : Thread Cert.AttnOut1Kernel.nD Cert.AttnOut1Kernel.τ).loc Cert.AttnOut1Kernel.main_arg1) = m ((c.tc : Thread Cert.AttnOut1Kernel.nD Cert.AttnOut1Kernel.τ).loc Cert.AttnOut1Kernel.main_arg1))
      ∧ r.2.sem = fun _ => 0)

def quiescent_AttnOut1KernelIdeal [hAttnOut1KernelIdeal : Cert.AttnOut1KernelIdeal.Facts] : Prop :=
  ∀ (m : (ℓ : Loc Cert.AttnOut1KernelIdeal.nD Cert.AttnOut1KernelIdeal.τ Cert.AttnOut1KernelIdeal.sig) → Buf (Elt Ideal) ℓ) (g : Dev Cert.AttnOut1KernelIdeal.nD → PrngReg), Pre_AttnOut1KernelIdeal m →
    θ_run (Cert.AttnOut1KernelIdeal.defs (F := Ideal)) (onTc (τ := Cert.AttnOut1KernelIdeal.τ) (Cert.AttnOut1KernelIdeal.main (F := Ideal))) ⟨m, fun _ => 0, g⟩ (fun r => (∀ c : Dev Cert.AttnOut1KernelIdeal.nD,
      r.2.mem ((c.tc : Thread Cert.AttnOut1KernelIdeal.nD Cert.AttnOut1KernelIdeal.τ).loc Cert.AttnOut1KernelIdeal.main_arg0) = m ((c.tc : Thread Cert.AttnOut1KernelIdeal.nD Cert.AttnOut1KernelIdeal.τ).loc Cert.AttnOut1KernelIdeal.main_arg0)
      ∧ r.2.mem ((c.tc : Thread Cert.AttnOut1KernelIdeal.nD Cert.AttnOut1KernelIdeal.τ).loc Cert.AttnOut1KernelIdeal.main_arg1) = m ((c.tc : Thread Cert.AttnOut1KernelIdeal.nD Cert.AttnOut1KernelIdeal.τ).loc Cert.AttnOut1KernelIdeal.main_arg1))
      ∧ r.2.sem = fun _ => 0)

def quiescent_AttnOut1ReferenceIdeal [hAttnOut1ReferenceIdeal : Cert.AttnOut1ReferenceIdeal.Facts] : Prop :=
  ∀ (m : (ℓ : Loc Cert.AttnOut1ReferenceIdeal.nD Cert.AttnOut1ReferenceIdeal.τ Cert.AttnOut1ReferenceIdeal.sig) → Buf (Elt Ideal) ℓ) (g : Dev Cert.AttnOut1ReferenceIdeal.nD → PrngReg), Pre_AttnOut1ReferenceIdeal m →
    θ_run (Cert.AttnOut1ReferenceIdeal.defs (F := Ideal)) (onTc (τ := Cert.AttnOut1ReferenceIdeal.τ) (Cert.AttnOut1ReferenceIdeal.main (F := Ideal))) ⟨m, fun _ => 0, g⟩ (fun r => (∀ c : Dev Cert.AttnOut1ReferenceIdeal.nD,
      r.2.mem ((c.tc : Thread Cert.AttnOut1ReferenceIdeal.nD Cert.AttnOut1ReferenceIdeal.τ).loc Cert.AttnOut1ReferenceIdeal.main_arg0) = m ((c.tc : Thread Cert.AttnOut1ReferenceIdeal.nD Cert.AttnOut1ReferenceIdeal.τ).loc Cert.AttnOut1ReferenceIdeal.main_arg0)
      ∧ r.2.mem ((c.tc : Thread Cert.AttnOut1ReferenceIdeal.nD Cert.AttnOut1ReferenceIdeal.τ).loc Cert.AttnOut1ReferenceIdeal.main_arg1) = m ((c.tc : Thread Cert.AttnOut1ReferenceIdeal.nD Cert.AttnOut1ReferenceIdeal.τ).loc Cert.AttnOut1ReferenceIdeal.main_arg1))
      ∧ r.2.sem = fun _ => 0)

def quiescent_AttnOut0Kernel [hAttnOut0Kernel : Cert.AttnOut0Kernel.Facts] : Prop :=
  ∀ (m : (ℓ : Loc Cert.AttnOut0Kernel.nD Cert.AttnOut0Kernel.τ Cert.AttnOut0Kernel.sig) → Buf (Elt Bits) ℓ) (g : Dev Cert.AttnOut0Kernel.nD → PrngReg), Pre_AttnOut0Kernel m →
    θ_run (Cert.AttnOut0Kernel.defs (F := Bits)) (onTc (τ := Cert.AttnOut0Kernel.τ) (Cert.AttnOut0Kernel.main (F := Bits))) ⟨m, fun _ => 0, g⟩ (fun r => (∀ c : Dev Cert.AttnOut0Kernel.nD,
      r.2.mem ((c.tc : Thread Cert.AttnOut0Kernel.nD Cert.AttnOut0Kernel.τ).loc Cert.AttnOut0Kernel.main_arg0) = m ((c.tc : Thread Cert.AttnOut0Kernel.nD Cert.AttnOut0Kernel.τ).loc Cert.AttnOut0Kernel.main_arg0)
      ∧ r.2.mem ((c.tc : Thread Cert.AttnOut0Kernel.nD Cert.AttnOut0Kernel.τ).loc Cert.AttnOut0Kernel.main_arg1) = m ((c.tc : Thread Cert.AttnOut0Kernel.nD Cert.AttnOut0Kernel.τ).loc Cert.AttnOut0Kernel.main_arg1))
      ∧ r.2.sem = fun _ => 0)

def quiescent_AttnOut0KernelIdeal [hAttnOut0KernelIdeal : Cert.AttnOut0KernelIdeal.Facts] : Prop :=
  ∀ (m : (ℓ : Loc Cert.AttnOut0KernelIdeal.nD Cert.AttnOut0KernelIdeal.τ Cert.AttnOut0KernelIdeal.sig) → Buf (Elt Ideal) ℓ) (g : Dev Cert.AttnOut0KernelIdeal.nD → PrngReg), Pre_AttnOut0KernelIdeal m →
    θ_run (Cert.AttnOut0KernelIdeal.defs (F := Ideal)) (onTc (τ := Cert.AttnOut0KernelIdeal.τ) (Cert.AttnOut0KernelIdeal.main (F := Ideal))) ⟨m, fun _ => 0, g⟩ (fun r => (∀ c : Dev Cert.AttnOut0KernelIdeal.nD,
      r.2.mem ((c.tc : Thread Cert.AttnOut0KernelIdeal.nD Cert.AttnOut0KernelIdeal.τ).loc Cert.AttnOut0KernelIdeal.main_arg0) = m ((c.tc : Thread Cert.AttnOut0KernelIdeal.nD Cert.AttnOut0KernelIdeal.τ).loc Cert.AttnOut0KernelIdeal.main_arg0)
      ∧ r.2.mem ((c.tc : Thread Cert.AttnOut0KernelIdeal.nD Cert.AttnOut0KernelIdeal.τ).loc Cert.AttnOut0KernelIdeal.main_arg1) = m ((c.tc : Thread Cert.AttnOut0KernelIdeal.nD Cert.AttnOut0KernelIdeal.τ).loc Cert.AttnOut0KernelIdeal.main_arg1))
      ∧ r.2.sem = fun _ => 0)

def quiescent_AttnOut0ReferenceIdeal [hAttnOut0ReferenceIdeal : Cert.AttnOut0ReferenceIdeal.Facts] : Prop :=
  ∀ (m : (ℓ : Loc Cert.AttnOut0ReferenceIdeal.nD Cert.AttnOut0ReferenceIdeal.τ Cert.AttnOut0ReferenceIdeal.sig) → Buf (Elt Ideal) ℓ) (g : Dev Cert.AttnOut0ReferenceIdeal.nD → PrngReg), Pre_AttnOut0ReferenceIdeal m →
    θ_run (Cert.AttnOut0ReferenceIdeal.defs (F := Ideal)) (onTc (τ := Cert.AttnOut0ReferenceIdeal.τ) (Cert.AttnOut0ReferenceIdeal.main (F := Ideal))) ⟨m, fun _ => 0, g⟩ (fun r => (∀ c : Dev Cert.AttnOut0ReferenceIdeal.nD,
      r.2.mem ((c.tc : Thread Cert.AttnOut0ReferenceIdeal.nD Cert.AttnOut0ReferenceIdeal.τ).loc Cert.AttnOut0ReferenceIdeal.main_arg0) = m ((c.tc : Thread Cert.AttnOut0ReferenceIdeal.nD Cert.AttnOut0ReferenceIdeal.τ).loc Cert.AttnOut0ReferenceIdeal.main_arg0)
      ∧ r.2.mem ((c.tc : Thread Cert.AttnOut0ReferenceIdeal.nD Cert.AttnOut0ReferenceIdeal.τ).loc Cert.AttnOut0ReferenceIdeal.main_arg1) = m ((c.tc : Thread Cert.AttnOut0ReferenceIdeal.nD Cert.AttnOut0ReferenceIdeal.τ).loc Cert.AttnOut0ReferenceIdeal.main_arg1))
      ∧ r.2.sem = fun _ => 0)

def quiescent_AttnOutDx1Kernel [hAttnOutDx1Kernel : Cert.AttnOutDx1Kernel.Facts] : Prop :=
  ∀ (m : (ℓ : Loc Cert.AttnOutDx1Kernel.nD Cert.AttnOutDx1Kernel.τ Cert.AttnOutDx1Kernel.sig) → Buf (Elt Bits) ℓ) (g : Dev Cert.AttnOutDx1Kernel.nD → PrngReg), Pre_AttnOutDx1Kernel m →
    θ_run (Cert.AttnOutDx1Kernel.defs (F := Bits)) (onTc (τ := Cert.AttnOutDx1Kernel.τ) (Cert.AttnOutDx1Kernel.main (F := Bits))) ⟨m, fun _ => 0, g⟩ (fun r => (∀ c : Dev Cert.AttnOutDx1Kernel.nD,
      r.2.mem ((c.tc : Thread Cert.AttnOutDx1Kernel.nD Cert.AttnOutDx1Kernel.τ).loc Cert.AttnOutDx1Kernel.main_arg0) = m ((c.tc : Thread Cert.AttnOutDx1Kernel.nD Cert.AttnOutDx1Kernel.τ).loc Cert.AttnOutDx1Kernel.main_arg0)
      ∧ r.2.mem ((c.tc : Thread Cert.AttnOutDx1Kernel.nD Cert.AttnOutDx1Kernel.τ).loc Cert.AttnOutDx1Kernel.main_arg1) = m ((c.tc : Thread Cert.AttnOutDx1Kernel.nD Cert.AttnOutDx1Kernel.τ).loc Cert.AttnOutDx1Kernel.main_arg1))
      ∧ r.2.sem = fun _ => 0)

def quiescent_AttnOutDx1KernelIdeal [hAttnOutDx1KernelIdeal : Cert.AttnOutDx1KernelIdeal.Facts] : Prop :=
  ∀ (m : (ℓ : Loc Cert.AttnOutDx1KernelIdeal.nD Cert.AttnOutDx1KernelIdeal.τ Cert.AttnOutDx1KernelIdeal.sig) → Buf (Elt Ideal) ℓ) (g : Dev Cert.AttnOutDx1KernelIdeal.nD → PrngReg), Pre_AttnOutDx1KernelIdeal m →
    θ_run (Cert.AttnOutDx1KernelIdeal.defs (F := Ideal)) (onTc (τ := Cert.AttnOutDx1KernelIdeal.τ) (Cert.AttnOutDx1KernelIdeal.main (F := Ideal))) ⟨m, fun _ => 0, g⟩ (fun r => (∀ c : Dev Cert.AttnOutDx1KernelIdeal.nD,
      r.2.mem ((c.tc : Thread Cert.AttnOutDx1KernelIdeal.nD Cert.AttnOutDx1KernelIdeal.τ).loc Cert.AttnOutDx1KernelIdeal.main_arg0) = m ((c.tc : Thread Cert.AttnOutDx1KernelIdeal.nD Cert.AttnOutDx1KernelIdeal.τ).loc Cert.AttnOutDx1KernelIdeal.main_arg0)
      ∧ r.2.mem ((c.tc : Thread Cert.AttnOutDx1KernelIdeal.nD Cert.AttnOutDx1KernelIdeal.τ).loc Cert.AttnOutDx1KernelIdeal.main_arg1) = m ((c.tc : Thread Cert.AttnOutDx1KernelIdeal.nD Cert.AttnOutDx1KernelIdeal.τ).loc Cert.AttnOutDx1KernelIdeal.main_arg1))
      ∧ r.2.sem = fun _ => 0)

def quiescent_AttnOutDx1ReferenceIdeal [hAttnOutDx1ReferenceIdeal : Cert.AttnOutDx1ReferenceIdeal.Facts] : Prop :=
  ∀ (m : (ℓ : Loc Cert.AttnOutDx1ReferenceIdeal.nD Cert.AttnOutDx1ReferenceIdeal.τ Cert.AttnOutDx1ReferenceIdeal.sig) → Buf (Elt Ideal) ℓ) (g : Dev Cert.AttnOutDx1ReferenceIdeal.nD → PrngReg), Pre_AttnOutDx1ReferenceIdeal m →
    θ_run (Cert.AttnOutDx1ReferenceIdeal.defs (F := Ideal)) (onTc (τ := Cert.AttnOutDx1ReferenceIdeal.τ) (Cert.AttnOutDx1ReferenceIdeal.main (F := Ideal))) ⟨m, fun _ => 0, g⟩ (fun r => (∀ c : Dev Cert.AttnOutDx1ReferenceIdeal.nD,
      r.2.mem ((c.tc : Thread Cert.AttnOutDx1ReferenceIdeal.nD Cert.AttnOutDx1ReferenceIdeal.τ).loc Cert.AttnOutDx1ReferenceIdeal.main_arg0) = m ((c.tc : Thread Cert.AttnOutDx1ReferenceIdeal.nD Cert.AttnOutDx1ReferenceIdeal.τ).loc Cert.AttnOutDx1ReferenceIdeal.main_arg0)
      ∧ r.2.mem ((c.tc : Thread Cert.AttnOutDx1ReferenceIdeal.nD Cert.AttnOutDx1ReferenceIdeal.τ).loc Cert.AttnOutDx1ReferenceIdeal.main_arg1) = m ((c.tc : Thread Cert.AttnOutDx1ReferenceIdeal.nD Cert.AttnOutDx1ReferenceIdeal.τ).loc Cert.AttnOutDx1ReferenceIdeal.main_arg1))
      ∧ r.2.sem = fun _ => 0)

def quiescent_AttnOutDx0Kernel [hAttnOutDx0Kernel : Cert.AttnOutDx0Kernel.Facts] : Prop :=
  ∀ (m : (ℓ : Loc Cert.AttnOutDx0Kernel.nD Cert.AttnOutDx0Kernel.τ Cert.AttnOutDx0Kernel.sig) → Buf (Elt Bits) ℓ) (g : Dev Cert.AttnOutDx0Kernel.nD → PrngReg), Pre_AttnOutDx0Kernel m →
    θ_run (Cert.AttnOutDx0Kernel.defs (F := Bits)) (onTc (τ := Cert.AttnOutDx0Kernel.τ) (Cert.AttnOutDx0Kernel.main (F := Bits))) ⟨m, fun _ => 0, g⟩ (fun r => (∀ c : Dev Cert.AttnOutDx0Kernel.nD,
      r.2.mem ((c.tc : Thread Cert.AttnOutDx0Kernel.nD Cert.AttnOutDx0Kernel.τ).loc Cert.AttnOutDx0Kernel.main_arg0) = m ((c.tc : Thread Cert.AttnOutDx0Kernel.nD Cert.AttnOutDx0Kernel.τ).loc Cert.AttnOutDx0Kernel.main_arg0)
      ∧ r.2.mem ((c.tc : Thread Cert.AttnOutDx0Kernel.nD Cert.AttnOutDx0Kernel.τ).loc Cert.AttnOutDx0Kernel.main_arg1) = m ((c.tc : Thread Cert.AttnOutDx0Kernel.nD Cert.AttnOutDx0Kernel.τ).loc Cert.AttnOutDx0Kernel.main_arg1))
      ∧ r.2.sem = fun _ => 0)

def quiescent_AttnOutDx0KernelIdeal [hAttnOutDx0KernelIdeal : Cert.AttnOutDx0KernelIdeal.Facts] : Prop :=
  ∀ (m : (ℓ : Loc Cert.AttnOutDx0KernelIdeal.nD Cert.AttnOutDx0KernelIdeal.τ Cert.AttnOutDx0KernelIdeal.sig) → Buf (Elt Ideal) ℓ) (g : Dev Cert.AttnOutDx0KernelIdeal.nD → PrngReg), Pre_AttnOutDx0KernelIdeal m →
    θ_run (Cert.AttnOutDx0KernelIdeal.defs (F := Ideal)) (onTc (τ := Cert.AttnOutDx0KernelIdeal.τ) (Cert.AttnOutDx0KernelIdeal.main (F := Ideal))) ⟨m, fun _ => 0, g⟩ (fun r => (∀ c : Dev Cert.AttnOutDx0KernelIdeal.nD,
      r.2.mem ((c.tc : Thread Cert.AttnOutDx0KernelIdeal.nD Cert.AttnOutDx0KernelIdeal.τ).loc Cert.AttnOutDx0KernelIdeal.main_arg0) = m ((c.tc : Thread Cert.AttnOutDx0KernelIdeal.nD Cert.AttnOutDx0KernelIdeal.τ).loc Cert.AttnOutDx0KernelIdeal.main_arg0)
      ∧ r.2.mem ((c.tc : Thread Cert.AttnOutDx0KernelIdeal.nD Cert.AttnOutDx0KernelIdeal.τ).loc Cert.AttnOutDx0KernelIdeal.main_arg1) = m ((c.tc : Thread Cert.AttnOutDx0KernelIdeal.nD Cert.AttnOutDx0KernelIdeal.τ).loc Cert.AttnOutDx0KernelIdeal.main_arg1))
      ∧ r.2.sem = fun _ => 0)

def quiescent_AttnOutDx0ReferenceIdeal [hAttnOutDx0ReferenceIdeal : Cert.AttnOutDx0ReferenceIdeal.Facts] : Prop :=
  ∀ (m : (ℓ : Loc Cert.AttnOutDx0ReferenceIdeal.nD Cert.AttnOutDx0ReferenceIdeal.τ Cert.AttnOutDx0ReferenceIdeal.sig) → Buf (Elt Ideal) ℓ) (g : Dev Cert.AttnOutDx0ReferenceIdeal.nD → PrngReg), Pre_AttnOutDx0ReferenceIdeal m →
    θ_run (Cert.AttnOutDx0ReferenceIdeal.defs (F := Ideal)) (onTc (τ := Cert.AttnOutDx0ReferenceIdeal.τ) (Cert.AttnOutDx0ReferenceIdeal.main (F := Ideal))) ⟨m, fun _ => 0, g⟩ (fun r => (∀ c : Dev Cert.AttnOutDx0ReferenceIdeal.nD,
      r.2.mem ((c.tc : Thread Cert.AttnOutDx0ReferenceIdeal.nD Cert.AttnOutDx0ReferenceIdeal.τ).loc Cert.AttnOutDx0ReferenceIdeal.main_arg0) = m ((c.tc : Thread Cert.AttnOutDx0ReferenceIdeal.nD Cert.AttnOutDx0ReferenceIdeal.τ).loc Cert.AttnOutDx0ReferenceIdeal.main_arg0)
      ∧ r.2.mem ((c.tc : Thread Cert.AttnOutDx0ReferenceIdeal.nD Cert.AttnOutDx0ReferenceIdeal.τ).loc Cert.AttnOutDx0ReferenceIdeal.main_arg1) = m ((c.tc : Thread Cert.AttnOutDx0ReferenceIdeal.nD Cert.AttnOutDx0ReferenceIdeal.τ).loc Cert.AttnOutDx0ReferenceIdeal.main_arg1))
      ∧ r.2.sem = fun _ => 0)

def quiescent_AttnOutDw1Kernel [hAttnOutDw1Kernel : Cert.AttnOutDw1Kernel.Facts] : Prop :=
  ∀ (m : (ℓ : Loc Cert.AttnOutDw1Kernel.nD Cert.AttnOutDw1Kernel.τ Cert.AttnOutDw1Kernel.sig) → Buf (Elt Bits) ℓ) (g : Dev Cert.AttnOutDw1Kernel.nD → PrngReg), Pre_AttnOutDw1Kernel m →
    θ_run (Cert.AttnOutDw1Kernel.defs (F := Bits)) (onTc (τ := Cert.AttnOutDw1Kernel.τ) (Cert.AttnOutDw1Kernel.main (F := Bits))) ⟨m, fun _ => 0, g⟩ (fun r => (∀ c : Dev Cert.AttnOutDw1Kernel.nD,
      r.2.mem ((c.tc : Thread Cert.AttnOutDw1Kernel.nD Cert.AttnOutDw1Kernel.τ).loc Cert.AttnOutDw1Kernel.main_arg0) = m ((c.tc : Thread Cert.AttnOutDw1Kernel.nD Cert.AttnOutDw1Kernel.τ).loc Cert.AttnOutDw1Kernel.main_arg0)
      ∧ r.2.mem ((c.tc : Thread Cert.AttnOutDw1Kernel.nD Cert.AttnOutDw1Kernel.τ).loc Cert.AttnOutDw1Kernel.main_arg1) = m ((c.tc : Thread Cert.AttnOutDw1Kernel.nD Cert.AttnOutDw1Kernel.τ).loc Cert.AttnOutDw1Kernel.main_arg1))
      ∧ r.2.sem = fun _ => 0)

def quiescent_AttnOutDw1KernelIdeal [hAttnOutDw1KernelIdeal : Cert.AttnOutDw1KernelIdeal.Facts] : Prop :=
  ∀ (m : (ℓ : Loc Cert.AttnOutDw1KernelIdeal.nD Cert.AttnOutDw1KernelIdeal.τ Cert.AttnOutDw1KernelIdeal.sig) → Buf (Elt Ideal) ℓ) (g : Dev Cert.AttnOutDw1KernelIdeal.nD → PrngReg), Pre_AttnOutDw1KernelIdeal m →
    θ_run (Cert.AttnOutDw1KernelIdeal.defs (F := Ideal)) (onTc (τ := Cert.AttnOutDw1KernelIdeal.τ) (Cert.AttnOutDw1KernelIdeal.main (F := Ideal))) ⟨m, fun _ => 0, g⟩ (fun r => (∀ c : Dev Cert.AttnOutDw1KernelIdeal.nD,
      r.2.mem ((c.tc : Thread Cert.AttnOutDw1KernelIdeal.nD Cert.AttnOutDw1KernelIdeal.τ).loc Cert.AttnOutDw1KernelIdeal.main_arg0) = m ((c.tc : Thread Cert.AttnOutDw1KernelIdeal.nD Cert.AttnOutDw1KernelIdeal.τ).loc Cert.AttnOutDw1KernelIdeal.main_arg0)
      ∧ r.2.mem ((c.tc : Thread Cert.AttnOutDw1KernelIdeal.nD Cert.AttnOutDw1KernelIdeal.τ).loc Cert.AttnOutDw1KernelIdeal.main_arg1) = m ((c.tc : Thread Cert.AttnOutDw1KernelIdeal.nD Cert.AttnOutDw1KernelIdeal.τ).loc Cert.AttnOutDw1KernelIdeal.main_arg1))
      ∧ r.2.sem = fun _ => 0)

def quiescent_AttnOutDw1ReferenceIdeal [hAttnOutDw1ReferenceIdeal : Cert.AttnOutDw1ReferenceIdeal.Facts] : Prop :=
  ∀ (m : (ℓ : Loc Cert.AttnOutDw1ReferenceIdeal.nD Cert.AttnOutDw1ReferenceIdeal.τ Cert.AttnOutDw1ReferenceIdeal.sig) → Buf (Elt Ideal) ℓ) (g : Dev Cert.AttnOutDw1ReferenceIdeal.nD → PrngReg), Pre_AttnOutDw1ReferenceIdeal m →
    θ_run (Cert.AttnOutDw1ReferenceIdeal.defs (F := Ideal)) (onTc (τ := Cert.AttnOutDw1ReferenceIdeal.τ) (Cert.AttnOutDw1ReferenceIdeal.main (F := Ideal))) ⟨m, fun _ => 0, g⟩ (fun r => (∀ c : Dev Cert.AttnOutDw1ReferenceIdeal.nD,
      r.2.mem ((c.tc : Thread Cert.AttnOutDw1ReferenceIdeal.nD Cert.AttnOutDw1ReferenceIdeal.τ).loc Cert.AttnOutDw1ReferenceIdeal.main_arg0) = m ((c.tc : Thread Cert.AttnOutDw1ReferenceIdeal.nD Cert.AttnOutDw1ReferenceIdeal.τ).loc Cert.AttnOutDw1ReferenceIdeal.main_arg0)
      ∧ r.2.mem ((c.tc : Thread Cert.AttnOutDw1ReferenceIdeal.nD Cert.AttnOutDw1ReferenceIdeal.τ).loc Cert.AttnOutDw1ReferenceIdeal.main_arg1) = m ((c.tc : Thread Cert.AttnOutDw1ReferenceIdeal.nD Cert.AttnOutDw1ReferenceIdeal.τ).loc Cert.AttnOutDw1ReferenceIdeal.main_arg1))
      ∧ r.2.sem = fun _ => 0)

def quiescent_AttnOutDw0Kernel [hAttnOutDw0Kernel : Cert.AttnOutDw0Kernel.Facts] : Prop :=
  ∀ (m : (ℓ : Loc Cert.AttnOutDw0Kernel.nD Cert.AttnOutDw0Kernel.τ Cert.AttnOutDw0Kernel.sig) → Buf (Elt Bits) ℓ) (g : Dev Cert.AttnOutDw0Kernel.nD → PrngReg), Pre_AttnOutDw0Kernel m →
    θ_run (Cert.AttnOutDw0Kernel.defs (F := Bits)) (onTc (τ := Cert.AttnOutDw0Kernel.τ) (Cert.AttnOutDw0Kernel.main (F := Bits))) ⟨m, fun _ => 0, g⟩ (fun r => (∀ c : Dev Cert.AttnOutDw0Kernel.nD,
      r.2.mem ((c.tc : Thread Cert.AttnOutDw0Kernel.nD Cert.AttnOutDw0Kernel.τ).loc Cert.AttnOutDw0Kernel.main_arg0) = m ((c.tc : Thread Cert.AttnOutDw0Kernel.nD Cert.AttnOutDw0Kernel.τ).loc Cert.AttnOutDw0Kernel.main_arg0)
      ∧ r.2.mem ((c.tc : Thread Cert.AttnOutDw0Kernel.nD Cert.AttnOutDw0Kernel.τ).loc Cert.AttnOutDw0Kernel.main_arg1) = m ((c.tc : Thread Cert.AttnOutDw0Kernel.nD Cert.AttnOutDw0Kernel.τ).loc Cert.AttnOutDw0Kernel.main_arg1)
      ∧ r.2.mem ((c.tc : Thread Cert.AttnOutDw0Kernel.nD Cert.AttnOutDw0Kernel.τ).loc Cert.AttnOutDw0Kernel.main_arg2) = m ((c.tc : Thread Cert.AttnOutDw0Kernel.nD Cert.AttnOutDw0Kernel.τ).loc Cert.AttnOutDw0Kernel.main_arg2))
      ∧ r.2.sem = fun _ => 0)

def quiescent_AttnOutDw0KernelIdeal [hAttnOutDw0KernelIdeal : Cert.AttnOutDw0KernelIdeal.Facts] : Prop :=
  ∀ (m : (ℓ : Loc Cert.AttnOutDw0KernelIdeal.nD Cert.AttnOutDw0KernelIdeal.τ Cert.AttnOutDw0KernelIdeal.sig) → Buf (Elt Ideal) ℓ) (g : Dev Cert.AttnOutDw0KernelIdeal.nD → PrngReg), Pre_AttnOutDw0KernelIdeal m →
    θ_run (Cert.AttnOutDw0KernelIdeal.defs (F := Ideal)) (onTc (τ := Cert.AttnOutDw0KernelIdeal.τ) (Cert.AttnOutDw0KernelIdeal.main (F := Ideal))) ⟨m, fun _ => 0, g⟩ (fun r => (∀ c : Dev Cert.AttnOutDw0KernelIdeal.nD,
      r.2.mem ((c.tc : Thread Cert.AttnOutDw0KernelIdeal.nD Cert.AttnOutDw0KernelIdeal.τ).loc Cert.AttnOutDw0KernelIdeal.main_arg0) = m ((c.tc : Thread Cert.AttnOutDw0KernelIdeal.nD Cert.AttnOutDw0KernelIdeal.τ).loc Cert.AttnOutDw0KernelIdeal.main_arg0)
      ∧ r.2.mem ((c.tc : Thread Cert.AttnOutDw0KernelIdeal.nD Cert.AttnOutDw0KernelIdeal.τ).loc Cert.AttnOutDw0KernelIdeal.main_arg1) = m ((c.tc : Thread Cert.AttnOutDw0KernelIdeal.nD Cert.AttnOutDw0KernelIdeal.τ).loc Cert.AttnOutDw0KernelIdeal.main_arg1)
      ∧ r.2.mem ((c.tc : Thread Cert.AttnOutDw0KernelIdeal.nD Cert.AttnOutDw0KernelIdeal.τ).loc Cert.AttnOutDw0KernelIdeal.main_arg2) = m ((c.tc : Thread Cert.AttnOutDw0KernelIdeal.nD Cert.AttnOutDw0KernelIdeal.τ).loc Cert.AttnOutDw0KernelIdeal.main_arg2))
      ∧ r.2.sem = fun _ => 0)

def quiescent_AttnOutDw0ReferenceIdeal [hAttnOutDw0ReferenceIdeal : Cert.AttnOutDw0ReferenceIdeal.Facts] : Prop :=
  ∀ (m : (ℓ : Loc Cert.AttnOutDw0ReferenceIdeal.nD Cert.AttnOutDw0ReferenceIdeal.τ Cert.AttnOutDw0ReferenceIdeal.sig) → Buf (Elt Ideal) ℓ) (g : Dev Cert.AttnOutDw0ReferenceIdeal.nD → PrngReg), Pre_AttnOutDw0ReferenceIdeal m →
    θ_run (Cert.AttnOutDw0ReferenceIdeal.defs (F := Ideal)) (onTc (τ := Cert.AttnOutDw0ReferenceIdeal.τ) (Cert.AttnOutDw0ReferenceIdeal.main (F := Ideal))) ⟨m, fun _ => 0, g⟩ (fun r => (∀ c : Dev Cert.AttnOutDw0ReferenceIdeal.nD,
      r.2.mem ((c.tc : Thread Cert.AttnOutDw0ReferenceIdeal.nD Cert.AttnOutDw0ReferenceIdeal.τ).loc Cert.AttnOutDw0ReferenceIdeal.main_arg0) = m ((c.tc : Thread Cert.AttnOutDw0ReferenceIdeal.nD Cert.AttnOutDw0ReferenceIdeal.τ).loc Cert.AttnOutDw0ReferenceIdeal.main_arg0)
      ∧ r.2.mem ((c.tc : Thread Cert.AttnOutDw0ReferenceIdeal.nD Cert.AttnOutDw0ReferenceIdeal.τ).loc Cert.AttnOutDw0ReferenceIdeal.main_arg1) = m ((c.tc : Thread Cert.AttnOutDw0ReferenceIdeal.nD Cert.AttnOutDw0ReferenceIdeal.τ).loc Cert.AttnOutDw0ReferenceIdeal.main_arg1)
      ∧ r.2.mem ((c.tc : Thread Cert.AttnOutDw0ReferenceIdeal.nD Cert.AttnOutDw0ReferenceIdeal.τ).loc Cert.AttnOutDw0ReferenceIdeal.main_arg2) = m ((c.tc : Thread Cert.AttnOutDw0ReferenceIdeal.nD Cert.AttnOutDw0ReferenceIdeal.τ).loc Cert.AttnOutDw0ReferenceIdeal.main_arg2))
      ∧ r.2.sem = fun _ => 0)

def quiescent_PoolOut1Kernel [hPoolOut1Kernel : Cert.PoolOut1Kernel.Facts] : Prop :=
  ∀ (m : (ℓ : Loc Cert.PoolOut1Kernel.nD Cert.PoolOut1Kernel.τ Cert.PoolOut1Kernel.sig) → Buf (Elt Bits) ℓ) (g : Dev Cert.PoolOut1Kernel.nD → PrngReg), Pre_PoolOut1Kernel m →
    θ_run (Cert.PoolOut1Kernel.defs (F := Bits)) (onTc (τ := Cert.PoolOut1Kernel.τ) (Cert.PoolOut1Kernel.main (F := Bits))) ⟨m, fun _ => 0, g⟩ (fun r => (∀ c : Dev Cert.PoolOut1Kernel.nD,
      r.2.mem ((c.tc : Thread Cert.PoolOut1Kernel.nD Cert.PoolOut1Kernel.τ).loc Cert.PoolOut1Kernel.main_arg0) = m ((c.tc : Thread Cert.PoolOut1Kernel.nD Cert.PoolOut1Kernel.τ).loc Cert.PoolOut1Kernel.main_arg0)
      ∧ r.2.mem ((c.tc : Thread Cert.PoolOut1Kernel.nD Cert.PoolOut1Kernel.τ).loc Cert.PoolOut1Kernel.main_arg1) = m ((c.tc : Thread Cert.PoolOut1Kernel.nD Cert.PoolOut1Kernel.τ).loc Cert.PoolOut1Kernel.main_arg1))
      ∧ r.2.sem = fun _ => 0)

def quiescent_PoolOut1KernelIdeal [hPoolOut1KernelIdeal : Cert.PoolOut1KernelIdeal.Facts] : Prop :=
  ∀ (m : (ℓ : Loc Cert.PoolOut1KernelIdeal.nD Cert.PoolOut1KernelIdeal.τ Cert.PoolOut1KernelIdeal.sig) → Buf (Elt Ideal) ℓ) (g : Dev Cert.PoolOut1KernelIdeal.nD → PrngReg), Pre_PoolOut1KernelIdeal m →
    θ_run (Cert.PoolOut1KernelIdeal.defs (F := Ideal)) (onTc (τ := Cert.PoolOut1KernelIdeal.τ) (Cert.PoolOut1KernelIdeal.main (F := Ideal))) ⟨m, fun _ => 0, g⟩ (fun r => (∀ c : Dev Cert.PoolOut1KernelIdeal.nD,
      r.2.mem ((c.tc : Thread Cert.PoolOut1KernelIdeal.nD Cert.PoolOut1KernelIdeal.τ).loc Cert.PoolOut1KernelIdeal.main_arg0) = m ((c.tc : Thread Cert.PoolOut1KernelIdeal.nD Cert.PoolOut1KernelIdeal.τ).loc Cert.PoolOut1KernelIdeal.main_arg0)
      ∧ r.2.mem ((c.tc : Thread Cert.PoolOut1KernelIdeal.nD Cert.PoolOut1KernelIdeal.τ).loc Cert.PoolOut1KernelIdeal.main_arg1) = m ((c.tc : Thread Cert.PoolOut1KernelIdeal.nD Cert.PoolOut1KernelIdeal.τ).loc Cert.PoolOut1KernelIdeal.main_arg1))
      ∧ r.2.sem = fun _ => 0)

def quiescent_PoolOut1ReferenceIdeal [hPoolOut1ReferenceIdeal : Cert.PoolOut1ReferenceIdeal.Facts] : Prop :=
  ∀ (m : (ℓ : Loc Cert.PoolOut1ReferenceIdeal.nD Cert.PoolOut1ReferenceIdeal.τ Cert.PoolOut1ReferenceIdeal.sig) → Buf (Elt Ideal) ℓ) (g : Dev Cert.PoolOut1ReferenceIdeal.nD → PrngReg), Pre_PoolOut1ReferenceIdeal m →
    θ_run (Cert.PoolOut1ReferenceIdeal.defs (F := Ideal)) (onTc (τ := Cert.PoolOut1ReferenceIdeal.τ) (Cert.PoolOut1ReferenceIdeal.main (F := Ideal))) ⟨m, fun _ => 0, g⟩ (fun r => (∀ c : Dev Cert.PoolOut1ReferenceIdeal.nD,
      r.2.mem ((c.tc : Thread Cert.PoolOut1ReferenceIdeal.nD Cert.PoolOut1ReferenceIdeal.τ).loc Cert.PoolOut1ReferenceIdeal.main_arg0) = m ((c.tc : Thread Cert.PoolOut1ReferenceIdeal.nD Cert.PoolOut1ReferenceIdeal.τ).loc Cert.PoolOut1ReferenceIdeal.main_arg0)
      ∧ r.2.mem ((c.tc : Thread Cert.PoolOut1ReferenceIdeal.nD Cert.PoolOut1ReferenceIdeal.τ).loc Cert.PoolOut1ReferenceIdeal.main_arg1) = m ((c.tc : Thread Cert.PoolOut1ReferenceIdeal.nD Cert.PoolOut1ReferenceIdeal.τ).loc Cert.PoolOut1ReferenceIdeal.main_arg1))
      ∧ r.2.sem = fun _ => 0)

def quiescent_PoolOut0Kernel [hPoolOut0Kernel : Cert.PoolOut0Kernel.Facts] : Prop :=
  ∀ (m : (ℓ : Loc Cert.PoolOut0Kernel.nD Cert.PoolOut0Kernel.τ Cert.PoolOut0Kernel.sig) → Buf (Elt Bits) ℓ) (g : Dev Cert.PoolOut0Kernel.nD → PrngReg), Pre_PoolOut0Kernel m →
    θ_run (Cert.PoolOut0Kernel.defs (F := Bits)) (onTc (τ := Cert.PoolOut0Kernel.τ) (Cert.PoolOut0Kernel.main (F := Bits))) ⟨m, fun _ => 0, g⟩ (fun r => (∀ c : Dev Cert.PoolOut0Kernel.nD,
      r.2.mem ((c.tc : Thread Cert.PoolOut0Kernel.nD Cert.PoolOut0Kernel.τ).loc Cert.PoolOut0Kernel.main_arg0) = m ((c.tc : Thread Cert.PoolOut0Kernel.nD Cert.PoolOut0Kernel.τ).loc Cert.PoolOut0Kernel.main_arg0)
      ∧ r.2.mem ((c.tc : Thread Cert.PoolOut0Kernel.nD Cert.PoolOut0Kernel.τ).loc Cert.PoolOut0Kernel.main_arg1) = m ((c.tc : Thread Cert.PoolOut0Kernel.nD Cert.PoolOut0Kernel.τ).loc Cert.PoolOut0Kernel.main_arg1))
      ∧ r.2.sem = fun _ => 0)

def quiescent_PoolOut0KernelIdeal [hPoolOut0KernelIdeal : Cert.PoolOut0KernelIdeal.Facts] : Prop :=
  ∀ (m : (ℓ : Loc Cert.PoolOut0KernelIdeal.nD Cert.PoolOut0KernelIdeal.τ Cert.PoolOut0KernelIdeal.sig) → Buf (Elt Ideal) ℓ) (g : Dev Cert.PoolOut0KernelIdeal.nD → PrngReg), Pre_PoolOut0KernelIdeal m →
    θ_run (Cert.PoolOut0KernelIdeal.defs (F := Ideal)) (onTc (τ := Cert.PoolOut0KernelIdeal.τ) (Cert.PoolOut0KernelIdeal.main (F := Ideal))) ⟨m, fun _ => 0, g⟩ (fun r => (∀ c : Dev Cert.PoolOut0KernelIdeal.nD,
      r.2.mem ((c.tc : Thread Cert.PoolOut0KernelIdeal.nD Cert.PoolOut0KernelIdeal.τ).loc Cert.PoolOut0KernelIdeal.main_arg0) = m ((c.tc : Thread Cert.PoolOut0KernelIdeal.nD Cert.PoolOut0KernelIdeal.τ).loc Cert.PoolOut0KernelIdeal.main_arg0)
      ∧ r.2.mem ((c.tc : Thread Cert.PoolOut0KernelIdeal.nD Cert.PoolOut0KernelIdeal.τ).loc Cert.PoolOut0KernelIdeal.main_arg1) = m ((c.tc : Thread Cert.PoolOut0KernelIdeal.nD Cert.PoolOut0KernelIdeal.τ).loc Cert.PoolOut0KernelIdeal.main_arg1))
      ∧ r.2.sem = fun _ => 0)

def quiescent_PoolOut0ReferenceIdeal [hPoolOut0ReferenceIdeal : Cert.PoolOut0ReferenceIdeal.Facts] : Prop :=
  ∀ (m : (ℓ : Loc Cert.PoolOut0ReferenceIdeal.nD Cert.PoolOut0ReferenceIdeal.τ Cert.PoolOut0ReferenceIdeal.sig) → Buf (Elt Ideal) ℓ) (g : Dev Cert.PoolOut0ReferenceIdeal.nD → PrngReg), Pre_PoolOut0ReferenceIdeal m →
    θ_run (Cert.PoolOut0ReferenceIdeal.defs (F := Ideal)) (onTc (τ := Cert.PoolOut0ReferenceIdeal.τ) (Cert.PoolOut0ReferenceIdeal.main (F := Ideal))) ⟨m, fun _ => 0, g⟩ (fun r => (∀ c : Dev Cert.PoolOut0ReferenceIdeal.nD,
      r.2.mem ((c.tc : Thread Cert.PoolOut0ReferenceIdeal.nD Cert.PoolOut0ReferenceIdeal.τ).loc Cert.PoolOut0ReferenceIdeal.main_arg0) = m ((c.tc : Thread Cert.PoolOut0ReferenceIdeal.nD Cert.PoolOut0ReferenceIdeal.τ).loc Cert.PoolOut0ReferenceIdeal.main_arg0)
      ∧ r.2.mem ((c.tc : Thread Cert.PoolOut0ReferenceIdeal.nD Cert.PoolOut0ReferenceIdeal.τ).loc Cert.PoolOut0ReferenceIdeal.main_arg1) = m ((c.tc : Thread Cert.PoolOut0ReferenceIdeal.nD Cert.PoolOut0ReferenceIdeal.τ).loc Cert.PoolOut0ReferenceIdeal.main_arg1))
      ∧ r.2.sem = fun _ => 0)

def quiescent_PoolOutDx1Kernel [hPoolOutDx1Kernel : Cert.PoolOutDx1Kernel.Facts] : Prop :=
  ∀ (m : (ℓ : Loc Cert.PoolOutDx1Kernel.nD Cert.PoolOutDx1Kernel.τ Cert.PoolOutDx1Kernel.sig) → Buf (Elt Bits) ℓ) (g : Dev Cert.PoolOutDx1Kernel.nD → PrngReg), Pre_PoolOutDx1Kernel m →
    θ_run (Cert.PoolOutDx1Kernel.defs (F := Bits)) (onTc (τ := Cert.PoolOutDx1Kernel.τ) (Cert.PoolOutDx1Kernel.main (F := Bits))) ⟨m, fun _ => 0, g⟩ (fun r => (∀ c : Dev Cert.PoolOutDx1Kernel.nD,
      r.2.mem ((c.tc : Thread Cert.PoolOutDx1Kernel.nD Cert.PoolOutDx1Kernel.τ).loc Cert.PoolOutDx1Kernel.main_arg0) = m ((c.tc : Thread Cert.PoolOutDx1Kernel.nD Cert.PoolOutDx1Kernel.τ).loc Cert.PoolOutDx1Kernel.main_arg0)
      ∧ r.2.mem ((c.tc : Thread Cert.PoolOutDx1Kernel.nD Cert.PoolOutDx1Kernel.τ).loc Cert.PoolOutDx1Kernel.main_arg1) = m ((c.tc : Thread Cert.PoolOutDx1Kernel.nD Cert.PoolOutDx1Kernel.τ).loc Cert.PoolOutDx1Kernel.main_arg1))
      ∧ r.2.sem = fun _ => 0)

def quiescent_PoolOutDx1KernelIdeal [hPoolOutDx1KernelIdeal : Cert.PoolOutDx1KernelIdeal.Facts] : Prop :=
  ∀ (m : (ℓ : Loc Cert.PoolOutDx1KernelIdeal.nD Cert.PoolOutDx1KernelIdeal.τ Cert.PoolOutDx1KernelIdeal.sig) → Buf (Elt Ideal) ℓ) (g : Dev Cert.PoolOutDx1KernelIdeal.nD → PrngReg), Pre_PoolOutDx1KernelIdeal m →
    θ_run (Cert.PoolOutDx1KernelIdeal.defs (F := Ideal)) (onTc (τ := Cert.PoolOutDx1KernelIdeal.τ) (Cert.PoolOutDx1KernelIdeal.main (F := Ideal))) ⟨m, fun _ => 0, g⟩ (fun r => (∀ c : Dev Cert.PoolOutDx1KernelIdeal.nD,
      r.2.mem ((c.tc : Thread Cert.PoolOutDx1KernelIdeal.nD Cert.PoolOutDx1KernelIdeal.τ).loc Cert.PoolOutDx1KernelIdeal.main_arg0) = m ((c.tc : Thread Cert.PoolOutDx1KernelIdeal.nD Cert.PoolOutDx1KernelIdeal.τ).loc Cert.PoolOutDx1KernelIdeal.main_arg0)
      ∧ r.2.mem ((c.tc : Thread Cert.PoolOutDx1KernelIdeal.nD Cert.PoolOutDx1KernelIdeal.τ).loc Cert.PoolOutDx1KernelIdeal.main_arg1) = m ((c.tc : Thread Cert.PoolOutDx1KernelIdeal.nD Cert.PoolOutDx1KernelIdeal.τ).loc Cert.PoolOutDx1KernelIdeal.main_arg1))
      ∧ r.2.sem = fun _ => 0)

def quiescent_PoolOutDx1ReferenceIdeal [hPoolOutDx1ReferenceIdeal : Cert.PoolOutDx1ReferenceIdeal.Facts] : Prop :=
  ∀ (m : (ℓ : Loc Cert.PoolOutDx1ReferenceIdeal.nD Cert.PoolOutDx1ReferenceIdeal.τ Cert.PoolOutDx1ReferenceIdeal.sig) → Buf (Elt Ideal) ℓ) (g : Dev Cert.PoolOutDx1ReferenceIdeal.nD → PrngReg), Pre_PoolOutDx1ReferenceIdeal m →
    θ_run (Cert.PoolOutDx1ReferenceIdeal.defs (F := Ideal)) (onTc (τ := Cert.PoolOutDx1ReferenceIdeal.τ) (Cert.PoolOutDx1ReferenceIdeal.main (F := Ideal))) ⟨m, fun _ => 0, g⟩ (fun r => (∀ c : Dev Cert.PoolOutDx1ReferenceIdeal.nD,
      r.2.mem ((c.tc : Thread Cert.PoolOutDx1ReferenceIdeal.nD Cert.PoolOutDx1ReferenceIdeal.τ).loc Cert.PoolOutDx1ReferenceIdeal.main_arg0) = m ((c.tc : Thread Cert.PoolOutDx1ReferenceIdeal.nD Cert.PoolOutDx1ReferenceIdeal.τ).loc Cert.PoolOutDx1ReferenceIdeal.main_arg0)
      ∧ r.2.mem ((c.tc : Thread Cert.PoolOutDx1ReferenceIdeal.nD Cert.PoolOutDx1ReferenceIdeal.τ).loc Cert.PoolOutDx1ReferenceIdeal.main_arg1) = m ((c.tc : Thread Cert.PoolOutDx1ReferenceIdeal.nD Cert.PoolOutDx1ReferenceIdeal.τ).loc Cert.PoolOutDx1ReferenceIdeal.main_arg1))
      ∧ r.2.sem = fun _ => 0)

def quiescent_PoolOutDx0Kernel [hPoolOutDx0Kernel : Cert.PoolOutDx0Kernel.Facts] : Prop :=
  ∀ (m : (ℓ : Loc Cert.PoolOutDx0Kernel.nD Cert.PoolOutDx0Kernel.τ Cert.PoolOutDx0Kernel.sig) → Buf (Elt Bits) ℓ) (g : Dev Cert.PoolOutDx0Kernel.nD → PrngReg), Pre_PoolOutDx0Kernel m →
    θ_run (Cert.PoolOutDx0Kernel.defs (F := Bits)) (onTc (τ := Cert.PoolOutDx0Kernel.τ) (Cert.PoolOutDx0Kernel.main (F := Bits))) ⟨m, fun _ => 0, g⟩ (fun r => (∀ c : Dev Cert.PoolOutDx0Kernel.nD,
      r.2.mem ((c.tc : Thread Cert.PoolOutDx0Kernel.nD Cert.PoolOutDx0Kernel.τ).loc Cert.PoolOutDx0Kernel.main_arg0) = m ((c.tc : Thread Cert.PoolOutDx0Kernel.nD Cert.PoolOutDx0Kernel.τ).loc Cert.PoolOutDx0Kernel.main_arg0)
      ∧ r.2.mem ((c.tc : Thread Cert.PoolOutDx0Kernel.nD Cert.PoolOutDx0Kernel.τ).loc Cert.PoolOutDx0Kernel.main_arg1) = m ((c.tc : Thread Cert.PoolOutDx0Kernel.nD Cert.PoolOutDx0Kernel.τ).loc Cert.PoolOutDx0Kernel.main_arg1))
      ∧ r.2.sem = fun _ => 0)

def quiescent_PoolOutDx0KernelIdeal [hPoolOutDx0KernelIdeal : Cert.PoolOutDx0KernelIdeal.Facts] : Prop :=
  ∀ (m : (ℓ : Loc Cert.PoolOutDx0KernelIdeal.nD Cert.PoolOutDx0KernelIdeal.τ Cert.PoolOutDx0KernelIdeal.sig) → Buf (Elt Ideal) ℓ) (g : Dev Cert.PoolOutDx0KernelIdeal.nD → PrngReg), Pre_PoolOutDx0KernelIdeal m →
    θ_run (Cert.PoolOutDx0KernelIdeal.defs (F := Ideal)) (onTc (τ := Cert.PoolOutDx0KernelIdeal.τ) (Cert.PoolOutDx0KernelIdeal.main (F := Ideal))) ⟨m, fun _ => 0, g⟩ (fun r => (∀ c : Dev Cert.PoolOutDx0KernelIdeal.nD,
      r.2.mem ((c.tc : Thread Cert.PoolOutDx0KernelIdeal.nD Cert.PoolOutDx0KernelIdeal.τ).loc Cert.PoolOutDx0KernelIdeal.main_arg0) = m ((c.tc : Thread Cert.PoolOutDx0KernelIdeal.nD Cert.PoolOutDx0KernelIdeal.τ).loc Cert.PoolOutDx0KernelIdeal.main_arg0)
      ∧ r.2.mem ((c.tc : Thread Cert.PoolOutDx0KernelIdeal.nD Cert.PoolOutDx0KernelIdeal.τ).loc Cert.PoolOutDx0KernelIdeal.main_arg1) = m ((c.tc : Thread Cert.PoolOutDx0KernelIdeal.nD Cert.PoolOutDx0KernelIdeal.τ).loc Cert.PoolOutDx0KernelIdeal.main_arg1))
      ∧ r.2.sem = fun _ => 0)

def quiescent_PoolOutDx0ReferenceIdeal [hPoolOutDx0ReferenceIdeal : Cert.PoolOutDx0ReferenceIdeal.Facts] : Prop :=
  ∀ (m : (ℓ : Loc Cert.PoolOutDx0ReferenceIdeal.nD Cert.PoolOutDx0ReferenceIdeal.τ Cert.PoolOutDx0ReferenceIdeal.sig) → Buf (Elt Ideal) ℓ) (g : Dev Cert.PoolOutDx0ReferenceIdeal.nD → PrngReg), Pre_PoolOutDx0ReferenceIdeal m →
    θ_run (Cert.PoolOutDx0ReferenceIdeal.defs (F := Ideal)) (onTc (τ := Cert.PoolOutDx0ReferenceIdeal.τ) (Cert.PoolOutDx0ReferenceIdeal.main (F := Ideal))) ⟨m, fun _ => 0, g⟩ (fun r => (∀ c : Dev Cert.PoolOutDx0ReferenceIdeal.nD,
      r.2.mem ((c.tc : Thread Cert.PoolOutDx0ReferenceIdeal.nD Cert.PoolOutDx0ReferenceIdeal.τ).loc Cert.PoolOutDx0ReferenceIdeal.main_arg0) = m ((c.tc : Thread Cert.PoolOutDx0ReferenceIdeal.nD Cert.PoolOutDx0ReferenceIdeal.τ).loc Cert.PoolOutDx0ReferenceIdeal.main_arg0)
      ∧ r.2.mem ((c.tc : Thread Cert.PoolOutDx0ReferenceIdeal.nD Cert.PoolOutDx0ReferenceIdeal.τ).loc Cert.PoolOutDx0ReferenceIdeal.main_arg1) = m ((c.tc : Thread Cert.PoolOutDx0ReferenceIdeal.nD Cert.PoolOutDx0ReferenceIdeal.τ).loc Cert.PoolOutDx0ReferenceIdeal.main_arg1))
      ∧ r.2.sem = fun _ => 0)

def quiescent_PoolOutDw1Kernel [hPoolOutDw1Kernel : Cert.PoolOutDw1Kernel.Facts] : Prop :=
  ∀ (m : (ℓ : Loc Cert.PoolOutDw1Kernel.nD Cert.PoolOutDw1Kernel.τ Cert.PoolOutDw1Kernel.sig) → Buf (Elt Bits) ℓ) (g : Dev Cert.PoolOutDw1Kernel.nD → PrngReg), Pre_PoolOutDw1Kernel m →
    θ_run (Cert.PoolOutDw1Kernel.defs (F := Bits)) (onTc (τ := Cert.PoolOutDw1Kernel.τ) (Cert.PoolOutDw1Kernel.main (F := Bits))) ⟨m, fun _ => 0, g⟩ (fun r => (∀ c : Dev Cert.PoolOutDw1Kernel.nD,
      r.2.mem ((c.tc : Thread Cert.PoolOutDw1Kernel.nD Cert.PoolOutDw1Kernel.τ).loc Cert.PoolOutDw1Kernel.main_arg0) = m ((c.tc : Thread Cert.PoolOutDw1Kernel.nD Cert.PoolOutDw1Kernel.τ).loc Cert.PoolOutDw1Kernel.main_arg0)
      ∧ r.2.mem ((c.tc : Thread Cert.PoolOutDw1Kernel.nD Cert.PoolOutDw1Kernel.τ).loc Cert.PoolOutDw1Kernel.main_arg1) = m ((c.tc : Thread Cert.PoolOutDw1Kernel.nD Cert.PoolOutDw1Kernel.τ).loc Cert.PoolOutDw1Kernel.main_arg1))
      ∧ r.2.sem = fun _ => 0)

def quiescent_PoolOutDw1KernelIdeal [hPoolOutDw1KernelIdeal : Cert.PoolOutDw1KernelIdeal.Facts] : Prop :=
  ∀ (m : (ℓ : Loc Cert.PoolOutDw1KernelIdeal.nD Cert.PoolOutDw1KernelIdeal.τ Cert.PoolOutDw1KernelIdeal.sig) → Buf (Elt Ideal) ℓ) (g : Dev Cert.PoolOutDw1KernelIdeal.nD → PrngReg), Pre_PoolOutDw1KernelIdeal m →
    θ_run (Cert.PoolOutDw1KernelIdeal.defs (F := Ideal)) (onTc (τ := Cert.PoolOutDw1KernelIdeal.τ) (Cert.PoolOutDw1KernelIdeal.main (F := Ideal))) ⟨m, fun _ => 0, g⟩ (fun r => (∀ c : Dev Cert.PoolOutDw1KernelIdeal.nD,
      r.2.mem ((c.tc : Thread Cert.PoolOutDw1KernelIdeal.nD Cert.PoolOutDw1KernelIdeal.τ).loc Cert.PoolOutDw1KernelIdeal.main_arg0) = m ((c.tc : Thread Cert.PoolOutDw1KernelIdeal.nD Cert.PoolOutDw1KernelIdeal.τ).loc Cert.PoolOutDw1KernelIdeal.main_arg0)
      ∧ r.2.mem ((c.tc : Thread Cert.PoolOutDw1KernelIdeal.nD Cert.PoolOutDw1KernelIdeal.τ).loc Cert.PoolOutDw1KernelIdeal.main_arg1) = m ((c.tc : Thread Cert.PoolOutDw1KernelIdeal.nD Cert.PoolOutDw1KernelIdeal.τ).loc Cert.PoolOutDw1KernelIdeal.main_arg1))
      ∧ r.2.sem = fun _ => 0)

def quiescent_PoolOutDw1ReferenceIdeal [hPoolOutDw1ReferenceIdeal : Cert.PoolOutDw1ReferenceIdeal.Facts] : Prop :=
  ∀ (m : (ℓ : Loc Cert.PoolOutDw1ReferenceIdeal.nD Cert.PoolOutDw1ReferenceIdeal.τ Cert.PoolOutDw1ReferenceIdeal.sig) → Buf (Elt Ideal) ℓ) (g : Dev Cert.PoolOutDw1ReferenceIdeal.nD → PrngReg), Pre_PoolOutDw1ReferenceIdeal m →
    θ_run (Cert.PoolOutDw1ReferenceIdeal.defs (F := Ideal)) (onTc (τ := Cert.PoolOutDw1ReferenceIdeal.τ) (Cert.PoolOutDw1ReferenceIdeal.main (F := Ideal))) ⟨m, fun _ => 0, g⟩ (fun r => (∀ c : Dev Cert.PoolOutDw1ReferenceIdeal.nD,
      r.2.mem ((c.tc : Thread Cert.PoolOutDw1ReferenceIdeal.nD Cert.PoolOutDw1ReferenceIdeal.τ).loc Cert.PoolOutDw1ReferenceIdeal.main_arg0) = m ((c.tc : Thread Cert.PoolOutDw1ReferenceIdeal.nD Cert.PoolOutDw1ReferenceIdeal.τ).loc Cert.PoolOutDw1ReferenceIdeal.main_arg0)
      ∧ r.2.mem ((c.tc : Thread Cert.PoolOutDw1ReferenceIdeal.nD Cert.PoolOutDw1ReferenceIdeal.τ).loc Cert.PoolOutDw1ReferenceIdeal.main_arg1) = m ((c.tc : Thread Cert.PoolOutDw1ReferenceIdeal.nD Cert.PoolOutDw1ReferenceIdeal.τ).loc Cert.PoolOutDw1ReferenceIdeal.main_arg1))
      ∧ r.2.sem = fun _ => 0)

def quiescent_PoolOutDw0Kernel [hPoolOutDw0Kernel : Cert.PoolOutDw0Kernel.Facts] : Prop :=
  ∀ (m : (ℓ : Loc Cert.PoolOutDw0Kernel.nD Cert.PoolOutDw0Kernel.τ Cert.PoolOutDw0Kernel.sig) → Buf (Elt Bits) ℓ) (g : Dev Cert.PoolOutDw0Kernel.nD → PrngReg), Pre_PoolOutDw0Kernel m →
    θ_run (Cert.PoolOutDw0Kernel.defs (F := Bits)) (onTc (τ := Cert.PoolOutDw0Kernel.τ) (Cert.PoolOutDw0Kernel.main (F := Bits))) ⟨m, fun _ => 0, g⟩ (fun r => (∀ c : Dev Cert.PoolOutDw0Kernel.nD,
      r.2.mem ((c.tc : Thread Cert.PoolOutDw0Kernel.nD Cert.PoolOutDw0Kernel.τ).loc Cert.PoolOutDw0Kernel.main_arg0) = m ((c.tc : Thread Cert.PoolOutDw0Kernel.nD Cert.PoolOutDw0Kernel.τ).loc Cert.PoolOutDw0Kernel.main_arg0)
      ∧ r.2.mem ((c.tc : Thread Cert.PoolOutDw0Kernel.nD Cert.PoolOutDw0Kernel.τ).loc Cert.PoolOutDw0Kernel.main_arg1) = m ((c.tc : Thread Cert.PoolOutDw0Kernel.nD Cert.PoolOutDw0Kernel.τ).loc Cert.PoolOutDw0Kernel.main_arg1)
      ∧ r.2.mem ((c.tc : Thread Cert.PoolOutDw0Kernel.nD Cert.PoolOutDw0Kernel.τ).loc Cert.PoolOutDw0Kernel.main_arg2) = m ((c.tc : Thread Cert.PoolOutDw0Kernel.nD Cert.PoolOutDw0Kernel.τ).loc Cert.PoolOutDw0Kernel.main_arg2))
      ∧ r.2.sem = fun _ => 0)

def quiescent_PoolOutDw0KernelIdeal [hPoolOutDw0KernelIdeal : Cert.PoolOutDw0KernelIdeal.Facts] : Prop :=
  ∀ (m : (ℓ : Loc Cert.PoolOutDw0KernelIdeal.nD Cert.PoolOutDw0KernelIdeal.τ Cert.PoolOutDw0KernelIdeal.sig) → Buf (Elt Ideal) ℓ) (g : Dev Cert.PoolOutDw0KernelIdeal.nD → PrngReg), Pre_PoolOutDw0KernelIdeal m →
    θ_run (Cert.PoolOutDw0KernelIdeal.defs (F := Ideal)) (onTc (τ := Cert.PoolOutDw0KernelIdeal.τ) (Cert.PoolOutDw0KernelIdeal.main (F := Ideal))) ⟨m, fun _ => 0, g⟩ (fun r => (∀ c : Dev Cert.PoolOutDw0KernelIdeal.nD,
      r.2.mem ((c.tc : Thread Cert.PoolOutDw0KernelIdeal.nD Cert.PoolOutDw0KernelIdeal.τ).loc Cert.PoolOutDw0KernelIdeal.main_arg0) = m ((c.tc : Thread Cert.PoolOutDw0KernelIdeal.nD Cert.PoolOutDw0KernelIdeal.τ).loc Cert.PoolOutDw0KernelIdeal.main_arg0)
      ∧ r.2.mem ((c.tc : Thread Cert.PoolOutDw0KernelIdeal.nD Cert.PoolOutDw0KernelIdeal.τ).loc Cert.PoolOutDw0KernelIdeal.main_arg1) = m ((c.tc : Thread Cert.PoolOutDw0KernelIdeal.nD Cert.PoolOutDw0KernelIdeal.τ).loc Cert.PoolOutDw0KernelIdeal.main_arg1)
      ∧ r.2.mem ((c.tc : Thread Cert.PoolOutDw0KernelIdeal.nD Cert.PoolOutDw0KernelIdeal.τ).loc Cert.PoolOutDw0KernelIdeal.main_arg2) = m ((c.tc : Thread Cert.PoolOutDw0KernelIdeal.nD Cert.PoolOutDw0KernelIdeal.τ).loc Cert.PoolOutDw0KernelIdeal.main_arg2))
      ∧ r.2.sem = fun _ => 0)

def quiescent_PoolOutDw0ReferenceIdeal [hPoolOutDw0ReferenceIdeal : Cert.PoolOutDw0ReferenceIdeal.Facts] : Prop :=
  ∀ (m : (ℓ : Loc Cert.PoolOutDw0ReferenceIdeal.nD Cert.PoolOutDw0ReferenceIdeal.τ Cert.PoolOutDw0ReferenceIdeal.sig) → Buf (Elt Ideal) ℓ) (g : Dev Cert.PoolOutDw0ReferenceIdeal.nD → PrngReg), Pre_PoolOutDw0ReferenceIdeal m →
    θ_run (Cert.PoolOutDw0ReferenceIdeal.defs (F := Ideal)) (onTc (τ := Cert.PoolOutDw0ReferenceIdeal.τ) (Cert.PoolOutDw0ReferenceIdeal.main (F := Ideal))) ⟨m, fun _ => 0, g⟩ (fun r => (∀ c : Dev Cert.PoolOutDw0ReferenceIdeal.nD,
      r.2.mem ((c.tc : Thread Cert.PoolOutDw0ReferenceIdeal.nD Cert.PoolOutDw0ReferenceIdeal.τ).loc Cert.PoolOutDw0ReferenceIdeal.main_arg0) = m ((c.tc : Thread Cert.PoolOutDw0ReferenceIdeal.nD Cert.PoolOutDw0ReferenceIdeal.τ).loc Cert.PoolOutDw0ReferenceIdeal.main_arg0)
      ∧ r.2.mem ((c.tc : Thread Cert.PoolOutDw0ReferenceIdeal.nD Cert.PoolOutDw0ReferenceIdeal.τ).loc Cert.PoolOutDw0ReferenceIdeal.main_arg1) = m ((c.tc : Thread Cert.PoolOutDw0ReferenceIdeal.nD Cert.PoolOutDw0ReferenceIdeal.τ).loc Cert.PoolOutDw0ReferenceIdeal.main_arg1)
      ∧ r.2.mem ((c.tc : Thread Cert.PoolOutDw0ReferenceIdeal.nD Cert.PoolOutDw0ReferenceIdeal.τ).loc Cert.PoolOutDw0ReferenceIdeal.main_arg2) = m ((c.tc : Thread Cert.PoolOutDw0ReferenceIdeal.nD Cert.PoolOutDw0ReferenceIdeal.τ).loc Cert.PoolOutDw0ReferenceIdeal.main_arg2))
      ∧ r.2.sem = fun _ => 0)

def preserves_Kernel_KernelIdeal : Prop :=
  True

def preserves_PoolKernel_PoolKernelIdeal : Prop :=
  True

def algebraic_PoolKernelIdeal_PoolReferenceIdeal [hPoolKernelIdeal : Cert.PoolKernelIdeal.Facts] [hPoolReferenceIdeal : Cert.PoolReferenceIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)
      ∧ m' ((c.tc : Thread Cert.PoolReferenceIdeal.nD Cert.PoolReferenceIdeal.τ).loc Cert.PoolReferenceIdeal.main_arg2) = m ((c.tc : Thread Cert.PoolKernelIdeal.nD Cert.PoolKernelIdeal.τ).loc Cert.PoolKernelIdeal.main_arg2)
      ∧ m' ((c.tc : Thread Cert.PoolReferenceIdeal.nD Cert.PoolReferenceIdeal.τ).loc Cert.PoolReferenceIdeal.main_arg3) = m ((c.tc : Thread Cert.PoolKernelIdeal.nD Cert.PoolKernelIdeal.τ).loc Cert.PoolKernelIdeal.main_arg3)) →
    ∃ (v0 : (c : Dev Cert.PoolKernelIdeal.nD) → Buf (Elt Ideal) ((c.tc : Thread Cert.PoolKernelIdeal.nD Cert.PoolKernelIdeal.τ).loc Cert.PoolKernelIdeal.main_v157_0)) (v1 : (c : Dev Cert.PoolKernelIdeal.nD) → Buf (Elt Ideal) ((c.tc : Thread Cert.PoolKernelIdeal.nD Cert.PoolKernelIdeal.τ).loc Cert.PoolKernelIdeal.main_v157_1)) (v2 : (c : Dev Cert.PoolKernelIdeal.nD) → Buf (Elt Ideal) ((c.tc : Thread Cert.PoolKernelIdeal.nD Cert.PoolKernelIdeal.τ).loc Cert.PoolKernelIdeal.main_v157_2)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v157_0) = v0 c
          ∧ r.2.mem ((c.tc : Thread Cert.PoolKernelIdeal.nD Cert.PoolKernelIdeal.τ).loc Cert.PoolKernelIdeal.main_v157_1) = v1 c
          ∧ r.2.mem ((c.tc : Thread Cert.PoolKernelIdeal.nD Cert.PoolKernelIdeal.τ).loc Cert.PoolKernelIdeal.main_v157_2) = v2 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1)
          ∧ r.2.mem ((c.tc : Thread Cert.PoolKernelIdeal.nD Cert.PoolKernelIdeal.τ).loc Cert.PoolKernelIdeal.main_arg2) = m ((c.tc : Thread Cert.PoolKernelIdeal.nD Cert.PoolKernelIdeal.τ).loc Cert.PoolKernelIdeal.main_arg2)
          ∧ r.2.mem ((c.tc : Thread Cert.PoolKernelIdeal.nD Cert.PoolKernelIdeal.τ).loc Cert.PoolKernelIdeal.main_arg3) = m ((c.tc : Thread Cert.PoolKernelIdeal.nD Cert.PoolKernelIdeal.τ).loc Cert.PoolKernelIdeal.main_arg3))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v335) = v0 c
          ∧ r.2.mem ((c.tc : Thread Cert.PoolReferenceIdeal.nD Cert.PoolReferenceIdeal.τ).loc Cert.PoolReferenceIdeal.main_v198) = v1 c
          ∧ r.2.mem ((c.tc : Thread Cert.PoolReferenceIdeal.nD Cert.PoolReferenceIdeal.τ).loc Cert.PoolReferenceIdeal.main_v189) = v2 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3))

def preserves_DownDxKernel_DownDxKernelIdeal : Prop :=
  True

def algebraic_DownDxKernelIdeal_DownDxReferenceIdeal [hDownDxKernelIdeal : Cert.DownDxKernelIdeal.Facts] [hDownDxReferenceIdeal : Cert.DownDxReferenceIdeal.Facts] : Prop :=
  ∀ (m : (ℓ : Loc Cert.DownDxKernelIdeal.nD Cert.DownDxKernelIdeal.τ Cert.DownDxKernelIdeal.sig) → Buf (Elt Ideal) ℓ) (g : Dev Cert.DownDxKernelIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxKernelIdeal m →
    (∀ c : Dev Cert.DownDxKernelIdeal.nD,
      m' ((c.tc : Thread Cert.DownDxReferenceIdeal.nD Cert.DownDxReferenceIdeal.τ).loc Cert.DownDxReferenceIdeal.main_arg0) = m ((c.tc : Thread Cert.DownDxKernelIdeal.nD Cert.DownDxKernelIdeal.τ).loc Cert.DownDxKernelIdeal.main_arg0)
      ∧ m' ((c.tc : Thread Cert.DownDxReferenceIdeal.nD Cert.DownDxReferenceIdeal.τ).loc Cert.DownDxReferenceIdeal.main_arg1) = m ((c.tc : Thread Cert.DownDxKernelIdeal.nD Cert.DownDxKernelIdeal.τ).loc Cert.DownDxKernelIdeal.main_arg1)) →
    ∃ (v0 : (c : Dev Cert.DownDxKernelIdeal.nD) → Buf (Elt Ideal) ((c.tc : Thread Cert.DownDxKernelIdeal.nD Cert.DownDxKernelIdeal.τ).loc Cert.DownDxKernelIdeal.main_v0)),
      θ_run (Cert.DownDxKernelIdeal.defs (F := Ideal)) (onTc (τ := Cert.DownDxKernelIdeal.τ) (Cert.DownDxKernelIdeal.main (F := Ideal))) ⟨m, fun _ => 0, g⟩ (fun r => ∀ c : Dev Cert.DownDxKernelIdeal.nD,
          r.2.mem ((c.tc : Thread Cert.DownDxKernelIdeal.nD Cert.DownDxKernelIdeal.τ).loc Cert.DownDxKernelIdeal.main_v0) = v0 c
          ∧ r.2.mem ((c.tc : Thread Cert.DownDxKernelIdeal.nD Cert.DownDxKernelIdeal.τ).loc Cert.DownDxKernelIdeal.main_arg0) = m ((c.tc : Thread Cert.DownDxKernelIdeal.nD Cert.DownDxKernelIdeal.τ).loc Cert.DownDxKernelIdeal.main_arg0)
          ∧ r.2.mem ((c.tc : Thread Cert.DownDxKernelIdeal.nD Cert.DownDxKernelIdeal.τ).loc Cert.DownDxKernelIdeal.main_arg1) = m ((c.tc : Thread Cert.DownDxKernelIdeal.nD Cert.DownDxKernelIdeal.τ).loc Cert.DownDxKernelIdeal.main_arg1))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v7) = v0 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1))

def preserves_DownDwKernel_DownDwKernelIdeal : Prop :=
  True

def algebraic_DownDwKernelIdeal_DownDwReferenceIdeal [hDownDwKernelIdeal : Cert.DownDwKernelIdeal.Facts] [hDownDwReferenceIdeal : Cert.DownDwReferenceIdeal.Facts] : Prop :=
  ∀ (m : (ℓ : Loc Cert.DownDwKernelIdeal.nD Cert.DownDwKernelIdeal.τ Cert.DownDwKernelIdeal.sig) → Buf (Elt Ideal) ℓ) (g : Dev Cert.DownDwKernelIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwKernelIdeal m →
    (∀ c : Dev Cert.DownDwKernelIdeal.nD,
      m' ((c.tc : Thread Cert.DownDwReferenceIdeal.nD Cert.DownDwReferenceIdeal.τ).loc Cert.DownDwReferenceIdeal.main_arg0) = m ((c.tc : Thread Cert.DownDwKernelIdeal.nD Cert.DownDwKernelIdeal.τ).loc Cert.DownDwKernelIdeal.main_arg0)
      ∧ m' ((c.tc : Thread Cert.DownDwReferenceIdeal.nD Cert.DownDwReferenceIdeal.τ).loc Cert.DownDwReferenceIdeal.main_arg1) = m ((c.tc : Thread Cert.DownDwKernelIdeal.nD Cert.DownDwKernelIdeal.τ).loc Cert.DownDwKernelIdeal.main_arg1)
      ∧ m' ((c.tc : Thread Cert.DownDwReferenceIdeal.nD Cert.DownDwReferenceIdeal.τ).loc Cert.DownDwReferenceIdeal.main_arg2) = m ((c.tc : Thread Cert.DownDwKernelIdeal.nD Cert.DownDwKernelIdeal.τ).loc Cert.DownDwKernelIdeal.main_arg2)) →
    ∃ (v0 : (c : Dev Cert.DownDwKernelIdeal.nD) → Buf (Elt Ideal) ((c.tc : Thread Cert.DownDwKernelIdeal.nD Cert.DownDwKernelIdeal.τ).loc Cert.DownDwKernelIdeal.main_v0)),
      θ_run (Cert.DownDwKernelIdeal.defs (F := Ideal)) (onTc (τ := Cert.DownDwKernelIdeal.τ) (Cert.DownDwKernelIdeal.main (F := Ideal))) ⟨m, fun _ => 0, g⟩ (fun r => ∀ c : Dev Cert.DownDwKernelIdeal.nD,
          r.2.mem ((c.tc : Thread Cert.DownDwKernelIdeal.nD Cert.DownDwKernelIdeal.τ).loc Cert.DownDwKernelIdeal.main_v0) = v0 c
          ∧ r.2.mem ((c.tc : Thread Cert.DownDwKernelIdeal.nD Cert.DownDwKernelIdeal.τ).loc Cert.DownDwKernelIdeal.main_arg0) = m ((c.tc : Thread Cert.DownDwKernelIdeal.nD Cert.DownDwKernelIdeal.τ).loc Cert.DownDwKernelIdeal.main_arg0)
          ∧ r.2.mem ((c.tc : Thread Cert.DownDwKernelIdeal.nD Cert.DownDwKernelIdeal.τ).loc Cert.DownDwKernelIdeal.main_arg1) = m ((c.tc : Thread Cert.DownDwKernelIdeal.nD Cert.DownDwKernelIdeal.τ).loc Cert.DownDwKernelIdeal.main_arg1)
          ∧ r.2.mem ((c.tc : Thread Cert.DownDwKernelIdeal.nD Cert.DownDwKernelIdeal.τ).loc Cert.DownDwKernelIdeal.main_arg2) = m ((c.tc : Thread Cert.DownDwKernelIdeal.nD Cert.DownDwKernelIdeal.τ).loc Cert.DownDwKernelIdeal.main_arg2))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v11) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1)
          ∧ r.2.mem ((c.tc : Thread Cert.DownDwReferenceIdeal.nD Cert.DownDwReferenceIdeal.τ).loc Cert.DownDwReferenceIdeal.main_arg2) = m' ((c.tc : Thread Cert.DownDwReferenceIdeal.nD Cert.DownDwReferenceIdeal.τ).loc Cert.DownDwReferenceIdeal.main_arg2))

def preserves_UpDxKernel_UpDxKernelIdeal : Prop :=
  True

def algebraic_UpDxKernelIdeal_UpDxReferenceIdeal [hUpDxKernelIdeal : Cert.UpDxKernelIdeal.Facts] [hUpDxReferenceIdeal : Cert.UpDxReferenceIdeal.Facts] : Prop :=
  ∀ (m : (ℓ : Loc Cert.UpDxKernelIdeal.nD Cert.UpDxKernelIdeal.τ Cert.UpDxKernelIdeal.sig) → Buf (Elt Ideal) ℓ) (g : Dev Cert.UpDxKernelIdeal.nD → PrngReg)
    (m' : (ℓ : Loc Cert.UpDxReferenceIdeal.nD Cert.UpDxReferenceIdeal.τ Cert.UpDxReferenceIdeal.sig) → Buf (Elt Ideal) ℓ) (g' : Dev Cert.UpDxReferenceIdeal.nD → PrngReg), Pre_UpDxKernelIdeal m →
    (∀ c : Dev Cert.UpDxKernelIdeal.nD,
      m' ((c.tc : Thread Cert.UpDxReferenceIdeal.nD Cert.UpDxReferenceIdeal.τ).loc Cert.UpDxReferenceIdeal.main_arg0) = m ((c.tc : Thread Cert.UpDxKernelIdeal.nD Cert.UpDxKernelIdeal.τ).loc Cert.UpDxKernelIdeal.main_arg0)
      ∧ m' ((c.tc : Thread Cert.UpDxReferenceIdeal.nD Cert.UpDxReferenceIdeal.τ).loc Cert.UpDxReferenceIdeal.main_arg1) = m ((c.tc : Thread Cert.UpDxKernelIdeal.nD Cert.UpDxKernelIdeal.τ).loc Cert.UpDxKernelIdeal.main_arg1)) →
    ∃ (v0 : (c : Dev Cert.UpDxKernelIdeal.nD) → Buf (Elt Ideal) ((c.tc : Thread Cert.UpDxKernelIdeal.nD Cert.UpDxKernelIdeal.τ).loc Cert.UpDxKernelIdeal.main_v0)),
      θ_run (Cert.UpDxKernelIdeal.defs (F := Ideal)) (onTc (τ := Cert.UpDxKernelIdeal.τ) (Cert.UpDxKernelIdeal.main (F := Ideal))) ⟨m, fun _ => 0, g⟩ (fun r => ∀ c : Dev Cert.UpDxKernelIdeal.nD,
          r.2.mem ((c.tc : Thread Cert.UpDxKernelIdeal.nD Cert.UpDxKernelIdeal.τ).loc Cert.UpDxKernelIdeal.main_v0) = v0 c
          ∧ r.2.mem ((c.tc : Thread Cert.UpDxKernelIdeal.nD Cert.UpDxKernelIdeal.τ).loc Cert.UpDxKernelIdeal.main_arg0) = m ((c.tc : Thread Cert.UpDxKernelIdeal.nD Cert.UpDxKernelIdeal.τ).loc Cert.UpDxKernelIdeal.main_arg0)
          ∧ r.2.mem ((c.tc : Thread Cert.UpDxKernelIdeal.nD Cert.UpDxKernelIdeal.τ).loc Cert.UpDxKernelIdeal.main_arg1) = m ((c.tc : Thread Cert.UpDxKernelIdeal.nD Cert.UpDxKernelIdeal.τ).loc Cert.UpDxKernelIdeal.main_arg1))
      ∧ θ_run (Cert.UpDxReferenceIdeal.defs (F := Ideal)) (onTc (τ := Cert.UpDxReferenceIdeal.τ) (Cert.UpDxReferenceIdeal.main (F := Ideal))) ⟨m', fun _ => 0, g'⟩ (fun r => ∀ c : Dev Cert.UpDxReferenceIdeal.nD,
          r.2.mem ((c.tc : Thread Cert.UpDxReferenceIdeal.nD Cert.UpDxReferenceIdeal.τ).loc Cert.UpDxReferenceIdeal.main_v13) = v0 c
          ∧ r.2.mem ((c.tc : Thread Cert.UpDxReferenceIdeal.nD Cert.UpDxReferenceIdeal.τ).loc Cert.UpDxReferenceIdeal.main_arg0) = m' ((c.tc : Thread Cert.UpDxReferenceIdeal.nD Cert.UpDxReferenceIdeal.τ).loc Cert.UpDxReferenceIdeal.main_arg0)
          ∧ r.2.mem ((c.tc : Thread Cert.UpDxReferenceIdeal.nD Cert.UpDxReferenceIdeal.τ).loc Cert.UpDxReferenceIdeal.main_arg1) = m' ((c.tc : Thread Cert.UpDxReferenceIdeal.nD Cert.UpDxReferenceIdeal.τ).loc Cert.UpDxReferenceIdeal.main_arg1))

def preserves_UpDwKernel_UpDwKernelIdeal : Prop :=
  True

def algebraic_UpDwKernelIdeal_UpDwReferenceIdeal [hUpDwKernelIdeal : Cert.UpDwKernelIdeal.Facts] [hUpDwReferenceIdeal : Cert.UpDwReferenceIdeal.Facts] : Prop :=
  ∀ (m : (ℓ : Loc Cert.UpDwKernelIdeal.nD Cert.UpDwKernelIdeal.τ Cert.UpDwKernelIdeal.sig) → Buf (Elt Ideal) ℓ) (g : Dev Cert.UpDwKernelIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwKernelIdeal m →
    (∀ c : Dev Cert.UpDwKernelIdeal.nD,
      m' ((c.tc : Thread Cert.UpDwReferenceIdeal.nD Cert.UpDwReferenceIdeal.τ).loc Cert.UpDwReferenceIdeal.main_arg0) = m ((c.tc : Thread Cert.UpDwKernelIdeal.nD Cert.UpDwKernelIdeal.τ).loc Cert.UpDwKernelIdeal.main_arg0)
      ∧ m' ((c.tc : Thread Cert.UpDwReferenceIdeal.nD Cert.UpDwReferenceIdeal.τ).loc Cert.UpDwReferenceIdeal.main_arg1) = m ((c.tc : Thread Cert.UpDwKernelIdeal.nD Cert.UpDwKernelIdeal.τ).loc Cert.UpDwKernelIdeal.main_arg1)
      ∧ m' ((c.tc : Thread Cert.UpDwReferenceIdeal.nD Cert.UpDwReferenceIdeal.τ).loc Cert.UpDwReferenceIdeal.main_arg2) = m ((c.tc : Thread Cert.UpDwKernelIdeal.nD Cert.UpDwKernelIdeal.τ).loc Cert.UpDwKernelIdeal.main_arg2)) →
    ∃ (v0 : (c : Dev Cert.UpDwKernelIdeal.nD) → Buf (Elt Ideal) ((c.tc : Thread Cert.UpDwKernelIdeal.nD Cert.UpDwKernelIdeal.τ).loc Cert.UpDwKernelIdeal.main_v0)),
      θ_run (Cert.UpDwKernelIdeal.defs (F := Ideal)) (onTc (τ := Cert.UpDwKernelIdeal.τ) (Cert.UpDwKernelIdeal.main (F := Ideal))) ⟨m, fun _ => 0, g⟩ (fun r => ∀ c : Dev Cert.UpDwKernelIdeal.nD,
          r.2.mem ((c.tc : Thread Cert.UpDwKernelIdeal.nD Cert.UpDwKernelIdeal.τ).loc Cert.UpDwKernelIdeal.main_v0) = v0 c
          ∧ r.2.mem ((c.tc : Thread Cert.UpDwKernelIdeal.nD Cert.UpDwKernelIdeal.τ).loc Cert.UpDwKernelIdeal.main_arg0) = m ((c.tc : Thread Cert.UpDwKernelIdeal.nD Cert.UpDwKernelIdeal.τ).loc Cert.UpDwKernelIdeal.main_arg0)
          ∧ r.2.mem ((c.tc : Thread Cert.UpDwKernelIdeal.nD Cert.UpDwKernelIdeal.τ).loc Cert.UpDwKernelIdeal.main_arg1) = m ((c.tc : Thread Cert.UpDwKernelIdeal.nD Cert.UpDwKernelIdeal.τ).loc Cert.UpDwKernelIdeal.main_arg1)
          ∧ r.2.mem ((c.tc : Thread Cert.UpDwKernelIdeal.nD Cert.UpDwKernelIdeal.τ).loc Cert.UpDwKernelIdeal.main_arg2) = m ((c.tc : Thread Cert.UpDwKernelIdeal.nD Cert.UpDwKernelIdeal.τ).loc Cert.UpDwKernelIdeal.main_arg2))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v18) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1)
          ∧ r.2.mem ((c.tc : Thread Cert.UpDwReferenceIdeal.nD Cert.UpDwReferenceIdeal.τ).loc Cert.UpDwReferenceIdeal.main_arg2) = m' ((c.tc : Thread Cert.UpDwReferenceIdeal.nD Cert.UpDwReferenceIdeal.τ).loc Cert.UpDwReferenceIdeal.main_arg2))

def preserves_ProjDxKernel_ProjDxKernelIdeal : Prop :=
  True

def algebraic_ProjDxKernelIdeal_ProjDxReferenceIdeal [hProjDxKernelIdeal : Cert.ProjDxKernelIdeal.Facts] [hProjDxReferenceIdeal : Cert.ProjDxReferenceIdeal.Facts] : Prop :=
  ∀ (m : (ℓ : Loc Cert.ProjDxKernelIdeal.nD Cert.ProjDxKernelIdeal.τ Cert.ProjDxKernelIdeal.sig) → Buf (Elt Ideal) ℓ) (g : Dev Cert.ProjDxKernelIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxKernelIdeal m →
    (∀ c : Dev Cert.ProjDxKernelIdeal.nD,
      m' ((c.tc : Thread Cert.ProjDxReferenceIdeal.nD Cert.ProjDxReferenceIdeal.τ).loc Cert.ProjDxReferenceIdeal.main_arg0) = m ((c.tc : Thread Cert.ProjDxKernelIdeal.nD Cert.ProjDxKernelIdeal.τ).loc Cert.ProjDxKernelIdeal.main_arg0)
      ∧ m' ((c.tc : Thread Cert.ProjDxReferenceIdeal.nD Cert.ProjDxReferenceIdeal.τ).loc Cert.ProjDxReferenceIdeal.main_arg1) = m ((c.tc : Thread Cert.ProjDxKernelIdeal.nD Cert.ProjDxKernelIdeal.τ).loc Cert.ProjDxKernelIdeal.main_arg1)
      ∧ m' ((c.tc : Thread Cert.ProjDxReferenceIdeal.nD Cert.ProjDxReferenceIdeal.τ).loc Cert.ProjDxReferenceIdeal.main_arg2) = m ((c.tc : Thread Cert.ProjDxKernelIdeal.nD Cert.ProjDxKernelIdeal.τ).loc Cert.ProjDxKernelIdeal.main_arg2)
      ∧ m' ((c.tc : Thread Cert.ProjDxReferenceIdeal.nD Cert.ProjDxReferenceIdeal.τ).loc Cert.ProjDxReferenceIdeal.main_arg3) = m ((c.tc : Thread Cert.ProjDxKernelIdeal.nD Cert.ProjDxKernelIdeal.τ).loc Cert.ProjDxKernelIdeal.main_arg3)) →
    ∃ (v0 : (c : Dev Cert.ProjDxKernelIdeal.nD) → Buf (Elt Ideal) ((c.tc : Thread Cert.ProjDxKernelIdeal.nD Cert.ProjDxKernelIdeal.τ).loc Cert.ProjDxKernelIdeal.main_v0)),
      θ_run (Cert.ProjDxKernelIdeal.defs (F := Ideal)) (onTc (τ := Cert.ProjDxKernelIdeal.τ) (Cert.ProjDxKernelIdeal.main (F := Ideal))) ⟨m, fun _ => 0, g⟩ (fun r => ∀ c : Dev Cert.ProjDxKernelIdeal.nD,
          r.2.mem ((c.tc : Thread Cert.ProjDxKernelIdeal.nD Cert.ProjDxKernelIdeal.τ).loc Cert.ProjDxKernelIdeal.main_v0) = v0 c
          ∧ r.2.mem ((c.tc : Thread Cert.ProjDxKernelIdeal.nD Cert.ProjDxKernelIdeal.τ).loc Cert.ProjDxKernelIdeal.main_arg0) = m ((c.tc : Thread Cert.ProjDxKernelIdeal.nD Cert.ProjDxKernelIdeal.τ).loc Cert.ProjDxKernelIdeal.main_arg0)
          ∧ r.2.mem ((c.tc : Thread Cert.ProjDxKernelIdeal.nD Cert.ProjDxKernelIdeal.τ).loc Cert.ProjDxKernelIdeal.main_arg1) = m ((c.tc : Thread Cert.ProjDxKernelIdeal.nD Cert.ProjDxKernelIdeal.τ).loc Cert.ProjDxKernelIdeal.main_arg1)
          ∧ r.2.mem ((c.tc : Thread Cert.ProjDxKernelIdeal.nD Cert.ProjDxKernelIdeal.τ).loc Cert.ProjDxKernelIdeal.main_arg2) = m ((c.tc : Thread Cert.ProjDxKernelIdeal.nD Cert.ProjDxKernelIdeal.τ).loc Cert.ProjDxKernelIdeal.main_arg2)
          ∧ r.2.mem ((c.tc : Thread Cert.ProjDxKernelIdeal.nD Cert.ProjDxKernelIdeal.τ).loc Cert.ProjDxKernelIdeal.main_arg3) = m ((c.tc : Thread Cert.ProjDxKernelIdeal.nD Cert.ProjDxKernelIdeal.τ).loc Cert.ProjDxKernelIdeal.main_arg3))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v9) = v0 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1)
          ∧ r.2.mem ((c.tc : Thread Cert.ProjDxReferenceIdeal.nD Cert.ProjDxReferenceIdeal.τ).loc Cert.ProjDxReferenceIdeal.main_arg2) = m' ((c.tc : Thread Cert.ProjDxReferenceIdeal.nD Cert.ProjDxReferenceIdeal.τ).loc Cert.ProjDxReferenceIdeal.main_arg2)
          ∧ r.2.mem ((c.tc : Thread Cert.ProjDxReferenceIdeal.nD Cert.ProjDxReferenceIdeal.τ).loc Cert.ProjDxReferenceIdeal.main_arg3) = m' ((c.tc : Thread Cert.ProjDxReferenceIdeal.nD Cert.ProjDxReferenceIdeal.τ).loc Cert.ProjDxReferenceIdeal.main_arg3))

def preserves_ProjDwKernel_ProjDwKernelIdeal : Prop :=
  True

def algebraic_ProjDwKernelIdeal_ProjDwReferenceIdeal [hProjDwKernelIdeal : Cert.ProjDwKernelIdeal.Facts] [hProjDwReferenceIdeal : Cert.ProjDwReferenceIdeal.Facts] : Prop :=
  ∀ (m : (ℓ : Loc Cert.ProjDwKernelIdeal.nD Cert.ProjDwKernelIdeal.τ Cert.ProjDwKernelIdeal.sig) → Buf (Elt Ideal) ℓ) (g : Dev Cert.ProjDwKernelIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwKernelIdeal m →
    (∀ c : Dev Cert.ProjDwKernelIdeal.nD,
      m' ((c.tc : Thread Cert.ProjDwReferenceIdeal.nD Cert.ProjDwReferenceIdeal.τ).loc Cert.ProjDwReferenceIdeal.main_arg0) = m ((c.tc : Thread Cert.ProjDwKernelIdeal.nD Cert.ProjDwKernelIdeal.τ).loc Cert.ProjDwKernelIdeal.main_arg0)
      ∧ m' ((c.tc : Thread Cert.ProjDwReferenceIdeal.nD Cert.ProjDwReferenceIdeal.τ).loc Cert.ProjDwReferenceIdeal.main_arg1) = m ((c.tc : Thread Cert.ProjDwKernelIdeal.nD Cert.ProjDwKernelIdeal.τ).loc Cert.ProjDwKernelIdeal.main_arg1)
      ∧ m' ((c.tc : Thread Cert.ProjDwReferenceIdeal.nD Cert.ProjDwReferenceIdeal.τ).loc Cert.ProjDwReferenceIdeal.main_arg2) = m ((c.tc : Thread Cert.ProjDwKernelIdeal.nD Cert.ProjDwKernelIdeal.τ).loc Cert.ProjDwKernelIdeal.main_arg2)
      ∧ m' ((c.tc : Thread Cert.ProjDwReferenceIdeal.nD Cert.ProjDwReferenceIdeal.τ).loc Cert.ProjDwReferenceIdeal.main_arg3) = m ((c.tc : Thread Cert.ProjDwKernelIdeal.nD Cert.ProjDwKernelIdeal.τ).loc Cert.ProjDwKernelIdeal.main_arg3)
      ∧ m' ((c.tc : Thread Cert.ProjDwReferenceIdeal.nD Cert.ProjDwReferenceIdeal.τ).loc Cert.ProjDwReferenceIdeal.main_arg4) = m ((c.tc : Thread Cert.ProjDwKernelIdeal.nD Cert.ProjDwKernelIdeal.τ).loc Cert.ProjDwKernelIdeal.main_arg4)) →
    ∃ (v0 : (c : Dev Cert.ProjDwKernelIdeal.nD) → Buf (Elt Ideal) ((c.tc : Thread Cert.ProjDwKernelIdeal.nD Cert.ProjDwKernelIdeal.τ).loc Cert.ProjDwKernelIdeal.main_v0)),
      θ_run (Cert.ProjDwKernelIdeal.defs (F := Ideal)) (onTc (τ := Cert.ProjDwKernelIdeal.τ) (Cert.ProjDwKernelIdeal.main (F := Ideal))) ⟨m, fun _ => 0, g⟩ (fun r => ∀ c : Dev Cert.ProjDwKernelIdeal.nD,
          r.2.mem ((c.tc : Thread Cert.ProjDwKernelIdeal.nD Cert.ProjDwKernelIdeal.τ).loc Cert.ProjDwKernelIdeal.main_v0) = v0 c
          ∧ r.2.mem ((c.tc : Thread Cert.ProjDwKernelIdeal.nD Cert.ProjDwKernelIdeal.τ).loc Cert.ProjDwKernelIdeal.main_arg0) = m ((c.tc : Thread Cert.ProjDwKernelIdeal.nD Cert.ProjDwKernelIdeal.τ).loc Cert.ProjDwKernelIdeal.main_arg0)
          ∧ r.2.mem ((c.tc : Thread Cert.ProjDwKernelIdeal.nD Cert.ProjDwKernelIdeal.τ).loc Cert.ProjDwKernelIdeal.main_arg1) = m ((c.tc : Thread Cert.ProjDwKernelIdeal.nD Cert.ProjDwKernelIdeal.τ).loc Cert.ProjDwKernelIdeal.main_arg1)
          ∧ r.2.mem ((c.tc : Thread Cert.ProjDwKernelIdeal.nD Cert.ProjDwKernelIdeal.τ).loc Cert.ProjDwKernelIdeal.main_arg2) = m ((c.tc : Thread Cert.ProjDwKernelIdeal.nD Cert.ProjDwKernelIdeal.τ).loc Cert.ProjDwKernelIdeal.main_arg2)
          ∧ r.2.mem ((c.tc : Thread Cert.ProjDwKernelIdeal.nD Cert.ProjDwKernelIdeal.τ).loc Cert.ProjDwKernelIdeal.main_arg3) = m ((c.tc : Thread Cert.ProjDwKernelIdeal.nD Cert.ProjDwKernelIdeal.τ).loc Cert.ProjDwKernelIdeal.main_arg3)
          ∧ r.2.mem ((c.tc : Thread Cert.ProjDwKernelIdeal.nD Cert.ProjDwKernelIdeal.τ).loc Cert.ProjDwKernelIdeal.main_arg4) = m ((c.tc : Thread Cert.ProjDwKernelIdeal.nD Cert.ProjDwKernelIdeal.τ).loc Cert.ProjDwKernelIdeal.main_arg4))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v14) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1)
          ∧ r.2.mem ((c.tc : Thread Cert.ProjDwReferenceIdeal.nD Cert.ProjDwReferenceIdeal.τ).loc Cert.ProjDwReferenceIdeal.main_arg2) = m' ((c.tc : Thread Cert.ProjDwReferenceIdeal.nD Cert.ProjDwReferenceIdeal.τ).loc Cert.ProjDwReferenceIdeal.main_arg2)
          ∧ r.2.mem ((c.tc : Thread Cert.ProjDwReferenceIdeal.nD Cert.ProjDwReferenceIdeal.τ).loc Cert.ProjDwReferenceIdeal.main_arg3) = m' ((c.tc : Thread Cert.ProjDwReferenceIdeal.nD Cert.ProjDwReferenceIdeal.τ).loc Cert.ProjDwReferenceIdeal.main_arg3)
          ∧ r.2.mem ((c.tc : Thread Cert.ProjDwReferenceIdeal.nD Cert.ProjDwReferenceIdeal.τ).loc Cert.ProjDwReferenceIdeal.main_arg4) = m' ((c.tc : Thread Cert.ProjDwReferenceIdeal.nD Cert.ProjDwReferenceIdeal.τ).loc Cert.ProjDwReferenceIdeal.main_arg4))

def preserves_Proj1Kernel_Proj1KernelIdeal : Prop :=
  True

def algebraic_Proj1KernelIdeal_Proj1ReferenceIdeal [hProj1KernelIdeal : Cert.Proj1KernelIdeal.Facts] [hProj1ReferenceIdeal : Cert.Proj1ReferenceIdeal.Facts] : Prop :=
  ∀ (m : (ℓ : Loc Cert.Proj1KernelIdeal.nD Cert.Proj1KernelIdeal.τ Cert.Proj1KernelIdeal.sig) → Buf (Elt Ideal) ℓ) (g : Dev Cert.Proj1KernelIdeal.nD → PrngReg)
    (m' : (ℓ : Loc Cert.Proj1ReferenceIdeal.nD Cert.Proj1ReferenceIdeal.τ Cert.Proj1ReferenceIdeal.sig) → Buf (Elt Ideal) ℓ) (g' : Dev Cert.Proj1ReferenceIdeal.nD → PrngReg), Pre_Proj1KernelIdeal m →
    (∀ c : Dev Cert.Proj1KernelIdeal.nD,
      m' ((c.tc : Thread Cert.Proj1ReferenceIdeal.nD Cert.Proj1ReferenceIdeal.τ).loc Cert.Proj1ReferenceIdeal.main_arg0) = m ((c.tc : Thread Cert.Proj1KernelIdeal.nD Cert.Proj1KernelIdeal.τ).loc Cert.Proj1KernelIdeal.main_arg0)
      ∧ m' ((c.tc : Thread Cert.Proj1ReferenceIdeal.nD Cert.Proj1ReferenceIdeal.τ).loc Cert.Proj1ReferenceIdeal.main_arg1) = m ((c.tc : Thread Cert.Proj1KernelIdeal.nD Cert.Proj1KernelIdeal.τ).loc Cert.Proj1KernelIdeal.main_arg1)) →
    ∃ (v0 : (c : Dev Cert.Proj1KernelIdeal.nD) → Buf (Elt Ideal) ((c.tc : Thread Cert.Proj1KernelIdeal.nD Cert.Proj1KernelIdeal.τ).loc Cert.Proj1KernelIdeal.main_v0)),
      θ_run (Cert.Proj1KernelIdeal.defs (F := Ideal)) (onTc (τ := Cert.Proj1KernelIdeal.τ) (Cert.Proj1KernelIdeal.main (F := Ideal))) ⟨m, fun _ => 0, g⟩ (fun r => ∀ c : Dev Cert.Proj1KernelIdeal.nD,
          r.2.mem ((c.tc : Thread Cert.Proj1KernelIdeal.nD Cert.Proj1KernelIdeal.τ).loc Cert.Proj1KernelIdeal.main_v0) = v0 c
          ∧ r.2.mem ((c.tc : Thread Cert.Proj1KernelIdeal.nD Cert.Proj1KernelIdeal.τ).loc Cert.Proj1KernelIdeal.main_arg0) = m ((c.tc : Thread Cert.Proj1KernelIdeal.nD Cert.Proj1KernelIdeal.τ).loc Cert.Proj1KernelIdeal.main_arg0)
          ∧ r.2.mem ((c.tc : Thread Cert.Proj1KernelIdeal.nD Cert.Proj1KernelIdeal.τ).loc Cert.Proj1KernelIdeal.main_arg1) = m ((c.tc : Thread Cert.Proj1KernelIdeal.nD Cert.Proj1KernelIdeal.τ).loc Cert.Proj1KernelIdeal.main_arg1))
      ∧ θ_run (Cert.Proj1ReferenceIdeal.defs (F := Ideal)) (onTc (τ := Cert.Proj1ReferenceIdeal.τ) (Cert.Proj1ReferenceIdeal.main (F := Ideal))) ⟨m', fun _ => 0, g'⟩ (fun r => ∀ c : Dev Cert.Proj1ReferenceIdeal.nD,
          r.2.mem ((c.tc : Thread Cert.Proj1ReferenceIdeal.nD Cert.Proj1ReferenceIdeal.τ).loc Cert.Proj1ReferenceIdeal.main_v5) = v0 c
          ∧ r.2.mem ((c.tc : Thread Cert.Proj1ReferenceIdeal.nD Cert.Proj1ReferenceIdeal.τ).loc Cert.Proj1ReferenceIdeal.main_arg0) = m' ((c.tc : Thread Cert.Proj1ReferenceIdeal.nD Cert.Proj1ReferenceIdeal.τ).loc Cert.Proj1ReferenceIdeal.main_arg0)
          ∧ r.2.mem ((c.tc : Thread Cert.Proj1ReferenceIdeal.nD Cert.Proj1ReferenceIdeal.τ).loc Cert.Proj1ReferenceIdeal.main_arg1) = m' ((c.tc : Thread Cert.Proj1ReferenceIdeal.nD Cert.Proj1ReferenceIdeal.τ).loc Cert.Proj1ReferenceIdeal.main_arg1))

def preserves_Proj0Kernel_Proj0KernelIdeal : Prop :=
  True

def algebraic_Proj0KernelIdeal_Proj0ReferenceIdeal [hProj0KernelIdeal : Cert.Proj0KernelIdeal.Facts] [hProj0ReferenceIdeal : Cert.Proj0ReferenceIdeal.Facts] : Prop :=
  ∀ (m : (ℓ : Loc Cert.Proj0KernelIdeal.nD Cert.Proj0KernelIdeal.τ Cert.Proj0KernelIdeal.sig) → Buf (Elt Ideal) ℓ) (g : Dev Cert.Proj0KernelIdeal.nD → PrngReg)
    (m' : (ℓ : Loc Cert.Proj0ReferenceIdeal.nD Cert.Proj0ReferenceIdeal.τ Cert.Proj0ReferenceIdeal.sig) → Buf (Elt Ideal) ℓ) (g' : Dev Cert.Proj0ReferenceIdeal.nD → PrngReg), Pre_Proj0KernelIdeal m →
    (∀ c : Dev Cert.Proj0KernelIdeal.nD,
      m' ((c.tc : Thread Cert.Proj0ReferenceIdeal.nD Cert.Proj0ReferenceIdeal.τ).loc Cert.Proj0ReferenceIdeal.main_arg0) = m ((c.tc : Thread Cert.Proj0KernelIdeal.nD Cert.Proj0KernelIdeal.τ).loc Cert.Proj0KernelIdeal.main_arg0)
      ∧ m' ((c.tc : Thread Cert.Proj0ReferenceIdeal.nD Cert.Proj0ReferenceIdeal.τ).loc Cert.Proj0ReferenceIdeal.main_arg1) = m ((c.tc : Thread Cert.Proj0KernelIdeal.nD Cert.Proj0KernelIdeal.τ).loc Cert.Proj0KernelIdeal.main_arg1)) →
    ∃ (v0 : (c : Dev Cert.Proj0KernelIdeal.nD) → Buf (Elt Ideal) ((c.tc : Thread Cert.Proj0KernelIdeal.nD Cert.Proj0KernelIdeal.τ).loc Cert.Proj0KernelIdeal.main_v0)),
      θ_run (Cert.Proj0KernelIdeal.defs (F := Ideal)) (onTc (τ := Cert.Proj0KernelIdeal.τ) (Cert.Proj0KernelIdeal.main (F := Ideal))) ⟨m, fun _ => 0, g⟩ (fun r => ∀ c : Dev Cert.Proj0KernelIdeal.nD,
          r.2.mem ((c.tc : Thread Cert.Proj0KernelIdeal.nD Cert.Proj0KernelIdeal.τ).loc Cert.Proj0KernelIdeal.main_v0) = v0 c
          ∧ r.2.mem ((c.tc : Thread Cert.Proj0KernelIdeal.nD Cert.Proj0KernelIdeal.τ).loc Cert.Proj0KernelIdeal.main_arg0) = m ((c.tc : Thread Cert.Proj0KernelIdeal.nD Cert.Proj0KernelIdeal.τ).loc Cert.Proj0KernelIdeal.main_arg0)
          ∧ r.2.mem ((c.tc : Thread Cert.Proj0KernelIdeal.nD Cert.Proj0KernelIdeal.τ).loc Cert.Proj0KernelIdeal.main_arg1) = m ((c.tc : Thread Cert.Proj0KernelIdeal.nD Cert.Proj0KernelIdeal.τ).loc Cert.Proj0KernelIdeal.main_arg1))
      ∧ θ_run (Cert.Proj0ReferenceIdeal.defs (F := Ideal)) (onTc (τ := Cert.Proj0ReferenceIdeal.τ) (Cert.Proj0ReferenceIdeal.main (F := Ideal))) ⟨m', fun _ => 0, g'⟩ (fun r => ∀ c : Dev Cert.Proj0ReferenceIdeal.nD,
          r.2.mem ((c.tc : Thread Cert.Proj0ReferenceIdeal.nD Cert.Proj0ReferenceIdeal.τ).loc Cert.Proj0ReferenceIdeal.main_v5) = v0 c
          ∧ r.2.mem ((c.tc : Thread Cert.Proj0ReferenceIdeal.nD Cert.Proj0ReferenceIdeal.τ).loc Cert.Proj0ReferenceIdeal.main_arg0) = m' ((c.tc : Thread Cert.Proj0ReferenceIdeal.nD Cert.Proj0ReferenceIdeal.τ).loc Cert.Proj0ReferenceIdeal.main_arg0)
          ∧ r.2.mem ((c.tc : Thread Cert.Proj0ReferenceIdeal.nD Cert.Proj0ReferenceIdeal.τ).loc Cert.Proj0ReferenceIdeal.main_arg1) = m' ((c.tc : Thread Cert.Proj0ReferenceIdeal.nD Cert.Proj0ReferenceIdeal.τ).loc Cert.Proj0ReferenceIdeal.main_arg1))

def preserves_Up1Kernel_Up1KernelIdeal : Prop :=
  True

def algebraic_Up1KernelIdeal_Up1ReferenceIdeal [hUp1KernelIdeal : Cert.Up1KernelIdeal.Facts] [hUp1ReferenceIdeal : Cert.Up1ReferenceIdeal.Facts] : Prop :=
  ∀ (m : (ℓ : Loc Cert.Up1KernelIdeal.nD Cert.Up1KernelIdeal.τ Cert.Up1KernelIdeal.sig) → Buf (Elt Ideal) ℓ) (g : Dev Cert.Up1KernelIdeal.nD → PrngReg)
    (m' : (ℓ : Loc Cert.Up1ReferenceIdeal.nD Cert.Up1ReferenceIdeal.τ Cert.Up1ReferenceIdeal.sig) → Buf (Elt Ideal) ℓ) (g' : Dev Cert.Up1ReferenceIdeal.nD → PrngReg), Pre_Up1KernelIdeal m →
    (∀ c : Dev Cert.Up1KernelIdeal.nD,
      m' ((c.tc : Thread Cert.Up1ReferenceIdeal.nD Cert.Up1ReferenceIdeal.τ).loc Cert.Up1ReferenceIdeal.main_arg0) = m ((c.tc : Thread Cert.Up1KernelIdeal.nD Cert.Up1KernelIdeal.τ).loc Cert.Up1KernelIdeal.main_arg0)
      ∧ m' ((c.tc : Thread Cert.Up1ReferenceIdeal.nD Cert.Up1ReferenceIdeal.τ).loc Cert.Up1ReferenceIdeal.main_arg1) = m ((c.tc : Thread Cert.Up1KernelIdeal.nD Cert.Up1KernelIdeal.τ).loc Cert.Up1KernelIdeal.main_arg1)) →
    ∃ (v0 : (c : Dev Cert.Up1KernelIdeal.nD) → Buf (Elt Ideal) ((c.tc : Thread Cert.Up1KernelIdeal.nD Cert.Up1KernelIdeal.τ).loc Cert.Up1KernelIdeal.main_v0)),
      θ_run (Cert.Up1KernelIdeal.defs (F := Ideal)) (onTc (τ := Cert.Up1KernelIdeal.τ) (Cert.Up1KernelIdeal.main (F := Ideal))) ⟨m, fun _ => 0, g⟩ (fun r => ∀ c : Dev Cert.Up1KernelIdeal.nD,
          r.2.mem ((c.tc : Thread Cert.Up1KernelIdeal.nD Cert.Up1KernelIdeal.τ).loc Cert.Up1KernelIdeal.main_v0) = v0 c
          ∧ r.2.mem ((c.tc : Thread Cert.Up1KernelIdeal.nD Cert.Up1KernelIdeal.τ).loc Cert.Up1KernelIdeal.main_arg0) = m ((c.tc : Thread Cert.Up1KernelIdeal.nD Cert.Up1KernelIdeal.τ).loc Cert.Up1KernelIdeal.main_arg0)
          ∧ r.2.mem ((c.tc : Thread Cert.Up1KernelIdeal.nD Cert.Up1KernelIdeal.τ).loc Cert.Up1KernelIdeal.main_arg1) = m ((c.tc : Thread Cert.Up1KernelIdeal.nD Cert.Up1KernelIdeal.τ).loc Cert.Up1KernelIdeal.main_arg1))
      ∧ θ_run (Cert.Up1ReferenceIdeal.defs (F := Ideal)) (onTc (τ := Cert.Up1ReferenceIdeal.τ) (Cert.Up1ReferenceIdeal.main (F := Ideal))) ⟨m', fun _ => 0, g'⟩ (fun r => ∀ c : Dev Cert.Up1ReferenceIdeal.nD,
          r.2.mem ((c.tc : Thread Cert.Up1ReferenceIdeal.nD Cert.Up1ReferenceIdeal.τ).loc Cert.Up1ReferenceIdeal.main_v5) = v0 c
          ∧ r.2.mem ((c.tc : Thread Cert.Up1ReferenceIdeal.nD Cert.Up1ReferenceIdeal.τ).loc Cert.Up1ReferenceIdeal.main_arg0) = m' ((c.tc : Thread Cert.Up1ReferenceIdeal.nD Cert.Up1ReferenceIdeal.τ).loc Cert.Up1ReferenceIdeal.main_arg0)
          ∧ r.2.mem ((c.tc : Thread Cert.Up1ReferenceIdeal.nD Cert.Up1ReferenceIdeal.τ).loc Cert.Up1ReferenceIdeal.main_arg1) = m' ((c.tc : Thread Cert.Up1ReferenceIdeal.nD Cert.Up1ReferenceIdeal.τ).loc Cert.Up1ReferenceIdeal.main_arg1))

def preserves_Down1Kernel_Down1KernelIdeal : Prop :=
  True

def algebraic_Down1KernelIdeal_Down1ReferenceIdeal [hDown1KernelIdeal : Cert.Down1KernelIdeal.Facts] [hDown1ReferenceIdeal : Cert.Down1ReferenceIdeal.Facts] : Prop :=
  ∀ (m : (ℓ : Loc Cert.Down1KernelIdeal.nD Cert.Down1KernelIdeal.τ Cert.Down1KernelIdeal.sig) → Buf (Elt Ideal) ℓ) (g : Dev Cert.Down1KernelIdeal.nD → PrngReg)
    (m' : (ℓ : Loc Cert.Down1ReferenceIdeal.nD Cert.Down1ReferenceIdeal.τ Cert.Down1ReferenceIdeal.sig) → Buf (Elt Ideal) ℓ) (g' : Dev Cert.Down1ReferenceIdeal.nD → PrngReg), Pre_Down1KernelIdeal m →
    (∀ c : Dev Cert.Down1KernelIdeal.nD,
      m' ((c.tc : Thread Cert.Down1ReferenceIdeal.nD Cert.Down1ReferenceIdeal.τ).loc Cert.Down1ReferenceIdeal.main_arg0) = m ((c.tc : Thread Cert.Down1KernelIdeal.nD Cert.Down1KernelIdeal.τ).loc Cert.Down1KernelIdeal.main_arg0)
      ∧ m' ((c.tc : Thread Cert.Down1ReferenceIdeal.nD Cert.Down1ReferenceIdeal.τ).loc Cert.Down1ReferenceIdeal.main_arg1) = m ((c.tc : Thread Cert.Down1KernelIdeal.nD Cert.Down1KernelIdeal.τ).loc Cert.Down1KernelIdeal.main_arg1)) →
    ∃ (v0 : (c : Dev Cert.Down1KernelIdeal.nD) → Buf (Elt Ideal) ((c.tc : Thread Cert.Down1KernelIdeal.nD Cert.Down1KernelIdeal.τ).loc Cert.Down1KernelIdeal.main_v0)),
      θ_run (Cert.Down1KernelIdeal.defs (F := Ideal)) (onTc (τ := Cert.Down1KernelIdeal.τ) (Cert.Down1KernelIdeal.main (F := Ideal))) ⟨m, fun _ => 0, g⟩ (fun r => ∀ c : Dev Cert.Down1KernelIdeal.nD,
          r.2.mem ((c.tc : Thread Cert.Down1KernelIdeal.nD Cert.Down1KernelIdeal.τ).loc Cert.Down1KernelIdeal.main_v0) = v0 c
          ∧ r.2.mem ((c.tc : Thread Cert.Down1KernelIdeal.nD Cert.Down1KernelIdeal.τ).loc Cert.Down1KernelIdeal.main_arg0) = m ((c.tc : Thread Cert.Down1KernelIdeal.nD Cert.Down1KernelIdeal.τ).loc Cert.Down1KernelIdeal.main_arg0)
          ∧ r.2.mem ((c.tc : Thread Cert.Down1KernelIdeal.nD Cert.Down1KernelIdeal.τ).loc Cert.Down1KernelIdeal.main_arg1) = m ((c.tc : Thread Cert.Down1KernelIdeal.nD Cert.Down1KernelIdeal.τ).loc Cert.Down1KernelIdeal.main_arg1))
      ∧ θ_run (Cert.Down1ReferenceIdeal.defs (F := Ideal)) (onTc (τ := Cert.Down1ReferenceIdeal.τ) (Cert.Down1ReferenceIdeal.main (F := Ideal))) ⟨m', fun _ => 0, g'⟩ (fun r => ∀ c : Dev Cert.Down1ReferenceIdeal.nD,
          r.2.mem ((c.tc : Thread Cert.Down1ReferenceIdeal.nD Cert.Down1ReferenceIdeal.τ).loc Cert.Down1ReferenceIdeal.main_v4) = v0 c
          ∧ r.2.mem ((c.tc : Thread Cert.Down1ReferenceIdeal.nD Cert.Down1ReferenceIdeal.τ).loc Cert.Down1ReferenceIdeal.main_arg0) = m' ((c.tc : Thread Cert.Down1ReferenceIdeal.nD Cert.Down1ReferenceIdeal.τ).loc Cert.Down1ReferenceIdeal.main_arg0)
          ∧ r.2.mem ((c.tc : Thread Cert.Down1ReferenceIdeal.nD Cert.Down1ReferenceIdeal.τ).loc Cert.Down1ReferenceIdeal.main_arg1) = m' ((c.tc : Thread Cert.Down1ReferenceIdeal.nD Cert.Down1ReferenceIdeal.τ).loc Cert.Down1ReferenceIdeal.main_arg1))

def preserves_Down0Kernel_Down0KernelIdeal : Prop :=
  True

def algebraic_Down0KernelIdeal_Down0ReferenceIdeal [hDown0KernelIdeal : Cert.Down0KernelIdeal.Facts] [hDown0ReferenceIdeal : Cert.Down0ReferenceIdeal.Facts] : Prop :=
  ∀ (m : (ℓ : Loc Cert.Down0KernelIdeal.nD Cert.Down0KernelIdeal.τ Cert.Down0KernelIdeal.sig) → Buf (Elt Ideal) ℓ) (g : Dev Cert.Down0KernelIdeal.nD → PrngReg)
    (m' : (ℓ : Loc Cert.Down0ReferenceIdeal.nD Cert.Down0ReferenceIdeal.τ Cert.Down0ReferenceIdeal.sig) → Buf (Elt Ideal) ℓ) (g' : Dev Cert.Down0ReferenceIdeal.nD → PrngReg), Pre_Down0KernelIdeal m →
    (∀ c : Dev Cert.Down0KernelIdeal.nD,
      m' ((c.tc : Thread Cert.Down0ReferenceIdeal.nD Cert.Down0ReferenceIdeal.τ).loc Cert.Down0ReferenceIdeal.main_arg0) = m ((c.tc : Thread Cert.Down0KernelIdeal.nD Cert.Down0KernelIdeal.τ).loc Cert.Down0KernelIdeal.main_arg0)
      ∧ m' ((c.tc : Thread Cert.Down0ReferenceIdeal.nD Cert.Down0ReferenceIdeal.τ).loc Cert.Down0ReferenceIdeal.main_arg1) = m ((c.tc : Thread Cert.Down0KernelIdeal.nD Cert.Down0KernelIdeal.τ).loc Cert.Down0KernelIdeal.main_arg1)) →
    ∃ (v0 : (c : Dev Cert.Down0KernelIdeal.nD) → Buf (Elt Ideal) ((c.tc : Thread Cert.Down0KernelIdeal.nD Cert.Down0KernelIdeal.τ).loc Cert.Down0KernelIdeal.main_v0)),
      θ_run (Cert.Down0KernelIdeal.defs (F := Ideal)) (onTc (τ := Cert.Down0KernelIdeal.τ) (Cert.Down0KernelIdeal.main (F := Ideal))) ⟨m, fun _ => 0, g⟩ (fun r => ∀ c : Dev Cert.Down0KernelIdeal.nD,
          r.2.mem ((c.tc : Thread Cert.Down0KernelIdeal.nD Cert.Down0KernelIdeal.τ).loc Cert.Down0KernelIdeal.main_v0) = v0 c
          ∧ r.2.mem ((c.tc : Thread Cert.Down0KernelIdeal.nD Cert.Down0KernelIdeal.τ).loc Cert.Down0KernelIdeal.main_arg0) = m ((c.tc : Thread Cert.Down0KernelIdeal.nD Cert.Down0KernelIdeal.τ).loc Cert.Down0KernelIdeal.main_arg0)
          ∧ r.2.mem ((c.tc : Thread Cert.Down0KernelIdeal.nD Cert.Down0KernelIdeal.τ).loc Cert.Down0KernelIdeal.main_arg1) = m ((c.tc : Thread Cert.Down0KernelIdeal.nD Cert.Down0KernelIdeal.τ).loc Cert.Down0KernelIdeal.main_arg1))
      ∧ θ_run (Cert.Down0ReferenceIdeal.defs (F := Ideal)) (onTc (τ := Cert.Down0ReferenceIdeal.τ) (Cert.Down0ReferenceIdeal.main (F := Ideal))) ⟨m', fun _ => 0, g'⟩ (fun r => ∀ c : Dev Cert.Down0ReferenceIdeal.nD,
          r.2.mem ((c.tc : Thread Cert.Down0ReferenceIdeal.nD Cert.Down0ReferenceIdeal.τ).loc Cert.Down0ReferenceIdeal.main_v4) = v0 c
          ∧ r.2.mem ((c.tc : Thread Cert.Down0ReferenceIdeal.nD Cert.Down0ReferenceIdeal.τ).loc Cert.Down0ReferenceIdeal.main_arg0) = m' ((c.tc : Thread Cert.Down0ReferenceIdeal.nD Cert.Down0ReferenceIdeal.τ).loc Cert.Down0ReferenceIdeal.main_arg0)
          ∧ r.2.mem ((c.tc : Thread Cert.Down0ReferenceIdeal.nD Cert.Down0ReferenceIdeal.τ).loc Cert.Down0ReferenceIdeal.main_arg1) = m' ((c.tc : Thread Cert.Down0ReferenceIdeal.nD Cert.Down0ReferenceIdeal.τ).loc Cert.Down0ReferenceIdeal.main_arg1))

def preserves_Mix1Kernel_Mix1KernelIdeal : Prop :=
  True

def algebraic_Mix1KernelIdeal_Mix1ReferenceIdeal [hMix1KernelIdeal : Cert.Mix1KernelIdeal.Facts] [hMix1ReferenceIdeal : Cert.Mix1ReferenceIdeal.Facts] : Prop :=
  ∀ (m : (ℓ : Loc Cert.Mix1KernelIdeal.nD Cert.Mix1KernelIdeal.τ Cert.Mix1KernelIdeal.sig) → Buf (Elt Ideal) ℓ) (g : Dev Cert.Mix1KernelIdeal.nD → PrngReg)
    (m' : (ℓ : Loc Cert.Mix1ReferenceIdeal.nD Cert.Mix1ReferenceIdeal.τ Cert.Mix1ReferenceIdeal.sig) → Buf (Elt Ideal) ℓ) (g' : Dev Cert.Mix1ReferenceIdeal.nD → PrngReg), Pre_Mix1KernelIdeal m →
    (∀ c : Dev Cert.Mix1KernelIdeal.nD,
      m' ((c.tc : Thread Cert.Mix1ReferenceIdeal.nD Cert.Mix1ReferenceIdeal.τ).loc Cert.Mix1ReferenceIdeal.main_arg0) = m ((c.tc : Thread Cert.Mix1KernelIdeal.nD Cert.Mix1KernelIdeal.τ).loc Cert.Mix1KernelIdeal.main_arg0)
      ∧ m' ((c.tc : Thread Cert.Mix1ReferenceIdeal.nD Cert.Mix1ReferenceIdeal.τ).loc Cert.Mix1ReferenceIdeal.main_arg1) = m ((c.tc : Thread Cert.Mix1KernelIdeal.nD Cert.Mix1KernelIdeal.τ).loc Cert.Mix1KernelIdeal.main_arg1)) →
    ∃ (v0 : (c : Dev Cert.Mix1KernelIdeal.nD) → Buf (Elt Ideal) ((c.tc : Thread Cert.Mix1KernelIdeal.nD Cert.Mix1KernelIdeal.τ).loc Cert.Mix1KernelIdeal.main_v0)),
      θ_run (Cert.Mix1KernelIdeal.defs (F := Ideal)) (onTc (τ := Cert.Mix1KernelIdeal.τ) (Cert.Mix1KernelIdeal.main (F := Ideal))) ⟨m, fun _ => 0, g⟩ (fun r => ∀ c : Dev Cert.Mix1KernelIdeal.nD,
          r.2.mem ((c.tc : Thread Cert.Mix1KernelIdeal.nD Cert.Mix1KernelIdeal.τ).loc Cert.Mix1KernelIdeal.main_v0) = v0 c
          ∧ r.2.mem ((c.tc : Thread Cert.Mix1KernelIdeal.nD Cert.Mix1KernelIdeal.τ).loc Cert.Mix1KernelIdeal.main_arg0) = m ((c.tc : Thread Cert.Mix1KernelIdeal.nD Cert.Mix1KernelIdeal.τ).loc Cert.Mix1KernelIdeal.main_arg0)
          ∧ r.2.mem ((c.tc : Thread Cert.Mix1KernelIdeal.nD Cert.Mix1KernelIdeal.τ).loc Cert.Mix1KernelIdeal.main_arg1) = m ((c.tc : Thread Cert.Mix1KernelIdeal.nD Cert.Mix1KernelIdeal.τ).loc Cert.Mix1KernelIdeal.main_arg1))
      ∧ θ_run (Cert.Mix1ReferenceIdeal.defs (F := Ideal)) (onTc (τ := Cert.Mix1ReferenceIdeal.τ) (Cert.Mix1ReferenceIdeal.main (F := Ideal))) ⟨m', fun _ => 0, g'⟩ (fun r => ∀ c : Dev Cert.Mix1ReferenceIdeal.nD,
          r.2.mem ((c.tc : Thread Cert.Mix1ReferenceIdeal.nD Cert.Mix1ReferenceIdeal.τ).loc Cert.Mix1ReferenceIdeal.main_v4) = v0 c
          ∧ r.2.mem ((c.tc : Thread Cert.Mix1ReferenceIdeal.nD Cert.Mix1ReferenceIdeal.τ).loc Cert.Mix1ReferenceIdeal.main_arg0) = m' ((c.tc : Thread Cert.Mix1ReferenceIdeal.nD Cert.Mix1ReferenceIdeal.τ).loc Cert.Mix1ReferenceIdeal.main_arg0)
          ∧ r.2.mem ((c.tc : Thread Cert.Mix1ReferenceIdeal.nD Cert.Mix1ReferenceIdeal.τ).loc Cert.Mix1ReferenceIdeal.main_arg1) = m' ((c.tc : Thread Cert.Mix1ReferenceIdeal.nD Cert.Mix1ReferenceIdeal.τ).loc Cert.Mix1ReferenceIdeal.main_arg1))

def preserves_Mix0Kernel_Mix0KernelIdeal : Prop :=
  True

def algebraic_Mix0KernelIdeal_Mix0ReferenceIdeal [hMix0KernelIdeal : Cert.Mix0KernelIdeal.Facts] [hMix0ReferenceIdeal : Cert.Mix0ReferenceIdeal.Facts] : Prop :=
  ∀ (m : (ℓ : Loc Cert.Mix0KernelIdeal.nD Cert.Mix0KernelIdeal.τ Cert.Mix0KernelIdeal.sig) → Buf (Elt Ideal) ℓ) (g : Dev Cert.Mix0KernelIdeal.nD → PrngReg)
    (m' : (ℓ : Loc Cert.Mix0ReferenceIdeal.nD Cert.Mix0ReferenceIdeal.τ Cert.Mix0ReferenceIdeal.sig) → Buf (Elt Ideal) ℓ) (g' : Dev Cert.Mix0ReferenceIdeal.nD → PrngReg), Pre_Mix0KernelIdeal m →
    (∀ c : Dev Cert.Mix0KernelIdeal.nD,
      m' ((c.tc : Thread Cert.Mix0ReferenceIdeal.nD Cert.Mix0ReferenceIdeal.τ).loc Cert.Mix0ReferenceIdeal.main_arg0) = m ((c.tc : Thread Cert.Mix0KernelIdeal.nD Cert.Mix0KernelIdeal.τ).loc Cert.Mix0KernelIdeal.main_arg0)
      ∧ m' ((c.tc : Thread Cert.Mix0ReferenceIdeal.nD Cert.Mix0ReferenceIdeal.τ).loc Cert.Mix0ReferenceIdeal.main_arg1) = m ((c.tc : Thread Cert.Mix0KernelIdeal.nD Cert.Mix0KernelIdeal.τ).loc Cert.Mix0KernelIdeal.main_arg1)) →
    ∃ (v0 : (c : Dev Cert.Mix0KernelIdeal.nD) → Buf (Elt Ideal) ((c.tc : Thread Cert.Mix0KernelIdeal.nD Cert.Mix0KernelIdeal.τ).loc Cert.Mix0KernelIdeal.main_v0)),
      θ_run (Cert.Mix0KernelIdeal.defs (F := Ideal)) (onTc (τ := Cert.Mix0KernelIdeal.τ) (Cert.Mix0KernelIdeal.main (F := Ideal))) ⟨m, fun _ => 0, g⟩ (fun r => ∀ c : Dev Cert.Mix0KernelIdeal.nD,
          r.2.mem ((c.tc : Thread Cert.Mix0KernelIdeal.nD Cert.Mix0KernelIdeal.τ).loc Cert.Mix0KernelIdeal.main_v0) = v0 c
          ∧ r.2.mem ((c.tc : Thread Cert.Mix0KernelIdeal.nD Cert.Mix0KernelIdeal.τ).loc Cert.Mix0KernelIdeal.main_arg0) = m ((c.tc : Thread Cert.Mix0KernelIdeal.nD Cert.Mix0KernelIdeal.τ).loc Cert.Mix0KernelIdeal.main_arg0)
          ∧ r.2.mem ((c.tc : Thread Cert.Mix0KernelIdeal.nD Cert.Mix0KernelIdeal.τ).loc Cert.Mix0KernelIdeal.main_arg1) = m ((c.tc : Thread Cert.Mix0KernelIdeal.nD Cert.Mix0KernelIdeal.τ).loc Cert.Mix0KernelIdeal.main_arg1))
      ∧ θ_run (Cert.Mix0ReferenceIdeal.defs (F := Ideal)) (onTc (τ := Cert.Mix0ReferenceIdeal.τ) (Cert.Mix0ReferenceIdeal.main (F := Ideal))) ⟨m', fun _ => 0, g'⟩ (fun r => ∀ c : Dev Cert.Mix0ReferenceIdeal.nD,
          r.2.mem ((c.tc : Thread Cert.Mix0ReferenceIdeal.nD Cert.Mix0ReferenceIdeal.τ).loc Cert.Mix0ReferenceIdeal.main_v4) = v0 c
          ∧ r.2.mem ((c.tc : Thread Cert.Mix0ReferenceIdeal.nD Cert.Mix0ReferenceIdeal.τ).loc Cert.Mix0ReferenceIdeal.main_arg0) = m' ((c.tc : Thread Cert.Mix0ReferenceIdeal.nD Cert.Mix0ReferenceIdeal.τ).loc Cert.Mix0ReferenceIdeal.main_arg0)
          ∧ r.2.mem ((c.tc : Thread Cert.Mix0ReferenceIdeal.nD Cert.Mix0ReferenceIdeal.τ).loc Cert.Mix0ReferenceIdeal.main_arg1) = m' ((c.tc : Thread Cert.Mix0ReferenceIdeal.nD Cert.Mix0ReferenceIdeal.τ).loc Cert.Mix0ReferenceIdeal.main_arg1))

def preserves_MixDx1Kernel_MixDx1KernelIdeal : Prop :=
  True

def algebraic_MixDx1KernelIdeal_MixDx1ReferenceIdeal [hMixDx1KernelIdeal : Cert.MixDx1KernelIdeal.Facts] [hMixDx1ReferenceIdeal : Cert.MixDx1ReferenceIdeal.Facts] : Prop :=
  ∀ (m : (ℓ : Loc Cert.MixDx1KernelIdeal.nD Cert.MixDx1KernelIdeal.τ Cert.MixDx1KernelIdeal.sig) → Buf (Elt Ideal) ℓ) (g : Dev Cert.MixDx1KernelIdeal.nD → PrngReg)
    (m' : (ℓ : Loc Cert.MixDx1ReferenceIdeal.nD Cert.MixDx1ReferenceIdeal.τ Cert.MixDx1ReferenceIdeal.sig) → Buf (Elt Ideal) ℓ) (g' : Dev Cert.MixDx1ReferenceIdeal.nD → PrngReg), Pre_MixDx1KernelIdeal m →
    (∀ c : Dev Cert.MixDx1KernelIdeal.nD,
      m' ((c.tc : Thread Cert.MixDx1ReferenceIdeal.nD Cert.MixDx1ReferenceIdeal.τ).loc Cert.MixDx1ReferenceIdeal.main_arg0) = m ((c.tc : Thread Cert.MixDx1KernelIdeal.nD Cert.MixDx1KernelIdeal.τ).loc Cert.MixDx1KernelIdeal.main_arg0)
      ∧ m' ((c.tc : Thread Cert.MixDx1ReferenceIdeal.nD Cert.MixDx1ReferenceIdeal.τ).loc Cert.MixDx1ReferenceIdeal.main_arg1) = m ((c.tc : Thread Cert.MixDx1KernelIdeal.nD Cert.MixDx1KernelIdeal.τ).loc Cert.MixDx1KernelIdeal.main_arg1)) →
    ∃ (v0 : (c : Dev Cert.MixDx1KernelIdeal.nD) → Buf (Elt Ideal) ((c.tc : Thread Cert.MixDx1KernelIdeal.nD Cert.MixDx1KernelIdeal.τ).loc Cert.MixDx1KernelIdeal.main_v0)),
      θ_run (Cert.MixDx1KernelIdeal.defs (F := Ideal)) (onTc (τ := Cert.MixDx1KernelIdeal.τ) (Cert.MixDx1KernelIdeal.main (F := Ideal))) ⟨m, fun _ => 0, g⟩ (fun r => ∀ c : Dev Cert.MixDx1KernelIdeal.nD,
          r.2.mem ((c.tc : Thread Cert.MixDx1KernelIdeal.nD Cert.MixDx1KernelIdeal.τ).loc Cert.MixDx1KernelIdeal.main_v0) = v0 c
          ∧ r.2.mem ((c.tc : Thread Cert.MixDx1KernelIdeal.nD Cert.MixDx1KernelIdeal.τ).loc Cert.MixDx1KernelIdeal.main_arg0) = m ((c.tc : Thread Cert.MixDx1KernelIdeal.nD Cert.MixDx1KernelIdeal.τ).loc Cert.MixDx1KernelIdeal.main_arg0)
          ∧ r.2.mem ((c.tc : Thread Cert.MixDx1KernelIdeal.nD Cert.MixDx1KernelIdeal.τ).loc Cert.MixDx1KernelIdeal.main_arg1) = m ((c.tc : Thread Cert.MixDx1KernelIdeal.nD Cert.MixDx1KernelIdeal.τ).loc Cert.MixDx1KernelIdeal.main_arg1))
      ∧ θ_run (Cert.MixDx1ReferenceIdeal.defs (F := Ideal)) (onTc (τ := Cert.MixDx1ReferenceIdeal.τ) (Cert.MixDx1ReferenceIdeal.main (F := Ideal))) ⟨m', fun _ => 0, g'⟩ (fun r => ∀ c : Dev Cert.MixDx1ReferenceIdeal.nD,
          r.2.mem ((c.tc : Thread Cert.MixDx1ReferenceIdeal.nD Cert.MixDx1ReferenceIdeal.τ).loc Cert.MixDx1ReferenceIdeal.main_v7) = v0 c
          ∧ r.2.mem ((c.tc : Thread Cert.MixDx1ReferenceIdeal.nD Cert.MixDx1ReferenceIdeal.τ).loc Cert.MixDx1ReferenceIdeal.main_arg0) = m' ((c.tc : Thread Cert.MixDx1ReferenceIdeal.nD Cert.MixDx1ReferenceIdeal.τ).loc Cert.MixDx1ReferenceIdeal.main_arg0)
          ∧ r.2.mem ((c.tc : Thread Cert.MixDx1ReferenceIdeal.nD Cert.MixDx1ReferenceIdeal.τ).loc Cert.MixDx1ReferenceIdeal.main_arg1) = m' ((c.tc : Thread Cert.MixDx1ReferenceIdeal.nD Cert.MixDx1ReferenceIdeal.τ).loc Cert.MixDx1ReferenceIdeal.main_arg1))

def preserves_MixDx0Kernel_MixDx0KernelIdeal : Prop :=
  True

def algebraic_MixDx0KernelIdeal_MixDx0ReferenceIdeal [hMixDx0KernelIdeal : Cert.MixDx0KernelIdeal.Facts] [hMixDx0ReferenceIdeal : Cert.MixDx0ReferenceIdeal.Facts] : Prop :=
  ∀ (m : (ℓ : Loc Cert.MixDx0KernelIdeal.nD Cert.MixDx0KernelIdeal.τ Cert.MixDx0KernelIdeal.sig) → Buf (Elt Ideal) ℓ) (g : Dev Cert.MixDx0KernelIdeal.nD → PrngReg)
    (m' : (ℓ : Loc Cert.MixDx0ReferenceIdeal.nD Cert.MixDx0ReferenceIdeal.τ Cert.MixDx0ReferenceIdeal.sig) → Buf (Elt Ideal) ℓ) (g' : Dev Cert.MixDx0ReferenceIdeal.nD → PrngReg), Pre_MixDx0KernelIdeal m →
    (∀ c : Dev Cert.MixDx0KernelIdeal.nD,
      m' ((c.tc : Thread Cert.MixDx0ReferenceIdeal.nD Cert.MixDx0ReferenceIdeal.τ).loc Cert.MixDx0ReferenceIdeal.main_arg0) = m ((c.tc : Thread Cert.MixDx0KernelIdeal.nD Cert.MixDx0KernelIdeal.τ).loc Cert.MixDx0KernelIdeal.main_arg0)
      ∧ m' ((c.tc : Thread Cert.MixDx0ReferenceIdeal.nD Cert.MixDx0ReferenceIdeal.τ).loc Cert.MixDx0ReferenceIdeal.main_arg1) = m ((c.tc : Thread Cert.MixDx0KernelIdeal.nD Cert.MixDx0KernelIdeal.τ).loc Cert.MixDx0KernelIdeal.main_arg1)) →
    ∃ (v0 : (c : Dev Cert.MixDx0KernelIdeal.nD) → Buf (Elt Ideal) ((c.tc : Thread Cert.MixDx0KernelIdeal.nD Cert.MixDx0KernelIdeal.τ).loc Cert.MixDx0KernelIdeal.main_v0)),
      θ_run (Cert.MixDx0KernelIdeal.defs (F := Ideal)) (onTc (τ := Cert.MixDx0KernelIdeal.τ) (Cert.MixDx0KernelIdeal.main (F := Ideal))) ⟨m, fun _ => 0, g⟩ (fun r => ∀ c : Dev Cert.MixDx0KernelIdeal.nD,
          r.2.mem ((c.tc : Thread Cert.MixDx0KernelIdeal.nD Cert.MixDx0KernelIdeal.τ).loc Cert.MixDx0KernelIdeal.main_v0) = v0 c
          ∧ r.2.mem ((c.tc : Thread Cert.MixDx0KernelIdeal.nD Cert.MixDx0KernelIdeal.τ).loc Cert.MixDx0KernelIdeal.main_arg0) = m ((c.tc : Thread Cert.MixDx0KernelIdeal.nD Cert.MixDx0KernelIdeal.τ).loc Cert.MixDx0KernelIdeal.main_arg0)
          ∧ r.2.mem ((c.tc : Thread Cert.MixDx0KernelIdeal.nD Cert.MixDx0KernelIdeal.τ).loc Cert.MixDx0KernelIdeal.main_arg1) = m ((c.tc : Thread Cert.MixDx0KernelIdeal.nD Cert.MixDx0KernelIdeal.τ).loc Cert.MixDx0KernelIdeal.main_arg1))
      ∧ θ_run (Cert.MixDx0ReferenceIdeal.defs (F := Ideal)) (onTc (τ := Cert.MixDx0ReferenceIdeal.τ) (Cert.MixDx0ReferenceIdeal.main (F := Ideal))) ⟨m', fun _ => 0, g'⟩ (fun r => ∀ c : Dev Cert.MixDx0ReferenceIdeal.nD,
          r.2.mem ((c.tc : Thread Cert.MixDx0ReferenceIdeal.nD Cert.MixDx0ReferenceIdeal.τ).loc Cert.MixDx0ReferenceIdeal.main_v7) = v0 c
          ∧ r.2.mem ((c.tc : Thread Cert.MixDx0ReferenceIdeal.nD Cert.MixDx0ReferenceIdeal.τ).loc Cert.MixDx0ReferenceIdeal.main_arg0) = m' ((c.tc : Thread Cert.MixDx0ReferenceIdeal.nD Cert.MixDx0ReferenceIdeal.τ).loc Cert.MixDx0ReferenceIdeal.main_arg0)
          ∧ r.2.mem ((c.tc : Thread Cert.MixDx0ReferenceIdeal.nD Cert.MixDx0ReferenceIdeal.τ).loc Cert.MixDx0ReferenceIdeal.main_arg1) = m' ((c.tc : Thread Cert.MixDx0ReferenceIdeal.nD Cert.MixDx0ReferenceIdeal.τ).loc Cert.MixDx0ReferenceIdeal.main_arg1))

def preserves_MixDw1Kernel_MixDw1KernelIdeal : Prop :=
  True

def algebraic_MixDw1KernelIdeal_MixDw1ReferenceIdeal_on_mix_dw1_written [hMixDw1KernelIdeal : Cert.MixDw1KernelIdeal.Facts] [hMixDw1ReferenceIdeal : Cert.MixDw1ReferenceIdeal.Facts] [hOn_mix_dw1_written : Cert.On_mix_dw1_written.Facts] : Prop :=
  ∀ (m : (ℓ : Loc Cert.MixDw1KernelIdeal.nD Cert.MixDw1KernelIdeal.τ Cert.MixDw1KernelIdeal.sig) → Buf (Elt Ideal) ℓ) (g : Dev Cert.MixDw1KernelIdeal.nD → PrngReg)
    (m' : (ℓ : Loc Cert.MixDw1ReferenceIdeal.nD Cert.MixDw1ReferenceIdeal.τ Cert.MixDw1ReferenceIdeal.sig) → Buf (Elt Ideal) ℓ) (g' : Dev Cert.MixDw1ReferenceIdeal.nD → PrngReg), Pre_MixDw1KernelIdeal m →
    (∀ c : Dev Cert.MixDw1KernelIdeal.nD,
      m' ((c.tc : Thread Cert.MixDw1ReferenceIdeal.nD Cert.MixDw1ReferenceIdeal.τ).loc Cert.MixDw1ReferenceIdeal.main_arg0) = m ((c.tc : Thread Cert.MixDw1KernelIdeal.nD Cert.MixDw1KernelIdeal.τ).loc Cert.MixDw1KernelIdeal.main_arg0)
      ∧ m' ((c.tc : Thread Cert.MixDw1ReferenceIdeal.nD Cert.MixDw1ReferenceIdeal.τ).loc Cert.MixDw1ReferenceIdeal.main_arg1) = m ((c.tc : Thread Cert.MixDw1KernelIdeal.nD Cert.MixDw1KernelIdeal.τ).loc Cert.MixDw1KernelIdeal.main_arg1)) →
    ∃ (v0 : (c : Dev Cert.MixDw1KernelIdeal.nD) → Buf (Elt Ideal) ((c.tc : Thread Cert.MixDw1KernelIdeal.nD Cert.MixDw1KernelIdeal.τ).loc Cert.MixDw1KernelIdeal.main_v0)),
      θ_run (Cert.MixDw1KernelIdeal.defs (F := Ideal)) (onTc (τ := Cert.MixDw1KernelIdeal.τ) (Cert.MixDw1KernelIdeal.main (F := Ideal))) ⟨m, fun _ => 0, g⟩ (fun r => ∀ c : Dev Cert.MixDw1KernelIdeal.nD,
          (∀ i : (⟨3, ![2, 1024, 1024]⟩ : Shape).Idx, (Cert.On_mix_dw1_written.fn (F := Ideal) (m ((c.tc : Thread Cert.MixDw1KernelIdeal.nD Cert.MixDw1KernelIdeal.τ).loc Cert.MixDw1KernelIdeal.main_arg0)) (m ((c.tc : Thread Cert.MixDw1KernelIdeal.nD Cert.MixDw1KernelIdeal.τ).loc Cert.MixDw1KernelIdeal.main_arg1))) i = 1#1 → r.2.mem ((c.tc : Thread Cert.MixDw1KernelIdeal.nD Cert.MixDw1KernelIdeal.τ).loc Cert.MixDw1KernelIdeal.main_v0) i = v0 c i)
          ∧ r.2.mem ((c.tc : Thread Cert.MixDw1KernelIdeal.nD Cert.MixDw1KernelIdeal.τ).loc Cert.MixDw1KernelIdeal.main_arg0) = m ((c.tc : Thread Cert.MixDw1KernelIdeal.nD Cert.MixDw1KernelIdeal.τ).loc Cert.MixDw1KernelIdeal.main_arg0)
          ∧ r.2.mem ((c.tc : Thread Cert.MixDw1KernelIdeal.nD Cert.MixDw1KernelIdeal.τ).loc Cert.MixDw1KernelIdeal.main_arg1) = m ((c.tc : Thread Cert.MixDw1KernelIdeal.nD Cert.MixDw1KernelIdeal.τ).loc Cert.MixDw1KernelIdeal.main_arg1))
      ∧ θ_run (Cert.MixDw1ReferenceIdeal.defs (F := Ideal)) (onTc (τ := Cert.MixDw1ReferenceIdeal.τ) (Cert.MixDw1ReferenceIdeal.main (F := Ideal))) ⟨m', fun _ => 0, g'⟩ (fun r => ∀ c : Dev Cert.MixDw1ReferenceIdeal.nD,
          (∀ i : (⟨3, ![2, 1024, 1024]⟩ : Shape).Idx, (Cert.On_mix_dw1_written.fn (F := Ideal) (m ((c.tc : Thread Cert.MixDw1KernelIdeal.nD Cert.MixDw1KernelIdeal.τ).loc Cert.MixDw1KernelIdeal.main_arg0)) (m ((c.tc : Thread Cert.MixDw1KernelIdeal.nD Cert.MixDw1KernelIdeal.τ).loc Cert.MixDw1KernelIdeal.main_arg1))) i = 1#1 → r.2.mem ((c.tc : Thread Cert.MixDw1ReferenceIdeal.nD Cert.MixDw1ReferenceIdeal.τ).loc Cert.MixDw1ReferenceIdeal.main_v10) i = v0 c i)
          ∧ r.2.mem ((c.tc : Thread Cert.MixDw1ReferenceIdeal.nD Cert.MixDw1ReferenceIdeal.τ).loc Cert.MixDw1ReferenceIdeal.main_arg0) = m' ((c.tc : Thread Cert.MixDw1ReferenceIdeal.nD Cert.MixDw1ReferenceIdeal.τ).loc Cert.MixDw1ReferenceIdeal.main_arg0)
          ∧ r.2.mem ((c.tc : Thread Cert.MixDw1ReferenceIdeal.nD Cert.MixDw1ReferenceIdeal.τ).loc Cert.MixDw1ReferenceIdeal.main_arg1) = m' ((c.tc : Thread Cert.MixDw1ReferenceIdeal.nD Cert.MixDw1ReferenceIdeal.τ).loc Cert.MixDw1ReferenceIdeal.main_arg1))

def preserves_MixDw0Kernel_MixDw0KernelIdeal : Prop :=
  True

def algebraic_MixDw0KernelIdeal_MixDw0ReferenceIdeal [hMixDw0KernelIdeal : Cert.MixDw0KernelIdeal.Facts] [hMixDw0ReferenceIdeal : Cert.MixDw0ReferenceIdeal.Facts] : Prop :=
  ∀ (m : (ℓ : Loc Cert.MixDw0KernelIdeal.nD Cert.MixDw0KernelIdeal.τ Cert.MixDw0KernelIdeal.sig) → Buf (Elt Ideal) ℓ) (g : Dev Cert.MixDw0KernelIdeal.nD → PrngReg)
    (m' : (ℓ : Loc Cert.MixDw0ReferenceIdeal.nD Cert.MixDw0ReferenceIdeal.τ Cert.MixDw0ReferenceIdeal.sig) → Buf (Elt Ideal) ℓ) (g' : Dev Cert.MixDw0ReferenceIdeal.nD → PrngReg), Pre_MixDw0KernelIdeal m →
    (∀ c : Dev Cert.MixDw0KernelIdeal.nD,
      m' ((c.tc : Thread Cert.MixDw0ReferenceIdeal.nD Cert.MixDw0ReferenceIdeal.τ).loc Cert.MixDw0ReferenceIdeal.main_arg0) = m ((c.tc : Thread Cert.MixDw0KernelIdeal.nD Cert.MixDw0KernelIdeal.τ).loc Cert.MixDw0KernelIdeal.main_arg0)
      ∧ m' ((c.tc : Thread Cert.MixDw0ReferenceIdeal.nD Cert.MixDw0ReferenceIdeal.τ).loc Cert.MixDw0ReferenceIdeal.main_arg1) = m ((c.tc : Thread Cert.MixDw0KernelIdeal.nD Cert.MixDw0KernelIdeal.τ).loc Cert.MixDw0KernelIdeal.main_arg1)
      ∧ m' ((c.tc : Thread Cert.MixDw0ReferenceIdeal.nD Cert.MixDw0ReferenceIdeal.τ).loc Cert.MixDw0ReferenceIdeal.main_arg2) = m ((c.tc : Thread Cert.MixDw0KernelIdeal.nD Cert.MixDw0KernelIdeal.τ).loc Cert.MixDw0KernelIdeal.main_arg2)) →
    ∃ (v0 : (c : Dev Cert.MixDw0KernelIdeal.nD) → Buf (Elt Ideal) ((c.tc : Thread Cert.MixDw0KernelIdeal.nD Cert.MixDw0KernelIdeal.τ).loc Cert.MixDw0KernelIdeal.main_v0)),
      θ_run (Cert.MixDw0KernelIdeal.defs (F := Ideal)) (onTc (τ := Cert.MixDw0KernelIdeal.τ) (Cert.MixDw0KernelIdeal.main (F := Ideal))) ⟨m, fun _ => 0, g⟩ (fun r => ∀ c : Dev Cert.MixDw0KernelIdeal.nD,
          r.2.mem ((c.tc : Thread Cert.MixDw0KernelIdeal.nD Cert.MixDw0KernelIdeal.τ).loc Cert.MixDw0KernelIdeal.main_v0) = v0 c
          ∧ r.2.mem ((c.tc : Thread Cert.MixDw0KernelIdeal.nD Cert.MixDw0KernelIdeal.τ).loc Cert.MixDw0KernelIdeal.main_arg0) = m ((c.tc : Thread Cert.MixDw0KernelIdeal.nD Cert.MixDw0KernelIdeal.τ).loc Cert.MixDw0KernelIdeal.main_arg0)
          ∧ r.2.mem ((c.tc : Thread Cert.MixDw0KernelIdeal.nD Cert.MixDw0KernelIdeal.τ).loc Cert.MixDw0KernelIdeal.main_arg1) = m ((c.tc : Thread Cert.MixDw0KernelIdeal.nD Cert.MixDw0KernelIdeal.τ).loc Cert.MixDw0KernelIdeal.main_arg1)
          ∧ r.2.mem ((c.tc : Thread Cert.MixDw0KernelIdeal.nD Cert.MixDw0KernelIdeal.τ).loc Cert.MixDw0KernelIdeal.main_arg2) = m ((c.tc : Thread Cert.MixDw0KernelIdeal.nD Cert.MixDw0KernelIdeal.τ).loc Cert.MixDw0KernelIdeal.main_arg2))
      ∧ θ_run (Cert.MixDw0ReferenceIdeal.defs (F := Ideal)) (onTc (τ := Cert.MixDw0ReferenceIdeal.τ) (Cert.MixDw0ReferenceIdeal.main (F := Ideal))) ⟨m', fun _ => 0, g'⟩ (fun r => ∀ c : Dev Cert.MixDw0ReferenceIdeal.nD,
          r.2.mem ((c.tc : Thread Cert.MixDw0ReferenceIdeal.nD Cert.MixDw0ReferenceIdeal.τ).loc Cert.MixDw0ReferenceIdeal.main_v11) = v0 c
          ∧ r.2.mem ((c.tc : Thread Cert.MixDw0ReferenceIdeal.nD Cert.MixDw0ReferenceIdeal.τ).loc Cert.MixDw0ReferenceIdeal.main_arg0) = m' ((c.tc : Thread Cert.MixDw0ReferenceIdeal.nD Cert.MixDw0ReferenceIdeal.τ).loc Cert.MixDw0ReferenceIdeal.main_arg0)
          ∧ r.2.mem ((c.tc : Thread Cert.MixDw0ReferenceIdeal.nD Cert.MixDw0ReferenceIdeal.τ).loc Cert.MixDw0ReferenceIdeal.main_arg1) = m' ((c.tc : Thread Cert.MixDw0ReferenceIdeal.nD Cert.MixDw0ReferenceIdeal.τ).loc Cert.MixDw0ReferenceIdeal.main_arg1)
          ∧ r.2.mem ((c.tc : Thread Cert.MixDw0ReferenceIdeal.nD Cert.MixDw0ReferenceIdeal.τ).loc Cert.MixDw0ReferenceIdeal.main_arg2) = m' ((c.tc : Thread Cert.MixDw0ReferenceIdeal.nD Cert.MixDw0ReferenceIdeal.τ).loc Cert.MixDw0ReferenceIdeal.main_arg2))

def preserves_DownDw1Kernel_DownDw1KernelIdeal : Prop :=
  True

def algebraic_DownDw1KernelIdeal_DownDw1ReferenceIdeal_on_down_dw1_written [hDownDw1KernelIdeal : Cert.DownDw1KernelIdeal.Facts] [hDownDw1ReferenceIdeal : Cert.DownDw1ReferenceIdeal.Facts] [hOn_down_dw1_written : Cert.On_down_dw1_written.Facts] : Prop :=
  ∀ (m : (ℓ : Loc Cert.DownDw1KernelIdeal.nD Cert.DownDw1KernelIdeal.τ Cert.DownDw1KernelIdeal.sig) → Buf (Elt Ideal) ℓ) (g : Dev Cert.DownDw1KernelIdeal.nD → PrngReg)
    (m' : (ℓ : Loc Cert.DownDw1ReferenceIdeal.nD Cert.DownDw1ReferenceIdeal.τ Cert.DownDw1ReferenceIdeal.sig) → Buf (Elt Ideal) ℓ) (g' : Dev Cert.DownDw1ReferenceIdeal.nD → PrngReg), Pre_DownDw1KernelIdeal m →
    (∀ c : Dev Cert.DownDw1KernelIdeal.nD,
      m' ((c.tc : Thread Cert.DownDw1ReferenceIdeal.nD Cert.DownDw1ReferenceIdeal.τ).loc Cert.DownDw1ReferenceIdeal.main_arg0) = m ((c.tc : Thread Cert.DownDw1KernelIdeal.nD Cert.DownDw1KernelIdeal.τ).loc Cert.DownDw1KernelIdeal.main_arg0)
      ∧ m' ((c.tc : Thread Cert.DownDw1ReferenceIdeal.nD Cert.DownDw1ReferenceIdeal.τ).loc Cert.DownDw1ReferenceIdeal.main_arg1) = m ((c.tc : Thread Cert.DownDw1KernelIdeal.nD Cert.DownDw1KernelIdeal.τ).loc Cert.DownDw1KernelIdeal.main_arg1)) →
    ∃ (v0 : (c : Dev Cert.DownDw1KernelIdeal.nD) → Buf (Elt Ideal) ((c.tc : Thread Cert.DownDw1KernelIdeal.nD Cert.DownDw1KernelIdeal.τ).loc Cert.DownDw1KernelIdeal.main_v0)),
      θ_run (Cert.DownDw1KernelIdeal.defs (F := Ideal)) (onTc (τ := Cert.DownDw1KernelIdeal.τ) (Cert.DownDw1KernelIdeal.main (F := Ideal))) ⟨m, fun _ => 0, g⟩ (fun r => ∀ c : Dev Cert.DownDw1KernelIdeal.nD,
          (∀ i : (⟨3, ![2, 2816, 1024]⟩ : Shape).Idx, (Cert.On_down_dw1_written.fn (F := Ideal) (m ((c.tc : Thread Cert.DownDw1KernelIdeal.nD Cert.DownDw1KernelIdeal.τ).loc Cert.DownDw1KernelIdeal.main_arg0)) (m ((c.tc : Thread Cert.DownDw1KernelIdeal.nD Cert.DownDw1KernelIdeal.τ).loc Cert.DownDw1KernelIdeal.main_arg1))) i = 1#1 → r.2.mem ((c.tc : Thread Cert.DownDw1KernelIdeal.nD Cert.DownDw1KernelIdeal.τ).loc Cert.DownDw1KernelIdeal.main_v0) i = v0 c i)
          ∧ r.2.mem ((c.tc : Thread Cert.DownDw1KernelIdeal.nD Cert.DownDw1KernelIdeal.τ).loc Cert.DownDw1KernelIdeal.main_arg0) = m ((c.tc : Thread Cert.DownDw1KernelIdeal.nD Cert.DownDw1KernelIdeal.τ).loc Cert.DownDw1KernelIdeal.main_arg0)
          ∧ r.2.mem ((c.tc : Thread Cert.DownDw1KernelIdeal.nD Cert.DownDw1KernelIdeal.τ).loc Cert.DownDw1KernelIdeal.main_arg1) = m ((c.tc : Thread Cert.DownDw1KernelIdeal.nD Cert.DownDw1KernelIdeal.τ).loc Cert.DownDw1KernelIdeal.main_arg1))
      ∧ θ_run (Cert.DownDw1ReferenceIdeal.defs (F := Ideal)) (onTc (τ := Cert.DownDw1ReferenceIdeal.τ) (Cert.DownDw1ReferenceIdeal.main (F := Ideal))) ⟨m', fun _ => 0, g'⟩ (fun r => ∀ c : Dev Cert.DownDw1ReferenceIdeal.nD,
          (∀ i : (⟨3, ![2, 2816, 1024]⟩ : Shape).Idx, (Cert.On_down_dw1_written.fn (F := Ideal) (m ((c.tc : Thread Cert.DownDw1KernelIdeal.nD Cert.DownDw1KernelIdeal.τ).loc Cert.DownDw1KernelIdeal.main_arg0)) (m ((c.tc : Thread Cert.DownDw1KernelIdeal.nD Cert.DownDw1KernelIdeal.τ).loc Cert.DownDw1KernelIdeal.main_arg1))) i = 1#1 → r.2.mem ((c.tc : Thread Cert.DownDw1ReferenceIdeal.nD Cert.DownDw1ReferenceIdeal.τ).loc Cert.DownDw1ReferenceIdeal.main_v10) i = v0 c i)
          ∧ r.2.mem ((c.tc : Thread Cert.DownDw1ReferenceIdeal.nD Cert.DownDw1ReferenceIdeal.τ).loc Cert.DownDw1ReferenceIdeal.main_arg0) = m' ((c.tc : Thread Cert.DownDw1ReferenceIdeal.nD Cert.DownDw1ReferenceIdeal.τ).loc Cert.DownDw1ReferenceIdeal.main_arg0)
          ∧ r.2.mem ((c.tc : Thread Cert.DownDw1ReferenceIdeal.nD Cert.DownDw1ReferenceIdeal.τ).loc Cert.DownDw1ReferenceIdeal.main_arg1) = m' ((c.tc : Thread Cert.DownDw1ReferenceIdeal.nD Cert.DownDw1ReferenceIdeal.τ).loc Cert.DownDw1ReferenceIdeal.main_arg1))

def preserves_UpDw1Kernel_UpDw1KernelIdeal : Prop :=
  True

def algebraic_UpDw1KernelIdeal_UpDw1ReferenceIdeal_on_up_dw1_written [hUpDw1KernelIdeal : Cert.UpDw1KernelIdeal.Facts] [hUpDw1ReferenceIdeal : Cert.UpDw1ReferenceIdeal.Facts] [hOn_up_dw1_written : Cert.On_up_dw1_written.Facts] : Prop :=
  ∀ (m : (ℓ : Loc Cert.UpDw1KernelIdeal.nD Cert.UpDw1KernelIdeal.τ Cert.UpDw1KernelIdeal.sig) → Buf (Elt Ideal) ℓ) (g : Dev Cert.UpDw1KernelIdeal.nD → PrngReg)
    (m' : (ℓ : Loc Cert.UpDw1ReferenceIdeal.nD Cert.UpDw1ReferenceIdeal.τ Cert.UpDw1ReferenceIdeal.sig) → Buf (Elt Ideal) ℓ) (g' : Dev Cert.UpDw1ReferenceIdeal.nD → PrngReg), Pre_UpDw1KernelIdeal m →
    (∀ c : Dev Cert.UpDw1KernelIdeal.nD,
      m' ((c.tc : Thread Cert.UpDw1ReferenceIdeal.nD Cert.UpDw1ReferenceIdeal.τ).loc Cert.UpDw1ReferenceIdeal.main_arg0) = m ((c.tc : Thread Cert.UpDw1KernelIdeal.nD Cert.UpDw1KernelIdeal.τ).loc Cert.UpDw1KernelIdeal.main_arg0)
      ∧ m' ((c.tc : Thread Cert.UpDw1ReferenceIdeal.nD Cert.UpDw1ReferenceIdeal.τ).loc Cert.UpDw1ReferenceIdeal.main_arg1) = m ((c.tc : Thread Cert.UpDw1KernelIdeal.nD Cert.UpDw1KernelIdeal.τ).loc Cert.UpDw1KernelIdeal.main_arg1)) →
    ∃ (v0 : (c : Dev Cert.UpDw1KernelIdeal.nD) → Buf (Elt Ideal) ((c.tc : Thread Cert.UpDw1KernelIdeal.nD Cert.UpDw1KernelIdeal.τ).loc Cert.UpDw1KernelIdeal.main_v0)),
      θ_run (Cert.UpDw1KernelIdeal.defs (F := Ideal)) (onTc (τ := Cert.UpDw1KernelIdeal.τ) (Cert.UpDw1KernelIdeal.main (F := Ideal))) ⟨m, fun _ => 0, g⟩ (fun r => ∀ c : Dev Cert.UpDw1KernelIdeal.nD,
          (∀ i : (⟨4, ![2, 4, 1024, 1408]⟩ : Shape).Idx, (Cert.On_up_dw1_written.fn (F := Ideal) (m ((c.tc : Thread Cert.UpDw1KernelIdeal.nD Cert.UpDw1KernelIdeal.τ).loc Cert.UpDw1KernelIdeal.main_arg0)) (m ((c.tc : Thread Cert.UpDw1KernelIdeal.nD Cert.UpDw1KernelIdeal.τ).loc Cert.UpDw1KernelIdeal.main_arg1))) i = 1#1 → r.2.mem ((c.tc : Thread Cert.UpDw1KernelIdeal.nD Cert.UpDw1KernelIdeal.τ).loc Cert.UpDw1KernelIdeal.main_v0) i = v0 c i)
          ∧ r.2.mem ((c.tc : Thread Cert.UpDw1KernelIdeal.nD Cert.UpDw1KernelIdeal.τ).loc Cert.UpDw1KernelIdeal.main_arg0) = m ((c.tc : Thread Cert.UpDw1KernelIdeal.nD Cert.UpDw1KernelIdeal.τ).loc Cert.UpDw1KernelIdeal.main_arg0)
          ∧ r.2.mem ((c.tc : Thread Cert.UpDw1KernelIdeal.nD Cert.UpDw1KernelIdeal.τ).loc Cert.UpDw1KernelIdeal.main_arg1) = m ((c.tc : Thread Cert.UpDw1KernelIdeal.nD Cert.UpDw1KernelIdeal.τ).loc Cert.UpDw1KernelIdeal.main_arg1))
      ∧ θ_run (Cert.UpDw1ReferenceIdeal.defs (F := Ideal)) (onTc (τ := Cert.UpDw1ReferenceIdeal.τ) (Cert.UpDw1ReferenceIdeal.main (F := Ideal))) ⟨m', fun _ => 0, g'⟩ (fun r => ∀ c : Dev Cert.UpDw1ReferenceIdeal.nD,
          (∀ i : (⟨4, ![2, 4, 1024, 1408]⟩ : Shape).Idx, (Cert.On_up_dw1_written.fn (F := Ideal) (m ((c.tc : Thread Cert.UpDw1KernelIdeal.nD Cert.UpDw1KernelIdeal.τ).loc Cert.UpDw1KernelIdeal.main_arg0)) (m ((c.tc : Thread Cert.UpDw1KernelIdeal.nD Cert.UpDw1KernelIdeal.τ).loc Cert.UpDw1KernelIdeal.main_arg1))) i = 1#1 → r.2.mem ((c.tc : Thread Cert.UpDw1ReferenceIdeal.nD Cert.UpDw1ReferenceIdeal.τ).loc Cert.UpDw1ReferenceIdeal.main_v17) i = v0 c i)
          ∧ r.2.mem ((c.tc : Thread Cert.UpDw1ReferenceIdeal.nD Cert.UpDw1ReferenceIdeal.τ).loc Cert.UpDw1ReferenceIdeal.main_arg0) = m' ((c.tc : Thread Cert.UpDw1ReferenceIdeal.nD Cert.UpDw1ReferenceIdeal.τ).loc Cert.UpDw1ReferenceIdeal.main_arg0)
          ∧ r.2.mem ((c.tc : Thread Cert.UpDw1ReferenceIdeal.nD Cert.UpDw1ReferenceIdeal.τ).loc Cert.UpDw1ReferenceIdeal.main_arg1) = m' ((c.tc : Thread Cert.UpDw1ReferenceIdeal.nD Cert.UpDw1ReferenceIdeal.τ).loc Cert.UpDw1ReferenceIdeal.main_arg1))

def preserves_ProjDw1Kernel_ProjDw1KernelIdeal : Prop :=
  True

def algebraic_ProjDw1KernelIdeal_ProjDw1ReferenceIdeal_on_proj_dw1_written [hProjDw1KernelIdeal : Cert.ProjDw1KernelIdeal.Facts] [hProjDw1ReferenceIdeal : Cert.ProjDw1ReferenceIdeal.Facts] [hOn_proj_dw1_written : Cert.On_proj_dw1_written.Facts] : Prop :=
  ∀ (m : (ℓ : Loc Cert.ProjDw1KernelIdeal.nD Cert.ProjDw1KernelIdeal.τ Cert.ProjDw1KernelIdeal.sig) → Buf (Elt Ideal) ℓ) (g : Dev Cert.ProjDw1KernelIdeal.nD → PrngReg)
    (m' : (ℓ : Loc Cert.ProjDw1ReferenceIdeal.nD Cert.ProjDw1ReferenceIdeal.τ Cert.ProjDw1ReferenceIdeal.sig) → Buf (Elt Ideal) ℓ) (g' : Dev Cert.ProjDw1ReferenceIdeal.nD → PrngReg), Pre_ProjDw1KernelIdeal m →
    (∀ c : Dev Cert.ProjDw1KernelIdeal.nD,
      m' ((c.tc : Thread Cert.ProjDw1ReferenceIdeal.nD Cert.ProjDw1ReferenceIdeal.τ).loc Cert.ProjDw1ReferenceIdeal.main_arg0) = m ((c.tc : Thread Cert.ProjDw1KernelIdeal.nD Cert.ProjDw1KernelIdeal.τ).loc Cert.ProjDw1KernelIdeal.main_arg0)
      ∧ m' ((c.tc : Thread Cert.ProjDw1ReferenceIdeal.nD Cert.ProjDw1ReferenceIdeal.τ).loc Cert.ProjDw1ReferenceIdeal.main_arg1) = m ((c.tc : Thread Cert.ProjDw1KernelIdeal.nD Cert.ProjDw1KernelIdeal.τ).loc Cert.ProjDw1KernelIdeal.main_arg1)
      ∧ m' ((c.tc : Thread Cert.ProjDw1ReferenceIdeal.nD Cert.ProjDw1ReferenceIdeal.τ).loc Cert.ProjDw1ReferenceIdeal.main_arg2) = m ((c.tc : Thread Cert.ProjDw1KernelIdeal.nD Cert.ProjDw1KernelIdeal.τ).loc Cert.ProjDw1KernelIdeal.main_arg2)
      ∧ m' ((c.tc : Thread Cert.ProjDw1ReferenceIdeal.nD Cert.ProjDw1ReferenceIdeal.τ).loc Cert.ProjDw1ReferenceIdeal.main_arg3) = m ((c.tc : Thread Cert.ProjDw1KernelIdeal.nD Cert.ProjDw1KernelIdeal.τ).loc Cert.ProjDw1KernelIdeal.main_arg3)) →
    ∃ (v0 : (c : Dev Cert.ProjDw1KernelIdeal.nD) → Buf (Elt Ideal) ((c.tc : Thread Cert.ProjDw1KernelIdeal.nD Cert.ProjDw1KernelIdeal.τ).loc Cert.ProjDw1KernelIdeal.main_v0)),
      θ_run (Cert.ProjDw1KernelIdeal.defs (F := Ideal)) (onTc (τ := Cert.ProjDw1KernelIdeal.τ) (Cert.ProjDw1KernelIdeal.main (F := Ideal))) ⟨m, fun _ => 0, g⟩ (fun r => ∀ c : Dev Cert.ProjDw1KernelIdeal.nD,
          (∀ i : (⟨4, ![2, 4, 1024, 1024]⟩ : Shape).Idx, (Cert.On_proj_dw1_written.fn (F := Ideal) (m ((c.tc : Thread Cert.ProjDw1KernelIdeal.nD Cert.ProjDw1KernelIdeal.τ).loc Cert.ProjDw1KernelIdeal.main_arg0)) (m ((c.tc : Thread Cert.ProjDw1KernelIdeal.nD Cert.ProjDw1KernelIdeal.τ).loc Cert.ProjDw1KernelIdeal.main_arg1)) (m ((c.tc : Thread Cert.ProjDw1KernelIdeal.nD Cert.ProjDw1KernelIdeal.τ).loc Cert.ProjDw1KernelIdeal.main_arg2)) (m ((c.tc : Thread Cert.ProjDw1KernelIdeal.nD Cert.ProjDw1KernelIdeal.τ).loc Cert.ProjDw1KernelIdeal.main_arg3))) i = 1#1 → r.2.mem ((c.tc : Thread Cert.ProjDw1KernelIdeal.nD Cert.ProjDw1KernelIdeal.τ).loc Cert.ProjDw1KernelIdeal.main_v0) i = v0 c i)
          ∧ r.2.mem ((c.tc : Thread Cert.ProjDw1KernelIdeal.nD Cert.ProjDw1KernelIdeal.τ).loc Cert.ProjDw1KernelIdeal.main_arg0) = m ((c.tc : Thread Cert.ProjDw1KernelIdeal.nD Cert.ProjDw1KernelIdeal.τ).loc Cert.ProjDw1KernelIdeal.main_arg0)
          ∧ r.2.mem ((c.tc : Thread Cert.ProjDw1KernelIdeal.nD Cert.ProjDw1KernelIdeal.τ).loc Cert.ProjDw1KernelIdeal.main_arg1) = m ((c.tc : Thread Cert.ProjDw1KernelIdeal.nD Cert.ProjDw1KernelIdeal.τ).loc Cert.ProjDw1KernelIdeal.main_arg1)
          ∧ r.2.mem ((c.tc : Thread Cert.ProjDw1KernelIdeal.nD Cert.ProjDw1KernelIdeal.τ).loc Cert.ProjDw1KernelIdeal.main_arg2) = m ((c.tc : Thread Cert.ProjDw1KernelIdeal.nD Cert.ProjDw1KernelIdeal.τ).loc Cert.ProjDw1KernelIdeal.main_arg2)
          ∧ r.2.mem ((c.tc : Thread Cert.ProjDw1KernelIdeal.nD Cert.ProjDw1KernelIdeal.τ).loc Cert.ProjDw1KernelIdeal.main_arg3) = m ((c.tc : Thread Cert.ProjDw1KernelIdeal.nD Cert.ProjDw1KernelIdeal.τ).loc Cert.ProjDw1KernelIdeal.main_arg3))
      ∧ θ_run (Cert.ProjDw1ReferenceIdeal.defs (F := Ideal)) (onTc (τ := Cert.ProjDw1ReferenceIdeal.τ) (Cert.ProjDw1ReferenceIdeal.main (F := Ideal))) ⟨m', fun _ => 0, g'⟩ (fun r => ∀ c : Dev Cert.ProjDw1ReferenceIdeal.nD,
          (∀ i : (⟨4, ![2, 4, 1024, 1024]⟩ : Shape).Idx, (Cert.On_proj_dw1_written.fn (F := Ideal) (m ((c.tc : Thread Cert.ProjDw1KernelIdeal.nD Cert.ProjDw1KernelIdeal.τ).loc Cert.ProjDw1KernelIdeal.main_arg0)) (m ((c.tc : Thread Cert.ProjDw1KernelIdeal.nD Cert.ProjDw1KernelIdeal.τ).loc Cert.ProjDw1KernelIdeal.main_arg1)) (m ((c.tc : Thread Cert.ProjDw1KernelIdeal.nD Cert.ProjDw1KernelIdeal.τ).loc Cert.ProjDw1KernelIdeal.main_arg2)) (m ((c.tc : Thread Cert.ProjDw1KernelIdeal.nD Cert.ProjDw1KernelIdeal.τ).loc Cert.ProjDw1KernelIdeal.main_arg3))) i = 1#1 → r.2.mem ((c.tc : Thread Cert.ProjDw1ReferenceIdeal.nD Cert.ProjDw1ReferenceIdeal.τ).loc Cert.ProjDw1ReferenceIdeal.main_v13) i = v0 c i)
          ∧ r.2.mem ((c.tc : Thread Cert.ProjDw1ReferenceIdeal.nD Cert.ProjDw1ReferenceIdeal.τ).loc Cert.ProjDw1ReferenceIdeal.main_arg0) = m' ((c.tc : Thread Cert.ProjDw1ReferenceIdeal.nD Cert.ProjDw1ReferenceIdeal.τ).loc Cert.ProjDw1ReferenceIdeal.main_arg0)
          ∧ r.2.mem ((c.tc : Thread Cert.ProjDw1ReferenceIdeal.nD Cert.ProjDw1ReferenceIdeal.τ).loc Cert.ProjDw1ReferenceIdeal.main_arg1) = m' ((c.tc : Thread Cert.ProjDw1ReferenceIdeal.nD Cert.ProjDw1ReferenceIdeal.τ).loc Cert.ProjDw1ReferenceIdeal.main_arg1)
          ∧ r.2.mem ((c.tc : Thread Cert.ProjDw1ReferenceIdeal.nD Cert.ProjDw1ReferenceIdeal.τ).loc Cert.ProjDw1ReferenceIdeal.main_arg2) = m' ((c.tc : Thread Cert.ProjDw1ReferenceIdeal.nD Cert.ProjDw1ReferenceIdeal.τ).loc Cert.ProjDw1ReferenceIdeal.main_arg2)
          ∧ r.2.mem ((c.tc : Thread Cert.ProjDw1ReferenceIdeal.nD Cert.ProjDw1ReferenceIdeal.τ).loc Cert.ProjDw1ReferenceIdeal.main_arg3) = m' ((c.tc : Thread Cert.ProjDw1ReferenceIdeal.nD Cert.ProjDw1ReferenceIdeal.τ).loc Cert.ProjDw1ReferenceIdeal.main_arg3))

def preserves_AttnOut1Kernel_AttnOut1KernelIdeal : Prop :=
  True

def algebraic_AttnOut1KernelIdeal_AttnOut1ReferenceIdeal [hAttnOut1KernelIdeal : Cert.AttnOut1KernelIdeal.Facts] [hAttnOut1ReferenceIdeal : Cert.AttnOut1ReferenceIdeal.Facts] : Prop :=
  ∀ (m : (ℓ : Loc Cert.AttnOut1KernelIdeal.nD Cert.AttnOut1KernelIdeal.τ Cert.AttnOut1KernelIdeal.sig) → Buf (Elt Ideal) ℓ) (g : Dev Cert.AttnOut1KernelIdeal.nD → PrngReg)
    (m' : (ℓ : Loc Cert.AttnOut1ReferenceIdeal.nD Cert.AttnOut1ReferenceIdeal.τ Cert.AttnOut1ReferenceIdeal.sig) → Buf (Elt Ideal) ℓ) (g' : Dev Cert.AttnOut1ReferenceIdeal.nD → PrngReg), Pre_AttnOut1KernelIdeal m →
    (∀ c : Dev Cert.AttnOut1KernelIdeal.nD,
      m' ((c.tc : Thread Cert.AttnOut1ReferenceIdeal.nD Cert.AttnOut1ReferenceIdeal.τ).loc Cert.AttnOut1ReferenceIdeal.main_arg0) = m ((c.tc : Thread Cert.AttnOut1KernelIdeal.nD Cert.AttnOut1KernelIdeal.τ).loc Cert.AttnOut1KernelIdeal.main_arg0)
      ∧ m' ((c.tc : Thread Cert.AttnOut1ReferenceIdeal.nD Cert.AttnOut1ReferenceIdeal.τ).loc Cert.AttnOut1ReferenceIdeal.main_arg1) = m ((c.tc : Thread Cert.AttnOut1KernelIdeal.nD Cert.AttnOut1KernelIdeal.τ).loc Cert.AttnOut1KernelIdeal.main_arg1)) →
    ∃ (v0 : (c : Dev Cert.AttnOut1KernelIdeal.nD) → Buf (Elt Ideal) ((c.tc : Thread Cert.AttnOut1KernelIdeal.nD Cert.AttnOut1KernelIdeal.τ).loc Cert.AttnOut1KernelIdeal.main_v0)),
      θ_run (Cert.AttnOut1KernelIdeal.defs (F := Ideal)) (onTc (τ := Cert.AttnOut1KernelIdeal.τ) (Cert.AttnOut1KernelIdeal.main (F := Ideal))) ⟨m, fun _ => 0, g⟩ (fun r => ∀ c : Dev Cert.AttnOut1KernelIdeal.nD,
          r.2.mem ((c.tc : Thread Cert.AttnOut1KernelIdeal.nD Cert.AttnOut1KernelIdeal.τ).loc Cert.AttnOut1KernelIdeal.main_v0) = v0 c
          ∧ r.2.mem ((c.tc : Thread Cert.AttnOut1KernelIdeal.nD Cert.AttnOut1KernelIdeal.τ).loc Cert.AttnOut1KernelIdeal.main_arg0) = m ((c.tc : Thread Cert.AttnOut1KernelIdeal.nD Cert.AttnOut1KernelIdeal.τ).loc Cert.AttnOut1KernelIdeal.main_arg0)
          ∧ r.2.mem ((c.tc : Thread Cert.AttnOut1KernelIdeal.nD Cert.AttnOut1KernelIdeal.τ).loc Cert.AttnOut1KernelIdeal.main_arg1) = m ((c.tc : Thread Cert.AttnOut1KernelIdeal.nD Cert.AttnOut1KernelIdeal.τ).loc Cert.AttnOut1KernelIdeal.main_arg1))
      ∧ θ_run (Cert.AttnOut1ReferenceIdeal.defs (F := Ideal)) (onTc (τ := Cert.AttnOut1ReferenceIdeal.τ) (Cert.AttnOut1ReferenceIdeal.main (F := Ideal))) ⟨m', fun _ => 0, g'⟩ (fun r => ∀ c : Dev Cert.AttnOut1ReferenceIdeal.nD,
          r.2.mem ((c.tc : Thread Cert.AttnOut1ReferenceIdeal.nD Cert.AttnOut1ReferenceIdeal.τ).loc Cert.AttnOut1ReferenceIdeal.main_v5) = v0 c
          ∧ r.2.mem ((c.tc : Thread Cert.AttnOut1ReferenceIdeal.nD Cert.AttnOut1ReferenceIdeal.τ).loc Cert.AttnOut1ReferenceIdeal.main_arg0) = m' ((c.tc : Thread Cert.AttnOut1ReferenceIdeal.nD Cert.AttnOut1ReferenceIdeal.τ).loc Cert.AttnOut1ReferenceIdeal.main_arg0)
          ∧ r.2.mem ((c.tc : Thread Cert.AttnOut1ReferenceIdeal.nD Cert.AttnOut1ReferenceIdeal.τ).loc Cert.AttnOut1ReferenceIdeal.main_arg1) = m' ((c.tc : Thread Cert.AttnOut1ReferenceIdeal.nD Cert.AttnOut1ReferenceIdeal.τ).loc Cert.AttnOut1ReferenceIdeal.main_arg1))

def preserves_AttnOut0Kernel_AttnOut0KernelIdeal : Prop :=
  True

def algebraic_AttnOut0KernelIdeal_AttnOut0ReferenceIdeal [hAttnOut0KernelIdeal : Cert.AttnOut0KernelIdeal.Facts] [hAttnOut0ReferenceIdeal : Cert.AttnOut0ReferenceIdeal.Facts] : Prop :=
  ∀ (m : (ℓ : Loc Cert.AttnOut0KernelIdeal.nD Cert.AttnOut0KernelIdeal.τ Cert.AttnOut0KernelIdeal.sig) → Buf (Elt Ideal) ℓ) (g : Dev Cert.AttnOut0KernelIdeal.nD → PrngReg)
    (m' : (ℓ : Loc Cert.AttnOut0ReferenceIdeal.nD Cert.AttnOut0ReferenceIdeal.τ Cert.AttnOut0ReferenceIdeal.sig) → Buf (Elt Ideal) ℓ) (g' : Dev Cert.AttnOut0ReferenceIdeal.nD → PrngReg), Pre_AttnOut0KernelIdeal m →
    (∀ c : Dev Cert.AttnOut0KernelIdeal.nD,
      m' ((c.tc : Thread Cert.AttnOut0ReferenceIdeal.nD Cert.AttnOut0ReferenceIdeal.τ).loc Cert.AttnOut0ReferenceIdeal.main_arg0) = m ((c.tc : Thread Cert.AttnOut0KernelIdeal.nD Cert.AttnOut0KernelIdeal.τ).loc Cert.AttnOut0KernelIdeal.main_arg0)
      ∧ m' ((c.tc : Thread Cert.AttnOut0ReferenceIdeal.nD Cert.AttnOut0ReferenceIdeal.τ).loc Cert.AttnOut0ReferenceIdeal.main_arg1) = m ((c.tc : Thread Cert.AttnOut0KernelIdeal.nD Cert.AttnOut0KernelIdeal.τ).loc Cert.AttnOut0KernelIdeal.main_arg1)) →
    ∃ (v0 : (c : Dev Cert.AttnOut0KernelIdeal.nD) → Buf (Elt Ideal) ((c.tc : Thread Cert.AttnOut0KernelIdeal.nD Cert.AttnOut0KernelIdeal.τ).loc Cert.AttnOut0KernelIdeal.main_v0)),
      θ_run (Cert.AttnOut0KernelIdeal.defs (F := Ideal)) (onTc (τ := Cert.AttnOut0KernelIdeal.τ) (Cert.AttnOut0KernelIdeal.main (F := Ideal))) ⟨m, fun _ => 0, g⟩ (fun r => ∀ c : Dev Cert.AttnOut0KernelIdeal.nD,
          r.2.mem ((c.tc : Thread Cert.AttnOut0KernelIdeal.nD Cert.AttnOut0KernelIdeal.τ).loc Cert.AttnOut0KernelIdeal.main_v0) = v0 c
          ∧ r.2.mem ((c.tc : Thread Cert.AttnOut0KernelIdeal.nD Cert.AttnOut0KernelIdeal.τ).loc Cert.AttnOut0KernelIdeal.main_arg0) = m ((c.tc : Thread Cert.AttnOut0KernelIdeal.nD Cert.AttnOut0KernelIdeal.τ).loc Cert.AttnOut0KernelIdeal.main_arg0)
          ∧ r.2.mem ((c.tc : Thread Cert.AttnOut0KernelIdeal.nD Cert.AttnOut0KernelIdeal.τ).loc Cert.AttnOut0KernelIdeal.main_arg1) = m ((c.tc : Thread Cert.AttnOut0KernelIdeal.nD Cert.AttnOut0KernelIdeal.τ).loc Cert.AttnOut0KernelIdeal.main_arg1))
      ∧ θ_run (Cert.AttnOut0ReferenceIdeal.defs (F := Ideal)) (onTc (τ := Cert.AttnOut0ReferenceIdeal.τ) (Cert.AttnOut0ReferenceIdeal.main (F := Ideal))) ⟨m', fun _ => 0, g'⟩ (fun r => ∀ c : Dev Cert.AttnOut0ReferenceIdeal.nD,
          r.2.mem ((c.tc : Thread Cert.AttnOut0ReferenceIdeal.nD Cert.AttnOut0ReferenceIdeal.τ).loc Cert.AttnOut0ReferenceIdeal.main_v5) = v0 c
          ∧ r.2.mem ((c.tc : Thread Cert.AttnOut0ReferenceIdeal.nD Cert.AttnOut0ReferenceIdeal.τ).loc Cert.AttnOut0ReferenceIdeal.main_arg0) = m' ((c.tc : Thread Cert.AttnOut0ReferenceIdeal.nD Cert.AttnOut0ReferenceIdeal.τ).loc Cert.AttnOut0ReferenceIdeal.main_arg0)
          ∧ r.2.mem ((c.tc : Thread Cert.AttnOut0ReferenceIdeal.nD Cert.AttnOut0ReferenceIdeal.τ).loc Cert.AttnOut0ReferenceIdeal.main_arg1) = m' ((c.tc : Thread Cert.AttnOut0ReferenceIdeal.nD Cert.AttnOut0ReferenceIdeal.τ).loc Cert.AttnOut0ReferenceIdeal.main_arg1))

def preserves_AttnOutDx1Kernel_AttnOutDx1KernelIdeal : Prop :=
  True

def algebraic_AttnOutDx1KernelIdeal_AttnOutDx1ReferenceIdeal [hAttnOutDx1KernelIdeal : Cert.AttnOutDx1KernelIdeal.Facts] [hAttnOutDx1ReferenceIdeal : Cert.AttnOutDx1ReferenceIdeal.Facts] : Prop :=
  ∀ (m : (ℓ : Loc Cert.AttnOutDx1KernelIdeal.nD Cert.AttnOutDx1KernelIdeal.τ Cert.AttnOutDx1KernelIdeal.sig) → Buf (Elt Ideal) ℓ) (g : Dev Cert.AttnOutDx1KernelIdeal.nD → PrngReg)
    (m' : (ℓ : Loc Cert.AttnOutDx1ReferenceIdeal.nD Cert.AttnOutDx1ReferenceIdeal.τ Cert.AttnOutDx1ReferenceIdeal.sig) → Buf (Elt Ideal) ℓ) (g' : Dev Cert.AttnOutDx1ReferenceIdeal.nD → PrngReg), Pre_AttnOutDx1KernelIdeal m →
    (∀ c : Dev Cert.AttnOutDx1KernelIdeal.nD,
      m' ((c.tc : Thread Cert.AttnOutDx1ReferenceIdeal.nD Cert.AttnOutDx1ReferenceIdeal.τ).loc Cert.AttnOutDx1ReferenceIdeal.main_arg0) = m ((c.tc : Thread Cert.AttnOutDx1KernelIdeal.nD Cert.AttnOutDx1KernelIdeal.τ).loc Cert.AttnOutDx1KernelIdeal.main_arg0)
      ∧ m' ((c.tc : Thread Cert.AttnOutDx1ReferenceIdeal.nD Cert.AttnOutDx1ReferenceIdeal.τ).loc Cert.AttnOutDx1ReferenceIdeal.main_arg1) = m ((c.tc : Thread Cert.AttnOutDx1KernelIdeal.nD Cert.AttnOutDx1KernelIdeal.τ).loc Cert.AttnOutDx1KernelIdeal.main_arg1)) →
    ∃ (v0 : (c : Dev Cert.AttnOutDx1KernelIdeal.nD) → Buf (Elt Ideal) ((c.tc : Thread Cert.AttnOutDx1KernelIdeal.nD Cert.AttnOutDx1KernelIdeal.τ).loc Cert.AttnOutDx1KernelIdeal.main_v0)),
      θ_run (Cert.AttnOutDx1KernelIdeal.defs (F := Ideal)) (onTc (τ := Cert.AttnOutDx1KernelIdeal.τ) (Cert.AttnOutDx1KernelIdeal.main (F := Ideal))) ⟨m, fun _ => 0, g⟩ (fun r => ∀ c : Dev Cert.AttnOutDx1KernelIdeal.nD,
          r.2.mem ((c.tc : Thread Cert.AttnOutDx1KernelIdeal.nD Cert.AttnOutDx1KernelIdeal.τ).loc Cert.AttnOutDx1KernelIdeal.main_v0) = v0 c
          ∧ r.2.mem ((c.tc : Thread Cert.AttnOutDx1KernelIdeal.nD Cert.AttnOutDx1KernelIdeal.τ).loc Cert.AttnOutDx1KernelIdeal.main_arg0) = m ((c.tc : Thread Cert.AttnOutDx1KernelIdeal.nD Cert.AttnOutDx1KernelIdeal.τ).loc Cert.AttnOutDx1KernelIdeal.main_arg0)
          ∧ r.2.mem ((c.tc : Thread Cert.AttnOutDx1KernelIdeal.nD Cert.AttnOutDx1KernelIdeal.τ).loc Cert.AttnOutDx1KernelIdeal.main_arg1) = m ((c.tc : Thread Cert.AttnOutDx1KernelIdeal.nD Cert.AttnOutDx1KernelIdeal.τ).loc Cert.AttnOutDx1KernelIdeal.main_arg1))
      ∧ θ_run (Cert.AttnOutDx1ReferenceIdeal.defs (F := Ideal)) (onTc (τ := Cert.AttnOutDx1ReferenceIdeal.τ) (Cert.AttnOutDx1ReferenceIdeal.main (F := Ideal))) ⟨m', fun _ => 0, g'⟩ (fun r => ∀ c : Dev Cert.AttnOutDx1ReferenceIdeal.nD,
          r.2.mem ((c.tc : Thread Cert.AttnOutDx1ReferenceIdeal.nD Cert.AttnOutDx1ReferenceIdeal.τ).loc Cert.AttnOutDx1ReferenceIdeal.main_v9) = v0 c
          ∧ r.2.mem ((c.tc : Thread Cert.AttnOutDx1ReferenceIdeal.nD Cert.AttnOutDx1ReferenceIdeal.τ).loc Cert.AttnOutDx1ReferenceIdeal.main_arg0) = m' ((c.tc : Thread Cert.AttnOutDx1ReferenceIdeal.nD Cert.AttnOutDx1ReferenceIdeal.τ).loc Cert.AttnOutDx1ReferenceIdeal.main_arg0)
          ∧ r.2.mem ((c.tc : Thread Cert.AttnOutDx1ReferenceIdeal.nD Cert.AttnOutDx1ReferenceIdeal.τ).loc Cert.AttnOutDx1ReferenceIdeal.main_arg1) = m' ((c.tc : Thread Cert.AttnOutDx1ReferenceIdeal.nD Cert.AttnOutDx1ReferenceIdeal.τ).loc Cert.AttnOutDx1ReferenceIdeal.main_arg1))

def preserves_AttnOutDx0Kernel_AttnOutDx0KernelIdeal : Prop :=
  True

def algebraic_AttnOutDx0KernelIdeal_AttnOutDx0ReferenceIdeal [hAttnOutDx0KernelIdeal : Cert.AttnOutDx0KernelIdeal.Facts] [hAttnOutDx0ReferenceIdeal : Cert.AttnOutDx0ReferenceIdeal.Facts] : Prop :=
  ∀ (m : (ℓ : Loc Cert.AttnOutDx0KernelIdeal.nD Cert.AttnOutDx0KernelIdeal.τ Cert.AttnOutDx0KernelIdeal.sig) → Buf (Elt Ideal) ℓ) (g : Dev Cert.AttnOutDx0KernelIdeal.nD → PrngReg)
    (m' : (ℓ : Loc Cert.AttnOutDx0ReferenceIdeal.nD Cert.AttnOutDx0ReferenceIdeal.τ Cert.AttnOutDx0ReferenceIdeal.sig) → Buf (Elt Ideal) ℓ) (g' : Dev Cert.AttnOutDx0ReferenceIdeal.nD → PrngReg), Pre_AttnOutDx0KernelIdeal m →
    (∀ c : Dev Cert.AttnOutDx0KernelIdeal.nD,
      m' ((c.tc : Thread Cert.AttnOutDx0ReferenceIdeal.nD Cert.AttnOutDx0ReferenceIdeal.τ).loc Cert.AttnOutDx0ReferenceIdeal.main_arg0) = m ((c.tc : Thread Cert.AttnOutDx0KernelIdeal.nD Cert.AttnOutDx0KernelIdeal.τ).loc Cert.AttnOutDx0KernelIdeal.main_arg0)
      ∧ m' ((c.tc : Thread Cert.AttnOutDx0ReferenceIdeal.nD Cert.AttnOutDx0ReferenceIdeal.τ).loc Cert.AttnOutDx0ReferenceIdeal.main_arg1) = m ((c.tc : Thread Cert.AttnOutDx0KernelIdeal.nD Cert.AttnOutDx0KernelIdeal.τ).loc Cert.AttnOutDx0KernelIdeal.main_arg1)) →
    ∃ (v0 : (c : Dev Cert.AttnOutDx0KernelIdeal.nD) → Buf (Elt Ideal) ((c.tc : Thread Cert.AttnOutDx0KernelIdeal.nD Cert.AttnOutDx0KernelIdeal.τ).loc Cert.AttnOutDx0KernelIdeal.main_v0)),
      θ_run (Cert.AttnOutDx0KernelIdeal.defs (F := Ideal)) (onTc (τ := Cert.AttnOutDx0KernelIdeal.τ) (Cert.AttnOutDx0KernelIdeal.main (F := Ideal))) ⟨m, fun _ => 0, g⟩ (fun r => ∀ c : Dev Cert.AttnOutDx0KernelIdeal.nD,
          r.2.mem ((c.tc : Thread Cert.AttnOutDx0KernelIdeal.nD Cert.AttnOutDx0KernelIdeal.τ).loc Cert.AttnOutDx0KernelIdeal.main_v0) = v0 c
          ∧ r.2.mem ((c.tc : Thread Cert.AttnOutDx0KernelIdeal.nD Cert.AttnOutDx0KernelIdeal.τ).loc Cert.AttnOutDx0KernelIdeal.main_arg0) = m ((c.tc : Thread Cert.AttnOutDx0KernelIdeal.nD Cert.AttnOutDx0KernelIdeal.τ).loc Cert.AttnOutDx0KernelIdeal.main_arg0)
          ∧ r.2.mem ((c.tc : Thread Cert.AttnOutDx0KernelIdeal.nD Cert.AttnOutDx0KernelIdeal.τ).loc Cert.AttnOutDx0KernelIdeal.main_arg1) = m ((c.tc : Thread Cert.AttnOutDx0KernelIdeal.nD Cert.AttnOutDx0KernelIdeal.τ).loc Cert.AttnOutDx0KernelIdeal.main_arg1))
      ∧ θ_run (Cert.AttnOutDx0ReferenceIdeal.defs (F := Ideal)) (onTc (τ := Cert.AttnOutDx0ReferenceIdeal.τ) (Cert.AttnOutDx0ReferenceIdeal.main (F := Ideal))) ⟨m', fun _ => 0, g'⟩ (fun r => ∀ c : Dev Cert.AttnOutDx0ReferenceIdeal.nD,
          r.2.mem ((c.tc : Thread Cert.AttnOutDx0ReferenceIdeal.nD Cert.AttnOutDx0ReferenceIdeal.τ).loc Cert.AttnOutDx0ReferenceIdeal.main_v9) = v0 c
          ∧ r.2.mem ((c.tc : Thread Cert.AttnOutDx0ReferenceIdeal.nD Cert.AttnOutDx0ReferenceIdeal.τ).loc Cert.AttnOutDx0ReferenceIdeal.main_arg0) = m' ((c.tc : Thread Cert.AttnOutDx0ReferenceIdeal.nD Cert.AttnOutDx0ReferenceIdeal.τ).loc Cert.AttnOutDx0ReferenceIdeal.main_arg0)
          ∧ r.2.mem ((c.tc : Thread Cert.AttnOutDx0ReferenceIdeal.nD Cert.AttnOutDx0ReferenceIdeal.τ).loc Cert.AttnOutDx0ReferenceIdeal.main_arg1) = m' ((c.tc : Thread Cert.AttnOutDx0ReferenceIdeal.nD Cert.AttnOutDx0ReferenceIdeal.τ).loc Cert.AttnOutDx0ReferenceIdeal.main_arg1))

def preserves_AttnOutDw1Kernel_AttnOutDw1KernelIdeal : Prop :=
  True

def algebraic_AttnOutDw1KernelIdeal_AttnOutDw1ReferenceIdeal_on_attn_out_dw1_written [hAttnOutDw1KernelIdeal : Cert.AttnOutDw1KernelIdeal.Facts] [hAttnOutDw1ReferenceIdeal : Cert.AttnOutDw1ReferenceIdeal.Facts] [hOn_attn_out_dw1_written : Cert.On_attn_out_dw1_written.Facts] : Prop :=
  ∀ (m : (ℓ : Loc Cert.AttnOutDw1KernelIdeal.nD Cert.AttnOutDw1KernelIdeal.τ Cert.AttnOutDw1KernelIdeal.sig) → Buf (Elt Ideal) ℓ) (g : Dev Cert.AttnOutDw1KernelIdeal.nD → PrngReg)
    (m' : (ℓ : Loc Cert.AttnOutDw1ReferenceIdeal.nD Cert.AttnOutDw1ReferenceIdeal.τ Cert.AttnOutDw1ReferenceIdeal.sig) → Buf (Elt Ideal) ℓ) (g' : Dev Cert.AttnOutDw1ReferenceIdeal.nD → PrngReg), Pre_AttnOutDw1KernelIdeal m →
    (∀ c : Dev Cert.AttnOutDw1KernelIdeal.nD,
      m' ((c.tc : Thread Cert.AttnOutDw1ReferenceIdeal.nD Cert.AttnOutDw1ReferenceIdeal.τ).loc Cert.AttnOutDw1ReferenceIdeal.main_arg0) = m ((c.tc : Thread Cert.AttnOutDw1KernelIdeal.nD Cert.AttnOutDw1KernelIdeal.τ).loc Cert.AttnOutDw1KernelIdeal.main_arg0)
      ∧ m' ((c.tc : Thread Cert.AttnOutDw1ReferenceIdeal.nD Cert.AttnOutDw1ReferenceIdeal.τ).loc Cert.AttnOutDw1ReferenceIdeal.main_arg1) = m ((c.tc : Thread Cert.AttnOutDw1KernelIdeal.nD Cert.AttnOutDw1KernelIdeal.τ).loc Cert.AttnOutDw1KernelIdeal.main_arg1)) →
    ∃ (v0 : (c : Dev Cert.AttnOutDw1KernelIdeal.nD) → Buf (Elt Ideal) ((c.tc : Thread Cert.AttnOutDw1KernelIdeal.nD Cert.AttnOutDw1KernelIdeal.τ).loc Cert.AttnOutDw1KernelIdeal.main_v0)),
      θ_run (Cert.AttnOutDw1KernelIdeal.defs (F := Ideal)) (onTc (τ := Cert.AttnOutDw1KernelIdeal.τ) (Cert.AttnOutDw1KernelIdeal.main (F := Ideal))) ⟨m, fun _ => 0, g⟩ (fun r => ∀ c : Dev Cert.AttnOutDw1KernelIdeal.nD,
          (∀ i : (⟨4, ![2, 4, 512, 256]⟩ : Shape).Idx, (Cert.On_attn_out_dw1_written.fn (F := Ideal) (m ((c.tc : Thread Cert.AttnOutDw1KernelIdeal.nD Cert.AttnOutDw1KernelIdeal.τ).loc Cert.AttnOutDw1KernelIdeal.main_arg0)) (m ((c.tc : Thread Cert.AttnOutDw1KernelIdeal.nD Cert.AttnOutDw1KernelIdeal.τ).loc Cert.AttnOutDw1KernelIdeal.main_arg1))) i = 1#1 → r.2.mem ((c.tc : Thread Cert.AttnOutDw1KernelIdeal.nD Cert.AttnOutDw1KernelIdeal.τ).loc Cert.AttnOutDw1KernelIdeal.main_v0) i = v0 c i)
          ∧ r.2.mem ((c.tc : Thread Cert.AttnOutDw1KernelIdeal.nD Cert.AttnOutDw1KernelIdeal.τ).loc Cert.AttnOutDw1KernelIdeal.main_arg0) = m ((c.tc : Thread Cert.AttnOutDw1KernelIdeal.nD Cert.AttnOutDw1KernelIdeal.τ).loc Cert.AttnOutDw1KernelIdeal.main_arg0)
          ∧ r.2.mem ((c.tc : Thread Cert.AttnOutDw1KernelIdeal.nD Cert.AttnOutDw1KernelIdeal.τ).loc Cert.AttnOutDw1KernelIdeal.main_arg1) = m ((c.tc : Thread Cert.AttnOutDw1KernelIdeal.nD Cert.AttnOutDw1KernelIdeal.τ).loc Cert.AttnOutDw1KernelIdeal.main_arg1))
      ∧ θ_run (Cert.AttnOutDw1ReferenceIdeal.defs (F := Ideal)) (onTc (τ := Cert.AttnOutDw1ReferenceIdeal.τ) (Cert.AttnOutDw1ReferenceIdeal.main (F := Ideal))) ⟨m', fun _ => 0, g'⟩ (fun r => ∀ c : Dev Cert.AttnOutDw1ReferenceIdeal.nD,
          (∀ i : (⟨4, ![2, 4, 512, 256]⟩ : Shape).Idx, (Cert.On_attn_out_dw1_written.fn (F := Ideal) (m ((c.tc : Thread Cert.AttnOutDw1KernelIdeal.nD Cert.AttnOutDw1KernelIdeal.τ).loc Cert.AttnOutDw1KernelIdeal.main_arg0)) (m ((c.tc : Thread Cert.AttnOutDw1KernelIdeal.nD Cert.AttnOutDw1KernelIdeal.τ).loc Cert.AttnOutDw1KernelIdeal.main_arg1))) i = 1#1 → r.2.mem ((c.tc : Thread Cert.AttnOutDw1ReferenceIdeal.nD Cert.AttnOutDw1ReferenceIdeal.τ).loc Cert.AttnOutDw1ReferenceIdeal.main_v12) i = v0 c i)
          ∧ r.2.mem ((c.tc : Thread Cert.AttnOutDw1ReferenceIdeal.nD Cert.AttnOutDw1ReferenceIdeal.τ).loc Cert.AttnOutDw1ReferenceIdeal.main_arg0) = m' ((c.tc : Thread Cert.AttnOutDw1ReferenceIdeal.nD Cert.AttnOutDw1ReferenceIdeal.τ).loc Cert.AttnOutDw1ReferenceIdeal.main_arg0)
          ∧ r.2.mem ((c.tc : Thread Cert.AttnOutDw1ReferenceIdeal.nD Cert.AttnOutDw1ReferenceIdeal.τ).loc Cert.AttnOutDw1ReferenceIdeal.main_arg1) = m' ((c.tc : Thread Cert.AttnOutDw1ReferenceIdeal.nD Cert.AttnOutDw1ReferenceIdeal.τ).loc Cert.AttnOutDw1ReferenceIdeal.main_arg1))

def preserves_AttnOutDw0Kernel_AttnOutDw0KernelIdeal : Prop :=
  True

def algebraic_AttnOutDw0KernelIdeal_AttnOutDw0ReferenceIdeal [hAttnOutDw0KernelIdeal : Cert.AttnOutDw0KernelIdeal.Facts] [hAttnOutDw0ReferenceIdeal : Cert.AttnOutDw0ReferenceIdeal.Facts] : Prop :=
  ∀ (m : (ℓ : Loc Cert.AttnOutDw0KernelIdeal.nD Cert.AttnOutDw0KernelIdeal.τ Cert.AttnOutDw0KernelIdeal.sig) → Buf (Elt Ideal) ℓ) (g : Dev Cert.AttnOutDw0KernelIdeal.nD → PrngReg)
    (m' : (ℓ : Loc Cert.AttnOutDw0ReferenceIdeal.nD Cert.AttnOutDw0ReferenceIdeal.τ Cert.AttnOutDw0ReferenceIdeal.sig) → Buf (Elt Ideal) ℓ) (g' : Dev Cert.AttnOutDw0ReferenceIdeal.nD → PrngReg), Pre_AttnOutDw0KernelIdeal m →
    (∀ c : Dev Cert.AttnOutDw0KernelIdeal.nD,
      m' ((c.tc : Thread Cert.AttnOutDw0ReferenceIdeal.nD Cert.AttnOutDw0ReferenceIdeal.τ).loc Cert.AttnOutDw0ReferenceIdeal.main_arg0) = m ((c.tc : Thread Cert.AttnOutDw0KernelIdeal.nD Cert.AttnOutDw0KernelIdeal.τ).loc Cert.AttnOutDw0KernelIdeal.main_arg0)
      ∧ m' ((c.tc : Thread Cert.AttnOutDw0ReferenceIdeal.nD Cert.AttnOutDw0ReferenceIdeal.τ).loc Cert.AttnOutDw0ReferenceIdeal.main_arg1) = m ((c.tc : Thread Cert.AttnOutDw0KernelIdeal.nD Cert.AttnOutDw0KernelIdeal.τ).loc Cert.AttnOutDw0KernelIdeal.main_arg1)
      ∧ m' ((c.tc : Thread Cert.AttnOutDw0ReferenceIdeal.nD Cert.AttnOutDw0ReferenceIdeal.τ).loc Cert.AttnOutDw0ReferenceIdeal.main_arg2) = m ((c.tc : Thread Cert.AttnOutDw0KernelIdeal.nD Cert.AttnOutDw0KernelIdeal.τ).loc Cert.AttnOutDw0KernelIdeal.main_arg2)) →
    ∃ (v0 : (c : Dev Cert.AttnOutDw0KernelIdeal.nD) → Buf (Elt Ideal) ((c.tc : Thread Cert.AttnOutDw0KernelIdeal.nD Cert.AttnOutDw0KernelIdeal.τ).loc Cert.AttnOutDw0KernelIdeal.main_v0)),
      θ_run (Cert.AttnOutDw0KernelIdeal.defs (F := Ideal)) (onTc (τ := Cert.AttnOutDw0KernelIdeal.τ) (Cert.AttnOutDw0KernelIdeal.main (F := Ideal))) ⟨m, fun _ => 0, g⟩ (fun r => ∀ c : Dev Cert.AttnOutDw0KernelIdeal.nD,
          r.2.mem ((c.tc : Thread Cert.AttnOutDw0KernelIdeal.nD Cert.AttnOutDw0KernelIdeal.τ).loc Cert.AttnOutDw0KernelIdeal.main_v0) = v0 c
          ∧ r.2.mem ((c.tc : Thread Cert.AttnOutDw0KernelIdeal.nD Cert.AttnOutDw0KernelIdeal.τ).loc Cert.AttnOutDw0KernelIdeal.main_arg0) = m ((c.tc : Thread Cert.AttnOutDw0KernelIdeal.nD Cert.AttnOutDw0KernelIdeal.τ).loc Cert.AttnOutDw0KernelIdeal.main_arg0)
          ∧ r.2.mem ((c.tc : Thread Cert.AttnOutDw0KernelIdeal.nD Cert.AttnOutDw0KernelIdeal.τ).loc Cert.AttnOutDw0KernelIdeal.main_arg1) = m ((c.tc : Thread Cert.AttnOutDw0KernelIdeal.nD Cert.AttnOutDw0KernelIdeal.τ).loc Cert.AttnOutDw0KernelIdeal.main_arg1)
          ∧ r.2.mem ((c.tc : Thread Cert.AttnOutDw0KernelIdeal.nD Cert.AttnOutDw0KernelIdeal.τ).loc Cert.AttnOutDw0KernelIdeal.main_arg2) = m ((c.tc : Thread Cert.AttnOutDw0KernelIdeal.nD Cert.AttnOutDw0KernelIdeal.τ).loc Cert.AttnOutDw0KernelIdeal.main_arg2))
      ∧ θ_run (Cert.AttnOutDw0ReferenceIdeal.defs (F := Ideal)) (onTc (τ := Cert.AttnOutDw0ReferenceIdeal.τ) (Cert.AttnOutDw0ReferenceIdeal.main (F := Ideal))) ⟨m', fun _ => 0, g'⟩ (fun r => ∀ c : Dev Cert.AttnOutDw0ReferenceIdeal.nD,
          r.2.mem ((c.tc : Thread Cert.AttnOutDw0ReferenceIdeal.nD Cert.AttnOutDw0ReferenceIdeal.τ).loc Cert.AttnOutDw0ReferenceIdeal.main_v13) = v0 c
          ∧ r.2.mem ((c.tc : Thread Cert.AttnOutDw0ReferenceIdeal.nD Cert.AttnOutDw0ReferenceIdeal.τ).loc Cert.AttnOutDw0ReferenceIdeal.main_arg0) = m' ((c.tc : Thread Cert.AttnOutDw0ReferenceIdeal.nD Cert.AttnOutDw0ReferenceIdeal.τ).loc Cert.AttnOutDw0ReferenceIdeal.main_arg0)
          ∧ r.2.mem ((c.tc : Thread Cert.AttnOutDw0ReferenceIdeal.nD Cert.AttnOutDw0ReferenceIdeal.τ).loc Cert.AttnOutDw0ReferenceIdeal.main_arg1) = m' ((c.tc : Thread Cert.AttnOutDw0ReferenceIdeal.nD Cert.AttnOutDw0ReferenceIdeal.τ).loc Cert.AttnOutDw0ReferenceIdeal.main_arg1)
          ∧ r.2.mem ((c.tc : Thread Cert.AttnOutDw0ReferenceIdeal.nD Cert.AttnOutDw0ReferenceIdeal.τ).loc Cert.AttnOutDw0ReferenceIdeal.main_arg2) = m' ((c.tc : Thread Cert.AttnOutDw0ReferenceIdeal.nD Cert.AttnOutDw0ReferenceIdeal.τ).loc Cert.AttnOutDw0ReferenceIdeal.main_arg2))

def preserves_PoolOut1Kernel_PoolOut1KernelIdeal : Prop :=
  True

def algebraic_PoolOut1KernelIdeal_PoolOut1ReferenceIdeal [hPoolOut1KernelIdeal : Cert.PoolOut1KernelIdeal.Facts] [hPoolOut1ReferenceIdeal : Cert.PoolOut1ReferenceIdeal.Facts] : Prop :=
  ∀ (m : (ℓ : Loc Cert.PoolOut1KernelIdeal.nD Cert.PoolOut1KernelIdeal.τ Cert.PoolOut1KernelIdeal.sig) → Buf (Elt Ideal) ℓ) (g : Dev Cert.PoolOut1KernelIdeal.nD → PrngReg)
    (m' : (ℓ : Loc Cert.PoolOut1ReferenceIdeal.nD Cert.PoolOut1ReferenceIdeal.τ Cert.PoolOut1ReferenceIdeal.sig) → Buf (Elt Ideal) ℓ) (g' : Dev Cert.PoolOut1ReferenceIdeal.nD → PrngReg), Pre_PoolOut1KernelIdeal m →
    (∀ c : Dev Cert.PoolOut1KernelIdeal.nD,
      m' ((c.tc : Thread Cert.PoolOut1ReferenceIdeal.nD Cert.PoolOut1ReferenceIdeal.τ).loc Cert.PoolOut1ReferenceIdeal.main_arg0) = m ((c.tc : Thread Cert.PoolOut1KernelIdeal.nD Cert.PoolOut1KernelIdeal.τ).loc Cert.PoolOut1KernelIdeal.main_arg0)
      ∧ m' ((c.tc : Thread Cert.PoolOut1ReferenceIdeal.nD Cert.PoolOut1ReferenceIdeal.τ).loc Cert.PoolOut1ReferenceIdeal.main_arg1) = m ((c.tc : Thread Cert.PoolOut1KernelIdeal.nD Cert.PoolOut1KernelIdeal.τ).loc Cert.PoolOut1KernelIdeal.main_arg1)) →
    ∃ (v0 : (c : Dev Cert.PoolOut1KernelIdeal.nD) → Buf (Elt Ideal) ((c.tc : Thread Cert.PoolOut1KernelIdeal.nD Cert.PoolOut1KernelIdeal.τ).loc Cert.PoolOut1KernelIdeal.main_v0)),
      θ_run (Cert.PoolOut1KernelIdeal.defs (F := Ideal)) (onTc (τ := Cert.PoolOut1KernelIdeal.τ) (Cert.PoolOut1KernelIdeal.main (F := Ideal))) ⟨m, fun _ => 0, g⟩ (fun r => ∀ c : Dev Cert.PoolOut1KernelIdeal.nD,
          r.2.mem ((c.tc : Thread Cert.PoolOut1KernelIdeal.nD Cert.PoolOut1KernelIdeal.τ).loc Cert.PoolOut1KernelIdeal.main_v0) = v0 c
          ∧ r.2.mem ((c.tc : Thread Cert.PoolOut1KernelIdeal.nD Cert.PoolOut1KernelIdeal.τ).loc Cert.PoolOut1KernelIdeal.main_arg0) = m ((c.tc : Thread Cert.PoolOut1KernelIdeal.nD Cert.PoolOut1KernelIdeal.τ).loc Cert.PoolOut1KernelIdeal.main_arg0)
          ∧ r.2.mem ((c.tc : Thread Cert.PoolOut1KernelIdeal.nD Cert.PoolOut1KernelIdeal.τ).loc Cert.PoolOut1KernelIdeal.main_arg1) = m ((c.tc : Thread Cert.PoolOut1KernelIdeal.nD Cert.PoolOut1KernelIdeal.τ).loc Cert.PoolOut1KernelIdeal.main_arg1))
      ∧ θ_run (Cert.PoolOut1ReferenceIdeal.defs (F := Ideal)) (onTc (τ := Cert.PoolOut1ReferenceIdeal.τ) (Cert.PoolOut1ReferenceIdeal.main (F := Ideal))) ⟨m', fun _ => 0, g'⟩ (fun r => ∀ c : Dev Cert.PoolOut1ReferenceIdeal.nD,
          r.2.mem ((c.tc : Thread Cert.PoolOut1ReferenceIdeal.nD Cert.PoolOut1ReferenceIdeal.τ).loc Cert.PoolOut1ReferenceIdeal.main_v5) = v0 c
          ∧ r.2.mem ((c.tc : Thread Cert.PoolOut1ReferenceIdeal.nD Cert.PoolOut1ReferenceIdeal.τ).loc Cert.PoolOut1ReferenceIdeal.main_arg0) = m' ((c.tc : Thread Cert.PoolOut1ReferenceIdeal.nD Cert.PoolOut1ReferenceIdeal.τ).loc Cert.PoolOut1ReferenceIdeal.main_arg0)
          ∧ r.2.mem ((c.tc : Thread Cert.PoolOut1ReferenceIdeal.nD Cert.PoolOut1ReferenceIdeal.τ).loc Cert.PoolOut1ReferenceIdeal.main_arg1) = m' ((c.tc : Thread Cert.PoolOut1ReferenceIdeal.nD Cert.PoolOut1ReferenceIdeal.τ).loc Cert.PoolOut1ReferenceIdeal.main_arg1))

def preserves_PoolOut0Kernel_PoolOut0KernelIdeal : Prop :=
  True

def algebraic_PoolOut0KernelIdeal_PoolOut0ReferenceIdeal [hPoolOut0KernelIdeal : Cert.PoolOut0KernelIdeal.Facts] [hPoolOut0ReferenceIdeal : Cert.PoolOut0ReferenceIdeal.Facts] : Prop :=
  ∀ (m : (ℓ : Loc Cert.PoolOut0KernelIdeal.nD Cert.PoolOut0KernelIdeal.τ Cert.PoolOut0KernelIdeal.sig) → Buf (Elt Ideal) ℓ) (g : Dev Cert.PoolOut0KernelIdeal.nD → PrngReg)
    (m' : (ℓ : Loc Cert.PoolOut0ReferenceIdeal.nD Cert.PoolOut0ReferenceIdeal.τ Cert.PoolOut0ReferenceIdeal.sig) → Buf (Elt Ideal) ℓ) (g' : Dev Cert.PoolOut0ReferenceIdeal.nD → PrngReg), Pre_PoolOut0KernelIdeal m →
    (∀ c : Dev Cert.PoolOut0KernelIdeal.nD,
      m' ((c.tc : Thread Cert.PoolOut0ReferenceIdeal.nD Cert.PoolOut0ReferenceIdeal.τ).loc Cert.PoolOut0ReferenceIdeal.main_arg0) = m ((c.tc : Thread Cert.PoolOut0KernelIdeal.nD Cert.PoolOut0KernelIdeal.τ).loc Cert.PoolOut0KernelIdeal.main_arg0)
      ∧ m' ((c.tc : Thread Cert.PoolOut0ReferenceIdeal.nD Cert.PoolOut0ReferenceIdeal.τ).loc Cert.PoolOut0ReferenceIdeal.main_arg1) = m ((c.tc : Thread Cert.PoolOut0KernelIdeal.nD Cert.PoolOut0KernelIdeal.τ).loc Cert.PoolOut0KernelIdeal.main_arg1)) →
    ∃ (v0 : (c : Dev Cert.PoolOut0KernelIdeal.nD) → Buf (Elt Ideal) ((c.tc : Thread Cert.PoolOut0KernelIdeal.nD Cert.PoolOut0KernelIdeal.τ).loc Cert.PoolOut0KernelIdeal.main_v0)),
      θ_run (Cert.PoolOut0KernelIdeal.defs (F := Ideal)) (onTc (τ := Cert.PoolOut0KernelIdeal.τ) (Cert.PoolOut0KernelIdeal.main (F := Ideal))) ⟨m, fun _ => 0, g⟩ (fun r => ∀ c : Dev Cert.PoolOut0KernelIdeal.nD,
          r.2.mem ((c.tc : Thread Cert.PoolOut0KernelIdeal.nD Cert.PoolOut0KernelIdeal.τ).loc Cert.PoolOut0KernelIdeal.main_v0) = v0 c
          ∧ r.2.mem ((c.tc : Thread Cert.PoolOut0KernelIdeal.nD Cert.PoolOut0KernelIdeal.τ).loc Cert.PoolOut0KernelIdeal.main_arg0) = m ((c.tc : Thread Cert.PoolOut0KernelIdeal.nD Cert.PoolOut0KernelIdeal.τ).loc Cert.PoolOut0KernelIdeal.main_arg0)
          ∧ r.2.mem ((c.tc : Thread Cert.PoolOut0KernelIdeal.nD Cert.PoolOut0KernelIdeal.τ).loc Cert.PoolOut0KernelIdeal.main_arg1) = m ((c.tc : Thread Cert.PoolOut0KernelIdeal.nD Cert.PoolOut0KernelIdeal.τ).loc Cert.PoolOut0KernelIdeal.main_arg1))
      ∧ θ_run (Cert.PoolOut0ReferenceIdeal.defs (F := Ideal)) (onTc (τ := Cert.PoolOut0ReferenceIdeal.τ) (Cert.PoolOut0ReferenceIdeal.main (F := Ideal))) ⟨m', fun _ => 0, g'⟩ (fun r => ∀ c : Dev Cert.PoolOut0ReferenceIdeal.nD,
          r.2.mem ((c.tc : Thread Cert.PoolOut0ReferenceIdeal.nD Cert.PoolOut0ReferenceIdeal.τ).loc Cert.PoolOut0ReferenceIdeal.main_v5) = v0 c
          ∧ r.2.mem ((c.tc : Thread Cert.PoolOut0ReferenceIdeal.nD Cert.PoolOut0ReferenceIdeal.τ).loc Cert.PoolOut0ReferenceIdeal.main_arg0) = m' ((c.tc : Thread Cert.PoolOut0ReferenceIdeal.nD Cert.PoolOut0ReferenceIdeal.τ).loc Cert.PoolOut0ReferenceIdeal.main_arg0)
          ∧ r.2.mem ((c.tc : Thread Cert.PoolOut0ReferenceIdeal.nD Cert.PoolOut0ReferenceIdeal.τ).loc Cert.PoolOut0ReferenceIdeal.main_arg1) = m' ((c.tc : Thread Cert.PoolOut0ReferenceIdeal.nD Cert.PoolOut0ReferenceIdeal.τ).loc Cert.PoolOut0ReferenceIdeal.main_arg1))

def preserves_PoolOutDx1Kernel_PoolOutDx1KernelIdeal : Prop :=
  True

def algebraic_PoolOutDx1KernelIdeal_PoolOutDx1ReferenceIdeal [hPoolOutDx1KernelIdeal : Cert.PoolOutDx1KernelIdeal.Facts] [hPoolOutDx1ReferenceIdeal : Cert.PoolOutDx1ReferenceIdeal.Facts] : Prop :=
  ∀ (m : (ℓ : Loc Cert.PoolOutDx1KernelIdeal.nD Cert.PoolOutDx1KernelIdeal.τ Cert.PoolOutDx1KernelIdeal.sig) → Buf (Elt Ideal) ℓ) (g : Dev Cert.PoolOutDx1KernelIdeal.nD → PrngReg)
    (m' : (ℓ : Loc Cert.PoolOutDx1ReferenceIdeal.nD Cert.PoolOutDx1ReferenceIdeal.τ Cert.PoolOutDx1ReferenceIdeal.sig) → Buf (Elt Ideal) ℓ) (g' : Dev Cert.PoolOutDx1ReferenceIdeal.nD → PrngReg), Pre_PoolOutDx1KernelIdeal m →
    (∀ c : Dev Cert.PoolOutDx1KernelIdeal.nD,
      m' ((c.tc : Thread Cert.PoolOutDx1ReferenceIdeal.nD Cert.PoolOutDx1ReferenceIdeal.τ).loc Cert.PoolOutDx1ReferenceIdeal.main_arg0) = m ((c.tc : Thread Cert.PoolOutDx1KernelIdeal.nD Cert.PoolOutDx1KernelIdeal.τ).loc Cert.PoolOutDx1KernelIdeal.main_arg0)
      ∧ m' ((c.tc : Thread Cert.PoolOutDx1ReferenceIdeal.nD Cert.PoolOutDx1ReferenceIdeal.τ).loc Cert.PoolOutDx1ReferenceIdeal.main_arg1) = m ((c.tc : Thread Cert.PoolOutDx1KernelIdeal.nD Cert.PoolOutDx1KernelIdeal.τ).loc Cert.PoolOutDx1KernelIdeal.main_arg1)) →
    ∃ (v0 : (c : Dev Cert.PoolOutDx1KernelIdeal.nD) → Buf (Elt Ideal) ((c.tc : Thread Cert.PoolOutDx1KernelIdeal.nD Cert.PoolOutDx1KernelIdeal.τ).loc Cert.PoolOutDx1KernelIdeal.main_v0)),
      θ_run (Cert.PoolOutDx1KernelIdeal.defs (F := Ideal)) (onTc (τ := Cert.PoolOutDx1KernelIdeal.τ) (Cert.PoolOutDx1KernelIdeal.main (F := Ideal))) ⟨m, fun _ => 0, g⟩ (fun r => ∀ c : Dev Cert.PoolOutDx1KernelIdeal.nD,
          r.2.mem ((c.tc : Thread Cert.PoolOutDx1KernelIdeal.nD Cert.PoolOutDx1KernelIdeal.τ).loc Cert.PoolOutDx1KernelIdeal.main_v0) = v0 c
          ∧ r.2.mem ((c.tc : Thread Cert.PoolOutDx1KernelIdeal.nD Cert.PoolOutDx1KernelIdeal.τ).loc Cert.PoolOutDx1KernelIdeal.main_arg0) = m ((c.tc : Thread Cert.PoolOutDx1KernelIdeal.nD Cert.PoolOutDx1KernelIdeal.τ).loc Cert.PoolOutDx1KernelIdeal.main_arg0)
          ∧ r.2.mem ((c.tc : Thread Cert.PoolOutDx1KernelIdeal.nD Cert.PoolOutDx1KernelIdeal.τ).loc Cert.PoolOutDx1KernelIdeal.main_arg1) = m ((c.tc : Thread Cert.PoolOutDx1KernelIdeal.nD Cert.PoolOutDx1KernelIdeal.τ).loc Cert.PoolOutDx1KernelIdeal.main_arg1))
      ∧ θ_run (Cert.PoolOutDx1ReferenceIdeal.defs (F := Ideal)) (onTc (τ := Cert.PoolOutDx1ReferenceIdeal.τ) (Cert.PoolOutDx1ReferenceIdeal.main (F := Ideal))) ⟨m', fun _ => 0, g'⟩ (fun r => ∀ c : Dev Cert.PoolOutDx1ReferenceIdeal.nD,
          r.2.mem ((c.tc : Thread Cert.PoolOutDx1ReferenceIdeal.nD Cert.PoolOutDx1ReferenceIdeal.τ).loc Cert.PoolOutDx1ReferenceIdeal.main_v9) = v0 c
          ∧ r.2.mem ((c.tc : Thread Cert.PoolOutDx1ReferenceIdeal.nD Cert.PoolOutDx1ReferenceIdeal.τ).loc Cert.PoolOutDx1ReferenceIdeal.main_arg0) = m' ((c.tc : Thread Cert.PoolOutDx1ReferenceIdeal.nD Cert.PoolOutDx1ReferenceIdeal.τ).loc Cert.PoolOutDx1ReferenceIdeal.main_arg0)
          ∧ r.2.mem ((c.tc : Thread Cert.PoolOutDx1ReferenceIdeal.nD Cert.PoolOutDx1ReferenceIdeal.τ).loc Cert.PoolOutDx1ReferenceIdeal.main_arg1) = m' ((c.tc : Thread Cert.PoolOutDx1ReferenceIdeal.nD Cert.PoolOutDx1ReferenceIdeal.τ).loc Cert.PoolOutDx1ReferenceIdeal.main_arg1))

def preserves_PoolOutDx0Kernel_PoolOutDx0KernelIdeal : Prop :=
  True

def algebraic_PoolOutDx0KernelIdeal_PoolOutDx0ReferenceIdeal [hPoolOutDx0KernelIdeal : Cert.PoolOutDx0KernelIdeal.Facts] [hPoolOutDx0ReferenceIdeal : Cert.PoolOutDx0ReferenceIdeal.Facts] : Prop :=
  ∀ (m : (ℓ : Loc Cert.PoolOutDx0KernelIdeal.nD Cert.PoolOutDx0KernelIdeal.τ Cert.PoolOutDx0KernelIdeal.sig) → Buf (Elt Ideal) ℓ) (g : Dev Cert.PoolOutDx0KernelIdeal.nD → PrngReg)
    (m' : (ℓ : Loc Cert.PoolOutDx0ReferenceIdeal.nD Cert.PoolOutDx0ReferenceIdeal.τ Cert.PoolOutDx0ReferenceIdeal.sig) → Buf (Elt Ideal) ℓ) (g' : Dev Cert.PoolOutDx0ReferenceIdeal.nD → PrngReg), Pre_PoolOutDx0KernelIdeal m →
    (∀ c : Dev Cert.PoolOutDx0KernelIdeal.nD,
      m' ((c.tc : Thread Cert.PoolOutDx0ReferenceIdeal.nD Cert.PoolOutDx0ReferenceIdeal.τ).loc Cert.PoolOutDx0ReferenceIdeal.main_arg0) = m ((c.tc : Thread Cert.PoolOutDx0KernelIdeal.nD Cert.PoolOutDx0KernelIdeal.τ).loc Cert.PoolOutDx0KernelIdeal.main_arg0)
      ∧ m' ((c.tc : Thread Cert.PoolOutDx0ReferenceIdeal.nD Cert.PoolOutDx0ReferenceIdeal.τ).loc Cert.PoolOutDx0ReferenceIdeal.main_arg1) = m ((c.tc : Thread Cert.PoolOutDx0KernelIdeal.nD Cert.PoolOutDx0KernelIdeal.τ).loc Cert.PoolOutDx0KernelIdeal.main_arg1)) →
    ∃ (v0 : (c : Dev Cert.PoolOutDx0KernelIdeal.nD) → Buf (Elt Ideal) ((c.tc : Thread Cert.PoolOutDx0KernelIdeal.nD Cert.PoolOutDx0KernelIdeal.τ).loc Cert.PoolOutDx0KernelIdeal.main_v0)),
      θ_run (Cert.PoolOutDx0KernelIdeal.defs (F := Ideal)) (onTc (τ := Cert.PoolOutDx0KernelIdeal.τ) (Cert.PoolOutDx0KernelIdeal.main (F := Ideal))) ⟨m, fun _ => 0, g⟩ (fun r => ∀ c : Dev Cert.PoolOutDx0KernelIdeal.nD,
          r.2.mem ((c.tc : Thread Cert.PoolOutDx0KernelIdeal.nD Cert.PoolOutDx0KernelIdeal.τ).loc Cert.PoolOutDx0KernelIdeal.main_v0) = v0 c
          ∧ r.2.mem ((c.tc : Thread Cert.PoolOutDx0KernelIdeal.nD Cert.PoolOutDx0KernelIdeal.τ).loc Cert.PoolOutDx0KernelIdeal.main_arg0) = m ((c.tc : Thread Cert.PoolOutDx0KernelIdeal.nD Cert.PoolOutDx0KernelIdeal.τ).loc Cert.PoolOutDx0KernelIdeal.main_arg0)
          ∧ r.2.mem ((c.tc : Thread Cert.PoolOutDx0KernelIdeal.nD Cert.PoolOutDx0KernelIdeal.τ).loc Cert.PoolOutDx0KernelIdeal.main_arg1) = m ((c.tc : Thread Cert.PoolOutDx0KernelIdeal.nD Cert.PoolOutDx0KernelIdeal.τ).loc Cert.PoolOutDx0KernelIdeal.main_arg1))
      ∧ θ_run (Cert.PoolOutDx0ReferenceIdeal.defs (F := Ideal)) (onTc (τ := Cert.PoolOutDx0ReferenceIdeal.τ) (Cert.PoolOutDx0ReferenceIdeal.main (F := Ideal))) ⟨m', fun _ => 0, g'⟩ (fun r => ∀ c : Dev Cert.PoolOutDx0ReferenceIdeal.nD,
          r.2.mem ((c.tc : Thread Cert.PoolOutDx0ReferenceIdeal.nD Cert.PoolOutDx0ReferenceIdeal.τ).loc Cert.PoolOutDx0ReferenceIdeal.main_v9) = v0 c
          ∧ r.2.mem ((c.tc : Thread Cert.PoolOutDx0ReferenceIdeal.nD Cert.PoolOutDx0ReferenceIdeal.τ).loc Cert.PoolOutDx0ReferenceIdeal.main_arg0) = m' ((c.tc : Thread Cert.PoolOutDx0ReferenceIdeal.nD Cert.PoolOutDx0ReferenceIdeal.τ).loc Cert.PoolOutDx0ReferenceIdeal.main_arg0)
          ∧ r.2.mem ((c.tc : Thread Cert.PoolOutDx0ReferenceIdeal.nD Cert.PoolOutDx0ReferenceIdeal.τ).loc Cert.PoolOutDx0ReferenceIdeal.main_arg1) = m' ((c.tc : Thread Cert.PoolOutDx0ReferenceIdeal.nD Cert.PoolOutDx0ReferenceIdeal.τ).loc Cert.PoolOutDx0ReferenceIdeal.main_arg1))

def preserves_PoolOutDw1Kernel_PoolOutDw1KernelIdeal : Prop :=
  True

def algebraic_PoolOutDw1KernelIdeal_PoolOutDw1ReferenceIdeal_on_pool_out_dw1_written [hPoolOutDw1KernelIdeal : Cert.PoolOutDw1KernelIdeal.Facts] [hPoolOutDw1ReferenceIdeal : Cert.PoolOutDw1ReferenceIdeal.Facts] [hOn_pool_out_dw1_written : Cert.On_pool_out_dw1_written.Facts] : Prop :=
  ∀ (m : (ℓ : Loc Cert.PoolOutDw1KernelIdeal.nD Cert.PoolOutDw1KernelIdeal.τ Cert.PoolOutDw1KernelIdeal.sig) → Buf (Elt Ideal) ℓ) (g : Dev Cert.PoolOutDw1KernelIdeal.nD → PrngReg)
    (m' : (ℓ : Loc Cert.PoolOutDw1ReferenceIdeal.nD Cert.PoolOutDw1ReferenceIdeal.τ Cert.PoolOutDw1ReferenceIdeal.sig) → Buf (Elt Ideal) ℓ) (g' : Dev Cert.PoolOutDw1ReferenceIdeal.nD → PrngReg), Pre_PoolOutDw1KernelIdeal m →
    (∀ c : Dev Cert.PoolOutDw1KernelIdeal.nD,
      m' ((c.tc : Thread Cert.PoolOutDw1ReferenceIdeal.nD Cert.PoolOutDw1ReferenceIdeal.τ).loc Cert.PoolOutDw1ReferenceIdeal.main_arg0) = m ((c.tc : Thread Cert.PoolOutDw1KernelIdeal.nD Cert.PoolOutDw1KernelIdeal.τ).loc Cert.PoolOutDw1KernelIdeal.main_arg0)
      ∧ m' ((c.tc : Thread Cert.PoolOutDw1ReferenceIdeal.nD Cert.PoolOutDw1ReferenceIdeal.τ).loc Cert.PoolOutDw1ReferenceIdeal.main_arg1) = m ((c.tc : Thread Cert.PoolOutDw1KernelIdeal.nD Cert.PoolOutDw1KernelIdeal.τ).loc Cert.PoolOutDw1KernelIdeal.main_arg1)) →
    ∃ (v0 : (c : Dev Cert.PoolOutDw1KernelIdeal.nD) → Buf (Elt Ideal) ((c.tc : Thread Cert.PoolOutDw1KernelIdeal.nD Cert.PoolOutDw1KernelIdeal.τ).loc Cert.PoolOutDw1KernelIdeal.main_v0)),
      θ_run (Cert.PoolOutDw1KernelIdeal.defs (F := Ideal)) (onTc (τ := Cert.PoolOutDw1KernelIdeal.τ) (Cert.PoolOutDw1KernelIdeal.main (F := Ideal))) ⟨m, fun _ => 0, g⟩ (fun r => ∀ c : Dev Cert.PoolOutDw1KernelIdeal.nD,
          (∀ i : (⟨4, ![2, 4, 512, 256]⟩ : Shape).Idx, (Cert.On_pool_out_dw1_written.fn (F := Ideal) (m ((c.tc : Thread Cert.PoolOutDw1KernelIdeal.nD Cert.PoolOutDw1KernelIdeal.τ).loc Cert.PoolOutDw1KernelIdeal.main_arg0)) (m ((c.tc : Thread Cert.PoolOutDw1KernelIdeal.nD Cert.PoolOutDw1KernelIdeal.τ).loc Cert.PoolOutDw1KernelIdeal.main_arg1))) i = 1#1 → r.2.mem ((c.tc : Thread Cert.PoolOutDw1KernelIdeal.nD Cert.PoolOutDw1KernelIdeal.τ).loc Cert.PoolOutDw1KernelIdeal.main_v0) i = v0 c i)
          ∧ r.2.mem ((c.tc : Thread Cert.PoolOutDw1KernelIdeal.nD Cert.PoolOutDw1KernelIdeal.τ).loc Cert.PoolOutDw1KernelIdeal.main_arg0) = m ((c.tc : Thread Cert.PoolOutDw1KernelIdeal.nD Cert.PoolOutDw1KernelIdeal.τ).loc Cert.PoolOutDw1KernelIdeal.main_arg0)
          ∧ r.2.mem ((c.tc : Thread Cert.PoolOutDw1KernelIdeal.nD Cert.PoolOutDw1KernelIdeal.τ).loc Cert.PoolOutDw1KernelIdeal.main_arg1) = m ((c.tc : Thread Cert.PoolOutDw1KernelIdeal.nD Cert.PoolOutDw1KernelIdeal.τ).loc Cert.PoolOutDw1KernelIdeal.main_arg1))
      ∧ θ_run (Cert.PoolOutDw1ReferenceIdeal.defs (F := Ideal)) (onTc (τ := Cert.PoolOutDw1ReferenceIdeal.τ) (Cert.PoolOutDw1ReferenceIdeal.main (F := Ideal))) ⟨m', fun _ => 0, g'⟩ (fun r => ∀ c : Dev Cert.PoolOutDw1ReferenceIdeal.nD,
          (∀ i : (⟨4, ![2, 4, 512, 256]⟩ : Shape).Idx, (Cert.On_pool_out_dw1_written.fn (F := Ideal) (m ((c.tc : Thread Cert.PoolOutDw1KernelIdeal.nD Cert.PoolOutDw1KernelIdeal.τ).loc Cert.PoolOutDw1KernelIdeal.main_arg0)) (m ((c.tc : Thread Cert.PoolOutDw1KernelIdeal.nD Cert.PoolOutDw1KernelIdeal.τ).loc Cert.PoolOutDw1KernelIdeal.main_arg1))) i = 1#1 → r.2.mem ((c.tc : Thread Cert.PoolOutDw1ReferenceIdeal.nD Cert.PoolOutDw1ReferenceIdeal.τ).loc Cert.PoolOutDw1ReferenceIdeal.main_v12) i = v0 c i)
          ∧ r.2.mem ((c.tc : Thread Cert.PoolOutDw1ReferenceIdeal.nD Cert.PoolOutDw1ReferenceIdeal.τ).loc Cert.PoolOutDw1ReferenceIdeal.main_arg0) = m' ((c.tc : Thread Cert.PoolOutDw1ReferenceIdeal.nD Cert.PoolOutDw1ReferenceIdeal.τ).loc Cert.PoolOutDw1ReferenceIdeal.main_arg0)
          ∧ r.2.mem ((c.tc : Thread Cert.PoolOutDw1ReferenceIdeal.nD Cert.PoolOutDw1ReferenceIdeal.τ).loc Cert.PoolOutDw1ReferenceIdeal.main_arg1) = m' ((c.tc : Thread Cert.PoolOutDw1ReferenceIdeal.nD Cert.PoolOutDw1ReferenceIdeal.τ).loc Cert.PoolOutDw1ReferenceIdeal.main_arg1))

def preserves_PoolOutDw0Kernel_PoolOutDw0KernelIdeal : Prop :=
  True

def algebraic_PoolOutDw0KernelIdeal_PoolOutDw0ReferenceIdeal [hPoolOutDw0KernelIdeal : Cert.PoolOutDw0KernelIdeal.Facts] [hPoolOutDw0ReferenceIdeal : Cert.PoolOutDw0ReferenceIdeal.Facts] : Prop :=
  ∀ (m : (ℓ : Loc Cert.PoolOutDw0KernelIdeal.nD Cert.PoolOutDw0KernelIdeal.τ Cert.PoolOutDw0KernelIdeal.sig) → Buf (Elt Ideal) ℓ) (g : Dev Cert.PoolOutDw0KernelIdeal.nD → PrngReg)
    (m' : (ℓ : Loc Cert.PoolOutDw0ReferenceIdeal.nD Cert.PoolOutDw0ReferenceIdeal.τ Cert.PoolOutDw0ReferenceIdeal.sig) → Buf (Elt Ideal) ℓ) (g' : Dev Cert.PoolOutDw0ReferenceIdeal.nD → PrngReg), Pre_PoolOutDw0KernelIdeal m →
    (∀ c : Dev Cert.PoolOutDw0KernelIdeal.nD,
      m' ((c.tc : Thread Cert.PoolOutDw0ReferenceIdeal.nD Cert.PoolOutDw0ReferenceIdeal.τ).loc Cert.PoolOutDw0ReferenceIdeal.main_arg0) = m ((c.tc : Thread Cert.PoolOutDw0KernelIdeal.nD Cert.PoolOutDw0KernelIdeal.τ).loc Cert.PoolOutDw0KernelIdeal.main_arg0)
      ∧ m' ((c.tc : Thread Cert.PoolOutDw0ReferenceIdeal.nD Cert.PoolOutDw0ReferenceIdeal.τ).loc Cert.PoolOutDw0ReferenceIdeal.main_arg1) = m ((c.tc : Thread Cert.PoolOutDw0KernelIdeal.nD Cert.PoolOutDw0KernelIdeal.τ).loc Cert.PoolOutDw0KernelIdeal.main_arg1)
      ∧ m' ((c.tc : Thread Cert.PoolOutDw0ReferenceIdeal.nD Cert.PoolOutDw0ReferenceIdeal.τ).loc Cert.PoolOutDw0ReferenceIdeal.main_arg2) = m ((c.tc : Thread Cert.PoolOutDw0KernelIdeal.nD Cert.PoolOutDw0KernelIdeal.τ).loc Cert.PoolOutDw0KernelIdeal.main_arg2)) →
    ∃ (v0 : (c : Dev Cert.PoolOutDw0KernelIdeal.nD) → Buf (Elt Ideal) ((c.tc : Thread Cert.PoolOutDw0KernelIdeal.nD Cert.PoolOutDw0KernelIdeal.τ).loc Cert.PoolOutDw0KernelIdeal.main_v0)),
      θ_run (Cert.PoolOutDw0KernelIdeal.defs (F := Ideal)) (onTc (τ := Cert.PoolOutDw0KernelIdeal.τ) (Cert.PoolOutDw0KernelIdeal.main (F := Ideal))) ⟨m, fun _ => 0, g⟩ (fun r => ∀ c : Dev Cert.PoolOutDw0KernelIdeal.nD,
          r.2.mem ((c.tc : Thread Cert.PoolOutDw0KernelIdeal.nD Cert.PoolOutDw0KernelIdeal.τ).loc Cert.PoolOutDw0KernelIdeal.main_v0) = v0 c
          ∧ r.2.mem ((c.tc : Thread Cert.PoolOutDw0KernelIdeal.nD Cert.PoolOutDw0KernelIdeal.τ).loc Cert.PoolOutDw0KernelIdeal.main_arg0) = m ((c.tc : Thread Cert.PoolOutDw0KernelIdeal.nD Cert.PoolOutDw0KernelIdeal.τ).loc Cert.PoolOutDw0KernelIdeal.main_arg0)
          ∧ r.2.mem ((c.tc : Thread Cert.PoolOutDw0KernelIdeal.nD Cert.PoolOutDw0KernelIdeal.τ).loc Cert.PoolOutDw0KernelIdeal.main_arg1) = m ((c.tc : Thread Cert.PoolOutDw0KernelIdeal.nD Cert.PoolOutDw0KernelIdeal.τ).loc Cert.PoolOutDw0KernelIdeal.main_arg1)
          ∧ r.2.mem ((c.tc : Thread Cert.PoolOutDw0KernelIdeal.nD Cert.PoolOutDw0KernelIdeal.τ).loc Cert.PoolOutDw0KernelIdeal.main_arg2) = m ((c.tc : Thread Cert.PoolOutDw0KernelIdeal.nD Cert.PoolOutDw0KernelIdeal.τ).loc Cert.PoolOutDw0KernelIdeal.main_arg2))
      ∧ θ_run (Cert.PoolOutDw0ReferenceIdeal.defs (F := Ideal)) (onTc (τ := Cert.PoolOutDw0ReferenceIdeal.τ) (Cert.PoolOutDw0ReferenceIdeal.main (F := Ideal))) ⟨m', fun _ => 0, g'⟩ (fun r => ∀ c : Dev Cert.PoolOutDw0ReferenceIdeal.nD,
          r.2.mem ((c.tc : Thread Cert.PoolOutDw0ReferenceIdeal.nD Cert.PoolOutDw0ReferenceIdeal.τ).loc Cert.PoolOutDw0ReferenceIdeal.main_v13) = v0 c
          ∧ r.2.mem ((c.tc : Thread Cert.PoolOutDw0ReferenceIdeal.nD Cert.PoolOutDw0ReferenceIdeal.τ).loc Cert.PoolOutDw0ReferenceIdeal.main_arg0) = m' ((c.tc : Thread Cert.PoolOutDw0ReferenceIdeal.nD Cert.PoolOutDw0ReferenceIdeal.τ).loc Cert.PoolOutDw0ReferenceIdeal.main_arg0)
          ∧ r.2.mem ((c.tc : Thread Cert.PoolOutDw0ReferenceIdeal.nD Cert.PoolOutDw0ReferenceIdeal.τ).loc Cert.PoolOutDw0ReferenceIdeal.main_arg1) = m' ((c.tc : Thread Cert.PoolOutDw0ReferenceIdeal.nD Cert.PoolOutDw0ReferenceIdeal.τ).loc Cert.PoolOutDw0ReferenceIdeal.main_arg1)
          ∧ r.2.mem ((c.tc : Thread Cert.PoolOutDw0ReferenceIdeal.nD Cert.PoolOutDw0ReferenceIdeal.τ).loc Cert.PoolOutDw0ReferenceIdeal.main_arg2) = m' ((c.tc : Thread Cert.PoolOutDw0ReferenceIdeal.nD Cert.PoolOutDw0ReferenceIdeal.τ).loc Cert.PoolOutDw0ReferenceIdeal.main_arg2))

def Claim : Prop :=
  ∃ (hKernel : Cert.Kernel.Facts) (hKernelIdeal : Cert.KernelIdeal.Facts) (hReferenceIdeal : Cert.ReferenceIdeal.Facts) (hPoolKernel : Cert.PoolKernel.Facts) (hPoolKernelIdeal : Cert.PoolKernelIdeal.Facts) (hPoolReferenceIdeal : Cert.PoolReferenceIdeal.Facts) (hDownDxKernel : Cert.DownDxKernel.Facts) (hDownDxKernelIdeal : Cert.DownDxKernelIdeal.Facts) (hDownDxReferenceIdeal : Cert.DownDxReferenceIdeal.Facts) (hDownDwKernel : Cert.DownDwKernel.Facts) (hDownDwKernelIdeal : Cert.DownDwKernelIdeal.Facts) (hDownDwReferenceIdeal : Cert.DownDwReferenceIdeal.Facts) (hUpDxKernel : Cert.UpDxKernel.Facts) (hUpDxKernelIdeal : Cert.UpDxKernelIdeal.Facts) (hUpDxReferenceIdeal : Cert.UpDxReferenceIdeal.Facts) (hUpDwKernel : Cert.UpDwKernel.Facts) (hUpDwKernelIdeal : Cert.UpDwKernelIdeal.Facts) (hUpDwReferenceIdeal : Cert.UpDwReferenceIdeal.Facts) (hProjDxKernel : Cert.ProjDxKernel.Facts) (hProjDxKernelIdeal : Cert.ProjDxKernelIdeal.Facts) (hProjDxReferenceIdeal : Cert.ProjDxReferenceIdeal.Facts) (hProjDwKernel : Cert.ProjDwKernel.Facts) (hProjDwKernelIdeal : Cert.ProjDwKernelIdeal.Facts) (hProjDwReferenceIdeal : Cert.ProjDwReferenceIdeal.Facts) (hProj1Kernel : Cert.Proj1Kernel.Facts) (hProj1KernelIdeal : Cert.Proj1KernelIdeal.Facts) (hProj1ReferenceIdeal : Cert.Proj1ReferenceIdeal.Facts) (hProj0Kernel : Cert.Proj0Kernel.Facts) (hProj0KernelIdeal : Cert.Proj0KernelIdeal.Facts) (hProj0ReferenceIdeal : Cert.Proj0ReferenceIdeal.Facts) (hUp1Kernel : Cert.Up1Kernel.Facts) (hUp1KernelIdeal : Cert.Up1KernelIdeal.Facts) (hUp1ReferenceIdeal : Cert.Up1ReferenceIdeal.Facts) (hDown1Kernel : Cert.Down1Kernel.Facts) (hDown1KernelIdeal : Cert.Down1KernelIdeal.Facts) (hDown1ReferenceIdeal : Cert.Down1ReferenceIdeal.Facts) (hDown0Kernel : Cert.Down0Kernel.Facts) (hDown0KernelIdeal : Cert.Down0KernelIdeal.Facts) (hDown0ReferenceIdeal : Cert.Down0ReferenceIdeal.Facts) (hMix1Kernel : Cert.Mix1Kernel.Facts) (hMix1KernelIdeal : Cert.Mix1KernelIdeal.Facts) (hMix1ReferenceIdeal : Cert.Mix1ReferenceIdeal.Facts) (hMix0Kernel : Cert.Mix0Kernel.Facts) (hMix0KernelIdeal : Cert.Mix0KernelIdeal.Facts) (hMix0ReferenceIdeal : Cert.Mix0ReferenceIdeal.Facts) (hMixDx1Kernel : Cert.MixDx1Kernel.Facts) (hMixDx1KernelIdeal : Cert.MixDx1KernelIdeal.Facts) (hMixDx1ReferenceIdeal : Cert.MixDx1ReferenceIdeal.Facts) (hMixDx0Kernel : Cert.MixDx0Kernel.Facts) (hMixDx0KernelIdeal : Cert.MixDx0KernelIdeal.Facts) (hMixDx0ReferenceIdeal : Cert.MixDx0ReferenceIdeal.Facts) (hMixDw1Kernel : Cert.MixDw1Kernel.Facts) (hMixDw1KernelIdeal : Cert.MixDw1KernelIdeal.Facts) (hMixDw1ReferenceIdeal : Cert.MixDw1ReferenceIdeal.Facts) (hMixDw0Kernel : Cert.MixDw0Kernel.Facts) (hMixDw0KernelIdeal : Cert.MixDw0KernelIdeal.Facts) (hMixDw0ReferenceIdeal : Cert.MixDw0ReferenceIdeal.Facts) (hDownDw1Kernel : Cert.DownDw1Kernel.Facts) (hDownDw1KernelIdeal : Cert.DownDw1KernelIdeal.Facts) (hDownDw1ReferenceIdeal : Cert.DownDw1ReferenceIdeal.Facts) (hUpDw1Kernel : Cert.UpDw1Kernel.Facts) (hUpDw1KernelIdeal : Cert.UpDw1KernelIdeal.Facts) (hUpDw1ReferenceIdeal : Cert.UpDw1ReferenceIdeal.Facts) (hProjDw1Kernel : Cert.ProjDw1Kernel.Facts) (hProjDw1KernelIdeal : Cert.ProjDw1KernelIdeal.Facts) (hProjDw1ReferenceIdeal : Cert.ProjDw1ReferenceIdeal.Facts) (hAttnOut1Kernel : Cert.AttnOut1Kernel.Facts) (hAttnOut1KernelIdeal : Cert.AttnOut1KernelIdeal.Facts) (hAttnOut1ReferenceIdeal : Cert.AttnOut1ReferenceIdeal.Facts) (hAttnOut0Kernel : Cert.AttnOut0Kernel.Facts) (hAttnOut0KernelIdeal : Cert.AttnOut0KernelIdeal.Facts) (hAttnOut0ReferenceIdeal : Cert.AttnOut0ReferenceIdeal.Facts) (hAttnOutDx1Kernel : Cert.AttnOutDx1Kernel.Facts) (hAttnOutDx1KernelIdeal : Cert.AttnOutDx1KernelIdeal.Facts) (hAttnOutDx1ReferenceIdeal : Cert.AttnOutDx1ReferenceIdeal.Facts) (hAttnOutDx0Kernel : Cert.AttnOutDx0Kernel.Facts) (hAttnOutDx0KernelIdeal : Cert.AttnOutDx0KernelIdeal.Facts) (hAttnOutDx0ReferenceIdeal : Cert.AttnOutDx0ReferenceIdeal.Facts) (hAttnOutDw1Kernel : Cert.AttnOutDw1Kernel.Facts) (hAttnOutDw1KernelIdeal : Cert.AttnOutDw1KernelIdeal.Facts) (hAttnOutDw1ReferenceIdeal : Cert.AttnOutDw1ReferenceIdeal.Facts) (hAttnOutDw0Kernel : Cert.AttnOutDw0Kernel.Facts) (hAttnOutDw0KernelIdeal : Cert.AttnOutDw0KernelIdeal.Facts) (hAttnOutDw0ReferenceIdeal : Cert.AttnOutDw0ReferenceIdeal.Facts) (hPoolOut1Kernel : Cert.PoolOut1Kernel.Facts) (hPoolOut1KernelIdeal : Cert.PoolOut1KernelIdeal.Facts) (hPoolOut1ReferenceIdeal : Cert.PoolOut1ReferenceIdeal.Facts) (hPoolOut0Kernel : Cert.PoolOut0Kernel.Facts) (hPoolOut0KernelIdeal : Cert.PoolOut0KernelIdeal.Facts) (hPoolOut0ReferenceIdeal : Cert.PoolOut0ReferenceIdeal.Facts) (hPoolOutDx1Kernel : Cert.PoolOutDx1Kernel.Facts) (hPoolOutDx1KernelIdeal : Cert.PoolOutDx1KernelIdeal.Facts) (hPoolOutDx1ReferenceIdeal : Cert.PoolOutDx1ReferenceIdeal.Facts) (hPoolOutDx0Kernel : Cert.PoolOutDx0Kernel.Facts) (hPoolOutDx0KernelIdeal : Cert.PoolOutDx0KernelIdeal.Facts) (hPoolOutDx0ReferenceIdeal : Cert.PoolOutDx0ReferenceIdeal.Facts) (hPoolOutDw1Kernel : Cert.PoolOutDw1Kernel.Facts) (hPoolOutDw1KernelIdeal : Cert.PoolOutDw1KernelIdeal.Facts) (hPoolOutDw1ReferenceIdeal : Cert.PoolOutDw1ReferenceIdeal.Facts) (hPoolOutDw0Kernel : Cert.PoolOutDw0Kernel.Facts) (hPoolOutDw0KernelIdeal : Cert.PoolOutDw0KernelIdeal.Facts) (hPoolOutDw0ReferenceIdeal : Cert.PoolOutDw0ReferenceIdeal.Facts) (hOn_mix_dw1_written : Cert.On_mix_dw1_written.Facts) (hOn_down_dw1_written : Cert.On_down_dw1_written.Facts) (hOn_up_dw1_written : Cert.On_up_dw1_written.Facts) (hOn_proj_dw1_written : Cert.On_proj_dw1_written.Facts) (hOn_attn_out_dw1_written : Cert.On_attn_out_dw1_written.Facts) (hOn_pool_out_dw1_written : Cert.On_pool_out_dw1_written.Facts),
    quiescent_Kernel (hKernel := hKernel)
    ∧ quiescent_KernelIdeal (hKernelIdeal := hKernelIdeal)
    ∧ quiescent_ReferenceIdeal (hReferenceIdeal := hReferenceIdeal)
    ∧ quiescent_PoolKernel (hPoolKernel := hPoolKernel)
    ∧ quiescent_PoolKernelIdeal (hPoolKernelIdeal := hPoolKernelIdeal)
    ∧ quiescent_PoolReferenceIdeal (hPoolReferenceIdeal := hPoolReferenceIdeal)
    ∧ quiescent_DownDxKernel (hDownDxKernel := hDownDxKernel)
    ∧ quiescent_DownDxKernelIdeal (hDownDxKernelIdeal := hDownDxKernelIdeal)
    ∧ quiescent_DownDxReferenceIdeal (hDownDxReferenceIdeal := hDownDxReferenceIdeal)
    ∧ quiescent_DownDwKernel (hDownDwKernel := hDownDwKernel)
    ∧ quiescent_DownDwKernelIdeal (hDownDwKernelIdeal := hDownDwKernelIdeal)
    ∧ quiescent_DownDwReferenceIdeal (hDownDwReferenceIdeal := hDownDwReferenceIdeal)
    ∧ quiescent_UpDxKernel (hUpDxKernel := hUpDxKernel)
    ∧ quiescent_UpDxKernelIdeal (hUpDxKernelIdeal := hUpDxKernelIdeal)
    ∧ quiescent_UpDxReferenceIdeal (hUpDxReferenceIdeal := hUpDxReferenceIdeal)
    ∧ quiescent_UpDwKernel (hUpDwKernel := hUpDwKernel)
    ∧ quiescent_UpDwKernelIdeal (hUpDwKernelIdeal := hUpDwKernelIdeal)
    ∧ quiescent_UpDwReferenceIdeal (hUpDwReferenceIdeal := hUpDwReferenceIdeal)
    ∧ quiescent_ProjDxKernel (hProjDxKernel := hProjDxKernel)
    ∧ quiescent_ProjDxKernelIdeal (hProjDxKernelIdeal := hProjDxKernelIdeal)
    ∧ quiescent_ProjDxReferenceIdeal (hProjDxReferenceIdeal := hProjDxReferenceIdeal)
    ∧ quiescent_ProjDwKernel (hProjDwKernel := hProjDwKernel)
    ∧ quiescent_ProjDwKernelIdeal (hProjDwKernelIdeal := hProjDwKernelIdeal)
    ∧ quiescent_ProjDwReferenceIdeal (hProjDwReferenceIdeal := hProjDwReferenceIdeal)
    ∧ quiescent_Proj1Kernel (hProj1Kernel := hProj1Kernel)
    ∧ quiescent_Proj1KernelIdeal (hProj1KernelIdeal := hProj1KernelIdeal)
    ∧ quiescent_Proj1ReferenceIdeal (hProj1ReferenceIdeal := hProj1ReferenceIdeal)
    ∧ quiescent_Proj0Kernel (hProj0Kernel := hProj0Kernel)
    ∧ quiescent_Proj0KernelIdeal (hProj0KernelIdeal := hProj0KernelIdeal)
    ∧ quiescent_Proj0ReferenceIdeal (hProj0ReferenceIdeal := hProj0ReferenceIdeal)
    ∧ quiescent_Up1Kernel (hUp1Kernel := hUp1Kernel)
    ∧ quiescent_Up1KernelIdeal (hUp1KernelIdeal := hUp1KernelIdeal)
    ∧ quiescent_Up1ReferenceIdeal (hUp1ReferenceIdeal := hUp1ReferenceIdeal)
    ∧ quiescent_Down1Kernel (hDown1Kernel := hDown1Kernel)
    ∧ quiescent_Down1KernelIdeal (hDown1KernelIdeal := hDown1KernelIdeal)
    ∧ quiescent_Down1ReferenceIdeal (hDown1ReferenceIdeal := hDown1ReferenceIdeal)
    ∧ quiescent_Down0Kernel (hDown0Kernel := hDown0Kernel)
    ∧ quiescent_Down0KernelIdeal (hDown0KernelIdeal := hDown0KernelIdeal)
    ∧ quiescent_Down0ReferenceIdeal (hDown0ReferenceIdeal := hDown0ReferenceIdeal)
    ∧ quiescent_Mix1Kernel (hMix1Kernel := hMix1Kernel)
    ∧ quiescent_Mix1KernelIdeal (hMix1KernelIdeal := hMix1KernelIdeal)
    ∧ quiescent_Mix1ReferenceIdeal (hMix1ReferenceIdeal := hMix1ReferenceIdeal)
    ∧ quiescent_Mix0Kernel (hMix0Kernel := hMix0Kernel)
    ∧ quiescent_Mix0KernelIdeal (hMix0KernelIdeal := hMix0KernelIdeal)
    ∧ quiescent_Mix0ReferenceIdeal (hMix0ReferenceIdeal := hMix0ReferenceIdeal)
    ∧ quiescent_MixDx1Kernel (hMixDx1Kernel := hMixDx1Kernel)
    ∧ quiescent_MixDx1KernelIdeal (hMixDx1KernelIdeal := hMixDx1KernelIdeal)
    ∧ quiescent_MixDx1ReferenceIdeal (hMixDx1ReferenceIdeal := hMixDx1ReferenceIdeal)
    ∧ quiescent_MixDx0Kernel (hMixDx0Kernel := hMixDx0Kernel)
    ∧ quiescent_MixDx0KernelIdeal (hMixDx0KernelIdeal := hMixDx0KernelIdeal)
    ∧ quiescent_MixDx0ReferenceIdeal (hMixDx0ReferenceIdeal := hMixDx0ReferenceIdeal)
    ∧ quiescent_MixDw1Kernel (hMixDw1Kernel := hMixDw1Kernel)
    ∧ quiescent_MixDw1KernelIdeal (hMixDw1KernelIdeal := hMixDw1KernelIdeal)
    ∧ quiescent_MixDw1ReferenceIdeal (hMixDw1ReferenceIdeal := hMixDw1ReferenceIdeal)
    ∧ quiescent_MixDw0Kernel (hMixDw0Kernel := hMixDw0Kernel)
    ∧ quiescent_MixDw0KernelIdeal (hMixDw0KernelIdeal := hMixDw0KernelIdeal)
    ∧ quiescent_MixDw0ReferenceIdeal (hMixDw0ReferenceIdeal := hMixDw0ReferenceIdeal)
    ∧ quiescent_DownDw1Kernel (hDownDw1Kernel := hDownDw1Kernel)
    ∧ quiescent_DownDw1KernelIdeal (hDownDw1KernelIdeal := hDownDw1KernelIdeal)
    ∧ quiescent_DownDw1ReferenceIdeal (hDownDw1ReferenceIdeal := hDownDw1ReferenceIdeal)
    ∧ quiescent_UpDw1Kernel (hUpDw1Kernel := hUpDw1Kernel)
    ∧ quiescent_UpDw1KernelIdeal (hUpDw1KernelIdeal := hUpDw1KernelIdeal)
    ∧ quiescent_UpDw1ReferenceIdeal (hUpDw1ReferenceIdeal := hUpDw1ReferenceIdeal)
    ∧ quiescent_ProjDw1Kernel (hProjDw1Kernel := hProjDw1Kernel)
    ∧ quiescent_ProjDw1KernelIdeal (hProjDw1KernelIdeal := hProjDw1KernelIdeal)
    ∧ quiescent_ProjDw1ReferenceIdeal (hProjDw1ReferenceIdeal := hProjDw1ReferenceIdeal)
    ∧ quiescent_AttnOut1Kernel (hAttnOut1Kernel := hAttnOut1Kernel)
    ∧ quiescent_AttnOut1KernelIdeal (hAttnOut1KernelIdeal := hAttnOut1KernelIdeal)
    ∧ quiescent_AttnOut1ReferenceIdeal (hAttnOut1ReferenceIdeal := hAttnOut1ReferenceIdeal)
    ∧ quiescent_AttnOut0Kernel (hAttnOut0Kernel := hAttnOut0Kernel)
    ∧ quiescent_AttnOut0KernelIdeal (hAttnOut0KernelIdeal := hAttnOut0KernelIdeal)
    ∧ quiescent_AttnOut0ReferenceIdeal (hAttnOut0ReferenceIdeal := hAttnOut0ReferenceIdeal)
    ∧ quiescent_AttnOutDx1Kernel (hAttnOutDx1Kernel := hAttnOutDx1Kernel)
    ∧ quiescent_AttnOutDx1KernelIdeal (hAttnOutDx1KernelIdeal := hAttnOutDx1KernelIdeal)
    ∧ quiescent_AttnOutDx1ReferenceIdeal (hAttnOutDx1ReferenceIdeal := hAttnOutDx1ReferenceIdeal)
    ∧ quiescent_AttnOutDx0Kernel (hAttnOutDx0Kernel := hAttnOutDx0Kernel)
    ∧ quiescent_AttnOutDx0KernelIdeal (hAttnOutDx0KernelIdeal := hAttnOutDx0KernelIdeal)
    ∧ quiescent_AttnOutDx0ReferenceIdeal (hAttnOutDx0ReferenceIdeal := hAttnOutDx0ReferenceIdeal)
    ∧ quiescent_AttnOutDw1Kernel (hAttnOutDw1Kernel := hAttnOutDw1Kernel)
    ∧ quiescent_AttnOutDw1KernelIdeal (hAttnOutDw1KernelIdeal := hAttnOutDw1KernelIdeal)
    ∧ quiescent_AttnOutDw1ReferenceIdeal (hAttnOutDw1ReferenceIdeal := hAttnOutDw1ReferenceIdeal)
    ∧ quiescent_AttnOutDw0Kernel (hAttnOutDw0Kernel := hAttnOutDw0Kernel)
    ∧ quiescent_AttnOutDw0KernelIdeal (hAttnOutDw0KernelIdeal := hAttnOutDw0KernelIdeal)
    ∧ quiescent_AttnOutDw0ReferenceIdeal (hAttnOutDw0ReferenceIdeal := hAttnOutDw0ReferenceIdeal)
    ∧ quiescent_PoolOut1Kernel (hPoolOut1Kernel := hPoolOut1Kernel)
    ∧ quiescent_PoolOut1KernelIdeal (hPoolOut1KernelIdeal := hPoolOut1KernelIdeal)
    ∧ quiescent_PoolOut1ReferenceIdeal (hPoolOut1ReferenceIdeal := hPoolOut1ReferenceIdeal)
    ∧ quiescent_PoolOut0Kernel (hPoolOut0Kernel := hPoolOut0Kernel)
    ∧ quiescent_PoolOut0KernelIdeal (hPoolOut0KernelIdeal := hPoolOut0KernelIdeal)
    ∧ quiescent_PoolOut0ReferenceIdeal (hPoolOut0ReferenceIdeal := hPoolOut0ReferenceIdeal)
    ∧ quiescent_PoolOutDx1Kernel (hPoolOutDx1Kernel := hPoolOutDx1Kernel)
    ∧ quiescent_PoolOutDx1KernelIdeal (hPoolOutDx1KernelIdeal := hPoolOutDx1KernelIdeal)
    ∧ quiescent_PoolOutDx1ReferenceIdeal (hPoolOutDx1ReferenceIdeal := hPoolOutDx1ReferenceIdeal)
    ∧ quiescent_PoolOutDx0Kernel (hPoolOutDx0Kernel := hPoolOutDx0Kernel)
    ∧ quiescent_PoolOutDx0KernelIdeal (hPoolOutDx0KernelIdeal := hPoolOutDx0KernelIdeal)
    ∧ quiescent_PoolOutDx0ReferenceIdeal (hPoolOutDx0ReferenceIdeal := hPoolOutDx0ReferenceIdeal)
    ∧ quiescent_PoolOutDw1Kernel (hPoolOutDw1Kernel := hPoolOutDw1Kernel)
    ∧ quiescent_PoolOutDw1KernelIdeal (hPoolOutDw1KernelIdeal := hPoolOutDw1KernelIdeal)
    ∧ quiescent_PoolOutDw1ReferenceIdeal (hPoolOutDw1ReferenceIdeal := hPoolOutDw1ReferenceIdeal)
    ∧ quiescent_PoolOutDw0Kernel (hPoolOutDw0Kernel := hPoolOutDw0Kernel)
    ∧ quiescent_PoolOutDw0KernelIdeal (hPoolOutDw0KernelIdeal := hPoolOutDw0KernelIdeal)
    ∧ quiescent_PoolOutDw0ReferenceIdeal (hPoolOutDw0ReferenceIdeal := hPoolOutDw0ReferenceIdeal)
    ∧ preserves_Kernel_KernelIdeal
    ∧ preserves_PoolKernel_PoolKernelIdeal
    ∧ algebraic_PoolKernelIdeal_PoolReferenceIdeal (hPoolKernelIdeal := hPoolKernelIdeal) (hPoolReferenceIdeal := hPoolReferenceIdeal)
    ∧ preserves_DownDxKernel_DownDxKernelIdeal
    ∧ algebraic_DownDxKernelIdeal_DownDxReferenceIdeal (hDownDxKernelIdeal := hDownDxKernelIdeal) (hDownDxReferenceIdeal := hDownDxReferenceIdeal)
    ∧ preserves_DownDwKernel_DownDwKernelIdeal
    ∧ algebraic_DownDwKernelIdeal_DownDwReferenceIdeal (hDownDwKernelIdeal := hDownDwKernelIdeal) (hDownDwReferenceIdeal := hDownDwReferenceIdeal)
    ∧ preserves_UpDxKernel_UpDxKernelIdeal
    ∧ algebraic_UpDxKernelIdeal_UpDxReferenceIdeal (hUpDxKernelIdeal := hUpDxKernelIdeal) (hUpDxReferenceIdeal := hUpDxReferenceIdeal)
    ∧ preserves_UpDwKernel_UpDwKernelIdeal
    ∧ algebraic_UpDwKernelIdeal_UpDwReferenceIdeal (hUpDwKernelIdeal := hUpDwKernelIdeal) (hUpDwReferenceIdeal := hUpDwReferenceIdeal)
    ∧ preserves_ProjDxKernel_ProjDxKernelIdeal
    ∧ algebraic_ProjDxKernelIdeal_ProjDxReferenceIdeal (hProjDxKernelIdeal := hProjDxKernelIdeal) (hProjDxReferenceIdeal := hProjDxReferenceIdeal)
    ∧ preserves_ProjDwKernel_ProjDwKernelIdeal
    ∧ algebraic_ProjDwKernelIdeal_ProjDwReferenceIdeal (hProjDwKernelIdeal := hProjDwKernelIdeal) (hProjDwReferenceIdeal := hProjDwReferenceIdeal)
    ∧ preserves_Proj1Kernel_Proj1KernelIdeal
    ∧ algebraic_Proj1KernelIdeal_Proj1ReferenceIdeal (hProj1KernelIdeal := hProj1KernelIdeal) (hProj1ReferenceIdeal := hProj1ReferenceIdeal)
    ∧ preserves_Proj0Kernel_Proj0KernelIdeal
    ∧ algebraic_Proj0KernelIdeal_Proj0ReferenceIdeal (hProj0KernelIdeal := hProj0KernelIdeal) (hProj0ReferenceIdeal := hProj0ReferenceIdeal)
    ∧ preserves_Up1Kernel_Up1KernelIdeal
    ∧ algebraic_Up1KernelIdeal_Up1ReferenceIdeal (hUp1KernelIdeal := hUp1KernelIdeal) (hUp1ReferenceIdeal := hUp1ReferenceIdeal)
    ∧ preserves_Down1Kernel_Down1KernelIdeal
    ∧ algebraic_Down1KernelIdeal_Down1ReferenceIdeal (hDown1KernelIdeal := hDown1KernelIdeal) (hDown1ReferenceIdeal := hDown1ReferenceIdeal)
    ∧ preserves_Down0Kernel_Down0KernelIdeal
    ∧ algebraic_Down0KernelIdeal_Down0ReferenceIdeal (hDown0KernelIdeal := hDown0KernelIdeal) (hDown0ReferenceIdeal := hDown0ReferenceIdeal)
    ∧ preserves_Mix1Kernel_Mix1KernelIdeal
    ∧ algebraic_Mix1KernelIdeal_Mix1ReferenceIdeal (hMix1KernelIdeal := hMix1KernelIdeal) (hMix1ReferenceIdeal := hMix1ReferenceIdeal)
    ∧ preserves_Mix0Kernel_Mix0KernelIdeal
    ∧ algebraic_Mix0KernelIdeal_Mix0ReferenceIdeal (hMix0KernelIdeal := hMix0KernelIdeal) (hMix0ReferenceIdeal := hMix0ReferenceIdeal)
    ∧ preserves_MixDx1Kernel_MixDx1KernelIdeal
    ∧ algebraic_MixDx1KernelIdeal_MixDx1ReferenceIdeal (hMixDx1KernelIdeal := hMixDx1KernelIdeal) (hMixDx1ReferenceIdeal := hMixDx1ReferenceIdeal)
    ∧ preserves_MixDx0Kernel_MixDx0KernelIdeal
    ∧ algebraic_MixDx0KernelIdeal_MixDx0ReferenceIdeal (hMixDx0KernelIdeal := hMixDx0KernelIdeal) (hMixDx0ReferenceIdeal := hMixDx0ReferenceIdeal)
    ∧ preserves_MixDw1Kernel_MixDw1KernelIdeal
    ∧ algebraic_MixDw1KernelIdeal_MixDw1ReferenceIdeal_on_mix_dw1_written (hMixDw1KernelIdeal := hMixDw1KernelIdeal) (hMixDw1ReferenceIdeal := hMixDw1ReferenceIdeal) (hOn_mix_dw1_written := hOn_mix_dw1_written)
    ∧ preserves_MixDw0Kernel_MixDw0KernelIdeal
    ∧ algebraic_MixDw0KernelIdeal_MixDw0ReferenceIdeal (hMixDw0KernelIdeal := hMixDw0KernelIdeal) (hMixDw0ReferenceIdeal := hMixDw0ReferenceIdeal)
    ∧ preserves_DownDw1Kernel_DownDw1KernelIdeal
    ∧ algebraic_DownDw1KernelIdeal_DownDw1ReferenceIdeal_on_down_dw1_written (hDownDw1KernelIdeal := hDownDw1KernelIdeal) (hDownDw1ReferenceIdeal := hDownDw1ReferenceIdeal) (hOn_down_dw1_written := hOn_down_dw1_written)
    ∧ preserves_UpDw1Kernel_UpDw1KernelIdeal
    ∧ algebraic_UpDw1KernelIdeal_UpDw1ReferenceIdeal_on_up_dw1_written (hUpDw1KernelIdeal := hUpDw1KernelIdeal) (hUpDw1ReferenceIdeal := hUpDw1ReferenceIdeal) (hOn_up_dw1_written := hOn_up_dw1_written)
    ∧ preserves_ProjDw1Kernel_ProjDw1KernelIdeal
    ∧ algebraic_ProjDw1KernelIdeal_ProjDw1ReferenceIdeal_on_proj_dw1_written (hProjDw1KernelIdeal := hProjDw1KernelIdeal) (hProjDw1ReferenceIdeal := hProjDw1ReferenceIdeal) (hOn_proj_dw1_written := hOn_proj_dw1_written)
    ∧ preserves_AttnOut1Kernel_AttnOut1KernelIdeal
    ∧ algebraic_AttnOut1KernelIdeal_AttnOut1ReferenceIdeal (hAttnOut1KernelIdeal := hAttnOut1KernelIdeal) (hAttnOut1ReferenceIdeal := hAttnOut1ReferenceIdeal)
    ∧ preserves_AttnOut0Kernel_AttnOut0KernelIdeal
    ∧ algebraic_AttnOut0KernelIdeal_AttnOut0ReferenceIdeal (hAttnOut0KernelIdeal := hAttnOut0KernelIdeal) (hAttnOut0ReferenceIdeal := hAttnOut0ReferenceIdeal)
    ∧ preserves_AttnOutDx1Kernel_AttnOutDx1KernelIdeal
    ∧ algebraic_AttnOutDx1KernelIdeal_AttnOutDx1ReferenceIdeal (hAttnOutDx1KernelIdeal := hAttnOutDx1KernelIdeal) (hAttnOutDx1ReferenceIdeal := hAttnOutDx1ReferenceIdeal)
    ∧ preserves_AttnOutDx0Kernel_AttnOutDx0KernelIdeal
    ∧ algebraic_AttnOutDx0KernelIdeal_AttnOutDx0ReferenceIdeal (hAttnOutDx0KernelIdeal := hAttnOutDx0KernelIdeal) (hAttnOutDx0ReferenceIdeal := hAttnOutDx0ReferenceIdeal)
    ∧ preserves_AttnOutDw1Kernel_AttnOutDw1KernelIdeal
    ∧ algebraic_AttnOutDw1KernelIdeal_AttnOutDw1ReferenceIdeal_on_attn_out_dw1_written (hAttnOutDw1KernelIdeal := hAttnOutDw1KernelIdeal) (hAttnOutDw1ReferenceIdeal := hAttnOutDw1ReferenceIdeal) (hOn_attn_out_dw1_written := hOn_attn_out_dw1_written)
    ∧ preserves_AttnOutDw0Kernel_AttnOutDw0KernelIdeal
    ∧ algebraic_AttnOutDw0KernelIdeal_AttnOutDw0ReferenceIdeal (hAttnOutDw0KernelIdeal := hAttnOutDw0KernelIdeal) (hAttnOutDw0ReferenceIdeal := hAttnOutDw0ReferenceIdeal)
    ∧ preserves_PoolOut1Kernel_PoolOut1KernelIdeal
    ∧ algebraic_PoolOut1KernelIdeal_PoolOut1ReferenceIdeal (hPoolOut1KernelIdeal := hPoolOut1KernelIdeal) (hPoolOut1ReferenceIdeal := hPoolOut1ReferenceIdeal)
    ∧ preserves_PoolOut0Kernel_PoolOut0KernelIdeal
    ∧ algebraic_PoolOut0KernelIdeal_PoolOut0ReferenceIdeal (hPoolOut0KernelIdeal := hPoolOut0KernelIdeal) (hPoolOut0ReferenceIdeal := hPoolOut0ReferenceIdeal)
    ∧ preserves_PoolOutDx1Kernel_PoolOutDx1KernelIdeal
    ∧ algebraic_PoolOutDx1KernelIdeal_PoolOutDx1ReferenceIdeal (hPoolOutDx1KernelIdeal := hPoolOutDx1KernelIdeal) (hPoolOutDx1ReferenceIdeal := hPoolOutDx1ReferenceIdeal)
    ∧ preserves_PoolOutDx0Kernel_PoolOutDx0KernelIdeal
    ∧ algebraic_PoolOutDx0KernelIdeal_PoolOutDx0ReferenceIdeal (hPoolOutDx0KernelIdeal := hPoolOutDx0KernelIdeal) (hPoolOutDx0ReferenceIdeal := hPoolOutDx0ReferenceIdeal)
    ∧ preserves_PoolOutDw1Kernel_PoolOutDw1KernelIdeal
    ∧ algebraic_PoolOutDw1KernelIdeal_PoolOutDw1ReferenceIdeal_on_pool_out_dw1_written (hPoolOutDw1KernelIdeal := hPoolOutDw1KernelIdeal) (hPoolOutDw1ReferenceIdeal := hPoolOutDw1ReferenceIdeal) (hOn_pool_out_dw1_written := hOn_pool_out_dw1_written)
    ∧ preserves_PoolOutDw0Kernel_PoolOutDw0KernelIdeal
    ∧ algebraic_PoolOutDw0KernelIdeal_PoolOutDw0ReferenceIdeal (hPoolOutDw0KernelIdeal := hPoolOutDw0KernelIdeal) (hPoolOutDw0ReferenceIdeal := hPoolOutDw0ReferenceIdeal)
-- ==== On_attn_out_dw1_written.lean ====
abbrev S8192x512 : Shape := ⟨2, ![8192, 512]⟩
abbrev S8192x1024 : Shape := ⟨2, ![8192, 1024]⟩
abbrev S2x4x512x256 : Shape := ⟨4, ![2, 4, 512, 256]⟩
abbrev S_ : Shape := ⟨0, ![]⟩

class Facts : Prop where
  bcast_S_S2x4x512x256 : S_.BroadcastsInDim S2x4x512x256 (![] : Fin 0 → Fin S2x4x512x256.rank)

variable [Facts]

def fn {F : FTy → Type} [FloatOps F] (main_arg0 : FVec F S8192x512 .bf16) (main_arg1 : FVec F S8192x1024 .bf16) : IVec S2x4x512x256 1 :=
  let main_v0 : IVec S2x4x512x256 32 := iotaInDim S2x4x512x256 32 0
  let main_c : IVec S_ 32 := constantI S_ 32 1#32
  let main_v1 : IVec S2x4x512x256 32 := broadcastInDim S2x4x512x256 ![] bcast_S_S2x4x512x256 main_c
  let main_v2 : IVec S2x4x512x256 1 := cmpi .eq main_v0 main_v1
  main_v2
-- ==== On_down_dw1_written.lean ====
abbrev S8192x2816 : Shape := ⟨2, ![8192, 2816]⟩
abbrev S8192x1024 : Shape := ⟨2, ![8192, 1024]⟩
abbrev S2x2816x1024 : Shape := ⟨3, ![2, 2816, 1024]⟩
abbrev S_ : Shape := ⟨0, ![]⟩

class Facts : Prop where
  bcast_S_S2x2816x1024 : S_.BroadcastsInDim S2x2816x1024 (![] : Fin 0 → Fin S2x2816x1024.rank)

variable [Facts]

def fn {F : FTy → Type} [FloatOps F] (main_arg0 : FVec F S8192x2816 .bf16) (main_arg1 : FVec F S8192x1024 .bf16) : IVec S2x2816x1024 1 :=
  let main_v0 : IVec S2x2816x1024 32 := iotaInDim S2x2816x1024 32 0
  let main_c : IVec S_ 32 := constantI S_ 32 1#32
  let main_v1 : IVec S2x2816x1024 32 := broadcastInDim S2x2816x1024 ![] bcast_S_S2x2816x1024 main_c
  let main_v2 : IVec S2x2816x1024 1 := cmpi .eq main_v0 main_v1
  main_v2
-- ==== On_mix_dw1_written.lean ====
abbrev S8192x1024 : Shape := ⟨2, ![8192, 1024]⟩
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)

variable [Facts]

def fn {F : FTy → Type} [FloatOps F] (main_arg0 : FVec F S8192x1024 .bf16) (main_arg1 : FVec F S8192x1024 .bf16) : IVec S2x1024x1024 1 :=
  let main_v0 : IVec S2x1024x1024 32 := iotaInDim S2x1024x1024 32 0
  let main_c : IVec S_ 32 := constantI S_ 32 1#32
  let main_v1 : IVec S2x1024x1024 32 := broadcastInDim S2x1024x1024 ![] bcast_S_S2x1024x1024 main_c
  let main_v2 : IVec S2x1024x1024 1 := cmpi .eq main_v0 main_v1
  main_v2
-- ==== On_pool_out_dw1_written.lean ====
abbrev S8192x512 : Shape := ⟨2, ![8192, 512]⟩
abbrev S8192x1024 : Shape := ⟨2, ![8192, 1024]⟩
abbrev S2x4x512x256 : Shape := ⟨4, ![2, 4, 512, 256]⟩
abbrev S_ : Shape := ⟨0, ![]⟩

class Facts : Prop where
  bcast_S_S2x4x512x256 : S_.BroadcastsInDim S2x4x512x256 (![] : Fin 0 → Fin S2x4x512x256.rank)

variable [Facts]

def fn {F : FTy → Type} [FloatOps F] (main_arg0 : FVec F S8192x512 .bf16) (main_arg1 : FVec F S8192x1024 .bf16) : IVec S2x4x512x256 1 :=
  let main_v0 : IVec S2x4x512x256 32 := iotaInDim S2x4x512x256 32 0
  let main_c : IVec S_ 32 := constantI S_ 32 1#32
  let main_v1 : IVec S2x4x512x256 32 := broadcastInDim S2x4x512x256 ![] bcast_S_S2x4x512x256 main_c
  let main_v2 : IVec S2x4x512x256 1 := cmpi .eq main_v0 main_v1
  main_v2
-- ==== On_proj_dw1_written.lean ====
abbrev S8192x1024 : Shape := ⟨2, ![8192, 1024]⟩
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S_ : Shape := ⟨0, ![]⟩

class Facts : Prop where
  bcast_S_S2x4x1024x1024 : S_.BroadcastsInDim S2x4x1024x1024 (![] : Fin 0 → Fin S2x4x1024x1024.rank)

variable [Facts]

def fn {F : FTy → Type} [FloatOps F] (main_arg0 : FVec F S8192x1024 .bf16) (main_arg1 : FVec F S8192x1536 .bf16) (main_arg2 : FVec F S8192x512 .bf16) (main_arg3 : FVec F S8192x2048 .bf16) : IVec S2x4x1024x1024 1 :=
  let main_v0 : IVec S2x4x1024x1024 32 := iotaInDim S2x4x1024x1024 32 0
  let main_c : IVec S_ 32 := constantI S_ 32 1#32
  let main_v1 : IVec S2x4x1024x1024 32 := broadcastInDim S2x4x1024x1024 ![] bcast_S_S2x4x1024x1024 main_c
  let main_v2 : IVec S2x4x1024x1024 1 := cmpi .eq main_v0 main_v1
  main_v2
-- ==== On_up_dw1_written.lean ====
abbrev S8192x1024 : Shape := ⟨2, ![8192, 1024]⟩
abbrev S2x8192x2816 : Shape := ⟨3, ![2, 8192, 2816]⟩
abbrev S2x4x1024x1408 : Shape := ⟨4, ![2, 4, 1024, 1408]⟩
abbrev S_ : Shape := ⟨0, ![]⟩

class Facts : Prop where
  bcast_S_S2x4x1024x1408 : S_.BroadcastsInDim S2x4x1024x1408 (![] : Fin 0 → Fin S2x4x1024x1408.rank)

variable [Facts]

def fn {F : FTy → Type} [FloatOps F] (main_arg0 : FVec F S8192x1024 .bf16) (main_arg1 : FVec F S2x8192x2816 .bf16) : IVec S2x4x1024x1408 1 :=
  let main_v0 : IVec S2x4x1024x1408 32 := iotaInDim S2x4x1024x1408 32 0
  let main_c : IVec S_ 32 := constantI S_ 32 1#32
  let main_v1 : IVec S2x4x1024x1408 32 := broadcastInDim S2x4x1024x1408 ![] bcast_S_S2x4x1024x1408 main_c
  let main_v2 : IVec S2x4x1024x1408 1 := cmpi .eq main_v0 main_v1
  main_v2
-- ==== Kernel.lean ====
abbrev S8192x4096 : Shape := ⟨2, ![8192, 4096]⟩
abbrev S8x64x576 : Shape := ⟨3, ![8, 64, 576]⟩
abbrev S8192x512 : Shape := ⟨2, ![8192, 512]⟩
abbrev S128x64x8x64 : Shape := ⟨4, ![128, 64, 8, 64]⟩
abbrev S_ : Shape := ⟨0, ![]⟩
abbrev S8x64x8x64 : Shape := ⟨4, ![8, 64, 8, 64]⟩
abbrev S136x64x8x64 : Shape := ⟨4, ![136, 64, 8, 64]⟩
abbrev S128x1x64x8x64 : Shape := ⟨5, ![128, 1, 64, 8, 64]⟩
abbrev S128x9x64x8x64 : Shape := ⟨5, ![128, 9, 64, 8, 64]⟩
abbrev S128x576x8x64 : Shape := ⟨4, ![128, 576, 8, 64]⟩
abbrev S128x8x64x576 : Shape := ⟨4, ![128, 8, 64, 576]⟩
abbrev S1x8x64x576 : Shape := ⟨4, ![1, 8, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x8x64 : Shape := ⟨3, ![128, 8, 64]⟩
abbrev S128x8x64x1 : Shape := ⟨4, ![128, 8, 64, 1]⟩
abbrev S128x4x2x64x576 : Shape := ⟨5, ![128, 4, 2, 64, 576]⟩
abbrev S128x4x576x2x64 : Shape := ⟨5, ![128, 4, 576, 2, 64]⟩
abbrev S128x4x576x128 : Shape := ⟨4, ![128, 4, 576, 128]⟩
abbrev S128x4x640x128 : Shape := ⟨4, ![128, 4, 640, 128]⟩
abbrev S8192x1536 : Shape := ⟨2, ![8192, 1536]⟩
abbrev S4x640x128 : Shape := ⟨3, ![4, 640, 128]⟩
abbrev S512x512 : Shape := ⟨2, ![512, 512]⟩
abbrev S8x4x640x128 : Shape := ⟨4, ![8, 4, 640, 128]⟩
abbrev S512x1536 : Shape := ⟨2, ![512, 1536]⟩
abbrev S1088x512 : Shape := ⟨2, ![1088, 512]⟩
abbrev S4x128x128 : Shape := ⟨3, ![4, 128, 128]⟩
abbrev S64x512 : Shape := ⟨2, ![64, 512]⟩
abbrev S1x128 : Shape := ⟨2, ![1, 128]⟩
abbrev S64x128 : Shape := ⟨2, ![64, 128]⟩
abbrev S128x128 : Shape := ⟨2, ![128, 128]⟩
abbrev S1x128x128 : Shape := ⟨3, ![1, 128, 128]⟩
abbrev S640x128 : Shape := ⟨2, ![640, 128]⟩
abbrev S1x640x128 : Shape := ⟨3, ![1, 640, 128]⟩
abbrev S8x128 : Shape := ⟨2, ![8, 128]⟩
abbrev S1x1x32x128 : Shape := ⟨4, ![1, 1, 32, 128]⟩
abbrev S32x128 : Shape := ⟨2, ![32, 128]⟩
abbrev S1x32x128 : Shape := ⟨3, ![1, 32, 128]⟩
abbrev S1x1x640x128 : Shape := ⟨4, ![1, 1, 640, 128]⟩
abbrev S576x512 : Shape := ⟨2, ![576, 512]⟩

abbrev nBuf : Space → Nat
  | .hbm => 84
  | .vmem => 27
  | .smem => 0
  | _ => 0

abbrev bufTy : (tb : Table) → Fin (tcTables nBuf tb) → BufTy
  | .hbm, ⟨0, _⟩ => ⟨S8192x4096, .bf16⟩
  | .hbm, ⟨1, _⟩ => ⟨S8x64x576, .f32⟩
  | .hbm, ⟨2, _⟩ => ⟨S8192x512, .bf16⟩
  | .hbm, ⟨3, _⟩ => ⟨S8192x4096, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S128x64x8x64, .f32⟩
  | .hbm, ⟨8, _⟩ => ⟨S128x64x8x64, .f32⟩
  | .hbm, ⟨9, _⟩ => ⟨S_, .f32⟩
  | .hbm, ⟨10, _⟩ => ⟨S8x64x8x64, .f32⟩
  | .hbm, ⟨11, _⟩ => ⟨S136x64x8x64, .f32⟩
  | .hbm, ⟨12, _⟩ => ⟨S128x64x8x64, .f32⟩
  | .hbm, ⟨13, _⟩ => ⟨S128x64x8x64, .f32⟩
  | .hbm, ⟨14, _⟩ => ⟨S128x64x8x64, .f32⟩
  | .hbm, ⟨15, _⟩ => ⟨S128x64x8x64, .f32⟩
  | .hbm, ⟨16, _⟩ => ⟨S128x64x8x64, .f32⟩
  | .hbm, ⟨17, _⟩ => ⟨S128x64x8x64, .f32⟩
  | .hbm, ⟨18, _⟩ => ⟨S128x64x8x64, .f32⟩
  | .hbm, ⟨19, _⟩ => ⟨S128x64x8x64, .f32⟩
  | .hbm, ⟨20, _⟩ => ⟨S128x64x8x64, .f32⟩
  | .hbm, ⟨21, _⟩ => ⟨S128x1x64x8x64, .f32⟩
  | .hbm, ⟨22, _⟩ => ⟨S128x1x64x8x64, .f32⟩
  | .hbm, ⟨23, _⟩ => ⟨S128x1x64x8x64, .f32⟩
  | .hbm, ⟨24, _⟩ => ⟨S128x1x64x8x64, .f32⟩
  | .hbm, ⟨25, _⟩ => ⟨S128x1x64x8x64, .f32⟩
  | .hbm, ⟨26, _⟩ => ⟨S128x1x64x8x64, .f32⟩
  | .hbm, ⟨27, _⟩ => ⟨S128x1x64x8x64, .f32⟩
  | .hbm, ⟨28, _⟩ => ⟨S128x1x64x8x64, .f32⟩
  | .hbm, ⟨29, _⟩ => ⟨S128x1x64x8x64, .f32⟩
  | .hbm, ⟨30, _⟩ => ⟨S128x9x64x8x64, .f32⟩
  | .hbm, ⟨31, _⟩ => ⟨S128x576x8x64, .f32⟩
  | .hbm, ⟨32, _⟩ => ⟨S128x8x64x576, .f32⟩
  | .hbm, ⟨33, _⟩ => ⟨S_, .f32⟩
  | .hbm, ⟨34, _⟩ => ⟨S128x8x64x576, .f32⟩
  | .hbm, ⟨35, _⟩ => ⟨S128x8x64x576, .f32⟩
  | .hbm, ⟨36, _⟩ => ⟨S1x8x64x576, .f32⟩
  | .hbm, ⟨37, _⟩ => ⟨S128x8x64x576, .f32⟩
  | .hbm, ⟨38, _⟩ => ⟨S128x8x64x576, .f32⟩
  | .hbm, ⟨39, _⟩ => ⟨S128, .i32⟩
  | .hbm, ⟨40, _⟩ => ⟨S128x1, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i32⟩
  | .hbm, ⟨47, _⟩ => ⟨S576, .i32⟩
  | .hbm, ⟨48, _⟩ => ⟨S1x576, .i32⟩
  | .hbm, ⟨49, _⟩ => ⟨S128x576, .i32⟩
  | .hbm, ⟨50, _⟩ => ⟨S128x576, .i32⟩
  | .hbm, ⟨51, _⟩ => ⟨S128x576, .i32⟩
  | .hbm, ⟨52, _⟩ => ⟨S_, .i32⟩
  | .hbm, ⟨53, _⟩ => ⟨S128x576, .i32⟩
  | .hbm, ⟨54, _⟩ => ⟨S128x576, .i1⟩
  | .hbm, ⟨55, _⟩ => ⟨S128x1x1x576, .i1⟩
  | .hbm, ⟨56, _⟩ => ⟨S_, .f32⟩
  | .hbm, ⟨57, _⟩ => ⟨S_, .f32⟩
  | .hbm, ⟨58, _⟩ => ⟨S128x8x64x576, .i1⟩
  | .hbm, ⟨59, _⟩ => ⟨S128x8x64x576, .f32⟩
  | .hbm, ⟨60, _⟩ => ⟨S128x8x64x576, .f32⟩
  | .hbm, ⟨61, _⟩ => ⟨S_, .f32⟩
  | .hbm, ⟨62, _⟩ => ⟨S128x8x64, .f32⟩
  | .hbm, ⟨63, _⟩ => ⟨S_, .f32⟩
  | .hbm, ⟨64, _⟩ => ⟨S128x8x64, .f32⟩
  | .hbm, ⟨65, _⟩ => ⟨S128x8x64, .f32⟩
  | .hbm, ⟨66, _⟩ => ⟨S128x8x64x1, .f32⟩
  | .hbm, ⟨67, _⟩ => ⟨S128x8x64x576, .f32⟩
  | .hbm, ⟨68, _⟩ => ⟨S128x8x64x576, .f32⟩
  | .hbm, ⟨69, _⟩ => ⟨S128x8x64x576, .f32⟩
  | .hbm, ⟨70, _⟩ => ⟨S_, .f32⟩
  | .hbm, ⟨71, _⟩ => ⟨S128x8x64, .f32⟩
  | .hbm, ⟨72, _⟩ => ⟨S128x8x64x1, .f32⟩
  | .hbm, ⟨73, _⟩ => ⟨S128x8x64x576, .f32⟩
  | .hbm, ⟨74, _⟩ => ⟨S128x8x64x576, .f32⟩
  | .hbm, ⟨75, _⟩ => ⟨S128x8x64x576, .bf16⟩
  | .hbm, ⟨76, _⟩ => ⟨S128x4x2x64x576, .bf16⟩
  | .hbm, ⟨77, _⟩ => ⟨S128x4x576x2x64, .bf16⟩
  | .hbm, ⟨78, _⟩ => ⟨S128x4x576x128, .bf16⟩
  | .hbm, ⟨79, _⟩ => ⟨S_, .i32⟩
  | .hbm, ⟨80, _⟩ => ⟨S_, .bf16⟩
  | .hbm, ⟨81, _⟩ => ⟨S128x4x640x128, .bf16⟩
  | .hbm, ⟨82, _⟩ => ⟨S8192x1536, .bf16⟩
  | .hbm, ⟨83, _⟩ => ⟨S4x640x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S8x4x640x128, .bf16⟩
  | .local _ .vmem, ⟨13, _⟩ => ⟨S8x4x640x128, .bf16⟩
  | .local _ .vmem, ⟨14, _⟩ => ⟨S512x1536, .bf16⟩
  | .local _ .vmem, ⟨15, _⟩ => ⟨S512x1536, .bf16⟩
  | .local _ .vmem, ⟨16, _⟩ => ⟨S4x640x128, .f32⟩
  | .local _ .vmem, ⟨17, _⟩ => ⟨S1088x512, .bf16⟩
  | .local _ .vmem, ⟨18, _⟩ => ⟨S1088x512, .bf16⟩
  | .local _ .vmem, ⟨19, _⟩ => ⟨S1088x512, .f32⟩
  | .local _ .vmem, ⟨20, _⟩ => ⟨S1088x512, .f32⟩
  | .local _ .vmem, ⟨21, _⟩ => ⟨S4x640x128, .f32⟩
  | .local _ .vmem, ⟨22, _⟩ => ⟨S4x640x128, .bf16⟩
  | .local _ .vmem, ⟨23, _⟩ => ⟨S4x128x128, .bf16⟩
  | .local _ .vmem, ⟨24, _⟩ => ⟨S4x128x128, .bf16⟩
  | .local _ .vmem, ⟨25, _⟩ => ⟨S512x512, .bf16⟩
  | .local _ .vmem, ⟨26, _⟩ => ⟨S512x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_c : Ref sig .tc := ⟨.hbm, 41, rfl⟩
abbrev main_v36 : Ref sig .tc := ⟨.hbm, 42, rfl⟩
abbrev main_v37 : Ref sig .tc := ⟨.hbm, 43, rfl⟩
abbrev main_c_1 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c_2 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_call1_v0 : Ref sig .tc := ⟨.hbm, 80, rfl⟩
abbrev main_v64 : Ref sig .tc := ⟨.hbm, 81, rfl⟩
abbrev main_v65_0 : Ref sig .tc := ⟨.hbm, 82, rfl⟩
abbrev main_v65_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_52 : BitVec 32 := 0#32
  let c8_i32 : BitVec 32 := 8#32
  let v64 : BitVec 32 := Scalar.addi c0_i32_52 c8_i32
  let c1_i32 : BitVec 32 := 1#32
  ⟨c0_i32_52, v64, c1_i32⟩
def k0_mult1 (k0_t1 : Fin k0_t1_loop.trips) : BitVec 32 :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  v65
def k0_off1 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v67 : Index := Scalar.indexCast v66
  let c0_55 : Index := 0#32
  ![v67.toNat, 0]
def k0_off2 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v95 : Index := Scalar.indexCast v66
  let c0_66 : Index := 0#32
  ![v95.toNat, 0]
def k0_off3 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v103 : Index := Scalar.indexCast v66
  let c128 : Index := 128#32
  ![v103.toNat, 128]
def k0_off4 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v131 : Index := Scalar.indexCast v66
  let c128_83 : Index := 128#32
  ![v131.toNat, 128]
def k0_off5 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v139 : Index := Scalar.indexCast v66
  let c256 : Index := 256#32
  ![v139.toNat, 256]
def k0_off6 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v167 : Index := Scalar.indexCast v66
  let c256_100 : Index := 256#32
  ![v167.toNat, 256]
def k0_off7 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v175 : Index := Scalar.indexCast v66
  let c384 : Index := 384#32
  ![v175.toNat, 384]
def k0_off8 (k0_t1 : Fin k0_t1_loop.trips) : Fin 2 → Nat :=
  let c0_i32_52 : BitVec 32 := 0#32
  let c1_i32 : BitVec 32 := 1#32
  let arg20 : BitVec 32 := Scf.iv c0_i32_52 c1_i32 k0_t1
  let c64_i32_54 : BitVec 32 := 64#32
  let v65 : BitVec 32 := Scalar.muli arg20 c64_i32_54
  let v66 : BitVec 32 := v65
  let v203 : Index := Scalar.indexCast v66
  let c384_117 : Index := 384#32
  ![v203.toNat, 384]
@[reducible] def k0_t2_loop : Scf.Loop 32 :=
  let c0_i32_126 : BitVec 32 := 0#32
  let c5_i32 : BitVec 32 := 5#32
  let v212 : BitVec 32 := Scalar.addi c0_i32_126 c5_i32
  let c1_i32_127 : BitVec 32 := 1#32
  ⟨c0_i32_126, v212, c1_i32_127⟩
def k0_mult2 (k0_t2 : Fin k0_t2_loop.trips) : BitVec 32 :=
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let c0_i32_237 : BitVec 32 := 0#32
  let v392 : BitVec 32 := Scalar.addi v391 c0_i32_237
  let c32_i32 : BitVec 32 := 32#32
  let v393 : BitVec 32 := Scalar.muli v392 c32_i32
  v393
def k0_off9 (k0_t1 : Fin k0_t1_loop.trips) (k0_t2 : Fin k0_t2_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v395 : Index := Scalar.indexCast arg20
  let c0_238 : Index := 0#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v396 : Index := Scalar.indexCast v394
  let c0_239 : Index := 0#32
  ![v395.toNat, 0, v396.toNat, 0]
def k0_off10 (k0_t2 : Fin k0_t2_loop.trips) (c0_i32_237 : BitVec 32) : Fin 3 → Nat :=
  let c0_240 : Index := 0#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v400 : Index := Scalar.indexCast v394
  let c0_241 : Index := 0#32
  ![0, v400.toNat, 0]
def k0_off11 (k0_t1 : Fin k0_t1_loop.trips) (k0_t2 : Fin k0_t2_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v412 : Index := Scalar.indexCast arg20
  let c1_242 : Index := 1#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v413 : Index := Scalar.indexCast v394
  let c0_243 : Index := 0#32
  ![v412.toNat, 1, v413.toNat, 0]
def k0_off12 (k0_t2 : Fin k0_t2_loop.trips) (c0_i32_237 : BitVec 32) : Fin 3 → Nat :=
  let c1_244 : Index := 1#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v417 : Index := Scalar.indexCast v394
  let c0_245 : Index := 0#32
  ![1, v417.toNat, 0]
def k0_off13 (k0_t1 : Fin k0_t1_loop.trips) (k0_t2 : Fin k0_t2_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v429 : Index := Scalar.indexCast arg20
  let c2_246 : Index := 2#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v430 : Index := Scalar.indexCast v394
  let c0_247 : Index := 0#32
  ![v429.toNat, 2, v430.toNat, 0]
def k0_off14 (k0_t2 : Fin k0_t2_loop.trips) (c0_i32_237 : BitVec 32) : Fin 3 → Nat :=
  let c2_248 : Index := 2#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v434 : Index := Scalar.indexCast v394
  let c0_249 : Index := 0#32
  ![2, v434.toNat, 0]
def k0_off15 (k0_t1 : Fin k0_t1_loop.trips) (k0_t2 : Fin k0_t2_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v446 : Index := Scalar.indexCast arg20
  let c3_250 : Index := 3#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v447 : Index := Scalar.indexCast v394
  let c0_251 : Index := 0#32
  ![v446.toNat, 3, v447.toNat, 0]
def k0_off16 (k0_t2 : Fin k0_t2_loop.trips) (c0_i32_237 : BitVec 32) : Fin 3 → Nat :=
  let c3_252 : Index := 3#32
  let c4_i32 : BitVec 32 := 4#32
  let c0_i32_126 : BitVec 32 := 0#32
  let c1_i32_127 : BitVec 32 := 1#32
  let arg21 : BitVec 32 := Scf.iv c0_i32_126 c1_i32_127 k0_t2
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v451 : Index := Scalar.indexCast v394
  let c0_253 : Index := 0#32
  ![3, v451.toNat, 0]
def k0_mult3 (k0_t2 : Fin k0_t2_loop.trips) : BitVec 32 :=
  let c4_i32_254 : BitVec 32 := 4#32
  let c0_i32_126 : BitVec 32 := 0#32
  let c1_i32_127 : BitVec 32 := 1#32
  let arg21 : BitVec 32 := Scf.iv c0_i32_126 c1_i32_127 k0_t2
  let v463 : BitVec 32 := Scalar.muli c4_i32_254 arg21
  let c1_i32_255 : BitVec 32 := 1#32
  let v464 : BitVec 32 := Scalar.addi v463 c1_i32_255
  let c32_i32_256 : BitVec 32 := 32#32
  let v465 : BitVec 32 := Scalar.muli v464 c32_i32_256
  v465
def k0_mult4 (k0_t2 : Fin k0_t2_loop.trips) : BitVec 32 :=
  let c4_i32_273 : BitVec 32 := 4#32
  let c0_i32_126 : BitVec 32 := 0#32
  let c1_i32_127 : BitVec 32 := 1#32
  let arg21 : BitVec 32 := Scf.iv c0_i32_126 c1_i32_127 k0_t2
  let v535 : BitVec 32 := Scalar.muli c4_i32_273 arg21
  let c2_i32 : BitVec 32 := 2#32
  let v536 : BitVec 32 := Scalar.addi v535 c2_i32
  let c32_i32_274 : BitVec 32 := 32#32
  let v537 : BitVec 32 := Scalar.muli v536 c32_i32_274
  v537
def k0_mult5 (k0_t2 : Fin k0_t2_loop.trips) : BitVec 32 :=
  let c4_i32_291 : BitVec 32 := 4#32
  let c0_i32_126 : BitVec 32 := 0#32
  let c1_i32_127 : BitVec 32 := 1#32
  let arg21 : BitVec 32 := Scf.iv c0_i32_126 c1_i32_127 k0_t2
  let v607 : BitVec 32 := Scalar.muli c4_i32_291 arg21
  let c3_i32 : BitVec 32 := 3#32
  let v608 : BitVec 32 := Scalar.addi v607 c3_i32
  let c32_i32_292 : BitVec 32 := 32#32
  let v609 : BitVec 32 := Scalar.muli v608 c32_i32_292
  v609
@[reducible] def k0_t3_loop : Scf.Loop 32 :=
  let c0_i32_133 : BitVec 32 := 0#32
  let c5_i32_134 : BitVec 32 := 5#32
  let v222 : BitVec 32 := Scalar.addi c0_i32_133 c5_i32_134
  let c1_i32_135 : BitVec 32 := 1#32
  ⟨c0_i32_133, v222, c1_i32_135⟩
def k0_mult6 (k0_t3 : Fin k0_t3_loop.trips) : BitVec 32 :=
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let c0_i32_237 : BitVec 32 := 0#32
  let v392 : BitVec 32 := Scalar.addi v391 c0_i32_237
  let c32_i32 : BitVec 32 := 32#32
  let v393 : BitVec 32 := Scalar.muli v392 c32_i32
  v393
def k0_off17 (k0_t1 : Fin k0_t1_loop.trips) (k0_t3 : Fin k0_t3_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v395 : Index := Scalar.indexCast arg20
  let c0_238 : Index := 0#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v396 : Index := Scalar.indexCast v394
  let c0_239 : Index := 0#32
  ![v395.toNat, 0, v396.toNat, 0]
def k0_off18 (k0_t3 : Fin k0_t3_loop.trips) (c0_i32_237 : BitVec 32) : Fin 3 → Nat :=
  let c0_240 : Index := 0#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v400 : Index := Scalar.indexCast v394
  let c0_241 : Index := 0#32
  ![0, v400.toNat, 0]
def k0_off19 (k0_t1 : Fin k0_t1_loop.trips) (k0_t3 : Fin k0_t3_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v419 : Index := Scalar.indexCast arg20
  let c1_248 : Index := 1#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v420 : Index := Scalar.indexCast v394
  let c0_249 : Index := 0#32
  ![v419.toNat, 1, v420.toNat, 0]
def k0_off20 (k0_t3 : Fin k0_t3_loop.trips) (c0_i32_237 : BitVec 32) : Fin 3 → Nat :=
  let c1_250 : Index := 1#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v424 : Index := Scalar.indexCast v394
  let c0_251 : Index := 0#32
  ![1, v424.toNat, 0]
def k0_off21 (k0_t1 : Fin k0_t1_loop.trips) (k0_t3 : Fin k0_t3_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v443 : Index := Scalar.indexCast arg20
  let c2_258 : Index := 2#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v444 : Index := Scalar.indexCast v394
  let c0_259 : Index := 0#32
  ![v443.toNat, 2, v444.toNat, 0]
def k0_off22 (k0_t3 : Fin k0_t3_loop.trips) (c0_i32_237 : BitVec 32) : Fin 3 → Nat :=
  let c2_260 : Index := 2#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v448 : Index := Scalar.indexCast v394
  let c0_261 : Index := 0#32
  ![2, v448.toNat, 0]
def k0_off23 (k0_t1 : Fin k0_t1_loop.trips) (k0_t3 : Fin k0_t3_loop.trips) (c0_i32_237 : BitVec 32) : Fin 4 → Nat :=
  let c0_i32_52 : BitVec 32 := 0#32
  let c1_i32 : BitVec 32 := 1#32
  let arg20 : BitVec 32 := Scf.iv c0_i32_52 c1_i32 k0_t1
  let v467 : Index := Scalar.indexCast arg20
  let c3_268 : Index := 3#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v468 : Index := Scalar.indexCast v394
  let c0_269 : Index := 0#32
  ![v467.toNat, 3, v468.toNat, 0]
def k0_off24 (k0_t3 : Fin k0_t3_loop.trips) (c0_i32_237 : BitVec 32) : Fin 3 → Nat :=
  let c3_270 : Index := 3#32
  let c4_i32 : BitVec 32 := 4#32
  let c0_i32_133 : BitVec 32 := 0#32
  let c1_i32_135 : BitVec 32 := 1#32
  let arg21 : BitVec 32 := Scf.iv c0_i32_133 c1_i32_135 k0_t3
  let v391 : BitVec 32 := Scalar.muli c4_i32 arg21
  let v392 : BitVec 32 := Scalar.addi v391 c0_i32_237
  let c32_i32 : BitVec 32 := 32#32
  let v393 : BitVec 32 := Scalar.muli v392 c32_i32
  let v394 : BitVec 32 := v393
  let v472 : Index := Scalar.indexCast v394
  let c0_271 : Index := 0#32
  ![3, v472.toNat, 0]
def k0_mult7 (k0_t3 : Fin k0_t3_loop.trips) : BitVec 32 :=
  let c4_i32_278 : BitVec 32 := 4#32
  let c0_i32_133 : BitVec 32 := 0#32
  let c1_i32_135 : BitVec 32 := 1#32
  let arg21 : BitVec 32 := Scf.iv c0_i32_133 c1_i32_135 k0_t3
  let v491 : BitVec 32 := Scalar.muli c4_i32_278 arg21
  let c1_i32_279 : BitVec 32 := 1#32
  let v492 : BitVec 32 := Scalar.addi v491 c1_i32_279
  let c32_i32_280 : BitVec 32 := 32#32
  let v493 : BitVec 32 := Scalar.muli v492 c32_i32_280
  v493
def k0_mult8 (k0_t3 : Fin k0_t3_loop.trips) : BitVec 32 :=
  let c4_i32_321 : BitVec 32 := 4#32
  let c0_i32_133 : BitVec 32 := 0#32
  let c1_i32_135 : BitVec 32 := 1#32
  let arg21 : BitVec 32 := Scf.iv c0_i32_133 c1_i32_135 k0_t3
  let v591 : BitVec 32 := Scalar.muli c4_i32_321 arg21
  let c2_i32 : BitVec 32 := 2#32
  let v592 : BitVec 32 := Scalar.addi v591 c2_i32
  let c32_i32_322 : BitVec 32 := 32#32
  let v593 : BitVec 32 := Scalar.muli v592 c32_i32_322
  v593
def k0_mult9 (k0_t3 : Fin k0_t3_loop.trips) : BitVec 32 :=
  let c4_i32_363 : BitVec 32 := 4#32
  let c0_i32_133 : BitVec 32 := 0#32
  let c1_i32_135 : BitVec 32 := 1#32
  let arg21 : BitVec 32 := Scf.iv c0_i32_133 c1_i32_135 k0_t3
  let v691 : BitVec 32 := Scalar.muli c4_i32_363 arg21
  let c3_i32 : BitVec 32 := 3#32
  let v692 : BitVec 32 := Scalar.addi v691 c3_i32
  let c32_i32_364 : BitVec 32 := 32#32
  let v693 : BitVec 32 := Scalar.muli v692 c32_i32_364
  v693
def k0_off25 (k0_t1 : Fin k0_t1_loop.trips) : Fin 4 → Nat :=
  let c0_i32_52 : BitVec 32 := 0#32
  let c1_i32 : BitVec 32 := 1#32
  let arg20 : BitVec 32 := Scf.iv c0_i32_52 c1_i32 k0_t1
  let v254 : Index := Scalar.indexCast arg20
  let c0_154 : Index := 0#32
  let c0_155 : Index := 0#32
  let c0_156 : Index := 0#32
  ![v254.toNat, 0, 0, 0]
def k0_off26 (k0_t1 : Fin k0_t1_loop.trips) : Fin 4 → Nat :=
  let c0_i32_52 : BitVec 32 := 0#32
  let c1_i32 : BitVec 32 := 1#32
  let arg20 : BitVec 32 := Scf.iv c0_i32_52 c1_i32 k0_t1
  let v296 : Index := Scalar.indexCast arg20
  let c1_179 : Index := 1#32
  let c0_180 : Index := 0#32
  let c0_181 : Index := 0#32
  ![v296.toNat, 1, 0, 0]
def k0_off27 (k0_t1 : Fin k0_t1_loop.trips) : Fin 4 → Nat :=
  let c0_i32_52 : BitVec 32 := 0#32
  let c1_i32 : BitVec 32 := 1#32
  let arg20 : BitVec 32 := Scf.iv c0_i32_52 c1_i32 k0_t1
  let v338 : Index := Scalar.indexCast arg20
  let c2_204 : Index := 2#32
  let c0_205 : Index := 0#32
  let c0_206 : Index := 0#32
  ![v338.toNat, 2, 0, 0]
def k0_off28 (k0_t1 : Fin k0_t1_loop.trips) : Fin 4 → Nat :=
  let c0_i32_52 : BitVec 32 := 0#32
  let c1_i32 : BitVec 32 := 1#32
  let arg20 : BitVec 32 := Scf.iv c0_i32_52 c1_i32 k0_t1
  let v380 : Index := Scalar.indexCast arg20
  let c3_229 : Index := 3#32
  let c0_230 : Index := 0#32
  let c0_231 : Index := 0#32
  ![v380.toNat, 3, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x640x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x640x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x4096 : Shape := ⟨2, ![8192, 4096]⟩
abbrev S8x64x576 : Shape := ⟨3, ![8, 64, 576]⟩
abbrev S8192x512 : Shape := ⟨2, ![8192, 512]⟩
abbrev S128x64x8x64 : Shape := ⟨4, ![128, 64, 8, 64]⟩
abbrev S_ : Shape := ⟨0, ![]⟩
abbrev S8x64x8x64 : Shape := ⟨4, ![8, 64, 8, 64]⟩
abbrev S136x64x8x64 : Shape := ⟨4, ![136, 64, 8, 64]⟩
abbrev S128x1x64x8x64 : Shape := ⟨5, ![128, 1, 64, 8, 64]⟩
abbrev S128x9x64x8x64 : Shape := ⟨5, ![128, 9, 64, 8, 64]⟩
abbrev S128x576x8x64 : Shape := ⟨4, ![128, 576, 8, 64]⟩
abbrev S128x8x64x576 : Shape := ⟨4, ![128, 8, 64, 576]⟩
abbrev S1x8x64x576 : Shape := ⟨4, ![1, 8, 64, 576]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x1x1x576 : Shape := ⟨4, ![128, 1, 1, 576]⟩
abbrev S128x8x64 : Shape := ⟨3, ![128, 8, 64]⟩
abbrev S128x8x64x1 : Shape := ⟨4, ![128, 8, 64, 1]⟩
abbrev S128x8x64x64 : Shape := ⟨4, ![128, 8, 64, 64]⟩
abbrev S128x8x576x64 : Shape := ⟨4, ![128, 8, 576, 64]⟩
abbrev S8192x1536 : Shape := ⟨2, ![8192, 1536]⟩
abbrev S1x4x2x64x576 : Shape := ⟨5, ![1, 4, 2, 64, 576]⟩
abbrev S1x4x576x2x64 : Shape := ⟨5, ![1, 4, 576, 2, 64]⟩
abbrev S1x4x576x128 : Shape := ⟨4, ![1, 4, 576, 128]⟩
abbrev S1x4x640x128 : Shape := ⟨4, ![1, 4, 640, 128]⟩
abbrev S4x640x128 : Shape := ⟨3, ![4, 640, 128]⟩

abbrev nBuf : Space → Nat
  | .hbm => 274
  | .vmem => 0
  | .smem => 0
  | _ => 0

abbrev hbmTy0_0 (i : Nat) : BufTy := match i % 128 with
  | 0 => ⟨S8192x4096, .bf16⟩
  | 1 => ⟨S8x64x576, .f32⟩
  | 2 => ⟨S8192x512, .bf16⟩
  | 3 => ⟨S8192x4096, .f32⟩
  | 4 => ⟨S8192x512, .f32⟩
  | 5 => ⟨S8192x512, .f32⟩
  | 6 => ⟨S8192x512, .f32⟩
  | 7 => ⟨S128x64x8x64, .f32⟩
  | 8 => ⟨S128x64x8x64, .f32⟩
  | 9 => ⟨S_, .f32⟩
  | 10 => ⟨S8x64x8x64, .f32⟩
  | 11 => ⟨S136x64x8x64, .f32⟩
  | 12 => ⟨S_, .f32⟩
  | 13 => ⟨S8x64x8x64, .f32⟩
  | 14 => ⟨S128x64x8x64, .f32⟩
  | 15 => ⟨S128x64x8x64, .f32⟩
  | 16 => ⟨S128x64x8x64, .f32⟩
  | 17 => ⟨S128x64x8x64, .f32⟩
  | 18 => ⟨S128x64x8x64, .f32⟩
  | 19 => ⟨S128x64x8x64, .f32⟩
  | 20 => ⟨S128x64x8x64, .f32⟩
  | 21 => ⟨S128x64x8x64, .f32⟩
  | 22 => ⟨S128x64x8x64, .f32⟩
  | 23 => ⟨S128x1x64x8x64, .f32⟩
  | 24 => ⟨S128x1x64x8x64, .f32⟩
  | 25 => ⟨S128x1x64x8x64, .f32⟩
  | 26 => ⟨S128x1x64x8x64, .f32⟩
  | 27 => ⟨S128x1x64x8x64, .f32⟩
  | 28 => ⟨S128x1x64x8x64, .f32⟩
  | 29 => ⟨S128x1x64x8x64, .f32⟩
  | 30 => ⟨S128x1x64x8x64, .f32⟩
  | 31 => ⟨S128x1x64x8x64, .f32⟩
  | 32 => ⟨S128x9x64x8x64, .f32⟩
  | 33 => ⟨S128x576x8x64, .f32⟩
  | 34 => ⟨S128x8x64x576, .f32⟩
  | 35 => ⟨S_, .f32⟩
  | 36 => ⟨S128x8x64x576, .f32⟩
  | 37 => ⟨S128x8x64x576, .f32⟩
  | 38 => ⟨S1x8x64x576, .f32⟩
  | 39 => ⟨S128x8x64x576, .f32⟩
  | 40 => ⟨S128x8x64x576, .f32⟩
  | 41 => ⟨S128, .i32⟩
  | 42 => ⟨S128x1, .i32⟩
  | 43 => ⟨S_, .i32⟩
  | 44 => ⟨S128x1, .i32⟩
  | 45 => ⟨S128x1, .i32⟩
  | 46 => ⟨S_, .i32⟩
  | 47 => ⟨S128x1, .i32⟩
  | 48 => ⟨S128x1, .i32⟩
  | 49 => ⟨S576, .i32⟩
  | 50 => ⟨S1x576, .i32⟩
  | 51 => ⟨S128x576, .i32⟩
  | 52 => ⟨S128x576, .i32⟩
  | 53 => ⟨S128x576, .i32⟩
  | 54 => ⟨S_, .i32⟩
  | 55 => ⟨S128x576, .i32⟩
  | 56 => ⟨S128x576, .i1⟩
  | 57 => ⟨S128x1x1x576, .i1⟩
  | 58 => ⟨S_, .f32⟩
  | 59 => ⟨S_, .f32⟩
  | 60 => ⟨S128x8x64x576, .i1⟩
  | 61 => ⟨S128x8x64x576, .f32⟩
  | 62 => ⟨S128x8x64x576, .f32⟩
  | 63 => ⟨S_, .f32⟩
  | 64 => ⟨S128x8x64x576, .f32⟩
  | 65 => ⟨S_, .f32⟩
  | 66 => ⟨S128x8x64, .f32⟩
  | 67 => ⟨S128x8x64x1, .f32⟩
  | 68 => ⟨S128x8x64x576, .f32⟩
  | 69 => ⟨S128x8x64x576, .i1⟩
  | 70 => ⟨S128x8x64x576, .f32⟩
  | 71 => ⟨S_, .f32⟩
  | 72 => ⟨S128x8x64, .f32⟩
  | 73 => ⟨S_, .f32⟩
  | 74 => ⟨S128x8x64, .f32⟩
  | 75 => ⟨S128x8x64, .f32⟩
  | 76 => ⟨S_, .f32⟩
  | 77 => ⟨S128x8x64, .f32⟩
  | 78 => ⟨S128x8x64, .i1⟩
  | 79 => ⟨S_, .f32⟩
  | 80 => ⟨S128x8x64, .f32⟩
  | 81 => ⟨S128x8x64, .i1⟩
  | 82 => ⟨S_, .f32⟩
  | 83 => ⟨S128x8x64, .f32⟩
  | 84 => ⟨S_, .f32⟩
  | 85 => ⟨S128x8x64, .f32⟩
  | 86 => ⟨S_, .f32⟩
  | 87 => ⟨S128x8x64, .f32⟩
  | 88 => ⟨S128x8x64, .f32⟩
  | 89 => ⟨S128x8x64, .f32⟩
  | 90 => ⟨S128x8x64x1, .f32⟩
  | 91 => ⟨S128x8x64x576, .f32⟩
  | 92 => ⟨S128x8x64x576, .f32⟩
  | 93 => ⟨S128x8x64x576, .f32⟩
  | 94 => ⟨S_, .f32⟩
  | 95 => ⟨S128x8x64, .f32⟩
  | 96 => ⟨S128x8x64x1, .f32⟩
  | 97 => ⟨S128x8x64x576, .f32⟩
  | 98 => ⟨S128x8x64x576, .f32⟩
  | 99 => ⟨S128x8x64x1, .f32⟩
  | 100 => ⟨S_, .f32⟩
  | 101 => ⟨S128x8x64x1, .f32⟩
  | 102 => ⟨S128x8x64x1, .f32⟩
  | 103 => ⟨S128x64x8x64, .f32⟩
  | 104 => ⟨S_, .f32⟩
  | 105 => ⟨S8x64x8x64, .f32⟩
  | 106 => ⟨S136x64x8x64, .f32⟩
  | 107 => ⟨S_, .f32⟩
  | 108 => ⟨S8x64x8x64, .f32⟩
  | 109 => ⟨S128x64x8x64, .f32⟩
  | 110 => ⟨S128x64x8x64, .f32⟩
  | 111 => ⟨S128x64x8x64, .f32⟩
  | 112 => ⟨S128x64x8x64, .f32⟩
  | 113 => ⟨S128x64x8x64, .f32⟩
  | 114 => ⟨S128x64x8x64, .f32⟩
  | 115 => ⟨S128x64x8x64, .f32⟩
  | 116 => ⟨S128x64x8x64, .f32⟩
  | 117 => ⟨S128x64x8x64, .f32⟩
  | 118 => ⟨S128x1x64x8x64, .f32⟩
  | 119 => ⟨S128x1x64x8x64, .f32⟩
  | 120 => ⟨S128x1x64x8x64, .f32⟩
  | 121 => ⟨S128x1x64x8x64, .f32⟩
  | 122 => ⟨S128x1x64x8x64, .f32⟩
  | 123 => ⟨S128x1x64x8x64, .f32⟩
  | 124 => ⟨S128x1x64x8x64, .f32⟩
  | 125 => ⟨S128x1x64x8x64, .f32⟩
  | 126 => ⟨S128x1x64x8x64, .f32⟩
  | 127 => ⟨S128x9x64x8x64, .f32⟩
  | _ => ⟨S8192x4096, .bf16⟩

abbrev hbmTy0_1 (i : Nat) : BufTy := match i % 128 with
  | 0 => ⟨S128x576x8x64, .f32⟩
  | 1 => ⟨S128x8x64x64, .f32⟩
  | 2 => ⟨S128x64x8x64, .f32⟩
  | 3 => ⟨S8192x512, .f32⟩
  | 4 => ⟨S8192x512, .f32⟩
  | 5 => ⟨S128x64x8x64, .f32⟩
  | 6 => ⟨S128x8x64x64, .f32⟩
  | 7 => ⟨S128x8x64x576, .f32⟩
  | 8 => ⟨S128x8x64x576, .f32⟩
  | 9 => ⟨S128x576x8x64, .f32⟩
  | 10 => ⟨S128x9x64x8x64, .f32⟩
  | 11 => ⟨S128x1x64x8x64, .f32⟩
  | 12 => ⟨S128x64x8x64, .f32⟩
  | 13 => ⟨S128x1x64x8x64, .f32⟩
  | 14 => ⟨S128x64x8x64, .f32⟩
  | 15 => ⟨S128x1x64x8x64, .f32⟩
  | 16 => ⟨S128x64x8x64, .f32⟩
  | 17 => ⟨S128x1x64x8x64, .f32⟩
  | 18 => ⟨S128x64x8x64, .f32⟩
  | 19 => ⟨S128x1x64x8x64, .f32⟩
  | 20 => ⟨S128x64x8x64, .f32⟩
  | 21 => ⟨S128x1x64x8x64, .f32⟩
  | 22 => ⟨S128x64x8x64, .f32⟩
  | 23 => ⟨S128x1x64x8x64, .f32⟩
  | 24 => ⟨S128x64x8x64, .f32⟩
  | 25 => ⟨S128x1x64x8x64, .f32⟩
  | 26 => ⟨S128x64x8x64, .f32⟩
  | 27 => ⟨S128x1x64x8x64, .f32⟩
  | 28 => ⟨S128x64x8x64, .f32⟩
  | 29 => ⟨S_, .f32⟩
  | 30 => ⟨S136x64x8x64, .f32⟩
  | 31 => ⟨S_, .f32⟩
  | 32 => ⟨S136x64x8x64, .f32⟩
  | 33 => ⟨S136x64x8x64, .f32⟩
  | 34 => ⟨S_, .f32⟩
  | 35 => ⟨S136x64x8x64, .f32⟩
  | 36 => ⟨S136x64x8x64, .f32⟩
  | 37 => ⟨S_, .f32⟩
  | 38 => ⟨S136x64x8x64, .f32⟩
  | 39 => ⟨S136x64x8x64, .f32⟩
  | 40 => ⟨S_, .f32⟩
  | 41 => ⟨S136x64x8x64, .f32⟩
  | 42 => ⟨S136x64x8x64, .f32⟩
  | 43 => ⟨S_, .f32⟩
  | 44 => ⟨S136x64x8x64, .f32⟩
  | 45 => ⟨S136x64x8x64, .f32⟩
  | 46 => ⟨S_, .f32⟩
  | 47 => ⟨S136x64x8x64, .f32⟩
  | 48 => ⟨S136x64x8x64, .f32⟩
  | 49 => ⟨S_, .f32⟩
  | 50 => ⟨S136x64x8x64, .f32⟩
  | 51 => ⟨S136x64x8x64, .f32⟩
  | 52 => ⟨S_, .f32⟩
  | 53 => ⟨S136x64x8x64, .f32⟩
  | 54 => ⟨S136x64x8x64, .f32⟩
  | 55 => ⟨S8x64x8x64, .f32⟩
  | 56 => ⟨S128x64x8x64, .f32⟩
  | 57 => ⟨S8192x512, .f32⟩
  | 58 => ⟨S128x8x64x576, .f32⟩
  | 59 => ⟨S128x8x64x576, .f32⟩
  | 60 => ⟨S128x8x64x576, .f32⟩
  | 61 => ⟨S_, .f32⟩
  | 62 => ⟨S128x8x64, .f32⟩
  | 63 => ⟨S128x8x64x1, .f32⟩
  | 64 => ⟨S128x8x64x1, .f32⟩
  | 65 => ⟨S128x8x64x576, .f32⟩
  | 66 => ⟨S128x8x64x576, .f32⟩
  | 67 => ⟨S_, .f32⟩
  | 68 => ⟨S128x8x64, .f32⟩
  | 69 => ⟨S128x8x64x576, .f32⟩
  | 70 => ⟨S128x8x64x576, .f32⟩
  | 71 => ⟨S128x8x64x576, .f32⟩
  | 72 => ⟨S_, .f32⟩
  | 73 => ⟨S128x8x64x576, .f32⟩
  | 74 => ⟨S128x8x64x576, .f32⟩
  | 75 => ⟨S_, .f32⟩
  | 76 => ⟨S8x64x576, .f32⟩
  | 77 => ⟨S1x8x64x576, .f32⟩
  | 78 => ⟨S_, .f32⟩
  | 79 => ⟨S8x64x576, .f32⟩
  | 80 => ⟨S_, .f32⟩
  | 81 => ⟨S128x8x64x576, .f32⟩
  | 82 => ⟨S128x8x64x576, .f32⟩
  | 83 => ⟨S128x8x576x64, .f32⟩
  | 84 => ⟨S128x576x8x64, .f32⟩
  | 85 => ⟨S128x8x64x64, .f32⟩
  | 86 => ⟨S128x64x8x64, .f32⟩
  | 87 => ⟨S128x9x64x8x64, .f32⟩
  | 88 => ⟨S128x1x64x8x64, .f32⟩
  | 89 => ⟨S128x64x8x64, .f32⟩
  | 90 => ⟨S128x1x64x8x64, .f32⟩
  | 91 => ⟨S128x64x8x64, .f32⟩
  | 92 => ⟨S128x1x64x8x64, .f32⟩
  | 93 => ⟨S128x64x8x64, .f32⟩
  | 94 => ⟨S128x1x64x8x64, .f32⟩
  | 95 => ⟨S128x64x8x64, .f32⟩
  | 96 => ⟨S128x1x64x8x64, .f32⟩
  | 97 => ⟨S128x64x8x64, .f32⟩
  | 98 => ⟨S128x1x64x8x64, .f32⟩
  | 99 => ⟨S128x64x8x64, .f32⟩
  | 100 => ⟨S128x1x64x8x64, .f32⟩
  | 101 => ⟨S128x64x8x64, .f32⟩
  | 102 => ⟨S128x1x64x8x64, .f32⟩
  | 103 => ⟨S128x64x8x64, .f32⟩
  | 104 => ⟨S128x1x64x8x64, .f32⟩
  | 105 => ⟨S128x64x8x64, .f32⟩
  | 106 => ⟨S_, .f32⟩
  | 107 => ⟨S136x64x8x64, .f32⟩
  | 108 => ⟨S_, .f32⟩
  | 109 => ⟨S136x64x8x64, .f32⟩
  | 110 => ⟨S136x64x8x64, .f32⟩
  | 111 => ⟨S_, .f32⟩
  | 112 => ⟨S136x64x8x64, .f32⟩
  | 113 => ⟨S136x64x8x64, .f32⟩
  | 114 => ⟨S_, .f32⟩
  | 115 => ⟨S136x64x8x64, .f32⟩
  | 116 => ⟨S136x64x8x64, .f32⟩
  | 117 => ⟨S_, .f32⟩
  | 118 => ⟨S136x64x8x64, .f32⟩
  | 119 => ⟨S136x64x8x64, .f32⟩
  | 120 => ⟨S_, .f32⟩
  | 121 => ⟨S136x64x8x64, .f32⟩
  | 122 => ⟨S136x64x8x64, .f32⟩
  | 123 => ⟨S_, .f32⟩
  | 124 => ⟨S136x64x8x64, .f32⟩
  | 125 => ⟨S136x64x8x64, .f32⟩
  | 126 => ⟨S_, .f32⟩
  | 127 => ⟨S136x64x8x64, .f32⟩
  | _ => ⟨S8192x4096, .bf16⟩

abbrev hbmTy0_2 (i : Nat) : BufTy := match i % 128 with
  | 0 => ⟨S136x64x8x64, .f32⟩
  | 1 => ⟨S_, .f32⟩
  | 2 => ⟨S136x64x8x64, .f32⟩
  | 3 => ⟨S136x64x8x64, .f32⟩
  | 4 => ⟨S8x64x8x64, .f32⟩
  | 5 => ⟨S128x64x8x64, .f32⟩
  | 6 => ⟨S8192x512, .f32⟩
  | 7 => ⟨S8192x512, .f32⟩
  | 8 => ⟨S8192x1536, .f32⟩
  | 9 => ⟨S8192x1536, .bf16⟩
  | 10 => ⟨S1x8x64x576, .f32⟩
  | 11 => ⟨S1x4x2x64x576, .f32⟩
  | 12 => ⟨S1x4x576x2x64, .f32⟩
  | 13 => ⟨S1x4x576x128, .f32⟩
  | 14 => ⟨S_, .i32⟩
  | 15 => ⟨S_, .f32⟩
  | 16 => ⟨S1x4x640x128, .f32⟩
  | 17 => ⟨S4x640x128, .f32⟩
  | _ => ⟨S8192x4096, .bf16⟩

abbrev hbmTy (i : Nat) : BufTy := match i / 128 with
  | 0 => hbmTy0_0 i
  | 1 => hbmTy0_1 i
  | 2 => hbmTy0_2 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.hbm, 43, rfl⟩
abbrev main_v37 : Ref sig .tc := ⟨.hbm, 44, rfl⟩
abbrev main_v38 : Ref sig .tc := ⟨.hbm, 45, rfl⟩
abbrev main_c_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_call0_v0 : Ref sig .tc := ⟨.hbm, 59, rfl⟩
abbrev main_v49_1 : Ref sig .tc := ⟨.hbm, 60, rfl⟩
abbrev main_call0_v2 : Ref sig .tc := ⟨.hbm, 61, rfl⟩
abbrev main_v49_0 : Ref sig .tc := ⟨.hbm, 62, rfl⟩
abbrev main_call0_cst : Ref sig .tc := ⟨.hbm, 63, rfl⟩
abbrev main_v49_2 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_cst_16 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_cst_18 : Ref sig .tc := ⟨.hbm, 159, rfl⟩
abbrev main_v131 : Ref sig .tc := ⟨.hbm, 160, rfl⟩
abbrev main_v132 : Ref sig .tc := ⟨.hbm, 161, rfl⟩
abbrev main_cst_19 : Ref sig .tc := ⟨.hbm, 162, rfl⟩
abbrev main_v133 : Ref sig .tc := ⟨.hbm, 163, rfl⟩
abbrev main_v134 : Ref sig .tc := ⟨.hbm, 164, rfl⟩
abbrev main_cst_20 : Ref sig .tc := ⟨.hbm, 165, rfl⟩
abbrev main_v135 : Ref sig .tc := ⟨.hbm, 166, rfl⟩
abbrev main_v136 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩
abbrev main_cst_22 : Ref sig .tc := ⟨.hbm, 171, rfl⟩
abbrev main_v139 : Ref sig .tc := ⟨.hbm, 172, rfl⟩
abbrev main_v140 : Ref sig .tc := ⟨.hbm, 173, rfl⟩
abbrev main_cst_23 : Ref sig .tc := ⟨.hbm, 174, rfl⟩
abbrev main_v141 : Ref sig .tc := ⟨.hbm, 175, rfl⟩
abbrev main_v142 : Ref sig .tc := ⟨.hbm, 176, rfl⟩
abbrev main_cst_24 : Ref sig .tc := ⟨.hbm, 177, rfl⟩
abbrev main_v143 : Ref sig .tc := ⟨.hbm, 178, rfl⟩
abbrev main_v144 : Ref sig .tc := ⟨.hbm, 179, rfl⟩
abbrev main_cst_25 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_26 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_27 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_call1_cst : Ref sig .tc := ⟨.hbm, 200, rfl⟩
abbrev main_call1_v0 : Ref sig .tc := ⟨.hbm, 201, rfl⟩
abbrev main_v162 : Ref sig .tc := ⟨.hbm, 202, rfl⟩
abbrev main_cst_28 : Ref sig .tc := ⟨.hbm, 203, rfl⟩
abbrev main_v163 : Ref sig .tc := ⟨.hbm, 204, rfl⟩
abbrev main_v164 : Ref sig .tc := ⟨.hbm, 205, rfl⟩
abbrev main_cst_29 : Ref sig .tc := ⟨.hbm, 206, rfl⟩
abbrev main_v165 : Ref sig .tc := ⟨.hbm, 207, rfl⟩
abbrev main_cst_30 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_31 : Ref sig .tc := ⟨.hbm, 234, rfl⟩
abbrev main_v191 : Ref sig .tc := ⟨.hbm, 235, rfl⟩
abbrev main_cst_32 : Ref sig .tc := ⟨.hbm, 236, rfl⟩
abbrev main_v192 : Ref sig .tc := ⟨.hbm, 237, rfl⟩
abbrev main_v193 : Ref sig .tc := ⟨.hbm, 238, rfl⟩
abbrev main_cst_33 : Ref sig .tc := ⟨.hbm, 239, rfl⟩
abbrev main_v194 : Ref sig .tc := ⟨.hbm, 240, rfl⟩
abbrev main_v195 : Ref sig .tc := ⟨.hbm, 241, rfl⟩
abbrev main_cst_34 : Ref sig .tc := ⟨.hbm, 242, rfl⟩
abbrev main_v196 : Ref sig .tc := ⟨.hbm, 243, rfl⟩
abbrev main_v197 : Ref sig .tc := ⟨.hbm, 244, rfl⟩
abbrev main_cst_35 : Ref sig .tc := ⟨.hbm, 245, rfl⟩
abbrev main_v198 : Ref sig .tc := ⟨.hbm, 246, rfl⟩
abbrev main_v199 : Ref sig .tc := ⟨.hbm, 247, rfl⟩
abbrev main_cst_36 : Ref sig .tc := ⟨.hbm, 248, rfl⟩
abbrev main_v200 : Ref sig .tc := ⟨.hbm, 249, rfl⟩
abbrev main_v201 : Ref sig .tc := ⟨.hbm, 250, rfl⟩
abbrev main_cst_37 : Ref sig .tc := ⟨.hbm, 251, rfl⟩
abbrev main_v202 : Ref sig .tc := ⟨.hbm, 252, rfl⟩
abbrev main_v203 : Ref sig .tc := ⟨.hbm, 253, rfl⟩
abbrev main_cst_38 : Ref sig .tc := ⟨.hbm, 254, rfl⟩
abbrev main_v204 : Ref sig .tc := ⟨.hbm, 255, rfl⟩
abbrev main_v205 : Ref sig .tc := ⟨.hbm, 256, rfl⟩
abbrev main_cst_39 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_c_40 : Ref sig .tc := ⟨.hbm, 270, rfl⟩
abbrev main_call2_v0 : Ref sig .tc := ⟨.hbm, 271, rfl⟩
abbrev main_v218 : Ref sig .tc := ⟨.hbm, 272, rfl⟩
abbrev main_v219 : Ref sig .tc := ⟨.hbm, 273, rfl⟩

abbrev nD : Nat := 1
abbrev τ : Topo := Topo.v7x

variable {F : FTy → Type} [FloatOps F]
-- ==== PoolKernel.lean ====
abbrev S8192x512 : Shape := ⟨2, ![8192, 512]⟩
abbrev S4x128x128 : Shape := ⟨3, ![4, 128, 128]⟩
abbrev S1x512 : Shape := ⟨2, ![1, 512]⟩
abbrev S8192x128 : Shape := ⟨2, ![8192, 128]⟩
abbrev S_ : Shape := ⟨0, ![]⟩
abbrev S1x128 : Shape := ⟨2, ![1, 128]⟩
abbrev S8191x128 : Shape := ⟨2, ![8191, 128]⟩
abbrev S8192 : Shape := ⟨1, ![8192]⟩
abbrev S8192x1 : Shape := ⟨2, ![8192, 1]⟩
abbrev S2x128 : Shape := ⟨2, ![2, 128]⟩
abbrev S8190x128 : Shape := ⟨2, ![8190, 128]⟩
abbrev S3x128 : Shape := ⟨2, ![3, 128]⟩
abbrev S8189x128 : Shape := ⟨2, ![8189, 128]⟩
abbrev S4x128 : Shape := ⟨2, ![4, 128]⟩
abbrev S8188x128 : Shape := ⟨2, ![8188, 128]⟩
abbrev S5x128 : Shape := ⟨2, ![5, 128]⟩
abbrev S8187x128 : Shape := ⟨2, ![8187, 128]⟩
abbrev S6x128 : Shape := ⟨2, ![6, 128]⟩
abbrev S8186x128 : Shape := ⟨2, ![8186, 128]⟩
abbrev S7x128 : Shape := ⟨2, ![7, 128]⟩
abbrev S8185x128 : Shape := ⟨2, ![8185, 128]⟩
abbrev S8x128 : Shape := ⟨2, ![8, 128]⟩
abbrev S8184x128 : Shape := ⟨2, ![8184, 128]⟩
abbrev S9x128 : Shape := ⟨2, ![9, 128]⟩
abbrev S8183x128 : Shape := ⟨2, ![8183, 128]⟩
abbrev S10x128 : Shape := ⟨2, ![10, 128]⟩
abbrev S8182x128 : Shape := ⟨2, ![8182, 128]⟩
abbrev S11x128 : Shape := ⟨2, ![11, 128]⟩
abbrev S8181x128 : Shape := ⟨2, ![8181, 128]⟩
abbrev S12x128 : Shape := ⟨2, ![12, 128]⟩
abbrev S8180x128 : Shape := ⟨2, ![8180, 128]⟩
abbrev S13x128 : Shape := ⟨2, ![13, 128]⟩
abbrev S8179x128 : Shape := ⟨2, ![8179, 128]⟩
abbrev S14x128 : Shape := ⟨2, ![14, 128]⟩
abbrev S8178x128 : Shape := ⟨2, ![8178, 128]⟩
abbrev S15x128 : Shape := ⟨2, ![15, 128]⟩
abbrev S8177x128 : Shape := ⟨2, ![8177, 128]⟩
abbrev S8192x1x128 : Shape := ⟨3, ![8192, 1, 128]⟩
abbrev S8192x4x128 : Shape := ⟨3, ![8192, 4, 128]⟩
abbrev S512x512 : Shape := ⟨2, ![512, 512]⟩
abbrev S32x512 : Shape := ⟨2, ![32, 512]⟩
abbrev S544x512 : Shape := ⟨2, ![544, 512]⟩
abbrev S544x1 : Shape := ⟨2, ![544, 1]⟩
abbrev S512x128 : Shape := ⟨2, ![512, 128]⟩
abbrev S32x128 : Shape := ⟨2, ![32, 128]⟩
abbrev S1x128x128 : Shape := ⟨3, ![1, 128, 128]⟩
abbrev S128x128 : Shape := ⟨2, ![128, 128]⟩
abbrev S128 : Shape := ⟨1, ![128]⟩
abbrev S512x1 : Shape := ⟨2, ![512, 1]⟩
abbrev S32x1 : Shape := ⟨2, ![32, 1]⟩
abbrev S536x512 : Shape := ⟨2, ![536, 512]⟩
abbrev S528x384 : Shape := ⟨2, ![528, 384]⟩
abbrev S520x256 : Shape := ⟨2, ![520, 256]⟩

abbrev nBuf : Space → Nat
  | .hbm => 198
  | .vmem => 16
  | .smem => 0
  | _ => 0

abbrev hbmTy0_0 (i : Nat) : BufTy := match i % 128 with
  | 0 => ⟨S8192x512, .bf16⟩
  | 1 => ⟨S4x128x128, .f32⟩
  | 2 => ⟨S1x512, .f32⟩
  | 3 => ⟨S8192x512, .bf16⟩
  | 4 => ⟨S8192x512, .f32⟩
  | 5 => ⟨S8192x128, .f32⟩
  | 6 => ⟨S_, .f32⟩
  | 7 => ⟨S1x128, .f32⟩
  | 8 => ⟨S8191x128, .f32⟩
  | 9 => ⟨S8192x128, .f32⟩
  | 10 => ⟨S8192x128, .f32⟩
  | 11 => ⟨S8192, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S8192, .f32⟩
  | 19 => ⟨S8192x1, .f32⟩
  | 20 => ⟨S8192x128, .f32⟩
  | 21 => ⟨S8192x128, .f32⟩
  | 22 => ⟨S8192x128, .f32⟩
  | 23 => ⟨S8192x128, .f32⟩
  | 24 => ⟨S_, .f32⟩
  | 25 => ⟨S1x128, .f32⟩
  | 26 => ⟨S8191x128, .f32⟩
  | 27 => ⟨S8192x128, .f32⟩
  | 28 => ⟨S8192x128, .f32⟩
  | 29 => ⟨S_, .f32⟩
  | 30 => ⟨S2x128, .f32⟩
  | 31 => ⟨S8190x128, .f32⟩
  | 32 => ⟨S8192x128, .f32⟩
  | 33 => ⟨S8192x128, .f32⟩
  | 34 => ⟨S_, .f32⟩
  | 35 => ⟨S3x128, .f32⟩
  | 36 => ⟨S8189x128, .f32⟩
  | 37 => ⟨S8192x128, .f32⟩
  | 38 => ⟨S8192x128, .f32⟩
  | 39 => ⟨S8192, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S8192x1, .f32⟩
  | 48 => ⟨S8192x128, .f32⟩
  | 49 => ⟨S8192x128, .f32⟩
  | 50 => ⟨S8192x128, .f32⟩
  | 51 => ⟨S8192x128, .f32⟩
  | 52 => ⟨S_, .f32⟩
  | 53 => ⟨S1x128, .f32⟩
  | 54 => ⟨S8191x128, .f32⟩
  | 55 => ⟨S8192x128, .f32⟩
  | 56 => ⟨S8192x128, .f32⟩
  | 57 => ⟨S_, .f32⟩
  | 58 => ⟨S2x128, .f32⟩
  | 59 => ⟨S8190x128, .f32⟩
  | 60 => ⟨S8192x128, .f32⟩
  | 61 => ⟨S8192x128, .f32⟩
  | 62 => ⟨S_, .f32⟩
  | 63 => ⟨S3x128, .f32⟩
  | 64 => ⟨S8189x128, .f32⟩
  | 65 => ⟨S8192x128, .f32⟩
  | 66 => ⟨S8192x128, .f32⟩
  | 67 => ⟨S_, .f32⟩
  | 68 => ⟨S4x128, .f32⟩
  | 69 => ⟨S8188x128, .f32⟩
  | 70 => ⟨S8192x128, .f32⟩
  | 71 => ⟨S8192x128, .f32⟩
  | 72 => ⟨S_, .f32⟩
  | 73 => ⟨S5x128, .f32⟩
  | 74 => ⟨S8187x128, .f32⟩
  | 75 => ⟨S8192x128, .f32⟩
  | 76 => ⟨S8192x128, .f32⟩
  | 77 => ⟨S_, .f32⟩
  | 78 => ⟨S6x128, .f32⟩
  | 79 => ⟨S8186x128, .f32⟩
  | 80 => ⟨S8192x128, .f32⟩
  | 81 => ⟨S8192x128, .f32⟩
  | 82 => ⟨S_, .f32⟩
  | 83 => ⟨S7x128, .f32⟩
  | 84 => ⟨S8185x128, .f32⟩
  | 85 => ⟨S8192x128, .f32⟩
  | 86 => ⟨S8192x128, .f32⟩
  | 87 => ⟨S8192, .i32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S8192x1, .f32⟩
  | 96 => ⟨S8192x128, .f32⟩
  | 97 => ⟨S8192x128, .f32⟩
  | 98 => ⟨S8192x128, .f32⟩
  | 99 => ⟨S8192x128, .f32⟩
  | 100 => ⟨S_, .f32⟩
  | 101 => ⟨S1x128, .f32⟩
  | 102 => ⟨S8191x128, .f32⟩
  | 103 => ⟨S8192x128, .f32⟩
  | 104 => ⟨S8192x128, .f32⟩
  | 105 => ⟨S_, .f32⟩
  | 106 => ⟨S2x128, .f32⟩
  | 107 => ⟨S8190x128, .f32⟩
  | 108 => ⟨S8192x128, .f32⟩
  | 109 => ⟨S8192x128, .f32⟩
  | 110 => ⟨S_, .f32⟩
  | 111 => ⟨S3x128, .f32⟩
  | 112 => ⟨S8189x128, .f32⟩
  | 113 => ⟨S8192x128, .f32⟩
  | 114 => ⟨S8192x128, .f32⟩
  | 115 => ⟨S_, .f32⟩
  | 116 => ⟨S4x128, .f32⟩
  | 117 => ⟨S8188x128, .f32⟩
  | 118 => ⟨S8192x128, .f32⟩
  | 119 => ⟨S8192x128, .f32⟩
  | 120 => ⟨S_, .f32⟩
  | 121 => ⟨S5x128, .f32⟩
  | 122 => ⟨S8187x128, .f32⟩
  | 123 => ⟨S8192x128, .f32⟩
  | 124 => ⟨S8192x128, .f32⟩
  | 125 => ⟨S_, .f32⟩
  | 126 => ⟨S6x128, .f32⟩
  | 127 => ⟨S8186x128, .f32⟩
  | _ => ⟨S8192x512, .bf16⟩

abbrev hbmTy0_1 (i : Nat) : BufTy := match i % 128 with
  | 0 => ⟨S8192x128, .f32⟩
  | 1 => ⟨S8192x128, .f32⟩
  | 2 => ⟨S_, .f32⟩
  | 3 => ⟨S7x128, .f32⟩
  | 4 => ⟨S8185x128, .f32⟩
  | 5 => ⟨S8192x128, .f32⟩
  | 6 => ⟨S8192x128, .f32⟩
  | 7 => ⟨S_, .f32⟩
  | 8 => ⟨S8x128, .f32⟩
  | 9 => ⟨S8184x128, .f32⟩
  | 10 => ⟨S8192x128, .f32⟩
  | 11 => ⟨S8192x128, .f32⟩
  | 12 => ⟨S_, .f32⟩
  | 13 => ⟨S9x128, .f32⟩
  | 14 => ⟨S8183x128, .f32⟩
  | 15 => ⟨S8192x128, .f32⟩
  | 16 => ⟨S8192x128, .f32⟩
  | 17 => ⟨S_, .f32⟩
  | 18 => ⟨S10x128, .f32⟩
  | 19 => ⟨S8182x128, .f32⟩
  | 20 => ⟨S8192x128, .f32⟩
  | 21 => ⟨S8192x128, .f32⟩
  | 22 => ⟨S_, .f32⟩
  | 23 => ⟨S11x128, .f32⟩
  | 24 => ⟨S8181x128, .f32⟩
  | 25 => ⟨S8192x128, .f32⟩
  | 26 => ⟨S8192x128, .f32⟩
  | 27 => ⟨S_, .f32⟩
  | 28 => ⟨S12x128, .f32⟩
  | 29 => ⟨S8180x128, .f32⟩
  | 30 => ⟨S8192x128, .f32⟩
  | 31 => ⟨S8192x128, .f32⟩
  | 32 => ⟨S_, .f32⟩
  | 33 => ⟨S13x128, .f32⟩
  | 34 => ⟨S8179x128, .f32⟩
  | 35 => ⟨S8192x128, .f32⟩
  | 36 => ⟨S8192x128, .f32⟩
  | 37 => ⟨S_, .f32⟩
  | 38 => ⟨S14x128, .f32⟩
  | 39 => ⟨S8178x128, .f32⟩
  | 40 => ⟨S8192x128, .f32⟩
  | 41 => ⟨S8192x128, .f32⟩
  | 42 => ⟨S_, .f32⟩
  | 43 => ⟨S15x128, .f32⟩
  | 44 => ⟨S8177x128, .f32⟩
  | 45 => ⟨S8192x128, .f32⟩
  | 46 => ⟨S8192x128, .f32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x128, .f32⟩
  | 57 => ⟨S8192x128, .f32⟩
  | 58 => ⟨S8192x128, .f32⟩
  | 59 => ⟨S8192x1x128, .f32⟩
  | 60 => ⟨S8192x1x128, .f32⟩
  | 61 => ⟨S8192x1x128, .f32⟩
  | 62 => ⟨S8192x1x128, .f32⟩
  | 63 => ⟨S8192x4x128, .f32⟩
  | 64 => ⟨S8192x4x128, .bf16⟩
  | 65 => ⟨S8192x512, .bf16⟩
  | 66 => ⟨S4x128x128, .bf16⟩
  | 67 => ⟨S8192x512, .bf16⟩
  | 68 => ⟨S4x128x128, .f32⟩
  | 69 => ⟨S1x512, .f32⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | .local _ .vmem, ⟨0, _⟩ => ⟨S512x512, .bf16⟩
  | .local _ .vmem, ⟨1, _⟩ => ⟨S512x512, .bf16⟩
  | .local _ .vmem, ⟨2, _⟩ => ⟨S32x512, .bf16⟩
  | .local _ .vmem, ⟨3, _⟩ => ⟨S32x512, .bf16⟩
  | .local _ .vmem, ⟨4, _⟩ => ⟨S512x512, .bf16⟩
  | .local _ .vmem, ⟨5, _⟩ => ⟨S512x512, .bf16⟩
  | .local _ .vmem, ⟨6, _⟩ => ⟨S4x128x128, .bf16⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | .local _ .vmem, ⟨10, _⟩ => ⟨S4x128x128, .f32⟩
  | .local _ .vmem, ⟨11, _⟩ => ⟨S1x512, .f32⟩
  | .local _ .vmem, ⟨12, _⟩ => ⟨S544x512, .f32⟩
  | .local _ .vmem, ⟨13, _⟩ => ⟨S544x512, .f32⟩
  | .local _ .vmem, ⟨14, _⟩ => ⟨S544x512, .f32⟩
  | .local _ .vmem, ⟨15, _⟩ => ⟨S544x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_c_14 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_15 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_17 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_18 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_19 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_20 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_21 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_22 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_23 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_24 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_25 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_27 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_28 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_29 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_c_30 : Ref sig .tc := ⟨.hbm, 176, rfl⟩
abbrev main_v140 : Ref sig .tc := ⟨.hbm, 177, rfl⟩
abbrev main_v141 : Ref sig .tc := ⟨.hbm, 178, rfl⟩
abbrev main_c_31 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157_0 : Ref sig .tc := ⟨.hbm, 195, rfl⟩
abbrev main_v157_1 : Ref sig .tc := ⟨.hbm, 196, rfl⟩
abbrev main_v157_2 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== PoolReferenceIdeal.lean ====
abbrev S8192x512 : Shape := ⟨2, ![8192, 512]⟩
abbrev S4x128x128 : Shape := ⟨3, ![4, 128, 128]⟩
abbrev S1x512 : Shape := ⟨2, ![1, 512]⟩
abbrev S8192x128 : Shape := ⟨2, ![8192, 128]⟩
abbrev S_ : Shape := ⟨0, ![]⟩
abbrev S1x128 : Shape := ⟨2, ![1, 128]⟩
abbrev S8191x128 : Shape := ⟨2, ![8191, 128]⟩
abbrev S8192 : Shape := ⟨1, ![8192]⟩
abbrev S8192x1 : Shape := ⟨2, ![8192, 1]⟩
abbrev S2x128 : Shape := ⟨2, ![2, 128]⟩
abbrev S8190x128 : Shape := ⟨2, ![8190, 128]⟩
abbrev S3x128 : Shape := ⟨2, ![3, 128]⟩
abbrev S8189x128 : Shape := ⟨2, ![8189, 128]⟩
abbrev S4x128 : Shape := ⟨2, ![4, 128]⟩
abbrev S8188x128 : Shape := ⟨2, ![8188, 128]⟩
abbrev S5x128 : Shape := ⟨2, ![5, 128]⟩
abbrev S8187x128 : Shape := ⟨2, ![8187, 128]⟩
abbrev S6x128 : Shape := ⟨2, ![6, 128]⟩
abbrev S8186x128 : Shape := ⟨2, ![8186, 128]⟩
abbrev S7x128 : Shape := ⟨2, ![7, 128]⟩
abbrev S8185x128 : Shape := ⟨2, ![8185, 128]⟩
abbrev S8x128 : Shape := ⟨2, ![8, 128]⟩
abbrev S8184x128 : Shape := ⟨2, ![8184, 128]⟩
abbrev S9x128 : Shape := ⟨2, ![9, 128]⟩
abbrev S8183x128 : Shape := ⟨2, ![8183, 128]⟩
abbrev S10x128 : Shape := ⟨2, ![10, 128]⟩
abbrev S8182x128 : Shape := ⟨2, ![8182, 128]⟩
abbrev S11x128 : Shape := ⟨2, ![11, 128]⟩
abbrev S8181x128 : Shape := ⟨2, ![8181, 128]⟩
abbrev S12x128 : Shape := ⟨2, ![12, 128]⟩
abbrev S8180x128 : Shape := ⟨2, ![8180, 128]⟩
abbrev S13x128 : Shape := ⟨2, ![13, 128]⟩
abbrev S8179x128 : Shape := ⟨2, ![8179, 128]⟩
abbrev S14x128 : Shape := ⟨2, ![14, 128]⟩
abbrev S8178x128 : Shape := ⟨2, ![8178, 128]⟩
abbrev S15x128 : Shape := ⟨2, ![15, 128]⟩
abbrev S8177x128 : Shape := ⟨2, ![8177, 128]⟩
abbrev S8192x1x128 : Shape := ⟨3, ![8192, 1, 128]⟩
abbrev S8192x4x128 : Shape := ⟨3, ![8192, 4, 128]⟩
abbrev S4x128x8192 : Shape := ⟨3, ![4, 128, 8192]⟩
abbrev S512 : Shape := ⟨1, ![512]⟩
abbrev S4x8192x128 : Shape := ⟨3, ![4, 8192, 128]⟩

abbrev nBuf : Space → Nat
  | .hbm => 431
  | .vmem => 0
  | .smem => 0
  | _ => 0

abbrev hbmTy0_0 (i : Nat) : BufTy := match i % 128 with
  | 0 => ⟨S8192x512, .bf16⟩
  | 1 => ⟨S4x128x128, .f32⟩
  | 2 => ⟨S1x512, .f32⟩
  | 3 => ⟨S8192x512, .bf16⟩
  | 4 => ⟨S8192x512, .f32⟩
  | 5 => ⟨S8192x128, .f32⟩
  | 6 => ⟨S_, .f32⟩
  | 7 => ⟨S1x128, .f32⟩
  | 8 => ⟨S8191x128, .f32⟩
  | 9 => ⟨S8192x128, .f32⟩
  | 10 => ⟨S_, .f32⟩
  | 11 => ⟨S1x128, .f32⟩
  | 12 => ⟨S8192x128, .f32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .f32⟩
  | 21 => ⟨S8192x1, .f32⟩
  | 22 => ⟨S8192x128, .f32⟩
  | 23 => ⟨S8192x128, .f32⟩
  | 24 => ⟨S8192x128, .f32⟩
  | 25 => ⟨S8192x128, .f32⟩
  | 26 => ⟨S_, .f32⟩
  | 27 => ⟨S1x128, .f32⟩
  | 28 => ⟨S8191x128, .f32⟩
  | 29 => ⟨S8192x128, .f32⟩
  | 30 => ⟨S_, .f32⟩
  | 31 => ⟨S1x128, .f32⟩
  | 32 => ⟨S8192x128, .f32⟩
  | 33 => ⟨S_, .f32⟩
  | 34 => ⟨S2x128, .f32⟩
  | 35 => ⟨S8190x128, .f32⟩
  | 36 => ⟨S8192x128, .f32⟩
  | 37 => ⟨S_, .f32⟩
  | 38 => ⟨S2x128, .f32⟩
  | 39 => ⟨S8192x128, .f32⟩
  | 40 => ⟨S_, .f32⟩
  | 41 => ⟨S3x128, .f32⟩
  | 42 => ⟨S8189x128, .f32⟩
  | 43 => ⟨S8192x128, .f32⟩
  | 44 => ⟨S_, .f32⟩
  | 45 => ⟨S3x128, .f32⟩
  | 46 => ⟨S8192x128, .f32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x128, .f32⟩
  | 57 => ⟨S8192x128, .f32⟩
  | 58 => ⟨S8192x128, .f32⟩
  | 59 => ⟨S8192x128, .f32⟩
  | 60 => ⟨S_, .f32⟩
  | 61 => ⟨S1x128, .f32⟩
  | 62 => ⟨S8191x128, .f32⟩
  | 63 => ⟨S8192x128, .f32⟩
  | 64 => ⟨S_, .f32⟩
  | 65 => ⟨S1x128, .f32⟩
  | 66 => ⟨S8192x128, .f32⟩
  | 67 => ⟨S_, .f32⟩
  | 68 => ⟨S2x128, .f32⟩
  | 69 => ⟨S8190x128, .f32⟩
  | 70 => ⟨S8192x128, .f32⟩
  | 71 => ⟨S_, .f32⟩
  | 72 => ⟨S2x128, .f32⟩
  | 73 => ⟨S8192x128, .f32⟩
  | 74 => ⟨S_, .f32⟩
  | 75 => ⟨S3x128, .f32⟩
  | 76 => ⟨S8189x128, .f32⟩
  | 77 => ⟨S8192x128, .f32⟩
  | 78 => ⟨S_, .f32⟩
  | 79 => ⟨S3x128, .f32⟩
  | 80 => ⟨S8192x128, .f32⟩
  | 81 => ⟨S_, .f32⟩
  | 82 => ⟨S4x128, .f32⟩
  | 83 => ⟨S8188x128, .f32⟩
  | 84 => ⟨S8192x128, .f32⟩
  | 85 => ⟨S_, .f32⟩
  | 86 => ⟨S4x128, .f32⟩
  | 87 => ⟨S8192x128, .f32⟩
  | 88 => ⟨S_, .f32⟩
  | 89 => ⟨S5x128, .f32⟩
  | 90 => ⟨S8187x128, .f32⟩
  | 91 => ⟨S8192x128, .f32⟩
  | 92 => ⟨S_, .f32⟩
  | 93 => ⟨S5x128, .f32⟩
  | 94 => ⟨S8192x128, .f32⟩
  | 95 => ⟨S_, .f32⟩
  | 96 => ⟨S6x128, .f32⟩
  | 97 => ⟨S8186x128, .f32⟩
  | 98 => ⟨S8192x128, .f32⟩
  | 99 => ⟨S_, .f32⟩
  | 100 => ⟨S6x128, .f32⟩
  | 101 => ⟨S8192x128, .f32⟩
  | 102 => ⟨S_, .f32⟩
  | 103 => ⟨S7x128, .f32⟩
  | 104 => ⟨S8185x128, .f32⟩
  | 105 => ⟨S8192x128, .f32⟩
  | 106 => ⟨S_, .f32⟩
  | 107 => ⟨S7x128, .f32⟩
  | 108 => ⟨S8192x128, .f32⟩
  | 109 => ⟨S8192, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i32⟩
  | 116 => ⟨S8192, .f32⟩
  | 117 => ⟨S8192x1, .f32⟩
  | 118 => ⟨S8192x128, .f32⟩
  | 119 => ⟨S8192x128, .f32⟩
  | 120 => ⟨S8192x128, .f32⟩
  | 121 => ⟨S8192x128, .f32⟩
  | 122 => ⟨S_, .f32⟩
  | 123 => ⟨S1x128, .f32⟩
  | 124 => ⟨S8191x128, .f32⟩
  | 125 => ⟨S8192x128, .f32⟩
  | 126 => ⟨S_, .f32⟩
  | 127 => ⟨S1x128, .f32⟩
  | _ => ⟨S8192x512, .bf16⟩

abbrev hbmTy0_1 (i : Nat) : BufTy := match i % 128 with
  | 0 => ⟨S8192x128, .f32⟩
  | 1 => ⟨S_, .f32⟩
  | 2 => ⟨S2x128, .f32⟩
  | 3 => ⟨S8190x128, .f32⟩
  | 4 => ⟨S8192x128, .f32⟩
  | 5 => ⟨S_, .f32⟩
  | 6 => ⟨S2x128, .f32⟩
  | 7 => ⟨S8192x128, .f32⟩
  | 8 => ⟨S_, .f32⟩
  | 9 => ⟨S3x128, .f32⟩
  | 10 => ⟨S8189x128, .f32⟩
  | 11 => ⟨S8192x128, .f32⟩
  | 12 => ⟨S_, .f32⟩
  | 13 => ⟨S3x128, .f32⟩
  | 14 => ⟨S8192x128, .f32⟩
  | 15 => ⟨S_, .f32⟩
  | 16 => ⟨S4x128, .f32⟩
  | 17 => ⟨S8188x128, .f32⟩
  | 18 => ⟨S8192x128, .f32⟩
  | 19 => ⟨S_, .f32⟩
  | 20 => ⟨S4x128, .f32⟩
  | 21 => ⟨S8192x128, .f32⟩
  | 22 => ⟨S_, .f32⟩
  | 23 => ⟨S5x128, .f32⟩
  | 24 => ⟨S8187x128, .f32⟩
  | 25 => ⟨S8192x128, .f32⟩
  | 26 => ⟨S_, .f32⟩
  | 27 => ⟨S5x128, .f32⟩
  | 28 => ⟨S8192x128, .f32⟩
  | 29 => ⟨S_, .f32⟩
  | 30 => ⟨S6x128, .f32⟩
  | 31 => ⟨S8186x128, .f32⟩
  | 32 => ⟨S8192x128, .f32⟩
  | 33 => ⟨S_, .f32⟩
  | 34 => ⟨S6x128, .f32⟩
  | 35 => ⟨S8192x128, .f32⟩
  | 36 => ⟨S_, .f32⟩
  | 37 => ⟨S7x128, .f32⟩
  | 38 => ⟨S8185x128, .f32⟩
  | 39 => ⟨S8192x128, .f32⟩
  | 40 => ⟨S_, .f32⟩
  | 41 => ⟨S7x128, .f32⟩
  | 42 => ⟨S8192x128, .f32⟩
  | 43 => ⟨S_, .f32⟩
  | 44 => ⟨S8x128, .f32⟩
  | 45 => ⟨S8184x128, .f32⟩
  | 46 => ⟨S8192x128, .f32⟩
  | 47 => ⟨S_, .f32⟩
  | 48 => ⟨S8x128, .f32⟩
  | 49 => ⟨S8192x128, .f32⟩
  | 50 => ⟨S_, .f32⟩
  | 51 => ⟨S9x128, .f32⟩
  | 52 => ⟨S8183x128, .f32⟩
  | 53 => ⟨S8192x128, .f32⟩
  | 54 => ⟨S_, .f32⟩
  | 55 => ⟨S9x128, .f32⟩
  | 56 => ⟨S8192x128, .f32⟩
  | 57 => ⟨S_, .f32⟩
  | 58 => ⟨S10x128, .f32⟩
  | 59 => ⟨S8182x128, .f32⟩
  | 60 => ⟨S8192x128, .f32⟩
  | 61 => ⟨S_, .f32⟩
  | 62 => ⟨S10x128, .f32⟩
  | 63 => ⟨S8192x128, .f32⟩
  | 64 => ⟨S_, .f32⟩
  | 65 => ⟨S11x128, .f32⟩
  | 66 => ⟨S8181x128, .f32⟩
  | 67 => ⟨S8192x128, .f32⟩
  | 68 => ⟨S_, .f32⟩
  | 69 => ⟨S11x128, .f32⟩
  | 70 => ⟨S8192x128, .f32⟩
  | 71 => ⟨S_, .f32⟩
  | 72 => ⟨S12x128, .f32⟩
  | 73 => ⟨S8180x128, .f32⟩
  | 74 => ⟨S8192x128, .f32⟩
  | 75 => ⟨S_, .f32⟩
  | 76 => ⟨S12x128, .f32⟩
  | 77 => ⟨S8192x128, .f32⟩
  | 78 => ⟨S_, .f32⟩
  | 79 => ⟨S13x128, .f32⟩
  | 80 => ⟨S8179x128, .f32⟩
  | 81 => ⟨S8192x128, .f32⟩
  | 82 => ⟨S_, .f32⟩
  | 83 => ⟨S13x128, .f32⟩
  | 84 => ⟨S8192x128, .f32⟩
  | 85 => ⟨S_, .f32⟩
  | 86 => ⟨S14x128, .f32⟩
  | 87 => ⟨S8178x128, .f32⟩
  | 88 => ⟨S8192x128, .f32⟩
  | 89 => ⟨S_, .f32⟩
  | 90 => ⟨S14x128, .f32⟩
  | 91 => ⟨S8192x128, .f32⟩
  | 92 => ⟨S_, .f32⟩
  | 93 => ⟨S15x128, .f32⟩
  | 94 => ⟨S8177x128, .f32⟩
  | 95 => ⟨S8192x128, .f32⟩
  | 96 => ⟨S_, .f32⟩
  | 97 => ⟨S15x128, .f32⟩
  | 98 => ⟨S8192x128, .f32⟩
  | 99 => ⟨S8192, .i32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .f32⟩
  | 107 => ⟨S8192x1, .f32⟩
  | 108 => ⟨S8192x128, .f32⟩
  | 109 => ⟨S8192x128, .f32⟩
  | 110 => ⟨S8192x128, .f32⟩
  | 111 => ⟨S8192x1x128, .f32⟩
  | 112 => ⟨S8192x1x128, .f32⟩
  | 113 => ⟨S8192x1x128, .f32⟩
  | 114 => ⟨S8192x1x128, .f32⟩
  | 115 => ⟨S8192x4x128, .f32⟩
  | 116 => ⟨S8192x4x128, .bf16⟩
  | 117 => ⟨S4x128x8192, .f32⟩
  | 118 => ⟨S8192x4x128, .f32⟩
  | 119 => ⟨S8192x512, .f32⟩
  | 120 => ⟨S8192x512, .f32⟩
  | 121 => ⟨S8192x512, .f32⟩
  | 122 => ⟨S8192x512, .f32⟩
  | 123 => ⟨S8192x512, .f32⟩
  | 124 => ⟨S_, .f32⟩
  | 125 => ⟨S512, .f32⟩
  | 126 => ⟨S1x512, .f32⟩
  | 127 => ⟨S8192x512, .f32⟩
  | _ => ⟨S8192x512, .bf16⟩

abbrev hbmTy0_2 (i : Nat) : BufTy := match i % 128 with
  | 0 => ⟨S8192x512, .f32⟩
  | 1 => ⟨S8192x4x128, .f32⟩
  | 2 => ⟨S4x128x8192, .f32⟩
  | 3 => ⟨S4x8192x128, .f32⟩
  | 4 => ⟨S8192x4x128, .f32⟩
  | 5 => ⟨S8192x4x128, .bf16⟩
  | 6 => ⟨S4x128x128, .f32⟩
  | 7 => ⟨S4x128x128, .f32⟩
  | 8 => ⟨S8192x4x128, .f32⟩
  | 9 => ⟨S8192x1x128, .f32⟩
  | 10 => ⟨S8192x128, .f32⟩
  | 11 => ⟨S8192x1x128, .f32⟩
  | 12 => ⟨S8192x128, .f32⟩
  | 13 => ⟨S8192x1x128, .f32⟩
  | 14 => ⟨S8192x128, .f32⟩
  | 15 => ⟨S8192x1x128, .f32⟩
  | 16 => ⟨S8192x128, .f32⟩
  | 17 => ⟨S8192x128, .f32⟩
  | 18 => ⟨S8192x128, .f32⟩
  | 19 => ⟨S8192x128, .f32⟩
  | 20 => ⟨S15x128, .f32⟩
  | 21 => ⟨S8177x128, .f32⟩
  | 22 => ⟨S_, .f32⟩
  | 23 => ⟨S8192x128, .f32⟩
  | 24 => ⟨S8192x128, .f32⟩
  | 25 => ⟨S14x128, .f32⟩
  | 26 => ⟨S8178x128, .f32⟩
  | 27 => ⟨S_, .f32⟩
  | 28 => ⟨S8192x128, .f32⟩
  | 29 => ⟨S8192x128, .f32⟩
  | 30 => ⟨S13x128, .f32⟩
  | 31 => ⟨S8179x128, .f32⟩
  | 32 => ⟨S_, .f32⟩
  | 33 => ⟨S8192x128, .f32⟩
  | 34 => ⟨S8192x128, .f32⟩
  | 35 => ⟨S12x128, .f32⟩
  | 36 => ⟨S8180x128, .f32⟩
  | 37 => ⟨S_, .f32⟩
  | 38 => ⟨S8192x128, .f32⟩
  | 39 => ⟨S8192x128, .f32⟩
  | 40 => ⟨S11x128, .f32⟩
  | 41 => ⟨S8181x128, .f32⟩
  | 42 => ⟨S_, .f32⟩
  | 43 => ⟨S8192x128, .f32⟩
  | 44 => ⟨S8192x128, .f32⟩
  | 45 => ⟨S10x128, .f32⟩
  | 46 => ⟨S8182x128, .f32⟩
  | 47 => ⟨S_, .f32⟩
  | 48 => ⟨S8192x128, .f32⟩
  | 49 => ⟨S8192x128, .f32⟩
  | 50 => ⟨S9x128, .f32⟩
  | 51 => ⟨S8183x128, .f32⟩
  | 52 => ⟨S_, .f32⟩
  | 53 => ⟨S8192x128, .f32⟩
  | 54 => ⟨S8192x128, .f32⟩
  | 55 => ⟨S8x128, .f32⟩
  | 56 => ⟨S8184x128, .f32⟩
  | 57 => ⟨S_, .f32⟩
  | 58 => ⟨S8192x128, .f32⟩
  | 59 => ⟨S8192x128, .f32⟩
  | 60 => ⟨S7x128, .f32⟩
  | 61 => ⟨S8185x128, .f32⟩
  | 62 => ⟨S_, .f32⟩
  | 63 => ⟨S8192x128, .f32⟩
  | 64 => ⟨S8192x128, .f32⟩
  | 65 => ⟨S6x128, .f32⟩
  | 66 => ⟨S8186x128, .f32⟩
  | 67 => ⟨S_, .f32⟩
  | 68 => ⟨S8192x128, .f32⟩
  | 69 => ⟨S8192x128, .f32⟩
  | 70 => ⟨S5x128, .f32⟩
  | 71 => ⟨S8187x128, .f32⟩
  | 72 => ⟨S_, .f32⟩
  | 73 => ⟨S8192x128, .f32⟩
  | 74 => ⟨S8192x128, .f32⟩
  | 75 => ⟨S4x128, .f32⟩
  | 76 => ⟨S8188x128, .f32⟩
  | 77 => ⟨S_, .f32⟩
  | 78 => ⟨S8192x128, .f32⟩
  | 79 => ⟨S8192x128, .f32⟩
  | 80 => ⟨S3x128, .f32⟩
  | 81 => ⟨S8189x128, .f32⟩
  | 82 => ⟨S_, .f32⟩
  | 83 => ⟨S8192x128, .f32⟩
  | 84 => ⟨S8192x128, .f32⟩
  | 85 => ⟨S2x128, .f32⟩
  | 86 => ⟨S8190x128, .f32⟩
  | 87 => ⟨S_, .f32⟩
  | 88 => ⟨S8192x128, .f32⟩
  | 89 => ⟨S8192x128, .f32⟩
  | 90 => ⟨S8192x128, .f32⟩
  | 91 => ⟨S1x128, .f32⟩
  | 92 => ⟨S8191x128, .f32⟩
  | 93 => ⟨S_, .f32⟩
  | 94 => ⟨S8192x128, .f32⟩
  | 95 => ⟨S8192x128, .f32⟩
  | 96 => ⟨S_, .f32⟩
  | 97 => ⟨S8192x512, .f32⟩
  | 98 => ⟨S8192x128, .f32⟩
  | 99 => ⟨S8192x128, .f32⟩
  | 100 => ⟨S8192x128, .f32⟩
  | 101 => ⟨S7x128, .f32⟩
  | 102 => ⟨S8185x128, .f32⟩
  | 103 => ⟨S_, .f32⟩
  | 104 => ⟨S8192x128, .f32⟩
  | 105 => ⟨S8192x128, .f32⟩
  | 106 => ⟨S6x128, .f32⟩
  | 107 => ⟨S8186x128, .f32⟩
  | 108 => ⟨S_, .f32⟩
  | 109 => ⟨S8192x128, .f32⟩
  | 110 => ⟨S8192x128, .f32⟩
  | 111 => ⟨S5x128, .f32⟩
  | 112 => ⟨S8187x128, .f32⟩
  | 113 => ⟨S_, .f32⟩
  | 114 => ⟨S8192x128, .f32⟩
  | 115 => ⟨S8192x128, .f32⟩
  | 116 => ⟨S4x128, .f32⟩
  | 117 => ⟨S8188x128, .f32⟩
  | 118 => ⟨S_, .f32⟩
  | 119 => ⟨S8192x128, .f32⟩
  | 120 => ⟨S8192x128, .f32⟩
  | 121 => ⟨S3x128, .f32⟩
  | 122 => ⟨S8189x128, .f32⟩
  | 123 => ⟨S_, .f32⟩
  | 124 => ⟨S8192x128, .f32⟩
  | 125 => ⟨S8192x128, .f32⟩
  | 126 => ⟨S2x128, .f32⟩
  | 127 => ⟨S8190x128, .f32⟩
  | _ => ⟨S8192x512, .bf16⟩

abbrev hbmTy0_3 (i : Nat) : BufTy := match i % 128 with
  | 0 => ⟨S_, .f32⟩
  | 1 => ⟨S8192x128, .f32⟩
  | 2 => ⟨S8192x128, .f32⟩
  | 3 => ⟨S8192x128, .f32⟩
  | 4 => ⟨S1x128, .f32⟩
  | 5 => ⟨S8191x128, .f32⟩
  | 6 => ⟨S_, .f32⟩
  | 7 => ⟨S8192x128, .f32⟩
  | 8 => ⟨S8192x128, .f32⟩
  | 9 => ⟨S_, .f32⟩
  | 10 => ⟨S8192x512, .f32⟩
  | 11 => ⟨S8192x512, .f32⟩
  | 12 => ⟨S8192x128, .f32⟩
  | 13 => ⟨S8192x128, .f32⟩
  | 14 => ⟨S8192x128, .f32⟩
  | 15 => ⟨S3x128, .f32⟩
  | 16 => ⟨S8189x128, .f32⟩
  | 17 => ⟨S_, .f32⟩
  | 18 => ⟨S8192x128, .f32⟩
  | 19 => ⟨S8192x128, .f32⟩
  | 20 => ⟨S2x128, .f32⟩
  | 21 => ⟨S8190x128, .f32⟩
  | 22 => ⟨S_, .f32⟩
  | 23 => ⟨S8192x128, .f32⟩
  | 24 => ⟨S8192x128, .f32⟩
  | 25 => ⟨S8192x128, .f32⟩
  | 26 => ⟨S1x128, .f32⟩
  | 27 => ⟨S8191x128, .f32⟩
  | 28 => ⟨S_, .f32⟩
  | 29 => ⟨S8192x128, .f32⟩
  | 30 => ⟨S8192x128, .f32⟩
  | 31 => ⟨S_, .f32⟩
  | 32 => ⟨S8192x512, .f32⟩
  | 33 => ⟨S8192x512, .f32⟩
  | 34 => ⟨S8192x128, .f32⟩
  | 35 => ⟨S8192x128, .f32⟩
  | 36 => ⟨S8192x128, .f32⟩
  | 37 => ⟨S8192x128, .f32⟩
  | 38 => ⟨S1x128, .f32⟩
  | 39 => ⟨S8191x128, .f32⟩
  | 40 => ⟨S_, .f32⟩
  | 41 => ⟨S8192x128, .f32⟩
  | 42 => ⟨S8192x128, .f32⟩
  | 43 => ⟨S_, .f32⟩
  | 44 => ⟨S8192x512, .f32⟩
  | 45 => ⟨S8192x512, .f32⟩
  | 46 => ⟨S8192x512, .bf16⟩
  | _ => ⟨S8192x512, .bf16⟩

abbrev hbmTy (i : Nat) : BufTy := match i / 128 with
  | 0 => hbmTy0_0 i
  | 1 => hbmTy0_1 i
  | 2 => hbmTy0_2 i
  | 3 => hbmTy0_3 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_8 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_cst_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_19 : Ref sig .tc := ⟨.hbm, 92, rfl⟩
abbrev main_v67 : Ref sig .tc := ⟨.hbm, 93, rfl⟩
abbrev main_v68 : Ref sig .tc := ⟨.hbm, 94, rfl⟩
abbrev main_cst_20 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_21 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_23 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_24 : Ref sig .tc := ⟨.hbm, 110, rfl⟩
abbrev main_v80 : Ref sig .tc := ⟨.hbm, 111, rfl⟩
abbrev main_v81 : Ref sig .tc := ⟨.hbm, 112, rfl⟩
abbrev main_c_25 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_26 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_27 : Ref sig .tc := ⟨.hbm, 126, rfl⟩
abbrev main_v93 : Ref sig .tc := ⟨.hbm, 127, rfl⟩
abbrev main_v94 : Ref sig .tc := ⟨.hbm, 128, rfl⟩
abbrev main_cst_28 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_29 : Ref sig .tc := ⟨.hbm, 133, rfl⟩
abbrev main_v98 : Ref sig .tc := ⟨.hbm, 134, rfl⟩
abbrev main_v99 : Ref sig .tc := ⟨.hbm, 135, rfl⟩
abbrev main_cst_30 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_31 : Ref sig .tc := ⟨.hbm, 140, rfl⟩
abbrev main_v103 : Ref sig .tc := ⟨.hbm, 141, rfl⟩
abbrev main_v104 : Ref sig .tc := ⟨.hbm, 142, rfl⟩
abbrev main_cst_32 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_33 : Ref sig .tc := ⟨.hbm, 147, rfl⟩
abbrev main_v108 : Ref sig .tc := ⟨.hbm, 148, rfl⟩
abbrev main_v109 : Ref sig .tc := ⟨.hbm, 149, rfl⟩
abbrev main_cst_34 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_35 : Ref sig .tc := ⟨.hbm, 154, rfl⟩
abbrev main_v113 : Ref sig .tc := ⟨.hbm, 155, rfl⟩
abbrev main_v114 : Ref sig .tc := ⟨.hbm, 156, rfl⟩
abbrev main_cst_36 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_37 : Ref sig .tc := ⟨.hbm, 161, rfl⟩
abbrev main_v118 : Ref sig .tc := ⟨.hbm, 162, rfl⟩
abbrev main_v119 : Ref sig .tc := ⟨.hbm, 163, rfl⟩
abbrev main_cst_38 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_39 : Ref sig .tc := ⟨.hbm, 168, rfl⟩
abbrev main_v123 : Ref sig .tc := ⟨.hbm, 169, rfl⟩
abbrev main_v124 : Ref sig .tc := ⟨.hbm, 170, rfl⟩
abbrev main_cst_40 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_41 : Ref sig .tc := ⟨.hbm, 175, rfl⟩
abbrev main_v128 : Ref sig .tc := ⟨.hbm, 176, rfl⟩
abbrev main_v129 : Ref sig .tc := ⟨.hbm, 177, rfl⟩
abbrev main_cst_42 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_43 : Ref sig .tc := ⟨.hbm, 182, rfl⟩
abbrev main_v133 : Ref sig .tc := ⟨.hbm, 183, rfl⟩
abbrev main_v134 : Ref sig .tc := ⟨.hbm, 184, rfl⟩
abbrev main_cst_44 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_45 : Ref sig .tc := ⟨.hbm, 189, rfl⟩
abbrev main_v138 : Ref sig .tc := ⟨.hbm, 190, rfl⟩
abbrev main_v139 : Ref sig .tc := ⟨.hbm, 191, rfl⟩
abbrev main_cst_46 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_47 : Ref sig .tc := ⟨.hbm, 196, rfl⟩
abbrev main_v143 : Ref sig .tc := ⟨.hbm, 197, rfl⟩
abbrev main_v144 : Ref sig .tc := ⟨.hbm, 198, rfl⟩
abbrev main_cst_48 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_cst_49 : Ref sig .tc := ⟨.hbm, 203, rfl⟩
abbrev main_v148 : Ref sig .tc := ⟨.hbm, 204, rfl⟩
abbrev main_v149 : Ref sig .tc := ⟨.hbm, 205, rfl⟩
abbrev main_cst_50 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_51 : Ref sig .tc := ⟨.hbm, 210, rfl⟩
abbrev main_v153 : Ref sig .tc := ⟨.hbm, 211, rfl⟩
abbrev main_v154 : Ref sig .tc := ⟨.hbm, 212, rfl⟩
abbrev main_cst_52 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_cst_53 : Ref sig .tc := ⟨.hbm, 217, rfl⟩
abbrev main_v158 : Ref sig .tc := ⟨.hbm, 218, rfl⟩
abbrev main_v159 : Ref sig .tc := ⟨.hbm, 219, rfl⟩
abbrev main_cst_54 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_55 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_c_56 : Ref sig .tc := ⟨.hbm, 228, rfl⟩
abbrev main_v166 : Ref sig .tc := ⟨.hbm, 229, rfl⟩
abbrev main_v167 : Ref sig .tc := ⟨.hbm, 230, rfl⟩
abbrev main_c_57 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_58 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_59 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_60 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_61 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_cst_62 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_63 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_cst_64 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_cst_65 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_cst_66 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_cst_67 : Ref sig .tc := ⟨.hbm, 318, rfl⟩
abbrev main_v245 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_cst_68 : Ref sig .tc := ⟨.hbm, 323, rfl⟩
abbrev main_v249 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_cst_69 : Ref sig .tc := ⟨.hbm, 328, rfl⟩
abbrev main_v253 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_cst_70 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_cst_71 : Ref sig .tc := ⟨.hbm, 338, rfl⟩
abbrev main_v261 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_cst_72 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_v269 : Ref sig .tc := ⟨.hbm, 348, rfl⟩
abbrev main_cst_73 : Ref sig .tc := ⟨.hbm, 349, rfl⟩
abbrev main_v270 : Ref sig .tc := ⟨.hbm, 350, rfl⟩
abbrev main_v271 : Ref sig .tc := ⟨.hbm, 351, rfl⟩
abbrev main_cst_74 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_v276 : Ref sig .tc := ⟨.hbm, 357, rfl⟩
abbrev main_v277 : Ref sig .tc := ⟨.hbm, 358, rfl⟩
abbrev main_cst_75 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_cst_76 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_cst_77 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_cst_78 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_cst_79 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_cst_80 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_cst_81 : Ref sig .tc := ⟨.hbm, 390, rfl⟩
abbrev main_v303 : Ref sig .tc := ⟨.hbm, 391, rfl⟩
abbrev main_v304 : Ref sig .tc := ⟨.hbm, 392, rfl⟩
abbrev main_cst_82 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_cst_83 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_cst_84 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_cst_85 : Ref sig .tc := ⟨.hbm, 412, rfl⟩
abbrev main_v321 : Ref sig .tc := ⟨.hbm, 413, rfl⟩
abbrev main_v322 : Ref sig .tc := ⟨.hbm, 414, rfl⟩
abbrev main_cst_86 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_cst_87 : Ref sig .tc := ⟨.hbm, 424, rfl⟩
abbrev main_v331 : Ref sig .tc := ⟨.hbm, 425, rfl⟩
abbrev main_v332 : Ref sig .tc := ⟨.hbm, 426, rfl⟩
abbrev main_cst_88 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩

abbrev nD : Nat := 1
abbrev τ : Topo := Topo.v7x

variable {F : FTy → Type} [FloatOps F]
-- ==== DownDxKernel.lean ====
abbrev S8192x1024 : Shape := ⟨2, ![8192, 1024]⟩
abbrev S2x2816x1024 : Shape := ⟨3, ![2, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxReferenceIdeal.lean ====
abbrev S8192x1024 : Shape := ⟨2, ![8192, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x2816, .f32⟩
  | .hbm, ⟨8, _⟩ => ⟨S8192x1024, .f32⟩
  | .hbm, ⟨9, _⟩ => ⟨S8192x2816, .f32⟩
  | .hbm, ⟨10, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDwKernel.lean ====
abbrev S8192x2816 : Shape := ⟨2, ![8192, 2816]⟩
abbrev S8192x1024 : Shape := ⟨2, ![8192, 1024]⟩
abbrev S2x2816x1024 : Shape := ⟨3, ![2, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x2816x1024, .bf16⟩
  | .hbm, ⟨3, _⟩ => ⟨S2x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDwReferenceIdeal.lean ====
abbrev S8192x2816 : Shape := ⟨2, ![8192, 2816]⟩
abbrev S8192x1024 : Shape := ⟨2, ![8192, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x2816x1024, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S2816x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S1x2816x1024, .bf16⟩
  | .hbm, ⟨12, _⟩ => ⟨S2816x1024, .bf16⟩
  | .hbm, ⟨13, _⟩ => ⟨S1x2816x1024, .bf16⟩
  | .hbm, ⟨14, _⟩ => ⟨S1x2816x1024, .bf16⟩
  | .hbm, ⟨15, _⟩ => ⟨S2x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== UpDxKernel.lean ====
abbrev S2x8192x2816 : Shape := ⟨3, ![2, 8192, 2816]⟩
abbrev S2x4x1024x1408 : Shape := ⟨4, ![2, 4, 1024, 1408]⟩
abbrev S8192x1024 : Shape := ⟨2, ![8192, 1024]⟩
abbrev S1x1024x1408 : Shape := ⟨3, ![1, 1024, 1408]⟩
abbrev S1x1x1024x1408 : Shape := ⟨4, ![1, 1, 1024, 1408]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x2816, .bf16⟩
  | .hbm, ⟨1, _⟩ => ⟨S2x4x1024x1408, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_6 : BitVec 32 := 0#32
  let v7 : BitVec 1 := Scalar.cmpi .ne v6 c0_i32_6
  v7

def k0_cond2 (i : grid0.Coords) : BitVec 1 :=
  let arg2 : BitVec 32 := BitVec.ofNat 32 (i 2).val
  let c0_i32_7 : BitVec 32 := 0#32
  let v8 : BitVec 1 := Scalar.cmpi .sgt arg2 c0_i32_7
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDxReferenceIdeal.lean ====
abbrev S2x8192x2816 : Shape := ⟨3, ![2, 8192, 2816]⟩
abbrev S2x4x1024x1408 : Shape := ⟨4, ![2, 4, 1024, 1408]⟩
abbrev S1x8192x2816 : Shape := ⟨3, ![1, 8192, 2816]⟩
abbrev S8192x2816 : Shape := ⟨2, ![8192, 2816]⟩
abbrev S8192x5632 : Shape := ⟨2, ![8192, 5632]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S_ : Shape := ⟨0, ![]⟩
abbrev S8192x1024 : Shape := ⟨2, ![8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S2x4x1024x1408, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S1x4x1024x1408, .bf16⟩
  | .hbm, ⟨9, _⟩ => ⟨S4x1024x1408, .bf16⟩
  | .hbm, ⟨10, _⟩ => ⟨S1024x4x1408, .bf16⟩
  | .hbm, ⟨11, _⟩ => ⟨S1024x5632, .bf16⟩
  | .hbm, ⟨12, _⟩ => ⟨S1024x5632, .f32⟩
  | .hbm, ⟨13, _⟩ => ⟨S_, .f32⟩
  | .hbm, ⟨14, _⟩ => ⟨S8192x1024, .f32⟩
  | .hbm, ⟨15, _⟩ => ⟨S8192x5632, .f32⟩
  | .hbm, ⟨16, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== UpDwKernel.lean ====
abbrev S8192x1024 : Shape := ⟨2, ![8192, 1024]⟩
abbrev S2x8192x2816 : Shape := ⟨3, ![2, 8192, 2816]⟩
abbrev S2x4x1024x1408 : Shape := ⟨4, ![2, 4, 1024, 1408]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S1024x1408 : Shape := ⟨2, ![1024, 1408]⟩
abbrev S2048x1408 : Shape := ⟨2, ![2048, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x4x1024x1408, .bf16⟩
  | .hbm, ⟨3, _⟩ => ⟨S2x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDwReferenceIdeal.lean ====
abbrev S8192x1024 : Shape := ⟨2, ![8192, 1024]⟩
abbrev S2x8192x2816 : Shape := ⟨3, ![2, 8192, 2816]⟩
abbrev S2x4x1024x1408 : Shape := ⟨4, ![2, 4, 1024, 1408]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x4x1024x1408, .bf16⟩
  | .hbm, ⟨3, _⟩ => ⟨S1x8192x2816, .bf16⟩
  | .hbm, ⟨4, _⟩ => ⟨S8192x2816, .bf16⟩
  | .hbm, ⟨5, _⟩ => ⟨S1x8192x2816, .bf16⟩
  | .hbm, ⟨6, _⟩ => ⟨S8192x2816, .bf16⟩
  | .hbm, ⟨7, _⟩ => ⟨S8192x5632, .bf16⟩
  | .hbm, ⟨8, _⟩ => ⟨S8192x5632, .f32⟩
  | .hbm, ⟨9, _⟩ => ⟨S8192x1024, .f32⟩
  | .hbm, ⟨10, _⟩ => ⟨S_, .f32⟩
  | .hbm, ⟨11, _⟩ => ⟨S1024x5632, .f32⟩
  | .hbm, ⟨12, _⟩ => ⟨S8192x5632, .f32⟩
  | .hbm, ⟨13, _⟩ => ⟨S5632x1024, .f32⟩
  | .hbm, ⟨14, _⟩ => ⟨S1024x5632, .f32⟩
  | .hbm, ⟨15, _⟩ => ⟨S1024x5632, .bf16⟩
  | .hbm, ⟨16, _⟩ => ⟨S1024x4x1408, .bf16⟩
  | .hbm, ⟨17, _⟩ => ⟨S4x1024x1408, .bf16⟩
  | .hbm, ⟨18, _⟩ => ⟨S1x4x1024x1408, .bf16⟩
  | .hbm, ⟨19, _⟩ => ⟨S4x1024x1408, .bf16⟩
  | .hbm, ⟨20, _⟩ => ⟨S1x4x1024x1408, .bf16⟩
  | .hbm, ⟨21, _⟩ => ⟨S1x4x1024x1408, .bf16⟩
  | .hbm, ⟨22, _⟩ => ⟨S2x4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== ProjDxKernel.lean ====
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S8192x1024 : Shape := ⟨2, ![8192, 1024]⟩
abbrev S1024x512 : Shape := ⟨2, ![1024, 512]⟩
abbrev S1024x1024 : Shape := ⟨2, ![1024, 1024]⟩
abbrev S1x1x1024x1024 : Shape := ⟨4, ![1, 1, 1024, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x2048, .bf16⟩
  | .hbm, ⟨3, _⟩ => ⟨S2x4x1024x1024, .bf16⟩
  | .hbm, ⟨4, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S1024x1024, .bf16⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1024x1024, .f32⟩
  | .local _ .vmem, ⟨13, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .sge arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjDxReferenceIdeal.lean ====
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S8192x4096 : Shape := ⟨2, ![8192, 4096]⟩
abbrev S1x4x1024x1024 : Shape := ⟨4, ![1, 4, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S8192x1024 : Shape := ⟨2, ![8192, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x2048, .bf16⟩
  | .hbm, ⟨3, _⟩ => ⟨S2x4x1024x1024, .bf16⟩
  | .hbm, ⟨4, _⟩ => ⟨S8192x4096, .bf16⟩
  | .hbm, ⟨5, _⟩ => ⟨S8192x4096, .f32⟩
  | .hbm, ⟨6, _⟩ => ⟨S1x4x1024x1024, .bf16⟩
  | .hbm, ⟨7, _⟩ => ⟨S4x1024x1024, .bf16⟩
  | .hbm, ⟨8, _⟩ => ⟨S1024x4x1024, .bf16⟩
  | .hbm, ⟨9, _⟩ => ⟨S1024x4096, .bf16⟩
  | .hbm, ⟨10, _⟩ => ⟨S1024x4096, .f32⟩
  | .hbm, ⟨11, _⟩ => ⟨S_, .f32⟩
  | .hbm, ⟨12, _⟩ => ⟨S8192x1024, .f32⟩
  | .hbm, ⟨13, _⟩ => ⟨S8192x4096, .f32⟩
  | .hbm, ⟨14, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ProjDwKernel.lean ====
abbrev S8192x1024 : Shape := ⟨2, ![8192, 1024]⟩
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S1024x1024 : Shape := ⟨2, ![1024, 1024]⟩
abbrev S1024x512 : Shape := ⟨2, ![1024, 512]⟩
abbrev S1x1x1024x1024 : Shape := ⟨4, ![1, 1, 1024, 1024]⟩

abbrev nBuf : Space → Nat
  | .hbm => 6
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x2048, .bf16⟩
  | .hbm, ⟨4, _⟩ => ⟨S2x4x1024x1024, .bf16⟩
  | .hbm, ⟨5, _⟩ => ⟨S2x4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1x1x1024x1024, .bf16⟩
  | .local _ .vmem, ⟨13, _⟩ => ⟨S1x1x1024x1024, .bf16⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond10 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg1.toNat, v1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjDwReferenceIdeal.lean ====
abbrev S8192x1024 : Shape := ⟨2, ![8192, 1024]⟩
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x2048, .bf16⟩
  | .hbm, ⟨4, _⟩ => ⟨S2x4x1024x1024, .bf16⟩
  | .hbm, ⟨5, _⟩ => ⟨S8192x4096, .bf16⟩
  | .hbm, ⟨6, _⟩ => ⟨S8192x4096, .f32⟩
  | .hbm, ⟨7, _⟩ => ⟨S8192x1024, .f32⟩
  | .hbm, ⟨8, _⟩ => ⟨S_, .f32⟩
  | .hbm, ⟨9, _⟩ => ⟨S1024x4096, .f32⟩
  | .hbm, ⟨10, _⟩ => ⟨S8192x4096, .f32⟩
  | .hbm, ⟨11, _⟩ => ⟨S4096x1024, .f32⟩
  | .hbm, ⟨12, _⟩ => ⟨S1024x4096, .f32⟩
  | .hbm, ⟨13, _⟩ => ⟨S1024x4096, .bf16⟩
  | .hbm, ⟨14, _⟩ => ⟨S1024x4x1024, .bf16⟩
  | .hbm, ⟨15, _⟩ => ⟨S4x1024x1024, .bf16⟩
  | .hbm, ⟨16, _⟩ => ⟨S1x4x1024x1024, .bf16⟩
  | .hbm, ⟨17, _⟩ => ⟨S4x1024x1024, .bf16⟩
  | .hbm, ⟨18, _⟩ => ⟨S1x4x1024x1024, .bf16⟩
  | .hbm, ⟨19, _⟩ => ⟨S1x4x1024x1024, .bf16⟩
  | .hbm, ⟨20, _⟩ => ⟨S2x4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proj1Kernel.lean ====
abbrev S8192x1024 : Shape := ⟨2, ![8192, 1024]⟩
abbrev S2x4x1024x1024 : Shape := ⟨4, ![2, 4, 1024, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj1ReferenceIdeal.lean ====
abbrev S8192x1024 : Shape := ⟨2, ![8192, 1024]⟩
abbrev S2x4x1024x1024 : Shape := ⟨4, ![2, 4, 1024, 1024]⟩
abbrev S1x4x1024x1024 : Shape := ⟨4, ![1, 4, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1024, .bf16⟩
  | .hbm, ⟨2, _⟩ => ⟨S1x4x1024x1024, .bf16⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S8192x4096, .f32⟩
  | .hbm, ⟨7, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proj0Kernel.lean ====
abbrev S8192x1024 : Shape := ⟨2, ![8192, 1024]⟩
abbrev S2x4x1024x1024 : Shape := ⟨4, ![2, 4, 1024, 1024]⟩
abbrev S8192x4096 : Shape := ⟨2, ![8192, 4096]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1024, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj0ReferenceIdeal.lean ====
abbrev S8192x1024 : Shape := ⟨2, ![8192, 1024]⟩
abbrev S2x4x1024x1024 : Shape := ⟨4, ![2, 4, 1024, 1024]⟩
abbrev S1x4x1024x1024 : Shape := ⟨4, ![1, 4, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1024, .bf16⟩
  | .hbm, ⟨2, _⟩ => ⟨S1x4x1024x1024, .bf16⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S8192x4096, .f32⟩
  | .hbm, ⟨7, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up1Kernel.lean ====
abbrev S8192x1024 : Shape := ⟨2, ![8192, 1024]⟩
abbrev S2x4x1024x1408 : Shape := ⟨4, ![2, 4, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1408, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Up1ReferenceIdeal.lean ====
abbrev S8192x1024 : Shape := ⟨2, ![8192, 1024]⟩
abbrev S2x4x1024x1408 : Shape := ⟨4, ![2, 4, 1024, 1408]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x1024x1408, .bf16⟩
  | .hbm, ⟨2, _⟩ => ⟨S1x4x1024x1408, .bf16⟩
  | .hbm, ⟨3, _⟩ => ⟨S4x1024x1408, .bf16⟩
  | .hbm, ⟨4, _⟩ => ⟨S1024x4x1408, .bf16⟩
  | .hbm, ⟨5, _⟩ => ⟨S1024x5632, .bf16⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down1Kernel.lean ====
abbrev S8192x2816 : Shape := ⟨2, ![8192, 2816]⟩
abbrev S2x2816x1024 : Shape := ⟨3, ![2, 2816, 1024]⟩
abbrev S8192x1024 : Shape := ⟨2, ![8192, 1024]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Down1ReferenceIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down0Kernel.lean ====
abbrev S8192x2816 : Shape := ⟨2, ![8192, 2816]⟩
abbrev S2x2816x1024 : Shape := ⟨3, ![2, 2816, 1024]⟩
abbrev S8192x1024 : Shape := ⟨2, ![8192, 1024]⟩
abbrev S1024x2816 : Shape := ⟨2, ![1024, 2816]⟩
abbrev S1x2816x1024 : Shape := ⟨3, ![1, 2816, 1024]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Down0ReferenceIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S1x2816x1024, .bf16⟩
  | .hbm, ⟨3, _⟩ => ⟨S2816x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix1Kernel.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Mix1ReferenceIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Mix0Kernel.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Mix0ReferenceIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixDx1Kernel.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDx1ReferenceIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDx0Kernel.lean ====
abbrev S8192x1024 : Shape := ⟨2, ![8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDx0ReferenceIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixDw1Kernel.lean ====
abbrev S8192x1024 : Shape := ⟨2, ![8192, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== MixDw1ReferenceIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩
abbrev S2x1024x1024 : Shape := ⟨3, ![2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S_, .bf16⟩
  | .hbm, ⟨11, _⟩ => ⟨S1024x1024, .bf16⟩
  | .hbm, ⟨12, _⟩ => ⟨S1x1024x1024, .bf16⟩
  | .hbm, ⟨13, _⟩ => ⟨S1x1024x1024, .bf16⟩
  | .hbm, ⟨14, _⟩ => ⟨S2x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== MixDw0Kernel.lean ====
abbrev S8192x1024 : Shape := ⟨2, ![8192, 1024]⟩
abbrev S2x1024x1024 : Shape := ⟨3, ![2, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S2x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== MixDw0ReferenceIdeal.lean ====
abbrev S8192x1024 : Shape := ⟨2, ![8192, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x1024x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | .hbm, ⟨12, _⟩ => ⟨S1024x1024, .bf16⟩
  | .hbm, ⟨13, _⟩ => ⟨S1x1024x1024, .bf16⟩
  | .hbm, ⟨14, _⟩ => ⟨S1x1024x1024, .bf16⟩
  | .hbm, ⟨15, _⟩ => ⟨S2x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== DownDw1Kernel.lean ====
abbrev S8192x2816 : Shape := ⟨2, ![8192, 2816]⟩
abbrev S8192x1024 : Shape := ⟨2, ![8192, 1024]⟩
abbrev S2x2816x1024 : Shape := ⟨3, ![2, 2816, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDw1ReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩
abbrev S2x2816x1024 : Shape := ⟨3, ![2, 2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S_, .bf16⟩
  | .hbm, ⟨11, _⟩ => ⟨S2816x1024, .bf16⟩
  | .hbm, ⟨12, _⟩ => ⟨S1x2816x1024, .bf16⟩
  | .hbm, ⟨13, _⟩ => ⟨S1x2816x1024, .bf16⟩
  | .hbm, ⟨14, _⟩ => ⟨S2x2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpDw1Kernel.lean ====
abbrev S8192x1024 : Shape := ⟨2, ![8192, 1024]⟩
abbrev S2x8192x2816 : Shape := ⟨3, ![2, 8192, 2816]⟩
abbrev S2x4x1024x1408 : Shape := ⟨4, ![2, 4, 1024, 1408]⟩
abbrev S2048x1024 : Shape := ⟨2, ![2048, 1024]⟩
abbrev S1x2048x1408 : Shape := ⟨3, ![1, 2048, 1408]⟩
abbrev S1x1x1024x1408 : Shape := ⟨4, ![1, 1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== UpDw1ReferenceIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S1x4x1024x1408 : Shape := ⟨4, ![1, 4, 1024, 1408]⟩
abbrev S2x4x1024x1408 : Shape := ⟨4, ![2, 4, 1024, 1408]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S1024x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | .hbm, ⟨15, _⟩ => ⟨S1024x4x1408, .bf16⟩
  | .hbm, ⟨16, _⟩ => ⟨S4x1024x1408, .bf16⟩
  | .hbm, ⟨17, _⟩ => ⟨S_, .bf16⟩
  | .hbm, ⟨18, _⟩ => ⟨S4x1024x1408, .bf16⟩
  | .hbm, ⟨19, _⟩ => ⟨S1x4x1024x1408, .bf16⟩
  | .hbm, ⟨20, _⟩ => ⟨S1x4x1024x1408, .bf16⟩
  | .hbm, ⟨21, _⟩ => ⟨S2x4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== ProjDw1Kernel.lean ====
abbrev S8192x1024 : Shape := ⟨2, ![8192, 1024]⟩
abbrev S8192x1536 : Shape := ⟨2, ![8192, 1536]⟩
abbrev S8192x512 : Shape := ⟨2, ![8192, 512]⟩
abbrev S8192x2048 : Shape := ⟨2, ![8192, 2048]⟩
abbrev S2x4x1024x1024 : Shape := ⟨4, ![2, 4, 1024, 1024]⟩
abbrev S1024x1024 : Shape := ⟨2, ![1024, 1024]⟩
abbrev S1024x512 : Shape := ⟨2, ![1024, 512]⟩
abbrev S1x1x1024x1024 : Shape := ⟨4, ![1, 1, 1024, 1024]⟩

abbrev nBuf : Space → Nat
  | .hbm => 5
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x2048, .bf16⟩
  | .hbm, ⟨4, _⟩ => ⟨S2x4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .bf16⟩
  | .local _ .vmem, ⟨12, _⟩ => ⟨S1x1x1024x1024, .bf16⟩
  | .local _ .vmem, ⟨13, _⟩ => ⟨S1x1x1024x1024, .bf16⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond10 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  ![arg1.toNat, v1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjDw1ReferenceIdeal.lean ====
abbrev S8192x1024 : Shape := ⟨2, ![8192, 1024]⟩
abbrev S8192x1536 : Shape := ⟨2, ![8192, 1536]⟩
abbrev S8192x512 : Shape := ⟨2, ![8192, 512]⟩
abbrev S8192x2048 : Shape := ⟨2, ![8192, 2048]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S2x4x1024x1024 : Shape := ⟨4, ![2, 4, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S8192x512, .bf16⟩
  | .hbm, ⟨3, _⟩ => ⟨S8192x2048, .bf16⟩
  | .hbm, ⟨4, _⟩ => ⟨S8192x4096, .bf16⟩
  | .hbm, ⟨5, _⟩ => ⟨S8192x4096, .f32⟩
  | .hbm, ⟨6, _⟩ => ⟨S8192x1024, .f32⟩
  | .hbm, ⟨7, _⟩ => ⟨S_, .f32⟩
  | .hbm, ⟨8, _⟩ => ⟨S1024x4096, .f32⟩
  | .hbm, ⟨9, _⟩ => ⟨S8192x4096, .f32⟩
  | .hbm, ⟨10, _⟩ => ⟨S4096x1024, .f32⟩
  | .hbm, ⟨11, _⟩ => ⟨S1024x4096, .f32⟩
  | .hbm, ⟨12, _⟩ => ⟨S1024x4096, .bf16⟩
  | .hbm, ⟨13, _⟩ => ⟨S1024x4x1024, .bf16⟩
  | .hbm, ⟨14, _⟩ => ⟨S4x1024x1024, .bf16⟩
  | .hbm, ⟨15, _⟩ => ⟨S_, .bf16⟩
  | .hbm, ⟨16, _⟩ => ⟨S4x1024x1024, .bf16⟩
  | .hbm, ⟨17, _⟩ => ⟨S1x4x1024x1024, .bf16⟩
  | .hbm, ⟨18, _⟩ => ⟨S1x4x1024x1024, .bf16⟩
  | .hbm, ⟨19, _⟩ => ⟨S2x4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== AttnOut1Kernel.lean ====
abbrev S8192x512 : Shape := ⟨2, ![8192, 512]⟩
abbrev S2x4x512x256 : Shape := ⟨4, ![2, 4, 512, 256]⟩
abbrev S8192x1024 : Shape := ⟨2, ![8192, 1024]⟩
abbrev S1024x512 : Shape := ⟨2, ![1024, 512]⟩
abbrev S1x4x512x256 : Shape := ⟨4, ![1, 4, 512, 256]⟩
abbrev S1024x1024 : Shape := ⟨2, ![1024, 1024]⟩
abbrev S1x1x512x256 : Shape := ⟨4, ![1, 1, 512, 256]⟩
abbrev S512x256 : Shape := ⟨2, ![512, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x4x512x256, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOut1ReferenceIdeal.lean ====
abbrev S8192x512 : Shape := ⟨2, ![8192, 512]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnOut0Kernel.lean ====
abbrev S8192x512 : Shape := ⟨2, ![8192, 512]⟩
abbrev S2x4x512x256 : Shape := ⟨4, ![2, 4, 512, 256]⟩
abbrev S8192x1024 : Shape := ⟨2, ![8192, 1024]⟩
abbrev S1024x512 : Shape := ⟨2, ![1024, 512]⟩
abbrev S1x4x512x256 : Shape := ⟨4, ![1, 4, 512, 256]⟩
abbrev S1024x1024 : Shape := ⟨2, ![1024, 1024]⟩
abbrev S1x1x512x256 : Shape := ⟨4, ![1, 1, 512, 256]⟩
abbrev S512x256 : Shape := ⟨2, ![512, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x4x512x256, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOut0ReferenceIdeal.lean ====
abbrev S8192x512 : Shape := ⟨2, ![8192, 512]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnOutDx1Kernel.lean ====
abbrev S8192x1024 : Shape := ⟨2, ![8192, 1024]⟩
abbrev S2x4x512x256 : Shape := ⟨4, ![2, 4, 512, 256]⟩
abbrev S8192x512 : Shape := ⟨2, ![8192, 512]⟩
abbrev S1024x1024 : Shape := ⟨2, ![1024, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x512x256, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOutDx1ReferenceIdeal.lean ====
abbrev S8192x1024 : Shape := ⟨2, ![8192, 1024]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S_, .f32⟩
  | .hbm, ⟨9, _⟩ => ⟨S8192x512, .f32⟩
  | .hbm, ⟨10, _⟩ => ⟨S8192x1024, .f32⟩
  | .hbm, ⟨11, _⟩ => ⟨S8192x512, .f32⟩
  | .hbm, ⟨12, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnOutDx0Kernel.lean ====
abbrev S8192x1024 : Shape := ⟨2, ![8192, 1024]⟩
abbrev S2x4x512x256 : Shape := ⟨4, ![2, 4, 512, 256]⟩
abbrev S8192x512 : Shape := ⟨2, ![8192, 512]⟩
abbrev S1024x1024 : Shape := ⟨2, ![1024, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x512x256, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnOutDx0ReferenceIdeal.lean ====
abbrev S8192x1024 : Shape := ⟨2, ![8192, 1024]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S_, .f32⟩
  | .hbm, ⟨9, _⟩ => ⟨S8192x512, .f32⟩
  | .hbm, ⟨10, _⟩ => ⟨S8192x1024, .f32⟩
  | .hbm, ⟨11, _⟩ => ⟨S8192x512, .f32⟩
  | .hbm, ⟨12, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnOutDw1Kernel.lean ====
abbrev S8192x512 : Shape := ⟨2, ![8192, 512]⟩
abbrev S8192x1024 : Shape := ⟨2, ![8192, 1024]⟩
abbrev S2x4x512x256 : Shape := ⟨4, ![2, 4, 512, 256]⟩
abbrev S1024x512 : Shape := ⟨2, ![1024, 512]⟩
abbrev S1024x1024 : Shape := ⟨2, ![1024, 1024]⟩
abbrev S1x4x512x256 : Shape := ⟨4, ![1, 4, 512, 256]⟩
abbrev S512x1024 : Shape := ⟨2, ![512, 1024]⟩
abbrev S512x256 : Shape := ⟨2, ![512, 256]⟩
abbrev S1x1x512x256 : Shape := ⟨4, ![1, 1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x512x256, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AttnOutDw1ReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S1x4x512x256 : Shape := ⟨4, ![1, 4, 512, 256]⟩
abbrev S2x4x512x256 : Shape := ⟨4, ![2, 4, 512, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S_, .bf16⟩
  | .hbm, ⟨13, _⟩ => ⟨S4x512x256, .bf16⟩
  | .hbm, ⟨14, _⟩ => ⟨S1x4x512x256, .bf16⟩
  | .hbm, ⟨15, _⟩ => ⟨S1x4x512x256, .bf16⟩
  | .hbm, ⟨16, _⟩ => ⟨S2x4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AttnOutDw0Kernel.lean ====
abbrev S8192x512 : Shape := ⟨2, ![8192, 512]⟩
abbrev S8192x1024 : Shape := ⟨2, ![8192, 1024]⟩
abbrev S2x4x512x256 : Shape := ⟨4, ![2, 4, 512, 256]⟩
abbrev S1024x512 : Shape := ⟨2, ![1024, 512]⟩
abbrev S1024x1024 : Shape := ⟨2, ![1024, 1024]⟩
abbrev S1x4x512x256 : Shape := ⟨4, ![1, 4, 512, 256]⟩
abbrev S512x1024 : Shape := ⟨2, ![512, 1024]⟩
abbrev S512x256 : Shape := ⟨2, ![512, 256]⟩
abbrev S1x1x512x256 : Shape := ⟨4, ![1, 1, 512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .hbm, ⟨3, _⟩ => ⟨S2x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x512x256, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AttnOutDw0ReferenceIdeal.lean ====
abbrev S8192x512 : Shape := ⟨2, ![8192, 512]⟩
abbrev S8192x1024 : Shape := ⟨2, ![8192, 1024]⟩
abbrev S2x4x512x256 : Shape := ⟨4, ![2, 4, 512, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S1x4x512x256 : Shape := ⟨4, ![1, 4, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S512x4x256, .bf16⟩
  | .hbm, ⟨12, _⟩ => ⟨S4x512x256, .bf16⟩
  | .hbm, ⟨13, _⟩ => ⟨S1x4x512x256, .bf16⟩
  | .hbm, ⟨14, _⟩ => ⟨S4x512x256, .bf16⟩
  | .hbm, ⟨15, _⟩ => ⟨S1x4x512x256, .bf16⟩
  | .hbm, ⟨16, _⟩ => ⟨S1x4x512x256, .bf16⟩
  | .hbm, ⟨17, _⟩ => ⟨S2x4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== PoolOut1Kernel.lean ====
abbrev S8192x512 : Shape := ⟨2, ![8192, 512]⟩
abbrev S2x4x512x256 : Shape := ⟨4, ![2, 4, 512, 256]⟩
abbrev S8192x1024 : Shape := ⟨2, ![8192, 1024]⟩
abbrev S1024x512 : Shape := ⟨2, ![1024, 512]⟩
abbrev S1x4x512x256 : Shape := ⟨4, ![1, 4, 512, 256]⟩
abbrev S1024x1024 : Shape := ⟨2, ![1024, 1024]⟩
abbrev S1x1x512x256 : Shape := ⟨4, ![1, 1, 512, 256]⟩
abbrev S512x256 : Shape := ⟨2, ![512, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x4x512x256, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolOut1ReferenceIdeal.lean ====
abbrev S8192x512 : Shape := ⟨2, ![8192, 512]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PoolOut0Kernel.lean ====
abbrev S8192x512 : Shape := ⟨2, ![8192, 512]⟩
abbrev S2x4x512x256 : Shape := ⟨4, ![2, 4, 512, 256]⟩
abbrev S8192x1024 : Shape := ⟨2, ![8192, 1024]⟩
abbrev S1024x512 : Shape := ⟨2, ![1024, 512]⟩
abbrev S1x4x512x256 : Shape := ⟨4, ![1, 4, 512, 256]⟩
abbrev S1024x1024 : Shape := ⟨2, ![1024, 1024]⟩
abbrev S1x1x512x256 : Shape := ⟨4, ![1, 1, 512, 256]⟩
abbrev S512x256 : Shape := ⟨2, ![512, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1x4x512x256, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolOut0ReferenceIdeal.lean ====
abbrev S8192x512 : Shape := ⟨2, ![8192, 512]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S8192x1024, .f32⟩
  | .hbm, ⟨7, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PoolOutDx1Kernel.lean ====
abbrev S8192x1024 : Shape := ⟨2, ![8192, 1024]⟩
abbrev S2x4x512x256 : Shape := ⟨4, ![2, 4, 512, 256]⟩
abbrev S8192x512 : Shape := ⟨2, ![8192, 512]⟩
abbrev S1024x1024 : Shape := ⟨2, ![1024, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x512x256, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolOutDx1ReferenceIdeal.lean ====
abbrev S8192x1024 : Shape := ⟨2, ![8192, 1024]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S_, .f32⟩
  | .hbm, ⟨9, _⟩ => ⟨S8192x512, .f32⟩
  | .hbm, ⟨10, _⟩ => ⟨S8192x1024, .f32⟩
  | .hbm, ⟨11, _⟩ => ⟨S8192x512, .f32⟩
  | .hbm, ⟨12, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== PoolOutDx0Kernel.lean ====
abbrev S8192x1024 : Shape := ⟨2, ![8192, 1024]⟩
abbrev S2x4x512x256 : Shape := ⟨4, ![2, 4, 512, 256]⟩
abbrev S8192x512 : Shape := ⟨2, ![8192, 512]⟩
abbrev S1024x1024 : Shape := ⟨2, ![1024, 1024]⟩
abbrev S1x4x512x256 : Shape := ⟨4, ![1, 4, 512, 256]⟩
abbrev S1024x512 : Shape := ⟨2, ![1024, 512]⟩
abbrev S1024x256 : Shape := ⟨2, ![1024, 256]⟩
abbrev S1x1x512x256 : Shape := ⟨4, ![1, 1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x512x256, .bf16⟩
  | .local _ .vmem, ⟨3, _⟩ => ⟨S1024x512, .bf16⟩
  | .local _ .vmem, ⟨4, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolOutDx0ReferenceIdeal.lean ====
abbrev S8192x1024 : Shape := ⟨2, ![8192, 1024]⟩
abbrev S2x4x512x256 : Shape := ⟨4, ![2, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S_ : Shape := ⟨0, ![]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4x512x256, .bf16⟩
  | .hbm, ⟨2, _⟩ => ⟨S1x4x512x256, .bf16⟩
  | .hbm, ⟨3, _⟩ => ⟨S4x512x256, .bf16⟩
  | .hbm, ⟨4, _⟩ => ⟨S512x4x256, .bf16⟩
  | .hbm, ⟨5, _⟩ => ⟨S512x1024, .bf16⟩
  | .hbm, ⟨6, _⟩ => ⟨S512x1024, .f32⟩
  | .hbm, ⟨7, _⟩ => ⟨S8192x1024, .f32⟩
  | .hbm, ⟨8, _⟩ => ⟨S_, .f32⟩
  | .hbm, ⟨9, _⟩ => ⟨S8192x512, .f32⟩
  | .hbm, ⟨10, _⟩ => ⟨S8192x1024, .f32⟩
  | .hbm, ⟨11, _⟩ => ⟨S8192x512, .f32⟩
  | .hbm, ⟨12, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== PoolOutDw1Kernel.lean ====
abbrev S8192x512 : Shape := ⟨2, ![8192, 512]⟩
abbrev S8192x1024 : Shape := ⟨2, ![8192, 1024]⟩
abbrev S2x4x512x256 : Shape := ⟨4, ![2, 4, 512, 256]⟩
abbrev S1024x512 : Shape := ⟨2, ![1024, 512]⟩
abbrev S1024x1024 : Shape := ⟨2, ![1024, 1024]⟩
abbrev S1x4x512x256 : Shape := ⟨4, ![1, 4, 512, 256]⟩
abbrev S512x1024 : Shape := ⟨2, ![512, 1024]⟩
abbrev S512x256 : Shape := ⟨2, ![512, 256]⟩
abbrev S1x1x512x256 : Shape := ⟨4, ![1, 1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x512x256, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PoolOutDw1ReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S1x4x512x256 : Shape := ⟨4, ![1, 4, 512, 256]⟩
abbrev S2x4x512x256 : Shape := ⟨4, ![2, 4, 512, 256]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S_, .bf16⟩
  | .hbm, ⟨13, _⟩ => ⟨S4x512x256, .bf16⟩
  | .hbm, ⟨14, _⟩ => ⟨S1x4x512x256, .bf16⟩
  | .hbm, ⟨15, _⟩ => ⟨S1x4x512x256, .bf16⟩
  | .hbm, ⟨16, _⟩ => ⟨S2x4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== PoolOutDw0Kernel.lean ====
abbrev S8192x512 : Shape := ⟨2, ![8192, 512]⟩
abbrev S8192x1024 : Shape := ⟨2, ![8192, 1024]⟩
abbrev S2x4x512x256 : Shape := ⟨4, ![2, 4, 512, 256]⟩
abbrev S1024x512 : Shape := ⟨2, ![1024, 512]⟩
abbrev S1024x1024 : Shape := ⟨2, ![1024, 1024]⟩
abbrev S1x4x512x256 : Shape := ⟨4, ![1, 4, 512, 256]⟩
abbrev S512x1024 : Shape := ⟨2, ![512, 1024]⟩
abbrev S512x256 : Shape := ⟨2, ![512, 256]⟩
abbrev S1x1x512x256 : Shape := ⟨4, ![1, 1, 512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .hbm, ⟨3, _⟩ => ⟨S2x4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x4x512x256, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PoolOutDw0ReferenceIdeal.lean ====
abbrev S8192x512 : Shape := ⟨2, ![8192, 512]⟩
abbrev S8192x1024 : Shape := ⟨2, ![8192, 1024]⟩
abbrev S2x4x512x256 : Shape := ⟨4, ![2, 4, 512, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S1x4x512x256 : Shape := ⟨4, ![1, 4, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S2x4x512x256, .bf16⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S512x4x256, .bf16⟩
  | .hbm, ⟨12, _⟩ => ⟨S4x512x256, .bf16⟩
  | .hbm, ⟨13, _⟩ => ⟨S1x4x512x256, .bf16⟩
  | .hbm, ⟨14, _⟩ => ⟨S4x512x256, .bf16⟩
  | .hbm, ⟨15, _⟩ => ⟨S1x4x512x256, .bf16⟩
  | .hbm, ⟨16, _⟩ => ⟨S1x4x512x256, .bf16⟩
  | .hbm, ⟨17, _⟩ => ⟨S2x4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.AttnTrip.lean ====
module

public import proofs.«01_k».proof.Proof.Gen.KernelIdeal.Loops

/-! # One query chunk of the attention's backward pass

The kernel goes through the eight chunks of a block of tokens one by one. One trip of that loop is run here once, at a
symbolic chunk and for any number format: the pieces it writes into each buffer are named, as functions of what the
buffers held before the trip. -/

@[expose] public section

set_option maxRecDepth 16384
set_option maxHeartbeats 8000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the kernel's memory operations are stated over. -/
local notation "𝕄" => MT nD τ sig Unit (Elt F) ℕ (UR sig nD τ) ℕ

section
variable (c : Dev nD) (i : grid0.Coords)
  (arg1 : Memref sig .tc .vmem S512x512 .bf16) (harg1 : arg1.IsWhole) (arg2 : Memref sig .tc .vmem S512x512 .bf16)
  (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S512x512 .bf16)
  (harg5 : arg5.IsWhole) (arg6 : Memref sig .tc .vmem S512x512 .bf16) (harg6 : arg6.IsWhole)
  (arg7 : Memref sig .tc .vmem S8x4x640x128 .bf16) (harg7 : arg7.IsWhole)
  (arg8 : Memref sig .tc .vmem S512x1536 .bf16) (harg8 : arg8.IsWhole)
  (arg9 : Memref sig .tc .vmem S4x640x128 .f32) (harg9 : arg9.IsWhole)
  (arg10 : Memref sig .tc .vmem S1088x512 .bf16) (harg10 : arg10.IsWhole)
  (arg11 : Memref sig .tc .vmem S1088x512 .bf16) (harg11 : arg11.IsWhole)
  (arg12 : Memref sig .tc .vmem S1088x512 .f32) (harg12 : arg12.IsWhole)
  (arg13 : Memref sig .tc .vmem S1088x512 .f32) (harg13 : arg13.IsWhole)
  (arg14 : Memref sig .tc .vmem S4x640x128 .f32) (harg14 : arg14.IsWhole)
  (arg15 : Memref sig .tc .vmem S4x640x128 .bf16) (harg15 : arg15.IsWhole)
  (arg16 : Memref sig .tc .vmem S4x128x128 .bf16) (harg16 : arg16.IsWhole)
  (arg17 : Memref sig .tc .vmem S4x128x128 .bf16) (harg17 : arg17.IsWhole)
  (arg18 : Memref sig .tc .vmem S512x512 .bf16) (harg18 : arg18.IsWhole)
  (arg19 : Memref sig .tc .vmem S512x512 .bf16) (harg19 : arg19.IsWhole)

/-- What one chunk touches: the five buffers it reads, at `X·`, and the eight it writes, at `f·`. -/
abbrev Held
    (X1 : BufTy.Contents (Elt F) arg1.view.ty) (X6 : BufTy.Contents (Elt F) arg6.view.ty) (X7 : BufTy.Contents
    (Elt F) arg7.view.ty) (X10 : BufTy.Contents (Elt F) arg10.view.ty) (X11 : BufTy.Contents (Elt F) arg11.view.ty)
    (f9 : BufTy.Contents (Elt F) arg9.view.ty) (f12 : BufTy.Contents (Elt F) arg12.view.ty) (f13 : BufTy.Contents
    (Elt F) arg13.view.ty) (f14 : BufTy.Contents (Elt F) arg14.view.ty) (f15 : BufTy.Contents (Elt F)
    arg15.view.ty) (f16 : BufTy.Contents (Elt F) arg16.view.ty) (f17 : BufTy.Contents (Elt F) arg17.view.ty) (f18 :
    BufTy.Contents (Elt F) arg18.view.ty) : sProp 𝕄 :=
  iprop((arg1.view.loc (c : Thread nD τ) ↦[arg1.view.set]{fullShare} X1)
    ∗ (arg6.view.loc (c : Thread nD τ) ↦[arg6.view.set]{fullShare} X6)
    ∗ (arg7.view.loc (c : Thread nD τ) ↦[arg7.view.set]{fullShare} X7)
    ∗ (arg10.view.loc (c : Thread nD τ) ↦[arg10.view.set]{fullShare} X10)
    ∗ (arg11.view.loc (c : Thread nD τ) ↦[arg11.view.set]{fullShare} X11)
    ∗ (arg9.view.loc (c : Thread nD τ) ↦[arg9.view.set]{fullShare} f9)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

/-- One chunk's run: the pieces it writes into each of the eight buffers, with the proof that it does. -/
@[irreducible] def chunk (k0_h2 : k0_cond2 i = 1#1) (v59 : IVec S1x128 1)
    (X1 : BufTy.Contents (Elt F) arg1.view.ty) (X6 : BufTy.Contents (Elt F) arg6.view.ty) (X7 : BufTy.Contents
    (Elt F) arg7.view.ty) (X10 : BufTy.Contents (Elt F) arg10.view.ty) (X11 : BufTy.Contents (Elt F) arg11.view.ty)
    (k : Fin k0_t1_loop.trips) :
    Σ' (L9 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S4x640x128 .f32)),
    Σ' (L12 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1088x512 .f32)),
    Σ' (L13 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S1088x512 .f32)),
    Σ' (L14 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S4x640x128 .f32)),
    Σ' (L15 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S4x640x128 .bf16)),
    Σ' (L16 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S4x128x128 .bf16)),
    Σ' (L17 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S4x128x128 .bf16)),
    { L18 : BufTy.Contents (Elt F) arg9.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → List (View.Piece (Elt F) S512x512 .bf16) //
      ∀ (E : Set ℕ) (f9 : BufTy.Contents (Elt F) arg9.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty),
        Held c arg1 arg6 arg7 arg9 arg10 arg11 arg12 arg13 arg14 arg15 arg16 arg17 arg18 X1 X6 X7 X10 X11 f9 f12 f13 f14 f15 f16 f17 f18
        ⊢ wp frame (wpE (defs₀ (F := F)) Variants.none (c : Thread nD τ) none) E
            (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 k PUnit.unit)
            (fun _ => Held c arg1 arg6 arg7 arg9 arg10 arg11 arg12 arg13 arg14 arg15 arg16 arg17 arg18 X1 X6 X7 X10 X11
              (arg9.view.writes (Elt F) f9 (L9 f9 f12 f13 f14 f15 f16 f17 f18))
              (arg12.view.writes (Elt F) f12 (L12 f9 f12 f13 f14 f15 f16 f17 f18))
              (arg13.view.writes (Elt F) f13 (L13 f9 f12 f13 f14 f15 f16 f17 f18))
              (arg14.view.writes (Elt F) arg14.view.junk (L14 f9 f12 f13 f14 f15 f16 f17 f18))
              (arg15.view.writes (Elt F) f15 (L15 f9 f12 f13 f14 f15 f16 f17 f18))
              (arg16.view.writes (Elt F) arg16.view.junk (L16 f9 f12 f13 f14 f15 f16 f17 f18))
              (arg17.view.writes (Elt F) arg17.view.junk (L17 f9 f12 f13 f14 f15 f16 f17 f18))
              (arg18.view.writes (Elt F) f18 (L18 f9 f12 f13 f14 f15 f16 f17 f18))) } := by
  have hk : k.val < 8 := Nat.lt_of_lt_of_le k.isLt k0_t1_abs.2.1
  refine ⟨?_, ?_, ?_, ?_, ?_, ?_, ?_, ?_, fun E f9 f12 f13 f14 f15 f16 f17 f18 => ?run⟩
  case run =>
    unfold k0_t1_body
    iintro ⟨H1, H6, H7, H10, H11, H9, H12, H13, H14, H15, H16, H17, H18⟩
    sl_exec
    sl_step
    sl_close

end

end Cert.Proof.Attn

end
-- ==== Proof.AttnLoop.lean ====
module

public import proofs.«01_k».proof.Proof.AttnTrip

/-! # The loop over the eight query chunks of a block

What the eight buffers written by the loop hold before each trip, by recursion on the trip, and the loop's invariant
saying so. -/

@[expose] public section

set_option maxRecDepth 16384
set_option maxHeartbeats 8000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the kernel's memory operations are stated over. -/
local notation "𝕄" => MT nD τ sig Unit (Elt F) ℕ (UR sig nD τ) ℕ

section
variable (c : Dev nD) (i : grid0.Coords)
  (arg1 : Memref sig .tc .vmem S512x512 .bf16) (harg1 : arg1.IsWhole) (arg2 : Memref sig .tc .vmem S512x512 .bf16)
  (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S512x512 .bf16)
  (harg5 : arg5.IsWhole) (arg6 : Memref sig .tc .vmem S512x512 .bf16) (harg6 : arg6.IsWhole)
  (arg7 : Memref sig .tc .vmem S8x4x640x128 .bf16) (harg7 : arg7.IsWhole)
  (arg8 : Memref sig .tc .vmem S512x1536 .bf16) (harg8 : arg8.IsWhole)
  (arg9 : Memref sig .tc .vmem S4x640x128 .f32) (harg9 : arg9.IsWhole)
  (arg10 : Memref sig .tc .vmem S1088x512 .bf16) (harg10 : arg10.IsWhole)
  (arg11 : Memref sig .tc .vmem S1088x512 .bf16) (harg11 : arg11.IsWhole)
  (arg12 : Memref sig .tc .vmem S1088x512 .f32) (harg12 : arg12.IsWhole)
  (arg13 : Memref sig .tc .vmem S1088x512 .f32) (harg13 : arg13.IsWhole)
  (arg14 : Memref sig .tc .vmem S4x640x128 .f32) (harg14 : arg14.IsWhole)
  (arg15 : Memref sig .tc .vmem S4x640x128 .bf16) (harg15 : arg15.IsWhole)
  (arg16 : Memref sig .tc .vmem S4x128x128 .bf16) (harg16 : arg16.IsWhole)
  (arg17 : Memref sig .tc .vmem S4x128x128 .bf16) (harg17 : arg17.IsWhole)
  (arg18 : Memref sig .tc .vmem S512x512 .bf16) (harg18 : arg18.IsWhole)
  (arg19 : Memref sig .tc .vmem S512x512 .bf16) (harg19 : arg19.IsWhole)

/-- Contents of the eight buffers a chunk writes. -/
abbrev St : Type :=
  BufTy.Contents (Elt F) arg9.view.ty × BufTy.Contents (Elt F) arg12.view.ty × BufTy.Contents (Elt F) arg13.view.ty × BufTy.Contents (Elt F) arg14.view.ty × BufTy.Contents (Elt F) arg15.view.ty × BufTy.Contents (Elt F) arg16.view.ty × BufTy.Contents (Elt F) arg17.view.ty × BufTy.Contents (Elt F) arg18.view.ty

/-- What trip `k` leaves, from what it found. -/
@[irreducible] def next (k0_h2 : k0_cond2 i = 1#1) (v59 : IVec S1x128 1)
    (X1 : BufTy.Contents (Elt F) arg1.view.ty) (X6 : BufTy.Contents (Elt F) arg6.view.ty) (X7 : BufTy.Contents (Elt F) arg7.view.ty) (X10 : BufTy.Contents (Elt F) arg10.view.ty) (X11 : BufTy.Contents (Elt F) arg11.view.ty) (k : ℕ)
    (s : St (F := F) arg9 arg12 arg13 arg14 arg15 arg16 arg17 arg18) : St (F := F) arg9 arg12 arg13 arg14 arg15 arg16 arg17 arg18 :=
  if h : k < k0_t1_loop.trips then
    (arg9.view.writes (Elt F) s.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).1 s.1 s.2.1 s.2.2.1 s.2.2.2.1 s.2.2.2.2.1 s.2.2.2.2.2.1 s.2.2.2.2.2.2.1 s.2.2.2.2.2.2.2),
     arg12.view.writes (Elt F) s.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.1 s.1 s.2.1 s.2.2.1 s.2.2.2.1 s.2.2.2.2.1 s.2.2.2.2.2.1 s.2.2.2.2.2.2.1 s.2.2.2.2.2.2.2),
     arg13.view.writes (Elt F) s.2.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.1 s.1 s.2.1 s.2.2.1 s.2.2.2.1 s.2.2.2.2.1 s.2.2.2.2.2.1 s.2.2.2.2.2.2.1 s.2.2.2.2.2.2.2),
     arg14.view.writes (Elt F) arg14.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.2.1 s.1 s.2.1 s.2.2.1 s.2.2.2.1 s.2.2.2.2.1 s.2.2.2.2.2.1 s.2.2.2.2.2.2.1 s.2.2.2.2.2.2.2),
     arg15.view.writes (Elt F) s.2.2.2.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.2.2.1 s.1 s.2.1 s.2.2.1 s.2.2.2.1 s.2.2.2.2.1 s.2.2.2.2.2.1 s.2.2.2.2.2.2.1 s.2.2.2.2.2.2.2),
     arg16.view.writes (Elt F) arg16.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.2.2.2.1 s.1 s.2.1 s.2.2.1 s.2.2.2.1 s.2.2.2.2.1 s.2.2.2.2.2.1 s.2.2.2.2.2.2.1 s.2.2.2.2.2.2.2),
     arg17.view.writes (Elt F) arg17.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.2.2.2.2.1 s.1 s.2.1 s.2.2.1 s.2.2.2.1 s.2.2.2.2.1 s.2.2.2.2.2.1 s.2.2.2.2.2.2.1 s.2.2.2.2.2.2.2),
     arg18.view.writes (Elt F) s.2.2.2.2.2.2.2
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 ⟨k, h⟩).2.2.2.2.2.2.2.1 s.1 s.2.1 s.2.2.1 s.2.2.2.1 s.2.2.2.2.1 s.2.2.2.2.2.1 s.2.2.2.2.2.2.1 s.2.2.2.2.2.2.2))
  else s

/-- What the buffers hold before trip `k`, from what they held at loop entry. -/
def st (k0_h2 : k0_cond2 i = 1#1) (v59 : IVec S1x128 1)
    (X1 : BufTy.Contents (Elt F) arg1.view.ty) (X6 : BufTy.Contents (Elt F) arg6.view.ty) (X7 : BufTy.Contents (Elt F) arg7.view.ty) (X10 : BufTy.Contents (Elt F) arg10.view.ty) (X11 : BufTy.Contents (Elt F) arg11.view.ty)
    (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) : ℕ → St (F := F) arg9 arg12 arg13 arg14 arg15 arg16 arg17 arg18
  | 0 => (G9, G12, G13, G14, G15, G16, G17, G18)
  | k + 1 => next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k
      (st k0_h2 v59 X1 X6 X7 X10 X11 G9 G12 G13 G14 G15 G16 G17 G18 k)

theorem next_eq (k0_h2 : k0_cond2 i = 1#1) (v59 : IVec S1x128 1)
    (X1 : BufTy.Contents (Elt F) arg1.view.ty) (X6 : BufTy.Contents (Elt F) arg6.view.ty) (X7 : BufTy.Contents (Elt F) arg7.view.ty) (X10 : BufTy.Contents (Elt F) arg10.view.ty) (X11 : BufTy.Contents (Elt F) arg11.view.ty) (k : Fin k0_t1_loop.trips)
    (s : St (F := F) arg9 arg12 arg13 arg14 arg15 arg16 arg17 arg18) :
    next (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k.val s =
    (arg9.view.writes (Elt F) s.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).1 s.1 s.2.1 s.2.2.1 s.2.2.2.1 s.2.2.2.2.1 s.2.2.2.2.2.1 s.2.2.2.2.2.2.1 s.2.2.2.2.2.2.2),
     arg12.view.writes (Elt F) s.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.1 s.1 s.2.1 s.2.2.1 s.2.2.2.1 s.2.2.2.2.1 s.2.2.2.2.2.1 s.2.2.2.2.2.2.1 s.2.2.2.2.2.2.2),
     arg13.view.writes (Elt F) s.2.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.1 s.1 s.2.1 s.2.2.1 s.2.2.2.1 s.2.2.2.2.1 s.2.2.2.2.2.1 s.2.2.2.2.2.2.1 s.2.2.2.2.2.2.2),
     arg14.view.writes (Elt F) arg14.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.1 s.1 s.2.1 s.2.2.1 s.2.2.2.1 s.2.2.2.2.1 s.2.2.2.2.2.1 s.2.2.2.2.2.2.1 s.2.2.2.2.2.2.2),
     arg15.view.writes (Elt F) s.2.2.2.2.1
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.2.1 s.1 s.2.1 s.2.2.1 s.2.2.2.1 s.2.2.2.2.1 s.2.2.2.2.2.1 s.2.2.2.2.2.2.1 s.2.2.2.2.2.2.2),
     arg16.view.writes (Elt F) arg16.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.2.2.1 s.1 s.2.1 s.2.2.1 s.2.2.2.1 s.2.2.2.2.1 s.2.2.2.2.2.1 s.2.2.2.2.2.2.1 s.2.2.2.2.2.2.2),
     arg17.view.writes (Elt F) arg17.view.junk
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.2.2.2.1 s.1 s.2.1 s.2.2.1 s.2.2.2.1 s.2.2.2.2.1 s.2.2.2.2.2.1 s.2.2.2.2.2.2.1 s.2.2.2.2.2.2.2),
     arg18.view.writes (Elt F) s.2.2.2.2.2.2.2
      ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.2.2.2.2.1 s.1 s.2.1 s.2.2.1 s.2.2.2.1 s.2.2.2.2.1 s.2.2.2.2.2.1 s.2.2.2.2.2.2.1 s.2.2.2.2.2.2.2)) := by
  unfold next; exact dif_pos k.isLt

/-- `b`, said at trip 0 as `a`, which it is there. -/
abbrev atTrip {α : Type _} (k : ℕ) (a b : α) : α := match k with | 0 => a | _ + 1 => b

theorem atTrip_eq {α : Type _} {k : ℕ} {a b : α} (h : k = 0 → a = b) : atTrip k a b = b := by
  cases k
  · exact h rfl
  · rfl

/-- The state before trip `k` of the loop. -/
abbrev inv (k0_h2 : k0_cond2 i = 1#1) (v59 : IVec S1x128 1)
    (X1 : BufTy.Contents (Elt F) arg1.view.ty) (X6 : BufTy.Contents (Elt F) arg6.view.ty) (X7 : BufTy.Contents (Elt F) arg7.view.ty) (X10 : BufTy.Contents (Elt F) arg10.view.ty) (X11 : BufTy.Contents (Elt F) arg11.view.ty)
    (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (k : ℕ) (_ : Unit) : sProp 𝕄 :=
  iprop((arg1.view.loc (c : Thread nD τ) ↦[arg1.view.set]{fullShare} X1) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11)
    ∗ (∃ f, (arg9.view.loc (c : Thread nD τ) ↦[arg9.view.set]{fullShare} f) ∗ ⌜f = atTrip k G9 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).1⌝)
    ∗ (∃ f, (arg12.view.loc (c : Thread nD τ) ↦[arg12.view.set]{fullShare} f) ∗ ⌜f = atTrip k G12 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.1⌝)
    ∗ (∃ f, (arg13.view.loc (c : Thread nD τ) ↦[arg13.view.set]{fullShare} f) ∗ ⌜f = atTrip k G13 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.1⌝)
    ∗ (∃ f, (arg14.view.loc (c : Thread nD τ) ↦[arg14.view.set]{fullShare} f) ∗ ⌜f = atTrip k G14 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.2.1⌝)
    ∗ (∃ f, (arg15.view.loc (c : Thread nD τ) ↦[arg15.view.set]{fullShare} f) ∗ ⌜f = atTrip k G15 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.2.2.1⌝)
    ∗ (∃ f, (arg16.view.loc (c : Thread nD τ) ↦[arg16.view.set]{fullShare} f) ∗ ⌜f = atTrip k G16 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.2.2.2.1⌝)
    ∗ (∃ f, (arg17.view.loc (c : Thread nD τ) ↦[arg17.view.set]{fullShare} f) ∗ ⌜f = atTrip k G17 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.2.2.2.2.1⌝)
    ∗ (∃ f, (arg18.view.loc (c : Thread nD τ) ↦[arg18.view.set]{fullShare} f) ∗ ⌜f = atTrip k G18 (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18 k).2.2.2.2.2.2.2⌝))

set_option warn.classDefReducibility false in
/-- The loop over the chunks, by its invariant. -/
@[sl_loop] def loopInv_k0_t1 (E : Set ℕ) (k0_h2 : k0_cond2 i = 1#1) (v59 : IVec S1x128 1)
    (X1 : BufTy.Contents (Elt F) arg1.view.ty) (X6 : BufTy.Contents (Elt F) arg6.view.ty) (X7 : BufTy.Contents (Elt F) arg7.view.ty) (X10 : BufTy.Contents (Elt F) arg10.view.ty) (X11 : BufTy.Contents (Elt F) arg11.view.ty)
    (G9 : BufTy.Contents (Elt F) arg9.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 where
  inv := inv (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 G9 G12 G13 G14 G15 G16 G17 G18
  step k acc := by
    iintro ⟨HR1, HR6, HR7, HR10, HR11, ⟨%f9, HW9, %h9⟩, ⟨%f12, HW12, %h12⟩, ⟨%f13, HW13, %h13⟩, ⟨%f14, HW14, %h14⟩, ⟨%f15, HW15, %h15⟩, ⟨%f16, HW16, %h16⟩, ⟨%f17, HW17, %h17⟩, ⟨%f18, HW18, %h18⟩⟩
    iapply (wp_wand_r Idealize.ShloMosaic.frame (wpE (defs₀ (F := F)) Variants.none (c : Thread nD τ) none) E)
    isplitl [HR1 HR6 HR7 HR10 HR11 HW9 HW12 HW13 HW14 HW15 HW16 HW17 HW18]
    · iapply ((chunk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v59 X1 X6 X7 X10 X11 k).2.2.2.2.2.2.2.2 E f9 f12 f13 f14 f15 f16 f17 f18)
      isplitl [HR1]; · iexact HR1
      isplitl [HR6]; · iexact HR6
      isplitl [HR7]; · iexact HR7
      isplitl [HR10]; · iexact HR10
      isplitl [HR11]; · iexact HR11
      isplitl [HW9]; · iexact HW9
      isplitl [HW12]; · iexact HW12
      isplitl [HW13]; · iexact HW13
      isplitl [HW14]; · iexact HW14
      isplitl [HW15]; · iexact HW15
      isplitl [HW16]; · iexact HW16
      isplitl [HW17]; · iexact HW17
      iexact HW18
    · iintro %_ ⟨HR1, HR6, HR7, HR10, HR11, HW9, HW12, HW13, HW14, HW15, HW16, HW17, HW18⟩
      isplitl [HR1]; · iexact HR1
      isplitl [HR6]; · iexact HR6
      isplitl [HR7]; · iexact HR7
      isplitl [HR10]; · iexact HR10
      isplitl [HR11]; · iexact HR11
      have hz : ∀ {α : Type} {a b : α}, (k.val = 0 → a = b) → atTrip k.val a b = b := fun h => atTrip_eq h
      rw [hz (by intro h; rw [h]; rfl)] at h9
      rw [hz (by intro h; rw [h]; rfl)] at h12
      rw [hz (by intro h; rw [h]; rfl)] at h13
      rw [hz (by intro h; rw [h]; rfl)] at h14
      rw [hz (by intro h; rw [h]; rfl)] at h15
      rw [hz (by intro h; rw [h]; rfl)] at h16
      rw [hz (by intro h; rw [h]; rfl)] at h17
      rw [hz (by intro h; rw [h]; rfl)] at h18
      rw [st.eq_2, next_eq]
      subst h9 h12 h13 h14 h15 h16 h17 h18
      isplitl [HW9]
      · iexists _; isplitl [HW9]; · iexact HW9
        ipureintro; rfl
      isplitl [HW12]
      · iexists _; isplitl [HW12]; · iexact HW12
        ipureintro; rfl
      isplitl [HW13]
      · iexists _; isplitl [HW13]; · iexact HW13
        ipureintro; rfl
      isplitl [HW14]
      · iexists _; isplitl [HW14]; · iexact HW14
        ipureintro; rfl
      isplitl [HW15]
      · iexists _; isplitl [HW15]; · iexact HW15
        ipureintro; rfl
      isplitl [HW16]
      · iexists _; isplitl [HW16]; · iexact HW16
        ipureintro; rfl
      isplitl [HW17]
      · iexists _; isplitl [HW17]; · iexact HW17
        ipureintro; rfl
      iexists _; isplitl [HW18]; · iexact HW18
      ipureintro; rfl

end

end Cert.Proof.Attn

end
-- ==== Proof.AttnRun.lean ====
module

public import proofs.«01_k».proof.Proof.AttnLoop
public import proofs.«01_k».proof.Proof.Gen.KernelIdeal.Frame

/-! # The attention's backward pass: the whole body, run once per kind of grid point

The body is run from any contents of the buffers; what it leaves in each is named. Three kinds of grid point: the first
(the sums start at zero), those in between, and the one after the last block (only the last block's results are
written). -/

@[expose] public section

set_option maxRecDepth 16384
set_option maxHeartbeats 8000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the kernel's memory operations are stated over. -/
local notation "𝕄" => MT nD τ sig Unit (Elt F) ℕ (UR sig nD τ) ℕ

section
variable (c : Dev nD) (i : grid0.Coords)
  (arg1 : Memref sig .tc .vmem S512x512 .bf16) (harg1 : arg1.IsWhole) (arg2 : Memref sig .tc .vmem S512x512 .bf16)
  (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S512x512 .bf16)
  (harg5 : arg5.IsWhole) (arg6 : Memref sig .tc .vmem S512x512 .bf16) (harg6 : arg6.IsWhole)
  (arg7 : Memref sig .tc .vmem S8x4x640x128 .bf16) (harg7 : arg7.IsWhole)
  (arg8 : Memref sig .tc .vmem S512x1536 .bf16) (harg8 : arg8.IsWhole)
  (arg9 : Memref sig .tc .vmem S4x640x128 .f32) (harg9 : arg9.IsWhole)
  (arg10 : Memref sig .tc .vmem S1088x512 .bf16) (harg10 : arg10.IsWhole)
  (arg11 : Memref sig .tc .vmem S1088x512 .bf16) (harg11 : arg11.IsWhole)
  (arg12 : Memref sig .tc .vmem S1088x512 .f32) (harg12 : arg12.IsWhole)
  (arg13 : Memref sig .tc .vmem S1088x512 .f32) (harg13 : arg13.IsWhole)
  (arg14 : Memref sig .tc .vmem S4x640x128 .f32) (harg14 : arg14.IsWhole)
  (arg15 : Memref sig .tc .vmem S4x640x128 .bf16) (harg15 : arg15.IsWhole)
  (arg16 : Memref sig .tc .vmem S4x128x128 .bf16) (harg16 : arg16.IsWhole)
  (arg17 : Memref sig .tc .vmem S4x128x128 .bf16) (harg17 : arg17.IsWhole)
  (arg18 : Memref sig .tc .vmem S512x512 .bf16) (harg18 : arg18.IsWhole)
  (arg19 : Memref sig .tc .vmem S512x512 .bf16) (harg19 : arg19.IsWhole)

/-- The condition under which the body only copies the last block's queries' gradient. -/
abbrev cond3 (i : grid0.Coords) : Prop :=
  Scalar.cmpi .ne (Scalar.extui (Scalar.cmpi .eq (BitVec.ofNat 32 (i 0).val) 16#32) : BitVec 32) 0#32 = 1#1

/-- All the body's buffers: the staged inputs at `X·`, the outputs and the scratch at `f·`. -/
abbrev Full (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19))

/-- What the body leaves in each buffer at the first block, with the run. -/
@[irreducible] def runA (hc1 : k0_cond1 i = 1#1) (hc2 : k0_cond2 i = 1#1) (hc3 : ¬cond3 i)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g8 : BufTy.Contents (Elt F) arg8.view.ty), Σ' (g9 : BufTy.Contents (Elt F) arg9.view.ty), Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), { g19 : BufTy.Contents (Elt F) arg19.view.ty //
      ∀ E : Set ℕ, Full (F := F) c arg1 arg2 arg3 arg4 arg5 arg6 arg7 arg8 arg9 arg10 arg11 arg12 arg13 arg14 arg15 arg16 arg17 arg18 arg19 X1 X2 X3 X4 X5 X6 X7 f8 f9 f10 f11 f12 f13 f14 f15 f16 f17 f18 f19
        ⊢ wp frame (wpE (defs₀ (F := F)) Variants.none (c : Thread nD τ) none) E
            (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
            (fun _ => Full (F := F) c arg1 arg2 arg3 arg4 arg5 arg6 arg7 arg8 arg9 arg10 arg11 arg12 arg13 arg14 arg15 arg16 arg17 arg18 arg19 X1 X2 X3 X4 X5 X6 X7 g8 g9 g10 g11 g12 g13 g14 g15 g16 g17 g18 g19) } := by
  refine ⟨?_, ?_, ?_, ?_, ?_, ?_, ?_, ?_, ?_, ?_, ?_, ?_, fun E => ?run⟩
  case run =>
    simp only [cc0_l1_attn_bwd_eq_skeleton]; unfold cc0_l1_attn_bwd_skel
    simp only [k0_part27_eq_skeleton, k0_part26_eq_skeleton]
    iintro ⟨H1, H2, H3, H4, H5, H6, H7, H8, H9, H10, H11, H12, H13, H14, H15, H16, H17, H18, H19⟩
    sl_exec (disch := first | sl_exact hc1 | sl_exact hc2 | sl_exact hc3)
    sl_step
    sl_close

/-- What the body leaves in each buffer at the a later block, with the run. -/
@[irreducible] def runB (hc1 : ¬k0_cond1 i = 1#1) (hc2 : k0_cond2 i = 1#1) (hc3 : ¬cond3 i)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g8 : BufTy.Contents (Elt F) arg8.view.ty), Σ' (g9 : BufTy.Contents (Elt F) arg9.view.ty), Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), { g19 : BufTy.Contents (Elt F) arg19.view.ty //
      ∀ E : Set ℕ, Full (F := F) c arg1 arg2 arg3 arg4 arg5 arg6 arg7 arg8 arg9 arg10 arg11 arg12 arg13 arg14 arg15 arg16 arg17 arg18 arg19 X1 X2 X3 X4 X5 X6 X7 f8 f9 f10 f11 f12 f13 f14 f15 f16 f17 f18 f19
        ⊢ wp frame (wpE (defs₀ (F := F)) Variants.none (c : Thread nD τ) none) E
            (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
            (fun _ => Full (F := F) c arg1 arg2 arg3 arg4 arg5 arg6 arg7 arg8 arg9 arg10 arg11 arg12 arg13 arg14 arg15 arg16 arg17 arg18 arg19 X1 X2 X3 X4 X5 X6 X7 g8 g9 g10 g11 g12 g13 g14 g15 g16 g17 g18 g19) } := by
  refine ⟨?_, ?_, ?_, ?_, ?_, ?_, ?_, ?_, ?_, ?_, ?_, ?_, fun E => ?run⟩
  case run =>
    simp only [cc0_l1_attn_bwd_eq_skeleton]; unfold cc0_l1_attn_bwd_skel
    simp only [k0_part27_eq_skeleton, k0_part26_eq_skeleton]
    iintro ⟨H1, H2, H3, H4, H5, H6, H7, H8, H9, H10, H11, H12, H13, H14, H15, H16, H17, H18, H19⟩
    sl_exec (disch := first | sl_exact hc1 | sl_exact hc2 | sl_exact hc3)
    sl_step
    sl_close

/-- What the body leaves in each buffer at the last point, which only writes, with the run. -/
@[irreducible] def runC (hc1 : ¬k0_cond1 i = 1#1) (hc2 : ¬k0_cond2 i = 1#1) (hc3 : cond3 i)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
    (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    Σ' (g8 : BufTy.Contents (Elt F) arg8.view.ty), Σ' (g9 : BufTy.Contents (Elt F) arg9.view.ty), Σ' (g10 : BufTy.Contents (Elt F) arg10.view.ty), Σ' (g11 : BufTy.Contents (Elt F) arg11.view.ty), Σ' (g12 : BufTy.Contents (Elt F) arg12.view.ty), Σ' (g13 : BufTy.Contents (Elt F) arg13.view.ty), Σ' (g14 : BufTy.Contents (Elt F) arg14.view.ty), Σ' (g15 : BufTy.Contents (Elt F) arg15.view.ty), Σ' (g16 : BufTy.Contents (Elt F) arg16.view.ty), Σ' (g17 : BufTy.Contents (Elt F) arg17.view.ty), Σ' (g18 : BufTy.Contents (Elt F) arg18.view.ty), { g19 : BufTy.Contents (Elt F) arg19.view.ty //
      ∀ E : Set ℕ, Full (F := F) c arg1 arg2 arg3 arg4 arg5 arg6 arg7 arg8 arg9 arg10 arg11 arg12 arg13 arg14 arg15 arg16 arg17 arg18 arg19 X1 X2 X3 X4 X5 X6 X7 f8 f9 f10 f11 f12 f13 f14 f15 f16 f17 f18 f19
        ⊢ wp frame (wpE (defs₀ (F := F)) Variants.none (c : Thread nD τ) none) E
            (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
            (fun _ => Full (F := F) c arg1 arg2 arg3 arg4 arg5 arg6 arg7 arg8 arg9 arg10 arg11 arg12 arg13 arg14 arg15 arg16 arg17 arg18 arg19 X1 X2 X3 X4 X5 X6 X7 g8 g9 g10 g11 g12 g13 g14 g15 g16 g17 g18 g19) } := by
  refine ⟨?_, ?_, ?_, ?_, ?_, ?_, ?_, ?_, ?_, ?_, ?_, ?_, fun E => ?run⟩
  case run =>
    simp only [cc0_l1_attn_bwd_eq_skeleton]; unfold cc0_l1_attn_bwd_skel
    simp only [k0_part27_eq_skeleton, k0_part26_eq_skeleton]
    iintro ⟨H1, H2, H3, H4, H5, H6, H7, H8, H9, H10, H11, H12, H13, H14, H15, H16, H17, H18, H19⟩
    sl_exec (disch := first | sl_exact hc1 | sl_exact hc2 | sl_exact hc3)
    sl_step
    sl_close

end

end Cert.Proof.Attn

end
-- ==== Proof.AttnStep.lean ====
module

public import proofs.«01_k».proof.Proof.AttnRun
public import Idealize.ShloMosaic.Lib.Claim

/-! # The attention's backward pass: the whole call ends, its arguments unchanged

The body's three runs are restated over what the pipeline hands it: the staged inputs at their blocks, the outputs and the
scratch at some contents. Nothing is said here of what the outputs hold. -/

@[expose] public section

set_option maxRecDepth 16384
set_option maxHeartbeats 8000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the kernel's memory operations are stated over. -/
local notation "𝕄" => MT nD τ sig Unit (Elt F) ℕ (UR sig nD τ) ℕ

open Idealize.ShloMosaic.Pipeline (Dat RDat BodyObligationLoose)

section
variable (c : Dev nD) (i : grid0.Coords)
  (arg1 : Memref sig .tc .vmem S512x512 .bf16) (harg1 : arg1.IsWhole) (arg2 : Memref sig .tc .vmem S512x512 .bf16)
  (harg2 : arg2.IsWhole) (arg3 : Memref sig .tc .vmem S512x512 .bf16) (harg3 : arg3.IsWhole)
  (arg4 : Memref sig .tc .vmem S512x512 .bf16) (harg4 : arg4.IsWhole) (arg5 : Memref sig .tc .vmem S512x512 .bf16)
  (harg5 : arg5.IsWhole) (arg6 : Memref sig .tc .vmem S512x512 .bf16) (harg6 : arg6.IsWhole)
  (arg7 : Memref sig .tc .vmem S8x4x640x128 .bf16) (harg7 : arg7.IsWhole)
  (arg8 : Memref sig .tc .vmem S512x1536 .bf16) (harg8 : arg8.IsWhole)
  (arg9 : Memref sig .tc .vmem S4x640x128 .f32) (harg9 : arg9.IsWhole)
  (arg10 : Memref sig .tc .vmem S1088x512 .bf16) (harg10 : arg10.IsWhole)
  (arg11 : Memref sig .tc .vmem S1088x512 .bf16) (harg11 : arg11.IsWhole)
  (arg12 : Memref sig .tc .vmem S1088x512 .f32) (harg12 : arg12.IsWhole)
  (arg13 : Memref sig .tc .vmem S1088x512 .f32) (harg13 : arg13.IsWhole)
  (arg14 : Memref sig .tc .vmem S4x640x128 .f32) (harg14 : arg14.IsWhole)
  (arg15 : Memref sig .tc .vmem S4x640x128 .bf16) (harg15 : arg15.IsWhole)
  (arg16 : Memref sig .tc .vmem S4x128x128 .bf16) (harg16 : arg16.IsWhole)
  (arg17 : Memref sig .tc .vmem S4x128x128 .bf16) (harg17 : arg17.IsWhole)
  (arg18 : Memref sig .tc .vmem S512x512 .bf16) (harg18 : arg18.IsWhole)
  (arg19 : Memref sig .tc .vmem S512x512 .bf16) (harg19 : arg19.IsWhole)

/-- The staged inputs at their blocks, every other buffer at some contents. -/
def Some (x1 : Vec F S512x512 .bf16) (x2 : Vec F S512x512 .bf16) (x3 : Vec F S512x512 .bf16) (x4 : Vec F S512x512 .bf16) (x5 : Vec F S512x512 .bf16) (x6 : Vec F S512x512 .bf16) (x7 : Vec F S8x4x640x128 .bf16) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
    ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d))

/-- The body at the first block, its inputs kept and every other buffer at some contents. -/
theorem someA (hc1 : k0_cond1 i = 1#1) (hc2 : k0_cond2 i = 1#1) (hc3 : ¬cond3 i) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S8x4x640x128 .bf16) :
    Some (F := F) c arg1 arg2 arg3 arg4 arg5 arg6 arg7 arg8 arg9 arg10 arg11 arg12 arg13 arg14 arg15 arg16 arg17 arg18 arg19 x1 x2 x3 x4 x5 x6 x7
      ⊢ wp frame (wpE (defs₀ (F := F)) Variants.none (c : Thread nD τ) none) Set.univ
          (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Some (F := F) c arg1 arg2 arg3 arg4 arg5 arg6 arg7 arg8 arg9 arg10 arg11 arg12 arg13 arg14 arg15 arg16 arg17 arg18 arg19 x1 x2 x3 x4 x5 x6 x7) := by
  unfold Some owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  iapply (wp_wand_r (Ef := _) frame _ Set.univ (Q := fun _ => Full (F := F) c arg1 arg2 arg3 arg4 arg5 arg6 arg7 arg8 arg9 arg10 arg11 arg12 arg13 arg14 arg15 arg16 arg17 arg18 arg19 f1 f2 f3 f4 f5 f6 f7 _ _ _ _ _ _ _ _ _ _ _ _))
  isplitl [H1 H2 H3 H4 H5 H6 H7 H8 H9 H10 H11 H12 H13 H14 H15 H16 H17 H18 H19]
  · iapply ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 f1 f2 f3 f4 f5 f6 f7 f8 f9 f10 f11 f12 f13 f14 f15 f16 f17 f18 f19).2.2.2.2.2.2.2.2.2.2.2.2 Set.univ)
    unfold Full
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H1, H2, H3, H4, H5, H6, H7, H8, H9, H10, H11, H12, H13, H14, H15, H16, H17, H18, H19⟩
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

/-- The body at the later blocks, its inputs kept and every other buffer at some contents. -/
theorem someB (hc1 : ¬k0_cond1 i = 1#1) (hc2 : k0_cond2 i = 1#1) (hc3 : ¬cond3 i) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S8x4x640x128 .bf16) :
    Some (F := F) c arg1 arg2 arg3 arg4 arg5 arg6 arg7 arg8 arg9 arg10 arg11 arg12 arg13 arg14 arg15 arg16 arg17 arg18 arg19 x1 x2 x3 x4 x5 x6 x7
      ⊢ wp frame (wpE (defs₀ (F := F)) Variants.none (c : Thread nD τ) none) Set.univ
          (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Some (F := F) c arg1 arg2 arg3 arg4 arg5 arg6 arg7 arg8 arg9 arg10 arg11 arg12 arg13 arg14 arg15 arg16 arg17 arg18 arg19 x1 x2 x3 x4 x5 x6 x7) := by
  unfold Some owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  iapply (wp_wand_r (Ef := _) frame _ Set.univ (Q := fun _ => Full (F := F) c arg1 arg2 arg3 arg4 arg5 arg6 arg7 arg8 arg9 arg10 arg11 arg12 arg13 arg14 arg15 arg16 arg17 arg18 arg19 f1 f2 f3 f4 f5 f6 f7 _ _ _ _ _ _ _ _ _ _ _ _))
  isplitl [H1 H2 H3 H4 H5 H6 H7 H8 H9 H10 H11 H12 H13 H14 H15 H16 H17 H18 H19]
  · iapply ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 f1 f2 f3 f4 f5 f6 f7 f8 f9 f10 f11 f12 f13 f14 f15 f16 f17 f18 f19).2.2.2.2.2.2.2.2.2.2.2.2 Set.univ)
    unfold Full
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H1, H2, H3, H4, H5, H6, H7, H8, H9, H10, H11, H12, H13, H14, H15, H16, H17, H18, H19⟩
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

/-- The body at the last point, its inputs kept and every other buffer at some contents. -/
theorem someC (hc1 : ¬k0_cond1 i = 1#1) (hc2 : ¬k0_cond2 i = 1#1) (hc3 : cond3 i) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S8x4x640x128 .bf16) :
    Some (F := F) c arg1 arg2 arg3 arg4 arg5 arg6 arg7 arg8 arg9 arg10 arg11 arg12 arg13 arg14 arg15 arg16 arg17 arg18 arg19 x1 x2 x3 x4 x5 x6 x7
      ⊢ wp frame (wpE (defs₀ (F := F)) Variants.none (c : Thread nD τ) none) Set.univ
          (cc0_l1_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => Some (F := F) c arg1 arg2 arg3 arg4 arg5 arg6 arg7 arg8 arg9 arg10 arg11 arg12 arg13 arg14 arg15 arg16 arg17 arg18 arg19 x1 x2 x3 x4 x5 x6 x7) := by
  unfold Some owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩⟩
  iapply (wp_wand_r (Ef := _) frame _ Set.univ (Q := fun _ => Full (F := F) c arg1 arg2 arg3 arg4 arg5 arg6 arg7 arg8 arg9 arg10 arg11 arg12 arg13 arg14 arg15 arg16 arg17 arg18 arg19 f1 f2 f3 f4 f5 f6 f7 _ _ _ _ _ _ _ _ _ _ _ _))
  isplitl [H1 H2 H3 H4 H5 H6 H7 H8 H9 H10 H11 H12 H13 H14 H15 H16 H17 H18 H19]
  · iapply ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc1 hc2 hc3 f1 f2 f3 f4 f5 f6 f7 f8 f9 f10 f11 f12 f13 f14 f15 f16 f17 f18 f19).2.2.2.2.2.2.2.2.2.2.2.2 Set.univ)
    unfold Full
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %a ⟨H1, H2, H3, H4, H5, H6, H7, H8, H9, H10, H11, H12, H13, H14, H15, H16, H17, H18, H19⟩
  isplitl [H1]
  · iexists _; isplitr
    swap; · iexact H1
    ipureintro; exact e1
  isplitl [H2]
  · iexists _; isplitr
    swap; · iexact H2
    ipureintro; exact e2
  isplitl [H3]
  · iexists _; isplitr
    swap; · iexact H3
    ipureintro; exact e3
  isplitl [H4]
  · iexists _; isplitr
    swap; · iexact H4
    ipureintro; exact e4
  isplitl [H5]
  · iexists _; isplitr
    swap; · iexact H5
    ipureintro; exact e5
  isplitl [H6]
  · iexists _; isplitr
    swap; · iexact H6
    ipureintro; exact e6
  isplitl [H7]
  · iexists _; isplitr
    swap; · iexact H7
    ipureintro; exact e7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  iexists _; iexists _; isplitr
  swap; · iexact H19
  ipureintro; rfl

end

end Cert.Proof.Attn

end
-- ==== Proof.AttnFrame.lean ====
module

public import proofs.«01_k».proof.Proof.AttnStep

/-! # The attention's backward pass: the whole call ends, its arguments unchanged

Every grid point's body keeps the staged inputs and leaves the other buffers at some contents; the two outputs are
forgotten. So the call terminates without fault, its arguments end as they began and no semaphore is left signalled. -/

@[expose] public section

set_option maxRecDepth 16384
set_option maxHeartbeats 8000000

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources the kernel's memory operations are stated over. -/
local notation "𝕄" => MT nD τ sig Unit (Elt F) ℕ (UR sig nD τ) ℕ

open Idealize.ShloMosaic.Pipeline (Dat RDat BodyObligationLoose)

variable (m : (ℓ : Loc nD τ sig) → Buf (Elt F) ℓ) (ρ : Dev nD → PrngReg)

/-- The buffers a window's block is staged in at a point. -/
abbrev ms0 (t : Fin cfg0.N) : Memref sig .tc .vmem S512x512 .bf16 := win0_0.stage (cfg0.slots t 0)
abbrev ms1 (t : Fin cfg0.N) : Memref sig .tc .vmem S512x512 .bf16 := win0_1.stage (cfg0.slots t 1)
abbrev ms2 (t : Fin cfg0.N) : Memref sig .tc .vmem S512x512 .bf16 := win0_2.stage (cfg0.slots t 2)
abbrev ms3 (t : Fin cfg0.N) : Memref sig .tc .vmem S512x512 .bf16 := win0_3.stage (cfg0.slots t 3)
abbrev ms4 (t : Fin cfg0.N) : Memref sig .tc .vmem S512x512 .bf16 := win0_4.stage (cfg0.slots t 4)
abbrev ms5 (t : Fin cfg0.N) : Memref sig .tc .vmem S512x512 .bf16 := win0_5.stage (cfg0.slots t 5)
abbrev ms6 (t : Fin cfg0.N) : Memref sig .tc .vmem S8x4x640x128 .bf16 := win0_6.stage (cfg0.slots t 6)
abbrev ms7 (t : Fin cfg0.N) : Memref sig .tc .vmem S512x1536 .bf16 := win0_7.stage (cfg0.slots t 7)
abbrev ms8 (t : Fin cfg0.N) : Memref sig .tc .vmem S4x640x128 .f32 := win0_8.stage (cfg0.slots t 8)

/-- The scratch buffers. -/
abbrev sc0 : Memref sig .tc .vmem S1088x512 .bf16 := Memref.whole cc0_scratch0
abbrev sc1 : Memref sig .tc .vmem S1088x512 .bf16 := Memref.whole cc0_scratch1
abbrev sc2 : Memref sig .tc .vmem S1088x512 .f32 := Memref.whole cc0_scratch2
abbrev sc3 : Memref sig .tc .vmem S1088x512 .f32 := Memref.whole cc0_scratch3
abbrev sc4 : Memref sig .tc .vmem S4x640x128 .f32 := Memref.whole cc0_scratch4
abbrev sc5 : Memref sig .tc .vmem S4x640x128 .bf16 := Memref.whole cc0_scratch5
abbrev sc6 : Memref sig .tc .vmem S4x128x128 .bf16 := Memref.whole cc0_scratch6
abbrev sc7 : Memref sig .tc .vmem S4x128x128 .bf16 := Memref.whole cc0_scratch7
abbrev sc8 : Memref sig .tc .vmem S512x512 .bf16 := Memref.whole cc0_scratch8
abbrev sc9 : Memref sig .tc .vmem S512x512 .bf16 := Memref.whole cc0_scratch9

/-- The scratch and the generator register, buffer by buffer. -/
theorem scratch_eq (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- The first condition holds at the first point only. -/
theorem cond1_iff : ∀ t : Fin cfg0.N, k0_cond1 (grid0.coords t) = 1#1 ↔ t.val = 0 := by
  intro t
  have ht : t.val < 17 := Nat.lt_of_lt_of_eq t.isLt N_0
  have e0 : (grid0.coords t 0).val = t.val / 1 % 17 := Pipeline.Grid.coords_val t 0 (by decide) rfl
  simp only [k0_cond1, e0]
  word_cmp
/-- The second condition holds at every point but the last. -/
theorem cond2_iff : ∀ t : Fin cfg0.N, k0_cond2 (grid0.coords t) = 1#1 ↔ t.val < 16 := by
  intro t
  have ht : t.val < 17 := Nat.lt_of_lt_of_eq t.isLt N_0
  have e0 : (grid0.coords t 0).val = t.val / 1 % 17 := Pipeline.Grid.coords_val t 0 (by decide) rfl
  simp only [k0_cond2, e0]
  word_cmp
/-- The third condition holds at the last point only. -/
theorem cond3_iff : ∀ t : Fin cfg0.N, cond3 (grid0.coords t) ↔ t.val = 16 := by
  intro t
  have ht : t.val < 17 := Nat.lt_of_lt_of_eq t.isLt N_0
  have e0 : (grid0.coords t 0).val = t.val / 1 % 17 := Pipeline.Grid.coords_val t 0 (by decide) rfl
  simp only [cond3, e0]
  word_cmp

/-- The pipeline's data: each input's block stays as it was read; the outputs are said nothing of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ms7 t).view.read (Elt F) (ms7 t).view.junk
    | ⟨8, _⟩ => (ms8 t).view.read (Elt F) (ms8 t).view.junk
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- The outputs, whose contents are not followed. -/
def forgotten : Fin cfg0.W → Bool := fun w => decide (7 ≤ w.val)

/-- What a point's body is given, -/
def bodyPre (c : Dev nD) (t : Fin cfg0.N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ X, owns (c : Thread nD τ) (ms7 t) fullShare X) ∗ (∃ X, owns (c : Thread nD τ) (ms8 t) fullShare X))
/-- and what it gives back. -/
def bodyPost (c : Dev nD) (t : Fin cfg0.N) : sProp 𝕄 :=
  iprop((dats m 0 c).Φ t.succ ∗ (dats m 0 c).owesAt () t.succ ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ (∃ X, owns (c : Thread nD τ) (ms7 t) fullShare X) ∗ (∃ X, owns (c : Thread nD τ) (ms8 t) fullShare X))

/-- The body at any point, its inputs kept and every other buffer at some contents. -/
theorem some_body (c : Dev nD) (t : Fin cfg0.N) :
    Some (F := F) c (ms0 t) (ms1 t) (ms2 t) (ms3 t) (ms4 t) (ms5 t) (ms6 t) (ms7 t) (ms8 t) sc0 sc1 sc2 sc3 sc4 sc5 sc6 sc7 sc8 sc9 (iblk m c 0 t) (iblk m c 1 t) (iblk m c 2 t) (iblk m c 3 t) (iblk m c 4 t) (iblk m c 5 t) (iblk m c 6 t)
      ⊢ wp frame (wpE (defs₀ (F := F)) Variants.none (c : Thread nD τ) none) Set.univ (bodyAt0 t)
          (fun _ => Some (F := F) c (ms0 t) (ms1 t) (ms2 t) (ms3 t) (ms4 t) (ms5 t) (ms6 t) (ms7 t) (ms8 t) sc0 sc1 sc2 sc3 sc4 sc5 sc6 sc7 sc8 sc9 (iblk m c 0 t) (iblk m c 1 t) (iblk m c 2 t) (iblk m c 3 t) (iblk m c 4 t) (iblk m c 5 t) (iblk m c 6 t)) := by
  have ht : t.val < 17 := Nat.lt_of_lt_of_eq t.isLt N_0
  by_cases h0 : t.val = 0
  · exact someA c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _)
      ((cond1_iff t).mpr h0) ((cond2_iff t).mpr (by omega)) (fun h => by have := (cond3_iff t).mp h; omega) _ _ _ _ _ _ _
  · by_cases h1 : t.val < 16
    · exact someB c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _)
        (fun h => h0 ((cond1_iff t).mp h)) ((cond2_iff t).mpr h1) (fun h => by have := (cond3_iff t).mp h; omega) _ _ _ _ _ _ _
    · exact someC c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _)
        (fun h => h0 ((cond1_iff t).mp h)) (fun h => h1 ((cond2_iff t).mp h)) ((cond3_iff t).mpr (by omega)) _ _ _ _ _ _ _

set_option maxHeartbeats 2400000 in
/-- The body's obligation at a point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, scratch_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, H7, H8⟩
  iapply (wp_wand_r (Ef := _) frame _ Set.univ (Q := fun _ => Some (F := F) c (ms0 t) (ms1 t) (ms2 t) (ms3 t) (ms4 t) (ms5 t) (ms6 t) (ms7 t) (ms8 t) sc0 sc1 sc2 sc3 sc4 sc5 sc6 sc7 sc8 sc9 (iblk m c 0 t) (iblk m c 1 t) (iblk m c 2 t) (iblk m c 3 t) (iblk m c 4 t) (iblk m c 5 t) (iblk m c 6 t)))
  isplitl [H0 H1 H2 H3 H4 H5 H6 H7 H8 HS0 HS1 HS2 HS3 HS4 HS5 HS6 HS7 HS8 HS9]
  · iapply (some_body m c t)
    unfold Some
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HS9
  unfold Some
  iintro %a ⟨H0, H1, H2, H3, H4, H5, H6, H7, H8, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body at that point's buffers. -/
theorem defs₀_row (t : Fin cfg0.N) :
    defs₀ (F := F) .tc cfg0.body (cfg0.bodyArgs t (cfg0.slots t)) = bodyAt0 t := by
  unfold defs₀; rw [Defs.onTc_tc]

/-- The body's obligation, in the pipeline's own words. -/
theorem body_obligation (c : Dev nD) : BodyObligationLoose (dats (F := F) m 0 c) (defs₀ (F := F)) Variants.none () Set.univ forgotten := fun t => by
  rw [bigSep_W0, bigSep_W0, defs₀_row]
  exact triple_restated (sound_body m c t) rfl .rfl fun _ => .rfl

-- the run lemma's implicit arguments are found by unifying its conclusion, which takes unfolding plain definitions
set_option backward.isDefEq.respectTransparency.types false in
/-- The whole call, run: the staged inputs and everything no window stages end as the region found them. -/
theorem run_main : θ_run defs (onTc (τ := τ) (main (F := F))) (s₀ m ρ)
    (fun r => RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := body_obligation m) (hq := fun _ _ _ => rfl)
    (howed := fun _ _ => rfl) (V := V m) (hmain := hmain m Variants.none) (hA := A_eq m) (hΦ := fun _ _ => rfl)

/-- The call ends without fault, its arguments unchanged and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      (h.1.arr_in c 4 rfl).trans ((A_eq m c 4).trans (V_main_arg0 m c)),
      ((h.1 c).2 main_arg1 (Pipeline.mem_restRefs_of main_arg1 (by decide) (by decide))).trans (V_main_arg1 m c),
      (h.1.arr_in c 5 rfl).trans ((A_eq m c 5).trans (V_main_arg2 m c))⟩, h.2⟩) (run_main m ρ)

end Cert.Proof.Attn

end
-- ==== Proof.AttnBody.lean ====
module

public import proofs.«01_k».proof.Proof.Gen.Kernel
public import proofs.«01_k».proof.Proof.Gen.KernelIdeal
public import Idealize.ShloMosaic.PureOps.BitExact

/-! # The attention's backward pass: the kernel's text is its ideal reading's -/

@[expose] public section

set_option maxRecDepth 16384
set_option maxHeartbeats 40000000

noncomputable section

open Idealize.ShloMosaic Idealize.ShloMosaic.TcCoe Idealize.SL.Sem

namespace Cert.Proof.Attn

/-- The two bodies are one text. -/
theorem body_eq : @Cert.Kernel.cc0_l1_attn_bwd Bits _ _ = @Cert.KernelIdeal.cc0_l1_attn_bwd Bits _ _ := rfl

end Cert.Proof.Attn

end
-- ==== Proof.AttnSame.lean ====
module

public import proofs.«01_k».proof.Proof.AttnBody

/-! # The attention's backward pass: the kernel's launch is its ideal reading's -/

@[expose] public section

set_option maxRecDepth 16384
set_option maxHeartbeats 40000000

noncomputable section

open Idealize.ShloMosaic Idealize.ShloMosaic.TcCoe Idealize.SL.Sem

namespace Cert.Proof.Attn

/-- The two tables of bodies are one. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _) _) _) _) _) _) _) _) _) _) _) _) _) _) _) _) _
  | ⟨_ + 1, h⟩, _ => exact absurd h (Nat.not_lt.2 (Nat.le_add_left _ _))

/-- The two programs' definitions are one. -/
theorem defs_eq : @Cert.Kernel.defs Bits _ _ = @Cert.KernelIdeal.defs Bits _ _ :=
  congrArg (Pipeline.defs (Cert.KernelIdeal.pcfgs (F := Bits))) bodies_eq

end Cert.Proof.Attn

end
-- ==== Proof.AttnClaim.lean ====
module

public import proofs.«01_k».proof.Defs
public import proofs.«01_k».proof.Proof.AttnFrame
public import proofs.«01_k».proof.Proof.AttnSame
public import proofs.«01_k».proof.Proof.Gen.Kernel
public import proofs.«01_k».proof.Proof.Gen.ReferenceIdeal.Run

/-! # The attention's backward pass: the frames of the kernel, its ideal reading and the reference -/

@[expose] public section

set_option maxRecDepth 16384
set_option maxHeartbeats 4000000

noncomputable section

open Idealize.ShloMosaic Idealize.ShloMosaic.TcCoe Idealize.SL.Sem

namespace Cert.Proof.Attn

/-- The kernel, over the machine's own numbers: its text is its ideal reading's, so the one run serves both. -/
theorem frame_kernel : Cert.quiescent_Kernel := fun m ρ _ => by
  have h := frame_main (F := Bits) m ρ
  rw [← defs_eq] at h
  exact h

/-- The kernel over the extended reals. -/
theorem frame_ideal : Cert.quiescent_KernelIdeal := fun m ρ _ => frame_main (F := Ideal) m ρ

/-- The reference declares no semaphore. -/
theorem no_semaphore : (Finset.univ : Finset (SemLoc Cert.ReferenceIdeal.sig)) = ∅ := by decide

/-- The reference ends without fault, its arguments unchanged. -/
theorem frame_reference : Cert.quiescent_ReferenceIdeal := fun m ρ _ =>
  (θ_run Cert.ReferenceIdeal.defs _ _).mono (fun _ h => ⟨fun c => (h c).2.2, by
    funext s
    exact absurd (Finset.mem_univ s.2) (by rw [no_semaphore]; exact Finset.notMem_empty _)⟩)
    (Cert.ReferenceIdeal.Value.run m ρ)

end Cert.Proof.Attn

end
-- ==== Proof.PoolHost.lean ====
module

public import proofs.«01_k».proof.Proof.Gen.PoolKernelIdeal.Value
public import proofs.«01_k».proof.Proof.Gen.PoolReferenceIdeal.Read
public import Idealize.ShloMosaic.Lib.Pipeline.ValueKit
public import Idealize.ShloMosaic.Lib.StableHlo.RunRead

/-! # The pool's backward pass: what the host lines hand the kernel

The pooled groups the kernel is given are those the reference's forward lines compute, group beside group instead of
group upon group. -/

@[expose] public section

set_option maxRecDepth 16384

noncomputable section

open Idealize.ShloMosaic Idealize.ShloMosaic.TcCoe Idealize.SL.Sem
open Cert.PoolKernelIdeal Cert.PoolKernelIdeal.Gen

namespace Cert.Proof.Pool

variable (m : (ℓ : Loc nD τ sig) → Buf (Elt Ideal) ℓ)

/-- The pooled groups of an activation: what the reference's forward lines compute. -/
abbrev pooled (u : FVec Ideal S8192x512 .bf16) : FVec Ideal S8192x4x128 .bf16 :=
  Cert.PoolReferenceIdeal.Read.val_main_v180 (F := Ideal) u

set_option maxHeartbeats 2000000 in
/-- The kernel's pooled operand: the pooled groups, laid side by side. -/
theorem V_pooled (c : Dev nD) : V m c main_v155 =
    shapeCast S8192x512 (pooled (m ((c : Thread nD τ).loc main_arg0))) shapeCasts_S8192x4x128_S8192x512 := by
  unfold_abbrev_sides
  after_reads_simp
  rfl

/-- The groups' weights, as the products take them. -/
abbrev weights (wg : FVec Ideal S4x128x128 .f32) : FVec Ideal S4x128x128 .bf16 :=
  truncf .bf16 wg bitsLt_bf16_f32

set_option maxHeartbeats 2000000 in
/-- The kernel's weights are the argument's. -/
theorem V_wg (c : Dev nD) : V m c main_v156 =
    weights (m ((c : Thread nD τ).loc main_arg1)) := by
  unfold_abbrev_sides
  after_reads_simp

end Cert.Proof.Pool

end
-- ==== Proof.PoolSum.lean ====
module

public import proofs.«01_k».proof.Proof.PoolHost

/-! # The pool's backward pass: the gradient of the pooled activation over the whole sequence -/

@[expose] public section

noncomputable section

open Idealize.ShloMosaic Idealize.ShloMosaic.TcCoe Idealize.SL.Sem
open Cert.PoolKernelIdeal Cert.PoolKernelIdeal.Gen

namespace Cert.Proof.Pool

/-- The gradient of the windows' means at a row and a channel: the scaled gradient times the group's weights. -/
def meanGrad (dm : FVec Ideal S8192x512 .bf16) (sc : FVec Ideal S1x512 .f32) (wg : FVec Ideal S4x128x128 .f32)
    (T : Fin 8192) (n : Fin 512) : EReal :=
  ∑ d : Fin 128, dm (ix2 T ⟨128 * (n.val / 128) + d.val, by omega⟩) * sc (ix2 0 ⟨128 * (n.val / 128) + d.val, by omega⟩)
    * wg (ix3 ⟨n.val / 128, by omega⟩ ⟨n.val % 128, by omega⟩ d)

/-- One over the number of rows that the window of group `g` at row `R` averages. -/
def recip (g R : ℕ) : EReal := Ideal.div 1 (((min (R + 1) (2 ^ (g + 1)) : ℕ) : ℝ) : EReal)

/-- What row `R`'s mean hands to each row it averaged; nothing beyond the sequence. -/
def handed (D : Fin 8192 → Fin 512 → EReal) (n : Fin 512) (R : ℕ) : EReal :=
  if h : R < 8192 then D ⟨R, h⟩ n * recip (n.val / 128) R else 0

/-- The gradient of the pooled activation: what the windows over a row hand to it, less the row's own gradient. -/
def duAll (dm : FVec Ideal S8192x512 .bf16) (sc : FVec Ideal S1x512 .f32) (wg : FVec Ideal S4x128x128 .f32) :
    FVec Ideal S8192x512 .bf16 := fun j =>
  (∑ b ∈ Finset.range (2 ^ ((j 1).val / 128 + 1)), handed (meanGrad dm sc wg) (j 1) ((j 0).val + b))
    - meanGrad dm sc wg (j 0) (j 1)

end Cert.Proof.Pool

end
-- ==== Proof.PoolBlocks.lean ====
module

public import proofs.«01_k».proof.Proof.PoolHost

/-! # The pool's backward pass: the blocks a grid point reads -/

@[expose] public section

set_option maxRecDepth 16384

noncomputable section

open Idealize.ShloMosaic Idealize.ShloMosaic.TcCoe Idealize.SL.Sem
open Cert.PoolKernelIdeal Cert.PoolKernelIdeal.Gen

namespace Cert.Proof.Pool

variable (m : (ℓ : Loc nD τ sig) → Buf (Elt Ideal) ℓ)

/-- The windows' block indices, and the number of points. -/
theorem idx : ∀ t : Fin cfg0.N, win0_0.index t = ![t.val, 0] ∧ win0_2.index t = ![t.val, 0]
    ∧ win0_3.index t = ![0, 0, 0] ∧ win0_4.index t = ![0, 0] ∧ win0_5.index t = ![t.val, 0]
    ∧ win0_6.index t = ![0, 0, 0] ∧ win0_7.index t = ![0, 0] ∧ t.val < 16 :=
  (by decide +kernel : ∀ t : Fin grid0.N, _)

theorem lt_16 (t : Fin cfg0.N) : t.val < 16 := (idx t).2.2.2.2.2.2.2

/-- The gradient's block. -/
theorem dm_at (c : Dev nD) (t : Fin cfg0.N) (x : S512x512.Idx) :
    (iblk m c 0 t : FVec Ideal S512x512 .bf16) x = (m ((c : Thread nD τ).loc main_arg3) : FVec Ideal S8192x512 .bf16)
      (ix2 ⟨512 * t.val + (x 0).val, by have := lt_16 t; idx_bounds; omega⟩ (x 1)) := by
  blk_ext [iblk, V, idx t]

/-- The pooled groups laid side by side, at an entry. -/
theorem flat_at (P : FVec Ideal S8192x4x128 .bf16) (y : S8192x512.Idx) :
    shapeCast S8192x512 P shapeCasts_S8192x4x128_S8192x512 y
      = P (ix3 (y 0) ⟨(y 1).val / 128, by idx_bounds; omega⟩ ⟨(y 1).val % 128, by omega⟩) := by
  pointwise

/-- The pooled block, at an entry: the pooled groups' entry of that row, group and channel. -/
theorem pooled_at (c : Dev nD) (t : Fin cfg0.N) (x : S512x512.Idx) :
    (iblk m c 2 t : FVec Ideal S512x512 .bf16) x = pooled (m ((c : Thread nD τ).loc main_arg0))
      (ix3 ⟨512 * t.val + (x 0).val, by have := lt_16 t; idx_bounds; omega⟩ ⟨(x 1).val / 128, by idx_bounds; omega⟩
        ⟨(x 1).val % 128, by omega⟩) := by
  show (((cfg0.win 2).blk t).view.read (Elt Ideal) (V m c main_v155) : FVec Ideal S512x512 .bf16) x = _
  rw [V_pooled]
  generalize pooled _ = P
  have e : (((cfg0.win 2).blk t).view.emb x : S8192x512.Idx)
      = ix2 ⟨512 * t.val + (x 0).val, by have := lt_16 t; idx_bounds; omega⟩ (x 1) := by blk_ext [idx t]
  exact (congrArg (shapeCast S8192x512 P shapeCasts_S8192x4x128_S8192x512) e).trans (flat_at P _)

/-- The weights a point reads. -/
theorem wg_at (c : Dev nD) (t : Fin cfg0.N) (x : S4x128x128.Idx) :
    (iblk m c 3 t : FVec Ideal S4x128x128 .bf16) x = (m ((c : Thread nD τ).loc main_arg1) : FVec Ideal S4x128x128 .f32) x := by
  show (((cfg0.win 3).blk t).view.read (Elt Ideal) (V m c main_v156) : FVec Ideal S4x128x128 .bf16) x = _
  rw [V_wg]
  pointwise
  blk_ext [idx t]

/-- The scale a point reads. -/
theorem sc_at (c : Dev nD) (t : Fin cfg0.N) (x : S1x512.Idx) :
    (iblk m c 4 t : FVec Ideal S1x512 .f32) x = (m ((c : Thread nD τ).loc main_arg2) : FVec Ideal S1x512 .f32) x := by
  blk_ext [iblk, V, idx t]

end Cert.Proof.Pool

end
-- ==== Proof.PoolAcc.lean ====
module

public import proofs.«01_k».proof.Proof.PoolBlocks
public import Idealize.ShloMosaic.Lib.Pipeline.ReadBack

/-! # The pool's backward pass: the two accumulated gradients

The gradient of the groups' weights and the gradient of the scale are summed over the sequence's blocks, one block per
grid point. Each point adds its rows' part to what the point before left; over the whole grid that is one sum over all
rows. -/

@[expose] public section

set_option maxRecDepth 16384

noncomputable section

open Idealize.ShloMosaic Idealize.ShloMosaic.TcCoe Idealize.SL.Sem
open Cert.PoolKernelIdeal Cert.PoolKernelIdeal.Gen

namespace Cert.Proof.Pool

variable (m : (ℓ : Loc nD τ sig) → Buf (Elt Ideal) ℓ)

/-- Stores that cover an index hide the stores before them. -/
theorem canon_append_of_cover {S : Shape} {e : EltTy} (L' : List (View.Piece (Elt Ideal) S e)) :
    ∀ (L : List (View.Piece (Elt Ideal) S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

/-- Four stores that tile the buffer hide the fill before them. -/
theorem canon_four {S : Shape} {e : EltTy} (r : Rect S) (w : r.shape.Idx → Elt Ideal e) (p₂ p₃ p₄ q : View.Piece (Elt Ideal) S e)
    (y : S.Idx) (h : View.Piece.tiled [⟨r, w⟩, p₂, p₃, p₄] r.size = true) :
    View.canon [⟨r, w⟩, p₂, p₃, p₄, q] y = View.canon [⟨r, w⟩, p₂, p₃, p₄] y :=
  canon_append_of_cover [q] [⟨r, w⟩, p₂, p₃, p₄] y (View.cover_of_tiled_head r w [p₂, p₃, p₄] h y)

/-- One block's part of the weights' gradient. -/
def dwgPart (dm p : FVec Ideal S512x512 .bf16) (sc : FVec Ideal S1x512 .f32) (j : S4x128x128.Idx) : EReal :=
  ∑ k : Fin 512, p (ix2 k ⟨128 * (j 0).val + (j 1).val, by idx_bounds; omega⟩)
    * (dm (ix2 k ⟨128 * (j 0).val + (j 2).val, by idx_bounds; omega⟩)
      * sc (ix2 0 ⟨128 * (j 0).val + (j 2).val, by idx_bounds; omega⟩))

/-- One block's part of the scale's gradient. -/
def dscPart (dm p : FVec Ideal S512x512 .bf16) (wg : FVec Ideal S4x128x128 .bf16) (j : S1x512.Idx) : EReal :=
  ∑ k : Fin 512, dm (ix2 k (j 1))
    * ∑ d : Fin 128, p (ix2 k ⟨128 * ((j 1).val / 128) + d.val, by idx_bounds; omega⟩)
      * wg (ix3 ⟨(j 1).val / 128, by idx_bounds; omega⟩ d ⟨(j 1).val % 128, by omega⟩)

theorem dwg_step (c : Dev nD) (t : Fin cfg0.N) (hB : ¬ t.val % 16 = 0) (j : S4x128x128.Idx) :
    (Gen.outsAt0 m c t.val t.isLt).2.1 j
      = (Gen.outsAt0 m c (t.val - 1) (Nat.lt_of_le_of_lt (Nat.sub_le _ _) t.isLt)).2.1 j
        + dwgPart (iblk m c 0 t) (iblk m c 2 t) (iblk m c 4 t) j := by
  rw [Gen.outsAt0_B m c t hB]; frame_out
  generalize (Gen.outsAt0 m c (t.val - 1) _).2.1 = acc
  canon_tiles x h
  all_goals (open_payloads; pointwise [dwgPart]; blk_point [])

theorem dwg_first (c : Dev nD) (t : Fin cfg0.N) (hA : t.val % 16 = 0) (j : S4x128x128.Idx) :
    (Gen.outsAt0 m c t.val t.isLt).2.1 j = (0 : EReal) + dwgPart (iblk m c 0 t) (iblk m c 2 t) (iblk m c 4 t) j := by
  rw [Gen.outsAt0_A m c t hA]; frame_out
  simp (disch := decide) only [↓ View.readCov_skip, ↓ View.readCov_cons_toLoadRect, ↓ View.readCov_fill]
  refine (canon_four _ _ _ _ _ _ _ rfl).trans ?_
  canon_tiles x h
  all_goals (open_payloads; pointwise [dwgPart]; blk_point [])

theorem dsc_first (c : Dev nD) (t : Fin cfg0.N) (hA : t.val % 16 = 0) (j : S1x512.Idx) :
    (Gen.outsAt0 m c t.val t.isLt).2.2 j = (0 : EReal) + dscPart (iblk m c 0 t) (iblk m c 2 t) (iblk m c 3 t) j := by
  rw [Gen.outsAt0_A m c t hA]; frame_out
  simp (disch := decide) only [↓ View.readCov_skip, ↓ View.readCov_cons_toLoadRect, ↓ View.readCov_fill]
  refine (canon_four _ _ _ _ _ _ _ rfl).trans ?_
  canon_tiles x h
  all_goals (open_payloads; pointwise [dscPart]; blk_point [])

theorem dsc_step (c : Dev nD) (t : Fin cfg0.N) (hB : ¬ t.val % 16 = 0) (j : S1x512.Idx) :
    (Gen.outsAt0 m c t.val t.isLt).2.2 j
      = (Gen.outsAt0 m c (t.val - 1) (Nat.lt_of_le_of_lt (Nat.sub_le _ _) t.isLt)).2.2 j
        + dscPart (iblk m c 0 t) (iblk m c 2 t) (iblk m c 3 t) j := by
  rw [Gen.outsAt0_B m c t hB]; frame_out
  generalize (Gen.outsAt0 m c (t.val - 1) _).2.2 = acc
  canon_tiles x h
  all_goals (open_payloads; pointwise [dscPart]; blk_point [])

/-- One row's part of the weights' gradient. -/
def dwgTerm (P : FVec Ideal S8192x4x128 .bf16) (dm : FVec Ideal S8192x512 .bf16) (sc : FVec Ideal S1x512 .f32)
    (j : S4x128x128.Idx) (l : Fin 8192) : EReal :=
  P (ix3 l (j 0) (j 1)) * (dm (ix2 l ⟨128 * (j 0).val + (j 2).val, by idx_bounds; omega⟩)
      * sc (ix2 0 ⟨128 * (j 0).val + (j 2).val, by idx_bounds; omega⟩))

/-- The gradient of the groups' weights, from the pooled groups: the sum over all rows. -/
def dwgAll (P : FVec Ideal S8192x4x128 .bf16) (dm : FVec Ideal S8192x512 .bf16) (sc : FVec Ideal S1x512 .f32) :
    FVec Ideal S4x128x128 .f32 := fun j => ∑ l : Fin 8192, dwgTerm P dm sc j l

/-- One row's part of the scale's gradient. -/
def dscTerm (P : FVec Ideal S8192x4x128 .bf16) (dm : FVec Ideal S8192x512 .bf16) (wg : FVec Ideal S4x128x128 .f32)
    (j : S1x512.Idx) (l : Fin 8192) : EReal :=
  dm (ix2 l (j 1)) * ∑ d : Fin 128, P (ix3 l ⟨(j 1).val / 128, by idx_bounds; omega⟩ d)
      * wg (ix3 ⟨(j 1).val / 128, by idx_bounds; omega⟩ d ⟨(j 1).val % 128, by omega⟩)

/-- The gradient of the scale, from the pooled groups: the sum over all rows. -/
def dscAll (P : FVec Ideal S8192x4x128 .bf16) (dm : FVec Ideal S8192x512 .bf16) (wg : FVec Ideal S4x128x128 .f32) :
    FVec Ideal S1x512 .f32 := fun j => ∑ l : Fin 8192, dscTerm P dm wg j l

/-- One block's part of the weights' gradient, at the arrays. -/
theorem dwgPart_at (c : Dev nD) (t : Fin cfg0.N) (j : S4x128x128.Idx) :
    dwgPart (iblk m c 0 t) (iblk m c 2 t) (iblk m c 4 t) j
      = ∑ k : Fin 512, dwgTerm (pooled (m ((c : Thread nD τ).loc main_arg0))) (m ((c : Thread nD τ).loc main_arg3))
          (m ((c : Thread nD τ).loc main_arg2)) j ⟨512 * t.val + k.val, by have := lt_16 t; omega⟩ := by
  unfold dwgPart dwgTerm
  refine Finset.sum_congr rfl fun k _ => ?_
  rw [pooled_at, dm_at, sc_at]
  congr 1
  generalize pooled _ = P
  blk_ext []

/-- One block's part of the scale's gradient, at the arrays. -/
theorem dscPart_at (c : Dev nD) (t : Fin cfg0.N) (j : S1x512.Idx) :
    dscPart (iblk m c 0 t) (iblk m c 2 t) (iblk m c 3 t) j
      = ∑ k : Fin 512, dscTerm (pooled (m ((c : Thread nD τ).loc main_arg0))) (m ((c : Thread nD τ).loc main_arg3))
          (m ((c : Thread nD τ).loc main_arg1)) j ⟨512 * t.val + k.val, by have := lt_16 t; omega⟩ := by
  unfold dscPart dscTerm
  refine Finset.sum_congr rfl fun k _ => ?_
  refine congrArg₂ (fun a b : EReal => a * b) (dm_at m c t _) (Finset.sum_congr rfl fun d _ => ?_)
  refine congrArg₂ (fun a b : EReal => a * b) ((pooled_at m c t _).trans ?_) (wg_at m c t _)
  generalize pooled _ = P
  blk_ext []

/-- The blocks' rows, one after another, are all the rows. -/
theorem sum_blocks (g : Fin 8192 → EReal) :
    ∑ t : Fin cfg0.N, ∑ k : Fin 512, g ⟨512 * t.val + k.val, by have := lt_16 t; omega⟩ = ∑ l : Fin 8192, g l := by
  refine (Fin.sum_points_lanes_congr (A := 1) 16 (g := fun _ l => g l) (fun t k ha hl => ?_) N_0 rfl).trans (Fin.sum_univ_one _)
  have := lt_16 t
  exact congrArg g (Fin.ext (by show 512 * t.val + k.val = t.val % 16 * 512 + k.val; omega))

/-- The weights' gradient the kernel leaves. -/
theorem final_dwg (c : Dev nD) : (dats m 0 c).arrAt 6 cfg0.N = dwgAll (pooled (m ((c : Thread nD τ).loc main_arg0)))
    (m ((c : Thread nD τ).loc main_arg3)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => (0 : EReal))
    (fun t j => dwgPart (iblk m c 0 t) (iblk m c 2 t) (iblk m c 4 t) j) (fun t h j => dwg_first m c t h j)
    (fun t h j => dwg_step m c t h j) (le_of_eq N_0) t0_15 rfl j, zero_add]
  exact (Fin.sum_fin_congr fun t => dwgPart_at m c t j).trans (sum_blocks _)

/-- The scale's gradient the kernel leaves. -/
theorem final_dsc (c : Dev nD) : (dats m 0 c).arrAt 7 cfg0.N = dscAll (pooled (m ((c : Thread nD τ).loc main_arg0)))
    (m ((c : Thread nD τ).loc main_arg3)) (m ((c : Thread nD τ).loc main_arg1)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => (0 : EReal))
    (fun t j => dscPart (iblk m c 0 t) (iblk m c 2 t) (iblk m c 3 t) j) (fun t h j => dsc_first m c t h j)
    (fun t h j => dsc_step m c t h j) (le_of_eq N_0) t0_15 rfl j, zero_add]
  exact (Fin.sum_fin_congr fun t => dscPart_at m c t j).trans (sum_blocks _)

end Cert.Proof.Pool

end
-- ==== Proof.PoolRef.lean ====
module

public import proofs.«01_k».proof.Proof.PoolSum
public import proofs.«01_k».proof.Proof.PoolAcc
public import Idealize.ShloMosaic.Lib.KernelVsHost

/-! # The pool's backward pass: what the reference computes -/

@[expose] public section

set_option maxRecDepth 16384

noncomputable section

open Idealize.ShloMosaic Idealize.ShloMosaic.TcCoe Idealize.SL.Sem
open Cert.PoolReferenceIdeal Cert.PoolReferenceIdeal.Read

namespace Cert.Proof.Pool

/-- The reference's gradient of the weights. -/
theorem ref_dwg (u : FVec Ideal S8192x512 .bf16) (sc : FVec Ideal S1x512 .f32) (dm : FVec Ideal S8192x512 .bf16) :
    val_main_v198 (F := Ideal) u sc dm = dwgAll (pooled u) dm sc := by
  funext j
  pointwise [val_main_v198, val_main_v197, val_main_v193, val_main_v192, val_main_v191, val_main_v190, val_main_v186,
    dwgAll, dwgTerm, pooled]
  generalize (val_main_v180 (F := Ideal) u : FVec Ideal S8192x4x128 .bf16) = P
  refine Finset.sum_congr rfl fun l _ => (mul_comm _ _).trans (congrArg₂ (fun a b : EReal => a * b) rfl ?_)
  refine congrArg₂ (fun a b : EReal => a * b) ?_ ?_
  all_goals blk_point []

/-- The reference's gradient of the scale. -/
theorem ref_dsc (u : FVec Ideal S8192x512 .bf16) (wg : FVec Ideal S4x128x128 .f32) (dm : FVec Ideal S8192x512 .bf16) :
    val_main_v189 (F := Ideal) u wg dm = dscAll (pooled u) dm wg := by
  funext j
  pointwise [val_main_v189, val_main_v188, val_main_v187, val_main_v186, val_main_v183, val_main_v182, val_main_v181,
    dscAll, dscTerm, pooled, val_main_cst_58]
  generalize (val_main_v180 (F := Ideal) u : FVec Ideal S8192x4x128 .bf16) = P
  refine Finset.sum_congr rfl fun l _ => (mul_comm _ _).trans
    (congrArg₂ (fun a b : EReal => a * b) rfl (Finset.sum_congr rfl fun d _ => mul_comm _ _))

/-- A shift by `b` rows as the reference writes it: a slice, and rows of the padding value after it. -/
theorem shift_at {N b : ℕ} (hN : N + b = 8192) (x : S8192x128.Idx → EReal) (z : S_.Idx → EReal)
    (hs : S8192x128.Slices ![b, 0] ⟨2, ![N, 128]⟩)
    (hp : (⟨2, ![N, 128]⟩ : Shape).Pads ![0, 0] ![b, 0] ![0, 0] S8192x128) (hu : 0 < S_.numel) (j : S8192x128.Idx) :
    pad S8192x128 ![0, 0] ![b, 0] ![0, 0] (extractStridedSlice ⟨2, ![N, 128]⟩ ![b, 0] x hs) z hp hu j
      = if h : (j 0).val + b < 8192 then x (ix2 ⟨(j 0).val + b, h⟩ (j 1)) else z (Shape.Idx.first hu) := by
  have h1 : (j 1).val < 128 := (j 1).isLt
  by_cases h : (j 0).val + b < 8192
  · rw [dif_pos h]
    refine (pad_apply_of_inside _ _ _ _ z hp hu j (ix2 (⟨(j 0).val, by omega⟩ : Fin N) (⟨(j 1).val, h1⟩ : Fin 128)) ?_).trans ?_
    · intro a
      match a with
      | ⟨0, _⟩ => show (j 0).val = 0 + (j 0).val * (0 + 1); omega
      | ⟨1, _⟩ => show (j 1).val = 0 + (j 1).val * (0 + 1); omega
    · refine congrArg x (funext fun a => Fin.ext ?_)
      match a with
      | ⟨0, _⟩ => show b + (j 0).val = (j 0).val + b; omega
      | ⟨1, _⟩ => show 0 + (j 1).val = (j 1).val; omega
  · rw [dif_neg h]
    refine pad_apply_of_not_inside _ _ _ _ z hp hu j (0 : Fin 2) ?_
    rintro ⟨_, _, h3⟩
    have : ((j 0).val - 0) / (0 + 1) < N := h3
    omega

/-- A group's columns set among the four groups': its own in place, zero elsewhere. -/
theorem place_at {lo hi : ℕ} (x : S8192x128.Idx → EReal) (z : S_.Idx → EReal)
    (hp : S8192x128.Pads ![0, lo] ![0, hi] ![0, 0] S8192x512) (hu : 0 < S_.numel) (j : S8192x512.Idx) :
    pad S8192x512 ![0, lo] ![0, hi] ![0, 0] x z hp hu j
      = if h : lo ≤ (j 1).val ∧ (j 1).val < lo + 128 then x (ix2 (j 0) ⟨(j 1).val - lo, by omega⟩)
        else z (Shape.Idx.first hu) := by
  by_cases h : lo ≤ (j 1).val ∧ (j 1).val < lo + 128
  · rw [dif_pos h]
    refine pad_apply_of_inside _ _ _ x z hp hu j (ix2 (j 0) (⟨(j 1).val - lo, by omega⟩ : Fin 128)) ?_
    intro a
    match a with
    | ⟨0, _⟩ => show (j 0).val = 0 + (j 0).val * (0 + 1); omega
    | ⟨1, _⟩ => show (j 1).val = lo + ((j 1).val - lo) * (0 + 1); omega
  · rw [dif_neg h]
    refine pad_apply_of_not_inside _ _ _ x z hp hu j (1 : Fin 2) ?_
    rintro ⟨h2, _, h3⟩
    have h2 : lo ≤ (j 1).val := h2
    have : ((j 1).val - lo) / (0 + 1) < 128 := h3
    omega

/-- The reference's gradient of the means. -/
theorem ref_mean (wg : FVec Ideal S4x128x128 .f32) (sc : FVec Ideal S1x512 .f32) (dm : FVec Ideal S8192x512 .bf16)
    (x : S8192x4x128.Idx) : val_main_v199 (F := Ideal) wg sc dm x
      = meanGrad dm sc wg (x 0) ⟨128 * (x 1).val + (x 2).val, by idx_bounds; omega⟩ := by
  pointwise [val_main_v199, val_main_v196, val_main_v195, val_main_v194, val_main_v193, val_main_v192, val_main_v191,
    val_main_v190, val_main_v186, meanGrad]
  refine Finset.sum_congr rfl fun d _ => ?_
  have h2 : (x 2).val < 128 := (x 2).isLt
  refine congrArg₂ (fun a b : EReal => a * b) (congrArg₂ (fun a b : EReal => a * b) ?_ ?_) ?_
  all_goals blk_point []

/-- The number of rows a window averages, as the reference counts it. -/
theorem ref_count (r w : ℕ) (hr : r < 8192) (hw : w < 17) :
    (FloatOps.sitofp FTy.f32 (IntOp.minsi (IntOp.addi (BitVec.ofNat 32 r) 1#32) (BitVec.ofNat 32 w)) : Ideal .f32)
      = (((min (r + 1) w : ℕ) : ℝ) : EReal) := by
  have toInt : ∀ n < 2 ^ 31, (BitVec.ofNat 32 n).toInt = (n : ℤ) := fun n h => by
    rw [BitVec.toInt_eq_toNat_of_lt (by rw [BitVec.toNat_ofNat]; omega), BitVec.toNat_ofNat, Nat.mod_eq_of_lt (by omega)]
  have e : (IntOp.minsi (IntOp.addi (BitVec.ofNat 32 r) 1#32) (BitVec.ofNat 32 w)) = BitVec.ofNat 32 (min (r + 1) w) := by
    have e1 : IntOp.addi (BitVec.ofNat 32 r) 1#32 = BitVec.ofNat 32 (r + 1) := by
      apply BitVec.eq_of_toNat_eq
      show (BitVec.ofNat 32 r + 1#32).toNat = _
      simp only [BitVec.toNat_add, BitVec.toNat_ofNat]
      omega
    rw [e1]
    show (if (BitVec.ofNat 32 (r + 1)).slt (BitVec.ofNat 32 w) then _ else _) = _
    rw [BitVec.slt, toInt _ (by omega), toInt _ (by omega)]
    by_cases hl : r + 1 < w
    · rw [if_pos (decide_eq_true (by omega)), Nat.min_eq_left (by omega)]
    · rw [if_neg (by rw [decide_eq_true_eq]; omega), Nat.min_eq_right (by omega)]
  rw [e]
  show (((BitVec.ofNat 32 (min (r + 1) w)).toInt : ℝ) : EReal) = _
  rw [toInt _ (by omega)]
  exact congrArg ((↑) : ℝ → EReal) (Int.cast_natCast _)

/-- A quotient by the number of rows is a product with its reciprocal. -/
theorem div_count (D : EReal) (g R : ℕ) :
    Ideal.div D (((min (R + 1) (2 ^ (g + 1)) : ℕ) : ℝ) : EReal) = D * recip g R := by
  have h : ((min (R + 1) (2 ^ (g + 1)) : ℕ) : ℝ) ≠ 0 := by
    have : 0 < min (R + 1) (2 ^ (g + 1)) := lt_min (by omega) (by positivity)
    exact_mod_cast this.ne'
  rw [recip, Ideal.div_coe h, Ideal.div_coe h, one_mul]

section
variable (wg : FVec Ideal S4x128x128 .f32) (sc : FVec Ideal S1x512 .f32) (dm : FVec Ideal S8192x512 .bf16)

/-- Group 0's columns of the gradient of the means. -/
theorem group0 (j : S8192x128.Idx) : val_main_v201 (F := Ideal) wg sc dm j
    = meanGrad dm sc wg (j 0) ⟨0 + (j 1).val, by idx_bounds; omega⟩ := by
  pointwise [val_main_v201, val_main_v200]
  exact (ref_mean wg sc dm _).trans (congrArg (meanGrad dm sc wg (j 0)) (Fin.ext (by show 128 * 0 + (j 1).val = (j 1).val; omega)))

/-- Group 0's gradients, over the number of rows averaged. -/
theorem quot0 (j : S8192x128.Idx) : val_main_v327 (F := Ideal) wg sc dm j
    = handed (meanGrad dm sc wg) ⟨0 + (j 1).val, by idx_bounds; omega⟩ (j 0).val := by
  have h0 : (j 0).val < 8192 := (j 0).isLt
  have h1 : (j 1).val < 128 := (j 1).isLt
  rw [val_main_v327_apply, group0, handed, dif_pos h0, show (0 + (j 1).val) / 128 = 0 by omega]
  refine Eq.trans ?_ (div_count _ 0 _)
  refine congrArg (Ideal.div _) ?_
  pointwise [val_main_v326, val_main_v13, val_main_v12, val_main_v11, val_main_v9, val_main_v7, val_main_v8, val_main_c, val_main_v10, val_main_c_1]
  exact ref_count _ 2 h0 (by omega)

/-- Group 1's columns of the gradient of the means. -/
theorem group1 (j : S8192x128.Idx) : val_main_v203 (F := Ideal) wg sc dm j
    = meanGrad dm sc wg (j 0) ⟨128 + (j 1).val, by idx_bounds; omega⟩ := by
  pointwise [val_main_v203, val_main_v202]
  exact (ref_mean wg sc dm _).trans (congrArg (meanGrad dm sc wg (j 0)) (Fin.ext (by show 128 * 1 + (j 1).val = 128 + (j 1).val; omega)))

/-- Group 1's gradients, over the number of rows averaged. -/
theorem quot1 (j : S8192x128.Idx) : val_main_v309 (F := Ideal) wg sc dm j
    = handed (meanGrad dm sc wg) ⟨128 + (j 1).val, by idx_bounds; omega⟩ (j 0).val := by
  have h0 : (j 0).val < 8192 := (j 0).isLt
  have h1 : (j 1).val < 128 := (j 1).isLt
  rw [val_main_v309_apply, group1, handed, dif_pos h0, show (128 + (j 1).val) / 128 = 1 by omega]
  refine Eq.trans ?_ (div_count _ 1 _)
  refine congrArg (Ideal.div _) ?_
  pointwise [val_main_v308, val_main_v39, val_main_v38, val_main_v37, val_main_v35, val_main_v33, val_main_v34, val_main_c_8, val_main_v36, val_main_c_9]
  exact ref_count _ 4 h0 (by omega)

/-- Group 2's columns of the gradient of the means. -/
theorem group2 (j : S8192x128.Idx) : val_main_v205 (F := Ideal) wg sc dm j
    = meanGrad dm sc wg (j 0) ⟨256 + (j 1).val, by idx_bounds; omega⟩ := by
  pointwise [val_main_v205, val_main_v204]
  exact (ref_mean wg sc dm _).trans (congrArg (meanGrad dm sc wg (j 0)) (Fin.ext (by show 128 * 2 + (j 1).val = 256 + (j 1).val; omega)))

/-- Group 2's gradients, over the number of rows averaged. -/
theorem quot2 (j : S8192x128.Idx) : val_main_v275 (F := Ideal) wg sc dm j
    = handed (meanGrad dm sc wg) ⟨256 + (j 1).val, by idx_bounds; omega⟩ (j 0).val := by
  have h0 : (j 0).val < 8192 := (j 0).isLt
  have h1 : (j 1).val < 128 := (j 1).isLt
  rw [val_main_v275_apply, group2, handed, dif_pos h0, show (256 + (j 1).val) / 128 = 2 by omega]
  refine Eq.trans ?_ (div_count _ 2 _)
  refine congrArg (Ideal.div _) ?_
  pointwise [val_main_v274, val_main_v85, val_main_v84, val_main_v83, val_main_v81, val_main_v79, val_main_v80, val_main_c_24, val_main_v82, val_main_c_25]
  exact ref_count _ 8 h0 (by omega)

/-- Group 3's columns of the gradient of the means. -/
theorem group3 (j : S8192x128.Idx) : val_main_v207 (F := Ideal) wg sc dm j
    = meanGrad dm sc wg (j 0) ⟨384 + (j 1).val, by idx_bounds; omega⟩ := by
  pointwise [val_main_v207, val_main_v206]
  exact (ref_mean wg sc dm _).trans (congrArg (meanGrad dm sc wg (j 0)) (Fin.ext (by show 128 * 3 + (j 1).val = 384 + (j 1).val; omega)))

/-- Group 3's gradients, over the number of rows averaged. -/
theorem quot3 (j : S8192x128.Idx) : val_main_v210 (F := Ideal) wg sc dm j
    = handed (meanGrad dm sc wg) ⟨384 + (j 1).val, by idx_bounds; omega⟩ (j 0).val := by
  have h0 : (j 0).val < 8192 := (j 0).isLt
  have h1 : (j 1).val < 128 := (j 1).isLt
  rw [val_main_v210_apply, group3, handed, dif_pos h0, show (384 + (j 1).val) / 128 = 3 by omega]
  refine Eq.trans ?_ (div_count _ 3 _)
  refine congrArg (Ideal.div _) ?_
  pointwise [val_main_v209, val_main_v171, val_main_v170, val_main_v169, val_main_v167, val_main_v165, val_main_v166, val_main_c_56, val_main_v168, val_main_c_57]
  exact ref_count _ 16 h0 (by omega)

/-- Group 0's gradients, shifted by `b` rows. -/
theorem shift0 {N b : ℕ} (hN : N + b = 8192) (z : S_.Idx → EReal) (hz : ∀ i, z i = 0)
    (hs : S8192x128.Slices ![b, 0] ⟨2, ![N, 128]⟩)
    (hp : (⟨2, ![N, 128]⟩ : Shape).Pads ![0, 0] ![b, 0] ![0, 0] S8192x128) (hu : 0 < S_.numel) (j : S8192x128.Idx) :
    pad S8192x128 ![0, 0] ![b, 0] ![0, 0]
        (extractStridedSlice ⟨2, ![N, 128]⟩ ![b, 0] (val_main_v327 (F := Ideal) wg sc dm) hs) z hp hu j
      = handed (meanGrad dm sc wg) ⟨0 + (j 1).val, by idx_bounds; omega⟩ ((j 0).val + b) := by
  refine (shift_at hN _ z hs hp hu j).trans ?_
  by_cases h : (j 0).val + b < 8192
  · rw [dif_pos h]
    exact quot0 wg sc dm _
  · rw [dif_neg h, hz, handed, dif_neg h]

/-- The reference's order of group 0's terms against the rows' order. -/
theorem rearrange0 (D : EReal) (f : ℕ → EReal) (r : ℕ) :
    -D + f r + f (r + 1)
      = f r + f (r + 1) - D := by
  rw [sub_eq_add_neg]
  generalize -D = E
  abel

/-- Group 0's part of the gradient: the windows' sum less the row's own gradient. -/
theorem sum0 (j : S8192x128.Idx) : val_main_v332 (F := Ideal) wg sc dm j
    = (∑ b ∈ Finset.range (2 ^ (0 + 1)), handed (meanGrad dm sc wg) ⟨0 + (j 1).val, by idx_bounds; omega⟩ ((j 0).val + b))
      - meanGrad dm sc wg (j 0) ⟨0 + (j 1).val, by idx_bounds; omega⟩ := by
  rw [val_main_v332_apply, val_main_v328_apply, val_main_v325_apply]
  rw [show val_main_v331 (F := Ideal) wg sc dm j
      = handed (meanGrad dm sc wg) ⟨0 + (j 1).val, by idx_bounds; omega⟩ ((j 0).val + 1) by
    unfold val_main_v331 val_main_v330
    exact shift0 wg sc dm (N := 8191) (b := 1) rfl _ (fun _ => by pointwise [val_main_cst_87]) _ _ _ j]
  rw [quot0]
  rw [group0]
  simp only [Nat.reduceAdd, Nat.reducePow, Finset.sum_range_succ, Finset.sum_range_zero, Nat.add_zero, zero_add]
  exact rearrange0 _ _ _
/-- Group 1's gradients, shifted by `b` rows. -/
theorem shift1 {N b : ℕ} (hN : N + b = 8192) (z : S_.Idx → EReal) (hz : ∀ i, z i = 0)
    (hs : S8192x128.Slices ![b, 0] ⟨2, ![N, 128]⟩)
    (hp : (⟨2, ![N, 128]⟩ : Shape).Pads ![0, 0] ![b, 0] ![0, 0] S8192x128) (hu : 0 < S_.numel) (j : S8192x128.Idx) :
    pad S8192x128 ![0, 0] ![b, 0] ![0, 0]
        (extractStridedSlice ⟨2, ![N, 128]⟩ ![b, 0] (val_main_v309 (F := Ideal) wg sc dm) hs) z hp hu j
      = handed (meanGrad dm sc wg) ⟨128 + (j 1).val, by idx_bounds; omega⟩ ((j 0).val + b) := by
  refine (shift_at hN _ z hs hp hu j).trans ?_
  by_cases h : (j 0).val + b < 8192
  · rw [dif_pos h]
    exact quot1 wg sc dm _
  · rw [dif_neg h, hz, handed, dif_neg h]

/-- The reference's order of group 1's terms against the rows' order. -/
theorem rearrange1 (D : EReal) (f : ℕ → EReal) (r : ℕ) :
    -D + f (r + 3) + f (r + 2) + f r + f (r + 1)
      = f r + f (r + 1) + f (r + 2) + f (r + 3) - D := by
  rw [sub_eq_add_neg]
  generalize -D = E
  abel

/-- Group 1's part of the gradient: the windows' sum less the row's own gradient. -/
theorem sum1 (j : S8192x128.Idx) : val_main_v322 (F := Ideal) wg sc dm j
    = (∑ b ∈ Finset.range (2 ^ (1 + 1)), handed (meanGrad dm sc wg) ⟨128 + (j 1).val, by idx_bounds; omega⟩ ((j 0).val + b))
      - meanGrad dm sc wg (j 0) ⟨128 + (j 1).val, by idx_bounds; omega⟩ := by
  rw [val_main_v322_apply, val_main_v318_apply, val_main_v317_apply, val_main_v313_apply, val_main_v307_apply]
  rw [show val_main_v321 (F := Ideal) wg sc dm j
      = handed (meanGrad dm sc wg) ⟨128 + (j 1).val, by idx_bounds; omega⟩ ((j 0).val + 1) by
    unfold val_main_v321 val_main_v320
    exact shift1 wg sc dm (N := 8191) (b := 1) rfl _ (fun _ => by pointwise [val_main_cst_85]) _ _ _ j]
  rw [quot1]
  rw [show val_main_v316 (F := Ideal) wg sc dm j
      = handed (meanGrad dm sc wg) ⟨128 + (j 1).val, by idx_bounds; omega⟩ ((j 0).val + 2) by
    unfold val_main_v316 val_main_v315
    exact shift1 wg sc dm (N := 8190) (b := 2) rfl _ (fun _ => by pointwise [val_main_cst_84]) _ _ _ j]
  rw [show val_main_v312 (F := Ideal) wg sc dm j
      = handed (meanGrad dm sc wg) ⟨128 + (j 1).val, by idx_bounds; omega⟩ ((j 0).val + 3) by
    unfold val_main_v312 val_main_v311
    exact shift1 wg sc dm (N := 8189) (b := 3) rfl _ (fun _ => by pointwise [val_main_cst_83]) _ _ _ j]
  rw [group1]
  simp only [Nat.reduceAdd, Nat.reducePow, Finset.sum_range_succ, Finset.sum_range_zero, Nat.add_zero, zero_add]
  exact rearrange1 _ _ _
/-- Group 2's gradients, shifted by `b` rows. -/
theorem shift2 {N b : ℕ} (hN : N + b = 8192) (z : S_.Idx → EReal) (hz : ∀ i, z i = 0)
    (hs : S8192x128.Slices ![b, 0] ⟨2, ![N, 128]⟩)
    (hp : (⟨2, ![N, 128]⟩ : Shape).Pads ![0, 0] ![b, 0] ![0, 0] S8192x128) (hu : 0 < S_.numel) (j : S8192x128.Idx) :
    pad S8192x128 ![0, 0] ![b, 0] ![0, 0]
        (extractStridedSlice ⟨2, ![N, 128]⟩ ![b, 0] (val_main_v275 (F := Ideal) wg sc dm) hs) z hp hu j
      = handed (meanGrad dm sc wg) ⟨256 + (j 1).val, by idx_bounds; omega⟩ ((j 0).val + b) := by
  refine (shift_at hN _ z hs hp hu j).trans ?_
  by_cases h : (j 0).val + b < 8192
  · rw [dif_pos h]
    exact quot2 wg sc dm _
  · rw [dif_neg h, hz, handed, dif_neg h]

/-- The reference's order of group 2's terms against the rows' order. -/
theorem rearrange2 (D : EReal) (f : ℕ → EReal) (r : ℕ) :
    -D + f (r + 7) + f (r + 6) + f (r + 5) + f (r + 4) + f (r + 3) + f (r + 2) + f r + f (r + 1)
      = f r + f (r + 1) + f (r + 2) + f (r + 3) + f (r + 4) + f (r + 5) + f (r + 6) + f (r + 7) - D := by
  rw [sub_eq_add_neg]
  generalize -D = E
  abel

/-- Group 2's part of the gradient: the windows' sum less the row's own gradient. -/
theorem sum2 (j : S8192x128.Idx) : val_main_v304 (F := Ideal) wg sc dm j
    = (∑ b ∈ Finset.range (2 ^ (2 + 1)), handed (meanGrad dm sc wg) ⟨256 + (j 1).val, by idx_bounds; omega⟩ ((j 0).val + b))
      - meanGrad dm sc wg (j 0) ⟨256 + (j 1).val, by idx_bounds; omega⟩ := by
  rw [val_main_v304_apply, val_main_v300_apply, val_main_v299_apply, val_main_v295_apply, val_main_v291_apply, val_main_v287_apply, val_main_v283_apply, val_main_v279_apply, val_main_v273_apply]
  rw [show val_main_v303 (F := Ideal) wg sc dm j
      = handed (meanGrad dm sc wg) ⟨256 + (j 1).val, by idx_bounds; omega⟩ ((j 0).val + 1) by
    unfold val_main_v303 val_main_v302
    exact shift2 wg sc dm (N := 8191) (b := 1) rfl _ (fun _ => by pointwise [val_main_cst_81]) _ _ _ j]
  rw [quot2]
  rw [show val_main_v298 (F := Ideal) wg sc dm j
      = handed (meanGrad dm sc wg) ⟨256 + (j 1).val, by idx_bounds; omega⟩ ((j 0).val + 2) by
    unfold val_main_v298 val_main_v297
    exact shift2 wg sc dm (N := 8190) (b := 2) rfl _ (fun _ => by pointwise [val_main_cst_80]) _ _ _ j]
  rw [show val_main_v294 (F := Ideal) wg sc dm j
      = handed (meanGrad dm sc wg) ⟨256 + (j 1).val, by idx_bounds; omega⟩ ((j 0).val + 3) by
    unfold val_main_v294 val_main_v293
    exact shift2 wg sc dm (N := 8189) (b := 3) rfl _ (fun _ => by pointwise [val_main_cst_79]) _ _ _ j]
  rw [show val_main_v290 (F := Ideal) wg sc dm j
      = handed (meanGrad dm sc wg) ⟨256 + (j 1).val, by idx_bounds; omega⟩ ((j 0).val + 4) by
    unfold val_main_v290 val_main_v289
    exact shift2 wg sc dm (N := 8188) (b := 4) rfl _ (fun _ => by pointwise [val_main_cst_78]) _ _ _ j]
  rw [show val_main_v286 (F := Ideal) wg sc dm j
      = handed (meanGrad dm sc wg) ⟨256 + (j 1).val, by idx_bounds; omega⟩ ((j 0).val + 5) by
    unfold val_main_v286 val_main_v285
    exact shift2 wg sc dm (N := 8187) (b := 5) rfl _ (fun _ => by pointwise [val_main_cst_77]) _ _ _ j]
  rw [show val_main_v282 (F := Ideal) wg sc dm j
      = handed (meanGrad dm sc wg) ⟨256 + (j 1).val, by idx_bounds; omega⟩ ((j 0).val + 6) by
    unfold val_main_v282 val_main_v281
    exact shift2 wg sc dm (N := 8186) (b := 6) rfl _ (fun _ => by pointwise [val_main_cst_76]) _ _ _ j]
  rw [show val_main_v278 (F := Ideal) wg sc dm j
      = handed (meanGrad dm sc wg) ⟨256 + (j 1).val, by idx_bounds; omega⟩ ((j 0).val + 7) by
    unfold val_main_v278 val_main_v277
    exact shift2 wg sc dm (N := 8185) (b := 7) rfl _ (fun _ => by pointwise [val_main_cst_75]) _ _ _ j]
  rw [group2]
  simp only [Nat.reduceAdd, Nat.reducePow, Finset.sum_range_succ, Finset.sum_range_zero, Nat.add_zero, zero_add]
  exact rearrange2 _ _ _
/-- Group 3's gradients, shifted by `b` rows. -/
theorem shift3 {N b : ℕ} (hN : N + b = 8192) (z : S_.Idx → EReal) (hz : ∀ i, z i = 0)
    (hs : S8192x128.Slices ![b, 0] ⟨2, ![N, 128]⟩)
    (hp : (⟨2, ![N, 128]⟩ : Shape).Pads ![0, 0] ![b, 0] ![0, 0] S8192x128) (hu : 0 < S_.numel) (j : S8192x128.Idx) :
    pad S8192x128 ![0, 0] ![b, 0] ![0, 0]
        (extractStridedSlice ⟨2, ![N, 128]⟩ ![b, 0] (val_main_v210 (F := Ideal) wg sc dm) hs) z hp hu j
      = handed (meanGrad dm sc wg) ⟨384 + (j 1).val, by idx_bounds; omega⟩ ((j 0).val + b) := by
  refine (shift_at hN _ z hs hp hu j).trans ?_
  by_cases h : (j 0).val + b < 8192
  · rw [dif_pos h]
    exact quot3 wg sc dm _
  · rw [dif_neg h, hz, handed, dif_neg h]

/-- The reference's order of group 3's terms against the rows' order. -/
theorem rearrange3 (D : EReal) (f : ℕ → EReal) (r : ℕ) :
    -D + f (r + 15) + f (r + 14) + f (r + 13) + f (r + 12) + f (r + 11) + f (r + 10) + f (r + 9) + f (r + 8) + f (r + 7) + f (r + 6) + f (r + 5) + f (r + 4) + f (r + 3) + f (r + 2) + f r + f (r + 1)
      = f r + f (r + 1) + f (r + 2) + f (r + 3) + f (r + 4) + f (r + 5) + f (r + 6) + f (r + 7) + f (r + 8) + f (r + 9) + f (r + 10) + f (r + 11) + f (r + 12) + f (r + 13) + f (r + 14) + f (r + 15) - D := by
  rw [sub_eq_add_neg]
  generalize -D = E
  abel

/-- Group 3's part of the gradient: the windows' sum less the row's own gradient. -/
theorem sum3 (j : S8192x128.Idx) : val_main_v271 (F := Ideal) wg sc dm j
    = (∑ b ∈ Finset.range (2 ^ (3 + 1)), handed (meanGrad dm sc wg) ⟨384 + (j 1).val, by idx_bounds; omega⟩ ((j 0).val + b))
      - meanGrad dm sc wg (j 0) ⟨384 + (j 1).val, by idx_bounds; omega⟩ := by
  rw [val_main_v271_apply, val_main_v267_apply, val_main_v266_apply, val_main_v262_apply, val_main_v258_apply, val_main_v254_apply, val_main_v250_apply, val_main_v246_apply, val_main_v242_apply, val_main_v238_apply, val_main_v234_apply, val_main_v230_apply, val_main_v226_apply, val_main_v222_apply, val_main_v218_apply, val_main_v214_apply, val_main_v208_apply]
  rw [show val_main_v270 (F := Ideal) wg sc dm j
      = handed (meanGrad dm sc wg) ⟨384 + (j 1).val, by idx_bounds; omega⟩ ((j 0).val + 1) by
    unfold val_main_v270 val_main_v269
    exact shift3 wg sc dm (N := 8191) (b := 1) rfl _ (fun _ => by pointwise [val_main_cst_73]) _ _ _ j]
  rw [quot3]
  rw [show val_main_v265 (F := Ideal) wg sc dm j
      = handed (meanGrad dm sc wg) ⟨384 + (j 1).val, by idx_bounds; omega⟩ ((j 0).val + 2) by
    unfold val_main_v265 val_main_v264
    exact shift3 wg sc dm (N := 8190) (b := 2) rfl _ (fun _ => by pointwise [val_main_cst_72]) _ _ _ j]
  rw [show val_main_v261 (F := Ideal) wg sc dm j
      = handed (meanGrad dm sc wg) ⟨384 + (j 1).val, by idx_bounds; omega⟩ ((j 0).val + 3) by
    unfold val_main_v261 val_main_v260
    exact shift3 wg sc dm (N := 8189) (b := 3) rfl _ (fun _ => by pointwise [val_main_cst_71]) _ _ _ j]
  rw [show val_main_v257 (F := Ideal) wg sc dm j
      = handed (meanGrad dm sc wg) ⟨384 + (j 1).val, by idx_bounds; omega⟩ ((j 0).val + 4) by
    unfold val_main_v257 val_main_v256
    exact shift3 wg sc dm (N := 8188) (b := 4) rfl _ (fun _ => by pointwise [val_main_cst_70]) _ _ _ j]
  rw [show val_main_v253 (F := Ideal) wg sc dm j
      = handed (meanGrad dm sc wg) ⟨384 + (j 1).val, by idx_bounds; omega⟩ ((j 0).val + 5) by
    unfold val_main_v253 val_main_v252
    exact shift3 wg sc dm (N := 8187) (b := 5) rfl _ (fun _ => by pointwise [val_main_cst_69]) _ _ _ j]
  rw [show val_main_v249 (F := Ideal) wg sc dm j
      = handed (meanGrad dm sc wg) ⟨384 + (j 1).val, by idx_bounds; omega⟩ ((j 0).val + 6) by
    unfold val_main_v249 val_main_v248
    exact shift3 wg sc dm (N := 8186) (b := 6) rfl _ (fun _ => by pointwise [val_main_cst_68]) _ _ _ j]
  rw [show val_main_v245 (F := Ideal) wg sc dm j
      = handed (meanGrad dm sc wg) ⟨384 + (j 1).val, by idx_bounds; omega⟩ ((j 0).val + 7) by
    unfold val_main_v245 val_main_v244
    exact shift3 wg sc dm (N := 8185) (b := 7) rfl _ (fun _ => by pointwise [val_main_cst_67]) _ _ _ j]
  rw [show val_main_v241 (F := Ideal) wg sc dm j
      = handed (meanGrad dm sc wg) ⟨384 + (j 1).val, by idx_bounds; omega⟩ ((j 0).val + 8) by
    unfold val_main_v241 val_main_v240
    exact shift3 wg sc dm (N := 8184) (b := 8) rfl _ (fun _ => by pointwise [val_main_cst_66]) _ _ _ j]
  rw [show val_main_v237 (F := Ideal) wg sc dm j
      = handed (meanGrad dm sc wg) ⟨384 + (j 1).val, by idx_bounds; omega⟩ ((j 0).val + 9) by
    unfold val_main_v237 val_main_v236
    exact shift3 wg sc dm (N := 8183) (b := 9) rfl _ (fun _ => by pointwise [val_main_cst_65]) _ _ _ j]
  rw [show val_main_v233 (F := Ideal) wg sc dm j
      = handed (meanGrad dm sc wg) ⟨384 + (j 1).val, by idx_bounds; omega⟩ ((j 0).val + 10) by
    unfold val_main_v233 val_main_v232
    exact shift3 wg sc dm (N := 8182) (b := 10) rfl _ (fun _ => by pointwise [val_main_cst_64]) _ _ _ j]
  rw [show val_main_v229 (F := Ideal) wg sc dm j
      = handed (meanGrad dm sc wg) ⟨384 + (j 1).val, by idx_bounds; omega⟩ ((j 0).val + 11) by
    unfold val_main_v229 val_main_v228
    exact shift3 wg sc dm (N := 8181) (b := 11) rfl _ (fun _ => by pointwise [val_main_cst_63]) _ _ _ j]
  rw [show val_main_v225 (F := Ideal) wg sc dm j
      = handed (meanGrad dm sc wg) ⟨384 + (j 1).val, by idx_bounds; omega⟩ ((j 0).val + 12) by
    unfold val_main_v225 val_main_v224
    exact shift3 wg sc dm (N := 8180) (b := 12) rfl _ (fun _ => by pointwise [val_main_cst_62]) _ _ _ j]
  rw [show val_main_v221 (F := Ideal) wg sc dm j
      = handed (meanGrad dm sc wg) ⟨384 + (j 1).val, by idx_bounds; omega⟩ ((j 0).val + 13) by
    unfold val_main_v221 val_main_v220
    exact shift3 wg sc dm (N := 8179) (b := 13) rfl _ (fun _ => by pointwise [val_main_cst_61]) _ _ _ j]
  rw [show val_main_v217 (F := Ideal) wg sc dm j
      = handed (meanGrad dm sc wg) ⟨384 + (j 1).val, by idx_bounds; omega⟩ ((j 0).val + 14) by
    unfold val_main_v217 val_main_v216
    exact shift3 wg sc dm (N := 8178) (b := 14) rfl _ (fun _ => by pointwise [val_main_cst_60]) _ _ _ j]
  rw [show val_main_v213 (F := Ideal) wg sc dm j
      = handed (meanGrad dm sc wg) ⟨384 + (j 1).val, by idx_bounds; omega⟩ ((j 0).val + 15) by
    unfold val_main_v213 val_main_v212
    exact shift3 wg sc dm (N := 8177) (b := 15) rfl _ (fun _ => by pointwise [val_main_cst_59]) _ _ _ j]
  rw [group3]
  simp only [Nat.reduceAdd, Nat.reducePow, Finset.sum_range_succ, Finset.sum_range_zero, Nat.add_zero, zero_add]
  exact rearrange3 _ _ _
/-- The reference's gradient of the pooled activation. -/
theorem ref_du : val_main_v335 (F := Ideal) wg sc dm = duAll dm sc wg := by
  funext j
  have h1 : (j 1).val < 512 := (j 1).isLt
  rw [val_main_v335_apply, val_main_v334_apply, val_main_v324_apply, val_main_v306_apply]
  rw [show val_main_v333 (F := Ideal) wg sc dm j = _ from place_at (lo := 0) (hi := 384) _ _ _ _ j,
    show val_main_v323 (F := Ideal) wg sc dm j = _ from place_at (lo := 128) (hi := 256) _ _ _ _ j,
    show val_main_v305 (F := Ideal) wg sc dm j = _ from place_at (lo := 256) (hi := 128) _ _ _ _ j,
    show val_main_v272 (F := Ideal) wg sc dm j = _ from place_at (lo := 384) (hi := 0) _ _ _ _ j]
  rw [show val_main_cst_88 (F := Ideal) = fun _ => (0 : EReal) by funext i; pointwise [val_main_cst_88],
    show val_main_cst_86 (F := Ideal) = fun _ => (0 : EReal) by funext i; pointwise [val_main_cst_86],
    show val_main_cst_82 (F := Ideal) = fun _ => (0 : EReal) by funext i; pointwise [val_main_cst_82],
    show val_main_cst_74 (F := Ideal) = fun _ => (0 : EReal) by funext i; pointwise [val_main_cst_74]]
  have key : ∀ n : Fin 512, n.val = (j 1).val → ∀ g, g = (j 1).val / 128 →
      (∑ b ∈ Finset.range (2 ^ (g + 1)), handed (meanGrad dm sc wg) n ((j 0).val + b)) - meanGrad dm sc wg (j 0) n
        = duAll dm sc wg j := by
    intro n hn g hg
    obtain rfl : n = j 1 := Fin.ext hn
    subst hg
    rfl
  simp only [sum0, sum1, sum2, sum3]
  rcases Nat.lt_or_ge (j 1).val 128 with hc | hc
  · rw [dif_neg (by omega), dif_neg (by omega), dif_neg (by omega), dif_pos (by omega)]
    change (((0 : EReal) + 0) + 0) + _ = _
    rw [zero_add, zero_add, zero_add]
    exact key _ (by show 0 + ((j 1).val - 0) = (j 1).val; omega) 0 (by omega)
  rcases Nat.lt_or_ge (j 1).val 256 with hd | hd
  · rw [dif_neg (by omega), dif_neg (by omega), dif_pos (by omega), dif_neg (by omega)]
    change (((0 : EReal) + 0) + _) + 0 = _
    rw [zero_add, zero_add, add_zero]
    exact key _ (by show 128 + ((j 1).val - 128) = (j 1).val; omega) 1 (by omega)
  rcases Nat.lt_or_ge (j 1).val 384 with he | he
  · rw [dif_neg (by omega), dif_pos (by omega), dif_neg (by omega), dif_neg (by omega)]
    change (((0 : EReal) + _) + 0) + 0 = _
    rw [zero_add, add_zero, add_zero]
    exact key _ (by show 256 + ((j 1).val - 256) = (j 1).val; omega) 2 (by omega)
  · rw [dif_pos (by omega), dif_neg (by omega), dif_neg (by omega), dif_neg (by omega)]
    change (((_ : EReal) + 0) + 0) + 0 = _
    rw [add_zero, add_zero, add_zero]
    exact key _ (by show 384 + ((j 1).val - 384) = (j 1).val; omega) 3 (by omega)
end

end Cert.Proof.Pool

end
-- ==== Proof.PoolDu.lean ====
module

public import proofs.«01_k».proof.Proof.PoolBlocks
public import Idealize.ShloMosaic.Lib.Pipeline.ReadBack

/-! # The pool's backward pass: the gradient of the pooled activation, block by block

A window's mean spreads each row's gradient over the rows it averaged, so the gradient of row `r` sums the scaled
gradients of rows `r, r + 1, …` up to the window's width. The kernel doubles: sums over two rows, then four, eight and
sixteen, through scratch arrays that carry the block's 512 rows and the 32 rows after it. -/

@[expose] public section

set_option maxRecDepth 16384

noncomputable section

open Idealize.ShloMosaic Idealize.ShloMosaic.TcCoe Idealize.SL.Sem
open Cert.PoolKernelIdeal Cert.PoolKernelIdeal.Gen

namespace Cert.Proof.Pool

variable (m : (ℓ : Loc nD τ sig) → Buf (Elt Ideal) ℓ)

/-- A load inside the last store's rectangle reads that store's payload, at the load's place in it. -/
theorem readCov_within {sp : Space} (v : View sig .tc sp S544x512 .f32) {a b p q a' b' p' q' : ℕ}
    (inb : ∀ i, (![a, b] : Fin 2 → ℕ) i + (![p, q] : Fin 2 → ℕ) i ≤ S544x512.size i)
    (w : (Rect.unit (s := S544x512) ![a, b] ![p, q] inb).shape.Idx → Elt Ideal .f32)
    (L : List (View.Piece (Elt Ideal) S544x512 .f32))
    (inb' : ∀ i, (![a', b'] : Fin 2 → ℕ) i + (![p', q'] : Fin 2 → ℕ) i ≤ S544x512.size i)
    (h : a ≤ a' ∧ a' + p' ≤ a + p ∧ b ≤ b' ∧ b' + q' ≤ b + q) :
    v.readCov (⟨Rect.unit (s := S544x512) ![a, b] ![p, q] inb, w⟩ :: L)
        (Rect.unit (s := S544x512) ![a', b'] ![p', q'] inb').toLoadRect
      = fun j => w (ix2 (⟨a' - a + (j 0).val, by have := (j 0).isLt; change (j 0).val < p' at this; omega⟩ : Fin p)
          (⟨b' - b + (j 1).val, by have := (j 1).isLt; change (j 1).val < q' at this; omega⟩ : Fin q)) := by
  rw [View.readCov_eq_canon']
  funext j
  refine (congrArg _ ?_).trans (View.canon_cons_emb (Rect.unit (s := S544x512) ![a, b] ![p, q] inb) w L _)
  funext i
  have h0 : (j 0).val < p' := (j 0).isLt
  have h1 : (j 1).val < q' := (j 1).isLt
  match i with
  | ⟨0, _⟩ => exact Fin.ext (by show a' + 1 * (j 0).val = a + 1 * (a' - a + (j 0).val); omega)
  | ⟨1, _⟩ => exact Fin.ext (by show b' + 1 * (j 1).val = b + 1 * (b' - b + (j 1).val); omega)

/-- Eight stores whose every entry is `C`'s leave `C`. -/
theorem canon_eight (C : S544x512.Idx → EReal) {p₁ p₂ p₃ p₄ p₅ p₆ p₇ p₈ : View.Piece (Elt Ideal) S544x512 .f32}
    (h : ∀ y, View.canon [p₁, p₂, p₃, p₄, p₅, p₆, p₇, p₈] y = C y) :
    View.canon [p₁, p₂, p₃, p₄, p₅, p₆, p₇, p₈] = C := funext h

/-- The eight stores into a scratch array, a block's rows and the rows after it in each group's columns, cover it. -/
theorem cover_eight (y : S544x512.Idx)
    (i1 : ∀ a, (![512, 384] : Fin 2 → ℕ) a + (![32, 128] : Fin 2 → ℕ) a ≤ S544x512.size a)
    (w1 : (Rect.unit (s := S544x512) ![512, 384] ![32, 128] i1).shape.Idx → Elt Ideal .f32)
    (i2 : ∀ a, (![0, 384] : Fin 2 → ℕ) a + (![512, 128] : Fin 2 → ℕ) a ≤ S544x512.size a)
    (w2 : (Rect.unit (s := S544x512) ![0, 384] ![512, 128] i2).shape.Idx → Elt Ideal .f32)
    (i3 : ∀ a, (![512, 256] : Fin 2 → ℕ) a + (![32, 128] : Fin 2 → ℕ) a ≤ S544x512.size a)
    (w3 : (Rect.unit (s := S544x512) ![512, 256] ![32, 128] i3).shape.Idx → Elt Ideal .f32)
    (i4 : ∀ a, (![0, 256] : Fin 2 → ℕ) a + (![512, 128] : Fin 2 → ℕ) a ≤ S544x512.size a)
    (w4 : (Rect.unit (s := S544x512) ![0, 256] ![512, 128] i4).shape.Idx → Elt Ideal .f32)
    (i5 : ∀ a, (![512, 128] : Fin 2 → ℕ) a + (![32, 128] : Fin 2 → ℕ) a ≤ S544x512.size a)
    (w5 : (Rect.unit (s := S544x512) ![512, 128] ![32, 128] i5).shape.Idx → Elt Ideal .f32)
    (i6 : ∀ a, (![0, 128] : Fin 2 → ℕ) a + (![512, 128] : Fin 2 → ℕ) a ≤ S544x512.size a)
    (w6 : (Rect.unit (s := S544x512) ![0, 128] ![512, 128] i6).shape.Idx → Elt Ideal .f32)
    (i7 : ∀ a, (![512, 0] : Fin 2 → ℕ) a + (![32, 128] : Fin 2 → ℕ) a ≤ S544x512.size a)
    (w7 : (Rect.unit (s := S544x512) ![512, 0] ![32, 128] i7).shape.Idx → Elt Ideal .f32)
    (i8 : ∀ a, (![0, 0] : Fin 2 → ℕ) a + (![512, 128] : Fin 2 → ℕ) a ≤ S544x512.size a)
    (w8 : (Rect.unit (s := S544x512) ![0, 0] ![512, 128] i8).shape.Idx → Elt Ideal .f32) :
    ∃ p ∈ ([⟨Rect.unit (s := S544x512) ![512, 384] ![32, 128] i1, w1⟩,
      ⟨Rect.unit (s := S544x512) ![0, 384] ![512, 128] i2, w2⟩,
      ⟨Rect.unit (s := S544x512) ![512, 256] ![32, 128] i3, w3⟩,
      ⟨Rect.unit (s := S544x512) ![0, 256] ![512, 128] i4, w4⟩,
      ⟨Rect.unit (s := S544x512) ![512, 128] ![32, 128] i5, w5⟩,
      ⟨Rect.unit (s := S544x512) ![0, 128] ![512, 128] i6, w6⟩,
      ⟨Rect.unit (s := S544x512) ![512, 0] ![32, 128] i7, w7⟩,
      ⟨Rect.unit (s := S544x512) ![0, 0] ![512, 128] i8, w8⟩] : List (View.Piece (Elt Ideal) S544x512 .f32)), y ∈ p.1.set := by
  have h0 : (y 0).val < 544 := (y 0).isLt
  have h1 : (y 1).val < 512 := (y 1).isLt
  have key : ∀ (r c n : ℕ) (i : ∀ a, (![r, c] : Fin 2 → ℕ) a + (![n, 128] : Fin 2 → ℕ) a ≤ S544x512.size a),
      r ≤ (y 0).val → (y 0).val < r + n → c ≤ (y 1).val → (y 1).val < c + 128 →
      y ∈ (Rect.unit (s := S544x512) ![r, c] ![n, 128] i).set := fun r c n i ha hb hc hd =>
    Rect.mem_set_unit.mpr fun a => match a with
      | ⟨0, _⟩ => ⟨ha, hb⟩
      | ⟨1, _⟩ => ⟨hc, hd⟩
  rcases Nat.lt_or_ge (y 0).val 512 with hr | hr
  · rcases Nat.lt_or_ge (y 1).val 128 with hc | hc
    · exact ⟨⟨_, w8⟩, by simp, key _ _ _ i8 (by omega) (by omega) (by omega) (by omega)⟩
    rcases Nat.lt_or_ge (y 1).val 256 with hc' | hc'
    · exact ⟨⟨_, w6⟩, by simp, key _ _ _ i6 (by omega) (by omega) (by omega) (by omega)⟩
    rcases Nat.lt_or_ge (y 1).val 384 with hd | hd
    · exact ⟨⟨_, w4⟩, by simp, key _ _ _ i4 (by omega) (by omega) (by omega) (by omega)⟩
    · exact ⟨⟨_, w2⟩, by simp, key _ _ _ i2 (by omega) (by omega) (by omega) (by omega)⟩
  · rcases Nat.lt_or_ge (y 1).val 128 with hc | hc
    · exact ⟨⟨_, w7⟩, by simp, key _ _ _ i7 (by omega) (by omega) (by omega) (by omega)⟩
    rcases Nat.lt_or_ge (y 1).val 256 with hc' | hc'
    · exact ⟨⟨_, w5⟩, by simp, key _ _ _ i5 (by omega) (by omega) (by omega) (by omega)⟩
    rcases Nat.lt_or_ge (y 1).val 384 with hd | hd
    · exact ⟨⟨_, w3⟩, by simp, key _ _ _ i3 (by omega) (by omega) (by omega) (by omega)⟩
    · exact ⟨⟨_, w1⟩, by simp, key _ _ _ i1 (by omega) (by omega) (by omega) (by omega)⟩

/-- The reciprocal of the number of rows a window of group `g` averages at row `r` of block `t`. -/
def inv (t g r : ℕ) : EReal := Ideal.div 1 (((min (512 * t + r + 1) (2 ^ (g + 1)) : ℕ) : ℝ) : EReal)

theorem coords_eq (t : Fin cfg0.N) : (grid0.coords t 0).val = t.val :=
  (by decide +kernel : ∀ t : Fin grid0.N, (grid0.coords t 0).val = t.val) t

theorem toInt_ofNat_of_lt {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

/-- The smaller of a row's number and a window's width, as the kernel counts it. -/
theorem count_eq (t r w : ℕ) (ht : t < 16) (hr : r < 544) (hw : w < 17) :
    (FloatOps.sitofp FTy.f32 (IntOp.minsi (IntOp.addi (IntOp.addi (BitVec.ofNat 32 r)
      (Scalar.muli (BitVec.ofNat 32 t) 512#32)) 1#32) (BitVec.ofNat 32 w)) : Ideal .f32)
      = (((min (512 * t + r + 1) w : ℕ) : ℝ) : EReal) := by
  have e : (IntOp.minsi (IntOp.addi (IntOp.addi (BitVec.ofNat 32 r)
      (Scalar.muli (BitVec.ofNat 32 t) 512#32)) 1#32) (BitVec.ofNat 32 w)) = BitVec.ofNat 32 (min (512 * t + r + 1) w) := by
    have e1 : IntOp.addi (IntOp.addi (BitVec.ofNat 32 r) (Scalar.muli (BitVec.ofNat 32 t) 512#32)) 1#32
        = BitVec.ofNat 32 (512 * t + r + 1) := by
      apply BitVec.eq_of_toNat_eq
      show ((BitVec.ofNat 32 r + BitVec.ofNat 32 t * 512#32) + 1#32).toNat = _
      simp only [BitVec.toNat_add, BitVec.toNat_mul, BitVec.toNat_ofNat]
      omega
    rw [e1]
    have t1 : (BitVec.ofNat 32 (512 * t + r + 1)).toInt = ((512 * t + r + 1 : ℕ) : ℤ) := toInt_ofNat_of_lt (by omega)
    have t2 : (BitVec.ofNat 32 w).toInt = (w : ℤ) := toInt_ofNat_of_lt (by omega)
    show (if (BitVec.ofNat 32 (512 * t + r + 1)).slt (BitVec.ofNat 32 w) then _ else _) = _
    rw [BitVec.slt, t1, t2]
    by_cases hl : 512 * t + r + 1 < w
    · rw [if_pos (decide_eq_true (by omega)), Nat.min_eq_left (by omega)]
    · rw [if_neg (by rw [decide_eq_true_eq]; omega), Nat.min_eq_right (by omega)]
  rw [e]
  show (((BitVec.ofNat 32 (min (512 * t + r + 1) w)).toInt : ℝ) : EReal) = _
  rw [toInt_ofNat_of_lt (by omega)]
  norm_cast

theorem pay4_eq (t : Fin cfg0.N) : k0_pay4 (F := Ideal) (grid0.coords t) = fun x => inv t.val 0 (x 0).val := by
  funext x
  pointwise [k0_pay4, k0_pay3, inv]
  rw [coords_eq]
  exact congrArg (Ideal.div 1) (count_eq _ _ 2 (lt_16 t) (x 0).isLt (by omega))

theorem pay5_eq (t : Fin cfg0.N) : k0_pay5 (F := Ideal) (grid0.coords t) = fun x => inv t.val 1 (x 0).val := by
  funext x
  pointwise [k0_pay5, k0_pay3, inv]
  rw [coords_eq]
  exact congrArg (Ideal.div 1) (count_eq _ _ 4 (lt_16 t) (x 0).isLt (by omega))

theorem pay6_eq (t : Fin cfg0.N) : k0_pay6 (F := Ideal) (grid0.coords t) = fun x => inv t.val 2 (x 0).val := by
  funext x
  pointwise [k0_pay6, k0_pay3, inv]
  rw [coords_eq]
  exact congrArg (Ideal.div 1) (count_eq _ _ 8 (lt_16 t) (x 0).isLt (by omega))

theorem pay7_eq (t : Fin cfg0.N) : k0_pay7 (F := Ideal) (grid0.coords t) = fun x => inv t.val 3 (x 0).val := by
  funext x
  pointwise [k0_pay7, k0_pay3, inv]
  rw [coords_eq]
  exact congrArg (Ideal.div 1) (count_eq _ _ 16 (lt_16 t) (x 0).isLt (by omega))

/-- One entry of the product with the group's weights, over a block's rows. -/
def dpool (dm : FVec Ideal S512x512 .bf16) (sc : FVec Ideal S1x512 .f32) (wg : FVec Ideal S4x128x128 .bf16) (r n : Fin 512) : EReal :=
  ∑ d : Fin 128, dm (ix2 r ⟨128 * (n.val / 128) + d.val, by omega⟩) * sc (ix2 0 ⟨128 * (n.val / 128) + d.val, by omega⟩)
    * wg (ix3 ⟨n.val / 128, by omega⟩ ⟨n.val % 128, by omega⟩ d)

/-- The same over the 32 rows after the block. -/
def dpoolH (H : FVec Ideal S32x512 .f32) (sc : FVec Ideal S1x512 .f32) (wg : FVec Ideal S4x128x128 .bf16) (r : Fin 32) (n : Fin 512) : EReal :=
  ∑ d : Fin 128, H (ix2 r ⟨128 * (n.val / 128) + d.val, by omega⟩) * sc (ix2 0 ⟨128 * (n.val / 128) + d.val, by omega⟩)
    * wg (ix3 ⟨n.val / 128, by omega⟩ ⟨n.val % 128, by omega⟩ d)

/-- The scratch array of scaled gradients: the block's rows, then the rows after it. -/
def scaled (t : ℕ) (dm : FVec Ideal S512x512 .bf16) (H : FVec Ideal S32x512 .f32) (sc : FVec Ideal S1x512 .f32)
    (wg : FVec Ideal S4x128x128 .bf16) (y : S544x512.Idx) : EReal :=
  (if h : (y 0).val < 512 then dpool dm sc wg ⟨(y 0).val, h⟩ (y 1)
    else dpoolH H sc wg ⟨(y 0).val - 512, by idx_bounds; omega⟩ (y 1)) * inv t ((y 1).val / 128) (y 0).val

theorem scaled_lo (t : ℕ) (dm : FVec Ideal S512x512 .bf16) (H : FVec Ideal S32x512 .f32) (sc : FVec Ideal S1x512 .f32)
    (wg : FVec Ideal S4x128x128 .bf16) (y : S544x512.Idx) (h : (y 0).val < 512) :
    scaled t dm H sc wg y = dpool dm sc wg ⟨(y 0).val, h⟩ (y 1) * inv t ((y 1).val / 128) (y 0).val := by
  unfold scaled; rw [dif_pos h]

theorem scaled_hi (t : ℕ) (dm : FVec Ideal S512x512 .bf16) (H : FVec Ideal S32x512 .f32) (sc : FVec Ideal S1x512 .f32)
    (wg : FVec Ideal S4x128x128 .bf16) (y : S544x512.Idx) (h : ¬ (y 0).val < 512) :
    scaled t dm H sc wg y = dpoolH H sc wg ⟨(y 0).val - 512, by idx_bounds; omega⟩ (y 1) * inv t ((y 1).val / 128) (y 0).val := by
  unfold scaled; rw [dif_neg h]

/-- The rows after the block, zero after the last block. -/
abbrev halo (c : Dev nD) (t : Fin cfg0.N) : FVec Ideal S32x512 .f32 :=
  k0_pay10 (BitVec.ofNat 32 (grid0.coords t 0).val) (k0_pay9 (iblk m c 1 t))

/-- A sequence and its shift by `s`, added. -/
def dbl (s : ℕ) (f : ℕ → EReal) (r : ℕ) : EReal := f r + f (s + r)

/-- The sum over a window of group `g`, as the kernel doubles it. -/
def win : ℕ → (ℕ → EReal) → ℕ → EReal
  | 0, f => dbl 1 f
  | g + 1, f => dbl (2 ^ (g + 1)) (win g f)

/-- Doubling sums the window's rows. -/
theorem win_eq (f : ℕ → EReal) : ∀ (g r : ℕ), win g f r = ∑ b ∈ Finset.range (2 ^ (g + 1)), f (r + b)
  | 0, r => by
    show f r + f (1 + r) = _
    rw [show 2 ^ (0 + 1) = 1 + 1 from rfl, Finset.sum_range_succ, Finset.sum_range_one, Nat.add_zero, Nat.add_comm 1 r]
  | g + 1, r => by
    show win g f r + win g f (2 ^ (g + 1) + r) = _
    rw [win_eq f g, win_eq f g, show 2 ^ (g + 1 + 1) = 2 ^ (g + 1) + 2 ^ (g + 1) by omega, Finset.sum_range_add]
    refine congrArg _ (Finset.sum_congr rfl fun b _ => congrArg f (by omega))

/-- A column of a scratch array, zero beyond its rows. -/
def column (C : S544x512.Idx → EReal) (n : Fin 512) (r : ℕ) : EReal := if h : r < 544 then C (ix2 ⟨r, h⟩ n) else 0

theorem column_eq (C : S544x512.Idx → EReal) (n n' : Fin 512) (e : n'.val = n.val) (r : ℕ) (h : r < 544) :
    C (ix2 ⟨r, h⟩ n') = column C n r := by
  unfold column; rw [dif_pos h, Fin.ext e]

/-- What a block leaves of the gradient of the pooled activation: each window's sum less the row's own gradient. -/
theorem du_at (c : Dev nD) (t : Fin cfg0.N) (j : S512x512.Idx) :
    (Gen.outsAt0 m c t.val t.isLt).1 j
      = win ((j 1).val / 128) (column (scaled t.val (iblk m c 0 t) (halo m c t) (iblk m c 4 t) (iblk m c 3 t)) (j 1)) (j 0).val
        - dpool (iblk m c 0 t) (iblk m c 4 t) (iblk m c 3 t) (j 0) (j 1) := by
  by_cases cA : t.val % 16 = 0
  on_goal 1 => rw [Gen.outsAt0_A m c t cA]
  on_goal 2 => rw [Gen.outsAt0_B m c t cA]
  all_goals
    frame_out
    simp (disch := decide) only [↓ View.readCov_skip, ↓ View.readCov_cons_toLoadRect, ↓ readCov_within]
    simp only [View.readCov_eq_canon']
    rw [canon_eight (scaled t.val (iblk m c 0 t) (halo m c t) (iblk m c 4 t) (iblk m c 3 t)) ?hC]
    case hC =>
      intro y
      rw [pay4_eq, pay5_eq, pay6_eq, pay7_eq]
      canon_tiles x h using cover_eight y _ _ _ _ _ _ _ _ _ _ _ _ _ _ _ _
      all_goals
        first
          | rw [scaled_lo _ _ _ _ _ _ (by omega)]
          | rw [scaled_hi _ _ _ _ _ _ (by omega)]
        open_payloads
        pointwise [dpool, dpoolH, halo, k0_pay10, k0_pay9]
        refine congrArg₂ (fun a b : EReal => a * b) ?_ (congrArg₂ (inv t.val) (by omega) (by omega))
        blk_point []
    generalize scaled _ _ _ _ _ = C
    canon_tiles x h
    case piece0 =>
      open_payloads
      pointwise [dpool]
      simp (disch := (dsimp only; omega)) only [column_eq C (j 1)]
      refine congrArg₂ (fun a b : EReal => a - b) ?_ ?_
      · rw [show (j 1).val / 128 = 3 by omega, h0]
        rfl
      · blk_point []
    case piece1 =>
      open_payloads
      pointwise [dpool]
      simp (disch := (dsimp only; omega)) only [column_eq C (j 1)]
      refine congrArg₂ (fun a b : EReal => a - b) ?_ ?_
      · rw [show (j 1).val / 128 = 2 by omega, h0]
        rfl
      · blk_point []
    case piece2 =>
      open_payloads
      pointwise [dpool]
      simp (disch := (dsimp only; omega)) only [column_eq C (j 1)]
      refine congrArg₂ (fun a b : EReal => a - b) ?_ ?_
      · rw [show (j 1).val / 128 = 1 by omega, h0]
        rfl
      · blk_point []
    case piece3 =>
      open_payloads
      pointwise [dpool]
      simp (disch := (dsimp only; omega)) only [column_eq C (j 1)]
      refine congrArg₂ (fun a b : EReal => a - b) ?_ ?_
      · rw [show (j 1).val / 128 = 0 by omega, h0]
        rfl
      · blk_point []

end Cert.Proof.Pool

end
-- ==== Proof.PoolDuAll.lean ====
module

public import proofs.«01_k».proof.Proof.PoolDu
public import proofs.«01_k».proof.Proof.PoolSum

/-! # The pool's backward pass: the gradient of the pooled activation the kernel leaves

Each block holds its own 512 rows and the 32 after them, which is enough for the widest window. So its sums are the
sums over the whole sequence, zero beyond its end. -/

@[expose] public section

set_option maxRecDepth 16384

noncomputable section

open Idealize.ShloMosaic Idealize.ShloMosaic.TcCoe Idealize.SL.Sem
open Cert.PoolKernelIdeal Cert.PoolKernelIdeal.Gen

namespace Cert.Proof.Pool

variable (m : (ℓ : Loc nD τ sig) → Buf (Elt Ideal) ℓ)

/-- The block index of the rows after a block: they are the first rows of the next block, clamped at the last. -/
theorem idx_halo : ∀ t : Fin cfg0.N, win0_1.index t = ![min (16 * (t.val + 1)) 255, 0] :=
  (by decide +kernel : ∀ t : Fin grid0.N, _)

/-- The rows after a block. -/
theorem halo_at (c : Dev nD) (t : Fin cfg0.N) (x : S32x512.Idx) :
    halo m c t x = if h : 512 * t.val + 512 + (x 0).val < 8192 then
      (m ((c : Thread nD τ).loc main_arg3) : FVec Ideal S8192x512 .bf16) (ix2 ⟨512 * t.val + 512 + (x 0).val, h⟩ (x 1))
      else (0 : EReal) := by
  have ht := lt_16 t
  have hx : (x 0).val < 32 := (x 0).isLt
  pointwise [halo, k0_pay10, k0_pay9]
  rw [coords_eq]
  by_cases h15 : t.val = 15
  · rw [h15, dif_neg (by omega)]
    rfl
  · have hne : Scalar.cmpi CmpIPredicate.eq (BitVec.ofNat 32 t.val) 15#32 = 0#1 := by
      have : ∀ k : Fin 15, Scalar.cmpi CmpIPredicate.eq (BitVec.ofNat 32 k.val) 15#32 = 0#1 := by decide
      exact this ⟨t.val, by omega⟩
    rw [hne, dif_pos (by omega)]
    show (iblk m c 1 t : FVec Ideal S32x512 .bf16) x = _
    blk_ext [iblk, V, idx_halo t]

/-- The block's own rows. -/
theorem dpool_at (c : Dev nD) (t : Fin cfg0.N) (r n : Fin 512) :
    dpool (iblk m c 0 t) (iblk m c 4 t) (iblk m c 3 t) r n
      = meanGrad (m ((c : Thread nD τ).loc main_arg3)) (m ((c : Thread nD τ).loc main_arg2)) (m ((c : Thread nD τ).loc main_arg1))
        ⟨512 * t.val + r.val, by have := lt_16 t; omega⟩ n :=
  Fin.sum_fin_congr fun d => congrArg₂ (fun a b : EReal => a * b)
    (congrArg₂ (fun a b : EReal => a * b) (dm_at m c t _) (sc_at m c t _)) (wg_at m c t _)

/-- The rows after the block, zero beyond the sequence's end. -/
theorem dpoolH_at (c : Dev nD) (t : Fin cfg0.N) (r : Fin 32) (n : Fin 512) :
    dpoolH (halo m c t) (iblk m c 4 t) (iblk m c 3 t) r n
      = if h : 512 * t.val + 512 + r.val < 8192 then
          meanGrad (m ((c : Thread nD τ).loc main_arg3)) (m ((c : Thread nD τ).loc main_arg2)) (m ((c : Thread nD τ).loc main_arg1))
            ⟨512 * t.val + 512 + r.val, h⟩ n
        else 0 := by
  by_cases h : 512 * t.val + 512 + r.val < 8192
  · rw [dif_pos h]
    exact Fin.sum_fin_congr fun d => congrArg₂ (fun a b : EReal => a * b)
      (congrArg₂ (fun a b : EReal => a * b) ((halo_at m c t _).trans (dif_pos h)) (sc_at m c t _)) (wg_at m c t _)
  · rw [dif_neg h]
    refine Finset.sum_eq_zero fun d _ => ?_
    rw [(halo_at m c t _).trans (dif_neg h), zero_mul, zero_mul]

/-- A column of a block's scaled gradients is the sequence's, from the block's first row on. -/
theorem column_at (c : Dev nD) (t : Fin cfg0.N) (n : Fin 512) (r : ℕ) (hr : r < 544) :
    column (scaled t.val (iblk m c 0 t) (halo m c t) (iblk m c 4 t) (iblk m c 3 t)) n r
      = handed (meanGrad (m ((c : Thread nD τ).loc main_arg3)) (m ((c : Thread nD τ).loc main_arg2))
          (m ((c : Thread nD τ).loc main_arg1))) n (512 * t.val + r) := by
  have ht := lt_16 t
  unfold column
  rw [dif_pos hr]
  by_cases h : r < 512
  · refine (scaled_lo _ _ _ _ _ _ h).trans ?_
    unfold handed
    rw [dif_pos (by omega)]
    exact congrArg₂ (fun a b : EReal => a * b) (dpool_at m c t ⟨r, h⟩ n) rfl
  · refine (scaled_hi _ _ _ _ _ _ h).trans ?_
    unfold handed
    by_cases h' : 512 * t.val + r < 8192
    · rw [dif_pos h']
      refine congrArg₂ (fun a b : EReal => a * b) ((dpoolH_at m c t ⟨r - 512, by omega⟩ n).trans ?_) rfl
      rw [dif_pos (by dsimp only; omega)]
      exact congrArg (fun k => meanGrad _ _ _ k n) (Fin.ext (by dsimp only; omega))
    · rw [dif_neg h']
      refine (congrArg (fun a : EReal => a * _) ((dpoolH_at m c t ⟨r - 512, by omega⟩ n).trans (dif_neg ?_))).trans (zero_mul _)
      dsimp only
      omega

/-- The gradient of the pooled activation the kernel leaves. -/
theorem final_du (c : Dev nD) : (dats m 0 c).arrAt 5 cfg0.N = duAll (m ((c : Thread nD τ).loc main_arg3))
    (m ((c : Thread nD τ).loc main_arg2)) (m ((c : Thread nD τ).loc main_arg1)) := by
  refine (dats m 0 c).arrAt_eq_of_covers 5 _ (by decide +kernel) fun t hf y => ?_
  blk_simp
  rw [after0_5]
  refine (du_at m c t y).trans ?_
  have ht := lt_16 t
  have e : (((cfg0.win 5).blk t).view.emb y : S8192x512.Idx)
      = ix2 ⟨512 * t.val + (y 0).val, by idx_bounds; omega⟩ (y 1) := by blk_ext [idx t]
  have h0 : (y 0).val < 512 := (y 0).isLt
  have h1 : (y 1).val < 512 := (y 1).isLt
  refine Eq.trans ?_ (congrArg (duAll _ _ _) e).symm
  refine congrArg₂ (fun a b : EReal => a - b) ?_ (dpool_at m c t (y 0) (y 1))
  rw [win_eq]
  refine Finset.sum_congr rfl fun b hb => ?_
  have hb : b < 2 ^ ((y 1).val / 128 + 1) := Finset.mem_range.mp hb
  have hp : 2 ^ ((y 1).val / 128 + 1) ≤ 2 ^ 4 := Nat.pow_le_pow_right (by omega) (by omega)
  refine (column_at m c t (y 1) _ (by omega)).trans (congrArg (handed _ _) ?_)
  show 512 * t.val + ((y 0).val + b) = 512 * t.val + (y 0).val + b
  omega

end Cert.Proof.Pool

end
-- ==== Proof.PoolClaim.lean ====
module

public import proofs.«01_k».proof.Defs
public import proofs.«01_k».proof.Proof.PoolRef
public import proofs.«01_k».proof.Proof.PoolDuAll
public import proofs.«01_k».proof.Proof.Gen.PoolReferenceIdeal.Run

/-! # The pool's backward pass: kernel and reference compute the same three gradients -/

@[expose] public section

noncomputable section

open Idealize.ShloMosaic Idealize.ShloMosaic.TcCoe Idealize.SL.Sem

namespace Cert.Proof.Pool

/-- What the kernel leaves: the three gradients, as functions of the arguments. -/
theorem kernel_run (m : (ℓ : Loc Cert.PoolKernelIdeal.nD Cert.PoolKernelIdeal.τ Cert.PoolKernelIdeal.sig) → Buf (Elt Ideal) ℓ)
    (g : Dev Cert.PoolKernelIdeal.nD → PrngReg) :
    θ_run (Cert.PoolKernelIdeal.defs (F := Ideal)) (onTc (τ := Cert.PoolKernelIdeal.τ) (Cert.PoolKernelIdeal.main (F := Ideal)))
      ⟨m, fun _ => 0, g⟩ fun r => ∀ c : Dev Cert.PoolKernelIdeal.nD,
        r.2.mem (c.tc.loc Cert.PoolKernelIdeal.main_v157_0) = duAll (m (c.tc.loc Cert.PoolKernelIdeal.main_arg3))
            (m (c.tc.loc Cert.PoolKernelIdeal.main_arg2)) (m (c.tc.loc Cert.PoolKernelIdeal.main_arg1))
        ∧ r.2.mem (c.tc.loc Cert.PoolKernelIdeal.main_v157_1) = dwgAll (pooled (m (c.tc.loc Cert.PoolKernelIdeal.main_arg0)))
            (m (c.tc.loc Cert.PoolKernelIdeal.main_arg3)) (m (c.tc.loc Cert.PoolKernelIdeal.main_arg2))
        ∧ r.2.mem (c.tc.loc Cert.PoolKernelIdeal.main_v157_2) = dscAll (pooled (m (c.tc.loc Cert.PoolKernelIdeal.main_arg0)))
            (m (c.tc.loc Cert.PoolKernelIdeal.main_arg3)) (m (c.tc.loc Cert.PoolKernelIdeal.main_arg1))
        ∧ r.2.mem (c.tc.loc Cert.PoolKernelIdeal.main_arg0) = m (c.tc.loc Cert.PoolKernelIdeal.main_arg0)
        ∧ r.2.mem (c.tc.loc Cert.PoolKernelIdeal.main_arg1) = m (c.tc.loc Cert.PoolKernelIdeal.main_arg1)
        ∧ r.2.mem (c.tc.loc Cert.PoolKernelIdeal.main_arg2) = m (c.tc.loc Cert.PoolKernelIdeal.main_arg2)
        ∧ r.2.mem (c.tc.loc Cert.PoolKernelIdeal.main_arg3) = m (c.tc.loc Cert.PoolKernelIdeal.main_arg3) :=
  (θ_run Cert.PoolKernelIdeal.defs _ _).mono (fun _ h c => ⟨(h c).1.trans (final_du m c), (h c).2.1.trans (final_dwg m c),
    (h c).2.2.1.trans (final_dsc m c), (h c).2.2.2⟩) (Cert.PoolKernelIdeal.Value.run_blocks m g)

/-- Kernel and reference compute the same function. -/
theorem algebraic : Cert.algebraic_PoolKernelIdeal_PoolReferenceIdeal := by
  intro m g m' g' _ he
  refine ⟨_, _, _, kernel_run m g, ?_⟩
  refine (θ_run Cert.PoolReferenceIdeal.defs _ _).mono (fun r h c => ?_) (Cert.PoolReferenceIdeal.Value.run m' g')
  obtain ⟨e0, e1, e2, e3⟩ := he c
  obtain ⟨h0, h1, h2, ha⟩ := h c
  refine ⟨h0.trans ((Cert.PoolReferenceIdeal.Read.val_main_v335_eq (F := Ideal) _).trans ((ref_du _ _ _).trans ?_)),
    h1.trans ((Cert.PoolReferenceIdeal.Read.val_main_v198_eq (F := Ideal) _).trans ((ref_dwg _ _ _).trans ?_)),
    h2.trans ((Cert.PoolReferenceIdeal.Read.val_main_v189_eq (F := Ideal) _).trans ((ref_dsc _ _ _).trans ?_)), ha⟩
  · exact congr (congr (congrArg duAll e3) e2) e1
  · exact congr (congr (congrArg (fun u => dwgAll (pooled u)) e0) e3) e2
  · exact congr (congr (congrArg (fun u => dscAll (pooled u)) e0) e3) e1

/-- The reference declares no semaphore. -/
theorem no_semaphore : (Finset.univ : Finset (SemLoc Cert.PoolReferenceIdeal.sig)) = ∅ := by decide

/-- The reference ends without fault, its arguments unchanged. It declares no semaphore. -/
theorem frame_reference : Cert.quiescent_PoolReferenceIdeal := fun m ρ _ =>
  (θ_run Cert.PoolReferenceIdeal.defs _ _).mono (fun _ h => ⟨fun c => (h c).2.2.2, by
    funext s
    exact absurd (Finset.mem_univ s.2) (by rw [no_semaphore]; exact Finset.notMem_empty _)⟩)
    (Cert.PoolReferenceIdeal.Value.run m ρ)

end Cert.Proof.Pool

end
-- ==== Proof.DownDx.lean ====
module

public import proofs.«01_k».proof.Defs
public import proofs.«01_k».proof.Proof.Gen.DownDxKernelIdeal.Value
public import Idealize.ShloMosaic.Lib.Pipeline.ValueKit

/-! # The gradient of the FFN's down-projection with respect to its input

`da = df · wᵀ`, a block of 1024 tokens by 1408 hidden columns at each grid point. -/

@[expose] public section

set_option maxRecDepth 16384

noncomputable section

open Idealize.ShloMosaic Idealize.ShloMosaic.TcCoe Idealize.SL.Sem
open Cert.DownDxKernelIdeal Cert.DownDxKernelIdeal.Gen

namespace Cert.Proof.DownDx

variable (m : (ℓ : Loc nD τ sig) → Buf (Elt Ideal) ℓ)

/-- The gradient at a token and a hidden column: the sum over the features. -/
def grad (D : FVec Ideal S8192x1024 .bf16) (W : FVec Ideal S2x2816x1024 .bf16) : FVec Ideal S8192x2816 .bf16 := fun i =>
  ∑ k : Fin 1024, D (ix2 (i 0) k) * W (ix3 1 (i 1) k)

/-- The windows' block indices. -/
theorem idx : ∀ t : Fin cfg0.N, win0_0.index t = ![t.val / 2, 0]
    ∧ win0_1.index t = ![1, t.val % 2, 0] ∧ win0_2.index t = ![t.val / 2, t.val % 2] ∧ t.val < 16 :=
  (by decide +kernel : ∀ t : Fin grid0.N, _)

/-- The array the kernel leaves. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2]; frame_out
  open_payloads
  pointwise [grad]
  refine Fin.sum_fin_congr fun k => ?_
  have h := (idx t).2.2.2
  blk_point [iblk, V, idx t]

end Cert.Proof.DownDx

end
-- ==== Proof.DownDxRef.lean ====
module

public import proofs.«01_k».proof.Proof.DownDx
public import proofs.«01_k».proof.Proof.Gen.DownDxReferenceIdeal.Read
public import Idealize.ShloMosaic.Lib.KernelVsHost

/-! # The gradient of the FFN's down-projection with respect to its input: kernel and reference agree -/

@[expose] public section

set_option maxRecDepth 16384

noncomputable section

open Idealize.ShloMosaic Idealize.ShloMosaic.TcCoe Idealize.SL.Sem
open Cert.DownDxReferenceIdeal Cert.DownDxReferenceIdeal.Read

namespace Cert.Proof.DownDx

/-- The reference's gradient. -/
theorem ref (D : FVec Ideal S8192x1024 .bf16) (W : FVec Ideal S2x2816x1024 .bf16) :
    val_main_v7 (F := Ideal) D W = grad D W := by
  funext i
  pointwise [val_main_v7, val_main_v6, val_main_v3, val_main_v2, val_main_v1, val_main_v0, grad]

/-- What the kernel leaves. -/
theorem kernel_run (m : (ℓ : Loc Cert.DownDxKernelIdeal.nD Cert.DownDxKernelIdeal.τ Cert.DownDxKernelIdeal.sig) → Buf (Elt Ideal) ℓ)
    (g : Dev Cert.DownDxKernelIdeal.nD → PrngReg) :
    θ_run (Cert.DownDxKernelIdeal.defs (F := Ideal)) (onTc (τ := Cert.DownDxKernelIdeal.τ) (Cert.DownDxKernelIdeal.main (F := Ideal)))
      ⟨m, fun _ => 0, g⟩ fun r => ∀ c : Dev Cert.DownDxKernelIdeal.nD,
        r.2.mem (c.tc.loc Cert.DownDxKernelIdeal.main_v0) = grad
            (m (c.tc.loc Cert.DownDxKernelIdeal.main_arg0)) (m (c.tc.loc Cert.DownDxKernelIdeal.main_arg1))
        ∧ r.2.mem (c.tc.loc Cert.DownDxKernelIdeal.main_arg0) = m (c.tc.loc Cert.DownDxKernelIdeal.main_arg0)
        ∧ r.2.mem (c.tc.loc Cert.DownDxKernelIdeal.main_arg1) = m (c.tc.loc Cert.DownDxKernelIdeal.main_arg1) :=
  (θ_run Cert.DownDxKernelIdeal.defs _ _).mono (fun _ h c => ⟨(h c).1.trans (final m c), (h c).2⟩)
    (Cert.DownDxKernelIdeal.Value.run_blocks m g)

/-- Kernel and reference compute the same function. -/
theorem algebraic : Cert.algebraic_DownDxKernelIdeal_DownDxReferenceIdeal := by
  intro m g m' g' _ he
  refine ⟨_, kernel_run m g, ?_⟩
  refine (θ_run Cert.DownDxReferenceIdeal.defs _ _).mono (fun r h c => ?_) (Cert.DownDxReferenceIdeal.Value.run m' g')
  obtain ⟨e0, e1⟩ := he c
  exact ⟨(h c).1.trans ((val_main_v7_eq (F := Ideal) _ _).trans ((ref _ _).trans
    (congr (congrArg grad e0) e1))), (h c).2⟩

/-- The reference declares no semaphore. -/
theorem no_semaphore : (Finset.univ : Finset (SemLoc Cert.DownDxReferenceIdeal.sig)) = ∅ := by decide

/-- The reference ends without fault, its arguments unchanged. -/
theorem frame_reference : Cert.quiescent_DownDxReferenceIdeal := fun m ρ _ =>
  (θ_run Cert.DownDxReferenceIdeal.defs _ _).mono (fun _ h => ⟨fun c => (h c).2, by
    funext s
    exact absurd (Finset.mem_univ s.2) (by rw [no_semaphore]; exact Finset.notMem_empty _)⟩)
    (Cert.DownDxReferenceIdeal.Value.run m ρ)

end Cert.Proof.DownDx

end
-- ==== Proof.DownDw.lean ====
module

public import proofs.«01_k».proof.Defs
public import proofs.«01_k».proof.Proof.Gen.DownDwKernelIdeal.Value
public import Idealize.ShloMosaic.Lib.Pipeline.ValueKit

/-! # The gradient of the FFN's down-projection with respect to its weights

`dw = aᵀ · df`: a block of 1408 rows of `dw` is summed over four blocks of 2048 tokens, one grid point each, in a scratch
buffer that is rounded into the result at the block's last point. The kernel writes one layer; the other layer's gradient,
already in the aliased buffer, stays. -/

@[expose] public section

set_option maxRecDepth 16384

noncomputable section

open Idealize.ShloMosaic Idealize.ShloMosaic.TcCoe Idealize.SL.Sem
open Cert.DownDwKernelIdeal Cert.DownDwKernelIdeal.Gen

namespace Cert.Proof.DownDw

variable (m : (ℓ : Loc nD τ sig) → Buf (Elt Ideal) ℓ)

/-- The gradient of layer 0: the sum over all tokens. -/
def grad (X : FVec Ideal S8192x2816 .bf16) (G : FVec Ideal S8192x1024 .bf16) : FVec Ideal S2x2816x1024 .bf16 := fun i =>
  ∑ r : Fin 8192, X (ix2 r (i 1)) * G (ix2 r (i 2))

/-- The windows' block indices. -/
theorem idx : ∀ t : Fin cfg0.N, win0_0.index t = ![t.val % 4, t.val / 4]
    ∧ win0_1.index t = ![t.val % 4, 0] ∧ win0_2.index t = ![0, t.val / 4, 0] ∧ t.val < 8 :=
  (by decide +kernel : ∀ t : Fin grid0.N, _)

/-- One token block's part of the sum. -/
def part (x : FVec Ideal S2048x1408 .bf16) (g : FVec Ideal S2048x1024 .bf16) (y : S1408x1024.Idx) : EReal :=
  ∑ k : Fin 2048, x (ix2 k (y 0)) * g (ix2 k (y 1))

/-- The accumulator after a point. -/
abbrev acc (c : Dev nD) (n : ℕ) (h : n < cfg0.N) : FVec Ideal S1408x1024 .f32 := (outsAt0 m c n h).2

theorem first (c : Dev nD) (t : Fin cfg0.N) (h : t.val % 4 = 0) (y : S1408x1024.Idx) :
    acc m c t.val t.isLt y = (0 : EReal) + part (iblk m c 0 t) (iblk m c 1 t) y := by
  unfold acc
  rw [outsAt0_A m c t h (by omega) (by omega)]; dsimp only; frame_out
  open_payloads
  pointwise [part]

theorem step (c : Dev nD) (t : Fin cfg0.N) (h : ¬ t.val % 4 = 0) (y : S1408x1024.Idx) :
    acc m c t.val t.isLt y = acc m c (t.val - 1) (Nat.lt_of_le_of_lt (Nat.sub_le _ _) t.isLt) y
      + part (iblk m c 0 t) (iblk m c 1 t) y := by
  unfold acc
  by_cases h2 : t.val % 4 = 3
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At a block of rows' last point the block written is the accumulator. -/
theorem last (c : Dev nD) (t : Fin cfg0.N) (h : t.val % 4 = 3) (y : S1x1408x1024.Idx) :
    (outsAt0 m c t.val t.isLt).1 y = acc m c t.val t.isLt (ix2 (y 1) (y 2)) := by
  unfold acc
  rw [outsAt0_C m c t (by omega) (by omega) h]; dsimp only; frame_out
  open_payloads
  pointwise []

/-- The array the kernel leaves. -/
theorem final (c : Dev nD) : (dats m 0 c).arrAt 2 cfg0.N = fun i => if (i 0 : ℕ) = 0
    then grad (m ((c : Thread nD τ).loc main_arg0)) (m ((c : Thread nD τ).loc main_arg1)) i
    else m ((c : Thread nD τ).loc main_arg2) i := by
  have hV : V m c main_v0 = m ((c : Thread nD τ).loc main_arg2) := by unfold V; after_results; try rfl
  rw [← hV]
  refine (dats m 0 c).arrAt_eq_of_coversWhere 2 _ (fun β => β 0 = 0) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => part (iblk m c 0 t) (iblk m c 1 t) y) (fun t h y => first m c t h y) (fun t h y => step m c t h y)
    t ((flush0_2 t).mp hf) _, zero_add]
  unfold grad
  rw [Fin.sum_univ_tiles 4 2048 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Cert.Proof.DownDw

end
-- ==== Proof.DownDwRef.lean ====
module

public import proofs.«01_k».proof.Proof.DownDw
public import proofs.«01_k».proof.Proof.Gen.DownDwReferenceIdeal.Read
public import Idealize.ShloMosaic.Lib.KernelVsHost

/-! # The gradient of the FFN's down-projection with respect to its weights: kernel and reference agree -/

@[expose] public section

set_option maxRecDepth 16384

noncomputable section

open Idealize.ShloMosaic Idealize.ShloMosaic.TcCoe Idealize.SL.Sem
open Cert.DownDwReferenceIdeal Cert.DownDwReferenceIdeal.Read

namespace Cert.Proof.DownDw

/-- Both layers' gradients: layer 0's, and layer 1's as it was handed over. -/
def both (X : FVec Ideal S8192x2816 .bf16) (G : FVec Ideal S8192x1024 .bf16) (L : FVec Ideal S2x2816x1024 .bf16) :
    FVec Ideal S2x2816x1024 .bf16 := fun i => if (i 0 : ℕ) = 0 then grad X G i else L i

/-- The reference's gradients. -/
theorem ref (X : FVec Ideal S8192x2816 .bf16) (G : FVec Ideal S8192x1024 .bf16) (L : FVec Ideal S2x2816x1024 .bf16) :
    val_main_v11 (F := Ideal) X G L = both X G L := by
  funext i
  pointwise [val_main_v11, val_main_v10, val_main_v9, val_main_v8, val_main_v7, val_main_v6, val_main_v5, val_main_v4, val_main_v1, val_main_v0, both, grad]
  idx_bounds
  have hi : ¬ (i 0).val = 0 → i = ix3 1 (i 1) (i 2) := fun h => by blk_point []
  by_cases h : (i 0).val = 0
  · rw [if_pos h, dif_pos (by omega)]
    exact Finset.sum_congr rfl fun r _ => mul_comm _ _
  · rw [if_neg h, dif_neg (by omega)]
    exact congrArg L (hi h).symm

/-- What the kernel leaves. -/
theorem kernel_run (m : (ℓ : Loc Cert.DownDwKernelIdeal.nD Cert.DownDwKernelIdeal.τ Cert.DownDwKernelIdeal.sig) → Buf (Elt Ideal) ℓ)
    (g : Dev Cert.DownDwKernelIdeal.nD → PrngReg) :
    θ_run (Cert.DownDwKernelIdeal.defs (F := Ideal)) (onTc (τ := Cert.DownDwKernelIdeal.τ) (Cert.DownDwKernelIdeal.main (F := Ideal)))
      ⟨m, fun _ => 0, g⟩ fun r => ∀ c : Dev Cert.DownDwKernelIdeal.nD,
        r.2.mem (c.tc.loc Cert.DownDwKernelIdeal.main_v0) = both
            (m (c.tc.loc Cert.DownDwKernelIdeal.main_arg0)) (m (c.tc.loc Cert.DownDwKernelIdeal.main_arg1))
            (m (c.tc.loc Cert.DownDwKernelIdeal.main_arg2))
        ∧ r.2.mem (c.tc.loc Cert.DownDwKernelIdeal.main_arg0) = m (c.tc.loc Cert.DownDwKernelIdeal.main_arg0)
        ∧ r.2.mem (c.tc.loc Cert.DownDwKernelIdeal.main_arg1) = m (c.tc.loc Cert.DownDwKernelIdeal.main_arg1)
        ∧ r.2.mem (c.tc.loc Cert.DownDwKernelIdeal.main_arg2) = m (c.tc.loc Cert.DownDwKernelIdeal.main_arg2) :=
  (θ_run Cert.DownDwKernelIdeal.defs _ _).mono (fun _ h c => ⟨(h c).1.trans (final m c), (h c).2⟩)
    (Cert.DownDwKernelIdeal.Value.run_blocks m g)

/-- Kernel and reference compute the same function. -/
theorem algebraic : Cert.algebraic_DownDwKernelIdeal_DownDwReferenceIdeal := by
  intro m g m' g' _ he
  refine ⟨_, kernel_run m g, ?_⟩
  refine (θ_run Cert.DownDwReferenceIdeal.defs _ _).mono (fun r h c => ?_) (Cert.DownDwReferenceIdeal.Value.run m' g')
  obtain ⟨e0, e1, e2⟩ := he c
  exact ⟨(h c).1.trans ((val_main_v11_eq (F := Ideal) _ _ _).trans ((ref _ _ _).trans
    (congr (congr (congrArg both e0) e1) e2))), (h c).2⟩

/-- The reference declares no semaphore. -/
theorem no_semaphore : (Finset.univ : Finset (SemLoc Cert.DownDwReferenceIdeal.sig)) = ∅ := by decide

/-- The reference ends without fault, its arguments unchanged. -/
theorem frame_reference : Cert.quiescent_DownDwReferenceIdeal := fun m ρ _ =>
  (θ_run Cert.DownDwReferenceIdeal.defs _ _).mono (fun _ h => ⟨fun c => (h c).2, by
    funext s
    exact absurd (Finset.mem_univ s.2) (by rw [no_semaphore]; exact Finset.notMem_empty _)⟩)
    (Cert.DownDwReferenceIdeal.Value.run m ρ)

end Cert.Proof.DownDw

end
-- ==== Proof.UpDx.lean ====
module

public import proofs.«01_k».proof.Defs
public import proofs.«01_k».proof.Proof.Gen.UpDxKernelIdeal.Value
public import proofs.«01_k».proof.Proof.Gen.UpDxReferenceIdeal.Read
public import Idealize.ShloMosaic.Lib.Pipeline.ValueKit

/-! # The gradient of the FFN's up-projection with respect to its input

`dh = dhu · w_upᵀ`: a token's block of `dh` is summed over four column shards of the weights, one grid point each. -/

@[expose] public section

set_option maxRecDepth 16384

noncomputable section

open Idealize.ShloMosaic Idealize.ShloMosaic.TcCoe Idealize.SL.Sem
open Cert.UpDxKernelIdeal Cert.UpDxKernelIdeal.Gen

namespace Cert.Proof.UpDx

variable (m : (ℓ : Loc nD τ sig) → Buf (Elt Ideal) ℓ)

/-- The gradient at a token and a feature: the sum over all hidden columns, gate half and value half. -/
def grad (G : FVec Ideal S2x8192x2816 .bf16) (W : FVec Ideal S2x4x1024x1408 .bf16) : FVec Ideal S8192x1024 .f32 := fun i =>
  ∑ n : Fin 5632, G (ix3 ⟨n.val / 2816, by omega⟩ (i 0) ⟨n.val % 2816, by omega⟩)
    * W (ix4 1 ⟨n.val / 1408, by omega⟩ (i 1) ⟨n.val % 1408, by omega⟩)

/-- The windows' block indices. -/
theorem idx : ∀ t : Fin cfg0.N, win0_0.index t = ![t.val % 4 / 2, t.val / 4, t.val % 2]
    ∧ win0_1.index t = ![1, t.val % 4, 0, 0] ∧ win0_2.index t = ![t.val / 4, 0] ∧ t.val < 32 :=
  (by decide +kernel : ∀ t : Fin grid0.N, _)

/-- One shard's part of the sum. -/
def part (g : FVec Ideal S1x1024x1408 .bf16) (w : FVec Ideal S1x1x1024x1408 .bf16) (y : S1024x1024.Idx) : EReal :=
  ∑ k : Fin 1408, g (ix3 0 (y 0) k) * w (ix4 0 0 (y 1) k)

theorem first (c : Dev nD) (t : Fin cfg0.N) (h : t.val % 4 = 0) (y : S1024x1024.Idx) :
    outsAt0 m c t.val t.isLt y = (0 : EReal) + part (iblk m c 0 t) (iblk m c 1 t) y := by
  rw [outsAt0_A m c t h (by omega)]; frame_out
  open_payloads
  pointwise [part]

theorem step (c : Dev nD) (t : Fin cfg0.N) (h : ¬ t.val % 4 = 0) (y : S1024x1024.Idx) :
    outsAt0 m c t.val t.isLt y = outsAt0 m c (t.val - 1) (Nat.lt_of_le_of_lt (Nat.sub_le _ _) t.isLt) y
      + part (iblk m c 0 t) (iblk m c 1 t) y := by
  rw [outsAt0_B m c t h (by omega)]; frame_out
  open_payloads
  pointwise [part]

/-- The array the kernel leaves. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => (0 : EReal))
    (fun t y => part (iblk m c 0 t) (iblk m c 1 t) y) (fun t h y => first m c t h y) (fun t h y => step m c t h y)
    t ((flush0_2 t).mp hf) _, zero_add]
  unfold grad
  rw [Fin.sum_univ_tiles 4 1408 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Cert.Proof.UpDx

end
-- ==== Proof.UpDxRef.lean ====
module

public import proofs.«01_k».proof.Proof.UpDx
public import Idealize.ShloMosaic.Lib.KernelVsHost

/-! # The gradient of the FFN's up-projection with respect to its input: kernel and reference agree -/

@[expose] public section

set_option maxRecDepth 16384

noncomputable section

open Idealize.ShloMosaic Idealize.ShloMosaic.TcCoe Idealize.SL.Sem
open Cert.UpDxReferenceIdeal Cert.UpDxReferenceIdeal.Read

namespace Cert.Proof.UpDx

/-- The two halves side by side. -/
theorem halves (G : FVec Ideal S2x8192x2816 .bf16) (i : S8192x5632.Idx) : val_main_v4 (F := Ideal) G i
    = G (ix3 ⟨(i 1).val / 2816, by idx_bounds; omega⟩ (i 0) ⟨(i 1).val % 2816, by omega⟩) := by
  pointwise [val_main_v4, val_main_v3, val_main_v2, val_main_v1, val_main_v0]
  idx_bounds
  split <;> blk_point []

/-- The reference's gradient. -/
theorem ref (G : FVec Ideal S2x8192x2816 .bf16) (W : FVec Ideal S2x4x1024x1408 .bf16) :
    val_main_v13 (F := Ideal) G W = grad G W := by
  funext i
  pointwise [val_main_v13, val_main_v10, val_main_v9, val_main_v8, val_main_v7, val_main_v6, val_main_v5, grad]
  exact Finset.sum_congr rfl fun n _ => congrArg₂ (fun a b : EReal => a * b) (halves G _) rfl

/-- What the kernel leaves. -/
theorem kernel_run (m : (ℓ : Loc Cert.UpDxKernelIdeal.nD Cert.UpDxKernelIdeal.τ Cert.UpDxKernelIdeal.sig) → Buf (Elt Ideal) ℓ)
    (g : Dev Cert.UpDxKernelIdeal.nD → PrngReg) :
    θ_run (Cert.UpDxKernelIdeal.defs (F := Ideal)) (onTc (τ := Cert.UpDxKernelIdeal.τ) (Cert.UpDxKernelIdeal.main (F := Ideal)))
      ⟨m, fun _ => 0, g⟩ fun r => ∀ c : Dev Cert.UpDxKernelIdeal.nD,
        r.2.mem (c.tc.loc Cert.UpDxKernelIdeal.main_v0) = grad (m (c.tc.loc Cert.UpDxKernelIdeal.main_arg0))
            (m (c.tc.loc Cert.UpDxKernelIdeal.main_arg1))
        ∧ r.2.mem (c.tc.loc Cert.UpDxKernelIdeal.main_arg0) = m (c.tc.loc Cert.UpDxKernelIdeal.main_arg0)
        ∧ r.2.mem (c.tc.loc Cert.UpDxKernelIdeal.main_arg1) = m (c.tc.loc Cert.UpDxKernelIdeal.main_arg1) :=
  (θ_run Cert.UpDxKernelIdeal.defs _ _).mono (fun _ h c => ⟨(h c).1.trans (final m c), (h c).2⟩)
    (Cert.UpDxKernelIdeal.Value.run_blocks m g)

/-- Kernel and reference compute the same function. -/
theorem algebraic : Cert.algebraic_UpDxKernelIdeal_UpDxReferenceIdeal := by
  intro m g m' g' _ he
  refine ⟨_, kernel_run m g, ?_⟩
  refine (θ_run Cert.UpDxReferenceIdeal.defs _ _).mono (fun r h c => ?_) (Cert.UpDxReferenceIdeal.Value.run m' g')
  obtain ⟨e0, e1⟩ := he c
  exact ⟨(h c).1.trans ((val_main_v13_eq (F := Ideal) _ _).trans ((ref _ _).trans (congr (congrArg grad e0) e1))), (h c).2⟩

/-- The reference declares no semaphore. -/
theorem no_semaphore : (Finset.univ : Finset (SemLoc Cert.UpDxReferenceIdeal.sig)) = ∅ := by decide

/-- The reference ends without fault, its arguments unchanged. -/
theorem frame_reference : Cert.quiescent_UpDxReferenceIdeal := fun m ρ _ =>
  (θ_run Cert.UpDxReferenceIdeal.defs _ _).mono (fun _ h => ⟨fun c => (h c).2, by
    funext s
    exact absurd (Finset.mem_univ s.2) (by rw [no_semaphore]; exact Finset.notMem_empty _)⟩)
    (Cert.UpDxReferenceIdeal.Value.run m ρ)

end Cert.Proof.UpDx

end
-- ==== Proof.UpDw.lean ====
module

public import proofs.«01_k».proof.Defs
public import proofs.«01_k».proof.Proof.Gen.UpDwKernelIdeal.Value
public import Idealize.ShloMosaic.Lib.Pipeline.ValueKit

/-! # The gradient of the FFN's up-projection with respect to its weights

`dw = hᵀ · dhu`: a column shard of `dw` is summed over four blocks of 2048 tokens, one grid point each, in a scratch
buffer that is rounded into the result at the shard's last point. The kernel writes one layer; the other layer's gradient,
already in the aliased buffer, stays. -/

@[expose] public section

set_option maxRecDepth 16384

noncomputable section

open Idealize.ShloMosaic Idealize.ShloMosaic.TcCoe Idealize.SL.Sem
open Cert.UpDwKernelIdeal Cert.UpDwKernelIdeal.Gen

namespace Cert.Proof.UpDw

variable (m : (ℓ : Loc nD τ sig) → Buf (Elt Ideal) ℓ)

/-- The gradient of layer 0: the sum over all tokens. -/
def grad (X : FVec Ideal S8192x1024 .bf16) (G : FVec Ideal S2x8192x2816 .bf16) : FVec Ideal S2x4x1024x1408 .bf16 := fun i =>
  ∑ r : Fin 8192, X (ix2 r (i 2))
    * G (ix3 ⟨(i 1).val / 2, by idx_bounds; omega⟩ r
        ⟨(i 1).val % 2 * 1408 + (i 3).val, by idx_bounds; omega⟩)

/-- The windows' block indices. -/
theorem idx : ∀ t : Fin cfg0.N, win0_0.index t = ![t.val % 4, 0]
    ∧ win0_1.index t = ![t.val / 4 / 2, t.val % 4, t.val / 4 % 2] ∧ win0_2.index t = ![0, t.val / 4, 0, 0] ∧ t.val < 16 :=
  (by decide +kernel : ∀ t : Fin grid0.N, _)

/-- One token block's part of the sum. -/
def part (x : FVec Ideal S2048x1024 .bf16) (g : FVec Ideal S1x2048x1408 .bf16) (y : S1024x1408.Idx) : EReal :=
  ∑ k : Fin 2048, x (ix2 k (y 0)) * g (ix3 0 k (y 1))

/-- The accumulator after a point. -/
abbrev acc (c : Dev nD) (n : ℕ) (h : n < cfg0.N) : FVec Ideal S1024x1408 .f32 := (outsAt0 m c n h).2

theorem first (c : Dev nD) (t : Fin cfg0.N) (h : t.val % 4 = 0) (y : S1024x1408.Idx) :
    acc m c t.val t.isLt y = (0 : EReal) + part (iblk m c 0 t) (iblk m c 1 t) y := by
  unfold acc
  rw [outsAt0_A m c t h (by omega) (by omega)]; dsimp only; frame_out
  open_payloads
  pointwise [part]

theorem step (c : Dev nD) (t : Fin cfg0.N) (h : ¬ t.val % 4 = 0) (y : S1024x1408.Idx) :
    acc m c t.val t.isLt y = acc m c (t.val - 1) (Nat.lt_of_le_of_lt (Nat.sub_le _ _) t.isLt) y
      + part (iblk m c 0 t) (iblk m c 1 t) y := by
  unfold acc
  by_cases h2 : t.val % 4 = 3
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At a shard's last point the block written is the accumulator. -/
theorem last (c : Dev nD) (t : Fin cfg0.N) (h : t.val % 4 = 3) (y : S1x1x1024x1408.Idx) :
    (outsAt0 m c t.val t.isLt).1 y = acc m c t.val t.isLt (ix2 (y 2) (y 3)) := by
  unfold acc
  rw [outsAt0_C m c t (by omega) (by omega) h]; dsimp only; frame_out
  open_payloads
  pointwise []

/-- The array the kernel leaves. -/
theorem final (c : Dev nD) : (dats m 0 c).arrAt 2 cfg0.N = fun i => if (i 0 : ℕ) = 0
    then grad (m ((c : Thread nD τ).loc main_arg0)) (m ((c : Thread nD τ).loc main_arg1)) i
    else m ((c : Thread nD τ).loc main_arg2) i := by
  have hV : V m c main_v0 = m ((c : Thread nD τ).loc main_arg2) := by unfold V; after_results; try rfl
  rw [← hV]
  refine (dats m 0 c).arrAt_eq_of_coversWhere 2 _ (fun β => β 0 = 0) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => part (iblk m c 0 t) (iblk m c 1 t) y) (fun t h y => first m c t h y) (fun t h y => step m c t h y)
    t ((flush0_2 t).mp hf) _, zero_add]
  unfold grad
  rw [Fin.sum_univ_tiles 4 2048 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Cert.Proof.UpDw

end
-- ==== Proof.UpDwRef.lean ====
module

public import proofs.«01_k».proof.Proof.UpDw
public import proofs.«01_k».proof.Proof.Gen.UpDwReferenceIdeal.Read
public import Idealize.ShloMosaic.Lib.KernelVsHost

/-! # The gradient of the FFN's up-projection with respect to its weights: kernel and reference agree -/

@[expose] public section

set_option maxRecDepth 16384

noncomputable section

open Idealize.ShloMosaic Idealize.ShloMosaic.TcCoe Idealize.SL.Sem
open Cert.UpDwReferenceIdeal Cert.UpDwReferenceIdeal.Read

namespace Cert.Proof.UpDw

/-- Both layers' gradients: layer 0's, and layer 1's as it was handed over. -/
def both (X : FVec Ideal S8192x1024 .bf16) (G : FVec Ideal S2x8192x2816 .bf16) (L : FVec Ideal S2x4x1024x1408 .bf16) :
    FVec Ideal S2x4x1024x1408 .bf16 := fun i => if (i 0 : ℕ) = 0 then grad X G i else L i

/-- The two halves side by side. -/
theorem halves (G : FVec Ideal S2x8192x2816 .bf16) (i : S8192x5632.Idx) : val_main_v4 (F := Ideal) G i
    = G (ix3 ⟨(i 1).val / 2816, by idx_bounds; omega⟩ (i 0) ⟨(i 1).val % 2816, by omega⟩) := by
  pointwise [val_main_v4, val_main_v3, val_main_v2, val_main_v1, val_main_v0]
  idx_bounds
  split <;> blk_point []

/-- The reference's gradients. -/
theorem ref (X : FVec Ideal S8192x1024 .bf16) (G : FVec Ideal S2x8192x2816 .bf16) (L : FVec Ideal S2x4x1024x1408 .bf16) :
    val_main_v18 (F := Ideal) X G L = both X G L := by
  funext i
  pointwise [val_main_v18, val_main_v17, val_main_v16, val_main_v15, val_main_v14, val_main_v13, val_main_v12, val_main_v11,
    val_main_v10, val_main_v9, val_main_v6, val_main_v5, both, grad]
  idx_bounds
  have hi : ¬ (i 0).val = 0 → i = ix4 1 (i 1) (i 2) (i 3) := fun h => by blk_point []
  by_cases h : (i 0).val = 0
  · rw [if_pos h, dif_pos (by omega)]
    refine Finset.sum_congr rfl fun r _ => (mul_comm _ _).trans (congrArg₂ (fun a b : EReal => a * b) rfl ((halves G _).trans ?_))
    blk_point []
  · rw [if_neg h, dif_neg (by omega)]
    exact congrArg L (hi h).symm

/-- What the kernel leaves. -/
theorem kernel_run (m : (ℓ : Loc Cert.UpDwKernelIdeal.nD Cert.UpDwKernelIdeal.τ Cert.UpDwKernelIdeal.sig) → Buf (Elt Ideal) ℓ)
    (g : Dev Cert.UpDwKernelIdeal.nD → PrngReg) :
    θ_run (Cert.UpDwKernelIdeal.defs (F := Ideal)) (onTc (τ := Cert.UpDwKernelIdeal.τ) (Cert.UpDwKernelIdeal.main (F := Ideal)))
      ⟨m, fun _ => 0, g⟩ fun r => ∀ c : Dev Cert.UpDwKernelIdeal.nD,
        r.2.mem (c.tc.loc Cert.UpDwKernelIdeal.main_v0) = both (m (c.tc.loc Cert.UpDwKernelIdeal.main_arg0))
            (m (c.tc.loc Cert.UpDwKernelIdeal.main_arg1)) (m (c.tc.loc Cert.UpDwKernelIdeal.main_arg2))
        ∧ r.2.mem (c.tc.loc Cert.UpDwKernelIdeal.main_arg0) = m (c.tc.loc Cert.UpDwKernelIdeal.main_arg0)
        ∧ r.2.mem (c.tc.loc Cert.UpDwKernelIdeal.main_arg1) = m (c.tc.loc Cert.UpDwKernelIdeal.main_arg1)
        ∧ r.2.mem (c.tc.loc Cert.UpDwKernelIdeal.main_arg2) = m (c.tc.loc Cert.UpDwKernelIdeal.main_arg2) :=
  (θ_run Cert.UpDwKernelIdeal.defs _ _).mono (fun _ h c => ⟨(h c).1.trans (final m c), (h c).2⟩)
    (Cert.UpDwKernelIdeal.Value.run_blocks m g)

/-- Kernel and reference compute the same function. -/
theorem algebraic : Cert.algebraic_UpDwKernelIdeal_UpDwReferenceIdeal := by
  intro m g m' g' _ he
  refine ⟨_, kernel_run m g, ?_⟩
  refine (θ_run Cert.UpDwReferenceIdeal.defs _ _).mono (fun r h c => ?_) (Cert.UpDwReferenceIdeal.Value.run m' g')
  obtain ⟨e0, e1, e2⟩ := he c
  exact ⟨(h c).1.trans ((val_main_v18_eq (F := Ideal) _ _ _).trans ((ref _ _ _).trans
    (congr (congr (congrArg both e0) e1) e2))), (h c).2⟩

/-- The reference declares no semaphore. -/
theorem no_semaphore : (Finset.univ : Finset (SemLoc Cert.UpDwReferenceIdeal.sig)) = ∅ := by decide

/-- The reference ends without fault, its arguments unchanged. -/
theorem frame_reference : Cert.quiescent_UpDwReferenceIdeal := fun m ρ _ =>
  (θ_run Cert.UpDwReferenceIdeal.defs _ _).mono (fun _ h => ⟨fun c => (h c).2, by
    funext s
    exact absurd (Finset.mem_univ s.2) (by rw [no_semaphore]; exact Finset.notMem_empty _)⟩)
    (Cert.UpDwReferenceIdeal.Value.run m ρ)

end Cert.Proof.UpDw

end
-- ==== Proof.ProjCols.lean ====
module

public import Idealize.ShloMosaic.Lib.Pipeline.ValueKit

/-! # The gradients at the first projection's outputs, side by side

The projection's columns are queries, keys and values (1536), the pool's input (512) and the two gates (2048). The kernels
read them in four shards of 1024: queries and keys, values and the pool's input, and the two gates. -/

@[expose] public section

noncomputable section

open Idealize.ShloMosaic

namespace Cert.Proof.Proj

/-- The gradient at token `r` and column `n`. -/
def cols (Q : (⟨2, ![8192, 1536]⟩ : Shape).Idx → EReal) (U : (⟨2, ![8192, 512]⟩ : Shape).Idx → EReal)
    (G : (⟨2, ![8192, 2048]⟩ : Shape).Idx → EReal) (r : Fin 8192) (n : Fin 4096) : EReal :=
  if h : n.val < 1536 then Q (ix2 r ⟨n.val, h⟩)
  else if h2 : n.val - 1536 < 512 then U (ix2 r ⟨n.val - 1536, h2⟩)
  else G (ix2 r ⟨n.val - 1536 - 512, by omega⟩)

/-- A shard's columns: those of `a`, then those of `b`. -/
def pair (a b : (⟨2, ![1024, 512]⟩ : Shape).Idx → EReal) (x k : Fin 1024) : EReal :=
  if h : k.val < 512 then a (ix2 x ⟨k.val, h⟩) else b (ix2 x ⟨k.val - 512, by omega⟩)

/-- The columns a shard `n` is read from, given the pieces at hand. -/
def shard (n : ℕ) (q k v u : (⟨2, ![1024, 512]⟩ : Shape).Idx → EReal) (g : (⟨2, ![1024, 1024]⟩ : Shape).Idx → EReal)
    (x y : Fin 1024) : EReal :=
  if n = 0 then pair q k x y else if n = 1 then pair v u x y else g (ix2 x y)

/-- A shard's columns are the gradient's at the shard's place, when each piece is read from its own. -/
theorem shard_eq {Q : (⟨2, ![8192, 1536]⟩ : Shape).Idx → EReal} {U : (⟨2, ![8192, 512]⟩ : Shape).Idx → EReal}
    {G : (⟨2, ![8192, 2048]⟩ : Shape).Idx → EReal} {q k v u : (⟨2, ![1024, 512]⟩ : Shape).Idx → EReal}
    {g : (⟨2, ![1024, 1024]⟩ : Shape).Idx → EReal} {r : Fin 8192} {x : Fin 1024} {n : ℕ} (hn : n < 4) (y : Fin 1024)
    (c : Fin 4096) (hc : c.val = n * 1024 + y.val)
    (hq : n = 0 → ∀ z : Fin 512, q (ix2 x z) = Q (ix2 r ⟨z.val, by omega⟩))
    (hk : n = 0 → ∀ z : Fin 512, k (ix2 x z) = Q (ix2 r ⟨512 + z.val, by omega⟩))
    (hv : n = 1 → ∀ z : Fin 512, v (ix2 x z) = Q (ix2 r ⟨1024 + z.val, by omega⟩))
    (hu : n = 1 → ∀ z : Fin 512, u (ix2 x z) = U (ix2 r z))
    (hg : ∀ (_ : ¬ n = 0) (_ : ¬ n = 1) (z : Fin 1024), g (ix2 x z) = G (ix2 r ⟨(n - 2) * 1024 + z.val, by omega⟩)) :
    shard n q k v u g x y = cols Q U G r c := by
  unfold shard cols
  by_cases h0 : n = 0
  · rw [if_pos h0, dif_pos (by omega), pair]
    by_cases h : y.val < 512
    · rw [dif_pos h]
      exact (hq h0 _).trans (congrArg (fun z => Q (ix2 r z)) (Fin.ext (by dsimp only; omega)))
    · rw [dif_neg h]
      exact (hk h0 _).trans (congrArg (fun z => Q (ix2 r z)) (Fin.ext (by dsimp only; omega)))
  rw [if_neg h0]
  by_cases h1 : n = 1
  · rw [if_pos h1, pair]
    by_cases h : y.val < 512
    · rw [dif_pos h, dif_pos (by omega)]
      exact (hv h1 _).trans (congrArg (fun z => Q (ix2 r z)) (Fin.ext (by dsimp only; omega)))
    · rw [dif_neg h, dif_neg (by omega), dif_pos (by omega)]
      exact (hu h1 _).trans (congrArg (fun z => U (ix2 r z)) (Fin.ext (by dsimp only; omega)))
  · rw [if_neg h1, dif_neg (by omega), dif_neg (by omega)]
    exact (hg h0 h1 _).trans (congrArg (fun z => G (ix2 r z)) (Fin.ext (by dsimp only; omega)))

end Cert.Proof.Proj

end
-- ==== Proof.ProjDx.lean ====
module

public import proofs.«01_k».proof.Defs
public import proofs.«01_k».proof.Proof.ProjCols
public import proofs.«01_k».proof.Proof.Gen.ProjDxKernelIdeal.Value

/-! # The gradient of the first projection with respect to its input

`dh = dy · wᵀ`: a token block of `dh` is summed over the four column shards of the weights, one grid point each. -/

@[expose] public section

set_option maxRecDepth 16384

noncomputable section

open Idealize.ShloMosaic Idealize.ShloMosaic.TcCoe Idealize.SL.Sem
open Cert.ProjDxKernelIdeal Cert.ProjDxKernelIdeal.Gen Cert.Proof.Proj

namespace Cert.Proof.ProjDx

variable (m : (ℓ : Loc nD τ sig) → Buf (Elt Ideal) ℓ)

/-- The gradient at a token and a feature: the sum over all columns of the projection. -/
def grad (Q : FVec Ideal S8192x1536 .bf16) (U : FVec Ideal S8192x512 .bf16) (G : FVec Ideal S8192x2048 .bf16)
    (W : FVec Ideal S2x4x1024x1024 .bf16) : FVec Ideal S8192x1024 .f32 := fun i =>
  ∑ n : Fin 4096, cols Q U G (i 0) n * W (ix4 1 ⟨n.val / 1024, by omega⟩ (i 1) ⟨n.val % 1024, by omega⟩)

/-- The windows' block indices. -/
theorem idx : ∀ t : Fin cfg0.N, win0_0.index t = ![t.val / 4, 0] ∧ win0_1.index t = ![t.val / 4, 1]
    ∧ win0_2.index t = ![t.val / 4, 2] ∧ win0_3.index t = ![t.val / 4, 0] ∧ win0_4.index t = ![t.val / 4, t.val % 4 - 2]
    ∧ win0_5.index t = ![1, t.val % 4, 0, 0] ∧ win0_6.index t = ![t.val / 4, 0] ∧ t.val < 32 :=
  (by decide +kernel : ∀ t : Fin grid0.N, _)

/-- One shard's part of the sum. -/
def part (c : Dev nD) (t : Fin cfg0.N) (y : S1024x1024.Idx) : EReal :=
  ∑ k : Fin 1024, shard (t.val % 4) (iblk m c 0 t) (iblk m c 1 t) (iblk m c 2 t) (iblk m c 3 t) (iblk m c 4 t) (y 0) k
    * (iblk m c 5 t : FVec Ideal S1x1x1024x1024 .bf16) (ix4 0 0 (y 1) k)

theorem first (c : Dev nD) (t : Fin cfg0.N) (h : t.val % 4 = 0) (y : S1024x1024.Idx) :
    outsAt0 m c t.val t.isLt y = (0 : EReal) + part m c t y := by
  rw [outsAt0_A m c t h (by omega) (by omega)]; frame_out
  open_payloads
  simp only [part, shard, if_pos h]
  pointwise [pair]

theorem step (c : Dev nD) (t : Fin cfg0.N) (h : ¬ t.val % 4 = 0) (y : S1024x1024.Idx) :
    outsAt0 m c t.val t.isLt y = outsAt0 m c (t.val - 1) (Nat.lt_of_le_of_lt (Nat.sub_le _ _) t.isLt) y
      + part m c t y := by
  by_cases h1 : t.val % 4 = 1
  · rw [outsAt0_B m c t h h1 (by omega)]; frame_out
    open_payloads
    simp only [part, shard, if_neg h, if_pos h1]
    pointwise [pair]
  · rw [outsAt0_C m c t h h1 (by omega)]; frame_out
    open_payloads
    simp only [part, shard, if_neg h, if_neg h1]
    pointwise []

/-- The array the kernel leaves. -/
theorem final (c : Dev nD) : (dats m 0 c).arrAt 6 cfg0.N
    = grad (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => outsAt0 m c n h) 4 (fun _ => (0 : EReal))
    (fun t y => part m c t y) (fun t h y => first m c t h y) (fun t h y => step m c t h y)
    t ((flush0_6 t).mp hf) _, zero_add]
  unfold grad
  rw [Fin.sum_univ_tiles 4 1024 rfl]
  unfold part
  refine Fin.sum_fin_congr fun s => Fin.sum_fin_congr fun k => ?_
  have h := (idx t).2.2.2.2.2.2.2
  have hs : (4 * (t.val / 4) + s.val) % 4 = s.val := by omega
  have hd : (4 * (t.val / 4) + s.val) / 4 = t.val / 4 := by omega
  refine congrArg₂ (fun a b : EReal => a * b) ?_ ?_
  · refine shard_eq (n := (4 * (t.val / 4) + s.val) % 4) (by omega) _ _ ?_ (fun h0 z => ?_) (fun h0 z => ?_) (fun h1 z => ?_)
      (fun h1 z => ?_) (fun h0 h1 z => ?_)
    · dsimp only; omega
    all_goals blk_point [iblk, V, idx t, idx ⟨_, Pipeline.run_point_lt_of_flush t ((flush0_6 t).mp hf) s⟩]
  · blk_point [iblk, V, idx t, idx ⟨_, Pipeline.run_point_lt_of_flush t ((flush0_6 t).mp hf) s⟩]

end Cert.Proof.ProjDx

end
-- ==== Proof.ProjDxRef.lean ====
module

public import proofs.«01_k».proof.Proof.ProjDx
public import proofs.«01_k».proof.Proof.Gen.ProjDxReferenceIdeal.Read
public import Idealize.ShloMosaic.Lib.KernelVsHost

/-! # The gradient of the first projection with respect to its input: kernel and reference agree -/

@[expose] public section

set_option maxRecDepth 16384

noncomputable section

open Idealize.ShloMosaic Idealize.ShloMosaic.TcCoe Idealize.SL.Sem
open Cert.ProjDxReferenceIdeal Cert.ProjDxReferenceIdeal.Read

namespace Cert.Proof.ProjDx

/-- The three gradients side by side. -/
theorem sides (Q : FVec Ideal S8192x1536 .bf16) (U : FVec Ideal S8192x512 .bf16) (G : FVec Ideal S8192x2048 .bf16)
    (i : S8192x4096.Idx) : val_main_v0 (F := Ideal) Q U G i = Proj.cols Q U G (i 0) (i 1) := by
  pointwise [val_main_v0, Proj.cols]

/-- The reference's gradient. -/
theorem ref (Q : FVec Ideal S8192x1536 .bf16) (U : FVec Ideal S8192x512 .bf16) (G : FVec Ideal S8192x2048 .bf16)
    (W : FVec Ideal S2x4x1024x1024 .bf16) : val_main_v9 (F := Ideal) Q U G W = grad Q U G W := by
  funext i
  pointwise [val_main_v9, val_main_v6, val_main_v5, val_main_v4, val_main_v3, val_main_v2, val_main_v1, grad]
  exact Finset.sum_congr rfl fun n _ => congrArg₂ (fun a b : EReal => a * b) (sides Q U G _) rfl

/-- What the kernel leaves. -/
theorem kernel_run (m : (ℓ : Loc Cert.ProjDxKernelIdeal.nD Cert.ProjDxKernelIdeal.τ Cert.ProjDxKernelIdeal.sig) → Buf (Elt Ideal) ℓ)
    (g : Dev Cert.ProjDxKernelIdeal.nD → PrngReg) :
    θ_run (Cert.ProjDxKernelIdeal.defs (F := Ideal)) (onTc (τ := Cert.ProjDxKernelIdeal.τ) (Cert.ProjDxKernelIdeal.main (F := Ideal)))
      ⟨m, fun _ => 0, g⟩ fun r => ∀ c : Dev Cert.ProjDxKernelIdeal.nD,
        r.2.mem (c.tc.loc Cert.ProjDxKernelIdeal.main_v0) = grad
            (m (c.tc.loc Cert.ProjDxKernelIdeal.main_arg0)) (m (c.tc.loc Cert.ProjDxKernelIdeal.main_arg1))
            (m (c.tc.loc Cert.ProjDxKernelIdeal.main_arg2)) (m (c.tc.loc Cert.ProjDxKernelIdeal.main_arg3))
        ∧ r.2.mem (c.tc.loc Cert.ProjDxKernelIdeal.main_arg0) = m (c.tc.loc Cert.ProjDxKernelIdeal.main_arg0)
        ∧ r.2.mem (c.tc.loc Cert.ProjDxKernelIdeal.main_arg1) = m (c.tc.loc Cert.ProjDxKernelIdeal.main_arg1)
        ∧ r.2.mem (c.tc.loc Cert.ProjDxKernelIdeal.main_arg2) = m (c.tc.loc Cert.ProjDxKernelIdeal.main_arg2)
        ∧ r.2.mem (c.tc.loc Cert.ProjDxKernelIdeal.main_arg3) = m (c.tc.loc Cert.ProjDxKernelIdeal.main_arg3) :=
  (θ_run Cert.ProjDxKernelIdeal.defs _ _).mono (fun _ h c => ⟨(h c).1.trans (final m c), (h c).2⟩)
    (Cert.ProjDxKernelIdeal.Value.run_blocks m g)

/-- Kernel and reference compute the same function. -/
theorem algebraic : Cert.algebraic_ProjDxKernelIdeal_ProjDxReferenceIdeal := by
  intro m g m' g' _ he
  refine ⟨_, kernel_run m g, ?_⟩
  refine (θ_run Cert.ProjDxReferenceIdeal.defs _ _).mono (fun r h c => ?_) (Cert.ProjDxReferenceIdeal.Value.run m' g')
  obtain ⟨e0, e1, e2, e3⟩ := he c
  exact ⟨(h c).1.trans ((val_main_v9_eq (F := Ideal) _ _ _ _).trans ((ref _ _ _ _).trans
    (congr (congr (congr (congrArg grad e0) e1) e2) e3))), (h c).2⟩

/-- The reference declares no semaphore. -/
theorem no_semaphore : (Finset.univ : Finset (SemLoc Cert.ProjDxReferenceIdeal.sig)) = ∅ := by decide

/-- The reference ends without fault, its arguments unchanged. -/
theorem frame_reference : Cert.quiescent_ProjDxReferenceIdeal := fun m ρ _ =>
  (θ_run Cert.ProjDxReferenceIdeal.defs _ _).mono (fun _ h => ⟨fun c => (h c).2, by
    funext s
    exact absurd (Finset.mem_univ s.2) (by rw [no_semaphore]; exact Finset.notMem_empty _)⟩)
    (Cert.ProjDxReferenceIdeal.Value.run m ρ)

end Cert.Proof.ProjDx

end
-- ==== Proof.ProjDw.lean ====
module

public import proofs.«01_k».proof.Defs
public import proofs.«01_k».proof.Proof.ProjCols
public import proofs.«01_k».proof.Proof.Gen.ProjDwKernelIdeal.Value

/-! # The gradient of the first projection with respect to its weights

`dw = hᵀ · dy`: a column shard of `dw` is summed over eight blocks of 1024 tokens, one grid point each, in a scratch
buffer that is rounded into the result at the shard's last point. The kernel writes one layer; the other layer's gradient,
already in the aliased buffer, stays. -/

@[expose] public section

set_option maxRecDepth 16384

noncomputable section

open Idealize.ShloMosaic Idealize.ShloMosaic.TcCoe Idealize.SL.Sem
open Cert.ProjDwKernelIdeal Cert.ProjDwKernelIdeal.Gen Cert.Proof.Proj

namespace Cert.Proof.ProjDw

variable (m : (ℓ : Loc nD τ sig) → Buf (Elt Ideal) ℓ)

/-- The gradient of layer 0: the sum over all tokens. -/
def grad (X : FVec Ideal S8192x1024 .bf16) (Q : FVec Ideal S8192x1536 .bf16) (U : FVec Ideal S8192x512 .bf16)
    (G : FVec Ideal S8192x2048 .bf16) : FVec Ideal S2x4x1024x1024 .bf16 := fun i =>
  ∑ r : Fin 8192, X (ix2 r (i 2)) * cols Q U G r ⟨(i 1).val * 1024 + (i 3).val, by idx_bounds; omega⟩

/-- The windows' block indices. -/
theorem idx : ∀ t : Fin cfg0.N, win0_0.index t = ![t.val % 8, 0] ∧ win0_1.index t = ![t.val % 8, 0]
    ∧ win0_2.index t = ![t.val % 8, 1] ∧ win0_3.index t = ![t.val % 8, 2] ∧ win0_4.index t = ![t.val % 8, 0]
    ∧ win0_5.index t = ![t.val % 8, t.val / 8 - 2] ∧ win0_6.index t = ![0, t.val / 8, 0, 0] ∧ t.val < 32 :=
  (by decide +kernel : ∀ t : Fin grid0.N, _)

/-- The product of a block of rows of `x`, transposed, and the columns `e`. -/
def block (x : FVec Ideal S1024x1024 .bf16) (e : Fin 1024 → Fin 1024 → EReal) (y : S1024x1024.Idx) : EReal :=
  ∑ k : Fin 1024, x (ix2 k (y 0)) * e k (y 1)

/-- One token block's part of the sum. -/
def part (c : Dev nD) (t : Fin cfg0.N) (y : S1024x1024.Idx) : EReal :=
  block (iblk m c 0 t) (shard (t.val / 8) (iblk m c 1 t) (iblk m c 2 t) (iblk m c 3 t) (iblk m c 4 t) (iblk m c 5 t)) y

/-- The accumulator after a point. -/
abbrev acc (c : Dev nD) (n : ℕ) (h : n < cfg0.N) : FVec Ideal S1024x1024 .f32 := (outsAt0 m c n h).2

theorem first (c : Dev nD) (t : Fin cfg0.N) (h : t.val % 8 = 0) (y : S1024x1024.Idx) :
    acc m c t.val t.isLt y = (0 : EReal) + part m c t y := by
  have hN := (idx t).2.2.2.2.2.2.2
  unfold acc
  by_cases h0 : t.val / 8 = 0
  · rw [outsAt0_A m c t (by omega) h (by omega) (by omega) (by omega) (by omega)]; dsimp only; frame_out
    open_payloads
    simp only [part, block, shard, if_pos h0]
    pointwise [pair]
  by_cases h1 : t.val / 8 = 1
  · rw [outsAt0_D m c t (by omega) (by omega) (by omega) (by omega) h (by omega)]; dsimp only; frame_out
    open_payloads
    simp only [part, block, shard, if_neg h0, if_pos h1]
    pointwise [pair]
  · rw [outsAt0_G m c t (by omega) (by omega) (by omega) (by omega) h (by omega)]; dsimp only; frame_out
    open_payloads
    simp only [part, block, shard, if_neg h0, if_neg h1]
    pointwise []

theorem step (c : Dev nD) (t : Fin cfg0.N) (h : ¬ t.val % 8 = 0) (y : S1024x1024.Idx) :
    acc m c t.val t.isLt y = acc m c (t.val - 1) (Nat.lt_of_le_of_lt (Nat.sub_le _ _) t.isLt) y + part m c t y := by
  have hN := (idx t).2.2.2.2.2.2.2
  unfold acc
  by_cases h0 : t.val / 8 = 0
  · by_cases h7 : t.val % 8 = 7
    · rw [outsAt0_C m c t (by omega) h (by omega) (by omega) (by omega) h7]; dsimp only; frame_out
      open_payloads
      simp only [part, block, shard, if_pos h0]
      pointwise [pair]
      exact congrArg (fun a : EReal => a + _) (congrFun (Memref.IsWhole.read_unread _ _) y)
    · rw [outsAt0_B m c t (by omega) h (by omega) (by omega) (by omega) h7]; dsimp only; frame_out
      open_payloads
      simp only [part, block, shard, if_pos h0]
      pointwise [pair]
      exact congrArg (fun a : EReal => a + _) (congrFun (Memref.IsWhole.read_unread _ _) y)
  by_cases h1 : t.val / 8 = 1
  · by_cases h7 : t.val % 8 = 7
    · rw [outsAt0_F m c t (by omega) (by omega) (by omega) h7 h (by omega)]; dsimp only; frame_out
      open_payloads
      simp only [part, block, shard, if_neg h0, if_pos h1]
      pointwise [pair]
      exact congrArg (fun a : EReal => a + _) (congrFun (Memref.IsWhole.read_unread _ _) y)
    · rw [outsAt0_E m c t (by omega) (by omega) (by omega) h7 h (by omega)]; dsimp only; frame_out
      open_payloads
      simp only [part, block, shard, if_neg h0, if_pos h1]
      pointwise [pair]
      exact congrArg (fun a : EReal => a + _) (congrFun (Memref.IsWhole.read_unread _ _) y)
  · by_cases h7 : t.val % 8 = 7
    · rw [outsAt0_I m c t (by omega) (by omega) (by omega) h7 h (by omega)]; dsimp only; frame_out
      open_payloads
      simp only [part, block, shard, if_neg h0, if_neg h1]
      pointwise []
      exact congrArg (fun a : EReal => a + _) (congrFun (Memref.IsWhole.read_unread _ _) y)
    · rw [outsAt0_H m c t (by omega) (by omega) (by omega) h7 h (by omega)]; dsimp only; frame_out
      open_payloads
      simp only [part, block, shard, if_neg h0, if_neg h1]
      pointwise []
      exact congrArg (fun a : EReal => a + _) (congrFun (Memref.IsWhole.read_unread _ _) y)

/-- At a shard's last point the block written is the accumulator. -/
theorem last (c : Dev nD) (t : Fin cfg0.N) (h : t.val % 8 = 7) (y : S1x1x1024x1024.Idx) :
    (outsAt0 m c t.val t.isLt).1 y = acc m c t.val t.isLt (ix2 (y 2) (y 3)) := by
  have hN := (idx t).2.2.2.2.2.2.2
  unfold acc
  by_cases h0 : t.val / 8 = 0
  · rw [outsAt0_C m c t (by omega) (by omega) (by omega) (by omega) (by omega) h]; dsimp only; frame_out
    open_payloads
    pointwise []
  by_cases h1 : t.val / 8 = 1
  · rw [outsAt0_F m c t (by omega) (by omega) (by omega) h (by omega) (by omega)]; dsimp only; frame_out
    open_payloads
    pointwise []
  · rw [outsAt0_I m c t (by omega) (by omega) (by omega) h (by omega) (by omega)]; dsimp only; frame_out
    open_payloads
    pointwise []

/-- The array the kernel leaves. -/
theorem final (c : Dev nD) : (dats m 0 c).arrAt 6 cfg0.N = fun i => if (i 0 : ℕ) = 0
    then grad (m ((c : Thread nD τ).loc main_arg0)) (m ((c : Thread nD τ).loc main_arg1))
      (m ((c : Thread nD τ).loc main_arg2)) (m ((c : Thread nD τ).loc main_arg3)) i
    else m ((c : Thread nD τ).loc main_arg4) i := by
  have hV : V m c main_v0 = m ((c : Thread nD τ).loc main_arg4) := by unfold V; after_results; try rfl
  rw [← hV]
  refine (dats m 0 c).arrAt_eq_of_coversWhere 6 _ (fun β => β 0 = 0) (by decide +kernel) (fun t hf y => ?_)
    (fun j => by blk_simp [Pipeline.Window.cell_apply]; omega)
  blk_simp
  rw [after0_6]
  refine (last m c t ((flush0_6 t).mp hf) _).trans ?_
  rw [Pipeline.eq_sum_fin_of_reset_step_apply_of_flush (fun n h => acc m c n h) 8 (fun _ => (0 : EReal))
    (fun t y => part m c t y) (fun t h y => first m c t h y) (fun t h y => step m c t h y)
    t ((flush0_6 t).mp hf) _, zero_add]
  unfold grad
  rw [Fin.sum_univ_tiles 8 1024 rfl]
  unfold part block
  refine Fin.sum_fin_congr fun s => Fin.sum_fin_congr fun k => ?_
  have h := (idx t).2.2.2.2.2.2.2
  have hs : (8 * (t.val / 8) + s.val) % 8 = s.val := by omega
  have hd : (8 * (t.val / 8) + s.val) / 8 = t.val / 8 := by omega
  refine congrArg₂ (fun a b : EReal => a * b) ?_ ?_
  · blk_point [iblk, V, idx t, idx ⟨_, Pipeline.run_point_lt_of_flush t ((flush0_6 t).mp hf) s⟩]
  · refine shard_eq (n := (8 * (t.val / 8) + s.val) / 8) (by omega) _ _ ?_ (fun h0 z => ?_) (fun h0 z => ?_) (fun h1 z => ?_)
      (fun h1 z => ?_) (fun h0 h1 z => ?_)
    · blk_simp [idx t]; dsimp only; omega
    all_goals blk_point [iblk, V, idx t, idx ⟨_, Pipeline.run_point_lt_of_flush t ((flush0_6 t).mp hf) s⟩]

end Cert.Proof.ProjDw

end
-- ==== Proof.ProjDwRef.lean ====
module

public import proofs.«01_k».proof.Proof.ProjDw
public import proofs.«01_k».proof.Proof.Gen.ProjDwReferenceIdeal.Read
public import Idealize.ShloMosaic.Lib.KernelVsHost

/-! # The gradient of the first projection with respect to its weights: kernel and reference agree -/

@[expose] public section

set_option maxRecDepth 16384

noncomputable section

open Idealize.ShloMosaic Idealize.ShloMosaic.TcCoe Idealize.SL.Sem
open Cert.ProjDwReferenceIdeal Cert.ProjDwReferenceIdeal.Read

namespace Cert.Proof.ProjDw

/-- Both layers' gradients: layer 0's, and layer 1's as it was handed over. -/
def both (X : FVec Ideal S8192x1024 .bf16) (Q : FVec Ideal S8192x1536 .bf16) (U : FVec Ideal S8192x512 .bf16)
    (G : FVec Ideal S8192x2048 .bf16) (L : FVec Ideal S2x4x1024x1024 .bf16) : FVec Ideal S2x4x1024x1024 .bf16 :=
  fun i => if (i 0 : ℕ) = 0 then grad X Q U G i else L i

/-- The three gradients side by side. -/
theorem sides (Q : FVec Ideal S8192x1536 .bf16) (U : FVec Ideal S8192x512 .bf16) (G : FVec Ideal S8192x2048 .bf16)
    (i : S8192x4096.Idx) : val_main_v0 (F := Ideal) Q U G i = Proj.cols Q U G (i 0) (i 1) := by
  pointwise [val_main_v0, Proj.cols]

/-- The reference's gradients. -/
theorem ref (X : FVec Ideal S8192x1024 .bf16) (Q : FVec Ideal S8192x1536 .bf16) (U : FVec Ideal S8192x512 .bf16)
    (G : FVec Ideal S8192x2048 .bf16) (L : FVec Ideal S2x4x1024x1024 .bf16) :
    val_main_v14 (F := Ideal) X Q U G L = both X Q U G L := by
  funext i
  pointwise [val_main_v14, val_main_v13, val_main_v12, val_main_v11, val_main_v10, val_main_v9, val_main_v8, val_main_v7, val_main_v6, val_main_v5, val_main_v2, val_main_v1, both, grad]
  idx_bounds
  have hi : ¬ (i 0).val = 0 → i = ix4 1 (i 1) (i 2) (i 3) := fun h => by blk_point []
  by_cases h : (i 0).val = 0
  · rw [if_pos h, dif_pos (by omega)]
    exact Finset.sum_congr rfl fun r _ => (mul_comm _ _).trans
      (congrArg₂ (fun a b : EReal => a * b) rfl (sides Q U G _))
  · rw [if_neg h, dif_neg (by omega)]
    exact congrArg L (hi h).symm

/-- What the kernel leaves. -/
theorem kernel_run (m : (ℓ : Loc Cert.ProjDwKernelIdeal.nD Cert.ProjDwKernelIdeal.τ Cert.ProjDwKernelIdeal.sig) → Buf (Elt Ideal) ℓ)
    (g : Dev Cert.ProjDwKernelIdeal.nD → PrngReg) :
    θ_run (Cert.ProjDwKernelIdeal.defs (F := Ideal)) (onTc (τ := Cert.ProjDwKernelIdeal.τ) (Cert.ProjDwKernelIdeal.main (F := Ideal)))
      ⟨m, fun _ => 0, g⟩ fun r => ∀ c : Dev Cert.ProjDwKernelIdeal.nD,
        r.2.mem (c.tc.loc Cert.ProjDwKernelIdeal.main_v0) = both
            (m (c.tc.loc Cert.ProjDwKernelIdeal.main_arg0)) (m (c.tc.loc Cert.ProjDwKernelIdeal.main_arg1))
            (m (c.tc.loc Cert.ProjDwKernelIdeal.main_arg2)) (m (c.tc.loc Cert.ProjDwKernelIdeal.main_arg3))
            (m (c.tc.loc Cert.ProjDwKernelIdeal.main_arg4))
        ∧ r.2.mem (c.tc.loc Cert.ProjDwKernelIdeal.main_arg0) = m (c.tc.loc Cert.ProjDwKernelIdeal.main_arg0)
        ∧ r.2.mem (c.tc.loc Cert.ProjDwKernelIdeal.main_arg1) = m (c.tc.loc Cert.ProjDwKernelIdeal.main_arg1)
        ∧ r.2.mem (c.tc.loc Cert.ProjDwKernelIdeal.main_arg2) = m (c.tc.loc Cert.ProjDwKernelIdeal.main_arg2)
        ∧ r.2.mem (c.tc.loc Cert.ProjDwKernelIdeal.main_arg3) = m (c.tc.loc Cert.ProjDwKernelIdeal.main_arg3)
        ∧ r.2.mem (c.tc.loc Cert.ProjDwKernelIdeal.main_arg4) = m (c.tc.loc Cert.ProjDwKernelIdeal.main_arg4) :=
  (θ_run Cert.ProjDwKernelIdeal.defs _ _).mono (fun _ h c => ⟨(h c).1.trans (final m c), (h c).2⟩)
    (Cert.ProjDwKernelIdeal.Value.run_blocks m g)

/-- Kernel and reference compute the same function. -/
theorem algebraic : Cert.algebraic_ProjDwKernelIdeal_ProjDwReferenceIdeal := by
  intro m g m' g' _ he
  refine ⟨_, kernel_run m g, ?_⟩
  refine (θ_run Cert.ProjDwReferenceIdeal.defs _ _).mono (fun r h c => ?_) (Cert.ProjDwReferenceIdeal.Value.run m' g')
  obtain ⟨e0, e1, e2, e3, e4⟩ := he c
  exact ⟨(h c).1.trans ((val_main_v14_eq (F := Ideal) _ _ _ _ _).trans ((ref _ _ _ _ _).trans
    (congr (congr (congr (congr (congrArg both e0) e1) e2) e3) e4))), (h c).2⟩

/-- The reference declares no semaphore. -/
theorem no_semaphore : (Finset.univ : Finset (SemLoc Cert.ProjDwReferenceIdeal.sig)) = ∅ := by decide

/-- The reference ends without fault, its arguments unchanged. -/
theorem frame_reference : Cert.quiescent_ProjDwReferenceIdeal := fun m ρ _ =>
  (θ_run Cert.ProjDwReferenceIdeal.defs _ _).mono (fun _ h => ⟨fun c => (h c).2, by
    funext s
    exact absurd (Finset.mem_univ s.2) (by rw [no_semaphore]; exact Finset.notMem_empty _)⟩)
    (Cert.ProjDwReferenceIdeal.Value.run m ρ)

end Cert.Proof.ProjDw

end
-- ==== Proof.Products.lean ====
module

public import proofs.«01_k».proof.Defs
public import Idealize.ShloMosaic.Lib.Pipeline.ValueKit

/-! # The products

What each of the step's products computes, as a sum at an index: `x` or `g` has a row for every token, and the weights
of both layers are one array, whose first index `l` is the layer. Weights stored in column shards have a shard index before
the row. -/

@[expose] public section

noncomputable section

open Idealize.ShloMosaic

namespace Cert.Proof.Products

/-- The shard of a column. -/
def shard {b n : ℕ} (h : n = 4 * b) (j : Fin n) : Fin 4 :=
  ⟨j.val / b, Nat.div_lt_of_lt_mul (by have := j.isLt; omega)⟩

/-- Its place within the shard. -/
def within {b n : ℕ} (h : n = 4 * b) (j : Fin n) : Fin b :=
  ⟨j.val % b, Nat.mod_lt _ (by have := j.isLt; omega)⟩

/-- `x · w`. -/
def nn {t k n : ℕ} (l : Fin 2) (X : FVec Ideal ⟨2, ![t, k]⟩ .bf16) (W : FVec Ideal ⟨3, ![2, k, n]⟩ .bf16) (e : FTy) :
    FVec Ideal ⟨2, ![t, n]⟩ e := fun i => ∑ k : Fin k, X (ix2 (i 0) k) * W (ix3 l k (i 1))

/-- `g · wᵀ`. -/
def nt {t k n : ℕ} (l : Fin 2) (G : FVec Ideal ⟨2, ![t, n]⟩ .bf16) (W : FVec Ideal ⟨3, ![2, k, n]⟩ .bf16) (e : FTy) :
    FVec Ideal ⟨2, ![t, k]⟩ e := fun i => ∑ n : Fin n, G (ix2 (i 0) n) * W (ix3 l (i 1) n)

/-- `x · w`, the columns of `w` in four shards. -/
def nnBlocked {t k b n : ℕ} (l : Fin 2) (X : FVec Ideal ⟨2, ![t, k]⟩ .bf16) (W : FVec Ideal ⟨4, ![2, 4, k, b]⟩ .bf16)
    (h : n = 4 * b) (e : FTy) : FVec Ideal ⟨2, ![t, n]⟩ e := fun i =>
  ∑ k : Fin k, X (ix2 (i 0) k) * W (ix4 l (shard h (i 1)) k (within h (i 1)))

/-- `g · wᵀ`, the columns of `w` in four shards. -/
def ntBlocked {t k b n : ℕ} (l : Fin 2) (G : FVec Ideal ⟨2, ![t, n]⟩ .bf16) (W : FVec Ideal ⟨4, ![2, 4, k, b]⟩ .bf16)
    (h : n = 4 * b) (e : FTy) : FVec Ideal ⟨2, ![t, k]⟩ e := fun i =>
  ∑ j : Fin n, G (ix2 (i 0) j) * W (ix4 l (shard h j) (i 1) (within h j))

/-- The column at a place of a shard. -/
def column {b n : ℕ} (h : n = 4 * b) (s : Fin 4) (j : Fin b) : Fin n :=
  ⟨s.val * b + j.val, by have := s.isLt; have := j.isLt; subst h; nlinarith⟩

/-- `xᵀ · g`, the same for every layer. -/
def tn {t k n : ℕ} (X : FVec Ideal ⟨2, ![t, k]⟩ .bf16) (G : FVec Ideal ⟨2, ![t, n]⟩ .bf16) :
    FVec Ideal ⟨3, ![2, k, n]⟩ .bf16 := fun i => ∑ r : Fin t, X (ix2 r (i 1)) * G (ix2 r (i 2))

/-- `xᵀ · g`, its columns in four shards, the same for every layer. -/
def tnBlocked {t k b n : ℕ} (X : FVec Ideal ⟨2, ![t, k]⟩ .bf16) (G : FVec Ideal ⟨2, ![t, n]⟩ .bf16) (h : n = 4 * b) :
    FVec Ideal ⟨4, ![2, 4, k, b]⟩ .bf16 := fun i => ∑ r : Fin t, X (ix2 r (i 2)) * G (ix2 r (column h (i 1) (i 3)))

/-- The mask of layer 1 is set at that layer's indices only. -/
theorem layer_one : ∀ l : Fin 2, IntOp.cmpi .eq (BitVec.ofNat 32 l.val) 1#32 = 1#1 → l.val = 1 := by decide

end Cert.Proof.Products

end
-- ==== Proof.Mix.lean ====
module

public import proofs.«01_k».proof.Proof.Products
public import proofs.«01_k».proof.Proof.Gen.Mix1KernelIdeal.Value
public import proofs.«01_k».proof.Proof.Gen.Mix1ReferenceIdeal.Read
public import proofs.«01_k».proof.Proof.Gen.Mix0KernelIdeal.Value
public import proofs.«01_k».proof.Proof.Gen.Mix0ReferenceIdeal.Read
public import Idealize.ShloMosaic.Lib.KernelVsHost

/-! # The product that mixes the branches -/

@[expose] public section

set_option maxRecDepth 16384

noncomputable section

open Idealize.ShloMosaic Idealize.ShloMosaic.TcCoe Idealize.SL.Sem

namespace Cert.Proof.Mix1

section Kernel

open Cert.Mix1KernelIdeal Cert.Mix1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nn 1 (m ((c : Thread nD τ).loc main_arg0)) (m ((c : Thread nD τ).loc main_arg1)) .f32 := by
  refine (dats m 0 c).arrAt_eq_of_covers 2 _ (by decide +kernel) fun t hf y => ?_
  blk_simp
  rw [after0_2]; frame_out
  open_payloads
  pointwise [Products.nn]
  refine Fin.sum_fin_congr fun k => ?_
  have h := (idx t).2.2.2
  blk_point [iblk, V, idx t]

end Kernel

section Reference

open Cert.Mix1ReferenceIdeal Cert.Mix1ReferenceIdeal.Read

/-- The reference's product. -/
theorem ref (X : FVec Ideal S8192x1024 .bf16) (W : FVec Ideal S2x1024x1024 .bf16) :
    val_main_v4 (F := Ideal) X W = Products.nn 1 X W .f32 := by
  funext i
  pointwise [val_main_v4, val_main_v3, val_main_v2, val_main_v1, val_main_v0, Products.nn]

/-- Kernel and reference compute the same function. -/
theorem algebraic : Cert.algebraic_Mix1KernelIdeal_Mix1ReferenceIdeal := by
  intro m g m' g' _ he
  refine ⟨_, (θ_run Cert.Mix1KernelIdeal.defs _ _).mono (fun _ h c => ⟨(h c).1.trans (final m c), (h c).2⟩)
    (Cert.Mix1KernelIdeal.Value.run_blocks m g), ?_⟩
  refine (θ_run defs _ _).mono (fun r h c => ?_) (Value.run m' g')
  obtain ⟨e0, e1⟩ := he c
  refine ⟨(h c).1.trans ((val_main_v4_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Mix1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Mix1

namespace Cert.Proof.Mix0

section Kernel

open Cert.Mix0KernelIdeal Cert.Mix0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nn 0 (m ((c : Thread nD τ).loc main_arg0)) (m ((c : Thread nD τ).loc main_arg1)) .f32 := by
  refine (dats m 0 c).arrAt_eq_of_covers 2 _ (by decide +kernel) fun t hf y => ?_
  blk_simp
  rw [after0_2]; frame_out
  open_payloads
  pointwise [Products.nn]
  refine Fin.sum_fin_congr fun k => ?_
  have h := (idx t).2.2.2
  blk_point [iblk, V, idx t]

end Kernel

section Reference

open Cert.Mix0ReferenceIdeal Cert.Mix0ReferenceIdeal.Read

/-- The reference's product. -/
theorem ref (X : FVec Ideal S8192x1024 .bf16) (W : FVec Ideal S2x1024x1024 .bf16) :
    val_main_v4 (F := Ideal) X W = Products.nn 0 X W .f32 := by
  funext i
  pointwise [val_main_v4, val_main_v3, val_main_v2, val_main_v1, val_main_v0, Products.nn]

/-- Kernel and reference compute the same function. -/
theorem algebraic : Cert.algebraic_Mix0KernelIdeal_Mix0ReferenceIdeal := by
  intro m g m' g' _ he
  refine ⟨_, (θ_run Cert.Mix0KernelIdeal.defs _ _).mono (fun _ h c => ⟨(h c).1.trans (final m c), (h c).2⟩)
    (Cert.Mix0KernelIdeal.Value.run_blocks m g), ?_⟩
  refine (θ_run defs _ _).mono (fun r h c => ?_) (Value.run m' g')
  obtain ⟨e0, e1⟩ := he c
  refine ⟨(h c).1.trans ((val_main_v4_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Mix0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Mix0

end
-- ==== Proof.Down.lean ====
module

public import proofs.«01_k».proof.Proof.Products
public import proofs.«01_k».proof.Proof.Gen.Down1KernelIdeal.Value
public import proofs.«01_k».proof.Proof.Gen.Down1ReferenceIdeal.Read
public import proofs.«01_k».proof.Proof.Gen.Down0KernelIdeal.Value
public import proofs.«01_k».proof.Proof.Gen.Down0ReferenceIdeal.Read
public import Idealize.ShloMosaic.Lib.KernelVsHost

/-! # The FFN's down-projection -/

@[expose] public section

set_option maxRecDepth 16384

noncomputable section

open Idealize.ShloMosaic Idealize.ShloMosaic.TcCoe Idealize.SL.Sem

namespace Cert.Proof.Down1

section Kernel

open Cert.Down1KernelIdeal Cert.Down1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nn 1 (m ((c : Thread nD τ).loc main_arg0)) (m ((c : Thread nD τ).loc main_arg1)) .f32 := by
  refine (dats m 0 c).arrAt_eq_of_covers 2 _ (by decide +kernel) fun t hf y => ?_
  blk_simp
  rw [after0_2]; frame_out
  open_payloads
  pointwise [Products.nn]
  refine Fin.sum_fin_congr fun k => ?_
  have h := (idx t).2.2.2
  blk_point [iblk, V, idx t]

end Kernel

section Reference

open Cert.Down1ReferenceIdeal Cert.Down1ReferenceIdeal.Read

/-- The reference's product. -/
theorem ref (X : FVec Ideal S8192x2816 .bf16) (W : FVec Ideal S2x2816x1024 .bf16) :
    val_main_v4 (F := Ideal) X W = Products.nn 1 X W .f32 := by
  funext i
  pointwise [val_main_v4, val_main_v3, val_main_v2, val_main_v1, val_main_v0, Products.nn]

/-- Kernel and reference compute the same function. -/
theorem algebraic : Cert.algebraic_Down1KernelIdeal_Down1ReferenceIdeal := by
  intro m g m' g' _ he
  refine ⟨_, (θ_run Cert.Down1KernelIdeal.defs _ _).mono (fun _ h c => ⟨(h c).1.trans (final m c), (h c).2⟩)
    (Cert.Down1KernelIdeal.Value.run_blocks m g), ?_⟩
  refine (θ_run defs _ _).mono (fun r h c => ?_) (Value.run m' g')
  obtain ⟨e0, e1⟩ := he c
  refine ⟨(h c).1.trans ((val_main_v4_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Down1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Down1

namespace Cert.Proof.Down0

section Kernel

open Cert.Down0KernelIdeal Cert.Down0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nn 0 (m ((c : Thread nD τ).loc main_arg0)) (m ((c : Thread nD τ).loc main_arg1)) .f32 := by
  refine (dats m 0 c).arrAt_eq_of_covers 2 _ (by decide +kernel) fun t hf y => ?_
  blk_simp
  rw [after0_2]; frame_out
  open_payloads
  pointwise [Products.nn]
  refine Fin.sum_fin_congr fun k => ?_
  have h := (idx t).2.2.2
  blk_point [iblk, V, idx t]

end Kernel

section Reference

open Cert.Down0ReferenceIdeal Cert.Down0ReferenceIdeal.Read

/-- The reference's product. -/
theorem ref (X : FVec Ideal S8192x2816 .bf16) (W : FVec Ideal S2x2816x1024 .bf16) :
    val_main_v4 (F := Ideal) X W = Products.nn 0 X W .f32 := by
  funext i
  pointwise [val_main_v4, val_main_v3, val_main_v2, val_main_v1, val_main_v0, Products.nn]

/-- Kernel and reference compute the same function. -/
theorem algebraic : Cert.algebraic_Down0KernelIdeal_Down0ReferenceIdeal := by
  intro m g m' g' _ he
  refine ⟨_, (θ_run Cert.Down0KernelIdeal.defs _ _).mono (fun _ h c => ⟨(h c).1.trans (final m c), (h c).2⟩)
    (Cert.Down0KernelIdeal.Value.run_blocks m g), ?_⟩
  refine (θ_run defs _ _).mono (fun r h c => ?_) (Value.run m' g')
  obtain ⟨e0, e1⟩ := he c
  refine ⟨(h c).1.trans ((val_main_v4_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Down0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Down0

end
-- ==== Proof.MixDx.lean ====
module

public import proofs.«01_k».proof.Proof.Products
public import proofs.«01_k».proof.Proof.Gen.MixDx1KernelIdeal.Value
public import proofs.«01_k».proof.Proof.Gen.MixDx1ReferenceIdeal.Read
public import proofs.«01_k».proof.Proof.Gen.MixDx0KernelIdeal.Value
public import proofs.«01_k».proof.Proof.Gen.MixDx0ReferenceIdeal.Read
public import Idealize.ShloMosaic.Lib.KernelVsHost

/-! # The gradient of the mixing product with respect to its input -/

@[expose] public section

set_option maxRecDepth 16384

noncomputable section

open Idealize.ShloMosaic Idealize.ShloMosaic.TcCoe Idealize.SL.Sem

namespace Cert.Proof.MixDx1

section Kernel

open Cert.MixDx1KernelIdeal Cert.MixDx1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nt 1 (m ((c : Thread nD τ).loc main_arg0)) (m ((c : Thread nD τ).loc main_arg1)) .bf16 := by
  refine (dats m 0 c).arrAt_eq_of_covers 2 _ (by decide +kernel) fun t hf y => ?_
  blk_simp
  rw [after0_2]; frame_out
  open_payloads
  pointwise [Products.nt]
  refine Fin.sum_fin_congr fun k => ?_
  have h := (idx t).2.2.2
  blk_point [iblk, V, idx t]

end Kernel

section Reference

open Cert.MixDx1ReferenceIdeal Cert.MixDx1ReferenceIdeal.Read

/-- The reference's product. -/
theorem ref (X : FVec Ideal S8192x1024 .bf16) (W : FVec Ideal S2x1024x1024 .bf16) :
    val_main_v7 (F := Ideal) X W = Products.nt 1 X W .bf16 := by
  funext i
  pointwise [val_main_v7, val_main_v6, val_main_v3, val_main_v2, val_main_v1, val_main_v0, Products.nt]

/-- Kernel and reference compute the same function. -/
theorem algebraic : Cert.algebraic_MixDx1KernelIdeal_MixDx1ReferenceIdeal := by
  intro m g m' g' _ he
  refine ⟨_, (θ_run Cert.MixDx1KernelIdeal.defs _ _).mono (fun _ h c => ⟨(h c).1.trans (final m c), (h c).2⟩)
    (Cert.MixDx1KernelIdeal.Value.run_blocks m g), ?_⟩
  refine (θ_run defs _ _).mono (fun r h c => ?_) (Value.run m' g')
  obtain ⟨e0, e1⟩ := he c
  refine ⟨(h c).1.trans ((val_main_v7_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_MixDx1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.MixDx1

namespace Cert.Proof.MixDx0

section Kernel

open Cert.MixDx0KernelIdeal Cert.MixDx0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.nt 0 (m ((c : Thread nD τ).loc main_arg0)) (m ((c : Thread nD τ).loc main_arg1)) .bf16 := by
  refine (dats m 0 c).arrAt_eq_of_covers 2 _ (by decide +kernel) fun t hf y => ?_
  blk_simp
  rw [after0_2]; frame_out
  open_payloads
  pointwise [Products.nt]
  refine Fin.sum_fin_congr fun k => ?_
  have h := (idx t).2.2.2
  blk_point [iblk, V, idx t]

end Kernel

section Reference

open Cert.MixDx0ReferenceIdeal Cert.MixDx0ReferenceIdeal.Read

/-- The reference's product. -/
theorem ref (X : FVec Ideal S8192x1024 .bf16) (W : FVec Ideal S2x1024x1024 .bf16) :
    val_main_v7 (F := Ideal) X W = Products.nt 0 X W .bf16 := by
  funext i
  pointwise [val_main_v7, val_main_v6, val_main_v3, val_main_v2, val_main_v1, val_main_v0, Products.nt]

/-- Kernel and reference compute the same function. -/
theorem algebraic : Cert.algebraic_MixDx0KernelIdeal_MixDx0ReferenceIdeal := by
  intro m g m' g' _ he
  refine ⟨_, (θ_run Cert.MixDx0KernelIdeal.defs _ _).mono (fun _ h c => ⟨(h c).1.trans (final m c), (h c).2⟩)
    (Cert.MixDx0KernelIdeal.Value.run_blocks m g), ?_⟩
  refine (θ_run defs _ _).mono (fun r h c => ?_) (Value.run m' g')
  obtain ⟨e0, e1⟩ := he c
  refine ⟨(h c).1.trans ((val_main_v7_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_MixDx0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.MixDx0

end
-- ==== Proof.First.lean ====
module

public import proofs.«01_k».proof.Proof.Products
public import proofs.«01_k».proof.Proof.Gen.Proj1KernelIdeal.Value
public import proofs.«01_k».proof.Proof.Gen.Proj1ReferenceIdeal.Read
public import proofs.«01_k».proof.Proof.Gen.Proj0KernelIdeal.Value
public import proofs.«01_k».proof.Proof.Gen.Proj0ReferenceIdeal.Read
public import Idealize.ShloMosaic.Lib.KernelVsHost

/-! # The first projection -/

@[expose] public section

set_option maxRecDepth 16384

noncomputable section

open Idealize.ShloMosaic Idealize.ShloMosaic.TcCoe Idealize.SL.Sem

namespace Cert.Proof.Proj1

section Kernel

open Cert.Proj1KernelIdeal Cert.Proj1KernelIdeal.Gen

variable (m : (ℓ : Loc nD τ sig) → Buf (Elt Ideal) ℓ)

/-- The windows' block indices. -/
theorem idx : ∀ t : Fin cfg0.N, win0_0.index t = ![t.val / 4, 0]
    ∧ win0_1.index t = ![1, t.val % 4, 0, 0] ∧ win0_2.index t = ![t.val / 4, t.val % 4] ∧ t.val < 32 :=
  (by decide +kernel : ∀ t : Fin grid0.N, _)

/-- The array the kernel leaves. -/
theorem final (c : Dev nD) : (dats m 0 c).arrAt 2 cfg0.N
    = Products.nnBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.nnBlocked, Products.shard, Products.within]
  refine Fin.sum_fin_congr fun k => ?_
  have h := (idx t).2.2.2
  blk_point [iblk, V, idx t]

end Kernel

section Reference

open Cert.Proj1ReferenceIdeal Cert.Proj1ReferenceIdeal.Read

/-- The reference's product. -/
theorem ref (X : FVec Ideal S8192x1024 .bf16) (W : FVec Ideal S2x4x1024x1024 .bf16) :
    val_main_v5 (F := Ideal) X W = Products.nnBlocked 1 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_Proj1KernelIdeal_Proj1ReferenceIdeal := by
  intro m g m' g' _ he
  refine ⟨_, (θ_run Cert.Proj1KernelIdeal.defs _ _).mono (fun _ h c => ⟨(h c).1.trans (final m c), (h c).2⟩)
    (Cert.Proj1KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Proj1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Proj1

namespace Cert.Proof.Proj0

section Kernel

open Cert.Proj0KernelIdeal Cert.Proj0KernelIdeal.Gen

variable (m : (ℓ : Loc nD τ sig) → Buf (Elt Ideal) ℓ)

/-- The windows' block indices. -/
theorem idx : ∀ t : Fin cfg0.N, win0_0.index t = ![t.val / 4, 0]
    ∧ win0_1.index t = ![0, t.val % 4, 0, 0] ∧ win0_2.index t = ![t.val / 4, t.val % 4] ∧ t.val < 32 :=
  (by decide +kernel : ∀ t : Fin grid0.N, _)

/-- The array the kernel leaves. -/
theorem final (c : Dev nD) : (dats m 0 c).arrAt 2 cfg0.N
    = Products.nnBlocked 0 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.nnBlocked, Products.shard, Products.within]
  refine Fin.sum_fin_congr fun k => ?_
  have h := (idx t).2.2.2
  blk_point [iblk, V, idx t]

end Kernel

section Reference

open Cert.Proj0ReferenceIdeal Cert.Proj0ReferenceIdeal.Read

/-- The reference's product. -/
theorem ref (X : FVec Ideal S8192x1024 .bf16) (W : FVec Ideal S2x4x1024x1024 .bf16) :
    val_main_v5 (F := Ideal) X W = Products.nnBlocked 0 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_Proj0KernelIdeal_Proj0ReferenceIdeal := by
  intro m g m' g' _ he
  refine ⟨_, (θ_run Cert.Proj0KernelIdeal.defs _ _).mono (fun _ h c => ⟨(h c).1.trans (final m c), (h c).2⟩)
    (Cert.Proj0KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Proj0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Proj0

end
-- ==== Proof.Up.lean ====
module

public import proofs.«01_k».proof.Proof.Products
public import proofs.«01_k».proof.Proof.Gen.Up1KernelIdeal.Value
public import proofs.«01_k».proof.Proof.Gen.Up1ReferenceIdeal.Read
public import Idealize.ShloMosaic.Lib.KernelVsHost

/-! # The FFN's up-projection -/

@[expose] public section

set_option maxRecDepth 16384

noncomputable section

open Idealize.ShloMosaic Idealize.ShloMosaic.TcCoe Idealize.SL.Sem

namespace Cert.Proof.Up1

section Kernel

open Cert.Up1KernelIdeal Cert.Up1KernelIdeal.Gen

variable (m : (ℓ : Loc nD τ sig) → Buf (Elt Ideal) ℓ)

/-- The windows' block indices. -/
theorem idx : ∀ t : Fin cfg0.N, win0_0.index t = ![t.val / 4, 0]
    ∧ win0_1.index t = ![1, t.val % 4, 0, 0] ∧ win0_2.index t = ![t.val / 4, t.val % 4] ∧ t.val < 32 :=
  (by decide +kernel : ∀ t : Fin grid0.N, _)

/-- The array the kernel leaves. -/
theorem final (c : Dev nD) : (dats m 0 c).arrAt 2 cfg0.N
    = Products.nnBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.nnBlocked, Products.shard, Products.within]
  refine Fin.sum_fin_congr fun k => ?_
  have h := (idx t).2.2.2
  blk_point [iblk, V, idx t]

end Kernel

section Reference

open Cert.Up1ReferenceIdeal Cert.Up1ReferenceIdeal.Read

/-- The reference's product. -/
theorem ref (X : FVec Ideal S8192x1024 .bf16) (W : FVec Ideal S2x4x1024x1408 .bf16) :
    val_main_v5 (F := Ideal) X W = Products.nnBlocked 1 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_Up1KernelIdeal_Up1ReferenceIdeal := by
  intro m g m' g' _ he
  refine ⟨_, (θ_run Cert.Up1KernelIdeal.defs _ _).mono (fun _ h c => ⟨(h c).1.trans (final m c), (h c).2⟩)
    (Cert.Up1KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_Up1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.Up1

end
-- ==== Proof.AttnOut.lean ====
module

public import proofs.«01_k».proof.Proof.Products
public import proofs.«01_k».proof.Proof.Gen.AttnOut1KernelIdeal.Value
public import proofs.«01_k».proof.Proof.Gen.AttnOut1ReferenceIdeal.Read
public import proofs.«01_k».proof.Proof.Gen.AttnOut0KernelIdeal.Value
public import proofs.«01_k».proof.Proof.Gen.AttnOut0ReferenceIdeal.Read
public import Idealize.ShloMosaic.Lib.KernelVsHost

/-! # The attention's output projection -/

@[expose] public section

set_option maxRecDepth 16384

noncomputable section

open Idealize.ShloMosaic Idealize.ShloMosaic.TcCoe Idealize.SL.Sem

namespace Cert.Proof.AttnOut1

section Kernel

open Cert.AttnOut1KernelIdeal Cert.AttnOut1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0, 0] ∧ win0_2.index t = ![t.val, 0] ∧ t.val < 8 :=
  (by decide +kernel : ∀ t : Fin grid0.N, _)

/-- The block a point writes: four products side by side. -/
def block (x : FVec Ideal S1024x512 .bf16) (w : FVec Ideal S1x4x512x256 .bf16) (y : S1024x1024.Idx) : EReal :=
  ∑ k : Fin 512, x (ix2 (y 0) k) * w (ix4 0 ⟨(y 1).val / 256, by idx_bounds; omega⟩ k ⟨(y 1).val % 256, by omega⟩)

/-- The array the kernel leaves. -/
theorem final (c : Dev nD) : (dats m 0 c).arrAt 2 cfg0.N
    = Products.nnBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]
  refine Eq.trans (b := block (iblk m c 0 t) (iblk m c 1 t) y) ?_ ?_
  · canon_tiles x h
    all_goals
      open_payloads
      pointwise [block]
      refine Fin.sum_fin_congr fun k => ?_
      blk_point []
  · unfold block
    pointwise [Products.nnBlocked, Products.shard, Products.within]
    refine Fin.sum_fin_congr fun k => ?_
    have h := (idx t).2.2.2
    blk_point [iblk, V, idx t]

end Kernel

section Reference

open Cert.AttnOut1ReferenceIdeal Cert.AttnOut1ReferenceIdeal.Read

/-- The reference's product. -/
theorem ref (X : FVec Ideal S8192x512 .bf16) (W : FVec Ideal S2x4x512x256 .bf16) :
    val_main_v5 (F := Ideal) X W = Products.nnBlocked 1 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_AttnOut1KernelIdeal_AttnOut1ReferenceIdeal := by
  intro m g m' g' _ he
  refine ⟨_, (θ_run Cert.AttnOut1KernelIdeal.defs _ _).mono (fun _ h c => ⟨(h c).1.trans (final m c), (h c).2⟩)
    (Cert.AttnOut1KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_AttnOut1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOut1

namespace Cert.Proof.AttnOut0

section Kernel

open Cert.AttnOut0KernelIdeal Cert.AttnOut0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0, 0] ∧ win0_2.index t = ![t.val, 0] ∧ t.val < 8 :=
  (by decide +kernel : ∀ t : Fin grid0.N, _)

/-- The block a point writes: four products side by side. -/
def block (x : FVec Ideal S1024x512 .bf16) (w : FVec Ideal S1x4x512x256 .bf16) (y : S1024x1024.Idx) : EReal :=
  ∑ k : Fin 512, x (ix2 (y 0) k) * w (ix4 0 ⟨(y 1).val / 256, by idx_bounds; omega⟩ k ⟨(y 1).val % 256, by omega⟩)

/-- The array the kernel leaves. -/
theorem final (c : Dev nD) : (dats m 0 c).arrAt 2 cfg0.N
    = Products.nnBlocked 0 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]
  refine Eq.trans (b := block (iblk m c 0 t) (iblk m c 1 t) y) ?_ ?_
  · canon_tiles x h
    all_goals
      open_payloads
      pointwise [block]
      refine Fin.sum_fin_congr fun k => ?_
      blk_point []
  · unfold block
    pointwise [Products.nnBlocked, Products.shard, Products.within]
    refine Fin.sum_fin_congr fun k => ?_
    have h := (idx t).2.2.2
    blk_point [iblk, V, idx t]

end Kernel

section Reference

open Cert.AttnOut0ReferenceIdeal Cert.AttnOut0ReferenceIdeal.Read

/-- The reference's product. -/
theorem ref (X : FVec Ideal S8192x512 .bf16) (W : FVec Ideal S2x4x512x256 .bf16) :
    val_main_v5 (F := Ideal) X W = Products.nnBlocked 0 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_AttnOut0KernelIdeal_AttnOut0ReferenceIdeal := by
  intro m g m' g' _ he
  refine ⟨_, (θ_run Cert.AttnOut0KernelIdeal.defs _ _).mono (fun _ h c => ⟨(h c).1.trans (final m c), (h c).2⟩)
    (Cert.AttnOut0KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_AttnOut0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOut0

end
-- ==== Proof.AttnOutDx.lean ====
module

public import proofs.«01_k».proof.Proof.Products
public import proofs.«01_k».proof.Proof.Gen.AttnOutDx1KernelIdeal.Value
public import proofs.«01_k».proof.Proof.Gen.AttnOutDx1ReferenceIdeal.Read
public import proofs.«01_k».proof.Proof.Gen.AttnOutDx0KernelIdeal.Value
public import proofs.«01_k».proof.Proof.Gen.AttnOutDx0ReferenceIdeal.Read
public import Idealize.ShloMosaic.Lib.KernelVsHost

/-! # The gradient of the attention's output projection with respect to its input -/

@[expose] public section

set_option maxRecDepth 16384

noncomputable section

open Idealize.ShloMosaic Idealize.ShloMosaic.TcCoe Idealize.SL.Sem

namespace Cert.Proof.AttnOutDx1

section Kernel

open Cert.AttnOutDx1KernelIdeal Cert.AttnOutDx1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.ntBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.ntBlocked]
  rw [Fin.sum_univ_tiles 4 256 rfl, Fin.sum_univ_four]
  have h := (idx t).2.2.2
  refine congrArg₂ (fun a b : EReal => a + b) (congrArg₂ (fun a b : EReal => a + b) (congrArg₂ (fun a b : EReal => a + b)
    ?_ ?_) ?_) ?_ <;>
  · refine Fin.sum_fin_congr fun k => ?_
    pointwise [Products.shard, Products.within]
    blk_point [iblk, V, idx t]

end Kernel

section Reference

open Cert.AttnOutDx1ReferenceIdeal Cert.AttnOutDx1ReferenceIdeal.Read

/-- The reference's product. -/
theorem ref (X : FVec Ideal S8192x1024 .bf16) (W : FVec Ideal S2x4x512x256 .bf16) :
    val_main_v9 (F := Ideal) X W = Products.ntBlocked 1 X W (by norm_num) .bf16 := by
  funext i
  pointwise [val_main_v9, val_main_v8, val_main_v5, val_main_v4, val_main_v3, val_main_v2, val_main_v1, val_main_v0, Products.ntBlocked, Products.shard, Products.within]

/-- Kernel and reference compute the same function. -/
theorem algebraic : Cert.algebraic_AttnOutDx1KernelIdeal_AttnOutDx1ReferenceIdeal := by
  intro m g m' g' _ he
  refine ⟨_, (θ_run Cert.AttnOutDx1KernelIdeal.defs _ _).mono (fun _ h c => ⟨(h c).1.trans (final m c), (h c).2⟩)
    (Cert.AttnOutDx1KernelIdeal.Value.run_blocks m g), ?_⟩
  refine (θ_run defs _ _).mono (fun r h c => ?_) (Value.run m' g')
  obtain ⟨e0, e1⟩ := he c
  refine ⟨(h c).1.trans ((val_main_v9_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_AttnOutDx1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOutDx1

namespace Cert.Proof.AttnOutDx0

section Kernel

open Cert.AttnOutDx0KernelIdeal Cert.AttnOutDx0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.ntBlocked 0 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.ntBlocked]
  rw [Fin.sum_univ_tiles 4 256 rfl, Fin.sum_univ_four]
  have h := (idx t).2.2.2
  refine congrArg₂ (fun a b : EReal => a + b) (congrArg₂ (fun a b : EReal => a + b) (congrArg₂ (fun a b : EReal => a + b)
    ?_ ?_) ?_) ?_ <;>
  · refine Fin.sum_fin_congr fun k => ?_
    pointwise [Products.shard, Products.within]
    blk_point [iblk, V, idx t]

end Kernel

section Reference

open Cert.AttnOutDx0ReferenceIdeal Cert.AttnOutDx0ReferenceIdeal.Read

/-- The reference's product. -/
theorem ref (X : FVec Ideal S8192x1024 .bf16) (W : FVec Ideal S2x4x512x256 .bf16) :
    val_main_v9 (F := Ideal) X W = Products.ntBlocked 0 X W (by norm_num) .bf16 := by
  funext i
  pointwise [val_main_v9, val_main_v8, val_main_v5, val_main_v4, val_main_v3, val_main_v2, val_main_v1, val_main_v0, Products.ntBlocked, Products.shard, Products.within]

/-- Kernel and reference compute the same function. -/
theorem algebraic : Cert.algebraic_AttnOutDx0KernelIdeal_AttnOutDx0ReferenceIdeal := by
  intro m g m' g' _ he
  refine ⟨_, (θ_run Cert.AttnOutDx0KernelIdeal.defs _ _).mono (fun _ h c => ⟨(h c).1.trans (final m c), (h c).2⟩)
    (Cert.AttnOutDx0KernelIdeal.Value.run_blocks m g), ?_⟩
  refine (θ_run defs _ _).mono (fun r h c => ?_) (Value.run m' g')
  obtain ⟨e0, e1⟩ := he c
  refine ⟨(h c).1.trans ((val_main_v9_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_AttnOutDx0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOutDx0

end
-- ==== Proof.AttnOutDw.lean ====
module

public import proofs.«01_k».proof.Proof.Products
public import proofs.«01_k».proof.Proof.Gen.On_attn_out_dw1_written
public import proofs.«01_k».proof.Proof.Gen.AttnOutDw1KernelIdeal.Value
public import proofs.«01_k».proof.Proof.Gen.AttnOutDw1ReferenceIdeal.Read
public import proofs.«01_k».proof.Proof.Gen.AttnOutDw0KernelIdeal.Value
public import proofs.«01_k».proof.Proof.Gen.AttnOutDw0ReferenceIdeal.Read
public import Idealize.ShloMosaic.Lib.KernelVsHost
public import Idealize.ShloMosaic.Lib.Pipeline.ReadBack

/-! # The gradient of the attention's output projection with respect to its weights -/

@[expose] public section

set_option maxRecDepth 16384

noncomputable section

open Idealize.ShloMosaic Idealize.ShloMosaic.TcCoe Idealize.SL.Sem

namespace Cert.Proof.AttnOutDw1

section Kernel

open Cert.AttnOutDw1KernelIdeal Cert.AttnOutDw1KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![1, 0, 0, 0] ∧ t.val < 8 :=
  (by decide +kernel : ∀ t : Fin grid0.N, _)

/-- One token block's part of the sum. -/
def part (x : FVec Ideal S1024x512 .bf16) (g : FVec Ideal S1024x1024 .bf16) (y : S512x1024.Idx) : EReal :=
  ∑ k : Fin 1024, x (ix2 k (y 0)) * g (ix2 k (y 1))

/-- The accumulator after a point. -/
abbrev acc (c : Dev nD) (n : ℕ) (h : n < cfg0.N) : FVec Ideal S512x1024 .f32 := (outsAt0 m c n h).2

theorem first (c : Dev nD) (t : Fin cfg0.N) (h : t.val % 8 = 0) (y : S512x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 8 = 0) (y : S512x1024.Idx) :
    acc m c t.val t.isLt y = acc m c (t.val - 1) (Nat.lt_of_le_of_lt (Nat.sub_le _ _) t.isLt) y
      + part (iblk m c 0 t) (iblk m c 1 t) y := by
  unfold acc
  by_cases h2 : t.val % 8 = 7
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 8 = 7) (y : S1x4x512x256.Idx) :
    (outsAt0 m c t.val t.isLt).1 y = acc m c t.val t.isLt (ix2 (y 2) ⟨(y 1).val * 256 + (y 3).val, by idx_bounds; omega⟩) := by
  unfold acc
  rw [outsAt0_C m c t (by omega) (by omega) h]; dsimp only; frame_out
  canon_tiles x h
  all_goals
    open_payloads
    pointwise []
    refine (congrFun (View.readCov_fill _ _ _ _ _ (by decide)) _).trans ?_
    generalize k0_pay3 (F := Ideal) _ _ _ = Z
    refine congrArg Z (funext (Fin.forall_fin_two.mpr ⟨Fin.ext ?_, Fin.ext ?_⟩)) <;>
    simp [Rect.emb, Rect.unit, ix2] <;> omega

/-- The layer the kernel writes. -/
theorem final (c : Dev nD) (i : S2x4x512x256.Idx) (hi : (i 0 : ℕ) = 1) : (dats m 0 c).arrAt 2 cfg0.N i
    = Products.tnBlocked (m ((c : Thread nD τ).loc main_arg0)) (m ((c : Thread nD τ).loc main_arg1)) (by norm_num : 1024 = 4 * 256) i := by
  refine (congrFun (f := (dats m 0 c).arrAt 2 cfg0.N) (g := fun i => if (i 0 : ℕ) = 1
    then Products.tnBlocked (m ((c : Thread nD τ).loc main_arg0)) (m ((c : Thread nD τ).loc main_arg1)) (by norm_num : 1024 = 4 * 256) i
    else V m c main_v0 i) ?_ i).trans (if_pos hi)
  refine (dats m 0 c).arrAt_eq_of_coversWhere 2 _ (fun β => β 0 = 1) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 8 (fun _ => (0 : EReal))
    (fun t y => part (iblk m c 0 t) (iblk m c 1 t) y) (fun t h y => first m c t h y) (fun t h y => step m c t h y)
    t ((flush0_2 t).mp hf) _, zero_add]
  unfold Products.tnBlocked
  rw [Fin.sum_univ_tiles 8 1024 rfl]
  unfold part
  refine Fin.sum_fin_congr fun s => Fin.sum_fin_congr fun k => ?_
  pointwise [Products.column]
  have h := (idx t).2.2.2
  have hs : (8 * (t.val / 8) + s.val) % 8 = s.val := by omega
  have hd : (8 * (t.val / 8) + s.val) / 8 = t.val / 8 := by omega
  blk_point [iblk, V, idx t, idx ⟨_, Pipeline.run_point_lt_of_flush t ((flush0_2 t).mp hf) s⟩]

end Kernel

section Reference

open Cert.AttnOutDw1ReferenceIdeal Cert.AttnOutDw1ReferenceIdeal.Read

/-- Where the mask is set. -/
theorem masked (X : FVec Ideal S8192x512 .bf16) (G : FVec Ideal S8192x1024 .bf16) (i : S2x4x512x256.Idx)
    (h : Cert.On_attn_out_dw1_written.fn (F := Ideal) X G i = 1#1) : (i 0 : ℕ) = 1 := Products.layer_one (i 0) h

/-- The reference's gradient. -/
theorem ref (X : FVec Ideal S8192x512 .bf16) (G : FVec Ideal S8192x1024 .bf16) (i : S2x4x512x256.Idx) (hi : (i 0 : ℕ) = 1) :
    val_main_v12 (F := Ideal) X G i = Products.tnBlocked X G (by norm_num : 1024 = 4 * 256) i := by
  pointwise [val_main_v12, val_main_v11, val_main_v10, val_main_v9, val_main_v8, val_main_v7, val_main_v6, val_main_v5, val_main_v4, val_main_v1, val_main_v0, Products.tnBlocked, Products.column]
  idx_bounds
  rw [dif_neg (by omega)]
  exact Finset.sum_congr rfl fun r _ => mul_comm _ _

/-- Kernel and reference compute the same function where the mask is set. -/
theorem algebraic : Cert.algebraic_AttnOutDw1KernelIdeal_AttnOutDw1ReferenceIdeal_on_attn_out_dw1_written := by
  intro m g m' g' _ he
  refine ⟨fun c => Products.tnBlocked (m (c.tc.loc Cert.AttnOutDw1KernelIdeal.main_arg0)) (m (c.tc.loc Cert.AttnOutDw1KernelIdeal.main_arg1)) (by norm_num : 1024 = 4 * 256),
    (θ_run Cert.AttnOutDw1KernelIdeal.defs _ _).mono (fun _ h c => ⟨fun i hi => (congrFun (h c).1 i).trans
      (final m c i (masked _ _ i hi)), (h c).2⟩) (Cert.AttnOutDw1KernelIdeal.Value.run_blocks m g), ?_⟩
  refine (θ_run defs _ _).mono (fun r h c => ⟨fun i hi => ?_, (h c).2⟩) (Value.run m' g')
  obtain ⟨e0, e1⟩ := he c
  refine (congrFun ((h c).1.trans (val_main_v12_eq (F := Ideal) _ _)) i).trans
    ((ref _ _ i (masked _ _ i hi)).trans ?_)
  rw [e0, e1]

/-- The reference declares no semaphore. -/
theorem no_semaphore : (Finset.univ : Finset (SemLoc sig)) = ∅ := by decide

/-- The reference ends without fault, its arguments unchanged. -/
theorem frame_reference : Cert.quiescent_AttnOutDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOutDw1

namespace Cert.Proof.AttnOutDw0

section Kernel

open Cert.AttnOutDw0KernelIdeal Cert.AttnOutDw0KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![0, 0, 0, 0] ∧ t.val < 8 :=
  (by decide +kernel : ∀ t : Fin grid0.N, _)

/-- One token block's part of the sum. -/
def part (x : FVec Ideal S1024x512 .bf16) (g : FVec Ideal S1024x1024 .bf16) (y : S512x1024.Idx) : EReal :=
  ∑ k : Fin 1024, x (ix2 k (y 0)) * g (ix2 k (y 1))

/-- The accumulator after a point. -/
abbrev acc (c : Dev nD) (n : ℕ) (h : n < cfg0.N) : FVec Ideal S512x1024 .f32 := (outsAt0 m c n h).2

theorem first (c : Dev nD) (t : Fin cfg0.N) (h : t.val % 8 = 0) (y : S512x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 8 = 0) (y : S512x1024.Idx) :
    acc m c t.val t.isLt y = acc m c (t.val - 1) (Nat.lt_of_le_of_lt (Nat.sub_le _ _) t.isLt) y
      + part (iblk m c 0 t) (iblk m c 1 t) y := by
  unfold acc
  by_cases h2 : t.val % 8 = 7
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 8 = 7) (y : S1x4x512x256.Idx) :
    (outsAt0 m c t.val t.isLt).1 y = acc m c t.val t.isLt (ix2 (y 2) ⟨(y 1).val * 256 + (y 3).val, by idx_bounds; omega⟩) := by
  unfold acc
  rw [outsAt0_C m c t (by omega) (by omega) h]; dsimp only; frame_out
  canon_tiles x h
  all_goals
    open_payloads
    pointwise []
    refine (congrFun (View.readCov_fill _ _ _ _ _ (by decide)) _).trans ?_
    generalize k0_pay3 (F := Ideal) _ _ _ = Z
    refine congrArg Z (funext (Fin.forall_fin_two.mpr ⟨Fin.ext ?_, Fin.ext ?_⟩)) <;>
    simp [Rect.emb, Rect.unit, ix2] <;> omega

/-- The array the kernel leaves. -/
theorem final (c : Dev nD) : (dats m 0 c).arrAt 2 cfg0.N = fun i => if (i 0 : ℕ) = 0
    then Products.tnBlocked (m ((c : Thread nD τ).loc main_arg0)) (m ((c : Thread nD τ).loc main_arg1)) (by norm_num : 1024 = 4 * 256) i
    else m ((c : Thread nD τ).loc main_arg2) i := by
  have hV : V m c main_v0 = m ((c : Thread nD τ).loc main_arg2) := by unfold V; after_results; try rfl
  rw [← hV]
  refine (dats m 0 c).arrAt_eq_of_coversWhere 2 _ (fun β => β 0 = 0) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 8 (fun _ => (0 : EReal))
    (fun t y => part (iblk m c 0 t) (iblk m c 1 t) y) (fun t h y => first m c t h y) (fun t h y => step m c t h y)
    t ((flush0_2 t).mp hf) _, zero_add]
  unfold Products.tnBlocked
  rw [Fin.sum_univ_tiles 8 1024 rfl]
  unfold part
  refine Fin.sum_fin_congr fun s => Fin.sum_fin_congr fun k => ?_
  pointwise [Products.column]
  have h := (idx t).2.2.2
  have hs : (8 * (t.val / 8) + s.val) % 8 = s.val := by omega
  have hd : (8 * (t.val / 8) + s.val) / 8 = t.val / 8 := by omega
  blk_point [iblk, V, idx t, idx ⟨_, Pipeline.run_point_lt_of_flush t ((flush0_2 t).mp hf) s⟩]

end Kernel

section Reference

open Cert.AttnOutDw0ReferenceIdeal Cert.AttnOutDw0ReferenceIdeal.Read

/-- The reference's gradients: layer 0's, and layer 1's as it was handed over. -/
theorem ref (X : FVec Ideal S8192x512 .bf16) (G : FVec Ideal S8192x1024 .bf16) (L : FVec Ideal S2x4x512x256 .bf16) :
    val_main_v13 (F := Ideal) X G L = fun i => if (i 0 : ℕ) = 0 then Products.tnBlocked X G (by norm_num : 1024 = 4 * 256) i else L i := by
  funext i
  pointwise [val_main_v13, val_main_v12, val_main_v11, val_main_v10, val_main_v9, val_main_v8, val_main_v7, val_main_v6, val_main_v5, val_main_v4, val_main_v1, val_main_v0, Products.tnBlocked, Products.column]
  idx_bounds
  have hi : ¬ (i 0).val = 0 → i = ix4 1 (i 1) (i 2) (i 3) := fun h => by blk_point []
  by_cases h : (i 0).val = 0
  · rw [if_pos h, dif_pos (by omega)]
    exact Finset.sum_congr rfl fun r _ => mul_comm _ _
  · rw [if_neg h, dif_neg (by omega)]
    exact congrArg L (hi h).symm

/-- Kernel and reference compute the same function. -/
theorem algebraic : Cert.algebraic_AttnOutDw0KernelIdeal_AttnOutDw0ReferenceIdeal := by
  intro m g m' g' _ he
  refine ⟨_, (θ_run Cert.AttnOutDw0KernelIdeal.defs _ _).mono (fun _ h c => ⟨(h c).1.trans (final m c), (h c).2⟩)
    (Cert.AttnOutDw0KernelIdeal.Value.run_blocks m g), ?_⟩
  refine (θ_run defs _ _).mono (fun r h c => ?_) (Value.run m' g')
  obtain ⟨e0, e1, e2⟩ := he c
  refine ⟨(h c).1.trans ((val_main_v13_eq (F := Ideal) _ _ _).trans ((ref _ _ _).trans ?_)), (h c).2⟩
  rw [e0, e1, e2]

/-- The reference declares no semaphore. -/
theorem no_semaphore : (Finset.univ : Finset (SemLoc sig)) = ∅ := by decide

/-- The reference ends without fault, its arguments unchanged. -/
theorem frame_reference : Cert.quiescent_AttnOutDw0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.AttnOutDw0

end
-- ==== Proof.PoolOut.lean ====
module

public import proofs.«01_k».proof.Proof.Products
public import proofs.«01_k».proof.Proof.Gen.PoolOut1KernelIdeal.Value
public import proofs.«01_k».proof.Proof.Gen.PoolOut1ReferenceIdeal.Read
public import proofs.«01_k».proof.Proof.Gen.PoolOut0KernelIdeal.Value
public import proofs.«01_k».proof.Proof.Gen.PoolOut0ReferenceIdeal.Read
public import Idealize.ShloMosaic.Lib.KernelVsHost

/-! # The pool's output projection -/

@[expose] public section

set_option maxRecDepth 16384

noncomputable section

open Idealize.ShloMosaic Idealize.ShloMosaic.TcCoe Idealize.SL.Sem

namespace Cert.Proof.PoolOut1

section Kernel

open Cert.PoolOut1KernelIdeal Cert.PoolOut1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0, 0] ∧ win0_2.index t = ![t.val, 0] ∧ t.val < 8 :=
  (by decide +kernel : ∀ t : Fin grid0.N, _)

/-- The block a point writes: four products side by side. -/
def block (x : FVec Ideal S1024x512 .bf16) (w : FVec Ideal S1x4x512x256 .bf16) (y : S1024x1024.Idx) : EReal :=
  ∑ k : Fin 512, x (ix2 (y 0) k) * w (ix4 0 ⟨(y 1).val / 256, by idx_bounds; omega⟩ k ⟨(y 1).val % 256, by omega⟩)

/-- The array the kernel leaves. -/
theorem final (c : Dev nD) : (dats m 0 c).arrAt 2 cfg0.N
    = Products.nnBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]
  refine Eq.trans (b := block (iblk m c 0 t) (iblk m c 1 t) y) ?_ ?_
  · canon_tiles x h
    all_goals
      open_payloads
      pointwise [block]
      refine Fin.sum_fin_congr fun k => ?_
      blk_point []
  · unfold block
    pointwise [Products.nnBlocked, Products.shard, Products.within]
    refine Fin.sum_fin_congr fun k => ?_
    have h := (idx t).2.2.2
    blk_point [iblk, V, idx t]

end Kernel

section Reference

open Cert.PoolOut1ReferenceIdeal Cert.PoolOut1ReferenceIdeal.Read

/-- The reference's product. -/
theorem ref (X : FVec Ideal S8192x512 .bf16) (W : FVec Ideal S2x4x512x256 .bf16) :
    val_main_v5 (F := Ideal) X W = Products.nnBlocked 1 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_PoolOut1KernelIdeal_PoolOut1ReferenceIdeal := by
  intro m g m' g' _ he
  refine ⟨_, (θ_run Cert.PoolOut1KernelIdeal.defs _ _).mono (fun _ h c => ⟨(h c).1.trans (final m c), (h c).2⟩)
    (Cert.PoolOut1KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_PoolOut1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOut1

namespace Cert.Proof.PoolOut0

section Kernel

open Cert.PoolOut0KernelIdeal Cert.PoolOut0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0, 0] ∧ win0_2.index t = ![t.val, 0] ∧ t.val < 8 :=
  (by decide +kernel : ∀ t : Fin grid0.N, _)

/-- The block a point writes: four products side by side. -/
def block (x : FVec Ideal S1024x512 .bf16) (w : FVec Ideal S1x4x512x256 .bf16) (y : S1024x1024.Idx) : EReal :=
  ∑ k : Fin 512, x (ix2 (y 0) k) * w (ix4 0 ⟨(y 1).val / 256, by idx_bounds; omega⟩ k ⟨(y 1).val % 256, by omega⟩)

/-- The array the kernel leaves. -/
theorem final (c : Dev nD) : (dats m 0 c).arrAt 2 cfg0.N
    = Products.nnBlocked 0 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]
  refine Eq.trans (b := block (iblk m c 0 t) (iblk m c 1 t) y) ?_ ?_
  · canon_tiles x h
    all_goals
      open_payloads
      pointwise [block]
      refine Fin.sum_fin_congr fun k => ?_
      blk_point []
  · unfold block
    pointwise [Products.nnBlocked, Products.shard, Products.within]
    refine Fin.sum_fin_congr fun k => ?_
    have h := (idx t).2.2.2
    blk_point [iblk, V, idx t]

end Kernel

section Reference

open Cert.PoolOut0ReferenceIdeal Cert.PoolOut0ReferenceIdeal.Read

/-- The reference's product. -/
theorem ref (X : FVec Ideal S8192x512 .bf16) (W : FVec Ideal S2x4x512x256 .bf16) :
    val_main_v5 (F := Ideal) X W = Products.nnBlocked 0 X W (by norm_num) .bf16 := by
  funext i
  pointwise [val_main_v5, val_main_v4, val_main_v3, val_main_v2, val_main_v1, val_main_v0, Products.nnBlocked, Products.shard, Products.within]

/-- Kernel and reference compute the same function. -/
theorem algebraic : Cert.algebraic_PoolOut0KernelIdeal_PoolOut0ReferenceIdeal := by
  intro m g m' g' _ he
  refine ⟨_, (θ_run Cert.PoolOut0KernelIdeal.defs _ _).mono (fun _ h c => ⟨(h c).1.trans (final m c), (h c).2⟩)
    (Cert.PoolOut0KernelIdeal.Value.run_blocks m g), ?_⟩
  refine (θ_run defs _ _).mono (fun r h c => ?_) (Value.run m' g')
  obtain ⟨e0, e1⟩ := he c
  refine ⟨(h c).1.trans ((val_main_v5_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_PoolOut0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOut0

end
-- ==== Proof.PoolOutDx.lean ====
module

public import proofs.«01_k».proof.Proof.Products
public import proofs.«01_k».proof.Proof.Gen.PoolOutDx1KernelIdeal.Value
public import proofs.«01_k».proof.Proof.Gen.PoolOutDx1ReferenceIdeal.Read
public import proofs.«01_k».proof.Proof.Gen.PoolOutDx0KernelIdeal.Value
public import proofs.«01_k».proof.Proof.Gen.PoolOutDx0ReferenceIdeal.Read
public import Idealize.ShloMosaic.Lib.KernelVsHost

/-! # The gradient of the pool's output projection with respect to its input -/

@[expose] public section

set_option maxRecDepth 16384

noncomputable section

open Idealize.ShloMosaic Idealize.ShloMosaic.TcCoe Idealize.SL.Sem

namespace Cert.Proof.PoolOutDx1

section Kernel

open Cert.PoolOutDx1KernelIdeal Cert.PoolOutDx1KernelIdeal.Gen

variable (m : (ℓ : Loc nD τ sig) → Buf (Elt Ideal) ℓ)

/-- The windows' block indices. -/
theorem idx : ∀ t : Fin cfg0.N, win0_0.index t = ![t.val, 0]
    ∧ win0_1.index t = ![1, 0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.ntBlocked 1 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.ntBlocked]
  rw [Fin.sum_univ_tiles 4 256 rfl, Fin.sum_univ_four]
  have h := (idx t).2.2.2
  refine congrArg₂ (fun a b : EReal => a + b) (congrArg₂ (fun a b : EReal => a + b) (congrArg₂ (fun a b : EReal => a + b)
    ?_ ?_) ?_) ?_ <;>
  · refine Fin.sum_fin_congr fun k => ?_
    pointwise [Products.shard, Products.within]
    blk_point [iblk, V, idx t]

end Kernel

section Reference

open Cert.PoolOutDx1ReferenceIdeal Cert.PoolOutDx1ReferenceIdeal.Read

/-- The reference's product. -/
theorem ref (X : FVec Ideal S8192x1024 .bf16) (W : FVec Ideal S2x4x512x256 .bf16) :
    val_main_v9 (F := Ideal) X W = Products.ntBlocked 1 X W (by norm_num) .bf16 := by
  funext i
  pointwise [val_main_v9, val_main_v8, val_main_v5, val_main_v4, val_main_v3, val_main_v2, val_main_v1, val_main_v0, Products.ntBlocked, Products.shard, Products.within]

/-- Kernel and reference compute the same function. -/
theorem algebraic : Cert.algebraic_PoolOutDx1KernelIdeal_PoolOutDx1ReferenceIdeal := by
  intro m g m' g' _ he
  refine ⟨_, (θ_run Cert.PoolOutDx1KernelIdeal.defs _ _).mono (fun _ h c => ⟨(h c).1.trans (final m c), (h c).2⟩)
    (Cert.PoolOutDx1KernelIdeal.Value.run_blocks m g), ?_⟩
  refine (θ_run defs _ _).mono (fun r h c => ?_) (Value.run m' g')
  obtain ⟨e0, e1⟩ := he c
  refine ⟨(h c).1.trans ((val_main_v9_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_PoolOutDx1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOutDx1

namespace Cert.Proof.PoolOutDx0

section Kernel

open Cert.PoolOutDx0KernelIdeal Cert.PoolOutDx0KernelIdeal.Gen

variable (m : (ℓ : Loc nD τ sig) → Buf (Elt Ideal) ℓ)

/-- The windows' block indices. -/
theorem idx : ∀ t : Fin cfg0.N, win0_0.index t = ![t.val, 0]
    ∧ win0_1.index t = ![0, 0, 0, 0] ∧ win0_2.index t = ![t.val, 0] ∧ t.val < 8 :=
  (by decide +kernel : ∀ t : Fin grid0.N, _)

/-- The array the kernel leaves. -/
theorem final (c : Dev nD) : (dats m 0 c).arrAt 2 cfg0.N
    = Products.ntBlocked 0 (m ((c : Thread nD τ).loc main_arg0)) (m ((c : Thread nD τ).loc main_arg1)) (by norm_num) .bf16 := by
  refine (dats m 0 c).arrAt_eq_of_covers 2 _ (by decide +kernel) fun t hf y => ?_
  blk_simp
  rw [after0_2]; frame_out
  open_payloads
  pointwise [Products.ntBlocked]
  rw [Fin.sum_univ_tiles 4 256 rfl, Fin.sum_univ_four]
  have h := (idx t).2.2.2
  refine congrArg₂ (fun a b : EReal => a + b) (congrArg₂ (fun a b : EReal => a + b) (congrArg₂ (fun a b : EReal => a + b)
    ?_ ?_) ?_) ?_ <;>
  · refine Fin.sum_fin_congr fun k => ?_
    pointwise [Products.shard, Products.within]
    blk_point [iblk, V, idx t]

end Kernel

section Reference

open Cert.PoolOutDx0ReferenceIdeal Cert.PoolOutDx0ReferenceIdeal.Read

/-- The reference's product. -/
theorem ref (X : FVec Ideal S8192x1024 .bf16) (W : FVec Ideal S2x4x512x256 .bf16) :
    val_main_v9 (F := Ideal) X W = Products.ntBlocked 0 X W (by norm_num) .bf16 := by
  funext i
  pointwise [val_main_v9, val_main_v8, val_main_v5, val_main_v4, val_main_v3, val_main_v2, val_main_v1, val_main_v0, Products.ntBlocked, Products.shard, Products.within]

/-- Kernel and reference compute the same function. -/
theorem algebraic : Cert.algebraic_PoolOutDx0KernelIdeal_PoolOutDx0ReferenceIdeal := by
  intro m g m' g' _ he
  refine ⟨_, (θ_run Cert.PoolOutDx0KernelIdeal.defs _ _).mono (fun _ h c => ⟨(h c).1.trans (final m c), (h c).2⟩)
    (Cert.PoolOutDx0KernelIdeal.Value.run_blocks m g), ?_⟩
  refine (θ_run defs _ _).mono (fun r h c => ?_) (Value.run m' g')
  obtain ⟨e0, e1⟩ := he c
  refine ⟨(h c).1.trans ((val_main_v9_eq (F := Ideal) _ _).trans ((ref _ _).trans ?_)), (h c).2⟩
  rw [e0, e1]

/-- The reference declares no semaphore. -/
theorem no_semaphore : (Finset.univ : Finset (SemLoc sig)) = ∅ := by decide

/-- The reference ends without fault, its arguments unchanged. -/
theorem frame_reference : Cert.quiescent_PoolOutDx0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOutDx0

end
-- ==== Proof.PoolOutDw.lean ====
module

public import proofs.«01_k».proof.Proof.Products
public import proofs.«01_k».proof.Proof.Gen.On_pool_out_dw1_written
public import proofs.«01_k».proof.Proof.Gen.PoolOutDw1KernelIdeal.Value
public import proofs.«01_k».proof.Proof.Gen.PoolOutDw1ReferenceIdeal.Read
public import proofs.«01_k».proof.Proof.Gen.PoolOutDw0KernelIdeal.Value
public import proofs.«01_k».proof.Proof.Gen.PoolOutDw0ReferenceIdeal.Read
public import Idealize.ShloMosaic.Lib.KernelVsHost
public import Idealize.ShloMosaic.Lib.Pipeline.ReadBack

/-! # The gradient of the pool's output projection with respect to its weights -/

@[expose] public section

set_option maxRecDepth 16384

noncomputable section

open Idealize.ShloMosaic Idealize.ShloMosaic.TcCoe Idealize.SL.Sem

namespace Cert.Proof.PoolOutDw1

section Kernel

open Cert.PoolOutDw1KernelIdeal Cert.PoolOutDw1KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![1, 0, 0, 0] ∧ t.val < 8 :=
  (by decide +kernel : ∀ t : Fin grid0.N, _)

/-- One token block's part of the sum. -/
def part (x : FVec Ideal S1024x512 .bf16) (g : FVec Ideal S1024x1024 .bf16) (y : S512x1024.Idx) : EReal :=
  ∑ k : Fin 1024, x (ix2 k (y 0)) * g (ix2 k (y 1))

/-- The accumulator after a point. -/
abbrev acc (c : Dev nD) (n : ℕ) (h : n < cfg0.N) : FVec Ideal S512x1024 .f32 := (outsAt0 m c n h).2

theorem first (c : Dev nD) (t : Fin cfg0.N) (h : t.val % 8 = 0) (y : S512x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 8 = 0) (y : S512x1024.Idx) :
    acc m c t.val t.isLt y = acc m c (t.val - 1) (Nat.lt_of_le_of_lt (Nat.sub_le _ _) t.isLt) y
      + part (iblk m c 0 t) (iblk m c 1 t) y := by
  unfold acc
  by_cases h2 : t.val % 8 = 7
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 8 = 7) (y : S1x4x512x256.Idx) :
    (outsAt0 m c t.val t.isLt).1 y = acc m c t.val t.isLt (ix2 (y 2) ⟨(y 1).val * 256 + (y 3).val, by idx_bounds; omega⟩) := by
  unfold acc
  rw [outsAt0_C m c t (by omega) (by omega) h]; dsimp only; frame_out
  canon_tiles x h
  all_goals
    open_payloads
    pointwise []
    refine (congrFun (View.readCov_fill _ _ _ _ _ (by decide)) _).trans ?_
    generalize k0_pay3 (F := Ideal) _ _ _ = Z
    refine congrArg Z (funext (Fin.forall_fin_two.mpr ⟨Fin.ext ?_, Fin.ext ?_⟩)) <;>
    simp [Rect.emb, Rect.unit, ix2] <;> omega

/-- The layer the kernel writes. -/
theorem final (c : Dev nD) (i : S2x4x512x256.Idx) (hi : (i 0 : ℕ) = 1) : (dats m 0 c).arrAt 2 cfg0.N i
    = Products.tnBlocked (m ((c : Thread nD τ).loc main_arg0)) (m ((c : Thread nD τ).loc main_arg1)) (by norm_num : 1024 = 4 * 256) i := by
  refine (congrFun (f := (dats m 0 c).arrAt 2 cfg0.N) (g := fun i => if (i 0 : ℕ) = 1
    then Products.tnBlocked (m ((c : Thread nD τ).loc main_arg0)) (m ((c : Thread nD τ).loc main_arg1)) (by norm_num : 1024 = 4 * 256) i
    else V m c main_v0 i) ?_ i).trans (if_pos hi)
  refine (dats m 0 c).arrAt_eq_of_coversWhere 2 _ (fun β => β 0 = 1) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 8 (fun _ => (0 : EReal))
    (fun t y => part (iblk m c 0 t) (iblk m c 1 t) y) (fun t h y => first m c t h y) (fun t h y => step m c t h y)
    t ((flush0_2 t).mp hf) _, zero_add]
  unfold Products.tnBlocked
  rw [Fin.sum_univ_tiles 8 1024 rfl]
  unfold part
  refine Fin.sum_fin_congr fun s => Fin.sum_fin_congr fun k => ?_
  pointwise [Products.column]
  have h := (idx t).2.2.2
  have hs : (8 * (t.val / 8) + s.val) % 8 = s.val := by omega
  have hd : (8 * (t.val / 8) + s.val) / 8 = t.val / 8 := by omega
  blk_point [iblk, V, idx t, idx ⟨_, Pipeline.run_point_lt_of_flush t ((flush0_2 t).mp hf) s⟩]

end Kernel

section Reference

open Cert.PoolOutDw1ReferenceIdeal Cert.PoolOutDw1ReferenceIdeal.Read

/-- Where the mask is set. -/
theorem masked (X : FVec Ideal S8192x512 .bf16) (G : FVec Ideal S8192x1024 .bf16) (i : S2x4x512x256.Idx)
    (h : Cert.On_pool_out_dw1_written.fn (F := Ideal) X G i = 1#1) : (i 0 : ℕ) = 1 := Products.layer_one (i 0) h

/-- The reference's gradient. -/
theorem ref (X : FVec Ideal S8192x512 .bf16) (G : FVec Ideal S8192x1024 .bf16) (i : S2x4x512x256.Idx) (hi : (i 0 : ℕ) = 1) :
    val_main_v12 (F := Ideal) X G i = Products.tnBlocked X G (by norm_num : 1024 = 4 * 256) i := by
  pointwise [val_main_v12, val_main_v11, val_main_v10, val_main_v9, val_main_v8, val_main_v7, val_main_v6, val_main_v5, val_main_v4, val_main_v1, val_main_v0, Products.tnBlocked, Products.column]
  idx_bounds
  rw [dif_neg (by omega)]
  exact Finset.sum_congr rfl fun r _ => mul_comm _ _

/-- Kernel and reference compute the same function where the mask is set. -/
theorem algebraic : Cert.algebraic_PoolOutDw1KernelIdeal_PoolOutDw1ReferenceIdeal_on_pool_out_dw1_written := by
  intro m g m' g' _ he
  refine ⟨fun c => Products.tnBlocked (m (c.tc.loc Cert.PoolOutDw1KernelIdeal.main_arg0)) (m (c.tc.loc Cert.PoolOutDw1KernelIdeal.main_arg1)) (by norm_num : 1024 = 4 * 256),
    (θ_run Cert.PoolOutDw1KernelIdeal.defs _ _).mono (fun _ h c => ⟨fun i hi => (congrFun (h c).1 i).trans
      (final m c i (masked _ _ i hi)), (h c).2⟩) (Cert.PoolOutDw1KernelIdeal.Value.run_blocks m g), ?_⟩
  refine (θ_run defs _ _).mono (fun r h c => ⟨fun i hi => ?_, (h c).2⟩) (Value.run m' g')
  obtain ⟨e0, e1⟩ := he c
  refine (congrFun ((h c).1.trans (val_main_v12_eq (F := Ideal) _ _)) i).trans
    ((ref _ _ i (masked _ _ i hi)).trans ?_)
  rw [e0, e1]

/-- The reference declares no semaphore. -/
theorem no_semaphore : (Finset.univ : Finset (SemLoc sig)) = ∅ := by decide

/-- The reference ends without fault, its arguments unchanged. -/
theorem frame_reference : Cert.quiescent_PoolOutDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOutDw1

namespace Cert.Proof.PoolOutDw0

section Kernel

open Cert.PoolOutDw0KernelIdeal Cert.PoolOutDw0KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![0, 0, 0, 0] ∧ t.val < 8 :=
  (by decide +kernel : ∀ t : Fin grid0.N, _)

/-- One token block's part of the sum. -/
def part (x : FVec Ideal S1024x512 .bf16) (g : FVec Ideal S1024x1024 .bf16) (y : S512x1024.Idx) : EReal :=
  ∑ k : Fin 1024, x (ix2 k (y 0)) * g (ix2 k (y 1))

/-- The accumulator after a point. -/
abbrev acc (c : Dev nD) (n : ℕ) (h : n < cfg0.N) : FVec Ideal S512x1024 .f32 := (outsAt0 m c n h).2

theorem first (c : Dev nD) (t : Fin cfg0.N) (h : t.val % 8 = 0) (y : S512x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 8 = 0) (y : S512x1024.Idx) :
    acc m c t.val t.isLt y = acc m c (t.val - 1) (Nat.lt_of_le_of_lt (Nat.sub_le _ _) t.isLt) y
      + part (iblk m c 0 t) (iblk m c 1 t) y := by
  unfold acc
  by_cases h2 : t.val % 8 = 7
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 8 = 7) (y : S1x4x512x256.Idx) :
    (outsAt0 m c t.val t.isLt).1 y = acc m c t.val t.isLt (ix2 (y 2) ⟨(y 1).val * 256 + (y 3).val, by idx_bounds; omega⟩) := by
  unfold acc
  rw [outsAt0_C m c t (by omega) (by omega) h]; dsimp only; frame_out
  canon_tiles x h
  all_goals
    open_payloads
    pointwise []
    refine (congrFun (View.readCov_fill _ _ _ _ _ (by decide)) _).trans ?_
    generalize k0_pay3 (F := Ideal) _ _ _ = Z
    refine congrArg Z (funext (Fin.forall_fin_two.mpr ⟨Fin.ext ?_, Fin.ext ?_⟩)) <;>
    simp [Rect.emb, Rect.unit, ix2] <;> omega

/-- The array the kernel leaves. -/
theorem final (c : Dev nD) : (dats m 0 c).arrAt 2 cfg0.N = fun i => if (i 0 : ℕ) = 0
    then Products.tnBlocked (m ((c : Thread nD τ).loc main_arg0)) (m ((c : Thread nD τ).loc main_arg1)) (by norm_num : 1024 = 4 * 256) i
    else m ((c : Thread nD τ).loc main_arg2) i := by
  have hV : V m c main_v0 = m ((c : Thread nD τ).loc main_arg2) := by unfold V; after_results; try rfl
  rw [← hV]
  refine (dats m 0 c).arrAt_eq_of_coversWhere 2 _ (fun β => β 0 = 0) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 8 (fun _ => (0 : EReal))
    (fun t y => part (iblk m c 0 t) (iblk m c 1 t) y) (fun t h y => first m c t h y) (fun t h y => step m c t h y)
    t ((flush0_2 t).mp hf) _, zero_add]
  unfold Products.tnBlocked
  rw [Fin.sum_univ_tiles 8 1024 rfl]
  unfold part
  refine Fin.sum_fin_congr fun s => Fin.sum_fin_congr fun k => ?_
  pointwise [Products.column]
  have h := (idx t).2.2.2
  have hs : (8 * (t.val / 8) + s.val) % 8 = s.val := by omega
  have hd : (8 * (t.val / 8) + s.val) / 8 = t.val / 8 := by omega
  blk_point [iblk, V, idx t, idx ⟨_, Pipeline.run_point_lt_of_flush t ((flush0_2 t).mp hf) s⟩]

end Kernel

section Reference

open Cert.PoolOutDw0ReferenceIdeal Cert.PoolOutDw0ReferenceIdeal.Read

/-- The reference's gradients: layer 0's, and layer 1's as it was handed over. -/
theorem ref (X : FVec Ideal S8192x512 .bf16) (G : FVec Ideal S8192x1024 .bf16) (L : FVec Ideal S2x4x512x256 .bf16) :
    val_main_v13 (F := Ideal) X G L = fun i => if (i 0 : ℕ) = 0 then Products.tnBlocked X G (by norm_num : 1024 = 4 * 256) i else L i := by
  funext i
  pointwise [val_main_v13, val_main_v12, val_main_v11, val_main_v10, val_main_v9, val_main_v8, val_main_v7, val_main_v6, val_main_v5, val_main_v4, val_main_v1, val_main_v0, Products.tnBlocked, Products.column]
  idx_bounds
  have hi : ¬ (i 0).val = 0 → i = ix4 1 (i 1) (i 2) (i 3) := fun h => by blk_point []
  by_cases h : (i 0).val = 0
  · rw [if_pos h, dif_pos (by omega)]
    exact Finset.sum_congr rfl fun r _ => mul_comm _ _
  · rw [if_neg h, dif_neg (by omega)]
    exact congrArg L (hi h).symm

/-- Kernel and reference compute the same function. -/
theorem algebraic : Cert.algebraic_PoolOutDw0KernelIdeal_PoolOutDw0ReferenceIdeal := by
  intro m g m' g' _ he
  refine ⟨_, (θ_run Cert.PoolOutDw0KernelIdeal.defs _ _).mono (fun _ h c => ⟨(h c).1.trans (final m c), (h c).2⟩)
    (Cert.PoolOutDw0KernelIdeal.Value.run_blocks m g), ?_⟩
  refine (θ_run defs _ _).mono (fun r h c => ?_) (Value.run m' g')
  obtain ⟨e0, e1, e2⟩ := he c
  refine ⟨(h c).1.trans ((val_main_v13_eq (F := Ideal) _ _ _).trans ((ref _ _ _).trans ?_)), (h c).2⟩
  rw [e0, e1, e2]

/-- The reference declares no semaphore. -/
theorem no_semaphore : (Finset.univ : Finset (SemLoc sig)) = ∅ := by decide

/-- The reference ends without fault, its arguments unchanged. -/
theorem frame_reference : Cert.quiescent_PoolOutDw0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.PoolOutDw0

end
-- ==== Proof.MixDw.lean ====
module

public import proofs.«01_k».proof.Proof.Products
public import proofs.«01_k».proof.Proof.Gen.On_mix_dw1_written
public import proofs.«01_k».proof.Proof.Gen.MixDw1KernelIdeal.Value
public import proofs.«01_k».proof.Proof.Gen.MixDw1ReferenceIdeal.Read
public import proofs.«01_k».proof.Proof.Gen.MixDw0KernelIdeal.Value
public import proofs.«01_k».proof.Proof.Gen.MixDw0ReferenceIdeal.Read
public import Idealize.ShloMosaic.Lib.KernelVsHost

/-! # The gradient of the mixing product with respect to its weights -/

@[expose] public section

set_option maxRecDepth 16384

noncomputable section

open Idealize.ShloMosaic Idealize.ShloMosaic.TcCoe Idealize.SL.Sem

namespace Cert.Proof.MixDw1

section Kernel

open Cert.MixDw1KernelIdeal Cert.MixDw1KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![1, 0, 0] ∧ t.val < 4 :=
  (by decide +kernel : ∀ t : Fin grid0.N, _)

/-- One token block's part of the sum. -/
def part (x : FVec Ideal S2048x1024 .bf16) (g : FVec Ideal S2048x1024 .bf16) (y : S1024x1024.Idx) : EReal :=
  ∑ k : Fin 2048, x (ix2 k (y 0)) * g (ix2 k (y 1))

/-- The accumulator after a point. -/
abbrev acc (c : Dev nD) (n : ℕ) (h : n < cfg0.N) : FVec Ideal S1024x1024 .f32 := (outsAt0 m c n h).2

theorem first (c : Dev nD) (t : Fin cfg0.N) (h : t.val % 4 = 0) (y : S1024x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 4 = 0) (y : S1024x1024.Idx) :
    acc m c t.val t.isLt y = acc m c (t.val - 1) (Nat.lt_of_le_of_lt (Nat.sub_le _ _) t.isLt) y
      + part (iblk m c 0 t) (iblk m c 1 t) y := by
  unfold acc
  by_cases h2 : t.val % 4 = 3
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 4 = 3) (y : S1x1024x1024.Idx) :
    (outsAt0 m c t.val t.isLt).1 y = acc m c t.val t.isLt (ix2 (y 1) (y 2)) := by
  unfold acc
  rw [outsAt0_C m c t (by omega) (by omega) h]; dsimp only; frame_out
  open_payloads
  pointwise []

/-- The layer the kernel writes. -/
theorem final (c : Dev nD) (i : S2x1024x1024.Idx) (hi : (i 0 : ℕ) = 1) : (dats m 0 c).arrAt 2 cfg0.N i
    = Products.tn (m ((c : Thread nD τ).loc main_arg0)) (m ((c : Thread nD τ).loc main_arg1)) i := by
  refine (congrFun (f := (dats m 0 c).arrAt 2 cfg0.N) (g := fun i => if (i 0 : ℕ) = 1
    then Products.tn (m ((c : Thread nD τ).loc main_arg0)) (m ((c : Thread nD τ).loc main_arg1)) i
    else V m c main_v0 i) ?_ i).trans (if_pos hi)
  refine (dats m 0 c).arrAt_eq_of_coversWhere 2 _ (fun β => β 0 = 1) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => part (iblk m c 0 t) (iblk m c 1 t) y) (fun t h y => first m c t h y) (fun t h y => step m c t h y)
    t ((flush0_2 t).mp hf) _, zero_add]
  unfold Products.tn
  rw [Fin.sum_univ_tiles 4 2048 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Kernel

section Reference

open Cert.MixDw1ReferenceIdeal Cert.MixDw1ReferenceIdeal.Read

/-- Where the mask is set. -/
theorem masked (X : FVec Ideal S8192x1024 .bf16) (G : FVec Ideal S8192x1024 .bf16) (i : S2x1024x1024.Idx)
    (h : Cert.On_mix_dw1_written.fn (F := Ideal) X G i = 1#1) : (i 0 : ℕ) = 1 := Products.layer_one (i 0) h

/-- The reference's gradient. -/
theorem ref (X : FVec Ideal S8192x1024 .bf16) (G : FVec Ideal S8192x1024 .bf16) (i : S2x1024x1024.Idx) (hi : (i 0 : ℕ) = 1) :
    val_main_v10 (F := Ideal) X G i = Products.tn X G i := by
  pointwise [val_main_v10, val_main_v9, val_main_v8, val_main_v7, val_main_v6, val_main_v5, val_main_v4, val_main_v1, val_main_v0, Products.tn]
  idx_bounds
  rw [dif_neg (by omega)]
  exact Finset.sum_congr rfl fun r _ => mul_comm _ _

/-- Kernel and reference compute the same function where the mask is set. -/
theorem algebraic : Cert.algebraic_MixDw1KernelIdeal_MixDw1ReferenceIdeal_on_mix_dw1_written := by
  intro m g m' g' _ he
  refine ⟨fun c => Products.tn (m (c.tc.loc Cert.MixDw1KernelIdeal.main_arg0)) (m (c.tc.loc Cert.MixDw1KernelIdeal.main_arg1)),
    (θ_run Cert.MixDw1KernelIdeal.defs _ _).mono (fun _ h c => ⟨fun i hi => (congrFun (h c).1 i).trans
      (final m c i (masked _ _ i hi)), (h c).2⟩) (Cert.MixDw1KernelIdeal.Value.run_blocks m g), ?_⟩
  refine (θ_run defs _ _).mono (fun r h c => ⟨fun i hi => ?_, (h c).2⟩) (Value.run m' g')
  obtain ⟨e0, e1⟩ := he c
  refine (congrFun ((h c).1.trans (val_main_v10_eq (F := Ideal) _ _)) i).trans
    ((ref _ _ i (masked _ _ i hi)).trans ?_)
  rw [e0, e1]

/-- The reference declares no semaphore. -/
theorem no_semaphore : (Finset.univ : Finset (SemLoc sig)) = ∅ := by decide

/-- The reference ends without fault, its arguments unchanged. -/
theorem frame_reference : Cert.quiescent_MixDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.MixDw1

namespace Cert.Proof.MixDw0

section Kernel

open Cert.MixDw0KernelIdeal Cert.MixDw0KernelIdeal.Gen

variable (m : (ℓ : Loc nD τ sig) → Buf (Elt Ideal) ℓ)

/-- The windows' block indices. -/
theorem idx : ∀ t : Fin cfg0.N, win0_0.index t = ![t.val, 0]
    ∧ win0_1.index t = ![t.val, 0] ∧ win0_2.index t = ![0, 0, 0] ∧ t.val < 4 :=
  (by decide +kernel : ∀ t : Fin grid0.N, _)

/-- One token block's part of the sum. -/
def part (x : FVec Ideal S2048x1024 .bf16) (g : FVec Ideal S2048x1024 .bf16) (y : S1024x1024.Idx) : EReal :=
  ∑ k : Fin 2048, x (ix2 k (y 0)) * g (ix2 k (y 1))

/-- The accumulator after a point. -/
abbrev acc (c : Dev nD) (n : ℕ) (h : n < cfg0.N) : FVec Ideal S1024x1024 .f32 := (outsAt0 m c n h).2

theorem first (c : Dev nD) (t : Fin cfg0.N) (h : t.val % 4 = 0) (y : S1024x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 4 = 0) (y : S1024x1024.Idx) :
    acc m c t.val t.isLt y = acc m c (t.val - 1) (Nat.lt_of_le_of_lt (Nat.sub_le _ _) t.isLt) y
      + part (iblk m c 0 t) (iblk m c 1 t) y := by
  unfold acc
  by_cases h2 : t.val % 4 = 3
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 4 = 3) (y : S1x1024x1024.Idx) :
    (outsAt0 m c t.val t.isLt).1 y = acc m c t.val t.isLt (ix2 (y 1) (y 2)) := by
  unfold acc
  rw [outsAt0_C m c t (by omega) (by omega) h]; dsimp only; frame_out
  open_payloads
  pointwise []

/-- The array the kernel leaves. -/
theorem final (c : Dev nD) : (dats m 0 c).arrAt 2 cfg0.N = fun i => if (i 0 : ℕ) = 0
    then Products.tn (m ((c : Thread nD τ).loc main_arg0)) (m ((c : Thread nD τ).loc main_arg1)) i
    else m ((c : Thread nD τ).loc main_arg2) i := by
  have hV : V m c main_v0 = m ((c : Thread nD τ).loc main_arg2) := by unfold V; after_results; try rfl
  rw [← hV]
  refine (dats m 0 c).arrAt_eq_of_coversWhere 2 _ (fun β => β 0 = 0) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => part (iblk m c 0 t) (iblk m c 1 t) y) (fun t h y => first m c t h y) (fun t h y => step m c t h y)
    t ((flush0_2 t).mp hf) _, zero_add]
  unfold Products.tn
  rw [Fin.sum_univ_tiles 4 2048 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Kernel

section Reference

open Cert.MixDw0ReferenceIdeal Cert.MixDw0ReferenceIdeal.Read

/-- The reference's gradients: layer 0's, and layer 1's as it was handed over. -/
theorem ref (X : FVec Ideal S8192x1024 .bf16) (G : FVec Ideal S8192x1024 .bf16) (L : FVec Ideal S2x1024x1024 .bf16) :
    val_main_v11 (F := Ideal) X G L = fun i => if (i 0 : ℕ) = 0 then Products.tn X G i else L i := by
  funext i
  pointwise [val_main_v11, val_main_v10, val_main_v9, val_main_v8, val_main_v7, val_main_v6, val_main_v5, val_main_v4, val_main_v1, val_main_v0, Products.tn]
  idx_bounds
  have hi : ¬ (i 0).val = 0 → i = ix3 1 (i 1) (i 2) := fun h => by blk_point []
  by_cases h : (i 0).val = 0
  · rw [if_pos h, dif_pos (by omega)]
    exact Finset.sum_congr rfl fun r _ => mul_comm _ _
  · rw [if_neg h, dif_neg (by omega)]
    exact congrArg L (hi h).symm

/-- Kernel and reference compute the same function. -/
theorem algebraic : Cert.algebraic_MixDw0KernelIdeal_MixDw0ReferenceIdeal := by
  intro m g m' g' _ he
  refine ⟨_, (θ_run Cert.MixDw0KernelIdeal.defs _ _).mono (fun _ h c => ⟨(h c).1.trans (final m c), (h c).2⟩)
    (Cert.MixDw0KernelIdeal.Value.run_blocks m g), ?_⟩
  refine (θ_run defs _ _).mono (fun r h c => ?_) (Value.run m' g')
  obtain ⟨e0, e1, e2⟩ := he c
  refine ⟨(h c).1.trans ((val_main_v11_eq (F := Ideal) _ _ _).trans ((ref _ _ _).trans ?_)), (h c).2⟩
  rw [e0, e1, e2]

/-- The reference declares no semaphore. -/
theorem no_semaphore : (Finset.univ : Finset (SemLoc sig)) = ∅ := by decide

/-- The reference ends without fault, its arguments unchanged. -/
theorem frame_reference : Cert.quiescent_MixDw0ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.MixDw0

end
-- ==== Proof.DownDwLater.lean ====
module

public import proofs.«01_k».proof.Proof.Products
public import proofs.«01_k».proof.Proof.Gen.On_down_dw1_written
public import proofs.«01_k».proof.Proof.Gen.DownDw1KernelIdeal.Value
public import proofs.«01_k».proof.Proof.Gen.DownDw1ReferenceIdeal.Read
public import Idealize.ShloMosaic.Lib.KernelVsHost

/-! # The gradient of the FFN's down-projection with respect to the later layer's weights -/

@[expose] public section

set_option maxRecDepth 16384

noncomputable section

open Idealize.ShloMosaic Idealize.ShloMosaic.TcCoe Idealize.SL.Sem

namespace Cert.Proof.DownDw1

section Kernel

open Cert.DownDw1KernelIdeal Cert.DownDw1KernelIdeal.Gen

variable (m : (ℓ : Loc nD τ sig) → Buf (Elt Ideal) ℓ)

/-- The windows' block indices. -/
theorem idx : ∀ t : Fin cfg0.N, win0_0.index t = ![t.val % 4, t.val / 4]
    ∧ win0_1.index t = ![t.val % 4, 0] ∧ win0_2.index t = ![1, t.val / 4, 0] ∧ t.val < 8 :=
  (by decide +kernel : ∀ t : Fin grid0.N, _)

/-- One token block's part of the sum. -/
def part (x : FVec Ideal S2048x1408 .bf16) (g : FVec Ideal S2048x1024 .bf16) (y : S1408x1024.Idx) : EReal :=
  ∑ k : Fin 2048, x (ix2 k (y 0)) * g (ix2 k (y 1))

/-- The accumulator after a point. -/
abbrev acc (c : Dev nD) (n : ℕ) (h : n < cfg0.N) : FVec Ideal S1408x1024 .f32 := (outsAt0 m c n h).2

theorem first (c : Dev nD) (t : Fin cfg0.N) (h : t.val % 4 = 0) (y : S1408x1024.Idx) :
    acc m c t.val t.isLt y = (0 : EReal) + part (iblk m c 0 t) (iblk m c 1 t) y := by
  have hN := (idx t).2.2.2
  unfold acc
  rw [outsAt0_A m c t h (by omega) (by omega)]; dsimp only; frame_out
  open_payloads
  pointwise [part]

theorem step (c : Dev nD) (t : Fin cfg0.N) (h : ¬ t.val % 4 = 0) (y : S1408x1024.Idx) :
    acc m c t.val t.isLt y = acc m c (t.val - 1) (Nat.lt_of_le_of_lt (Nat.sub_le _ _) t.isLt) y
      + part (iblk m c 0 t) (iblk m c 1 t) y := by
  unfold acc
  by_cases h2 : t.val % 4 = 3
  · rw [outsAt0_C m c t h (by omega) h2]; dsimp only; frame_out
    open_payloads
    pointwise [part]
    exact congrArg (fun a : EReal => a + _) (congrFun (Memref.IsWhole.read_unread _ _) y)
  · rw [outsAt0_B m c t h (by omega) h2]; dsimp only; frame_out
    open_payloads
    pointwise [part]
    exact congrArg (fun a : EReal => a + _) (congrFun (Memref.IsWhole.read_unread _ _) y)

/-- At the last point of a block's sum the block written is the accumulator. -/
theorem last (c : Dev nD) (t : Fin cfg0.N) (h : t.val % 4 = 3) (y : S1x1408x1024.Idx) :
    (outsAt0 m c t.val t.isLt).1 y = acc m c t.val t.isLt (ix2 (y 1) (y 2)) := by
  unfold acc
  rw [outsAt0_C m c t (by omega) (by omega) h]; dsimp only; frame_out
  open_payloads
  pointwise []

/-- The layer the kernel writes. -/
theorem final (c : Dev nD) (i : S2x2816x1024.Idx) (hi : (i 0 : ℕ) = 1) : (dats m 0 c).arrAt 2 cfg0.N i
    = Products.tn (m ((c : Thread nD τ).loc main_arg0)) (m ((c : Thread nD τ).loc main_arg1)) i := by
  refine (congrFun (f := (dats m 0 c).arrAt 2 cfg0.N) (g := fun i => if (i 0 : ℕ) = 1
    then Products.tn (m ((c : Thread nD τ).loc main_arg0)) (m ((c : Thread nD τ).loc main_arg1)) i
    else V m c main_v0 i) ?_ i).trans (if_pos hi)
  refine (dats m 0 c).arrAt_eq_of_coversWhere 2 _ (fun β => β 0 = 1) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => part (iblk m c 0 t) (iblk m c 1 t) y) (fun t h y => first m c t h y) (fun t h y => step m c t h y)
    t ((flush0_2 t).mp hf) _, zero_add]
  unfold Products.tn
  rw [Fin.sum_univ_tiles 4 2048 rfl]
  unfold part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Kernel

section Reference

open Cert.DownDw1ReferenceIdeal Cert.DownDw1ReferenceIdeal.Read

/-- Where the mask is set. -/
theorem masked (X : FVec Ideal S8192x2816 .bf16) (G : FVec Ideal S8192x1024 .bf16) (i : S2x2816x1024.Idx)
    (h : Cert.On_down_dw1_written.fn (F := Ideal) X G i = 1#1) : (i 0 : ℕ) = 1 := Products.layer_one (i 0) h

/-- The reference's gradient. -/
theorem ref (X : FVec Ideal S8192x2816 .bf16) (G : FVec Ideal S8192x1024 .bf16) (i : S2x2816x1024.Idx) (hi : (i 0 : ℕ) = 1) :
    val_main_v10 (F := Ideal) X G i = Products.tn X G i := by
  pointwise [val_main_v10, val_main_v9, val_main_v8, val_main_v7, val_main_v6, val_main_v5, val_main_v4, val_main_v1, val_main_v0, Products.tn]
  idx_bounds
  rw [dif_neg (by omega)]
  exact Finset.sum_congr rfl fun r _ => mul_comm _ _

/-- Kernel and reference compute the same function where the mask is set. -/
theorem algebraic : Cert.algebraic_DownDw1KernelIdeal_DownDw1ReferenceIdeal_on_down_dw1_written := by
  intro m g m' g' _ he
  refine ⟨fun c => Products.tn (m (c.tc.loc Cert.DownDw1KernelIdeal.main_arg0)) (m (c.tc.loc Cert.DownDw1KernelIdeal.main_arg1)),
    (θ_run Cert.DownDw1KernelIdeal.defs _ _).mono (fun _ h c => ⟨fun i hi => (congrFun (h c).1 i).trans
      (final m c i (masked _ _ i hi)), (h c).2⟩) (Cert.DownDw1KernelIdeal.Value.run_blocks m g), ?_⟩
  refine (θ_run defs _ _).mono (fun r h c => ⟨fun i hi => ?_, (h c).2⟩) (Value.run m' g')
  obtain ⟨e0, e1⟩ := he c
  refine (congrFun ((h c).1.trans (val_main_v10_eq (F := Ideal) _ _)) i).trans
    ((ref _ _ i (masked _ _ i hi)).trans ?_)
  rw [e0, e1]

/-- The reference declares no semaphore. -/
theorem no_semaphore : (Finset.univ : Finset (SemLoc sig)) = ∅ := by decide

/-- The reference ends without fault, its arguments unchanged. -/
theorem frame_reference : Cert.quiescent_DownDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.DownDw1

end
-- ==== Proof.UpDwLater.lean ====
module

public import proofs.«01_k».proof.Proof.Products
public import proofs.«01_k».proof.Proof.UpDw
public import proofs.«01_k».proof.Proof.Gen.On_up_dw1_written
public import proofs.«01_k».proof.Proof.Gen.UpDw1KernelIdeal.Value
public import proofs.«01_k».proof.Proof.Gen.UpDw1ReferenceIdeal.Read
public import Idealize.ShloMosaic.Lib.KernelVsHost

/-! # The gradient of the FFN's up-projection with respect to the later layer's weights -/

@[expose] public section

set_option maxRecDepth 16384

noncomputable section

open Idealize.ShloMosaic Idealize.ShloMosaic.TcCoe Idealize.SL.Sem

namespace Cert.Proof.UpDw1

section Kernel

open Cert.UpDw1KernelIdeal Cert.UpDw1KernelIdeal.Gen

variable (m : (ℓ : Loc nD τ sig) → Buf (Elt Ideal) ℓ)

/-- The windows' block indices. -/
theorem idx : ∀ t : Fin cfg0.N, win0_0.index t = ![t.val % 4, 0]
    ∧ win0_1.index t = ![t.val / 4 / 2, t.val % 4, t.val / 4 % 2] ∧ win0_2.index t = ![1, t.val / 4, 0, 0] ∧ t.val < 16 :=
  (by decide +kernel : ∀ t : Fin grid0.N, _)

/-- The accumulator after a point. -/
abbrev acc (c : Dev nD) (n : ℕ) (h : n < cfg0.N) : FVec Ideal S1024x1408 .f32 := (outsAt0 m c n h).2

theorem first (c : Dev nD) (t : Fin cfg0.N) (h : t.val % 4 = 0) (y : S1024x1408.Idx) :
    acc m c t.val t.isLt y = (0 : EReal) + UpDw.part (iblk m c 0 t) (iblk m c 1 t) y := by
  unfold acc
  rw [outsAt0_A m c t h (by omega) (by omega)]; dsimp only; frame_out
  open_payloads
  pointwise [UpDw.part]

theorem step (c : Dev nD) (t : Fin cfg0.N) (h : ¬ t.val % 4 = 0) (y : S1024x1408.Idx) :
    acc m c t.val t.isLt y = acc m c (t.val - 1) (Nat.lt_of_le_of_lt (Nat.sub_le _ _) t.isLt) y
      + UpDw.part (iblk m c 0 t) (iblk m c 1 t) y := by
  unfold acc
  by_cases h2 : t.val % 4 = 3
  · rw [outsAt0_C m c t h (by omega) h2]; dsimp only; frame_out
    open_payloads
    pointwise [UpDw.part]
    exact congrArg (fun a : EReal => a + _) (congrFun (Memref.IsWhole.read_unread _ _) y)
  · rw [outsAt0_B m c t h (by omega) h2]; dsimp only; frame_out
    open_payloads
    pointwise [UpDw.part]
    exact congrArg (fun a : EReal => a + _) (congrFun (Memref.IsWhole.read_unread _ _) y)

/-- At a shard's last point the block written is the accumulator. -/
theorem last (c : Dev nD) (t : Fin cfg0.N) (h : t.val % 4 = 3) (y : S1x1x1024x1408.Idx) :
    (outsAt0 m c t.val t.isLt).1 y = acc m c t.val t.isLt (ix2 (y 2) (y 3)) := by
  unfold acc
  rw [outsAt0_C m c t (by omega) (by omega) h]; dsimp only; frame_out
  open_payloads
  pointwise []

/-- The layer the kernel writes. -/
theorem final (c : Dev nD) (i : S2x4x1024x1408.Idx) (hi : (i 0 : ℕ) = 1) : (dats m 0 c).arrAt 2 cfg0.N i
    = UpDw.grad (m ((c : Thread nD τ).loc main_arg0)) (m ((c : Thread nD τ).loc main_arg1)) i := by
  refine (congrFun (f := (dats m 0 c).arrAt 2 cfg0.N) (g := fun i => if (i 0 : ℕ) = 1
    then UpDw.grad (m ((c : Thread nD τ).loc main_arg0)) (m ((c : Thread nD τ).loc main_arg1)) i
    else V m c main_v0 i) ?_ i).trans (if_pos hi)
  refine (dats m 0 c).arrAt_eq_of_coversWhere 2 _ (fun β => β 0 = 1) (by decide +kernel) (fun t hf y => ?_)
    (fun j => by blk_simp [Pipeline.Window.cell_apply]; omega)
  blk_simp
  rw [after0_2]
  refine (last m c t ((flush0_2 t).mp hf) _).trans ?_
  rw [Pipeline.eq_sum_fin_of_reset_step_apply_of_flush (fun n h => acc m c n h) 4 (fun _ => (0 : EReal))
    (fun t y => UpDw.part (iblk m c 0 t) (iblk m c 1 t) y) (fun t h y => first m c t h y) (fun t h y => step m c t h y)
    t ((flush0_2 t).mp hf) _, zero_add]
  unfold UpDw.grad
  rw [Fin.sum_univ_tiles 4 2048 rfl]
  unfold UpDw.part
  refine Fin.sum_fin_congr fun s => Fin.sum_fin_congr fun k => ?_
  have h := (idx t).2.2.2
  have hs : (4 * (t.val / 4) + s.val) % 4 = s.val := by omega
  have hd : (4 * (t.val / 4) + s.val) / 4 = t.val / 4 := by omega
  blk_point [iblk, V, idx t, idx ⟨_, Pipeline.run_point_lt_of_flush t ((flush0_2 t).mp hf) s⟩]

end Kernel

section Reference

open Cert.UpDw1ReferenceIdeal Cert.UpDw1ReferenceIdeal.Read

/-- Where the mask is set. -/
theorem masked (X : FVec Ideal S8192x1024 .bf16) (G : FVec Ideal S2x8192x2816 .bf16)
    (i : S2x4x1024x1408.Idx) (h : Cert.On_up_dw1_written.fn (F := Ideal) X G i = 1#1) : (i 0 : ℕ) = 1 :=
  Products.layer_one (i 0) h

/-- The two halves side by side. -/
theorem halves (G : FVec Ideal S2x8192x2816 .bf16) (i : S8192x5632.Idx) : val_main_v4 (F := Ideal) G i
    = G (ix3 ⟨(i 1).val / 2816, by idx_bounds; omega⟩ (i 0) ⟨(i 1).val % 2816, by omega⟩) := by
  pointwise [val_main_v4, val_main_v3, val_main_v2, val_main_v1, val_main_v0]
  idx_bounds
  split <;> blk_point []

/-- The reference's gradient. -/
theorem ref (X : FVec Ideal S8192x1024 .bf16) (G : FVec Ideal S2x8192x2816 .bf16)
    (i : S2x4x1024x1408.Idx) (hi : (i 0 : ℕ) = 1) :
    val_main_v17 (F := Ideal) X G i = UpDw.grad X G i := by
  pointwise [val_main_v17, val_main_v16, val_main_v15, val_main_v14, val_main_v13, val_main_v12, val_main_v11, val_main_v10, val_main_v9, val_main_v6, val_main_v5, UpDw.grad]
  idx_bounds
  rw [dif_neg (by omega)]
  refine Finset.sum_congr rfl fun r _ => (mul_comm _ _).trans (congrArg₂ (fun a b : EReal => a * b) rfl ((halves G _).trans ?_))
  blk_point []

/-- Kernel and reference compute the same function where the mask is set. -/
theorem algebraic : Cert.algebraic_UpDw1KernelIdeal_UpDw1ReferenceIdeal_on_up_dw1_written := by
  intro m g m' g' _ he
  refine ⟨fun c => UpDw.grad (m (c.tc.loc Cert.UpDw1KernelIdeal.main_arg0)) (m (c.tc.loc Cert.UpDw1KernelIdeal.main_arg1)),
    (θ_run Cert.UpDw1KernelIdeal.defs _ _).mono (fun _ h c => ⟨fun i hi => (congrFun (h c).1 i).trans
      (final m c i (masked _ _ i hi)), (h c).2⟩) (Cert.UpDw1KernelIdeal.Value.run_blocks m g), ?_⟩
  refine (θ_run defs _ _).mono (fun r h c => ⟨fun i hi => ?_, (h c).2⟩) (Value.run m' g')
  obtain ⟨e0, e1⟩ := he c
  refine (congrFun ((h c).1.trans (val_main_v17_eq (F := Ideal) _ _)) i).trans
    ((ref _ _ i (masked _ _ i hi)).trans ?_)
  rw [e0, e1]

/-- The reference declares no semaphore. -/
theorem no_semaphore : (Finset.univ : Finset (SemLoc sig)) = ∅ := by decide

/-- The reference ends without fault, its arguments unchanged. -/
theorem frame_reference : Cert.quiescent_UpDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.UpDw1

end
-- ==== Proof.ProjDwLater.lean ====
module

public import proofs.«01_k».proof.Proof.Products
public import proofs.«01_k».proof.Proof.ProjDw
public import proofs.«01_k».proof.Proof.Gen.On_proj_dw1_written
public import proofs.«01_k».proof.Proof.Gen.ProjDw1KernelIdeal.Value
public import proofs.«01_k».proof.Proof.Gen.ProjDw1ReferenceIdeal.Read
public import Idealize.ShloMosaic.Lib.KernelVsHost

/-! # The gradient of the first projection with respect to the later layer's weights -/

@[expose] public section

set_option maxRecDepth 16384

noncomputable section

open Idealize.ShloMosaic Idealize.ShloMosaic.TcCoe Idealize.SL.Sem

namespace Cert.Proof.ProjDw1

section Kernel

open Cert.ProjDw1KernelIdeal Cert.ProjDw1KernelIdeal.Gen Cert.Proof.Proj

variable (m : (ℓ : Loc nD τ sig) → Buf (Elt Ideal) ℓ)

/-- The windows' block indices. -/
theorem idx : ∀ t : Fin cfg0.N, win0_0.index t = ![t.val % 8, 0] ∧ win0_1.index t = ![t.val % 8, 0]
    ∧ win0_2.index t = ![t.val % 8, 1] ∧ win0_3.index t = ![t.val % 8, 2] ∧ win0_4.index t = ![t.val % 8, 0]
    ∧ win0_5.index t = ![t.val % 8, t.val / 8 - 2] ∧ win0_6.index t = ![1, t.val / 8, 0, 0] ∧ t.val < 32 :=
  (by decide +kernel : ∀ t : Fin grid0.N, _)

/-- One token block's part of the sum. -/
def part (c : Dev nD) (t : Fin cfg0.N) (y : S1024x1024.Idx) : EReal :=
  ProjDw.block (iblk m c 0 t) (shard (t.val / 8) (iblk m c 1 t) (iblk m c 2 t) (iblk m c 3 t) (iblk m c 4 t) (iblk m c 5 t)) y

/-- The accumulator after a point. -/
abbrev acc (c : Dev nD) (n : ℕ) (h : n < cfg0.N) : FVec Ideal S1024x1024 .f32 := (outsAt0 m c n h).2

theorem first (c : Dev nD) (t : Fin cfg0.N) (h : t.val % 8 = 0) (y : S1024x1024.Idx) :
    acc m c t.val t.isLt y = (0 : EReal) + part m c t y := by
  have hN := (idx t).2.2.2.2.2.2.2
  unfold acc
  by_cases h0 : t.val / 8 = 0
  · rw [outsAt0_A m c t (by omega) h (by omega) (by omega) (by omega) (by omega)]; dsimp only; frame_out
    open_payloads
    simp only [part, ProjDw.block, shard, if_pos h0]
    pointwise [pair]
  by_cases h1 : t.val / 8 = 1
  · rw [outsAt0_D m c t (by omega) (by omega) (by omega) (by omega) h (by omega)]; dsimp only; frame_out
    open_payloads
    simp only [part, ProjDw.block, shard, if_neg h0, if_pos h1]
    pointwise [pair]
  · rw [outsAt0_G m c t (by omega) (by omega) (by omega) (by omega) h (by omega)]; dsimp only; frame_out
    open_payloads
    simp only [part, ProjDw.block, shard, if_neg h0, if_neg h1]
    pointwise []

theorem step (c : Dev nD) (t : Fin cfg0.N) (h : ¬ t.val % 8 = 0) (y : S1024x1024.Idx) :
    acc m c t.val t.isLt y = acc m c (t.val - 1) (Nat.lt_of_le_of_lt (Nat.sub_le _ _) t.isLt) y + part m c t y := by
  have hN := (idx t).2.2.2.2.2.2.2
  unfold acc
  by_cases h0 : t.val / 8 = 0
  · by_cases h7 : t.val % 8 = 7
    · rw [outsAt0_C m c t (by omega) h (by omega) (by omega) (by omega) h7]; dsimp only; frame_out
      open_payloads
      simp only [part, ProjDw.block, shard, if_pos h0]
      pointwise [pair]
      exact congrArg (fun a : EReal => a + _) (congrFun (Memref.IsWhole.read_unread _ _) y)
    · rw [outsAt0_B m c t (by omega) h (by omega) (by omega) (by omega) h7]; dsimp only; frame_out
      open_payloads
      simp only [part, ProjDw.block, shard, if_pos h0]
      pointwise [pair]
      exact congrArg (fun a : EReal => a + _) (congrFun (Memref.IsWhole.read_unread _ _) y)
  by_cases h1 : t.val / 8 = 1
  · by_cases h7 : t.val % 8 = 7
    · rw [outsAt0_F m c t (by omega) (by omega) (by omega) h7 h (by omega)]; dsimp only; frame_out
      open_payloads
      simp only [part, ProjDw.block, shard, if_neg h0, if_pos h1]
      pointwise [pair]
      exact congrArg (fun a : EReal => a + _) (congrFun (Memref.IsWhole.read_unread _ _) y)
    · rw [outsAt0_E m c t (by omega) (by omega) (by omega) h7 h (by omega)]; dsimp only; frame_out
      open_payloads
      simp only [part, ProjDw.block, shard, if_neg h0, if_pos h1]
      pointwise [pair]
      exact congrArg (fun a : EReal => a + _) (congrFun (Memref.IsWhole.read_unread _ _) y)
  · by_cases h7 : t.val % 8 = 7
    · rw [outsAt0_I m c t (by omega) (by omega) (by omega) h7 h (by omega)]; dsimp only; frame_out
      open_payloads
      simp only [part, ProjDw.block, shard, if_neg h0, if_neg h1]
      pointwise []
      exact congrArg (fun a : EReal => a + _) (congrFun (Memref.IsWhole.read_unread _ _) y)
    · rw [outsAt0_H m c t (by omega) (by omega) (by omega) h7 h (by omega)]; dsimp only; frame_out
      open_payloads
      simp only [part, ProjDw.block, shard, if_neg h0, if_neg h1]
      pointwise []
      exact congrArg (fun a : EReal => a + _) (congrFun (Memref.IsWhole.read_unread _ _) y)

/-- At a shard's last point the block written is the accumulator. -/
theorem last (c : Dev nD) (t : Fin cfg0.N) (h : t.val % 8 = 7) (y : S1x1x1024x1024.Idx) :
    (outsAt0 m c t.val t.isLt).1 y = acc m c t.val t.isLt (ix2 (y 2) (y 3)) := by
  have hN := (idx t).2.2.2.2.2.2.2
  unfold acc
  by_cases h0 : t.val / 8 = 0
  · rw [outsAt0_C m c t (by omega) (by omega) (by omega) (by omega) (by omega) h]; dsimp only; frame_out
    open_payloads
    pointwise []
  by_cases h1 : t.val / 8 = 1
  · rw [outsAt0_F m c t (by omega) (by omega) (by omega) h (by omega) (by omega)]; dsimp only; frame_out
    open_payloads
    pointwise []
  · rw [outsAt0_I m c t (by omega) (by omega) (by omega) h (by omega) (by omega)]; dsimp only; frame_out
    open_payloads
    pointwise []

/-- The layer the kernel writes. -/
theorem final (c : Dev nD) (i : S2x4x1024x1024.Idx) (hi : (i 0 : ℕ) = 1) : (dats m 0 c).arrAt 6 cfg0.N i
    = ProjDw.grad (m ((c : Thread nD τ).loc main_arg0)) (m ((c : Thread nD τ).loc main_arg1))
      (m ((c : Thread nD τ).loc main_arg2)) (m ((c : Thread nD τ).loc main_arg3)) i := by
  refine (congrFun (f := (dats m 0 c).arrAt 6 cfg0.N) (g := fun i => if (i 0 : ℕ) = 1
    then ProjDw.grad (m ((c : Thread nD τ).loc main_arg0)) (m ((c : Thread nD τ).loc main_arg1))
      (m ((c : Thread nD τ).loc main_arg2)) (m ((c : Thread nD τ).loc main_arg3)) i
    else V m c main_v0 i) ?_ i).trans (if_pos hi)
  refine (dats m 0 c).arrAt_eq_of_coversWhere 6 _ (fun β => β 0 = 1) (by decide +kernel) (fun t hf y => ?_)
    (fun j => by blk_simp [Pipeline.Window.cell_apply]; omega)
  blk_simp
  rw [after0_6]
  refine (last m c t ((flush0_6 t).mp hf) _).trans ?_
  rw [Pipeline.eq_sum_fin_of_reset_step_apply_of_flush (fun n h => acc m c n h) 8 (fun _ => (0 : EReal))
    (fun t y => part m c t y) (fun t h y => first m c t h y) (fun t h y => step m c t h y)
    t ((flush0_6 t).mp hf) _, zero_add]
  unfold ProjDw.grad
  rw [Fin.sum_univ_tiles 8 1024 rfl]
  unfold part ProjDw.block
  refine Fin.sum_fin_congr fun s => Fin.sum_fin_congr fun k => ?_
  have h := (idx t).2.2.2.2.2.2.2
  have hs : (8 * (t.val / 8) + s.val) % 8 = s.val := by omega
  have hd : (8 * (t.val / 8) + s.val) / 8 = t.val / 8 := by omega
  refine congrArg₂ (fun a b : EReal => a * b) ?_ ?_
  · blk_point [iblk, V, idx t, idx ⟨_, Pipeline.run_point_lt_of_flush t ((flush0_6 t).mp hf) s⟩]
  · refine shard_eq (n := (8 * (t.val / 8) + s.val) / 8) (by omega) _ _ ?_ (fun h0 z => ?_) (fun h0 z => ?_) (fun h1 z => ?_)
      (fun h1 z => ?_) (fun h0 h1 z => ?_)
    · blk_simp [idx t]; dsimp only; omega
    all_goals blk_point [iblk, V, idx t, idx ⟨_, Pipeline.run_point_lt_of_flush t ((flush0_6 t).mp hf) s⟩]

end Kernel

section Reference

open Cert.ProjDw1ReferenceIdeal Cert.ProjDw1ReferenceIdeal.Read

/-- Where the mask is set. -/
theorem masked (X : FVec Ideal S8192x1024 .bf16) (Q : FVec Ideal S8192x1536 .bf16) (U : FVec Ideal S8192x512 .bf16) (G : FVec Ideal S8192x2048 .bf16)
    (i : S2x4x1024x1024.Idx) (h : Cert.On_proj_dw1_written.fn (F := Ideal) X Q U G i = 1#1) : (i 0 : ℕ) = 1 :=
  Products.layer_one (i 0) h

/-- The three gradients side by side. -/
theorem sides (Q : FVec Ideal S8192x1536 .bf16) (U : FVec Ideal S8192x512 .bf16) (G : FVec Ideal S8192x2048 .bf16)
    (i : S8192x4096.Idx) : val_main_v0 (F := Ideal) Q U G i = Proj.cols Q U G (i 0) (i 1) := by
  pointwise [val_main_v0, Proj.cols]

/-- The reference's gradient. -/
theorem ref (X : FVec Ideal S8192x1024 .bf16) (Q : FVec Ideal S8192x1536 .bf16) (U : FVec Ideal S8192x512 .bf16) (G : FVec Ideal S8192x2048 .bf16)
    (i : S2x4x1024x1024.Idx) (hi : (i 0 : ℕ) = 1) :
    val_main_v13 (F := Ideal) X Q U G i = ProjDw.grad X Q U G i := by
  pointwise [val_main_v13, val_main_v12, val_main_v11, val_main_v10, val_main_v9, val_main_v8, val_main_v7, val_main_v6, val_main_v5, val_main_v2, val_main_v1, ProjDw.grad]
  idx_bounds
  rw [dif_neg (by omega)]
  exact Finset.sum_congr rfl fun r _ => (mul_comm _ _).trans
    (congrArg₂ (fun a b : EReal => a * b) rfl (sides Q U G _))

/-- Kernel and reference compute the same function where the mask is set. -/
theorem algebraic : Cert.algebraic_ProjDw1KernelIdeal_ProjDw1ReferenceIdeal_on_proj_dw1_written := by
  intro m g m' g' _ he
  refine ⟨fun c => ProjDw.grad (m (c.tc.loc Cert.ProjDw1KernelIdeal.main_arg0)) (m (c.tc.loc Cert.ProjDw1KernelIdeal.main_arg1)) (m (c.tc.loc Cert.ProjDw1KernelIdeal.main_arg2)) (m (c.tc.loc Cert.ProjDw1KernelIdeal.main_arg3)),
    (θ_run Cert.ProjDw1KernelIdeal.defs _ _).mono (fun _ h c => ⟨fun i hi => (congrFun (h c).1 i).trans
      (final m c i (masked _ _ _ _ i hi)), (h c).2⟩) (Cert.ProjDw1KernelIdeal.Value.run_blocks m g), ?_⟩
  refine (θ_run defs _ _).mono (fun r h c => ⟨fun i hi => ?_, (h c).2⟩) (Value.run m' g')
  obtain ⟨e0, e1, e2, e3⟩ := he c
  refine (congrFun ((h c).1.trans (val_main_v13_eq (F := Ideal) _ _ _ _)) i).trans
    ((ref _ _ _ _ i (masked _ _ _ _ i hi)).trans ?_)
  rw [e0, e1, e2, e3]

/-- The reference declares no semaphore. -/
theorem no_semaphore : (Finset.univ : Finset (SemLoc sig)) = ∅ := by decide

/-- The reference ends without fault, its arguments unchanged. -/
theorem frame_reference : Cert.quiescent_ProjDw1ReferenceIdeal := fun m ρ _ =>
  (θ_run defs _ _).mono (fun _ h => ⟨fun c => (h c).2, by
    funext s
    exact absurd (Finset.mem_univ s.2) (by rw [no_semaphore]; exact Finset.notMem_empty _)⟩)
    (Value.run m ρ)

end Reference

end Cert.Proof.ProjDw1

end
-- ==== Proof.lean ====
/- The proof of the certificate's claim: the frames of the attention's backward pass, and the frames and the values
   of the multiscale pool's backward pass and of the dense products. -/
module

public import proofs.«01_k».proof.Defs
public import proofs.«01_k».proof.Proof.AttnClaim
public import proofs.«01_k».proof.Proof.PoolClaim
public import proofs.«01_k».proof.Proof.DownDxRef
public import proofs.«01_k».proof.Proof.DownDwRef
public import proofs.«01_k».proof.Proof.UpDxRef
public import proofs.«01_k».proof.Proof.UpDwRef
public import proofs.«01_k».proof.Proof.ProjDxRef
public import proofs.«01_k».proof.Proof.ProjDwRef
public import proofs.«01_k».proof.Proof.Mix
public import proofs.«01_k».proof.Proof.Down
public import proofs.«01_k».proof.Proof.MixDx
public import proofs.«01_k».proof.Proof.First
public import proofs.«01_k».proof.Proof.Up
public import proofs.«01_k».proof.Proof.AttnOut
public import proofs.«01_k».proof.Proof.AttnOutDx
public import proofs.«01_k».proof.Proof.AttnOutDw
public import proofs.«01_k».proof.Proof.PoolOut
public import proofs.«01_k».proof.Proof.PoolOutDx
public import proofs.«01_k».proof.Proof.PoolOutDw
public import proofs.«01_k».proof.Proof.MixDw
public import proofs.«01_k».proof.Proof.DownDwLater
public import proofs.«01_k».proof.Proof.UpDwLater
public import proofs.«01_k».proof.Proof.ProjDwLater
public import proofs.«01_k».proof.Proof.Gen.PoolKernel.Frame
public import proofs.«01_k».proof.Proof.Gen.PoolKernelIdeal.Frame
public import proofs.«01_k».proof.Proof.Gen.PoolKernelIdeal.Value
public import proofs.«01_k».proof.Proof.Gen.PoolReferenceIdeal.Run
public import proofs.«01_k».proof.Proof.Gen.PoolReferenceIdeal.Read
public import proofs.«01_k».proof.Proof.Gen.DownDxKernel.Frame
public import proofs.«01_k».proof.Proof.Gen.DownDxKernelIdeal.Frame
public import proofs.«01_k».proof.Proof.Gen.DownDxKernelIdeal.Value
public import proofs.«01_k».proof.Proof.Gen.DownDxReferenceIdeal.Run
public import proofs.«01_k».proof.Proof.Gen.DownDxReferenceIdeal.Read
public import proofs.«01_k».proof.Proof.Gen.DownDwKernel.Frame
public import proofs.«01_k».proof.Proof.Gen.DownDwKernelIdeal.Frame
public import proofs.«01_k».proof.Proof.Gen.DownDwKernelIdeal.Value
public import proofs.«01_k».proof.Proof.Gen.DownDwReferenceIdeal.Run
public import proofs.«01_k».proof.Proof.Gen.DownDwReferenceIdeal.Read
public import proofs.«01_k».proof.Proof.Gen.UpDxKernel.Frame
public import proofs.«01_k».proof.Proof.Gen.UpDxKernelIdeal.Frame
public import proofs.«01_k».proof.Proof.Gen.UpDxKernelIdeal.Value
public import proofs.«01_k».proof.Proof.Gen.UpDxReferenceIdeal.Run
public import proofs.«01_k».proof.Proof.Gen.UpDxReferenceIdeal.Read
public import proofs.«01_k».proof.Proof.Gen.UpDwKernel.Frame
public import proofs.«01_k».proof.Proof.Gen.UpDwKernelIdeal.Frame
public import proofs.«01_k».proof.Proof.Gen.UpDwKernelIdeal.Value
public import proofs.«01_k».proof.Proof.Gen.UpDwReferenceIdeal.Run
public import proofs.«01_k».proof.Proof.Gen.UpDwReferenceIdeal.Read
public import proofs.«01_k».proof.Proof.Gen.ProjDxKernel.Frame
public import proofs.«01_k».proof.Proof.Gen.ProjDxKernelIdeal.Frame
public import proofs.«01_k».proof.Proof.Gen.ProjDxKernelIdeal.Value
public import proofs.«01_k».proof.Proof.Gen.ProjDxReferenceIdeal.Run
public import proofs.«01_k».proof.Proof.Gen.ProjDxReferenceIdeal.Read
public import proofs.«01_k».proof.Proof.Gen.ProjDwKernel.Frame
public import proofs.«01_k».proof.Proof.Gen.ProjDwKernelIdeal.Frame
public import proofs.«01_k».proof.Proof.Gen.ProjDwKernelIdeal.Value
public import proofs.«01_k».proof.Proof.Gen.ProjDwReferenceIdeal.Run
public import proofs.«01_k».proof.Proof.Gen.ProjDwReferenceIdeal.Read
public import proofs.«01_k».proof.Proof.Gen.Proj1Kernel.Frame
public import proofs.«01_k».proof.Proof.Gen.Proj1KernelIdeal.Frame
public import proofs.«01_k».proof.Proof.Gen.Proj1KernelIdeal.Value
public import proofs.«01_k».proof.Proof.Gen.Proj1ReferenceIdeal.Run
public import proofs.«01_k».proof.Proof.Gen.Proj1ReferenceIdeal.Read
public import proofs.«01_k».proof.Proof.Gen.Proj0Kernel.Frame
public import proofs.«01_k».proof.Proof.Gen.Proj0KernelIdeal.Frame
public import proofs.«01_k».proof.Proof.Gen.Proj0KernelIdeal.Value
public import proofs.«01_k».proof.Proof.Gen.Proj0ReferenceIdeal.Run
public import proofs.«01_k».proof.Proof.Gen.Proj0ReferenceIdeal.Read
public import proofs.«01_k».proof.Proof.Gen.Up1Kernel.Frame
public import proofs.«01_k».proof.Proof.Gen.Up1KernelIdeal.Frame
public import proofs.«01_k».proof.Proof.Gen.Up1KernelIdeal.Value
public import proofs.«01_k».proof.Proof.Gen.Up1ReferenceIdeal.Run
public import proofs.«01_k».proof.Proof.Gen.Up1ReferenceIdeal.Read
public import proofs.«01_k».proof.Proof.Gen.Down1Kernel.Frame
public import proofs.«01_k».proof.Proof.Gen.Down1KernelIdeal.Frame
public import proofs.«01_k».proof.Proof.Gen.Down1KernelIdeal.Value
public import proofs.«01_k».proof.Proof.Gen.Down1ReferenceIdeal.Run
public import proofs.«01_k».proof.Proof.Gen.Down1ReferenceIdeal.Read
public import proofs.«01_k».proof.Proof.Gen.Down0Kernel.Frame
public import proofs.«01_k».proof.Proof.Gen.Down0KernelIdeal.Frame
public import proofs.«01_k».proof.Proof.Gen.Down0KernelIdeal.Value
public import proofs.«01_k».proof.Proof.Gen.Down0ReferenceIdeal.Run
public import proofs.«01_k».proof.Proof.Gen.Down0ReferenceIdeal.Read
public import proofs.«01_k».proof.Proof.Gen.Mix1Kernel.Frame
public import proofs.«01_k».proof.Proof.Gen.Mix1KernelIdeal.Frame
public import proofs.«01_k».proof.Proof.Gen.Mix1KernelIdeal.Value
public import proofs.«01_k».proof.Proof.Gen.Mix1ReferenceIdeal.Run
public import proofs.«01_k».proof.Proof.Gen.Mix1ReferenceIdeal.Read
public import proofs.«01_k».proof.Proof.Gen.Mix0Kernel.Frame
public import proofs.«01_k».proof.Proof.Gen.Mix0KernelIdeal.Frame
public import proofs.«01_k».proof.Proof.Gen.Mix0KernelIdeal.Value
public import proofs.«01_k».proof.Proof.Gen.Mix0ReferenceIdeal.Run
public import proofs.«01_k».proof.Proof.Gen.Mix0ReferenceIdeal.Read
public import proofs.«01_k».proof.Proof.Gen.MixDx1Kernel.Frame
public import proofs.«01_k».proof.Proof.Gen.MixDx1KernelIdeal.Frame
public import proofs.«01_k».proof.Proof.Gen.MixDx1KernelIdeal.Value
public import proofs.«01_k».proof.Proof.Gen.MixDx1ReferenceIdeal.Run
public import proofs.«01_k».proof.Proof.Gen.MixDx1ReferenceIdeal.Read
public import proofs.«01_k».proof.Proof.Gen.MixDx0Kernel.Frame
public import proofs.«01_k».proof.Proof.Gen.MixDx0KernelIdeal.Frame
public import proofs.«01_k».proof.Proof.Gen.MixDx0KernelIdeal.Value
public import proofs.«01_k».proof.Proof.Gen.MixDx0ReferenceIdeal.Run
public import proofs.«01_k».proof.Proof.Gen.MixDx0ReferenceIdeal.Read
public import proofs.«01_k».proof.Proof.Gen.MixDw1Kernel.Frame
public import proofs.«01_k».proof.Proof.Gen.MixDw1KernelIdeal.Frame
public import proofs.«01_k».proof.Proof.Gen.MixDw1KernelIdeal.Value
public import proofs.«01_k».proof.Proof.Gen.MixDw1ReferenceIdeal.Run
public import proofs.«01_k».proof.Proof.Gen.MixDw1ReferenceIdeal.Read
public import proofs.«01_k».proof.Proof.Gen.MixDw0Kernel.Frame
public import proofs.«01_k».proof.Proof.Gen.MixDw0KernelIdeal.Frame
public import proofs.«01_k».proof.Proof.Gen.MixDw0KernelIdeal.Value
public import proofs.«01_k».proof.Proof.Gen.MixDw0ReferenceIdeal.Run
public import proofs.«01_k».proof.Proof.Gen.MixDw0ReferenceIdeal.Read
public import proofs.«01_k».proof.Proof.Gen.DownDw1Kernel.Frame
public import proofs.«01_k».proof.Proof.Gen.DownDw1KernelIdeal.Frame
public import proofs.«01_k».proof.Proof.Gen.DownDw1KernelIdeal.Value
public import proofs.«01_k».proof.Proof.Gen.DownDw1ReferenceIdeal.Run
public import proofs.«01_k».proof.Proof.Gen.DownDw1ReferenceIdeal.Read
public import proofs.«01_k».proof.Proof.Gen.UpDw1Kernel.Frame
public import proofs.«01_k».proof.Proof.Gen.UpDw1KernelIdeal.Frame
public import proofs.«01_k».proof.Proof.Gen.UpDw1KernelIdeal.Value
public import proofs.«01_k».proof.Proof.Gen.UpDw1ReferenceIdeal.Run
public import proofs.«01_k».proof.Proof.Gen.UpDw1ReferenceIdeal.Read
public import proofs.«01_k».proof.Proof.Gen.ProjDw1Kernel.Frame
public import proofs.«01_k».proof.Proof.Gen.ProjDw1KernelIdeal.Frame
public import proofs.«01_k».proof.Proof.Gen.ProjDw1KernelIdeal.Value
public import proofs.«01_k».proof.Proof.Gen.ProjDw1ReferenceIdeal.Run
public import proofs.«01_k».proof.Proof.Gen.ProjDw1ReferenceIdeal.Read
public import proofs.«01_k».proof.Proof.Gen.AttnOut1Kernel.Frame
public import proofs.«01_k».proof.Proof.Gen.AttnOut1KernelIdeal.Frame
public import proofs.«01_k».proof.Proof.Gen.AttnOut1KernelIdeal.Value
public import proofs.«01_k».proof.Proof.Gen.AttnOut1ReferenceIdeal.Run
public import proofs.«01_k».proof.Proof.Gen.AttnOut1ReferenceIdeal.Read
public import proofs.«01_k».proof.Proof.Gen.AttnOut0Kernel.Frame
public import proofs.«01_k».proof.Proof.Gen.AttnOut0KernelIdeal.Frame
public import proofs.«01_k».proof.Proof.Gen.AttnOut0KernelIdeal.Value
public import proofs.«01_k».proof.Proof.Gen.AttnOut0ReferenceIdeal.Run
public import proofs.«01_k».proof.Proof.Gen.AttnOut0ReferenceIdeal.Read
public import proofs.«01_k».proof.Proof.Gen.AttnOutDx1Kernel.Frame
public import proofs.«01_k».proof.Proof.Gen.AttnOutDx1KernelIdeal.Frame
public import proofs.«01_k».proof.Proof.Gen.AttnOutDx1KernelIdeal.Value
public import proofs.«01_k».proof.Proof.Gen.AttnOutDx1ReferenceIdeal.Run
public import proofs.«01_k».proof.Proof.Gen.AttnOutDx1ReferenceIdeal.Read
public import proofs.«01_k».proof.Proof.Gen.AttnOutDx0Kernel.Frame
public import proofs.«01_k».proof.Proof.Gen.AttnOutDx0KernelIdeal.Frame
public import proofs.«01_k».proof.Proof.Gen.AttnOutDx0KernelIdeal.Value
public import proofs.«01_k».proof.Proof.Gen.AttnOutDx0ReferenceIdeal.Run
public import proofs.«01_k».proof.Proof.Gen.AttnOutDx0ReferenceIdeal.Read
public import proofs.«01_k».proof.Proof.Gen.AttnOutDw1Kernel.Frame
public import proofs.«01_k».proof.Proof.Gen.AttnOutDw1KernelIdeal.Frame
public import proofs.«01_k».proof.Proof.Gen.AttnOutDw1KernelIdeal.Value
public import proofs.«01_k».proof.Proof.Gen.AttnOutDw1ReferenceIdeal.Run
public import proofs.«01_k».proof.Proof.Gen.AttnOutDw1ReferenceIdeal.Read
public import proofs.«01_k».proof.Proof.Gen.AttnOutDw0Kernel.Frame
public import proofs.«01_k».proof.Proof.Gen.AttnOutDw0KernelIdeal.Frame
public import proofs.«01_k».proof.Proof.Gen.AttnOutDw0KernelIdeal.Value
public import proofs.«01_k».proof.Proof.Gen.AttnOutDw0ReferenceIdeal.Run
public import proofs.«01_k».proof.Proof.Gen.AttnOutDw0ReferenceIdeal.Read
public import proofs.«01_k».proof.Proof.Gen.PoolOut1Kernel.Frame
public import proofs.«01_k».proof.Proof.Gen.PoolOut1KernelIdeal.Frame
public import proofs.«01_k».proof.Proof.Gen.PoolOut1KernelIdeal.Value
public import proofs.«01_k».proof.Proof.Gen.PoolOut1ReferenceIdeal.Run
public import proofs.«01_k».proof.Proof.Gen.PoolOut1ReferenceIdeal.Read
public import proofs.«01_k».proof.Proof.Gen.PoolOut0Kernel.Frame
public import proofs.«01_k».proof.Proof.Gen.PoolOut0KernelIdeal.Frame
public import proofs.«01_k».proof.Proof.Gen.PoolOut0KernelIdeal.Value
public import proofs.«01_k».proof.Proof.Gen.PoolOut0ReferenceIdeal.Run
public import proofs.«01_k».proof.Proof.Gen.PoolOut0ReferenceIdeal.Read
public import proofs.«01_k».proof.Proof.Gen.PoolOutDx1Kernel.Frame
public import proofs.«01_k».proof.Proof.Gen.PoolOutDx1KernelIdeal.Frame
public import proofs.«01_k».proof.Proof.Gen.PoolOutDx1KernelIdeal.Value
public import proofs.«01_k».proof.Proof.Gen.PoolOutDx1ReferenceIdeal.Run
public import proofs.«01_k».proof.Proof.Gen.PoolOutDx1ReferenceIdeal.Read
public import proofs.«01_k».proof.Proof.Gen.PoolOutDx0Kernel.Frame
public import proofs.«01_k».proof.Proof.Gen.PoolOutDx0KernelIdeal.Frame
public import proofs.«01_k».proof.Proof.Gen.PoolOutDx0KernelIdeal.Value
public import proofs.«01_k».proof.Proof.Gen.PoolOutDx0ReferenceIdeal.Run
public import proofs.«01_k».proof.Proof.Gen.PoolOutDx0ReferenceIdeal.Read
public import proofs.«01_k».proof.Proof.Gen.PoolOutDw1Kernel.Frame
public import proofs.«01_k».proof.Proof.Gen.PoolOutDw1KernelIdeal.Frame
public import proofs.«01_k».proof.Proof.Gen.PoolOutDw1KernelIdeal.Value
public import proofs.«01_k».proof.Proof.Gen.PoolOutDw1ReferenceIdeal.Run
public import proofs.«01_k».proof.Proof.Gen.PoolOutDw1ReferenceIdeal.Read
public import proofs.«01_k».proof.Proof.Gen.PoolOutDw0Kernel.Frame
public import proofs.«01_k».proof.Proof.Gen.PoolOutDw0KernelIdeal.Frame
public import proofs.«01_k».proof.Proof.Gen.PoolOutDw0KernelIdeal.Value
public import proofs.«01_k».proof.Proof.Gen.PoolOutDw0ReferenceIdeal.Run
public import proofs.«01_k».proof.Proof.Gen.PoolOutDw0ReferenceIdeal.Read
public import proofs.«01_k».proof.Proof.Gen.On_mix_dw1_written
public import proofs.«01_k».proof.Proof.Gen.On_down_dw1_written
public import proofs.«01_k».proof.Proof.Gen.On_up_dw1_written
public import proofs.«01_k».proof.Proof.Gen.On_proj_dw1_written
public import proofs.«01_k».proof.Proof.Gen.On_attn_out_dw1_written
public import proofs.«01_k».proof.Proof.Gen.On_pool_out_dw1_written
public import proofs.«01_k».proof.Proof.Gen.ReferenceIdeal.Run
public import proofs.«01_k».proof.Proof.Gen.ReferenceIdeal.Read

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.PoolKernel.Gen.facts, Cert.PoolKernelIdeal.Gen.facts, Cert.PoolReferenceIdeal.Gen.facts,
  Cert.DownDxKernel.Gen.facts, Cert.DownDxKernelIdeal.Gen.facts, Cert.DownDxReferenceIdeal.Gen.facts,
  Cert.DownDwKernel.Gen.facts, Cert.DownDwKernelIdeal.Gen.facts, Cert.DownDwReferenceIdeal.Gen.facts,
  Cert.UpDxKernel.Gen.facts, Cert.UpDxKernelIdeal.Gen.facts, Cert.UpDxReferenceIdeal.Gen.facts,
  Cert.UpDwKernel.Gen.facts, Cert.UpDwKernelIdeal.Gen.facts, Cert.UpDwReferenceIdeal.Gen.facts,
  Cert.ProjDxKernel.Gen.facts, Cert.ProjDxKernelIdeal.Gen.facts, Cert.ProjDxReferenceIdeal.Gen.facts,
  Cert.ProjDwKernel.Gen.facts, Cert.ProjDwKernelIdeal.Gen.facts, Cert.ProjDwReferenceIdeal.Gen.facts,
  Cert.Proj1Kernel.Gen.facts, Cert.Proj1KernelIdeal.Gen.facts, Cert.Proj1ReferenceIdeal.Gen.facts,
  Cert.Proj0Kernel.Gen.facts, Cert.Proj0KernelIdeal.Gen.facts, Cert.Proj0ReferenceIdeal.Gen.facts,
  Cert.Up1Kernel.Gen.facts, Cert.Up1KernelIdeal.Gen.facts, Cert.Up1ReferenceIdeal.Gen.facts,
  Cert.Down1Kernel.Gen.facts, Cert.Down1KernelIdeal.Gen.facts, Cert.Down1ReferenceIdeal.Gen.facts,
  Cert.Down0Kernel.Gen.facts, Cert.Down0KernelIdeal.Gen.facts, Cert.Down0ReferenceIdeal.Gen.facts,
  Cert.Mix1Kernel.Gen.facts, Cert.Mix1KernelIdeal.Gen.facts, Cert.Mix1ReferenceIdeal.Gen.facts,
  Cert.Mix0Kernel.Gen.facts, Cert.Mix0KernelIdeal.Gen.facts, Cert.Mix0ReferenceIdeal.Gen.facts,
  Cert.MixDx1Kernel.Gen.facts, Cert.MixDx1KernelIdeal.Gen.facts, Cert.MixDx1ReferenceIdeal.Gen.facts,
  Cert.MixDx0Kernel.Gen.facts, Cert.MixDx0KernelIdeal.Gen.facts, Cert.MixDx0ReferenceIdeal.Gen.facts,
  Cert.MixDw1Kernel.Gen.facts, Cert.MixDw1KernelIdeal.Gen.facts, Cert.MixDw1ReferenceIdeal.Gen.facts,
  Cert.MixDw0Kernel.Gen.facts, Cert.MixDw0KernelIdeal.Gen.facts, Cert.MixDw0ReferenceIdeal.Gen.facts,
  Cert.DownDw1Kernel.Gen.facts, Cert.DownDw1KernelIdeal.Gen.facts, Cert.DownDw1ReferenceIdeal.Gen.facts,
  Cert.UpDw1Kernel.Gen.facts, Cert.UpDw1KernelIdeal.Gen.facts, Cert.UpDw1ReferenceIdeal.Gen.facts,
  Cert.ProjDw1Kernel.Gen.facts, Cert.ProjDw1KernelIdeal.Gen.facts, Cert.ProjDw1ReferenceIdeal.Gen.facts,
  Cert.AttnOut1Kernel.Gen.facts, Cert.AttnOut1KernelIdeal.Gen.facts, Cert.AttnOut1ReferenceIdeal.Gen.facts,
  Cert.AttnOut0Kernel.Gen.facts, Cert.AttnOut0KernelIdeal.Gen.facts, Cert.AttnOut0ReferenceIdeal.Gen.facts,
  Cert.AttnOutDx1Kernel.Gen.facts, Cert.AttnOutDx1KernelIdeal.Gen.facts, Cert.AttnOutDx1ReferenceIdeal.Gen.facts,
  Cert.AttnOutDx0Kernel.Gen.facts, Cert.AttnOutDx0KernelIdeal.Gen.facts, Cert.AttnOutDx0ReferenceIdeal.Gen.facts,
  Cert.AttnOutDw1Kernel.Gen.facts, Cert.AttnOutDw1KernelIdeal.Gen.facts, Cert.AttnOutDw1ReferenceIdeal.Gen.facts,
  Cert.AttnOutDw0Kernel.Gen.facts, Cert.AttnOutDw0KernelIdeal.Gen.facts, Cert.AttnOutDw0ReferenceIdeal.Gen.facts,
  Cert.PoolOut1Kernel.Gen.facts, Cert.PoolOut1KernelIdeal.Gen.facts, Cert.PoolOut1ReferenceIdeal.Gen.facts,
  Cert.PoolOut0Kernel.Gen.facts, Cert.PoolOut0KernelIdeal.Gen.facts, Cert.PoolOut0ReferenceIdeal.Gen.facts,
  Cert.PoolOutDx1Kernel.Gen.facts, Cert.PoolOutDx1KernelIdeal.Gen.facts, Cert.PoolOutDx1ReferenceIdeal.Gen.facts,
  Cert.PoolOutDx0Kernel.Gen.facts, Cert.PoolOutDx0KernelIdeal.Gen.facts, Cert.PoolOutDx0ReferenceIdeal.Gen.facts,
  Cert.PoolOutDw1Kernel.Gen.facts, Cert.PoolOutDw1KernelIdeal.Gen.facts, Cert.PoolOutDw1ReferenceIdeal.Gen.facts,
  Cert.PoolOutDw0Kernel.Gen.facts, Cert.PoolOutDw0KernelIdeal.Gen.facts, Cert.PoolOutDw0ReferenceIdeal.Gen.facts,
  Cert.On_mix_dw1_written.Gen.facts, Cert.On_down_dw1_written.Gen.facts, Cert.On_up_dw1_written.Gen.facts,
  Cert.On_proj_dw1_written.Gen.facts, Cert.On_attn_out_dw1_written.Gen.facts, Cert.On_pool_out_dw1_written.Gen.facts,
  Attn.frame_kernel, Attn.frame_ideal, Attn.frame_reference,
  fun m ρ _ => Cert.PoolKernel.Gen.frame m ρ, fun m ρ _ => Cert.PoolKernelIdeal.Gen.frame m ρ, Pool.frame_reference,
  fun m ρ _ => Cert.DownDxKernel.Gen.frame m ρ, fun m ρ _ => Cert.DownDxKernelIdeal.Gen.frame m ρ, DownDx.frame_reference,
  fun m ρ _ => Cert.DownDwKernel.Gen.frame m ρ, fun m ρ _ => Cert.DownDwKernelIdeal.Gen.frame m ρ, DownDw.frame_reference,
  fun m ρ _ => Cert.UpDxKernel.Gen.frame m ρ, fun m ρ _ => Cert.UpDxKernelIdeal.Gen.frame m ρ, UpDx.frame_reference,
  fun m ρ _ => Cert.UpDwKernel.Gen.frame m ρ, fun m ρ _ => Cert.UpDwKernelIdeal.Gen.frame m ρ, UpDw.frame_reference,
  fun m ρ _ => Cert.ProjDxKernel.Gen.frame m ρ, fun m ρ _ => Cert.ProjDxKernelIdeal.Gen.frame m ρ, ProjDx.frame_reference,
  fun m ρ _ => Cert.ProjDwKernel.Gen.frame m ρ, fun m ρ _ => Cert.ProjDwKernelIdeal.Gen.frame m ρ, ProjDw.frame_reference,
  fun m ρ _ => Cert.Proj1Kernel.Gen.frame m ρ, fun m ρ _ => Cert.Proj1KernelIdeal.Gen.frame m ρ, Proj1.frame_reference,
  fun m ρ _ => Cert.Proj0Kernel.Gen.frame m ρ, fun m ρ _ => Cert.Proj0KernelIdeal.Gen.frame m ρ, Proj0.frame_reference,
  fun m ρ _ => Cert.Up1Kernel.Gen.frame m ρ, fun m ρ _ => Cert.Up1KernelIdeal.Gen.frame m ρ, Up1.frame_reference,
  fun m ρ _ => Cert.Down1Kernel.Gen.frame m ρ, fun m ρ _ => Cert.Down1KernelIdeal.Gen.frame m ρ, Down1.frame_reference,
  fun m ρ _ => Cert.Down0Kernel.Gen.frame m ρ, fun m ρ _ => Cert.Down0KernelIdeal.Gen.frame m ρ, Down0.frame_reference,
  fun m ρ _ => Cert.Mix1Kernel.Gen.frame m ρ, fun m ρ _ => Cert.Mix1KernelIdeal.Gen.frame m ρ, Mix1.frame_reference,
  fun m ρ _ => Cert.Mix0Kernel.Gen.frame m ρ, fun m ρ _ => Cert.Mix0KernelIdeal.Gen.frame m ρ, Mix0.frame_reference,
  fun m ρ _ => Cert.MixDx1Kernel.Gen.frame m ρ, fun m ρ _ => Cert.MixDx1KernelIdeal.Gen.frame m ρ, MixDx1.frame_reference,
  fun m ρ _ => Cert.MixDx0Kernel.Gen.frame m ρ, fun m ρ _ => Cert.MixDx0KernelIdeal.Gen.frame m ρ, MixDx0.frame_reference,
  fun m ρ _ => Cert.MixDw1Kernel.Gen.frame m ρ, fun m ρ _ => Cert.MixDw1KernelIdeal.Gen.frame m ρ, MixDw1.frame_reference,
  fun m ρ _ => Cert.MixDw0Kernel.Gen.frame m ρ, fun m ρ _ => Cert.MixDw0KernelIdeal.Gen.frame m ρ, MixDw0.frame_reference,
  fun m ρ _ => Cert.DownDw1Kernel.Gen.frame m ρ, fun m ρ _ => Cert.DownDw1KernelIdeal.Gen.frame m ρ, DownDw1.frame_reference,
  fun m ρ _ => Cert.UpDw1Kernel.Gen.frame m ρ, fun m ρ _ => Cert.UpDw1KernelIdeal.Gen.frame m ρ, UpDw1.frame_reference,
  fun m ρ _ => Cert.ProjDw1Kernel.Gen.frame m ρ, fun m ρ _ => Cert.ProjDw1KernelIdeal.Gen.frame m ρ, ProjDw1.frame_reference,
  fun m ρ _ => Cert.AttnOut1Kernel.Gen.frame m ρ, fun m ρ _ => Cert.AttnOut1KernelIdeal.Gen.frame m ρ, AttnOut1.frame_reference,
  fun m ρ _ => Cert.AttnOut0Kernel.Gen.frame m ρ, fun m ρ _ => Cert.AttnOut0KernelIdeal.Gen.frame m ρ, AttnOut0.frame_reference,
  fun m ρ _ => Cert.AttnOutDx1Kernel.Gen.frame m ρ, fun m ρ _ => Cert.AttnOutDx1KernelIdeal.Gen.frame m ρ, AttnOutDx1.frame_reference,
  fun m ρ _ => Cert.AttnOutDx0Kernel.Gen.frame m ρ, fun m ρ _ => Cert.AttnOutDx0KernelIdeal.Gen.frame m ρ, AttnOutDx0.frame_reference,
  fun m ρ _ => Cert.AttnOutDw1Kernel.Gen.frame m ρ, fun m ρ _ => Cert.AttnOutDw1KernelIdeal.Gen.frame m ρ, AttnOutDw1.frame_reference,
  fun m ρ _ => Cert.AttnOutDw0Kernel.Gen.frame m ρ, fun m ρ _ => Cert.AttnOutDw0KernelIdeal.Gen.frame m ρ, AttnOutDw0.frame_reference,
  fun m ρ _ => Cert.PoolOut1Kernel.Gen.frame m ρ, fun m ρ _ => Cert.PoolOut1KernelIdeal.Gen.frame m ρ, PoolOut1.frame_reference,
  fun m ρ _ => Cert.PoolOut0Kernel.Gen.frame m ρ, fun m ρ _ => Cert.PoolOut0KernelIdeal.Gen.frame m ρ, PoolOut0.frame_reference,
  fun m ρ _ => Cert.PoolOutDx1Kernel.Gen.frame m ρ, fun m ρ _ => Cert.PoolOutDx1KernelIdeal.Gen.frame m ρ, PoolOutDx1.frame_reference,
  fun m ρ _ => Cert.PoolOutDx0Kernel.Gen.frame m ρ, fun m ρ _ => Cert.PoolOutDx0KernelIdeal.Gen.frame m ρ, PoolOutDx0.frame_reference,
  fun m ρ _ => Cert.PoolOutDw1Kernel.Gen.frame m ρ, fun m ρ _ => Cert.PoolOutDw1KernelIdeal.Gen.frame m ρ, PoolOutDw1.frame_reference,
  fun m ρ _ => Cert.PoolOutDw0Kernel.Gen.frame m ρ, fun m ρ _ => Cert.PoolOutDw0KernelIdeal.Gen.frame m ρ, PoolOutDw0.frame_reference,
  trivial, trivial, Pool.algebraic,
  trivial, DownDx.algebraic,
  trivial, DownDw.algebraic,
  trivial, UpDx.algebraic,
  trivial, UpDw.algebraic,
  trivial, ProjDx.algebraic,
  trivial, ProjDw.algebraic,
  trivial, Proj1.algebraic,
  trivial, Proj0.algebraic,
  trivial, Up1.algebraic,
  trivial, Down1.algebraic,
  trivial, Down0.algebraic,
  trivial, Mix1.algebraic,
  trivial, Mix0.algebraic,
  trivial, MixDx1.algebraic,
  trivial, MixDx0.algebraic,
  trivial, MixDw1.algebraic,
  trivial, MixDw0.algebraic,
  trivial, DownDw1.algebraic,
  trivial, UpDw1.algebraic,
  trivial, ProjDw1.algebraic,
  trivial, AttnOut1.algebraic,
  trivial, AttnOut0.algebraic,
  trivial, AttnOutDx1.algebraic,
  trivial, AttnOutDx0.algebraic,
  trivial, AttnOutDw1.algebraic,
  trivial, AttnOutDw0.algebraic,
  trivial, PoolOut1.algebraic,
  trivial, PoolOut0.algebraic,
  trivial, PoolOutDx1.algebraic,
  trivial, PoolOutDx0.algebraic,
  trivial, PoolOutDw1.algebraic,
  trivial, PoolOutDw0.algebraic⟩

end Cert.Proof

end
